-- ==== Defs.lean ====
def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInRefIdeal (m : (ℓ : Loc Cert.HgInRefIdeal.nD Cert.HgInRefIdeal.τ Cert.HgInRefIdeal.sig) → Buf (Elt Ideal) ℓ) : Prop :=
  True

def Pre_HgInDx (m : (ℓ : Loc Cert.HgInDx.nD Cert.HgInDx.τ Cert.HgInDx.sig) → Buf (Elt Bits) ℓ) : Prop :=
  True

def Pre_HgInDxIdeal (m : (ℓ : Loc Cert.HgInDxIdeal.nD Cert.HgInDxIdeal.τ Cert.HgInDxIdeal.sig) → Buf (Elt Ideal) ℓ) : Prop :=
  True

def Pre_HgInDxRefIdeal (m : (ℓ : Loc Cert.HgInDxRefIdeal.nD Cert.HgInDxRefIdeal.τ Cert.HgInDxRefIdeal.sig) → Buf (Elt Ideal) ℓ) : Prop :=
  True

def Pre_HgInDw (m : (ℓ : Loc Cert.HgInDw.nD Cert.HgInDw.τ Cert.HgInDw.sig) → Buf (Elt Bits) ℓ) : Prop :=
  True

def Pre_HgInDwIdeal (m : (ℓ : Loc Cert.HgInDwIdeal.nD Cert.HgInDwIdeal.τ Cert.HgInDwIdeal.sig) → Buf (Elt Ideal) ℓ) : Prop :=
  True

def Pre_HgInDwRefIdeal (m : (ℓ : Loc Cert.HgInDwRefIdeal.nD Cert.HgInDwRefIdeal.τ Cert.HgInDwRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_GmInDx (m : (ℓ : Loc Cert.GmInDx.nD Cert.GmInDx.τ Cert.GmInDx.sig) → Buf (Elt Bits) ℓ) : Prop :=
  True

def Pre_GmInDxIdeal (m : (ℓ : Loc Cert.GmInDxIdeal.nD Cert.GmInDxIdeal.τ Cert.GmInDxIdeal.sig) → Buf (Elt Ideal) ℓ) : Prop :=
  True

def Pre_GmInDxRefIdeal (m : (ℓ : Loc Cert.GmInDxRefIdeal.nD Cert.GmInDxRefIdeal.τ Cert.GmInDxRefIdeal.sig) → Buf (Elt Ideal) ℓ) : Prop :=
  True

def Pre_GmInDw (m : (ℓ : Loc Cert.GmInDw.nD Cert.GmInDw.τ Cert.GmInDw.sig) → Buf (Elt Bits) ℓ) : Prop :=
  True

def Pre_GmInDwIdeal (m : (ℓ : Loc Cert.GmInDwIdeal.nD Cert.GmInDwIdeal.τ Cert.GmInDwIdeal.sig) → Buf (Elt Ideal) ℓ) : Prop :=
  True

def Pre_GmInDwRefIdeal (m : (ℓ : Loc Cert.GmInDwRefIdeal.nD Cert.GmInDwRefIdeal.τ Cert.GmInDwRefIdeal.sig) → Buf (Elt Ideal) ℓ) : Prop :=
  True

def Pre_HgOut (m : (ℓ : Loc Cert.HgOut.nD Cert.HgOut.τ Cert.HgOut.sig) → Buf (Elt Bits) ℓ) : Prop :=
  True

def Pre_HgOutIdeal (m : (ℓ : Loc Cert.HgOutIdeal.nD Cert.HgOutIdeal.τ Cert.HgOutIdeal.sig) → Buf (Elt Ideal) ℓ) : Prop :=
  True

def Pre_HgOutRefIdeal (m : (ℓ : Loc Cert.HgOutRefIdeal.nD Cert.HgOutRefIdeal.τ Cert.HgOutRefIdeal.sig) → Buf (Elt Ideal) ℓ) : Prop :=
  True

def Pre_HgOutDx (m : (ℓ : Loc Cert.HgOutDx.nD Cert.HgOutDx.τ Cert.HgOutDx.sig) → Buf (Elt Bits) ℓ) : Prop :=
  True

def Pre_HgOutDxIdeal (m : (ℓ : Loc Cert.HgOutDxIdeal.nD Cert.HgOutDxIdeal.τ Cert.HgOutDxIdeal.sig) → Buf (Elt Ideal) ℓ) : Prop :=
  True

def Pre_HgOutDxRefIdeal (m : (ℓ : Loc Cert.HgOutDxRefIdeal.nD Cert.HgOutDxRefIdeal.τ Cert.HgOutDxRefIdeal.sig) → Buf (Elt Ideal) ℓ) : Prop :=
  True

def Pre_HgOutDw (m : (ℓ : Loc Cert.HgOutDw.nD Cert.HgOutDw.τ Cert.HgOutDw.sig) → Buf (Elt Bits) ℓ) : Prop :=
  True

def Pre_HgOutDwIdeal (m : (ℓ : Loc Cert.HgOutDwIdeal.nD Cert.HgOutDwIdeal.τ Cert.HgOutDwIdeal.sig) → Buf (Elt Ideal) ℓ) : Prop :=
  True

def Pre_HgOutDwRefIdeal (m : (ℓ : Loc Cert.HgOutDwRefIdeal.nD Cert.HgOutDwRefIdeal.τ Cert.HgOutDwRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleGateDx (m : (ℓ : Loc Cert.PleGateDx.nD Cert.PleGateDx.τ Cert.PleGateDx.sig) → Buf (Elt Bits) ℓ) : Prop :=
  True

def Pre_PleGateDxIdeal (m : (ℓ : Loc Cert.PleGateDxIdeal.nD Cert.PleGateDxIdeal.τ Cert.PleGateDxIdeal.sig) → Buf (Elt Ideal) ℓ) : Prop :=
  True

def Pre_PleGateDxRefIdeal (m : (ℓ : Loc Cert.PleGateDxRefIdeal.nD Cert.PleGateDxRefIdeal.τ Cert.PleGateDxRefIdeal.sig) → Buf (Elt Ideal) ℓ) : Prop :=
  True

def Pre_PleGateDw (m : (ℓ : Loc Cert.PleGateDw.nD Cert.PleGateDw.τ Cert.PleGateDw.sig) → Buf (Elt Bits) ℓ) : Prop :=
  True

def Pre_PleGateDwIdeal (m : (ℓ : Loc Cert.PleGateDwIdeal.nD Cert.PleGateDwIdeal.τ Cert.PleGateDwIdeal.sig) → Buf (Elt Ideal) ℓ) : Prop :=
  True

def Pre_PleGateDwRefIdeal (m : (ℓ : Loc Cert.PleGateDwRefIdeal.nD Cert.PleGateDwRefIdeal.τ Cert.PleGateDwRefIdeal.sig) → Buf (Elt Ideal) ℓ) : Prop :=
  True

def Pre_AdamHgIn (m : (ℓ : Loc Cert.AdamHgIn.nD Cert.AdamHgIn.τ Cert.AdamHgIn.sig) → Buf (Elt Bits) ℓ) : Prop :=
  True

def Pre_AdamHgInIdeal (m : (ℓ : Loc Cert.AdamHgInIdeal.nD Cert.AdamHgInIdeal.τ Cert.AdamHgInIdeal.sig) → Buf (Elt Ideal) ℓ) : Prop :=
  True

def Pre_AdamHgInRefIdeal (m : (ℓ : Loc Cert.AdamHgInRefIdeal.nD Cert.AdamHgInRefIdeal.τ Cert.AdamHgInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGmIn (m : (ℓ : Loc Cert.AdamGmIn.nD Cert.AdamGmIn.τ Cert.AdamGmIn.sig) → Buf (Elt Bits) ℓ) : Prop :=
  True

def Pre_AdamGmInIdeal (m : (ℓ : Loc Cert.AdamGmInIdeal.nD Cert.AdamGmInIdeal.τ Cert.AdamGmInIdeal.sig) → Buf (Elt Ideal) ℓ) : Prop :=
  True

def Pre_AdamGmInRefIdeal (m : (ℓ : Loc Cert.AdamGmInRefIdeal.nD Cert.AdamGmInRefIdeal.τ Cert.AdamGmInRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_FfnPostBwd (m : (ℓ : Loc Cert.FfnPostBwd.nD Cert.FfnPostBwd.τ Cert.FfnPostBwd.sig) → Buf (Elt Bits) ℓ) : Prop :=
  True

def Pre_FfnPostBwdIdeal (m : (ℓ : Loc Cert.FfnPostBwdIdeal.nD Cert.FfnPostBwdIdeal.τ Cert.FfnPostBwdIdeal.sig) → Buf (Elt Ideal) ℓ) : Prop :=
  True

def Pre_FfnPostBwdRefIdeal (m : (ℓ : Loc Cert.FfnPostBwdRefIdeal.nD Cert.FfnPostBwdRefIdeal.τ Cert.FfnPostBwdRefIdeal.sig) → Buf (Elt Ideal) ℓ) : Prop :=
  True

def Pre_MixPostBwd (m : (ℓ : Loc Cert.MixPostBwd.nD Cert.MixPostBwd.τ Cert.MixPostBwd.sig) → Buf (Elt Bits) ℓ) : Prop :=
  True

def Pre_MixPostBwdIdeal (m : (ℓ : Loc Cert.MixPostBwdIdeal.nD Cert.MixPostBwdIdeal.τ Cert.MixPostBwdIdeal.sig) → Buf (Elt Ideal) ℓ) : Prop :=
  True

def Pre_MixPostBwdRefIdeal (m : (ℓ : Loc Cert.MixPostBwdRefIdeal.nD Cert.MixPostBwdRefIdeal.τ Cert.MixPostBwdRefIdeal.sig) → Buf (Elt Ideal) ℓ) : Prop :=
  True

def Pre_PleLastBwd (m : (ℓ : Loc Cert.PleLastBwd.nD Cert.PleLastBwd.τ Cert.PleLastBwd.sig) → Buf (Elt Bits) ℓ) : Prop :=
  True

def Pre_PleLastBwdIdeal (m : (ℓ : Loc Cert.PleLastBwdIdeal.nD Cert.PleLastBwdIdeal.τ Cert.PleLastBwdIdeal.sig) → Buf (Elt Ideal) ℓ) : Prop :=
  True

def Pre_PleLastBwdRefIdeal (m : (ℓ : Loc Cert.PleLastBwdRefIdeal.nD Cert.PleLastBwdRefIdeal.τ Cert.PleLastBwdRefIdeal.sig) → Buf (Elt Ideal) ℓ) : Prop :=
  True

def Pre_SumGm (m : (ℓ : Loc Cert.SumGm.nD Cert.SumGm.τ Cert.SumGm.sig) → Buf (Elt Bits) ℓ) : Prop :=
  True

def Pre_SumGmIdeal (m : (ℓ : Loc Cert.SumGmIdeal.nD Cert.SumGmIdeal.τ Cert.SumGmIdeal.sig) → Buf (Elt Ideal) ℓ) : Prop :=
  True

def Pre_SumGmRefIdeal (m : (ℓ : Loc Cert.SumGmRefIdeal.nD Cert.SumGmRefIdeal.τ Cert.SumGmRefIdeal.sig) → Buf (Elt Ideal) ℓ) : Prop :=
  True

def Pre_SumRest (m : (ℓ : Loc Cert.SumRest.nD Cert.SumRest.τ Cert.SumRest.sig) → Buf (Elt Bits) ℓ) : Prop :=
  True

def Pre_SumRestIdeal (m : (ℓ : Loc Cert.SumRestIdeal.nD Cert.SumRestIdeal.τ Cert.SumRestIdeal.sig) → Buf (Elt Ideal) ℓ) : Prop :=
  True

def Pre_SumRestRefIdeal (m : (ℓ : Loc Cert.SumRestRefIdeal.nD Cert.SumRestRefIdeal.τ Cert.SumRestRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SpatialBwd (m : (ℓ : Loc Cert.SpatialBwd.nD Cert.SpatialBwd.τ Cert.SpatialBwd.sig) → Buf (Elt Bits) ℓ) : Prop :=
  True

def Pre_SpatialBwdIdeal (m : (ℓ : Loc Cert.SpatialBwdIdeal.nD Cert.SpatialBwdIdeal.τ Cert.SpatialBwdIdeal.sig) → Buf (Elt Ideal) ℓ) : Prop :=
  True

def Pre_SpatialRefIdeal (m : (ℓ : Loc Cert.SpatialRefIdeal.nD Cert.SpatialRefIdeal.τ Cert.SpatialRefIdeal.sig) → Buf (Elt Ideal) ℓ) : Prop :=
  True

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ r.2.sem = fun _ => 0)

def quiescent_HgInRefIdeal [hHgInRefIdeal : Cert.HgInRefIdeal.Facts] : Prop :=
  ∀ (m : (ℓ : Loc Cert.HgInRefIdeal.nD Cert.HgInRefIdeal.τ Cert.HgInRefIdeal.sig) → Buf (Elt Ideal) ℓ) (g : Dev Cert.HgInRefIdeal.nD → PrngReg), Pre_HgInRefIdeal m →
    θ_run (Cert.HgInRefIdeal.defs (F := Ideal)) (onTc (τ := Cert.HgInRefIdeal.τ) (Cert.HgInRefIdeal.main (F := Ideal))) ⟨m, fun _ => 0, g⟩ (fun r => (∀ c : Dev Cert.HgInRefIdeal.nD,
      r.2.mem ((c.tc : Thread Cert.HgInRefIdeal.nD Cert.HgInRefIdeal.τ).loc Cert.HgInRefIdeal.main_arg0) = m ((c.tc : Thread Cert.HgInRefIdeal.nD Cert.HgInRefIdeal.τ).loc Cert.HgInRefIdeal.main_arg0)
      ∧ r.2.mem ((c.tc : Thread Cert.HgInRefIdeal.nD Cert.HgInRefIdeal.τ).loc Cert.HgInRefIdeal.main_arg1) = m ((c.tc : Thread Cert.HgInRefIdeal.nD Cert.HgInRefIdeal.τ).loc Cert.HgInRefIdeal.main_arg1))
      ∧ r.2.sem = fun _ => 0)

def quiescent_HgInDx [hHgInDx : Cert.HgInDx.Facts] : Prop :=
  ∀ (m : (ℓ : Loc Cert.HgInDx.nD Cert.HgInDx.τ Cert.HgInDx.sig) → Buf (Elt Bits) ℓ) (g : Dev Cert.HgInDx.nD → PrngReg), Pre_HgInDx m →
    θ_run (Cert.HgInDx.defs (F := Bits)) (onTc (τ := Cert.HgInDx.τ) (Cert.HgInDx.main (F := Bits))) ⟨m, fun _ => 0, g⟩ (fun r => (∀ c : Dev Cert.HgInDx.nD,
      r.2.mem ((c.tc : Thread Cert.HgInDx.nD Cert.HgInDx.τ).loc Cert.HgInDx.main_arg0) = m ((c.tc : Thread Cert.HgInDx.nD Cert.HgInDx.τ).loc Cert.HgInDx.main_arg0)
      ∧ r.2.mem ((c.tc : Thread Cert.HgInDx.nD Cert.HgInDx.τ).loc Cert.HgInDx.main_arg1) = m ((c.tc : Thread Cert.HgInDx.nD Cert.HgInDx.τ).loc Cert.HgInDx.main_arg1))
      ∧ r.2.sem = fun _ => 0)

def quiescent_HgInDxIdeal [hHgInDxIdeal : Cert.HgInDxIdeal.Facts] : Prop :=
  ∀ (m : (ℓ : Loc Cert.HgInDxIdeal.nD Cert.HgInDxIdeal.τ Cert.HgInDxIdeal.sig) → Buf (Elt Ideal) ℓ) (g : Dev Cert.HgInDxIdeal.nD → PrngReg), Pre_HgInDxIdeal m →
    θ_run (Cert.HgInDxIdeal.defs (F := Ideal)) (onTc (τ := Cert.HgInDxIdeal.τ) (Cert.HgInDxIdeal.main (F := Ideal))) ⟨m, fun _ => 0, g⟩ (fun r => (∀ c : Dev Cert.HgInDxIdeal.nD,
      r.2.mem ((c.tc : Thread Cert.HgInDxIdeal.nD Cert.HgInDxIdeal.τ).loc Cert.HgInDxIdeal.main_arg0) = m ((c.tc : Thread Cert.HgInDxIdeal.nD Cert.HgInDxIdeal.τ).loc Cert.HgInDxIdeal.main_arg0)
      ∧ r.2.mem ((c.tc : Thread Cert.HgInDxIdeal.nD Cert.HgInDxIdeal.τ).loc Cert.HgInDxIdeal.main_arg1) = m ((c.tc : Thread Cert.HgInDxIdeal.nD Cert.HgInDxIdeal.τ).loc Cert.HgInDxIdeal.main_arg1))
      ∧ r.2.sem = fun _ => 0)

def quiescent_HgInDxRefIdeal [hHgInDxRefIdeal : Cert.HgInDxRefIdeal.Facts] : Prop :=
  ∀ (m : (ℓ : Loc Cert.HgInDxRefIdeal.nD Cert.HgInDxRefIdeal.τ Cert.HgInDxRefIdeal.sig) → Buf (Elt Ideal) ℓ) (g : Dev Cert.HgInDxRefIdeal.nD → PrngReg), Pre_HgInDxRefIdeal m →
    θ_run (Cert.HgInDxRefIdeal.defs (F := Ideal)) (onTc (τ := Cert.HgInDxRefIdeal.τ) (Cert.HgInDxRefIdeal.main (F := Ideal))) ⟨m, fun _ => 0, g⟩ (fun r => (∀ c : Dev Cert.HgInDxRefIdeal.nD,
      r.2.mem ((c.tc : Thread Cert.HgInDxRefIdeal.nD Cert.HgInDxRefIdeal.τ).loc Cert.HgInDxRefIdeal.main_arg0) = m ((c.tc : Thread Cert.HgInDxRefIdeal.nD Cert.HgInDxRefIdeal.τ).loc Cert.HgInDxRefIdeal.main_arg0)
      ∧ r.2.mem ((c.tc : Thread Cert.HgInDxRefIdeal.nD Cert.HgInDxRefIdeal.τ).loc Cert.HgInDxRefIdeal.main_arg1) = m ((c.tc : Thread Cert.HgInDxRefIdeal.nD Cert.HgInDxRefIdeal.τ).loc Cert.HgInDxRefIdeal.main_arg1))
      ∧ r.2.sem = fun _ => 0)

def quiescent_HgInDw [hHgInDw : Cert.HgInDw.Facts] : Prop :=
  ∀ (m : (ℓ : Loc Cert.HgInDw.nD Cert.HgInDw.τ Cert.HgInDw.sig) → Buf (Elt Bits) ℓ) (g : Dev Cert.HgInDw.nD → PrngReg), Pre_HgInDw m →
    θ_run (Cert.HgInDw.defs (F := Bits)) (onTc (τ := Cert.HgInDw.τ) (Cert.HgInDw.main (F := Bits))) ⟨m, fun _ => 0, g⟩ (fun r => (∀ c : Dev Cert.HgInDw.nD,
      r.2.mem ((c.tc : Thread Cert.HgInDw.nD Cert.HgInDw.τ).loc Cert.HgInDw.main_arg0) = m ((c.tc : Thread Cert.HgInDw.nD Cert.HgInDw.τ).loc Cert.HgInDw.main_arg0)
      ∧ r.2.mem ((c.tc : Thread Cert.HgInDw.nD Cert.HgInDw.τ).loc Cert.HgInDw.main_arg1) = m ((c.tc : Thread Cert.HgInDw.nD Cert.HgInDw.τ).loc Cert.HgInDw.main_arg1)
      ∧ r.2.mem ((c.tc : Thread Cert.HgInDw.nD Cert.HgInDw.τ).loc Cert.HgInDw.main_arg2) = m ((c.tc : Thread Cert.HgInDw.nD Cert.HgInDw.τ).loc Cert.HgInDw.main_arg2))
      ∧ r.2.sem = fun _ => 0)

def quiescent_HgInDwIdeal [hHgInDwIdeal : Cert.HgInDwIdeal.Facts] : Prop :=
  ∀ (m : (ℓ : Loc Cert.HgInDwIdeal.nD Cert.HgInDwIdeal.τ Cert.HgInDwIdeal.sig) → Buf (Elt Ideal) ℓ) (g : Dev Cert.HgInDwIdeal.nD → PrngReg), Pre_HgInDwIdeal m →
    θ_run (Cert.HgInDwIdeal.defs (F := Ideal)) (onTc (τ := Cert.HgInDwIdeal.τ) (Cert.HgInDwIdeal.main (F := Ideal))) ⟨m, fun _ => 0, g⟩ (fun r => (∀ c : Dev Cert.HgInDwIdeal.nD,
      r.2.mem ((c.tc : Thread Cert.HgInDwIdeal.nD Cert.HgInDwIdeal.τ).loc Cert.HgInDwIdeal.main_arg0) = m ((c.tc : Thread Cert.HgInDwIdeal.nD Cert.HgInDwIdeal.τ).loc Cert.HgInDwIdeal.main_arg0)
      ∧ r.2.mem ((c.tc : Thread Cert.HgInDwIdeal.nD Cert.HgInDwIdeal.τ).loc Cert.HgInDwIdeal.main_arg1) = m ((c.tc : Thread Cert.HgInDwIdeal.nD Cert.HgInDwIdeal.τ).loc Cert.HgInDwIdeal.main_arg1)
      ∧ r.2.mem ((c.tc : Thread Cert.HgInDwIdeal.nD Cert.HgInDwIdeal.τ).loc Cert.HgInDwIdeal.main_arg2) = m ((c.tc : Thread Cert.HgInDwIdeal.nD Cert.HgInDwIdeal.τ).loc Cert.HgInDwIdeal.main_arg2))
      ∧ r.2.sem = fun _ => 0)

def quiescent_HgInDwRefIdeal [hHgInDwRefIdeal : Cert.HgInDwRefIdeal.Facts] : Prop :=
  ∀ (m : (ℓ : Loc Cert.HgInDwRefIdeal.nD Cert.HgInDwRefIdeal.τ Cert.HgInDwRefIdeal.sig) → Buf (Elt Ideal) ℓ) (g : Dev Cert.HgInDwRefIdeal.nD → PrngReg), Pre_HgInDwRefIdeal m →
    θ_run (Cert.HgInDwRefIdeal.defs (F := Ideal)) (onTc (τ := Cert.HgInDwRefIdeal.τ) (Cert.HgInDwRefIdeal.main (F := Ideal))) ⟨m, fun _ => 0, g⟩ (fun r => (∀ c : Dev Cert.HgInDwRefIdeal.nD,
      r.2.mem ((c.tc : Thread Cert.HgInDwRefIdeal.nD Cert.HgInDwRefIdeal.τ).loc Cert.HgInDwRefIdeal.main_arg0) = m ((c.tc : Thread Cert.HgInDwRefIdeal.nD Cert.HgInDwRefIdeal.τ).loc Cert.HgInDwRefIdeal.main_arg0)
      ∧ r.2.mem ((c.tc : Thread Cert.HgInDwRefIdeal.nD Cert.HgInDwRefIdeal.τ).loc Cert.HgInDwRefIdeal.main_arg1) = m ((c.tc : Thread Cert.HgInDwRefIdeal.nD Cert.HgInDwRefIdeal.τ).loc Cert.HgInDwRefIdeal.main_arg1)
      ∧ r.2.mem ((c.tc : Thread Cert.HgInDwRefIdeal.nD Cert.HgInDwRefIdeal.τ).loc Cert.HgInDwRefIdeal.main_arg2) = m ((c.tc : Thread Cert.HgInDwRefIdeal.nD Cert.HgInDwRefIdeal.τ).loc Cert.HgInDwRefIdeal.main_arg2))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_GmInDx [hGmInDx : Cert.GmInDx.Facts] : Prop :=
  ∀ (m : (ℓ : Loc Cert.GmInDx.nD Cert.GmInDx.τ Cert.GmInDx.sig) → Buf (Elt Bits) ℓ) (g : Dev Cert.GmInDx.nD → PrngReg), Pre_GmInDx m →
    θ_run (Cert.GmInDx.defs (F := Bits)) (onTc (τ := Cert.GmInDx.τ) (Cert.GmInDx.main (F := Bits))) ⟨m, fun _ => 0, g⟩ (fun r => (∀ c : Dev Cert.GmInDx.nD,
      r.2.mem ((c.tc : Thread Cert.GmInDx.nD Cert.GmInDx.τ).loc Cert.GmInDx.main_arg0) = m ((c.tc : Thread Cert.GmInDx.nD Cert.GmInDx.τ).loc Cert.GmInDx.main_arg0)
      ∧ r.2.mem ((c.tc : Thread Cert.GmInDx.nD Cert.GmInDx.τ).loc Cert.GmInDx.main_arg1) = m ((c.tc : Thread Cert.GmInDx.nD Cert.GmInDx.τ).loc Cert.GmInDx.main_arg1))
      ∧ r.2.sem = fun _ => 0)

def quiescent_GmInDxIdeal [hGmInDxIdeal : Cert.GmInDxIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg), Pre_GmInDxIdeal m →
    θ_run (Cert.GmInDxIdeal.defs (F := Ideal)) (onTc (τ := Cert.GmInDxIdeal.τ) (Cert.GmInDxIdeal.main (F := Ideal))) ⟨m, fun _ => 0, g⟩ (fun r => (∀ c : Dev Cert.GmInDxIdeal.nD,
      r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
      ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ r.2.sem = fun _ => 0)

def quiescent_GmInDxRefIdeal [hGmInDxRefIdeal : Cert.GmInDxRefIdeal.Facts] : Prop :=
  ∀ (m : (ℓ : Loc Cert.GmInDxRefIdeal.nD Cert.GmInDxRefIdeal.τ Cert.GmInDxRefIdeal.sig) → Buf (Elt Ideal) ℓ) (g : Dev Cert.GmInDxRefIdeal.nD → PrngReg), Pre_GmInDxRefIdeal m →
    θ_run (Cert.GmInDxRefIdeal.defs (F := Ideal)) (onTc (τ := Cert.GmInDxRefIdeal.τ) (Cert.GmInDxRefIdeal.main (F := Ideal))) ⟨m, fun _ => 0, g⟩ (fun r => (∀ c : Dev Cert.GmInDxRefIdeal.nD,
      r.2.mem ((c.tc : Thread Cert.GmInDxRefIdeal.nD Cert.GmInDxRefIdeal.τ).loc Cert.GmInDxRefIdeal.main_arg0) = m ((c.tc : Thread Cert.GmInDxRefIdeal.nD Cert.GmInDxRefIdeal.τ).loc Cert.GmInDxRefIdeal.main_arg0)
      ∧ r.2.mem ((c.tc : Thread Cert.GmInDxRefIdeal.nD Cert.GmInDxRefIdeal.τ).loc Cert.GmInDxRefIdeal.main_arg1) = m ((c.tc : Thread Cert.GmInDxRefIdeal.nD Cert.GmInDxRefIdeal.τ).loc Cert.GmInDxRefIdeal.main_arg1))
      ∧ r.2.sem = fun _ => 0)

def quiescent_GmInDw [hGmInDw : Cert.GmInDw.Facts] : Prop :=
  ∀ (m : (ℓ : Loc Cert.GmInDw.nD Cert.GmInDw.τ Cert.GmInDw.sig) → Buf (Elt Bits) ℓ) (g : Dev Cert.GmInDw.nD → PrngReg), Pre_GmInDw m →
    θ_run (Cert.GmInDw.defs (F := Bits)) (onTc (τ := Cert.GmInDw.τ) (Cert.GmInDw.main (F := Bits))) ⟨m, fun _ => 0, g⟩ (fun r => (∀ c : Dev Cert.GmInDw.nD,
      r.2.mem ((c.tc : Thread Cert.GmInDw.nD Cert.GmInDw.τ).loc Cert.GmInDw.main_arg0) = m ((c.tc : Thread Cert.GmInDw.nD Cert.GmInDw.τ).loc Cert.GmInDw.main_arg0)
      ∧ r.2.mem ((c.tc : Thread Cert.GmInDw.nD Cert.GmInDw.τ).loc Cert.GmInDw.main_arg1) = m ((c.tc : Thread Cert.GmInDw.nD Cert.GmInDw.τ).loc Cert.GmInDw.main_arg1)
      ∧ r.2.mem ((c.tc : Thread Cert.GmInDw.nD Cert.GmInDw.τ).loc Cert.GmInDw.main_arg2) = m ((c.tc : Thread Cert.GmInDw.nD Cert.GmInDw.τ).loc Cert.GmInDw.main_arg2))
      ∧ r.2.sem = fun _ => 0)

def quiescent_GmInDwIdeal [hGmInDwIdeal : Cert.GmInDwIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg), Pre_GmInDwIdeal m →
    θ_run (Cert.GmInDwIdeal.defs (F := Ideal)) (onTc (τ := Cert.GmInDwIdeal.τ) (Cert.GmInDwIdeal.main (F := Ideal))) ⟨m, fun _ => 0, g⟩ (fun r => (∀ c : Dev Cert.GmInDwIdeal.nD,
      r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
      ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1)
      ∧ r.2.mem ((c.tc : Thread Cert.GmInDwIdeal.nD Cert.GmInDwIdeal.τ).loc Cert.GmInDwIdeal.main_arg2) = m ((c.tc : Thread Cert.GmInDwIdeal.nD Cert.GmInDwIdeal.τ).loc Cert.GmInDwIdeal.main_arg2))
      ∧ r.2.sem = fun _ => 0)

def quiescent_GmInDwRefIdeal [hGmInDwRefIdeal : Cert.GmInDwRefIdeal.Facts] : Prop :=
  ∀ (m : (ℓ : Loc Cert.GmInDwRefIdeal.nD Cert.GmInDwRefIdeal.τ Cert.GmInDwRefIdeal.sig) → Buf (Elt Ideal) ℓ) (g : Dev Cert.GmInDwRefIdeal.nD → PrngReg), Pre_GmInDwRefIdeal m →
    θ_run (Cert.GmInDwRefIdeal.defs (F := Ideal)) (onTc (τ := Cert.GmInDwRefIdeal.τ) (Cert.GmInDwRefIdeal.main (F := Ideal))) ⟨m, fun _ => 0, g⟩ (fun r => (∀ c : Dev Cert.GmInDwRefIdeal.nD,
      r.2.mem ((c.tc : Thread Cert.GmInDwRefIdeal.nD Cert.GmInDwRefIdeal.τ).loc Cert.GmInDwRefIdeal.main_arg0) = m ((c.tc : Thread Cert.GmInDwRefIdeal.nD Cert.GmInDwRefIdeal.τ).loc Cert.GmInDwRefIdeal.main_arg0)
      ∧ r.2.mem ((c.tc : Thread Cert.GmInDwRefIdeal.nD Cert.GmInDwRefIdeal.τ).loc Cert.GmInDwRefIdeal.main_arg1) = m ((c.tc : Thread Cert.GmInDwRefIdeal.nD Cert.GmInDwRefIdeal.τ).loc Cert.GmInDwRefIdeal.main_arg1)
      ∧ r.2.mem ((c.tc : Thread Cert.GmInDwRefIdeal.nD Cert.GmInDwRefIdeal.τ).loc Cert.GmInDwRefIdeal.main_arg2) = m ((c.tc : Thread Cert.GmInDwRefIdeal.nD Cert.GmInDwRefIdeal.τ).loc Cert.GmInDwRefIdeal.main_arg2))
      ∧ r.2.sem = fun _ => 0)

def quiescent_HgOut [hHgOut : Cert.HgOut.Facts] : Prop :=
  ∀ (m : (ℓ : Loc Cert.HgOut.nD Cert.HgOut.τ Cert.HgOut.sig) → Buf (Elt Bits) ℓ) (g : Dev Cert.HgOut.nD → PrngReg), Pre_HgOut m →
    θ_run (Cert.HgOut.defs (F := Bits)) (onTc (τ := Cert.HgOut.τ) (Cert.HgOut.main (F := Bits))) ⟨m, fun _ => 0, g⟩ (fun r => (∀ c : Dev Cert.HgOut.nD,
      r.2.mem ((c.tc : Thread Cert.HgOut.nD Cert.HgOut.τ).loc Cert.HgOut.main_arg0) = m ((c.tc : Thread Cert.HgOut.nD Cert.HgOut.τ).loc Cert.HgOut.main_arg0)
      ∧ r.2.mem ((c.tc : Thread Cert.HgOut.nD Cert.HgOut.τ).loc Cert.HgOut.main_arg1) = m ((c.tc : Thread Cert.HgOut.nD Cert.HgOut.τ).loc Cert.HgOut.main_arg1))
      ∧ r.2.sem = fun _ => 0)

def quiescent_HgOutIdeal [hHgOutIdeal : Cert.HgOutIdeal.Facts] : Prop :=
  ∀ (m : (ℓ : Loc Cert.HgOutIdeal.nD Cert.HgOutIdeal.τ Cert.HgOutIdeal.sig) → Buf (Elt Ideal) ℓ) (g : Dev Cert.HgOutIdeal.nD → PrngReg), Pre_HgOutIdeal m →
    θ_run (Cert.HgOutIdeal.defs (F := Ideal)) (onTc (τ := Cert.HgOutIdeal.τ) (Cert.HgOutIdeal.main (F := Ideal))) ⟨m, fun _ => 0, g⟩ (fun r => (∀ c : Dev Cert.HgOutIdeal.nD,
      r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
      ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1))
      ∧ r.2.sem = fun _ => 0)

def quiescent_HgOutRefIdeal [hHgOutRefIdeal : Cert.HgOutRefIdeal.Facts] : Prop :=
  ∀ (m : (ℓ : Loc Cert.HgOutRefIdeal.nD Cert.HgOutRefIdeal.τ Cert.HgOutRefIdeal.sig) → Buf (Elt Ideal) ℓ) (g : Dev Cert.HgOutRefIdeal.nD → PrngReg), Pre_HgOutRefIdeal m →
    θ_run (Cert.HgOutRefIdeal.defs (F := Ideal)) (onTc (τ := Cert.HgOutRefIdeal.τ) (Cert.HgOutRefIdeal.main (F := Ideal))) ⟨m, fun _ => 0, g⟩ (fun r => (∀ c : Dev Cert.HgOutRefIdeal.nD,
      r.2.mem ((c.tc : Thread Cert.HgOutRefIdeal.nD Cert.HgOutRefIdeal.τ).loc Cert.HgOutRefIdeal.main_arg0) = m ((c.tc : Thread Cert.HgOutRefIdeal.nD Cert.HgOutRefIdeal.τ).loc Cert.HgOutRefIdeal.main_arg0)
      ∧ r.2.mem ((c.tc : Thread Cert.HgOutRefIdeal.nD Cert.HgOutRefIdeal.τ).loc Cert.HgOutRefIdeal.main_arg1) = m ((c.tc : Thread Cert.HgOutRefIdeal.nD Cert.HgOutRefIdeal.τ).loc Cert.HgOutRefIdeal.main_arg1))
      ∧ r.2.sem = fun _ => 0)

def quiescent_HgOutDx [hHgOutDx : Cert.HgOutDx.Facts] : Prop :=
  ∀ (m : (ℓ : Loc Cert.HgOutDx.nD Cert.HgOutDx.τ Cert.HgOutDx.sig) → Buf (Elt Bits) ℓ) (g : Dev Cert.HgOutDx.nD → PrngReg), Pre_HgOutDx m →
    θ_run (Cert.HgOutDx.defs (F := Bits)) (onTc (τ := Cert.HgOutDx.τ) (Cert.HgOutDx.main (F := Bits))) ⟨m, fun _ => 0, g⟩ (fun r => (∀ c : Dev Cert.HgOutDx.nD,
      r.2.mem ((c.tc : Thread Cert.HgOutDx.nD Cert.HgOutDx.τ).loc Cert.HgOutDx.main_arg0) = m ((c.tc : Thread Cert.HgOutDx.nD Cert.HgOutDx.τ).loc Cert.HgOutDx.main_arg0)
      ∧ r.2.mem ((c.tc : Thread Cert.HgOutDx.nD Cert.HgOutDx.τ).loc Cert.HgOutDx.main_arg1) = m ((c.tc : Thread Cert.HgOutDx.nD Cert.HgOutDx.τ).loc Cert.HgOutDx.main_arg1))
      ∧ r.2.sem = fun _ => 0)

def quiescent_HgOutDxIdeal [hHgOutDxIdeal : Cert.HgOutDxIdeal.Facts] : Prop :=
  ∀ (m : (ℓ : Loc Cert.HgOutDxIdeal.nD Cert.HgOutDxIdeal.τ Cert.HgOutDxIdeal.sig) → Buf (Elt Ideal) ℓ) (g : Dev Cert.HgOutDxIdeal.nD → PrngReg), Pre_HgOutDxIdeal m →
    θ_run (Cert.HgOutDxIdeal.defs (F := Ideal)) (onTc (τ := Cert.HgOutDxIdeal.τ) (Cert.HgOutDxIdeal.main (F := Ideal))) ⟨m, fun _ => 0, g⟩ (fun r => (∀ c : Dev Cert.HgOutDxIdeal.nD,
      r.2.mem ((c.tc : Thread Cert.HgOutDxIdeal.nD Cert.HgOutDxIdeal.τ).loc Cert.HgOutDxIdeal.main_arg0) = m ((c.tc : Thread Cert.HgOutDxIdeal.nD Cert.HgOutDxIdeal.τ).loc Cert.HgOutDxIdeal.main_arg0)
      ∧ r.2.mem ((c.tc : Thread Cert.HgOutDxIdeal.nD Cert.HgOutDxIdeal.τ).loc Cert.HgOutDxIdeal.main_arg1) = m ((c.tc : Thread Cert.HgOutDxIdeal.nD Cert.HgOutDxIdeal.τ).loc Cert.HgOutDxIdeal.main_arg1))
      ∧ r.2.sem = fun _ => 0)

def quiescent_HgOutDxRefIdeal [hHgOutDxRefIdeal : Cert.HgOutDxRefIdeal.Facts] : Prop :=
  ∀ (m : (ℓ : Loc Cert.HgOutDxRefIdeal.nD Cert.HgOutDxRefIdeal.τ Cert.HgOutDxRefIdeal.sig) → Buf (Elt Ideal) ℓ) (g : Dev Cert.HgOutDxRefIdeal.nD → PrngReg), Pre_HgOutDxRefIdeal m →
    θ_run (Cert.HgOutDxRefIdeal.defs (F := Ideal)) (onTc (τ := Cert.HgOutDxRefIdeal.τ) (Cert.HgOutDxRefIdeal.main (F := Ideal))) ⟨m, fun _ => 0, g⟩ (fun r => (∀ c : Dev Cert.HgOutDxRefIdeal.nD,
      r.2.mem ((c.tc : Thread Cert.HgOutDxRefIdeal.nD Cert.HgOutDxRefIdeal.τ).loc Cert.HgOutDxRefIdeal.main_arg0) = m ((c.tc : Thread Cert.HgOutDxRefIdeal.nD Cert.HgOutDxRefIdeal.τ).loc Cert.HgOutDxRefIdeal.main_arg0)
      ∧ r.2.mem ((c.tc : Thread Cert.HgOutDxRefIdeal.nD Cert.HgOutDxRefIdeal.τ).loc Cert.HgOutDxRefIdeal.main_arg1) = m ((c.tc : Thread Cert.HgOutDxRefIdeal.nD Cert.HgOutDxRefIdeal.τ).loc Cert.HgOutDxRefIdeal.main_arg1))
      ∧ r.2.sem = fun _ => 0)

def quiescent_HgOutDw [hHgOutDw : Cert.HgOutDw.Facts] : Prop :=
  ∀ (m : (ℓ : Loc Cert.HgOutDw.nD Cert.HgOutDw.τ Cert.HgOutDw.sig) → Buf (Elt Bits) ℓ) (g : Dev Cert.HgOutDw.nD → PrngReg), Pre_HgOutDw m →
    θ_run (Cert.HgOutDw.defs (F := Bits)) (onTc (τ := Cert.HgOutDw.τ) (Cert.HgOutDw.main (F := Bits))) ⟨m, fun _ => 0, g⟩ (fun r => (∀ c : Dev Cert.HgOutDw.nD,
      r.2.mem ((c.tc : Thread Cert.HgOutDw.nD Cert.HgOutDw.τ).loc Cert.HgOutDw.main_arg0) = m ((c.tc : Thread Cert.HgOutDw.nD Cert.HgOutDw.τ).loc Cert.HgOutDw.main_arg0)
      ∧ r.2.mem ((c.tc : Thread Cert.HgOutDw.nD Cert.HgOutDw.τ).loc Cert.HgOutDw.main_arg1) = m ((c.tc : Thread Cert.HgOutDw.nD Cert.HgOutDw.τ).loc Cert.HgOutDw.main_arg1)
      ∧ r.2.mem ((c.tc : Thread Cert.HgOutDw.nD Cert.HgOutDw.τ).loc Cert.HgOutDw.main_arg2) = m ((c.tc : Thread Cert.HgOutDw.nD Cert.HgOutDw.τ).loc Cert.HgOutDw.main_arg2))
      ∧ r.2.sem = fun _ => 0)

def quiescent_HgOutDwIdeal [hHgOutDwIdeal : Cert.HgOutDwIdeal.Facts] : Prop :=
  ∀ (m : (ℓ : Loc Cert.HgOutDwIdeal.nD Cert.HgOutDwIdeal.τ Cert.HgOutDwIdeal.sig) → Buf (Elt Ideal) ℓ) (g : Dev Cert.HgOutDwIdeal.nD → PrngReg), Pre_HgOutDwIdeal m →
    θ_run (Cert.HgOutDwIdeal.defs (F := Ideal)) (onTc (τ := Cert.HgOutDwIdeal.τ) (Cert.HgOutDwIdeal.main (F := Ideal))) ⟨m, fun _ => 0, g⟩ (fun r => (∀ c : Dev Cert.HgOutDwIdeal.nD,
      r.2.mem ((c.tc : Thread Cert.HgOutDwIdeal.nD Cert.HgOutDwIdeal.τ).loc Cert.HgOutDwIdeal.main_arg0) = m ((c.tc : Thread Cert.HgOutDwIdeal.nD Cert.HgOutDwIdeal.τ).loc Cert.HgOutDwIdeal.main_arg0)
      ∧ r.2.mem ((c.tc : Thread Cert.HgOutDwIdeal.nD Cert.HgOutDwIdeal.τ).loc Cert.HgOutDwIdeal.main_arg1) = m ((c.tc : Thread Cert.HgOutDwIdeal.nD Cert.HgOutDwIdeal.τ).loc Cert.HgOutDwIdeal.main_arg1)
      ∧ r.2.mem ((c.tc : Thread Cert.HgOutDwIdeal.nD Cert.HgOutDwIdeal.τ).loc Cert.HgOutDwIdeal.main_arg2) = m ((c.tc : Thread Cert.HgOutDwIdeal.nD Cert.HgOutDwIdeal.τ).loc Cert.HgOutDwIdeal.main_arg2))
      ∧ r.2.sem = fun _ => 0)

def quiescent_HgOutDwRefIdeal [hHgOutDwRefIdeal : Cert.HgOutDwRefIdeal.Facts] : Prop :=
  ∀ (m : (ℓ : Loc Cert.HgOutDwRefIdeal.nD Cert.HgOutDwRefIdeal.τ Cert.HgOutDwRefIdeal.sig) → Buf (Elt Ideal) ℓ) (g : Dev Cert.HgOutDwRefIdeal.nD → PrngReg), Pre_HgOutDwRefIdeal m →
    θ_run (Cert.HgOutDwRefIdeal.defs (F := Ideal)) (onTc (τ := Cert.HgOutDwRefIdeal.τ) (Cert.HgOutDwRefIdeal.main (F := Ideal))) ⟨m, fun _ => 0, g⟩ (fun r => (∀ c : Dev Cert.HgOutDwRefIdeal.nD,
      r.2.mem ((c.tc : Thread Cert.HgOutDwRefIdeal.nD Cert.HgOutDwRefIdeal.τ).loc Cert.HgOutDwRefIdeal.main_arg0) = m ((c.tc : Thread Cert.HgOutDwRefIdeal.nD Cert.HgOutDwRefIdeal.τ).loc Cert.HgOutDwRefIdeal.main_arg0)
      ∧ r.2.mem ((c.tc : Thread Cert.HgOutDwRefIdeal.nD Cert.HgOutDwRefIdeal.τ).loc Cert.HgOutDwRefIdeal.main_arg1) = m ((c.tc : Thread Cert.HgOutDwRefIdeal.nD Cert.HgOutDwRefIdeal.τ).loc Cert.HgOutDwRefIdeal.main_arg1)
      ∧ r.2.mem ((c.tc : Thread Cert.HgOutDwRefIdeal.nD Cert.HgOutDwRefIdeal.τ).loc Cert.HgOutDwRefIdeal.main_arg2) = m ((c.tc : Thread Cert.HgOutDwRefIdeal.nD Cert.HgOutDwRefIdeal.τ).loc Cert.HgOutDwRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleGateDx [hPleGateDx : Cert.PleGateDx.Facts] : Prop :=
  ∀ (m : (ℓ : Loc Cert.PleGateDx.nD Cert.PleGateDx.τ Cert.PleGateDx.sig) → Buf (Elt Bits) ℓ) (g : Dev Cert.PleGateDx.nD → PrngReg), Pre_PleGateDx m →
    θ_run (Cert.PleGateDx.defs (F := Bits)) (onTc (τ := Cert.PleGateDx.τ) (Cert.PleGateDx.main (F := Bits))) ⟨m, fun _ => 0, g⟩ (fun r => (∀ c : Dev Cert.PleGateDx.nD,
      r.2.mem ((c.tc : Thread Cert.PleGateDx.nD Cert.PleGateDx.τ).loc Cert.PleGateDx.main_arg0) = m ((c.tc : Thread Cert.PleGateDx.nD Cert.PleGateDx.τ).loc Cert.PleGateDx.main_arg0)
      ∧ r.2.mem ((c.tc : Thread Cert.PleGateDx.nD Cert.PleGateDx.τ).loc Cert.PleGateDx.main_arg1) = m ((c.tc : Thread Cert.PleGateDx.nD Cert.PleGateDx.τ).loc Cert.PleGateDx.main_arg1)
      ∧ r.2.mem ((c.tc : Thread Cert.PleGateDx.nD Cert.PleGateDx.τ).loc Cert.PleGateDx.main_arg2) = m ((c.tc : Thread Cert.PleGateDx.nD Cert.PleGateDx.τ).loc Cert.PleGateDx.main_arg2))
      ∧ r.2.sem = fun _ => 0)

def quiescent_PleGateDxIdeal [hPleGateDxIdeal : Cert.PleGateDxIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg), Pre_PleGateDxIdeal m →
    θ_run (Cert.PleGateDxIdeal.defs (F := Ideal)) (onTc (τ := Cert.PleGateDxIdeal.τ) (Cert.PleGateDxIdeal.main (F := Ideal))) ⟨m, fun _ => 0, g⟩ (fun r => (∀ c : Dev Cert.PleGateDxIdeal.nD,
      r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
      ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
      ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2))
      ∧ r.2.sem = fun _ => 0)

def quiescent_PleGateDxRefIdeal [hPleGateDxRefIdeal : Cert.PleGateDxRefIdeal.Facts] : Prop :=
  ∀ (m : (ℓ : Loc Cert.PleGateDxRefIdeal.nD Cert.PleGateDxRefIdeal.τ Cert.PleGateDxRefIdeal.sig) → Buf (Elt Ideal) ℓ) (g : Dev Cert.PleGateDxRefIdeal.nD → PrngReg), Pre_PleGateDxRefIdeal m →
    θ_run (Cert.PleGateDxRefIdeal.defs (F := Ideal)) (onTc (τ := Cert.PleGateDxRefIdeal.τ) (Cert.PleGateDxRefIdeal.main (F := Ideal))) ⟨m, fun _ => 0, g⟩ (fun r => (∀ c : Dev Cert.PleGateDxRefIdeal.nD,
      r.2.mem ((c.tc : Thread Cert.PleGateDxRefIdeal.nD Cert.PleGateDxRefIdeal.τ).loc Cert.PleGateDxRefIdeal.main_arg0) = m ((c.tc : Thread Cert.PleGateDxRefIdeal.nD Cert.PleGateDxRefIdeal.τ).loc Cert.PleGateDxRefIdeal.main_arg0)
      ∧ r.2.mem ((c.tc : Thread Cert.PleGateDxRefIdeal.nD Cert.PleGateDxRefIdeal.τ).loc Cert.PleGateDxRefIdeal.main_arg1) = m ((c.tc : Thread Cert.PleGateDxRefIdeal.nD Cert.PleGateDxRefIdeal.τ).loc Cert.PleGateDxRefIdeal.main_arg1)
      ∧ r.2.mem ((c.tc : Thread Cert.PleGateDxRefIdeal.nD Cert.PleGateDxRefIdeal.τ).loc Cert.PleGateDxRefIdeal.main_arg2) = m ((c.tc : Thread Cert.PleGateDxRefIdeal.nD Cert.PleGateDxRefIdeal.τ).loc Cert.PleGateDxRefIdeal.main_arg2))
      ∧ r.2.sem = fun _ => 0)

def quiescent_PleGateDw [hPleGateDw : Cert.PleGateDw.Facts] : Prop :=
  ∀ (m : (ℓ : Loc Cert.PleGateDw.nD Cert.PleGateDw.τ Cert.PleGateDw.sig) → Buf (Elt Bits) ℓ) (g : Dev Cert.PleGateDw.nD → PrngReg), Pre_PleGateDw m →
    θ_run (Cert.PleGateDw.defs (F := Bits)) (onTc (τ := Cert.PleGateDw.τ) (Cert.PleGateDw.main (F := Bits))) ⟨m, fun _ => 0, g⟩ (fun r => (∀ c : Dev Cert.PleGateDw.nD,
      r.2.mem ((c.tc : Thread Cert.PleGateDw.nD Cert.PleGateDw.τ).loc Cert.PleGateDw.main_arg0) = m ((c.tc : Thread Cert.PleGateDw.nD Cert.PleGateDw.τ).loc Cert.PleGateDw.main_arg0)
      ∧ r.2.mem ((c.tc : Thread Cert.PleGateDw.nD Cert.PleGateDw.τ).loc Cert.PleGateDw.main_arg1) = m ((c.tc : Thread Cert.PleGateDw.nD Cert.PleGateDw.τ).loc Cert.PleGateDw.main_arg1)
      ∧ r.2.mem ((c.tc : Thread Cert.PleGateDw.nD Cert.PleGateDw.τ).loc Cert.PleGateDw.main_arg2) = m ((c.tc : Thread Cert.PleGateDw.nD Cert.PleGateDw.τ).loc Cert.PleGateDw.main_arg2))
      ∧ r.2.sem = fun _ => 0)

def quiescent_PleGateDwIdeal [hPleGateDwIdeal : Cert.PleGateDwIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg), Pre_PleGateDwIdeal m →
    θ_run (Cert.PleGateDwIdeal.defs (F := Ideal)) (onTc (τ := Cert.PleGateDwIdeal.τ) (Cert.PleGateDwIdeal.main (F := Ideal))) ⟨m, fun _ => 0, g⟩ (fun r => (∀ c : Dev Cert.PleGateDwIdeal.nD,
      r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
      ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
      ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ r.2.sem = fun _ => 0)

def quiescent_PleGateDwRefIdeal [hPleGateDwRefIdeal : Cert.PleGateDwRefIdeal.Facts] : Prop :=
  ∀ (m : (ℓ : Loc Cert.PleGateDwRefIdeal.nD Cert.PleGateDwRefIdeal.τ Cert.PleGateDwRefIdeal.sig) → Buf (Elt Ideal) ℓ) (g : Dev Cert.PleGateDwRefIdeal.nD → PrngReg), Pre_PleGateDwRefIdeal m →
    θ_run (Cert.PleGateDwRefIdeal.defs (F := Ideal)) (onTc (τ := Cert.PleGateDwRefIdeal.τ) (Cert.PleGateDwRefIdeal.main (F := Ideal))) ⟨m, fun _ => 0, g⟩ (fun r => (∀ c : Dev Cert.PleGateDwRefIdeal.nD,
      r.2.mem ((c.tc : Thread Cert.PleGateDwRefIdeal.nD Cert.PleGateDwRefIdeal.τ).loc Cert.PleGateDwRefIdeal.main_arg0) = m ((c.tc : Thread Cert.PleGateDwRefIdeal.nD Cert.PleGateDwRefIdeal.τ).loc Cert.PleGateDwRefIdeal.main_arg0)
      ∧ r.2.mem ((c.tc : Thread Cert.PleGateDwRefIdeal.nD Cert.PleGateDwRefIdeal.τ).loc Cert.PleGateDwRefIdeal.main_arg1) = m ((c.tc : Thread Cert.PleGateDwRefIdeal.nD Cert.PleGateDwRefIdeal.τ).loc Cert.PleGateDwRefIdeal.main_arg1)
      ∧ r.2.mem ((c.tc : Thread Cert.PleGateDwRefIdeal.nD Cert.PleGateDwRefIdeal.τ).loc Cert.PleGateDwRefIdeal.main_arg2) = m ((c.tc : Thread Cert.PleGateDwRefIdeal.nD Cert.PleGateDwRefIdeal.τ).loc Cert.PleGateDwRefIdeal.main_arg2))
      ∧ r.2.sem = fun _ => 0)

def quiescent_AdamHgIn [hAdamHgIn : Cert.AdamHgIn.Facts] : Prop :=
  ∀ (m : (ℓ : Loc Cert.AdamHgIn.nD Cert.AdamHgIn.τ Cert.AdamHgIn.sig) → Buf (Elt Bits) ℓ) (g : Dev Cert.AdamHgIn.nD → PrngReg), Pre_AdamHgIn m →
    θ_run (Cert.AdamHgIn.defs (F := Bits)) (onTc (τ := Cert.AdamHgIn.τ) (Cert.AdamHgIn.main (F := Bits))) ⟨m, fun _ => 0, g⟩ (fun r => (∀ c : Dev Cert.AdamHgIn.nD,
      r.2.mem ((c.tc : Thread Cert.AdamHgIn.nD Cert.AdamHgIn.τ).loc Cert.AdamHgIn.main_arg0) = m ((c.tc : Thread Cert.AdamHgIn.nD Cert.AdamHgIn.τ).loc Cert.AdamHgIn.main_arg0)
      ∧ r.2.mem ((c.tc : Thread Cert.AdamHgIn.nD Cert.AdamHgIn.τ).loc Cert.AdamHgIn.main_arg1) = m ((c.tc : Thread Cert.AdamHgIn.nD Cert.AdamHgIn.τ).loc Cert.AdamHgIn.main_arg1)
      ∧ r.2.mem ((c.tc : Thread Cert.AdamHgIn.nD Cert.AdamHgIn.τ).loc Cert.AdamHgIn.main_arg2) = m ((c.tc : Thread Cert.AdamHgIn.nD Cert.AdamHgIn.τ).loc Cert.AdamHgIn.main_arg2)
      ∧ r.2.mem ((c.tc : Thread Cert.AdamHgIn.nD Cert.AdamHgIn.τ).loc Cert.AdamHgIn.main_arg3) = m ((c.tc : Thread Cert.AdamHgIn.nD Cert.AdamHgIn.τ).loc Cert.AdamHgIn.main_arg3))
      ∧ r.2.sem = fun _ => 0)

def quiescent_AdamHgInIdeal [hAdamHgInIdeal : Cert.AdamHgInIdeal.Facts] : Prop :=
  ∀ (m : (ℓ : Loc Cert.AdamHgInIdeal.nD Cert.AdamHgInIdeal.τ Cert.AdamHgInIdeal.sig) → Buf (Elt Ideal) ℓ) (g : Dev Cert.AdamHgInIdeal.nD → PrngReg), Pre_AdamHgInIdeal m →
    θ_run (Cert.AdamHgInIdeal.defs (F := Ideal)) (onTc (τ := Cert.AdamHgInIdeal.τ) (Cert.AdamHgInIdeal.main (F := Ideal))) ⟨m, fun _ => 0, g⟩ (fun r => (∀ c : Dev Cert.AdamHgInIdeal.nD,
      r.2.mem ((c.tc : Thread Cert.AdamHgInIdeal.nD Cert.AdamHgInIdeal.τ).loc Cert.AdamHgInIdeal.main_arg0) = m ((c.tc : Thread Cert.AdamHgInIdeal.nD Cert.AdamHgInIdeal.τ).loc Cert.AdamHgInIdeal.main_arg0)
      ∧ r.2.mem ((c.tc : Thread Cert.AdamHgInIdeal.nD Cert.AdamHgInIdeal.τ).loc Cert.AdamHgInIdeal.main_arg1) = m ((c.tc : Thread Cert.AdamHgInIdeal.nD Cert.AdamHgInIdeal.τ).loc Cert.AdamHgInIdeal.main_arg1)
      ∧ r.2.mem ((c.tc : Thread Cert.AdamHgInIdeal.nD Cert.AdamHgInIdeal.τ).loc Cert.AdamHgInIdeal.main_arg2) = m ((c.tc : Thread Cert.AdamHgInIdeal.nD Cert.AdamHgInIdeal.τ).loc Cert.AdamHgInIdeal.main_arg2)
      ∧ r.2.mem ((c.tc : Thread Cert.AdamHgInIdeal.nD Cert.AdamHgInIdeal.τ).loc Cert.AdamHgInIdeal.main_arg3) = m ((c.tc : Thread Cert.AdamHgInIdeal.nD Cert.AdamHgInIdeal.τ).loc Cert.AdamHgInIdeal.main_arg3))
      ∧ r.2.sem = fun _ => 0)

def quiescent_AdamHgInRefIdeal [hAdamHgInRefIdeal : Cert.AdamHgInRefIdeal.Facts] : Prop :=
  ∀ (m : (ℓ : Loc Cert.AdamHgInRefIdeal.nD Cert.AdamHgInRefIdeal.τ Cert.AdamHgInRefIdeal.sig) → Buf (Elt Ideal) ℓ) (g : Dev Cert.AdamHgInRefIdeal.nD → PrngReg), Pre_AdamHgInRefIdeal m →
    θ_run (Cert.AdamHgInRefIdeal.defs (F := Ideal)) (onTc (τ := Cert.AdamHgInRefIdeal.τ) (Cert.AdamHgInRefIdeal.main (F := Ideal))) ⟨m, fun _ => 0, g⟩ (fun r => (∀ c : Dev Cert.AdamHgInRefIdeal.nD,
      r.2.mem ((c.tc : Thread Cert.AdamHgInRefIdeal.nD Cert.AdamHgInRefIdeal.τ).loc Cert.AdamHgInRefIdeal.main_arg0) = m ((c.tc : Thread Cert.AdamHgInRefIdeal.nD Cert.AdamHgInRefIdeal.τ).loc Cert.AdamHgInRefIdeal.main_arg0)
      ∧ r.2.mem ((c.tc : Thread Cert.AdamHgInRefIdeal.nD Cert.AdamHgInRefIdeal.τ).loc Cert.AdamHgInRefIdeal.main_arg1) = m ((c.tc : Thread Cert.AdamHgInRefIdeal.nD Cert.AdamHgInRefIdeal.τ).loc Cert.AdamHgInRefIdeal.main_arg1)
      ∧ r.2.mem ((c.tc : Thread Cert.AdamHgInRefIdeal.nD Cert.AdamHgInRefIdeal.τ).loc Cert.AdamHgInRefIdeal.main_arg2) = m ((c.tc : Thread Cert.AdamHgInRefIdeal.nD Cert.AdamHgInRefIdeal.τ).loc Cert.AdamHgInRefIdeal.main_arg2)
      ∧ r.2.mem ((c.tc : Thread Cert.AdamHgInRefIdeal.nD Cert.AdamHgInRefIdeal.τ).loc Cert.AdamHgInRefIdeal.main_arg3) = m ((c.tc : Thread Cert.AdamHgInRefIdeal.nD Cert.AdamHgInRefIdeal.τ).loc Cert.AdamHgInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGmIn [hAdamGmIn : Cert.AdamGmIn.Facts] : Prop :=
  ∀ (m : (ℓ : Loc Cert.AdamGmIn.nD Cert.AdamGmIn.τ Cert.AdamGmIn.sig) → Buf (Elt Bits) ℓ) (g : Dev Cert.AdamGmIn.nD → PrngReg), Pre_AdamGmIn m →
    θ_run (Cert.AdamGmIn.defs (F := Bits)) (onTc (τ := Cert.AdamGmIn.τ) (Cert.AdamGmIn.main (F := Bits))) ⟨m, fun _ => 0, g⟩ (fun r => (∀ c : Dev Cert.AdamGmIn.nD,
      r.2.mem ((c.tc : Thread Cert.AdamGmIn.nD Cert.AdamGmIn.τ).loc Cert.AdamGmIn.main_arg0) = m ((c.tc : Thread Cert.AdamGmIn.nD Cert.AdamGmIn.τ).loc Cert.AdamGmIn.main_arg0)
      ∧ r.2.mem ((c.tc : Thread Cert.AdamGmIn.nD Cert.AdamGmIn.τ).loc Cert.AdamGmIn.main_arg1) = m ((c.tc : Thread Cert.AdamGmIn.nD Cert.AdamGmIn.τ).loc Cert.AdamGmIn.main_arg1)
      ∧ r.2.mem ((c.tc : Thread Cert.AdamGmIn.nD Cert.AdamGmIn.τ).loc Cert.AdamGmIn.main_arg2) = m ((c.tc : Thread Cert.AdamGmIn.nD Cert.AdamGmIn.τ).loc Cert.AdamGmIn.main_arg2)
      ∧ r.2.mem ((c.tc : Thread Cert.AdamGmIn.nD Cert.AdamGmIn.τ).loc Cert.AdamGmIn.main_arg3) = m ((c.tc : Thread Cert.AdamGmIn.nD Cert.AdamGmIn.τ).loc Cert.AdamGmIn.main_arg3))
      ∧ r.2.sem = fun _ => 0)

def quiescent_AdamGmInIdeal [hAdamGmInIdeal : Cert.AdamGmInIdeal.Facts] : Prop :=
  ∀ (m : (ℓ : Loc Cert.AdamGmInIdeal.nD Cert.AdamGmInIdeal.τ Cert.AdamGmInIdeal.sig) → Buf (Elt Ideal) ℓ) (g : Dev Cert.AdamGmInIdeal.nD → PrngReg), Pre_AdamGmInIdeal m →
    θ_run (Cert.AdamGmInIdeal.defs (F := Ideal)) (onTc (τ := Cert.AdamGmInIdeal.τ) (Cert.AdamGmInIdeal.main (F := Ideal))) ⟨m, fun _ => 0, g⟩ (fun r => (∀ c : Dev Cert.AdamGmInIdeal.nD,
      r.2.mem ((c.tc : Thread Cert.AdamGmInIdeal.nD Cert.AdamGmInIdeal.τ).loc Cert.AdamGmInIdeal.main_arg0) = m ((c.tc : Thread Cert.AdamGmInIdeal.nD Cert.AdamGmInIdeal.τ).loc Cert.AdamGmInIdeal.main_arg0)
      ∧ r.2.mem ((c.tc : Thread Cert.AdamGmInIdeal.nD Cert.AdamGmInIdeal.τ).loc Cert.AdamGmInIdeal.main_arg1) = m ((c.tc : Thread Cert.AdamGmInIdeal.nD Cert.AdamGmInIdeal.τ).loc Cert.AdamGmInIdeal.main_arg1)
      ∧ r.2.mem ((c.tc : Thread Cert.AdamGmInIdeal.nD Cert.AdamGmInIdeal.τ).loc Cert.AdamGmInIdeal.main_arg2) = m ((c.tc : Thread Cert.AdamGmInIdeal.nD Cert.AdamGmInIdeal.τ).loc Cert.AdamGmInIdeal.main_arg2)
      ∧ r.2.mem ((c.tc : Thread Cert.AdamGmInIdeal.nD Cert.AdamGmInIdeal.τ).loc Cert.AdamGmInIdeal.main_arg3) = m ((c.tc : Thread Cert.AdamGmInIdeal.nD Cert.AdamGmInIdeal.τ).loc Cert.AdamGmInIdeal.main_arg3))
      ∧ r.2.sem = fun _ => 0)

def quiescent_AdamGmInRefIdeal [hAdamGmInRefIdeal : Cert.AdamGmInRefIdeal.Facts] : Prop :=
  ∀ (m : (ℓ : Loc Cert.AdamGmInRefIdeal.nD Cert.AdamGmInRefIdeal.τ Cert.AdamGmInRefIdeal.sig) → Buf (Elt Ideal) ℓ) (g : Dev Cert.AdamGmInRefIdeal.nD → PrngReg), Pre_AdamGmInRefIdeal m →
    θ_run (Cert.AdamGmInRefIdeal.defs (F := Ideal)) (onTc (τ := Cert.AdamGmInRefIdeal.τ) (Cert.AdamGmInRefIdeal.main (F := Ideal))) ⟨m, fun _ => 0, g⟩ (fun r => (∀ c : Dev Cert.AdamGmInRefIdeal.nD,
      r.2.mem ((c.tc : Thread Cert.AdamGmInRefIdeal.nD Cert.AdamGmInRefIdeal.τ).loc Cert.AdamGmInRefIdeal.main_arg0) = m ((c.tc : Thread Cert.AdamGmInRefIdeal.nD Cert.AdamGmInRefIdeal.τ).loc Cert.AdamGmInRefIdeal.main_arg0)
      ∧ r.2.mem ((c.tc : Thread Cert.AdamGmInRefIdeal.nD Cert.AdamGmInRefIdeal.τ).loc Cert.AdamGmInRefIdeal.main_arg1) = m ((c.tc : Thread Cert.AdamGmInRefIdeal.nD Cert.AdamGmInRefIdeal.τ).loc Cert.AdamGmInRefIdeal.main_arg1)
      ∧ r.2.mem ((c.tc : Thread Cert.AdamGmInRefIdeal.nD Cert.AdamGmInRefIdeal.τ).loc Cert.AdamGmInRefIdeal.main_arg2) = m ((c.tc : Thread Cert.AdamGmInRefIdeal.nD Cert.AdamGmInRefIdeal.τ).loc Cert.AdamGmInRefIdeal.main_arg2)
      ∧ r.2.mem ((c.tc : Thread Cert.AdamGmInRefIdeal.nD Cert.AdamGmInRefIdeal.τ).loc Cert.AdamGmInRefIdeal.main_arg3) = m ((c.tc : Thread Cert.AdamGmInRefIdeal.nD Cert.AdamGmInRefIdeal.τ).loc Cert.AdamGmInRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3))
      ∧ r.2.sem = fun _ => 0)

def quiescent_FfnPostBwd [hFfnPostBwd : Cert.FfnPostBwd.Facts] : Prop :=
  ∀ (m : (ℓ : Loc Cert.FfnPostBwd.nD Cert.FfnPostBwd.τ Cert.FfnPostBwd.sig) → Buf (Elt Bits) ℓ) (g : Dev Cert.FfnPostBwd.nD → PrngReg), Pre_FfnPostBwd m →
    θ_run (Cert.FfnPostBwd.defs (F := Bits)) (onTc (τ := Cert.FfnPostBwd.τ) (Cert.FfnPostBwd.main (F := Bits))) ⟨m, fun _ => 0, g⟩ (fun r => (∀ c : Dev Cert.FfnPostBwd.nD,
      r.2.mem ((c.tc : Thread Cert.FfnPostBwd.nD Cert.FfnPostBwd.τ).loc Cert.FfnPostBwd.main_arg0) = m ((c.tc : Thread Cert.FfnPostBwd.nD Cert.FfnPostBwd.τ).loc Cert.FfnPostBwd.main_arg0)
      ∧ r.2.mem ((c.tc : Thread Cert.FfnPostBwd.nD Cert.FfnPostBwd.τ).loc Cert.FfnPostBwd.main_arg1) = m ((c.tc : Thread Cert.FfnPostBwd.nD Cert.FfnPostBwd.τ).loc Cert.FfnPostBwd.main_arg1)
      ∧ r.2.mem ((c.tc : Thread Cert.FfnPostBwd.nD Cert.FfnPostBwd.τ).loc Cert.FfnPostBwd.main_arg2) = m ((c.tc : Thread Cert.FfnPostBwd.nD Cert.FfnPostBwd.τ).loc Cert.FfnPostBwd.main_arg2)
      ∧ r.2.mem ((c.tc : Thread Cert.FfnPostBwd.nD Cert.FfnPostBwd.τ).loc Cert.FfnPostBwd.main_arg3) = m ((c.tc : Thread Cert.FfnPostBwd.nD Cert.FfnPostBwd.τ).loc Cert.FfnPostBwd.main_arg3))
      ∧ r.2.sem = fun _ => 0)

def quiescent_FfnPostBwdIdeal [hFfnPostBwdIdeal : Cert.FfnPostBwdIdeal.Facts] : Prop :=
  ∀ (m : (ℓ : Loc Cert.FfnPostBwdIdeal.nD Cert.FfnPostBwdIdeal.τ Cert.FfnPostBwdIdeal.sig) → Buf (Elt Ideal) ℓ) (g : Dev Cert.FfnPostBwdIdeal.nD → PrngReg), Pre_FfnPostBwdIdeal m →
    θ_run (Cert.FfnPostBwdIdeal.defs (F := Ideal)) (onTc (τ := Cert.FfnPostBwdIdeal.τ) (Cert.FfnPostBwdIdeal.main (F := Ideal))) ⟨m, fun _ => 0, g⟩ (fun r => (∀ c : Dev Cert.FfnPostBwdIdeal.nD,
      r.2.mem ((c.tc : Thread Cert.FfnPostBwdIdeal.nD Cert.FfnPostBwdIdeal.τ).loc Cert.FfnPostBwdIdeal.main_arg0) = m ((c.tc : Thread Cert.FfnPostBwdIdeal.nD Cert.FfnPostBwdIdeal.τ).loc Cert.FfnPostBwdIdeal.main_arg0)
      ∧ r.2.mem ((c.tc : Thread Cert.FfnPostBwdIdeal.nD Cert.FfnPostBwdIdeal.τ).loc Cert.FfnPostBwdIdeal.main_arg1) = m ((c.tc : Thread Cert.FfnPostBwdIdeal.nD Cert.FfnPostBwdIdeal.τ).loc Cert.FfnPostBwdIdeal.main_arg1)
      ∧ r.2.mem ((c.tc : Thread Cert.FfnPostBwdIdeal.nD Cert.FfnPostBwdIdeal.τ).loc Cert.FfnPostBwdIdeal.main_arg2) = m ((c.tc : Thread Cert.FfnPostBwdIdeal.nD Cert.FfnPostBwdIdeal.τ).loc Cert.FfnPostBwdIdeal.main_arg2)
      ∧ r.2.mem ((c.tc : Thread Cert.FfnPostBwdIdeal.nD Cert.FfnPostBwdIdeal.τ).loc Cert.FfnPostBwdIdeal.main_arg3) = m ((c.tc : Thread Cert.FfnPostBwdIdeal.nD Cert.FfnPostBwdIdeal.τ).loc Cert.FfnPostBwdIdeal.main_arg3))
      ∧ r.2.sem = fun _ => 0)

def quiescent_FfnPostBwdRefIdeal [hFfnPostBwdRefIdeal : Cert.FfnPostBwdRefIdeal.Facts] : Prop :=
  ∀ (m : (ℓ : Loc Cert.FfnPostBwdRefIdeal.nD Cert.FfnPostBwdRefIdeal.τ Cert.FfnPostBwdRefIdeal.sig) → Buf (Elt Ideal) ℓ) (g : Dev Cert.FfnPostBwdRefIdeal.nD → PrngReg), Pre_FfnPostBwdRefIdeal m →
    θ_run (Cert.FfnPostBwdRefIdeal.defs (F := Ideal)) (onTc (τ := Cert.FfnPostBwdRefIdeal.τ) (Cert.FfnPostBwdRefIdeal.main (F := Ideal))) ⟨m, fun _ => 0, g⟩ (fun r => (∀ c : Dev Cert.FfnPostBwdRefIdeal.nD,
      r.2.mem ((c.tc : Thread Cert.FfnPostBwdRefIdeal.nD Cert.FfnPostBwdRefIdeal.τ).loc Cert.FfnPostBwdRefIdeal.main_arg0) = m ((c.tc : Thread Cert.FfnPostBwdRefIdeal.nD Cert.FfnPostBwdRefIdeal.τ).loc Cert.FfnPostBwdRefIdeal.main_arg0)
      ∧ r.2.mem ((c.tc : Thread Cert.FfnPostBwdRefIdeal.nD Cert.FfnPostBwdRefIdeal.τ).loc Cert.FfnPostBwdRefIdeal.main_arg1) = m ((c.tc : Thread Cert.FfnPostBwdRefIdeal.nD Cert.FfnPostBwdRefIdeal.τ).loc Cert.FfnPostBwdRefIdeal.main_arg1)
      ∧ r.2.mem ((c.tc : Thread Cert.FfnPostBwdRefIdeal.nD Cert.FfnPostBwdRefIdeal.τ).loc Cert.FfnPostBwdRefIdeal.main_arg2) = m ((c.tc : Thread Cert.FfnPostBwdRefIdeal.nD Cert.FfnPostBwdRefIdeal.τ).loc Cert.FfnPostBwdRefIdeal.main_arg2)
      ∧ r.2.mem ((c.tc : Thread Cert.FfnPostBwdRefIdeal.nD Cert.FfnPostBwdRefIdeal.τ).loc Cert.FfnPostBwdRefIdeal.main_arg3) = m ((c.tc : Thread Cert.FfnPostBwdRefIdeal.nD Cert.FfnPostBwdRefIdeal.τ).loc Cert.FfnPostBwdRefIdeal.main_arg3))
      ∧ r.2.sem = fun _ => 0)

def quiescent_MixPostBwd [hMixPostBwd : Cert.MixPostBwd.Facts] : Prop :=
  ∀ (m : (ℓ : Loc Cert.MixPostBwd.nD Cert.MixPostBwd.τ Cert.MixPostBwd.sig) → Buf (Elt Bits) ℓ) (g : Dev Cert.MixPostBwd.nD → PrngReg), Pre_MixPostBwd m →
    θ_run (Cert.MixPostBwd.defs (F := Bits)) (onTc (τ := Cert.MixPostBwd.τ) (Cert.MixPostBwd.main (F := Bits))) ⟨m, fun _ => 0, g⟩ (fun r => (∀ c : Dev Cert.MixPostBwd.nD,
      r.2.mem ((c.tc : Thread Cert.MixPostBwd.nD Cert.MixPostBwd.τ).loc Cert.MixPostBwd.main_arg0) = m ((c.tc : Thread Cert.MixPostBwd.nD Cert.MixPostBwd.τ).loc Cert.MixPostBwd.main_arg0)
      ∧ r.2.mem ((c.tc : Thread Cert.MixPostBwd.nD Cert.MixPostBwd.τ).loc Cert.MixPostBwd.main_arg1) = m ((c.tc : Thread Cert.MixPostBwd.nD Cert.MixPostBwd.τ).loc Cert.MixPostBwd.main_arg1)
      ∧ r.2.mem ((c.tc : Thread Cert.MixPostBwd.nD Cert.MixPostBwd.τ).loc Cert.MixPostBwd.main_arg2) = m ((c.tc : Thread Cert.MixPostBwd.nD Cert.MixPostBwd.τ).loc Cert.MixPostBwd.main_arg2)
      ∧ r.2.mem ((c.tc : Thread Cert.MixPostBwd.nD Cert.MixPostBwd.τ).loc Cert.MixPostBwd.main_arg3) = m ((c.tc : Thread Cert.MixPostBwd.nD Cert.MixPostBwd.τ).loc Cert.MixPostBwd.main_arg3)
      ∧ r.2.mem ((c.tc : Thread Cert.MixPostBwd.nD Cert.MixPostBwd.τ).loc Cert.MixPostBwd.main_arg4) = m ((c.tc : Thread Cert.MixPostBwd.nD Cert.MixPostBwd.τ).loc Cert.MixPostBwd.main_arg4)
      ∧ r.2.mem ((c.tc : Thread Cert.MixPostBwd.nD Cert.MixPostBwd.τ).loc Cert.MixPostBwd.main_arg5) = m ((c.tc : Thread Cert.MixPostBwd.nD Cert.MixPostBwd.τ).loc Cert.MixPostBwd.main_arg5))
      ∧ r.2.sem = fun _ => 0)

def quiescent_MixPostBwdIdeal [hMixPostBwdIdeal : Cert.MixPostBwdIdeal.Facts] : Prop :=
  ∀ (m : (ℓ : Loc Cert.MixPostBwdIdeal.nD Cert.MixPostBwdIdeal.τ Cert.MixPostBwdIdeal.sig) → Buf (Elt Ideal) ℓ) (g : Dev Cert.MixPostBwdIdeal.nD → PrngReg), Pre_MixPostBwdIdeal m →
    θ_run (Cert.MixPostBwdIdeal.defs (F := Ideal)) (onTc (τ := Cert.MixPostBwdIdeal.τ) (Cert.MixPostBwdIdeal.main (F := Ideal))) ⟨m, fun _ => 0, g⟩ (fun r => (∀ c : Dev Cert.MixPostBwdIdeal.nD,
      r.2.mem ((c.tc : Thread Cert.MixPostBwdIdeal.nD Cert.MixPostBwdIdeal.τ).loc Cert.MixPostBwdIdeal.main_arg0) = m ((c.tc : Thread Cert.MixPostBwdIdeal.nD Cert.MixPostBwdIdeal.τ).loc Cert.MixPostBwdIdeal.main_arg0)
      ∧ r.2.mem ((c.tc : Thread Cert.MixPostBwdIdeal.nD Cert.MixPostBwdIdeal.τ).loc Cert.MixPostBwdIdeal.main_arg1) = m ((c.tc : Thread Cert.MixPostBwdIdeal.nD Cert.MixPostBwdIdeal.τ).loc Cert.MixPostBwdIdeal.main_arg1)
      ∧ r.2.mem ((c.tc : Thread Cert.MixPostBwdIdeal.nD Cert.MixPostBwdIdeal.τ).loc Cert.MixPostBwdIdeal.main_arg2) = m ((c.tc : Thread Cert.MixPostBwdIdeal.nD Cert.MixPostBwdIdeal.τ).loc Cert.MixPostBwdIdeal.main_arg2)
      ∧ r.2.mem ((c.tc : Thread Cert.MixPostBwdIdeal.nD Cert.MixPostBwdIdeal.τ).loc Cert.MixPostBwdIdeal.main_arg3) = m ((c.tc : Thread Cert.MixPostBwdIdeal.nD Cert.MixPostBwdIdeal.τ).loc Cert.MixPostBwdIdeal.main_arg3)
      ∧ r.2.mem ((c.tc : Thread Cert.MixPostBwdIdeal.nD Cert.MixPostBwdIdeal.τ).loc Cert.MixPostBwdIdeal.main_arg4) = m ((c.tc : Thread Cert.MixPostBwdIdeal.nD Cert.MixPostBwdIdeal.τ).loc Cert.MixPostBwdIdeal.main_arg4)
      ∧ r.2.mem ((c.tc : Thread Cert.MixPostBwdIdeal.nD Cert.MixPostBwdIdeal.τ).loc Cert.MixPostBwdIdeal.main_arg5) = m ((c.tc : Thread Cert.MixPostBwdIdeal.nD Cert.MixPostBwdIdeal.τ).loc Cert.MixPostBwdIdeal.main_arg5))
      ∧ r.2.sem = fun _ => 0)

def quiescent_MixPostBwdRefIdeal [hMixPostBwdRefIdeal : Cert.MixPostBwdRefIdeal.Facts] : Prop :=
  ∀ (m : (ℓ : Loc Cert.MixPostBwdRefIdeal.nD Cert.MixPostBwdRefIdeal.τ Cert.MixPostBwdRefIdeal.sig) → Buf (Elt Ideal) ℓ) (g : Dev Cert.MixPostBwdRefIdeal.nD → PrngReg), Pre_MixPostBwdRefIdeal m →
    θ_run (Cert.MixPostBwdRefIdeal.defs (F := Ideal)) (onTc (τ := Cert.MixPostBwdRefIdeal.τ) (Cert.MixPostBwdRefIdeal.main (F := Ideal))) ⟨m, fun _ => 0, g⟩ (fun r => (∀ c : Dev Cert.MixPostBwdRefIdeal.nD,
      r.2.mem ((c.tc : Thread Cert.MixPostBwdRefIdeal.nD Cert.MixPostBwdRefIdeal.τ).loc Cert.MixPostBwdRefIdeal.main_arg0) = m ((c.tc : Thread Cert.MixPostBwdRefIdeal.nD Cert.MixPostBwdRefIdeal.τ).loc Cert.MixPostBwdRefIdeal.main_arg0)
      ∧ r.2.mem ((c.tc : Thread Cert.MixPostBwdRefIdeal.nD Cert.MixPostBwdRefIdeal.τ).loc Cert.MixPostBwdRefIdeal.main_arg1) = m ((c.tc : Thread Cert.MixPostBwdRefIdeal.nD Cert.MixPostBwdRefIdeal.τ).loc Cert.MixPostBwdRefIdeal.main_arg1)
      ∧ r.2.mem ((c.tc : Thread Cert.MixPostBwdRefIdeal.nD Cert.MixPostBwdRefIdeal.τ).loc Cert.MixPostBwdRefIdeal.main_arg2) = m ((c.tc : Thread Cert.MixPostBwdRefIdeal.nD Cert.MixPostBwdRefIdeal.τ).loc Cert.MixPostBwdRefIdeal.main_arg2)
      ∧ r.2.mem ((c.tc : Thread Cert.MixPostBwdRefIdeal.nD Cert.MixPostBwdRefIdeal.τ).loc Cert.MixPostBwdRefIdeal.main_arg3) = m ((c.tc : Thread Cert.MixPostBwdRefIdeal.nD Cert.MixPostBwdRefIdeal.τ).loc Cert.MixPostBwdRefIdeal.main_arg3)
      ∧ r.2.mem ((c.tc : Thread Cert.MixPostBwdRefIdeal.nD Cert.MixPostBwdRefIdeal.τ).loc Cert.MixPostBwdRefIdeal.main_arg4) = m ((c.tc : Thread Cert.MixPostBwdRefIdeal.nD Cert.MixPostBwdRefIdeal.τ).loc Cert.MixPostBwdRefIdeal.main_arg4)
      ∧ r.2.mem ((c.tc : Thread Cert.MixPostBwdRefIdeal.nD Cert.MixPostBwdRefIdeal.τ).loc Cert.MixPostBwdRefIdeal.main_arg5) = m ((c.tc : Thread Cert.MixPostBwdRefIdeal.nD Cert.MixPostBwdRefIdeal.τ).loc Cert.MixPostBwdRefIdeal.main_arg5))
      ∧ r.2.sem = fun _ => 0)

def quiescent_PleLastBwd [hPleLastBwd : Cert.PleLastBwd.Facts] : Prop :=
  ∀ (m : (ℓ : Loc Cert.PleLastBwd.nD Cert.PleLastBwd.τ Cert.PleLastBwd.sig) → Buf (Elt Bits) ℓ) (g : Dev Cert.PleLastBwd.nD → PrngReg), Pre_PleLastBwd m →
    θ_run (Cert.PleLastBwd.defs (F := Bits)) (onTc (τ := Cert.PleLastBwd.τ) (Cert.PleLastBwd.main (F := Bits))) ⟨m, fun _ => 0, g⟩ (fun r => (∀ c : Dev Cert.PleLastBwd.nD,
      r.2.mem ((c.tc : Thread Cert.PleLastBwd.nD Cert.PleLastBwd.τ).loc Cert.PleLastBwd.main_arg0) = m ((c.tc : Thread Cert.PleLastBwd.nD Cert.PleLastBwd.τ).loc Cert.PleLastBwd.main_arg0)
      ∧ r.2.mem ((c.tc : Thread Cert.PleLastBwd.nD Cert.PleLastBwd.τ).loc Cert.PleLastBwd.main_arg1) = m ((c.tc : Thread Cert.PleLastBwd.nD Cert.PleLastBwd.τ).loc Cert.PleLastBwd.main_arg1)
      ∧ r.2.mem ((c.tc : Thread Cert.PleLastBwd.nD Cert.PleLastBwd.τ).loc Cert.PleLastBwd.main_arg2) = m ((c.tc : Thread Cert.PleLastBwd.nD Cert.PleLastBwd.τ).loc Cert.PleLastBwd.main_arg2)
      ∧ r.2.mem ((c.tc : Thread Cert.PleLastBwd.nD Cert.PleLastBwd.τ).loc Cert.PleLastBwd.main_arg3) = m ((c.tc : Thread Cert.PleLastBwd.nD Cert.PleLastBwd.τ).loc Cert.PleLastBwd.main_arg3)
      ∧ r.2.mem ((c.tc : Thread Cert.PleLastBwd.nD Cert.PleLastBwd.τ).loc Cert.PleLastBwd.main_arg4) = m ((c.tc : Thread Cert.PleLastBwd.nD Cert.PleLastBwd.τ).loc Cert.PleLastBwd.main_arg4))
      ∧ r.2.sem = fun _ => 0)

def quiescent_PleLastBwdIdeal [hPleLastBwdIdeal : Cert.PleLastBwdIdeal.Facts] : Prop :=
  ∀ (m : (ℓ : Loc Cert.PleLastBwdIdeal.nD Cert.PleLastBwdIdeal.τ Cert.PleLastBwdIdeal.sig) → Buf (Elt Ideal) ℓ) (g : Dev Cert.PleLastBwdIdeal.nD → PrngReg), Pre_PleLastBwdIdeal m →
    θ_run (Cert.PleLastBwdIdeal.defs (F := Ideal)) (onTc (τ := Cert.PleLastBwdIdeal.τ) (Cert.PleLastBwdIdeal.main (F := Ideal))) ⟨m, fun _ => 0, g⟩ (fun r => (∀ c : Dev Cert.PleLastBwdIdeal.nD,
      r.2.mem ((c.tc : Thread Cert.PleLastBwdIdeal.nD Cert.PleLastBwdIdeal.τ).loc Cert.PleLastBwdIdeal.main_arg0) = m ((c.tc : Thread Cert.PleLastBwdIdeal.nD Cert.PleLastBwdIdeal.τ).loc Cert.PleLastBwdIdeal.main_arg0)
      ∧ r.2.mem ((c.tc : Thread Cert.PleLastBwdIdeal.nD Cert.PleLastBwdIdeal.τ).loc Cert.PleLastBwdIdeal.main_arg1) = m ((c.tc : Thread Cert.PleLastBwdIdeal.nD Cert.PleLastBwdIdeal.τ).loc Cert.PleLastBwdIdeal.main_arg1)
      ∧ r.2.mem ((c.tc : Thread Cert.PleLastBwdIdeal.nD Cert.PleLastBwdIdeal.τ).loc Cert.PleLastBwdIdeal.main_arg2) = m ((c.tc : Thread Cert.PleLastBwdIdeal.nD Cert.PleLastBwdIdeal.τ).loc Cert.PleLastBwdIdeal.main_arg2)
      ∧ r.2.mem ((c.tc : Thread Cert.PleLastBwdIdeal.nD Cert.PleLastBwdIdeal.τ).loc Cert.PleLastBwdIdeal.main_arg3) = m ((c.tc : Thread Cert.PleLastBwdIdeal.nD Cert.PleLastBwdIdeal.τ).loc Cert.PleLastBwdIdeal.main_arg3)
      ∧ r.2.mem ((c.tc : Thread Cert.PleLastBwdIdeal.nD Cert.PleLastBwdIdeal.τ).loc Cert.PleLastBwdIdeal.main_arg4) = m ((c.tc : Thread Cert.PleLastBwdIdeal.nD Cert.PleLastBwdIdeal.τ).loc Cert.PleLastBwdIdeal.main_arg4))
      ∧ r.2.sem = fun _ => 0)

def quiescent_PleLastBwdRefIdeal [hPleLastBwdRefIdeal : Cert.PleLastBwdRefIdeal.Facts] : Prop :=
  ∀ (m : (ℓ : Loc Cert.PleLastBwdRefIdeal.nD Cert.PleLastBwdRefIdeal.τ Cert.PleLastBwdRefIdeal.sig) → Buf (Elt Ideal) ℓ) (g : Dev Cert.PleLastBwdRefIdeal.nD → PrngReg), Pre_PleLastBwdRefIdeal m →
    θ_run (Cert.PleLastBwdRefIdeal.defs (F := Ideal)) (onTc (τ := Cert.PleLastBwdRefIdeal.τ) (Cert.PleLastBwdRefIdeal.main (F := Ideal))) ⟨m, fun _ => 0, g⟩ (fun r => (∀ c : Dev Cert.PleLastBwdRefIdeal.nD,
      r.2.mem ((c.tc : Thread Cert.PleLastBwdRefIdeal.nD Cert.PleLastBwdRefIdeal.τ).loc Cert.PleLastBwdRefIdeal.main_arg0) = m ((c.tc : Thread Cert.PleLastBwdRefIdeal.nD Cert.PleLastBwdRefIdeal.τ).loc Cert.PleLastBwdRefIdeal.main_arg0)
      ∧ r.2.mem ((c.tc : Thread Cert.PleLastBwdRefIdeal.nD Cert.PleLastBwdRefIdeal.τ).loc Cert.PleLastBwdRefIdeal.main_arg1) = m ((c.tc : Thread Cert.PleLastBwdRefIdeal.nD Cert.PleLastBwdRefIdeal.τ).loc Cert.PleLastBwdRefIdeal.main_arg1)
      ∧ r.2.mem ((c.tc : Thread Cert.PleLastBwdRefIdeal.nD Cert.PleLastBwdRefIdeal.τ).loc Cert.PleLastBwdRefIdeal.main_arg2) = m ((c.tc : Thread Cert.PleLastBwdRefIdeal.nD Cert.PleLastBwdRefIdeal.τ).loc Cert.PleLastBwdRefIdeal.main_arg2)
      ∧ r.2.mem ((c.tc : Thread Cert.PleLastBwdRefIdeal.nD Cert.PleLastBwdRefIdeal.τ).loc Cert.PleLastBwdRefIdeal.main_arg3) = m ((c.tc : Thread Cert.PleLastBwdRefIdeal.nD Cert.PleLastBwdRefIdeal.τ).loc Cert.PleLastBwdRefIdeal.main_arg3)
      ∧ r.2.mem ((c.tc : Thread Cert.PleLastBwdRefIdeal.nD Cert.PleLastBwdRefIdeal.τ).loc Cert.PleLastBwdRefIdeal.main_arg4) = m ((c.tc : Thread Cert.PleLastBwdRefIdeal.nD Cert.PleLastBwdRefIdeal.τ).loc Cert.PleLastBwdRefIdeal.main_arg4))
      ∧ r.2.sem = fun _ => 0)

def quiescent_SumGm [hSumGm : Cert.SumGm.Facts] : Prop :=
  ∀ (m : (ℓ : Loc Cert.SumGm.nD Cert.SumGm.τ Cert.SumGm.sig) → Buf (Elt Bits) ℓ) (g : Dev Cert.SumGm.nD → PrngReg), Pre_SumGm m →
    θ_run (Cert.SumGm.defs (F := Bits)) (onTc (τ := Cert.SumGm.τ) (Cert.SumGm.main (F := Bits))) ⟨m, fun _ => 0, g⟩ (fun r => (∀ c : Dev Cert.SumGm.nD,
      r.2.mem ((c.tc : Thread Cert.SumGm.nD Cert.SumGm.τ).loc Cert.SumGm.main_arg0) = m ((c.tc : Thread Cert.SumGm.nD Cert.SumGm.τ).loc Cert.SumGm.main_arg0))
      ∧ r.2.sem = fun _ => 0)

def quiescent_SumGmIdeal [hSumGmIdeal : Cert.SumGmIdeal.Facts] : Prop :=
  ∀ (m : (ℓ : Loc Cert.SumGmIdeal.nD Cert.SumGmIdeal.τ Cert.SumGmIdeal.sig) → Buf (Elt Ideal) ℓ) (g : Dev Cert.SumGmIdeal.nD → PrngReg), Pre_SumGmIdeal m →
    θ_run (Cert.SumGmIdeal.defs (F := Ideal)) (onTc (τ := Cert.SumGmIdeal.τ) (Cert.SumGmIdeal.main (F := Ideal))) ⟨m, fun _ => 0, g⟩ (fun r => (∀ c : Dev Cert.SumGmIdeal.nD,
      r.2.mem ((c.tc : Thread Cert.SumGmIdeal.nD Cert.SumGmIdeal.τ).loc Cert.SumGmIdeal.main_arg0) = m ((c.tc : Thread Cert.SumGmIdeal.nD Cert.SumGmIdeal.τ).loc Cert.SumGmIdeal.main_arg0))
      ∧ r.2.sem = fun _ => 0)

def quiescent_SumGmRefIdeal [hSumGmRefIdeal : Cert.SumGmRefIdeal.Facts] : Prop :=
  ∀ (m : (ℓ : Loc Cert.SumGmRefIdeal.nD Cert.SumGmRefIdeal.τ Cert.SumGmRefIdeal.sig) → Buf (Elt Ideal) ℓ) (g : Dev Cert.SumGmRefIdeal.nD → PrngReg), Pre_SumGmRefIdeal m →
    θ_run (Cert.SumGmRefIdeal.defs (F := Ideal)) (onTc (τ := Cert.SumGmRefIdeal.τ) (Cert.SumGmRefIdeal.main (F := Ideal))) ⟨m, fun _ => 0, g⟩ (fun r => (∀ c : Dev Cert.SumGmRefIdeal.nD,
      r.2.mem ((c.tc : Thread Cert.SumGmRefIdeal.nD Cert.SumGmRefIdeal.τ).loc Cert.SumGmRefIdeal.main_arg0) = m ((c.tc : Thread Cert.SumGmRefIdeal.nD Cert.SumGmRefIdeal.τ).loc Cert.SumGmRefIdeal.main_arg0))
      ∧ r.2.sem = fun _ => 0)

def quiescent_SumRest [hSumRest : Cert.SumRest.Facts] : Prop :=
  ∀ (m : (ℓ : Loc Cert.SumRest.nD Cert.SumRest.τ Cert.SumRest.sig) → Buf (Elt Bits) ℓ) (g : Dev Cert.SumRest.nD → PrngReg), Pre_SumRest m →
    θ_run (Cert.SumRest.defs (F := Bits)) (onTc (τ := Cert.SumRest.τ) (Cert.SumRest.main (F := Bits))) ⟨m, fun _ => 0, g⟩ (fun r => (∀ c : Dev Cert.SumRest.nD,
      r.2.mem ((c.tc : Thread Cert.SumRest.nD Cert.SumRest.τ).loc Cert.SumRest.main_arg0) = m ((c.tc : Thread Cert.SumRest.nD Cert.SumRest.τ).loc Cert.SumRest.main_arg0))
      ∧ r.2.sem = fun _ => 0)

def quiescent_SumRestIdeal [hSumRestIdeal : Cert.SumRestIdeal.Facts] : Prop :=
  ∀ (m : (ℓ : Loc Cert.SumRestIdeal.nD Cert.SumRestIdeal.τ Cert.SumRestIdeal.sig) → Buf (Elt Ideal) ℓ) (g : Dev Cert.SumRestIdeal.nD → PrngReg), Pre_SumRestIdeal m →
    θ_run (Cert.SumRestIdeal.defs (F := Ideal)) (onTc (τ := Cert.SumRestIdeal.τ) (Cert.SumRestIdeal.main (F := Ideal))) ⟨m, fun _ => 0, g⟩ (fun r => (∀ c : Dev Cert.SumRestIdeal.nD,
      r.2.mem ((c.tc : Thread Cert.SumRestIdeal.nD Cert.SumRestIdeal.τ).loc Cert.SumRestIdeal.main_arg0) = m ((c.tc : Thread Cert.SumRestIdeal.nD Cert.SumRestIdeal.τ).loc Cert.SumRestIdeal.main_arg0))
      ∧ r.2.sem = fun _ => 0)

def quiescent_SumRestRefIdeal [hSumRestRefIdeal : Cert.SumRestRefIdeal.Facts] : Prop :=
  ∀ (m : (ℓ : Loc Cert.SumRestRefIdeal.nD Cert.SumRestRefIdeal.τ Cert.SumRestRefIdeal.sig) → Buf (Elt Ideal) ℓ) (g : Dev Cert.SumRestRefIdeal.nD → PrngReg), Pre_SumRestRefIdeal m →
    θ_run (Cert.SumRestRefIdeal.defs (F := Ideal)) (onTc (τ := Cert.SumRestRefIdeal.τ) (Cert.SumRestRefIdeal.main (F := Ideal))) ⟨m, fun _ => 0, g⟩ (fun r => (∀ c : Dev Cert.SumRestRefIdeal.nD,
      r.2.mem ((c.tc : Thread Cert.SumRestRefIdeal.nD Cert.SumRestRefIdeal.τ).loc Cert.SumRestRefIdeal.main_arg0) = m ((c.tc : Thread Cert.SumRestRefIdeal.nD Cert.SumRestRefIdeal.τ).loc Cert.SumRestRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_SpatialBwd [hSpatialBwd : Cert.SpatialBwd.Facts] : Prop :=
  ∀ (m : (ℓ : Loc Cert.SpatialBwd.nD Cert.SpatialBwd.τ Cert.SpatialBwd.sig) → Buf (Elt Bits) ℓ) (g : Dev Cert.SpatialBwd.nD → PrngReg), Pre_SpatialBwd m →
    θ_run (Cert.SpatialBwd.defs (F := Bits)) (onTc (τ := Cert.SpatialBwd.τ) (Cert.SpatialBwd.main (F := Bits))) ⟨m, fun _ => 0, g⟩ (fun r => (∀ c : Dev Cert.SpatialBwd.nD,
      r.2.mem ((c.tc : Thread Cert.SpatialBwd.nD Cert.SpatialBwd.τ).loc Cert.SpatialBwd.main_arg0) = m ((c.tc : Thread Cert.SpatialBwd.nD Cert.SpatialBwd.τ).loc Cert.SpatialBwd.main_arg0)
      ∧ r.2.mem ((c.tc : Thread Cert.SpatialBwd.nD Cert.SpatialBwd.τ).loc Cert.SpatialBwd.main_arg1) = m ((c.tc : Thread Cert.SpatialBwd.nD Cert.SpatialBwd.τ).loc Cert.SpatialBwd.main_arg1)
      ∧ r.2.mem ((c.tc : Thread Cert.SpatialBwd.nD Cert.SpatialBwd.τ).loc Cert.SpatialBwd.main_arg2) = m ((c.tc : Thread Cert.SpatialBwd.nD Cert.SpatialBwd.τ).loc Cert.SpatialBwd.main_arg2)
      ∧ r.2.mem ((c.tc : Thread Cert.SpatialBwd.nD Cert.SpatialBwd.τ).loc Cert.SpatialBwd.main_arg3) = m ((c.tc : Thread Cert.SpatialBwd.nD Cert.SpatialBwd.τ).loc Cert.SpatialBwd.main_arg3)
      ∧ r.2.mem ((c.tc : Thread Cert.SpatialBwd.nD Cert.SpatialBwd.τ).loc Cert.SpatialBwd.main_arg4) = m ((c.tc : Thread Cert.SpatialBwd.nD Cert.SpatialBwd.τ).loc Cert.SpatialBwd.main_arg4))
      ∧ r.2.sem = fun _ => 0)

def quiescent_SpatialBwdIdeal [hSpatialBwdIdeal : Cert.SpatialBwdIdeal.Facts] : Prop :=
  ∀ (m : (ℓ : Loc Cert.SpatialBwdIdeal.nD Cert.SpatialBwdIdeal.τ Cert.SpatialBwdIdeal.sig) → Buf (Elt Ideal) ℓ) (g : Dev Cert.SpatialBwdIdeal.nD → PrngReg), Pre_SpatialBwdIdeal m →
    θ_run (Cert.SpatialBwdIdeal.defs (F := Ideal)) (onTc (τ := Cert.SpatialBwdIdeal.τ) (Cert.SpatialBwdIdeal.main (F := Ideal))) ⟨m, fun _ => 0, g⟩ (fun r => (∀ c : Dev Cert.SpatialBwdIdeal.nD,
      r.2.mem ((c.tc : Thread Cert.SpatialBwdIdeal.nD Cert.SpatialBwdIdeal.τ).loc Cert.SpatialBwdIdeal.main_arg0) = m ((c.tc : Thread Cert.SpatialBwdIdeal.nD Cert.SpatialBwdIdeal.τ).loc Cert.SpatialBwdIdeal.main_arg0)
      ∧ r.2.mem ((c.tc : Thread Cert.SpatialBwdIdeal.nD Cert.SpatialBwdIdeal.τ).loc Cert.SpatialBwdIdeal.main_arg1) = m ((c.tc : Thread Cert.SpatialBwdIdeal.nD Cert.SpatialBwdIdeal.τ).loc Cert.SpatialBwdIdeal.main_arg1)
      ∧ r.2.mem ((c.tc : Thread Cert.SpatialBwdIdeal.nD Cert.SpatialBwdIdeal.τ).loc Cert.SpatialBwdIdeal.main_arg2) = m ((c.tc : Thread Cert.SpatialBwdIdeal.nD Cert.SpatialBwdIdeal.τ).loc Cert.SpatialBwdIdeal.main_arg2)
      ∧ r.2.mem ((c.tc : Thread Cert.SpatialBwdIdeal.nD Cert.SpatialBwdIdeal.τ).loc Cert.SpatialBwdIdeal.main_arg3) = m ((c.tc : Thread Cert.SpatialBwdIdeal.nD Cert.SpatialBwdIdeal.τ).loc Cert.SpatialBwdIdeal.main_arg3)
      ∧ r.2.mem ((c.tc : Thread Cert.SpatialBwdIdeal.nD Cert.SpatialBwdIdeal.τ).loc Cert.SpatialBwdIdeal.main_arg4) = m ((c.tc : Thread Cert.SpatialBwdIdeal.nD Cert.SpatialBwdIdeal.τ).loc Cert.SpatialBwdIdeal.main_arg4))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3)
      ∧ r.2.mem ((c.tc : Thread Cert.SpatialRefIdeal.nD Cert.SpatialRefIdeal.τ).loc Cert.SpatialRefIdeal.main_arg4) = m ((c.tc : Thread Cert.SpatialRefIdeal.nD Cert.SpatialRefIdeal.τ).loc Cert.SpatialRefIdeal.main_arg4))
      ∧ r.2.sem = fun _ => 0)

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)) →
    ∃ (v0 : (c : Dev Cert.InDxIdeal.nD) → Buf (Elt Ideal) ((c.tc : Thread Cert.InDxIdeal.nD Cert.InDxIdeal.τ).loc Cert.InDxIdeal.main_v8)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v8) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v7) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v9) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v2_0)) (v1 : (c : Dev Cert.DownDxIdeal.nD) → Buf (Elt Ideal) ((c.tc : Thread Cert.DownDxIdeal.nD Cert.DownDxIdeal.τ).loc Cert.DownDxIdeal.main_v2_1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2_0) = v0 c
          ∧ r.2.mem ((c.tc : Thread Cert.DownDxIdeal.nD Cert.DownDxIdeal.τ).loc Cert.DownDxIdeal.main_v2_1) = v1 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v8) = v0 c
          ∧ r.2.mem ((c.tc : Thread Cert.DownDxRefIdeal.nD Cert.DownDxRefIdeal.τ).loc Cert.DownDxRefIdeal.main_v9) = v1 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v8_0)) (v1 : (c : Dev Cert.GateUpIdeal.nD) → Buf (Elt Ideal) ((c.tc : Thread Cert.GateUpIdeal.nD Cert.GateUpIdeal.τ).loc Cert.GateUpIdeal.main_v8_1)) (v2 : (c : Dev Cert.GateUpIdeal.nD) → Buf (Elt Ideal) ((c.tc : Thread Cert.GateUpIdeal.nD Cert.GateUpIdeal.τ).loc Cert.GateUpIdeal.main_v8_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v8_0) = v0 c
          ∧ r.2.mem ((c.tc : Thread Cert.GateUpIdeal.nD Cert.GateUpIdeal.τ).loc Cert.GateUpIdeal.main_v8_1) = v1 c
          ∧ r.2.mem ((c.tc : Thread Cert.GateUpIdeal.nD Cert.GateUpIdeal.τ).loc Cert.GateUpIdeal.main_v8_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v1) = v0 c
          ∧ r.2.mem ((c.tc : Thread Cert.GateUpRefIdeal.nD Cert.GateUpRefIdeal.τ).loc Cert.GateUpRefIdeal.main_v2) = v1 c
          ∧ r.2.mem ((c.tc : Thread Cert.GateUpRefIdeal.nD Cert.GateUpRefIdeal.τ).loc Cert.GateUpRefIdeal.main_v5) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v1) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_HgIn_HgInIdeal : Prop :=
  True

def algebraic_HgInIdeal_HgInRefIdeal [hHgInIdeal : Cert.HgInIdeal.Facts] [hHgInRefIdeal : Cert.HgInRefIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInRefIdeal.nD Cert.HgInRefIdeal.τ Cert.HgInRefIdeal.sig) → Buf (Elt Ideal) ℓ) (g' : Dev Cert.HgInRefIdeal.nD → PrngReg), Pre_HgInIdeal m →
    (∀ c : Dev Cert.HgInIdeal.nD,
      m' ((c.tc : Thread Cert.HgInRefIdeal.nD Cert.HgInRefIdeal.τ).loc Cert.HgInRefIdeal.main_arg0) = m ((c.tc : Thread Cert.HgInIdeal.nD Cert.HgInIdeal.τ).loc Cert.HgInIdeal.main_arg0)
      ∧ m' ((c.tc : Thread Cert.HgInRefIdeal.nD Cert.HgInRefIdeal.τ).loc Cert.HgInRefIdeal.main_arg1) = m ((c.tc : Thread Cert.HgInIdeal.nD Cert.HgInIdeal.τ).loc Cert.HgInIdeal.main_arg1)) →
    ∃ (v0 : (c : Dev Cert.HgInIdeal.nD) → Buf (Elt Ideal) ((c.tc : Thread Cert.HgInIdeal.nD Cert.HgInIdeal.τ).loc Cert.HgInIdeal.main_v4)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v4) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ θ_run (Cert.HgInRefIdeal.defs (F := Ideal)) (onTc (τ := Cert.HgInRefIdeal.τ) (Cert.HgInRefIdeal.main (F := Ideal))) ⟨m', fun _ => 0, g'⟩ (fun r => ∀ c : Dev Cert.HgInRefIdeal.nD,
          r.2.mem ((c.tc : Thread Cert.HgInRefIdeal.nD Cert.HgInRefIdeal.τ).loc Cert.HgInRefIdeal.main_v10) = v0 c
          ∧ r.2.mem ((c.tc : Thread Cert.HgInRefIdeal.nD Cert.HgInRefIdeal.τ).loc Cert.HgInRefIdeal.main_arg0) = m' ((c.tc : Thread Cert.HgInRefIdeal.nD Cert.HgInRefIdeal.τ).loc Cert.HgInRefIdeal.main_arg0)
          ∧ r.2.mem ((c.tc : Thread Cert.HgInRefIdeal.nD Cert.HgInRefIdeal.τ).loc Cert.HgInRefIdeal.main_arg1) = m' ((c.tc : Thread Cert.HgInRefIdeal.nD Cert.HgInRefIdeal.τ).loc Cert.HgInRefIdeal.main_arg1))

def preserves_HgInDx_HgInDxIdeal : Prop :=
  True

def algebraic_HgInDxIdeal_HgInDxRefIdeal [hHgInDxIdeal : Cert.HgInDxIdeal.Facts] [hHgInDxRefIdeal : Cert.HgInDxRefIdeal.Facts] : Prop :=
  ∀ (m : (ℓ : Loc Cert.HgInDxIdeal.nD Cert.HgInDxIdeal.τ Cert.HgInDxIdeal.sig) → Buf (Elt Ideal) ℓ) (g : Dev Cert.HgInDxIdeal.nD → PrngReg)
    (m' : (ℓ : Loc Cert.HgInDxRefIdeal.nD Cert.HgInDxRefIdeal.τ Cert.HgInDxRefIdeal.sig) → Buf (Elt Ideal) ℓ) (g' : Dev Cert.HgInDxRefIdeal.nD → PrngReg), Pre_HgInDxIdeal m →
    (∀ c : Dev Cert.HgInDxIdeal.nD,
      m' ((c.tc : Thread Cert.HgInDxRefIdeal.nD Cert.HgInDxRefIdeal.τ).loc Cert.HgInDxRefIdeal.main_arg0) = m ((c.tc : Thread Cert.HgInDxIdeal.nD Cert.HgInDxIdeal.τ).loc Cert.HgInDxIdeal.main_arg0)
      ∧ m' ((c.tc : Thread Cert.HgInDxRefIdeal.nD Cert.HgInDxRefIdeal.τ).loc Cert.HgInDxRefIdeal.main_arg1) = m ((c.tc : Thread Cert.HgInDxIdeal.nD Cert.HgInDxIdeal.τ).loc Cert.HgInDxIdeal.main_arg1)) →
    ∃ (v0 : (c : Dev Cert.HgInDxIdeal.nD) → Buf (Elt Ideal) ((c.tc : Thread Cert.HgInDxIdeal.nD Cert.HgInDxIdeal.τ).loc Cert.HgInDxIdeal.main_v4)),
      θ_run (Cert.HgInDxIdeal.defs (F := Ideal)) (onTc (τ := Cert.HgInDxIdeal.τ) (Cert.HgInDxIdeal.main (F := Ideal))) ⟨m, fun _ => 0, g⟩ (fun r => ∀ c : Dev Cert.HgInDxIdeal.nD,
          r.2.mem ((c.tc : Thread Cert.HgInDxIdeal.nD Cert.HgInDxIdeal.τ).loc Cert.HgInDxIdeal.main_v4) = v0 c
          ∧ r.2.mem ((c.tc : Thread Cert.HgInDxIdeal.nD Cert.HgInDxIdeal.τ).loc Cert.HgInDxIdeal.main_arg0) = m ((c.tc : Thread Cert.HgInDxIdeal.nD Cert.HgInDxIdeal.τ).loc Cert.HgInDxIdeal.main_arg0)
          ∧ r.2.mem ((c.tc : Thread Cert.HgInDxIdeal.nD Cert.HgInDxIdeal.τ).loc Cert.HgInDxIdeal.main_arg1) = m ((c.tc : Thread Cert.HgInDxIdeal.nD Cert.HgInDxIdeal.τ).loc Cert.HgInDxIdeal.main_arg1))
      ∧ θ_run (Cert.HgInDxRefIdeal.defs (F := Ideal)) (onTc (τ := Cert.HgInDxRefIdeal.τ) (Cert.HgInDxRefIdeal.main (F := Ideal))) ⟨m', fun _ => 0, g'⟩ (fun r => ∀ c : Dev Cert.HgInDxRefIdeal.nD,
          r.2.mem ((c.tc : Thread Cert.HgInDxRefIdeal.nD Cert.HgInDxRefIdeal.τ).loc Cert.HgInDxRefIdeal.main_v21) = v0 c
          ∧ r.2.mem ((c.tc : Thread Cert.HgInDxRefIdeal.nD Cert.HgInDxRefIdeal.τ).loc Cert.HgInDxRefIdeal.main_arg0) = m' ((c.tc : Thread Cert.HgInDxRefIdeal.nD Cert.HgInDxRefIdeal.τ).loc Cert.HgInDxRefIdeal.main_arg0)
          ∧ r.2.mem ((c.tc : Thread Cert.HgInDxRefIdeal.nD Cert.HgInDxRefIdeal.τ).loc Cert.HgInDxRefIdeal.main_arg1) = m' ((c.tc : Thread Cert.HgInDxRefIdeal.nD Cert.HgInDxRefIdeal.τ).loc Cert.HgInDxRefIdeal.main_arg1))

def preserves_HgInDw_HgInDwIdeal : Prop :=
  True

def algebraic_HgInDwIdeal_HgInDwRefIdeal [hHgInDwIdeal : Cert.HgInDwIdeal.Facts] [hHgInDwRefIdeal : Cert.HgInDwRefIdeal.Facts] : Prop :=
  ∀ (m : (ℓ : Loc Cert.HgInDwIdeal.nD Cert.HgInDwIdeal.τ Cert.HgInDwIdeal.sig) → Buf (Elt Ideal) ℓ) (g : Dev Cert.HgInDwIdeal.nD → PrngReg)
    (m' : (ℓ : Loc Cert.HgInDwRefIdeal.nD Cert.HgInDwRefIdeal.τ Cert.HgInDwRefIdeal.sig) → Buf (Elt Ideal) ℓ) (g' : Dev Cert.HgInDwRefIdeal.nD → PrngReg), Pre_HgInDwIdeal m →
    (∀ c : Dev Cert.HgInDwIdeal.nD,
      m' ((c.tc : Thread Cert.HgInDwRefIdeal.nD Cert.HgInDwRefIdeal.τ).loc Cert.HgInDwRefIdeal.main_arg0) = m ((c.tc : Thread Cert.HgInDwIdeal.nD Cert.HgInDwIdeal.τ).loc Cert.HgInDwIdeal.main_arg0)
      ∧ m' ((c.tc : Thread Cert.HgInDwRefIdeal.nD Cert.HgInDwRefIdeal.τ).loc Cert.HgInDwRefIdeal.main_arg1) = m ((c.tc : Thread Cert.HgInDwIdeal.nD Cert.HgInDwIdeal.τ).loc Cert.HgInDwIdeal.main_arg1)
      ∧ m' ((c.tc : Thread Cert.HgInDwRefIdeal.nD Cert.HgInDwRefIdeal.τ).loc Cert.HgInDwRefIdeal.main_arg2) = m ((c.tc : Thread Cert.HgInDwIdeal.nD Cert.HgInDwIdeal.τ).loc Cert.HgInDwIdeal.main_arg2)) →
    ∃ (v0 : (c : Dev Cert.HgInDwIdeal.nD) → Buf (Elt Ideal) ((c.tc : Thread Cert.HgInDwIdeal.nD Cert.HgInDwIdeal.τ).loc Cert.HgInDwIdeal.main_v0)),
      θ_run (Cert.HgInDwIdeal.defs (F := Ideal)) (onTc (τ := Cert.HgInDwIdeal.τ) (Cert.HgInDwIdeal.main (F := Ideal))) ⟨m, fun _ => 0, g⟩ (fun r => ∀ c : Dev Cert.HgInDwIdeal.nD,
          r.2.mem ((c.tc : Thread Cert.HgInDwIdeal.nD Cert.HgInDwIdeal.τ).loc Cert.HgInDwIdeal.main_v0) = v0 c
          ∧ r.2.mem ((c.tc : Thread Cert.HgInDwIdeal.nD Cert.HgInDwIdeal.τ).loc Cert.HgInDwIdeal.main_arg0) = m ((c.tc : Thread Cert.HgInDwIdeal.nD Cert.HgInDwIdeal.τ).loc Cert.HgInDwIdeal.main_arg0)
          ∧ r.2.mem ((c.tc : Thread Cert.HgInDwIdeal.nD Cert.HgInDwIdeal.τ).loc Cert.HgInDwIdeal.main_arg1) = m ((c.tc : Thread Cert.HgInDwIdeal.nD Cert.HgInDwIdeal.τ).loc Cert.HgInDwIdeal.main_arg1)
          ∧ r.2.mem ((c.tc : Thread Cert.HgInDwIdeal.nD Cert.HgInDwIdeal.τ).loc Cert.HgInDwIdeal.main_arg2) = m ((c.tc : Thread Cert.HgInDwIdeal.nD Cert.HgInDwIdeal.τ).loc Cert.HgInDwIdeal.main_arg2))
      ∧ θ_run (Cert.HgInDwRefIdeal.defs (F := Ideal)) (onTc (τ := Cert.HgInDwRefIdeal.τ) (Cert.HgInDwRefIdeal.main (F := Ideal))) ⟨m', fun _ => 0, g'⟩ (fun r => ∀ c : Dev Cert.HgInDwRefIdeal.nD,
          r.2.mem ((c.tc : Thread Cert.HgInDwRefIdeal.nD Cert.HgInDwRefIdeal.τ).loc Cert.HgInDwRefIdeal.main_v27) = v0 c
          ∧ r.2.mem ((c.tc : Thread Cert.HgInDwRefIdeal.nD Cert.HgInDwRefIdeal.τ).loc Cert.HgInDwRefIdeal.main_arg0) = m' ((c.tc : Thread Cert.HgInDwRefIdeal.nD Cert.HgInDwRefIdeal.τ).loc Cert.HgInDwRefIdeal.main_arg0)
          ∧ r.2.mem ((c.tc : Thread Cert.HgInDwRefIdeal.nD Cert.HgInDwRefIdeal.τ).loc Cert.HgInDwRefIdeal.main_arg1) = m' ((c.tc : Thread Cert.HgInDwRefIdeal.nD Cert.HgInDwRefIdeal.τ).loc Cert.HgInDwRefIdeal.main_arg1)
          ∧ r.2.mem ((c.tc : Thread Cert.HgInDwRefIdeal.nD Cert.HgInDwRefIdeal.τ).loc Cert.HgInDwRefIdeal.main_arg2) = m' ((c.tc : Thread Cert.HgInDwRefIdeal.nD Cert.HgInDwRefIdeal.τ).loc Cert.HgInDwRefIdeal.main_arg2))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v4)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v4) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v1) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_GmInDx_GmInDxIdeal : Prop :=
  True

def algebraic_GmInDxIdeal_GmInDxRefIdeal [hGmInDxIdeal : Cert.GmInDxIdeal.Facts] [hGmInDxRefIdeal : Cert.GmInDxRefIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg)
    (m' : (ℓ : Loc Cert.GmInDxRefIdeal.nD Cert.GmInDxRefIdeal.τ Cert.GmInDxRefIdeal.sig) → Buf (Elt Ideal) ℓ) (g' : Dev Cert.GmInDxRefIdeal.nD → PrngReg), Pre_GmInDxIdeal m →
    (∀ c : Dev Cert.GmInDxIdeal.nD,
      m' ((c.tc : Thread Cert.GmInDxRefIdeal.nD Cert.GmInDxRefIdeal.τ).loc Cert.GmInDxRefIdeal.main_arg0) = m ((c.tc : Thread Cert.GmInDxIdeal.nD Cert.GmInDxIdeal.τ).loc Cert.GmInDxIdeal.main_arg0)
      ∧ m' ((c.tc : Thread Cert.GmInDxRefIdeal.nD Cert.GmInDxRefIdeal.τ).loc Cert.GmInDxRefIdeal.main_arg1) = m ((c.tc : Thread Cert.GmInDxIdeal.nD Cert.GmInDxIdeal.τ).loc Cert.GmInDxIdeal.main_arg1)) →
    ∃ (v0 : (c : Dev Cert.GmInDxIdeal.nD) → Buf (Elt Ideal) ((c.tc : Thread Cert.GmInDxIdeal.nD Cert.GmInDxIdeal.τ).loc Cert.GmInDxIdeal.main_v4)),
      θ_run (Cert.GmInDxIdeal.defs (F := Ideal)) (onTc (τ := Cert.GmInDxIdeal.τ) (Cert.GmInDxIdeal.main (F := Ideal))) ⟨m, fun _ => 0, g⟩ (fun r => ∀ c : Dev Cert.GmInDxIdeal.nD,
          r.2.mem ((c.tc : Thread Cert.GmInDxIdeal.nD Cert.GmInDxIdeal.τ).loc Cert.GmInDxIdeal.main_v4) = v0 c
          ∧ r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
          ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ θ_run (Cert.GmInDxRefIdeal.defs (F := Ideal)) (onTc (τ := Cert.GmInDxRefIdeal.τ) (Cert.GmInDxRefIdeal.main (F := Ideal))) ⟨m', fun _ => 0, g'⟩ (fun r => ∀ c : Dev Cert.GmInDxRefIdeal.nD,
          r.2.mem ((c.tc : Thread Cert.GmInDxRefIdeal.nD Cert.GmInDxRefIdeal.τ).loc Cert.GmInDxRefIdeal.main_v3) = v0 c
          ∧ r.2.mem ((c.tc : Thread Cert.GmInDxRefIdeal.nD Cert.GmInDxRefIdeal.τ).loc Cert.GmInDxRefIdeal.main_arg0) = m' ((c.tc : Thread Cert.GmInDxRefIdeal.nD Cert.GmInDxRefIdeal.τ).loc Cert.GmInDxRefIdeal.main_arg0)
          ∧ r.2.mem ((c.tc : Thread Cert.GmInDxRefIdeal.nD Cert.GmInDxRefIdeal.τ).loc Cert.GmInDxRefIdeal.main_arg1) = m' ((c.tc : Thread Cert.GmInDxRefIdeal.nD Cert.GmInDxRefIdeal.τ).loc Cert.GmInDxRefIdeal.main_arg1))

def preserves_GmInDw_GmInDwIdeal : Prop :=
  True

def algebraic_GmInDwIdeal_GmInDwRefIdeal [hGmInDwIdeal : Cert.GmInDwIdeal.Facts] [hGmInDwRefIdeal : Cert.GmInDwRefIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg)
    (m' : (ℓ : Loc Cert.GmInDwRefIdeal.nD Cert.GmInDwRefIdeal.τ Cert.GmInDwRefIdeal.sig) → Buf (Elt Ideal) ℓ) (g' : Dev Cert.GmInDwRefIdeal.nD → PrngReg), Pre_GmInDwIdeal m →
    (∀ c : Dev Cert.GmInDwIdeal.nD,
      m' ((c.tc : Thread Cert.GmInDwRefIdeal.nD Cert.GmInDwRefIdeal.τ).loc Cert.GmInDwRefIdeal.main_arg0) = m ((c.tc : Thread Cert.GmInDwIdeal.nD Cert.GmInDwIdeal.τ).loc Cert.GmInDwIdeal.main_arg0)
      ∧ m' ((c.tc : Thread Cert.GmInDwRefIdeal.nD Cert.GmInDwRefIdeal.τ).loc Cert.GmInDwRefIdeal.main_arg1) = m ((c.tc : Thread Cert.GmInDwIdeal.nD Cert.GmInDwIdeal.τ).loc Cert.GmInDwIdeal.main_arg1)
      ∧ m' ((c.tc : Thread Cert.GmInDwRefIdeal.nD Cert.GmInDwRefIdeal.τ).loc Cert.GmInDwRefIdeal.main_arg2) = m ((c.tc : Thread Cert.GmInDwIdeal.nD Cert.GmInDwIdeal.τ).loc Cert.GmInDwIdeal.main_arg2)) →
    ∃ (v0 : (c : Dev Cert.GmInDwIdeal.nD) → Buf (Elt Ideal) ((c.tc : Thread Cert.GmInDwIdeal.nD Cert.GmInDwIdeal.τ).loc Cert.GmInDwIdeal.main_v0)),
      θ_run (Cert.GmInDwIdeal.defs (F := Ideal)) (onTc (τ := Cert.GmInDwIdeal.τ) (Cert.GmInDwIdeal.main (F := Ideal))) ⟨m, fun _ => 0, g⟩ (fun r => ∀ c : Dev Cert.GmInDwIdeal.nD,
          r.2.mem ((c.tc : Thread Cert.GmInDwIdeal.nD Cert.GmInDwIdeal.τ).loc Cert.GmInDwIdeal.main_v0) = v0 c
          ∧ r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
          ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1)
          ∧ r.2.mem ((c.tc : Thread Cert.GmInDwIdeal.nD Cert.GmInDwIdeal.τ).loc Cert.GmInDwIdeal.main_arg2) = m ((c.tc : Thread Cert.GmInDwIdeal.nD Cert.GmInDwIdeal.τ).loc Cert.GmInDwIdeal.main_arg2))
      ∧ θ_run (Cert.GmInDwRefIdeal.defs (F := Ideal)) (onTc (τ := Cert.GmInDwRefIdeal.τ) (Cert.GmInDwRefIdeal.main (F := Ideal))) ⟨m', fun _ => 0, g'⟩ (fun r => ∀ c : Dev Cert.GmInDwRefIdeal.nD,
          r.2.mem ((c.tc : Thread Cert.GmInDwRefIdeal.nD Cert.GmInDwRefIdeal.τ).loc Cert.GmInDwRefIdeal.main_v9) = v0 c
          ∧ r.2.mem ((c.tc : Thread Cert.GmInDwRefIdeal.nD Cert.GmInDwRefIdeal.τ).loc Cert.GmInDwRefIdeal.main_arg0) = m' ((c.tc : Thread Cert.GmInDwRefIdeal.nD Cert.GmInDwRefIdeal.τ).loc Cert.GmInDwRefIdeal.main_arg0)
          ∧ r.2.mem ((c.tc : Thread Cert.GmInDwRefIdeal.nD Cert.GmInDwRefIdeal.τ).loc Cert.GmInDwRefIdeal.main_arg1) = m' ((c.tc : Thread Cert.GmInDwRefIdeal.nD Cert.GmInDwRefIdeal.τ).loc Cert.GmInDwRefIdeal.main_arg1)
          ∧ r.2.mem ((c.tc : Thread Cert.GmInDwRefIdeal.nD Cert.GmInDwRefIdeal.τ).loc Cert.GmInDwRefIdeal.main_arg2) = m' ((c.tc : Thread Cert.GmInDwRefIdeal.nD Cert.GmInDwRefIdeal.τ).loc Cert.GmInDwRefIdeal.main_arg2))

def preserves_HgOut_HgOutIdeal : Prop :=
  True

def algebraic_HgOutIdeal_HgOutRefIdeal [hHgOutIdeal : Cert.HgOutIdeal.Facts] [hHgOutRefIdeal : Cert.HgOutRefIdeal.Facts] : Prop :=
  ∀ (m : (ℓ : Loc Cert.HgOutIdeal.nD Cert.HgOutIdeal.τ Cert.HgOutIdeal.sig) → Buf (Elt Ideal) ℓ) (g : Dev Cert.HgOutIdeal.nD → PrngReg)
    (m' : (ℓ : Loc Cert.HgOutRefIdeal.nD Cert.HgOutRefIdeal.τ Cert.HgOutRefIdeal.sig) → Buf (Elt Ideal) ℓ) (g' : Dev Cert.HgOutRefIdeal.nD → PrngReg), Pre_HgOutIdeal m →
    (∀ c : Dev Cert.HgOutIdeal.nD,
      m' ((c.tc : Thread Cert.HgOutRefIdeal.nD Cert.HgOutRefIdeal.τ).loc Cert.HgOutRefIdeal.main_arg0) = m ((c.tc : Thread Cert.HgOutIdeal.nD Cert.HgOutIdeal.τ).loc Cert.HgOutIdeal.main_arg0)
      ∧ m' ((c.tc : Thread Cert.HgOutRefIdeal.nD Cert.HgOutRefIdeal.τ).loc Cert.HgOutRefIdeal.main_arg1) = m ((c.tc : Thread Cert.HgOutIdeal.nD Cert.HgOutIdeal.τ).loc Cert.HgOutIdeal.main_arg1)) →
    ∃ (v0 : (c : Dev Cert.HgOutIdeal.nD) → Buf (Elt Ideal) ((c.tc : Thread Cert.HgOutIdeal.nD Cert.HgOutIdeal.τ).loc Cert.HgOutIdeal.main_v2)),
      θ_run (Cert.HgOutIdeal.defs (F := Ideal)) (onTc (τ := Cert.HgOutIdeal.τ) (Cert.HgOutIdeal.main (F := Ideal))) ⟨m, fun _ => 0, g⟩ (fun r => ∀ c : Dev Cert.HgOutIdeal.nD,
          r.2.mem ((c.tc : Thread Cert.HgOutIdeal.nD Cert.HgOutIdeal.τ).loc Cert.HgOutIdeal.main_v2) = v0 c
          ∧ r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
          ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1))
      ∧ θ_run (Cert.HgOutRefIdeal.defs (F := Ideal)) (onTc (τ := Cert.HgOutRefIdeal.τ) (Cert.HgOutRefIdeal.main (F := Ideal))) ⟨m', fun _ => 0, g'⟩ (fun r => ∀ c : Dev Cert.HgOutRefIdeal.nD,
          r.2.mem ((c.tc : Thread Cert.HgOutRefIdeal.nD Cert.HgOutRefIdeal.τ).loc Cert.HgOutRefIdeal.main_v1) = v0 c
          ∧ r.2.mem ((c.tc : Thread Cert.HgOutRefIdeal.nD Cert.HgOutRefIdeal.τ).loc Cert.HgOutRefIdeal.main_arg0) = m' ((c.tc : Thread Cert.HgOutRefIdeal.nD Cert.HgOutRefIdeal.τ).loc Cert.HgOutRefIdeal.main_arg0)
          ∧ r.2.mem ((c.tc : Thread Cert.HgOutRefIdeal.nD Cert.HgOutRefIdeal.τ).loc Cert.HgOutRefIdeal.main_arg1) = m' ((c.tc : Thread Cert.HgOutRefIdeal.nD Cert.HgOutRefIdeal.τ).loc Cert.HgOutRefIdeal.main_arg1))

def preserves_HgOutDx_HgOutDxIdeal : Prop :=
  True

def algebraic_HgOutDxIdeal_HgOutDxRefIdeal [hHgOutDxIdeal : Cert.HgOutDxIdeal.Facts] [hHgOutDxRefIdeal : Cert.HgOutDxRefIdeal.Facts] : Prop :=
  ∀ (m : (ℓ : Loc Cert.HgOutDxIdeal.nD Cert.HgOutDxIdeal.τ Cert.HgOutDxIdeal.sig) → Buf (Elt Ideal) ℓ) (g : Dev Cert.HgOutDxIdeal.nD → PrngReg)
    (m' : (ℓ : Loc Cert.HgOutDxRefIdeal.nD Cert.HgOutDxRefIdeal.τ Cert.HgOutDxRefIdeal.sig) → Buf (Elt Ideal) ℓ) (g' : Dev Cert.HgOutDxRefIdeal.nD → PrngReg), Pre_HgOutDxIdeal m →
    (∀ c : Dev Cert.HgOutDxIdeal.nD,
      m' ((c.tc : Thread Cert.HgOutDxRefIdeal.nD Cert.HgOutDxRefIdeal.τ).loc Cert.HgOutDxRefIdeal.main_arg0) = m ((c.tc : Thread Cert.HgOutDxIdeal.nD Cert.HgOutDxIdeal.τ).loc Cert.HgOutDxIdeal.main_arg0)
      ∧ m' ((c.tc : Thread Cert.HgOutDxRefIdeal.nD Cert.HgOutDxRefIdeal.τ).loc Cert.HgOutDxRefIdeal.main_arg1) = m ((c.tc : Thread Cert.HgOutDxIdeal.nD Cert.HgOutDxIdeal.τ).loc Cert.HgOutDxIdeal.main_arg1)) →
    ∃ (v0 : (c : Dev Cert.HgOutDxIdeal.nD) → Buf (Elt Ideal) ((c.tc : Thread Cert.HgOutDxIdeal.nD Cert.HgOutDxIdeal.τ).loc Cert.HgOutDxIdeal.main_v2)),
      θ_run (Cert.HgOutDxIdeal.defs (F := Ideal)) (onTc (τ := Cert.HgOutDxIdeal.τ) (Cert.HgOutDxIdeal.main (F := Ideal))) ⟨m, fun _ => 0, g⟩ (fun r => ∀ c : Dev Cert.HgOutDxIdeal.nD,
          r.2.mem ((c.tc : Thread Cert.HgOutDxIdeal.nD Cert.HgOutDxIdeal.τ).loc Cert.HgOutDxIdeal.main_v2) = v0 c
          ∧ r.2.mem ((c.tc : Thread Cert.HgOutDxIdeal.nD Cert.HgOutDxIdeal.τ).loc Cert.HgOutDxIdeal.main_arg0) = m ((c.tc : Thread Cert.HgOutDxIdeal.nD Cert.HgOutDxIdeal.τ).loc Cert.HgOutDxIdeal.main_arg0)
          ∧ r.2.mem ((c.tc : Thread Cert.HgOutDxIdeal.nD Cert.HgOutDxIdeal.τ).loc Cert.HgOutDxIdeal.main_arg1) = m ((c.tc : Thread Cert.HgOutDxIdeal.nD Cert.HgOutDxIdeal.τ).loc Cert.HgOutDxIdeal.main_arg1))
      ∧ θ_run (Cert.HgOutDxRefIdeal.defs (F := Ideal)) (onTc (τ := Cert.HgOutDxRefIdeal.τ) (Cert.HgOutDxRefIdeal.main (F := Ideal))) ⟨m', fun _ => 0, g'⟩ (fun r => ∀ c : Dev Cert.HgOutDxRefIdeal.nD,
          r.2.mem ((c.tc : Thread Cert.HgOutDxRefIdeal.nD Cert.HgOutDxRefIdeal.τ).loc Cert.HgOutDxRefIdeal.main_v3) = v0 c
          ∧ r.2.mem ((c.tc : Thread Cert.HgOutDxRefIdeal.nD Cert.HgOutDxRefIdeal.τ).loc Cert.HgOutDxRefIdeal.main_arg0) = m' ((c.tc : Thread Cert.HgOutDxRefIdeal.nD Cert.HgOutDxRefIdeal.τ).loc Cert.HgOutDxRefIdeal.main_arg0)
          ∧ r.2.mem ((c.tc : Thread Cert.HgOutDxRefIdeal.nD Cert.HgOutDxRefIdeal.τ).loc Cert.HgOutDxRefIdeal.main_arg1) = m' ((c.tc : Thread Cert.HgOutDxRefIdeal.nD Cert.HgOutDxRefIdeal.τ).loc Cert.HgOutDxRefIdeal.main_arg1))

def preserves_HgOutDw_HgOutDwIdeal : Prop :=
  True

def algebraic_HgOutDwIdeal_HgOutDwRefIdeal [hHgOutDwIdeal : Cert.HgOutDwIdeal.Facts] [hHgOutDwRefIdeal : Cert.HgOutDwRefIdeal.Facts] : Prop :=
  ∀ (m : (ℓ : Loc Cert.HgOutDwIdeal.nD Cert.HgOutDwIdeal.τ Cert.HgOutDwIdeal.sig) → Buf (Elt Ideal) ℓ) (g : Dev Cert.HgOutDwIdeal.nD → PrngReg)
    (m' : (ℓ : Loc Cert.HgOutDwRefIdeal.nD Cert.HgOutDwRefIdeal.τ Cert.HgOutDwRefIdeal.sig) → Buf (Elt Ideal) ℓ) (g' : Dev Cert.HgOutDwRefIdeal.nD → PrngReg), Pre_HgOutDwIdeal m →
    (∀ c : Dev Cert.HgOutDwIdeal.nD,
      m' ((c.tc : Thread Cert.HgOutDwRefIdeal.nD Cert.HgOutDwRefIdeal.τ).loc Cert.HgOutDwRefIdeal.main_arg0) = m ((c.tc : Thread Cert.HgOutDwIdeal.nD Cert.HgOutDwIdeal.τ).loc Cert.HgOutDwIdeal.main_arg0)
      ∧ m' ((c.tc : Thread Cert.HgOutDwRefIdeal.nD Cert.HgOutDwRefIdeal.τ).loc Cert.HgOutDwRefIdeal.main_arg1) = m ((c.tc : Thread Cert.HgOutDwIdeal.nD Cert.HgOutDwIdeal.τ).loc Cert.HgOutDwIdeal.main_arg1)
      ∧ m' ((c.tc : Thread Cert.HgOutDwRefIdeal.nD Cert.HgOutDwRefIdeal.τ).loc Cert.HgOutDwRefIdeal.main_arg2) = m ((c.tc : Thread Cert.HgOutDwIdeal.nD Cert.HgOutDwIdeal.τ).loc Cert.HgOutDwIdeal.main_arg2)) →
    ∃ (v0 : (c : Dev Cert.HgOutDwIdeal.nD) → Buf (Elt Ideal) ((c.tc : Thread Cert.HgOutDwIdeal.nD Cert.HgOutDwIdeal.τ).loc Cert.HgOutDwIdeal.main_v0)),
      θ_run (Cert.HgOutDwIdeal.defs (F := Ideal)) (onTc (τ := Cert.HgOutDwIdeal.τ) (Cert.HgOutDwIdeal.main (F := Ideal))) ⟨m, fun _ => 0, g⟩ (fun r => ∀ c : Dev Cert.HgOutDwIdeal.nD,
          r.2.mem ((c.tc : Thread Cert.HgOutDwIdeal.nD Cert.HgOutDwIdeal.τ).loc Cert.HgOutDwIdeal.main_v0) = v0 c
          ∧ r.2.mem ((c.tc : Thread Cert.HgOutDwIdeal.nD Cert.HgOutDwIdeal.τ).loc Cert.HgOutDwIdeal.main_arg0) = m ((c.tc : Thread Cert.HgOutDwIdeal.nD Cert.HgOutDwIdeal.τ).loc Cert.HgOutDwIdeal.main_arg0)
          ∧ r.2.mem ((c.tc : Thread Cert.HgOutDwIdeal.nD Cert.HgOutDwIdeal.τ).loc Cert.HgOutDwIdeal.main_arg1) = m ((c.tc : Thread Cert.HgOutDwIdeal.nD Cert.HgOutDwIdeal.τ).loc Cert.HgOutDwIdeal.main_arg1)
          ∧ r.2.mem ((c.tc : Thread Cert.HgOutDwIdeal.nD Cert.HgOutDwIdeal.τ).loc Cert.HgOutDwIdeal.main_arg2) = m ((c.tc : Thread Cert.HgOutDwIdeal.nD Cert.HgOutDwIdeal.τ).loc Cert.HgOutDwIdeal.main_arg2))
      ∧ θ_run (Cert.HgOutDwRefIdeal.defs (F := Ideal)) (onTc (τ := Cert.HgOutDwRefIdeal.τ) (Cert.HgOutDwRefIdeal.main (F := Ideal))) ⟨m', fun _ => 0, g'⟩ (fun r => ∀ c : Dev Cert.HgOutDwRefIdeal.nD,
          r.2.mem ((c.tc : Thread Cert.HgOutDwRefIdeal.nD Cert.HgOutDwRefIdeal.τ).loc Cert.HgOutDwRefIdeal.main_v7) = v0 c
          ∧ r.2.mem ((c.tc : Thread Cert.HgOutDwRefIdeal.nD Cert.HgOutDwRefIdeal.τ).loc Cert.HgOutDwRefIdeal.main_arg0) = m' ((c.tc : Thread Cert.HgOutDwRefIdeal.nD Cert.HgOutDwRefIdeal.τ).loc Cert.HgOutDwRefIdeal.main_arg0)
          ∧ r.2.mem ((c.tc : Thread Cert.HgOutDwRefIdeal.nD Cert.HgOutDwRefIdeal.τ).loc Cert.HgOutDwRefIdeal.main_arg1) = m' ((c.tc : Thread Cert.HgOutDwRefIdeal.nD Cert.HgOutDwRefIdeal.τ).loc Cert.HgOutDwRefIdeal.main_arg1)
          ∧ r.2.mem ((c.tc : Thread Cert.HgOutDwRefIdeal.nD Cert.HgOutDwRefIdeal.τ).loc Cert.HgOutDwRefIdeal.main_arg2) = m' ((c.tc : Thread Cert.HgOutDwRefIdeal.nD Cert.HgOutDwRefIdeal.τ).loc Cert.HgOutDwRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v2)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v2) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v0) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleGateDx_PleGateDxIdeal : Prop :=
  True

def algebraic_PleGateDxIdeal_PleGateDxRefIdeal [hPleGateDxIdeal : Cert.PleGateDxIdeal.Facts] [hPleGateDxRefIdeal : Cert.PleGateDxRefIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg)
    (m' : (ℓ : Loc Cert.PleGateDxRefIdeal.nD Cert.PleGateDxRefIdeal.τ Cert.PleGateDxRefIdeal.sig) → Buf (Elt Ideal) ℓ) (g' : Dev Cert.PleGateDxRefIdeal.nD → PrngReg), Pre_PleGateDxIdeal m →
    (∀ c : Dev Cert.PleGateDxIdeal.nD,
      m' ((c.tc : Thread Cert.PleGateDxRefIdeal.nD Cert.PleGateDxRefIdeal.τ).loc Cert.PleGateDxRefIdeal.main_arg0) = m ((c.tc : Thread Cert.PleGateDxIdeal.nD Cert.PleGateDxIdeal.τ).loc Cert.PleGateDxIdeal.main_arg0)
      ∧ m' ((c.tc : Thread Cert.PleGateDxRefIdeal.nD Cert.PleGateDxRefIdeal.τ).loc Cert.PleGateDxRefIdeal.main_arg1) = m ((c.tc : Thread Cert.PleGateDxIdeal.nD Cert.PleGateDxIdeal.τ).loc Cert.PleGateDxIdeal.main_arg1)
      ∧ m' ((c.tc : Thread Cert.PleGateDxRefIdeal.nD Cert.PleGateDxRefIdeal.τ).loc Cert.PleGateDxRefIdeal.main_arg2) = m ((c.tc : Thread Cert.PleGateDxIdeal.nD Cert.PleGateDxIdeal.τ).loc Cert.PleGateDxIdeal.main_arg2)) →
    ∃ (v0 : (c : Dev Cert.PleGateDxIdeal.nD) → Buf (Elt Ideal) ((c.tc : Thread Cert.PleGateDxIdeal.nD Cert.PleGateDxIdeal.τ).loc Cert.PleGateDxIdeal.main_v2)),
      θ_run (Cert.PleGateDxIdeal.defs (F := Ideal)) (onTc (τ := Cert.PleGateDxIdeal.τ) (Cert.PleGateDxIdeal.main (F := Ideal))) ⟨m, fun _ => 0, g⟩ (fun r => ∀ c : Dev Cert.PleGateDxIdeal.nD,
          r.2.mem ((c.tc : Thread Cert.PleGateDxIdeal.nD Cert.PleGateDxIdeal.τ).loc Cert.PleGateDxIdeal.main_v2) = v0 c
          ∧ r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
          ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
          ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2))
      ∧ θ_run (Cert.PleGateDxRefIdeal.defs (F := Ideal)) (onTc (τ := Cert.PleGateDxRefIdeal.τ) (Cert.PleGateDxRefIdeal.main (F := Ideal))) ⟨m', fun _ => 0, g'⟩ (fun r => ∀ c : Dev Cert.PleGateDxRefIdeal.nD,
          r.2.mem ((c.tc : Thread Cert.PleGateDxRefIdeal.nD Cert.PleGateDxRefIdeal.τ).loc Cert.PleGateDxRefIdeal.main_v4) = v0 c
          ∧ r.2.mem ((c.tc : Thread Cert.PleGateDxRefIdeal.nD Cert.PleGateDxRefIdeal.τ).loc Cert.PleGateDxRefIdeal.main_arg0) = m' ((c.tc : Thread Cert.PleGateDxRefIdeal.nD Cert.PleGateDxRefIdeal.τ).loc Cert.PleGateDxRefIdeal.main_arg0)
          ∧ r.2.mem ((c.tc : Thread Cert.PleGateDxRefIdeal.nD Cert.PleGateDxRefIdeal.τ).loc Cert.PleGateDxRefIdeal.main_arg1) = m' ((c.tc : Thread Cert.PleGateDxRefIdeal.nD Cert.PleGateDxRefIdeal.τ).loc Cert.PleGateDxRefIdeal.main_arg1)
          ∧ r.2.mem ((c.tc : Thread Cert.PleGateDxRefIdeal.nD Cert.PleGateDxRefIdeal.τ).loc Cert.PleGateDxRefIdeal.main_arg2) = m' ((c.tc : Thread Cert.PleGateDxRefIdeal.nD Cert.PleGateDxRefIdeal.τ).loc Cert.PleGateDxRefIdeal.main_arg2))

def preserves_PleGateDw_PleGateDwIdeal : Prop :=
  True

def algebraic_PleGateDwIdeal_PleGateDwRefIdeal [hPleGateDwIdeal : Cert.PleGateDwIdeal.Facts] [hPleGateDwRefIdeal : Cert.PleGateDwRefIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg)
    (m' : (ℓ : Loc Cert.PleGateDwRefIdeal.nD Cert.PleGateDwRefIdeal.τ Cert.PleGateDwRefIdeal.sig) → Buf (Elt Ideal) ℓ) (g' : Dev Cert.PleGateDwRefIdeal.nD → PrngReg), Pre_PleGateDwIdeal m →
    (∀ c : Dev Cert.PleGateDwIdeal.nD,
      m' ((c.tc : Thread Cert.PleGateDwRefIdeal.nD Cert.PleGateDwRefIdeal.τ).loc Cert.PleGateDwRefIdeal.main_arg0) = m ((c.tc : Thread Cert.PleGateDwIdeal.nD Cert.PleGateDwIdeal.τ).loc Cert.PleGateDwIdeal.main_arg0)
      ∧ m' ((c.tc : Thread Cert.PleGateDwRefIdeal.nD Cert.PleGateDwRefIdeal.τ).loc Cert.PleGateDwRefIdeal.main_arg1) = m ((c.tc : Thread Cert.PleGateDwIdeal.nD Cert.PleGateDwIdeal.τ).loc Cert.PleGateDwIdeal.main_arg1)
      ∧ m' ((c.tc : Thread Cert.PleGateDwRefIdeal.nD Cert.PleGateDwRefIdeal.τ).loc Cert.PleGateDwRefIdeal.main_arg2) = m ((c.tc : Thread Cert.PleGateDwIdeal.nD Cert.PleGateDwIdeal.τ).loc Cert.PleGateDwIdeal.main_arg2)) →
    ∃ (v0 : (c : Dev Cert.PleGateDwIdeal.nD) → Buf (Elt Ideal) ((c.tc : Thread Cert.PleGateDwIdeal.nD Cert.PleGateDwIdeal.τ).loc Cert.PleGateDwIdeal.main_v0)),
      θ_run (Cert.PleGateDwIdeal.defs (F := Ideal)) (onTc (τ := Cert.PleGateDwIdeal.τ) (Cert.PleGateDwIdeal.main (F := Ideal))) ⟨m, fun _ => 0, g⟩ (fun r => ∀ c : Dev Cert.PleGateDwIdeal.nD,
          r.2.mem ((c.tc : Thread Cert.PleGateDwIdeal.nD Cert.PleGateDwIdeal.τ).loc Cert.PleGateDwIdeal.main_v0) = v0 c
          ∧ r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
          ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
          ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ θ_run (Cert.PleGateDwRefIdeal.defs (F := Ideal)) (onTc (τ := Cert.PleGateDwRefIdeal.τ) (Cert.PleGateDwRefIdeal.main (F := Ideal))) ⟨m', fun _ => 0, g'⟩ (fun r => ∀ c : Dev Cert.PleGateDwRefIdeal.nD,
          r.2.mem ((c.tc : Thread Cert.PleGateDwRefIdeal.nD Cert.PleGateDwRefIdeal.τ).loc Cert.PleGateDwRefIdeal.main_v6) = v0 c
          ∧ r.2.mem ((c.tc : Thread Cert.PleGateDwRefIdeal.nD Cert.PleGateDwRefIdeal.τ).loc Cert.PleGateDwRefIdeal.main_arg0) = m' ((c.tc : Thread Cert.PleGateDwRefIdeal.nD Cert.PleGateDwRefIdeal.τ).loc Cert.PleGateDwRefIdeal.main_arg0)
          ∧ r.2.mem ((c.tc : Thread Cert.PleGateDwRefIdeal.nD Cert.PleGateDwRefIdeal.τ).loc Cert.PleGateDwRefIdeal.main_arg1) = m' ((c.tc : Thread Cert.PleGateDwRefIdeal.nD Cert.PleGateDwRefIdeal.τ).loc Cert.PleGateDwRefIdeal.main_arg1)
          ∧ r.2.mem ((c.tc : Thread Cert.PleGateDwRefIdeal.nD Cert.PleGateDwRefIdeal.τ).loc Cert.PleGateDwRefIdeal.main_arg2) = m' ((c.tc : Thread Cert.PleGateDwRefIdeal.nD Cert.PleGateDwRefIdeal.τ).loc Cert.PleGateDwRefIdeal.main_arg2))

def preserves_AdamHgIn_AdamHgInIdeal : Prop :=
  True

def algebraic_AdamHgInIdeal_AdamHgInRefIdeal [hAdamHgInIdeal : Cert.AdamHgInIdeal.Facts] [hAdamHgInRefIdeal : Cert.AdamHgInRefIdeal.Facts] : Prop :=
  ∀ (m : (ℓ : Loc Cert.AdamHgInIdeal.nD Cert.AdamHgInIdeal.τ Cert.AdamHgInIdeal.sig) → Buf (Elt Ideal) ℓ) (g : Dev Cert.AdamHgInIdeal.nD → PrngReg)
    (m' : (ℓ : Loc Cert.AdamHgInRefIdeal.nD Cert.AdamHgInRefIdeal.τ Cert.AdamHgInRefIdeal.sig) → Buf (Elt Ideal) ℓ) (g' : Dev Cert.AdamHgInRefIdeal.nD → PrngReg), Pre_AdamHgInIdeal m →
    (∀ c : Dev Cert.AdamHgInIdeal.nD,
      m' ((c.tc : Thread Cert.AdamHgInRefIdeal.nD Cert.AdamHgInRefIdeal.τ).loc Cert.AdamHgInRefIdeal.main_arg0) = m ((c.tc : Thread Cert.AdamHgInIdeal.nD Cert.AdamHgInIdeal.τ).loc Cert.AdamHgInIdeal.main_arg0)
      ∧ m' ((c.tc : Thread Cert.AdamHgInRefIdeal.nD Cert.AdamHgInRefIdeal.τ).loc Cert.AdamHgInRefIdeal.main_arg1) = m ((c.tc : Thread Cert.AdamHgInIdeal.nD Cert.AdamHgInIdeal.τ).loc Cert.AdamHgInIdeal.main_arg1)
      ∧ m' ((c.tc : Thread Cert.AdamHgInRefIdeal.nD Cert.AdamHgInRefIdeal.τ).loc Cert.AdamHgInRefIdeal.main_arg2) = m ((c.tc : Thread Cert.AdamHgInIdeal.nD Cert.AdamHgInIdeal.τ).loc Cert.AdamHgInIdeal.main_arg2)
      ∧ m' ((c.tc : Thread Cert.AdamHgInRefIdeal.nD Cert.AdamHgInRefIdeal.τ).loc Cert.AdamHgInRefIdeal.main_arg3) = m ((c.tc : Thread Cert.AdamHgInIdeal.nD Cert.AdamHgInIdeal.τ).loc Cert.AdamHgInIdeal.main_arg3)) →
    ∃ (v0 : (c : Dev Cert.AdamHgInIdeal.nD) → Buf (Elt Ideal) ((c.tc : Thread Cert.AdamHgInIdeal.nD Cert.AdamHgInIdeal.τ).loc Cert.AdamHgInIdeal.main_v0_0)) (v1 : (c : Dev Cert.AdamHgInIdeal.nD) → Buf (Elt Ideal) ((c.tc : Thread Cert.AdamHgInIdeal.nD Cert.AdamHgInIdeal.τ).loc Cert.AdamHgInIdeal.main_v0_1)) (v2 : (c : Dev Cert.AdamHgInIdeal.nD) → Buf (Elt Ideal) ((c.tc : Thread Cert.AdamHgInIdeal.nD Cert.AdamHgInIdeal.τ).loc Cert.AdamHgInIdeal.main_v0_2)) (v3 : (c : Dev Cert.AdamHgInIdeal.nD) → Buf (Elt Ideal) ((c.tc : Thread Cert.AdamHgInIdeal.nD Cert.AdamHgInIdeal.τ).loc Cert.AdamHgInIdeal.main_v0_3)),
      θ_run (Cert.AdamHgInIdeal.defs (F := Ideal)) (onTc (τ := Cert.AdamHgInIdeal.τ) (Cert.AdamHgInIdeal.main (F := Ideal))) ⟨m, fun _ => 0, g⟩ (fun r => ∀ c : Dev Cert.AdamHgInIdeal.nD,
          r.2.mem ((c.tc : Thread Cert.AdamHgInIdeal.nD Cert.AdamHgInIdeal.τ).loc Cert.AdamHgInIdeal.main_v0_0) = v0 c
          ∧ r.2.mem ((c.tc : Thread Cert.AdamHgInIdeal.nD Cert.AdamHgInIdeal.τ).loc Cert.AdamHgInIdeal.main_v0_1) = v1 c
          ∧ r.2.mem ((c.tc : Thread Cert.AdamHgInIdeal.nD Cert.AdamHgInIdeal.τ).loc Cert.AdamHgInIdeal.main_v0_2) = v2 c
          ∧ r.2.mem ((c.tc : Thread Cert.AdamHgInIdeal.nD Cert.AdamHgInIdeal.τ).loc Cert.AdamHgInIdeal.main_v0_3) = v3 c
          ∧ r.2.mem ((c.tc : Thread Cert.AdamHgInIdeal.nD Cert.AdamHgInIdeal.τ).loc Cert.AdamHgInIdeal.main_arg0) = m ((c.tc : Thread Cert.AdamHgInIdeal.nD Cert.AdamHgInIdeal.τ).loc Cert.AdamHgInIdeal.main_arg0)
          ∧ r.2.mem ((c.tc : Thread Cert.AdamHgInIdeal.nD Cert.AdamHgInIdeal.τ).loc Cert.AdamHgInIdeal.main_arg1) = m ((c.tc : Thread Cert.AdamHgInIdeal.nD Cert.AdamHgInIdeal.τ).loc Cert.AdamHgInIdeal.main_arg1)
          ∧ r.2.mem ((c.tc : Thread Cert.AdamHgInIdeal.nD Cert.AdamHgInIdeal.τ).loc Cert.AdamHgInIdeal.main_arg2) = m ((c.tc : Thread Cert.AdamHgInIdeal.nD Cert.AdamHgInIdeal.τ).loc Cert.AdamHgInIdeal.main_arg2)
          ∧ r.2.mem ((c.tc : Thread Cert.AdamHgInIdeal.nD Cert.AdamHgInIdeal.τ).loc Cert.AdamHgInIdeal.main_arg3) = m ((c.tc : Thread Cert.AdamHgInIdeal.nD Cert.AdamHgInIdeal.τ).loc Cert.AdamHgInIdeal.main_arg3))
      ∧ θ_run (Cert.AdamHgInRefIdeal.defs (F := Ideal)) (onTc (τ := Cert.AdamHgInRefIdeal.τ) (Cert.AdamHgInRefIdeal.main (F := Ideal))) ⟨m', fun _ => 0, g'⟩ (fun r => ∀ c : Dev Cert.AdamHgInRefIdeal.nD,
          r.2.mem ((c.tc : Thread Cert.AdamHgInRefIdeal.nD Cert.AdamHgInRefIdeal.τ).loc Cert.AdamHgInRefIdeal.main_v23) = v0 c
          ∧ r.2.mem ((c.tc : Thread Cert.AdamHgInRefIdeal.nD Cert.AdamHgInRefIdeal.τ).loc Cert.AdamHgInRefIdeal.main_v4) = v1 c
          ∧ r.2.mem ((c.tc : Thread Cert.AdamHgInRefIdeal.nD Cert.AdamHgInRefIdeal.τ).loc Cert.AdamHgInRefIdeal.main_v10) = v2 c
          ∧ r.2.mem ((c.tc : Thread Cert.AdamHgInRefIdeal.nD Cert.AdamHgInRefIdeal.τ).loc Cert.AdamHgInRefIdeal.main_arg1) = v3 c
          ∧ r.2.mem ((c.tc : Thread Cert.AdamHgInRefIdeal.nD Cert.AdamHgInRefIdeal.τ).loc Cert.AdamHgInRefIdeal.main_arg0) = m' ((c.tc : Thread Cert.AdamHgInRefIdeal.nD Cert.AdamHgInRefIdeal.τ).loc Cert.AdamHgInRefIdeal.main_arg0)
          ∧ r.2.mem ((c.tc : Thread Cert.AdamHgInRefIdeal.nD Cert.AdamHgInRefIdeal.τ).loc Cert.AdamHgInRefIdeal.main_arg1) = m' ((c.tc : Thread Cert.AdamHgInRefIdeal.nD Cert.AdamHgInRefIdeal.τ).loc Cert.AdamHgInRefIdeal.main_arg1)
          ∧ r.2.mem ((c.tc : Thread Cert.AdamHgInRefIdeal.nD Cert.AdamHgInRefIdeal.τ).loc Cert.AdamHgInRefIdeal.main_arg2) = m' ((c.tc : Thread Cert.AdamHgInRefIdeal.nD Cert.AdamHgInRefIdeal.τ).loc Cert.AdamHgInRefIdeal.main_arg2)
          ∧ r.2.mem ((c.tc : Thread Cert.AdamHgInRefIdeal.nD Cert.AdamHgInRefIdeal.τ).loc Cert.AdamHgInRefIdeal.main_arg3) = m' ((c.tc : Thread Cert.AdamHgInRefIdeal.nD Cert.AdamHgInRefIdeal.τ).loc Cert.AdamHgInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGmIn_AdamGmInIdeal : Prop :=
  True

def algebraic_AdamGmInIdeal_AdamGmInRefIdeal [hAdamGmInIdeal : Cert.AdamGmInIdeal.Facts] [hAdamGmInRefIdeal : Cert.AdamGmInRefIdeal.Facts] : Prop :=
  ∀ (m : (ℓ : Loc Cert.AdamGmInIdeal.nD Cert.AdamGmInIdeal.τ Cert.AdamGmInIdeal.sig) → Buf (Elt Ideal) ℓ) (g : Dev Cert.AdamGmInIdeal.nD → PrngReg)
    (m' : (ℓ : Loc Cert.AdamGmInRefIdeal.nD Cert.AdamGmInRefIdeal.τ Cert.AdamGmInRefIdeal.sig) → Buf (Elt Ideal) ℓ) (g' : Dev Cert.AdamGmInRefIdeal.nD → PrngReg), Pre_AdamGmInIdeal m →
    (∀ c : Dev Cert.AdamGmInIdeal.nD,
      m' ((c.tc : Thread Cert.AdamGmInRefIdeal.nD Cert.AdamGmInRefIdeal.τ).loc Cert.AdamGmInRefIdeal.main_arg0) = m ((c.tc : Thread Cert.AdamGmInIdeal.nD Cert.AdamGmInIdeal.τ).loc Cert.AdamGmInIdeal.main_arg0)
      ∧ m' ((c.tc : Thread Cert.AdamGmInRefIdeal.nD Cert.AdamGmInRefIdeal.τ).loc Cert.AdamGmInRefIdeal.main_arg1) = m ((c.tc : Thread Cert.AdamGmInIdeal.nD Cert.AdamGmInIdeal.τ).loc Cert.AdamGmInIdeal.main_arg1)
      ∧ m' ((c.tc : Thread Cert.AdamGmInRefIdeal.nD Cert.AdamGmInRefIdeal.τ).loc Cert.AdamGmInRefIdeal.main_arg2) = m ((c.tc : Thread Cert.AdamGmInIdeal.nD Cert.AdamGmInIdeal.τ).loc Cert.AdamGmInIdeal.main_arg2)
      ∧ m' ((c.tc : Thread Cert.AdamGmInRefIdeal.nD Cert.AdamGmInRefIdeal.τ).loc Cert.AdamGmInRefIdeal.main_arg3) = m ((c.tc : Thread Cert.AdamGmInIdeal.nD Cert.AdamGmInIdeal.τ).loc Cert.AdamGmInIdeal.main_arg3)) →
    ∃ (v0 : (c : Dev Cert.AdamGmInIdeal.nD) → Buf (Elt Ideal) ((c.tc : Thread Cert.AdamGmInIdeal.nD Cert.AdamGmInIdeal.τ).loc Cert.AdamGmInIdeal.main_v0_0)) (v1 : (c : Dev Cert.AdamGmInIdeal.nD) → Buf (Elt Ideal) ((c.tc : Thread Cert.AdamGmInIdeal.nD Cert.AdamGmInIdeal.τ).loc Cert.AdamGmInIdeal.main_v0_1)) (v2 : (c : Dev Cert.AdamGmInIdeal.nD) → Buf (Elt Ideal) ((c.tc : Thread Cert.AdamGmInIdeal.nD Cert.AdamGmInIdeal.τ).loc Cert.AdamGmInIdeal.main_v0_2)) (v3 : (c : Dev Cert.AdamGmInIdeal.nD) → Buf (Elt Ideal) ((c.tc : Thread Cert.AdamGmInIdeal.nD Cert.AdamGmInIdeal.τ).loc Cert.AdamGmInIdeal.main_v0_3)),
      θ_run (Cert.AdamGmInIdeal.defs (F := Ideal)) (onTc (τ := Cert.AdamGmInIdeal.τ) (Cert.AdamGmInIdeal.main (F := Ideal))) ⟨m, fun _ => 0, g⟩ (fun r => ∀ c : Dev Cert.AdamGmInIdeal.nD,
          r.2.mem ((c.tc : Thread Cert.AdamGmInIdeal.nD Cert.AdamGmInIdeal.τ).loc Cert.AdamGmInIdeal.main_v0_0) = v0 c
          ∧ r.2.mem ((c.tc : Thread Cert.AdamGmInIdeal.nD Cert.AdamGmInIdeal.τ).loc Cert.AdamGmInIdeal.main_v0_1) = v1 c
          ∧ r.2.mem ((c.tc : Thread Cert.AdamGmInIdeal.nD Cert.AdamGmInIdeal.τ).loc Cert.AdamGmInIdeal.main_v0_2) = v2 c
          ∧ r.2.mem ((c.tc : Thread Cert.AdamGmInIdeal.nD Cert.AdamGmInIdeal.τ).loc Cert.AdamGmInIdeal.main_v0_3) = v3 c
          ∧ r.2.mem ((c.tc : Thread Cert.AdamGmInIdeal.nD Cert.AdamGmInIdeal.τ).loc Cert.AdamGmInIdeal.main_arg0) = m ((c.tc : Thread Cert.AdamGmInIdeal.nD Cert.AdamGmInIdeal.τ).loc Cert.AdamGmInIdeal.main_arg0)
          ∧ r.2.mem ((c.tc : Thread Cert.AdamGmInIdeal.nD Cert.AdamGmInIdeal.τ).loc Cert.AdamGmInIdeal.main_arg1) = m ((c.tc : Thread Cert.AdamGmInIdeal.nD Cert.AdamGmInIdeal.τ).loc Cert.AdamGmInIdeal.main_arg1)
          ∧ r.2.mem ((c.tc : Thread Cert.AdamGmInIdeal.nD Cert.AdamGmInIdeal.τ).loc Cert.AdamGmInIdeal.main_arg2) = m ((c.tc : Thread Cert.AdamGmInIdeal.nD Cert.AdamGmInIdeal.τ).loc Cert.AdamGmInIdeal.main_arg2)
          ∧ r.2.mem ((c.tc : Thread Cert.AdamGmInIdeal.nD Cert.AdamGmInIdeal.τ).loc Cert.AdamGmInIdeal.main_arg3) = m ((c.tc : Thread Cert.AdamGmInIdeal.nD Cert.AdamGmInIdeal.τ).loc Cert.AdamGmInIdeal.main_arg3))
      ∧ θ_run (Cert.AdamGmInRefIdeal.defs (F := Ideal)) (onTc (τ := Cert.AdamGmInRefIdeal.τ) (Cert.AdamGmInRefIdeal.main (F := Ideal))) ⟨m', fun _ => 0, g'⟩ (fun r => ∀ c : Dev Cert.AdamGmInRefIdeal.nD,
          r.2.mem ((c.tc : Thread Cert.AdamGmInRefIdeal.nD Cert.AdamGmInRefIdeal.τ).loc Cert.AdamGmInRefIdeal.main_v23) = v0 c
          ∧ r.2.mem ((c.tc : Thread Cert.AdamGmInRefIdeal.nD Cert.AdamGmInRefIdeal.τ).loc Cert.AdamGmInRefIdeal.main_v4) = v1 c
          ∧ r.2.mem ((c.tc : Thread Cert.AdamGmInRefIdeal.nD Cert.AdamGmInRefIdeal.τ).loc Cert.AdamGmInRefIdeal.main_v10) = v2 c
          ∧ r.2.mem ((c.tc : Thread Cert.AdamGmInRefIdeal.nD Cert.AdamGmInRefIdeal.τ).loc Cert.AdamGmInRefIdeal.main_arg1) = v3 c
          ∧ r.2.mem ((c.tc : Thread Cert.AdamGmInRefIdeal.nD Cert.AdamGmInRefIdeal.τ).loc Cert.AdamGmInRefIdeal.main_arg0) = m' ((c.tc : Thread Cert.AdamGmInRefIdeal.nD Cert.AdamGmInRefIdeal.τ).loc Cert.AdamGmInRefIdeal.main_arg0)
          ∧ r.2.mem ((c.tc : Thread Cert.AdamGmInRefIdeal.nD Cert.AdamGmInRefIdeal.τ).loc Cert.AdamGmInRefIdeal.main_arg1) = m' ((c.tc : Thread Cert.AdamGmInRefIdeal.nD Cert.AdamGmInRefIdeal.τ).loc Cert.AdamGmInRefIdeal.main_arg1)
          ∧ r.2.mem ((c.tc : Thread Cert.AdamGmInRefIdeal.nD Cert.AdamGmInRefIdeal.τ).loc Cert.AdamGmInRefIdeal.main_arg2) = m' ((c.tc : Thread Cert.AdamGmInRefIdeal.nD Cert.AdamGmInRefIdeal.τ).loc Cert.AdamGmInRefIdeal.main_arg2)
          ∧ r.2.mem ((c.tc : Thread Cert.AdamGmInRefIdeal.nD Cert.AdamGmInRefIdeal.τ).loc Cert.AdamGmInRefIdeal.main_arg3) = m' ((c.tc : Thread Cert.AdamGmInRefIdeal.nD Cert.AdamGmInRefIdeal.τ).loc Cert.AdamGmInRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg1) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg1) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)) →
    ∃ (v0 : (c : Dev Cert.AdamPleGateIdeal.nD) → Buf (Elt Ideal) ((c.tc : Thread Cert.AdamPleGateIdeal.nD Cert.AdamPleGateIdeal.τ).loc Cert.AdamPleGateIdeal.main_v0_0)) (v1 : (c : Dev Cert.AdamPleGateIdeal.nD) → Buf (Elt Ideal) ((c.tc : Thread Cert.AdamPleGateIdeal.nD Cert.AdamPleGateIdeal.τ).loc Cert.AdamPleGateIdeal.main_v0_1)) (v2 : (c : Dev Cert.AdamPleGateIdeal.nD) → Buf (Elt Ideal) ((c.tc : Thread Cert.AdamPleGateIdeal.nD Cert.AdamPleGateIdeal.τ).loc Cert.AdamPleGateIdeal.main_v0_2)) (v3 : (c : Dev Cert.AdamPleGateIdeal.nD) → Buf (Elt Ideal) ((c.tc : Thread Cert.AdamPleGateIdeal.nD Cert.AdamPleGateIdeal.τ).loc Cert.AdamPleGateIdeal.main_v0_3)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v0_0) = v0 c
          ∧ r.2.mem ((c.tc : Thread Cert.AdamPleGateIdeal.nD Cert.AdamPleGateIdeal.τ).loc Cert.AdamPleGateIdeal.main_v0_1) = v1 c
          ∧ r.2.mem ((c.tc : Thread Cert.AdamPleGateIdeal.nD Cert.AdamPleGateIdeal.τ).loc Cert.AdamPleGateIdeal.main_v0_2) = v2 c
          ∧ r.2.mem ((c.tc : Thread Cert.AdamPleGateIdeal.nD Cert.AdamPleGateIdeal.τ).loc Cert.AdamPleGateIdeal.main_v0_3) = v3 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v23) = v0 c
          ∧ r.2.mem ((c.tc : Thread Cert.AdamPleGateRefIdeal.nD Cert.AdamPleGateRefIdeal.τ).loc Cert.AdamPleGateRefIdeal.main_v4) = v1 c
          ∧ r.2.mem ((c.tc : Thread Cert.AdamPleGateRefIdeal.nD Cert.AdamPleGateRefIdeal.τ).loc Cert.AdamPleGateRefIdeal.main_v10) = v2 c
          ∧ r.2.mem ((c.tc : Thread Cert.AdamPleGateRefIdeal.nD Cert.AdamPleGateRefIdeal.τ).loc Cert.AdamPleGateRefIdeal.main_arg1) = v3 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PrenormBwd_PrenormBwdIdeal : Prop :=
  True

def algebraic_PrenormBwdIdeal_PrenormBwdRefIdeal [hPrenormBwdIdeal : Cert.PrenormBwdIdeal.Facts] [hPrenormBwdRefIdeal : Cert.PrenormBwdRefIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)) →
    ∃ (v0 : (c : Dev Cert.PrenormBwdIdeal.nD) → Buf (Elt Ideal) ((c.tc : Thread Cert.PrenormBwdIdeal.nD Cert.PrenormBwdIdeal.τ).loc Cert.PrenormBwdIdeal.main_v1_0)) (v1 : (c : Dev Cert.PrenormBwdIdeal.nD) → Buf (Elt Ideal) ((c.tc : Thread Cert.PrenormBwdIdeal.nD Cert.PrenormBwdIdeal.τ).loc Cert.PrenormBwdIdeal.main_v1_1)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v1_0) = v0 c
          ∧ r.2.mem ((c.tc : Thread Cert.PrenormBwdIdeal.nD Cert.PrenormBwdIdeal.τ).loc Cert.PrenormBwdIdeal.main_v1_1) = v1 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v36) = v0 c
          ∧ r.2.mem ((c.tc : Thread Cert.PrenormBwdRefIdeal.nD Cert.PrenormBwdRefIdeal.τ).loc Cert.PrenormBwdRefIdeal.main_v37) = v1 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3))

def preserves_FfnPostBwd_FfnPostBwdIdeal : Prop :=
  True

def algebraic_FfnPostBwdIdeal_FfnPostBwdRefIdeal [hFfnPostBwdIdeal : Cert.FfnPostBwdIdeal.Facts] [hFfnPostBwdRefIdeal : Cert.FfnPostBwdRefIdeal.Facts] : Prop :=
  ∀ (m : (ℓ : Loc Cert.FfnPostBwdIdeal.nD Cert.FfnPostBwdIdeal.τ Cert.FfnPostBwdIdeal.sig) → Buf (Elt Ideal) ℓ) (g : Dev Cert.FfnPostBwdIdeal.nD → PrngReg)
    (m' : (ℓ : Loc Cert.FfnPostBwdRefIdeal.nD Cert.FfnPostBwdRefIdeal.τ Cert.FfnPostBwdRefIdeal.sig) → Buf (Elt Ideal) ℓ) (g' : Dev Cert.FfnPostBwdRefIdeal.nD → PrngReg), Pre_FfnPostBwdIdeal m →
    (∀ c : Dev Cert.FfnPostBwdIdeal.nD,
      m' ((c.tc : Thread Cert.FfnPostBwdRefIdeal.nD Cert.FfnPostBwdRefIdeal.τ).loc Cert.FfnPostBwdRefIdeal.main_arg0) = m ((c.tc : Thread Cert.FfnPostBwdIdeal.nD Cert.FfnPostBwdIdeal.τ).loc Cert.FfnPostBwdIdeal.main_arg0)
      ∧ m' ((c.tc : Thread Cert.FfnPostBwdRefIdeal.nD Cert.FfnPostBwdRefIdeal.τ).loc Cert.FfnPostBwdRefIdeal.main_arg1) = m ((c.tc : Thread Cert.FfnPostBwdIdeal.nD Cert.FfnPostBwdIdeal.τ).loc Cert.FfnPostBwdIdeal.main_arg1)
      ∧ m' ((c.tc : Thread Cert.FfnPostBwdRefIdeal.nD Cert.FfnPostBwdRefIdeal.τ).loc Cert.FfnPostBwdRefIdeal.main_arg2) = m ((c.tc : Thread Cert.FfnPostBwdIdeal.nD Cert.FfnPostBwdIdeal.τ).loc Cert.FfnPostBwdIdeal.main_arg2)
      ∧ m' ((c.tc : Thread Cert.FfnPostBwdRefIdeal.nD Cert.FfnPostBwdRefIdeal.τ).loc Cert.FfnPostBwdRefIdeal.main_arg3) = m ((c.tc : Thread Cert.FfnPostBwdIdeal.nD Cert.FfnPostBwdIdeal.τ).loc Cert.FfnPostBwdIdeal.main_arg3)) →
    ∃ (v0 : (c : Dev Cert.FfnPostBwdIdeal.nD) → Buf (Elt Ideal) ((c.tc : Thread Cert.FfnPostBwdIdeal.nD Cert.FfnPostBwdIdeal.τ).loc Cert.FfnPostBwdIdeal.main_v1_0)) (v1 : (c : Dev Cert.FfnPostBwdIdeal.nD) → Buf (Elt Ideal) ((c.tc : Thread Cert.FfnPostBwdIdeal.nD Cert.FfnPostBwdIdeal.τ).loc Cert.FfnPostBwdIdeal.main_v1_1)) (v2 : (c : Dev Cert.FfnPostBwdIdeal.nD) → Buf (Elt Ideal) ((c.tc : Thread Cert.FfnPostBwdIdeal.nD Cert.FfnPostBwdIdeal.τ).loc Cert.FfnPostBwdIdeal.main_v1_2)),
      θ_run (Cert.FfnPostBwdIdeal.defs (F := Ideal)) (onTc (τ := Cert.FfnPostBwdIdeal.τ) (Cert.FfnPostBwdIdeal.main (F := Ideal))) ⟨m, fun _ => 0, g⟩ (fun r => ∀ c : Dev Cert.FfnPostBwdIdeal.nD,
          r.2.mem ((c.tc : Thread Cert.FfnPostBwdIdeal.nD Cert.FfnPostBwdIdeal.τ).loc Cert.FfnPostBwdIdeal.main_v1_0) = v0 c
          ∧ r.2.mem ((c.tc : Thread Cert.FfnPostBwdIdeal.nD Cert.FfnPostBwdIdeal.τ).loc Cert.FfnPostBwdIdeal.main_v1_1) = v1 c
          ∧ r.2.mem ((c.tc : Thread Cert.FfnPostBwdIdeal.nD Cert.FfnPostBwdIdeal.τ).loc Cert.FfnPostBwdIdeal.main_v1_2) = v2 c
          ∧ r.2.mem ((c.tc : Thread Cert.FfnPostBwdIdeal.nD Cert.FfnPostBwdIdeal.τ).loc Cert.FfnPostBwdIdeal.main_arg0) = m ((c.tc : Thread Cert.FfnPostBwdIdeal.nD Cert.FfnPostBwdIdeal.τ).loc Cert.FfnPostBwdIdeal.main_arg0)
          ∧ r.2.mem ((c.tc : Thread Cert.FfnPostBwdIdeal.nD Cert.FfnPostBwdIdeal.τ).loc Cert.FfnPostBwdIdeal.main_arg1) = m ((c.tc : Thread Cert.FfnPostBwdIdeal.nD Cert.FfnPostBwdIdeal.τ).loc Cert.FfnPostBwdIdeal.main_arg1)
          ∧ r.2.mem ((c.tc : Thread Cert.FfnPostBwdIdeal.nD Cert.FfnPostBwdIdeal.τ).loc Cert.FfnPostBwdIdeal.main_arg2) = m ((c.tc : Thread Cert.FfnPostBwdIdeal.nD Cert.FfnPostBwdIdeal.τ).loc Cert.FfnPostBwdIdeal.main_arg2)
          ∧ r.2.mem ((c.tc : Thread Cert.FfnPostBwdIdeal.nD Cert.FfnPostBwdIdeal.τ).loc Cert.FfnPostBwdIdeal.main_arg3) = m ((c.tc : Thread Cert.FfnPostBwdIdeal.nD Cert.FfnPostBwdIdeal.τ).loc Cert.FfnPostBwdIdeal.main_arg3))
      ∧ θ_run (Cert.FfnPostBwdRefIdeal.defs (F := Ideal)) (onTc (τ := Cert.FfnPostBwdRefIdeal.τ) (Cert.FfnPostBwdRefIdeal.main (F := Ideal))) ⟨m', fun _ => 0, g'⟩ (fun r => ∀ c : Dev Cert.FfnPostBwdRefIdeal.nD,
          r.2.mem ((c.tc : Thread Cert.FfnPostBwdRefIdeal.nD Cert.FfnPostBwdRefIdeal.τ).loc Cert.FfnPostBwdRefIdeal.main_arg3) = v0 c
          ∧ r.2.mem ((c.tc : Thread Cert.FfnPostBwdRefIdeal.nD Cert.FfnPostBwdRefIdeal.τ).loc Cert.FfnPostBwdRefIdeal.main_v38) = v1 c
          ∧ r.2.mem ((c.tc : Thread Cert.FfnPostBwdRefIdeal.nD Cert.FfnPostBwdRefIdeal.τ).loc Cert.FfnPostBwdRefIdeal.main_v39) = v2 c
          ∧ r.2.mem ((c.tc : Thread Cert.FfnPostBwdRefIdeal.nD Cert.FfnPostBwdRefIdeal.τ).loc Cert.FfnPostBwdRefIdeal.main_arg0) = m' ((c.tc : Thread Cert.FfnPostBwdRefIdeal.nD Cert.FfnPostBwdRefIdeal.τ).loc Cert.FfnPostBwdRefIdeal.main_arg0)
          ∧ r.2.mem ((c.tc : Thread Cert.FfnPostBwdRefIdeal.nD Cert.FfnPostBwdRefIdeal.τ).loc Cert.FfnPostBwdRefIdeal.main_arg1) = m' ((c.tc : Thread Cert.FfnPostBwdRefIdeal.nD Cert.FfnPostBwdRefIdeal.τ).loc Cert.FfnPostBwdRefIdeal.main_arg1)
          ∧ r.2.mem ((c.tc : Thread Cert.FfnPostBwdRefIdeal.nD Cert.FfnPostBwdRefIdeal.τ).loc Cert.FfnPostBwdRefIdeal.main_arg2) = m' ((c.tc : Thread Cert.FfnPostBwdRefIdeal.nD Cert.FfnPostBwdRefIdeal.τ).loc Cert.FfnPostBwdRefIdeal.main_arg2)
          ∧ r.2.mem ((c.tc : Thread Cert.FfnPostBwdRefIdeal.nD Cert.FfnPostBwdRefIdeal.τ).loc Cert.FfnPostBwdRefIdeal.main_arg3) = m' ((c.tc : Thread Cert.FfnPostBwdRefIdeal.nD Cert.FfnPostBwdRefIdeal.τ).loc Cert.FfnPostBwdRefIdeal.main_arg3))

def preserves_MixPostBwd_MixPostBwdIdeal : Prop :=
  True

def algebraic_MixPostBwdIdeal_MixPostBwdRefIdeal [hMixPostBwdIdeal : Cert.MixPostBwdIdeal.Facts] [hMixPostBwdRefIdeal : Cert.MixPostBwdRefIdeal.Facts] : Prop :=
  ∀ (m : (ℓ : Loc Cert.MixPostBwdIdeal.nD Cert.MixPostBwdIdeal.τ Cert.MixPostBwdIdeal.sig) → Buf (Elt Ideal) ℓ) (g : Dev Cert.MixPostBwdIdeal.nD → PrngReg)
    (m' : (ℓ : Loc Cert.MixPostBwdRefIdeal.nD Cert.MixPostBwdRefIdeal.τ Cert.MixPostBwdRefIdeal.sig) → Buf (Elt Ideal) ℓ) (g' : Dev Cert.MixPostBwdRefIdeal.nD → PrngReg), Pre_MixPostBwdIdeal m →
    (∀ c : Dev Cert.MixPostBwdIdeal.nD,
      m' ((c.tc : Thread Cert.MixPostBwdRefIdeal.nD Cert.MixPostBwdRefIdeal.τ).loc Cert.MixPostBwdRefIdeal.main_arg0) = m ((c.tc : Thread Cert.MixPostBwdIdeal.nD Cert.MixPostBwdIdeal.τ).loc Cert.MixPostBwdIdeal.main_arg0)
      ∧ m' ((c.tc : Thread Cert.MixPostBwdRefIdeal.nD Cert.MixPostBwdRefIdeal.τ).loc Cert.MixPostBwdRefIdeal.main_arg1) = m ((c.tc : Thread Cert.MixPostBwdIdeal.nD Cert.MixPostBwdIdeal.τ).loc Cert.MixPostBwdIdeal.main_arg1)
      ∧ m' ((c.tc : Thread Cert.MixPostBwdRefIdeal.nD Cert.MixPostBwdRefIdeal.τ).loc Cert.MixPostBwdRefIdeal.main_arg2) = m ((c.tc : Thread Cert.MixPostBwdIdeal.nD Cert.MixPostBwdIdeal.τ).loc Cert.MixPostBwdIdeal.main_arg2)
      ∧ m' ((c.tc : Thread Cert.MixPostBwdRefIdeal.nD Cert.MixPostBwdRefIdeal.τ).loc Cert.MixPostBwdRefIdeal.main_arg3) = m ((c.tc : Thread Cert.MixPostBwdIdeal.nD Cert.MixPostBwdIdeal.τ).loc Cert.MixPostBwdIdeal.main_arg3)
      ∧ m' ((c.tc : Thread Cert.MixPostBwdRefIdeal.nD Cert.MixPostBwdRefIdeal.τ).loc Cert.MixPostBwdRefIdeal.main_arg4) = m ((c.tc : Thread Cert.MixPostBwdIdeal.nD Cert.MixPostBwdIdeal.τ).loc Cert.MixPostBwdIdeal.main_arg4)
      ∧ m' ((c.tc : Thread Cert.MixPostBwdRefIdeal.nD Cert.MixPostBwdRefIdeal.τ).loc Cert.MixPostBwdRefIdeal.main_arg5) = m ((c.tc : Thread Cert.MixPostBwdIdeal.nD Cert.MixPostBwdIdeal.τ).loc Cert.MixPostBwdIdeal.main_arg5)) →
    ∃ (v0 : (c : Dev Cert.MixPostBwdIdeal.nD) → Buf (Elt Ideal) ((c.tc : Thread Cert.MixPostBwdIdeal.nD Cert.MixPostBwdIdeal.τ).loc Cert.MixPostBwdIdeal.main_v2_0)) (v1 : (c : Dev Cert.MixPostBwdIdeal.nD) → Buf (Elt Ideal) ((c.tc : Thread Cert.MixPostBwdIdeal.nD Cert.MixPostBwdIdeal.τ).loc Cert.MixPostBwdIdeal.main_v2_1)) (v2 : (c : Dev Cert.MixPostBwdIdeal.nD) → Buf (Elt Ideal) ((c.tc : Thread Cert.MixPostBwdIdeal.nD Cert.MixPostBwdIdeal.τ).loc Cert.MixPostBwdIdeal.main_v2_2)) (v3 : (c : Dev Cert.MixPostBwdIdeal.nD) → Buf (Elt Ideal) ((c.tc : Thread Cert.MixPostBwdIdeal.nD Cert.MixPostBwdIdeal.τ).loc Cert.MixPostBwdIdeal.main_v2_3)),
      θ_run (Cert.MixPostBwdIdeal.defs (F := Ideal)) (onTc (τ := Cert.MixPostBwdIdeal.τ) (Cert.MixPostBwdIdeal.main (F := Ideal))) ⟨m, fun _ => 0, g⟩ (fun r => ∀ c : Dev Cert.MixPostBwdIdeal.nD,
          r.2.mem ((c.tc : Thread Cert.MixPostBwdIdeal.nD Cert.MixPostBwdIdeal.τ).loc Cert.MixPostBwdIdeal.main_v2_0) = v0 c
          ∧ r.2.mem ((c.tc : Thread Cert.MixPostBwdIdeal.nD Cert.MixPostBwdIdeal.τ).loc Cert.MixPostBwdIdeal.main_v2_1) = v1 c
          ∧ r.2.mem ((c.tc : Thread Cert.MixPostBwdIdeal.nD Cert.MixPostBwdIdeal.τ).loc Cert.MixPostBwdIdeal.main_v2_2) = v2 c
          ∧ r.2.mem ((c.tc : Thread Cert.MixPostBwdIdeal.nD Cert.MixPostBwdIdeal.τ).loc Cert.MixPostBwdIdeal.main_v2_3) = v3 c
          ∧ r.2.mem ((c.tc : Thread Cert.MixPostBwdIdeal.nD Cert.MixPostBwdIdeal.τ).loc Cert.MixPostBwdIdeal.main_arg0) = m ((c.tc : Thread Cert.MixPostBwdIdeal.nD Cert.MixPostBwdIdeal.τ).loc Cert.MixPostBwdIdeal.main_arg0)
          ∧ r.2.mem ((c.tc : Thread Cert.MixPostBwdIdeal.nD Cert.MixPostBwdIdeal.τ).loc Cert.MixPostBwdIdeal.main_arg1) = m ((c.tc : Thread Cert.MixPostBwdIdeal.nD Cert.MixPostBwdIdeal.τ).loc Cert.MixPostBwdIdeal.main_arg1)
          ∧ r.2.mem ((c.tc : Thread Cert.MixPostBwdIdeal.nD Cert.MixPostBwdIdeal.τ).loc Cert.MixPostBwdIdeal.main_arg2) = m ((c.tc : Thread Cert.MixPostBwdIdeal.nD Cert.MixPostBwdIdeal.τ).loc Cert.MixPostBwdIdeal.main_arg2)
          ∧ r.2.mem ((c.tc : Thread Cert.MixPostBwdIdeal.nD Cert.MixPostBwdIdeal.τ).loc Cert.MixPostBwdIdeal.main_arg3) = m ((c.tc : Thread Cert.MixPostBwdIdeal.nD Cert.MixPostBwdIdeal.τ).loc Cert.MixPostBwdIdeal.main_arg3)
          ∧ r.2.mem ((c.tc : Thread Cert.MixPostBwdIdeal.nD Cert.MixPostBwdIdeal.τ).loc Cert.MixPostBwdIdeal.main_arg4) = m ((c.tc : Thread Cert.MixPostBwdIdeal.nD Cert.MixPostBwdIdeal.τ).loc Cert.MixPostBwdIdeal.main_arg4)
          ∧ r.2.mem ((c.tc : Thread Cert.MixPostBwdIdeal.nD Cert.MixPostBwdIdeal.τ).loc Cert.MixPostBwdIdeal.main_arg5) = m ((c.tc : Thread Cert.MixPostBwdIdeal.nD Cert.MixPostBwdIdeal.τ).loc Cert.MixPostBwdIdeal.main_arg5))
      ∧ θ_run (Cert.MixPostBwdRefIdeal.defs (F := Ideal)) (onTc (τ := Cert.MixPostBwdRefIdeal.τ) (Cert.MixPostBwdRefIdeal.main (F := Ideal))) ⟨m', fun _ => 0, g'⟩ (fun r => ∀ c : Dev Cert.MixPostBwdRefIdeal.nD,
          r.2.mem ((c.tc : Thread Cert.MixPostBwdRefIdeal.nD Cert.MixPostBwdRefIdeal.τ).loc Cert.MixPostBwdRefIdeal.main_v53) = v0 c
          ∧ r.2.mem ((c.tc : Thread Cert.MixPostBwdRefIdeal.nD Cert.MixPostBwdRefIdeal.τ).loc Cert.MixPostBwdRefIdeal.main_v75) = v1 c
          ∧ r.2.mem ((c.tc : Thread Cert.MixPostBwdRefIdeal.nD Cert.MixPostBwdRefIdeal.τ).loc Cert.MixPostBwdRefIdeal.main_v76) = v2 c
          ∧ r.2.mem ((c.tc : Thread Cert.MixPostBwdRefIdeal.nD Cert.MixPostBwdRefIdeal.τ).loc Cert.MixPostBwdRefIdeal.main_v77) = v3 c
          ∧ r.2.mem ((c.tc : Thread Cert.MixPostBwdRefIdeal.nD Cert.MixPostBwdRefIdeal.τ).loc Cert.MixPostBwdRefIdeal.main_arg0) = m' ((c.tc : Thread Cert.MixPostBwdRefIdeal.nD Cert.MixPostBwdRefIdeal.τ).loc Cert.MixPostBwdRefIdeal.main_arg0)
          ∧ r.2.mem ((c.tc : Thread Cert.MixPostBwdRefIdeal.nD Cert.MixPostBwdRefIdeal.τ).loc Cert.MixPostBwdRefIdeal.main_arg1) = m' ((c.tc : Thread Cert.MixPostBwdRefIdeal.nD Cert.MixPostBwdRefIdeal.τ).loc Cert.MixPostBwdRefIdeal.main_arg1)
          ∧ r.2.mem ((c.tc : Thread Cert.MixPostBwdRefIdeal.nD Cert.MixPostBwdRefIdeal.τ).loc Cert.MixPostBwdRefIdeal.main_arg2) = m' ((c.tc : Thread Cert.MixPostBwdRefIdeal.nD Cert.MixPostBwdRefIdeal.τ).loc Cert.MixPostBwdRefIdeal.main_arg2)
          ∧ r.2.mem ((c.tc : Thread Cert.MixPostBwdRefIdeal.nD Cert.MixPostBwdRefIdeal.τ).loc Cert.MixPostBwdRefIdeal.main_arg3) = m' ((c.tc : Thread Cert.MixPostBwdRefIdeal.nD Cert.MixPostBwdRefIdeal.τ).loc Cert.MixPostBwdRefIdeal.main_arg3)
          ∧ r.2.mem ((c.tc : Thread Cert.MixPostBwdRefIdeal.nD Cert.MixPostBwdRefIdeal.τ).loc Cert.MixPostBwdRefIdeal.main_arg4) = m' ((c.tc : Thread Cert.MixPostBwdRefIdeal.nD Cert.MixPostBwdRefIdeal.τ).loc Cert.MixPostBwdRefIdeal.main_arg4)
          ∧ r.2.mem ((c.tc : Thread Cert.MixPostBwdRefIdeal.nD Cert.MixPostBwdRefIdeal.τ).loc Cert.MixPostBwdRefIdeal.main_arg5) = m' ((c.tc : Thread Cert.MixPostBwdRefIdeal.nD Cert.MixPostBwdRefIdeal.τ).loc Cert.MixPostBwdRefIdeal.main_arg5))

def preserves_PleLastBwd_PleLastBwdIdeal : Prop :=
  True

def algebraic_PleLastBwdIdeal_PleLastBwdRefIdeal [hPleLastBwdIdeal : Cert.PleLastBwdIdeal.Facts] [hPleLastBwdRefIdeal : Cert.PleLastBwdRefIdeal.Facts] : Prop :=
  ∀ (m : (ℓ : Loc Cert.PleLastBwdIdeal.nD Cert.PleLastBwdIdeal.τ Cert.PleLastBwdIdeal.sig) → Buf (Elt Ideal) ℓ) (g : Dev Cert.PleLastBwdIdeal.nD → PrngReg)
    (m' : (ℓ : Loc Cert.PleLastBwdRefIdeal.nD Cert.PleLastBwdRefIdeal.τ Cert.PleLastBwdRefIdeal.sig) → Buf (Elt Ideal) ℓ) (g' : Dev Cert.PleLastBwdRefIdeal.nD → PrngReg), Pre_PleLastBwdIdeal m →
    (∀ c : Dev Cert.PleLastBwdIdeal.nD,
      m' ((c.tc : Thread Cert.PleLastBwdRefIdeal.nD Cert.PleLastBwdRefIdeal.τ).loc Cert.PleLastBwdRefIdeal.main_arg0) = m ((c.tc : Thread Cert.PleLastBwdIdeal.nD Cert.PleLastBwdIdeal.τ).loc Cert.PleLastBwdIdeal.main_arg0)
      ∧ m' ((c.tc : Thread Cert.PleLastBwdRefIdeal.nD Cert.PleLastBwdRefIdeal.τ).loc Cert.PleLastBwdRefIdeal.main_arg1) = m ((c.tc : Thread Cert.PleLastBwdIdeal.nD Cert.PleLastBwdIdeal.τ).loc Cert.PleLastBwdIdeal.main_arg1)
      ∧ m' ((c.tc : Thread Cert.PleLastBwdRefIdeal.nD Cert.PleLastBwdRefIdeal.τ).loc Cert.PleLastBwdRefIdeal.main_arg2) = m ((c.tc : Thread Cert.PleLastBwdIdeal.nD Cert.PleLastBwdIdeal.τ).loc Cert.PleLastBwdIdeal.main_arg2)
      ∧ m' ((c.tc : Thread Cert.PleLastBwdRefIdeal.nD Cert.PleLastBwdRefIdeal.τ).loc Cert.PleLastBwdRefIdeal.main_arg3) = m ((c.tc : Thread Cert.PleLastBwdIdeal.nD Cert.PleLastBwdIdeal.τ).loc Cert.PleLastBwdIdeal.main_arg3)
      ∧ m' ((c.tc : Thread Cert.PleLastBwdRefIdeal.nD Cert.PleLastBwdRefIdeal.τ).loc Cert.PleLastBwdRefIdeal.main_arg4) = m ((c.tc : Thread Cert.PleLastBwdIdeal.nD Cert.PleLastBwdIdeal.τ).loc Cert.PleLastBwdIdeal.main_arg4)) →
    ∃ (v0 : (c : Dev Cert.PleLastBwdIdeal.nD) → Buf (Elt Ideal) ((c.tc : Thread Cert.PleLastBwdIdeal.nD Cert.PleLastBwdIdeal.τ).loc Cert.PleLastBwdIdeal.main_v1_0)) (v1 : (c : Dev Cert.PleLastBwdIdeal.nD) → Buf (Elt Ideal) ((c.tc : Thread Cert.PleLastBwdIdeal.nD Cert.PleLastBwdIdeal.τ).loc Cert.PleLastBwdIdeal.main_v1_1)) (v2 : (c : Dev Cert.PleLastBwdIdeal.nD) → Buf (Elt Ideal) ((c.tc : Thread Cert.PleLastBwdIdeal.nD Cert.PleLastBwdIdeal.τ).loc Cert.PleLastBwdIdeal.main_v1_2)) (v3 : (c : Dev Cert.PleLastBwdIdeal.nD) → Buf (Elt Ideal) ((c.tc : Thread Cert.PleLastBwdIdeal.nD Cert.PleLastBwdIdeal.τ).loc Cert.PleLastBwdIdeal.main_v1_3)),
      θ_run (Cert.PleLastBwdIdeal.defs (F := Ideal)) (onTc (τ := Cert.PleLastBwdIdeal.τ) (Cert.PleLastBwdIdeal.main (F := Ideal))) ⟨m, fun _ => 0, g⟩ (fun r => ∀ c : Dev Cert.PleLastBwdIdeal.nD,
          r.2.mem ((c.tc : Thread Cert.PleLastBwdIdeal.nD Cert.PleLastBwdIdeal.τ).loc Cert.PleLastBwdIdeal.main_v1_0) = v0 c
          ∧ r.2.mem ((c.tc : Thread Cert.PleLastBwdIdeal.nD Cert.PleLastBwdIdeal.τ).loc Cert.PleLastBwdIdeal.main_v1_1) = v1 c
          ∧ r.2.mem ((c.tc : Thread Cert.PleLastBwdIdeal.nD Cert.PleLastBwdIdeal.τ).loc Cert.PleLastBwdIdeal.main_v1_2) = v2 c
          ∧ r.2.mem ((c.tc : Thread Cert.PleLastBwdIdeal.nD Cert.PleLastBwdIdeal.τ).loc Cert.PleLastBwdIdeal.main_v1_3) = v3 c
          ∧ r.2.mem ((c.tc : Thread Cert.PleLastBwdIdeal.nD Cert.PleLastBwdIdeal.τ).loc Cert.PleLastBwdIdeal.main_arg0) = m ((c.tc : Thread Cert.PleLastBwdIdeal.nD Cert.PleLastBwdIdeal.τ).loc Cert.PleLastBwdIdeal.main_arg0)
          ∧ r.2.mem ((c.tc : Thread Cert.PleLastBwdIdeal.nD Cert.PleLastBwdIdeal.τ).loc Cert.PleLastBwdIdeal.main_arg1) = m ((c.tc : Thread Cert.PleLastBwdIdeal.nD Cert.PleLastBwdIdeal.τ).loc Cert.PleLastBwdIdeal.main_arg1)
          ∧ r.2.mem ((c.tc : Thread Cert.PleLastBwdIdeal.nD Cert.PleLastBwdIdeal.τ).loc Cert.PleLastBwdIdeal.main_arg2) = m ((c.tc : Thread Cert.PleLastBwdIdeal.nD Cert.PleLastBwdIdeal.τ).loc Cert.PleLastBwdIdeal.main_arg2)
          ∧ r.2.mem ((c.tc : Thread Cert.PleLastBwdIdeal.nD Cert.PleLastBwdIdeal.τ).loc Cert.PleLastBwdIdeal.main_arg3) = m ((c.tc : Thread Cert.PleLastBwdIdeal.nD Cert.PleLastBwdIdeal.τ).loc Cert.PleLastBwdIdeal.main_arg3)
          ∧ r.2.mem ((c.tc : Thread Cert.PleLastBwdIdeal.nD Cert.PleLastBwdIdeal.τ).loc Cert.PleLastBwdIdeal.main_arg4) = m ((c.tc : Thread Cert.PleLastBwdIdeal.nD Cert.PleLastBwdIdeal.τ).loc Cert.PleLastBwdIdeal.main_arg4))
      ∧ θ_run (Cert.PleLastBwdRefIdeal.defs (F := Ideal)) (onTc (τ := Cert.PleLastBwdRefIdeal.τ) (Cert.PleLastBwdRefIdeal.main (F := Ideal))) ⟨m', fun _ => 0, g'⟩ (fun r => ∀ c : Dev Cert.PleLastBwdRefIdeal.nD,
          r.2.mem ((c.tc : Thread Cert.PleLastBwdRefIdeal.nD Cert.PleLastBwdRefIdeal.τ).loc Cert.PleLastBwdRefIdeal.main_arg4) = v0 c
          ∧ r.2.mem ((c.tc : Thread Cert.PleLastBwdRefIdeal.nD Cert.PleLastBwdRefIdeal.τ).loc Cert.PleLastBwdRefIdeal.main_v51) = v1 c
          ∧ r.2.mem ((c.tc : Thread Cert.PleLastBwdRefIdeal.nD Cert.PleLastBwdRefIdeal.τ).loc Cert.PleLastBwdRefIdeal.main_v52) = v2 c
          ∧ r.2.mem ((c.tc : Thread Cert.PleLastBwdRefIdeal.nD Cert.PleLastBwdRefIdeal.τ).loc Cert.PleLastBwdRefIdeal.main_v53) = v3 c
          ∧ r.2.mem ((c.tc : Thread Cert.PleLastBwdRefIdeal.nD Cert.PleLastBwdRefIdeal.τ).loc Cert.PleLastBwdRefIdeal.main_arg0) = m' ((c.tc : Thread Cert.PleLastBwdRefIdeal.nD Cert.PleLastBwdRefIdeal.τ).loc Cert.PleLastBwdRefIdeal.main_arg0)
          ∧ r.2.mem ((c.tc : Thread Cert.PleLastBwdRefIdeal.nD Cert.PleLastBwdRefIdeal.τ).loc Cert.PleLastBwdRefIdeal.main_arg1) = m' ((c.tc : Thread Cert.PleLastBwdRefIdeal.nD Cert.PleLastBwdRefIdeal.τ).loc Cert.PleLastBwdRefIdeal.main_arg1)
          ∧ r.2.mem ((c.tc : Thread Cert.PleLastBwdRefIdeal.nD Cert.PleLastBwdRefIdeal.τ).loc Cert.PleLastBwdRefIdeal.main_arg2) = m' ((c.tc : Thread Cert.PleLastBwdRefIdeal.nD Cert.PleLastBwdRefIdeal.τ).loc Cert.PleLastBwdRefIdeal.main_arg2)
          ∧ r.2.mem ((c.tc : Thread Cert.PleLastBwdRefIdeal.nD Cert.PleLastBwdRefIdeal.τ).loc Cert.PleLastBwdRefIdeal.main_arg3) = m' ((c.tc : Thread Cert.PleLastBwdRefIdeal.nD Cert.PleLastBwdRefIdeal.τ).loc Cert.PleLastBwdRefIdeal.main_arg3)
          ∧ r.2.mem ((c.tc : Thread Cert.PleLastBwdRefIdeal.nD Cert.PleLastBwdRefIdeal.τ).loc Cert.PleLastBwdRefIdeal.main_arg4) = m' ((c.tc : Thread Cert.PleLastBwdRefIdeal.nD Cert.PleLastBwdRefIdeal.τ).loc Cert.PleLastBwdRefIdeal.main_arg4))

def preserves_SumGm_SumGmIdeal : Prop :=
  True

def algebraic_SumGmIdeal_SumGmRefIdeal [hSumGmIdeal : Cert.SumGmIdeal.Facts] [hSumGmRefIdeal : Cert.SumGmRefIdeal.Facts] : Prop :=
  ∀ (m : (ℓ : Loc Cert.SumGmIdeal.nD Cert.SumGmIdeal.τ Cert.SumGmIdeal.sig) → Buf (Elt Ideal) ℓ) (g : Dev Cert.SumGmIdeal.nD → PrngReg)
    (m' : (ℓ : Loc Cert.SumGmRefIdeal.nD Cert.SumGmRefIdeal.τ Cert.SumGmRefIdeal.sig) → Buf (Elt Ideal) ℓ) (g' : Dev Cert.SumGmRefIdeal.nD → PrngReg), Pre_SumGmIdeal m →
    (∀ c : Dev Cert.SumGmIdeal.nD,
      m' ((c.tc : Thread Cert.SumGmRefIdeal.nD Cert.SumGmRefIdeal.τ).loc Cert.SumGmRefIdeal.main_arg0) = m ((c.tc : Thread Cert.SumGmIdeal.nD Cert.SumGmIdeal.τ).loc Cert.SumGmIdeal.main_arg0)) →
    ∃ (v0 : (c : Dev Cert.SumGmIdeal.nD) → Buf (Elt Ideal) ((c.tc : Thread Cert.SumGmIdeal.nD Cert.SumGmIdeal.τ).loc Cert.SumGmIdeal.main_v0)),
      θ_run (Cert.SumGmIdeal.defs (F := Ideal)) (onTc (τ := Cert.SumGmIdeal.τ) (Cert.SumGmIdeal.main (F := Ideal))) ⟨m, fun _ => 0, g⟩ (fun r => ∀ c : Dev Cert.SumGmIdeal.nD,
          r.2.mem ((c.tc : Thread Cert.SumGmIdeal.nD Cert.SumGmIdeal.τ).loc Cert.SumGmIdeal.main_v0) = v0 c
          ∧ r.2.mem ((c.tc : Thread Cert.SumGmIdeal.nD Cert.SumGmIdeal.τ).loc Cert.SumGmIdeal.main_arg0) = m ((c.tc : Thread Cert.SumGmIdeal.nD Cert.SumGmIdeal.τ).loc Cert.SumGmIdeal.main_arg0))
      ∧ θ_run (Cert.SumGmRefIdeal.defs (F := Ideal)) (onTc (τ := Cert.SumGmRefIdeal.τ) (Cert.SumGmRefIdeal.main (F := Ideal))) ⟨m', fun _ => 0, g'⟩ (fun r => ∀ c : Dev Cert.SumGmRefIdeal.nD,
          r.2.mem ((c.tc : Thread Cert.SumGmRefIdeal.nD Cert.SumGmRefIdeal.τ).loc Cert.SumGmRefIdeal.main_v0) = v0 c
          ∧ r.2.mem ((c.tc : Thread Cert.SumGmRefIdeal.nD Cert.SumGmRefIdeal.τ).loc Cert.SumGmRefIdeal.main_arg0) = m' ((c.tc : Thread Cert.SumGmRefIdeal.nD Cert.SumGmRefIdeal.τ).loc Cert.SumGmRefIdeal.main_arg0))

def preserves_SumRest_SumRestIdeal : Prop :=
  True

def algebraic_SumRestIdeal_SumRestRefIdeal [hSumRestIdeal : Cert.SumRestIdeal.Facts] [hSumRestRefIdeal : Cert.SumRestRefIdeal.Facts] : Prop :=
  ∀ (m : (ℓ : Loc Cert.SumRestIdeal.nD Cert.SumRestIdeal.τ Cert.SumRestIdeal.sig) → Buf (Elt Ideal) ℓ) (g : Dev Cert.SumRestIdeal.nD → PrngReg)
    (m' : (ℓ : Loc Cert.SumRestRefIdeal.nD Cert.SumRestRefIdeal.τ Cert.SumRestRefIdeal.sig) → Buf (Elt Ideal) ℓ) (g' : Dev Cert.SumRestRefIdeal.nD → PrngReg), Pre_SumRestIdeal m →
    (∀ c : Dev Cert.SumRestIdeal.nD,
      m' ((c.tc : Thread Cert.SumRestRefIdeal.nD Cert.SumRestRefIdeal.τ).loc Cert.SumRestRefIdeal.main_arg0) = m ((c.tc : Thread Cert.SumRestIdeal.nD Cert.SumRestIdeal.τ).loc Cert.SumRestIdeal.main_arg0)) →
    ∃ (v0 : (c : Dev Cert.SumRestIdeal.nD) → Buf (Elt Ideal) ((c.tc : Thread Cert.SumRestIdeal.nD Cert.SumRestIdeal.τ).loc Cert.SumRestIdeal.main_v0)),
      θ_run (Cert.SumRestIdeal.defs (F := Ideal)) (onTc (τ := Cert.SumRestIdeal.τ) (Cert.SumRestIdeal.main (F := Ideal))) ⟨m, fun _ => 0, g⟩ (fun r => ∀ c : Dev Cert.SumRestIdeal.nD,
          r.2.mem ((c.tc : Thread Cert.SumRestIdeal.nD Cert.SumRestIdeal.τ).loc Cert.SumRestIdeal.main_v0) = v0 c
          ∧ r.2.mem ((c.tc : Thread Cert.SumRestIdeal.nD Cert.SumRestIdeal.τ).loc Cert.SumRestIdeal.main_arg0) = m ((c.tc : Thread Cert.SumRestIdeal.nD Cert.SumRestIdeal.τ).loc Cert.SumRestIdeal.main_arg0))
      ∧ θ_run (Cert.SumRestRefIdeal.defs (F := Ideal)) (onTc (τ := Cert.SumRestRefIdeal.τ) (Cert.SumRestRefIdeal.main (F := Ideal))) ⟨m', fun _ => 0, g'⟩ (fun r => ∀ c : Dev Cert.SumRestRefIdeal.nD,
          r.2.mem ((c.tc : Thread Cert.SumRestRefIdeal.nD Cert.SumRestRefIdeal.τ).loc Cert.SumRestRefIdeal.main_v0) = v0 c
          ∧ r.2.mem ((c.tc : Thread Cert.SumRestRefIdeal.nD Cert.SumRestRefIdeal.τ).loc Cert.SumRestRefIdeal.main_arg0) = m' ((c.tc : Thread Cert.SumRestRefIdeal.nD Cert.SumRestRefIdeal.τ).loc Cert.SumRestRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v9) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_SpatialBwd_SpatialBwdIdeal : Prop :=
  True

def algebraic_SpatialBwdIdeal_SpatialRefIdeal [hSpatialBwdIdeal : Cert.SpatialBwdIdeal.Facts] [hSpatialRefIdeal : Cert.SpatialRefIdeal.Facts] : Prop :=
  ∀ (m : (ℓ : Loc Cert.SpatialBwdIdeal.nD Cert.SpatialBwdIdeal.τ Cert.SpatialBwdIdeal.sig) → Buf (Elt Ideal) ℓ) (g : Dev Cert.SpatialBwdIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialBwdIdeal m →
    (∀ c : Dev Cert.SpatialBwdIdeal.nD,
      m' ((c.tc : Thread Cert.SpatialRefIdeal.nD Cert.SpatialRefIdeal.τ).loc Cert.SpatialRefIdeal.main_arg0) = m ((c.tc : Thread Cert.SpatialBwdIdeal.nD Cert.SpatialBwdIdeal.τ).loc Cert.SpatialBwdIdeal.main_arg0)
      ∧ m' ((c.tc : Thread Cert.SpatialRefIdeal.nD Cert.SpatialRefIdeal.τ).loc Cert.SpatialRefIdeal.main_arg1) = m ((c.tc : Thread Cert.SpatialBwdIdeal.nD Cert.SpatialBwdIdeal.τ).loc Cert.SpatialBwdIdeal.main_arg1)
      ∧ m' ((c.tc : Thread Cert.SpatialRefIdeal.nD Cert.SpatialRefIdeal.τ).loc Cert.SpatialRefIdeal.main_arg2) = m ((c.tc : Thread Cert.SpatialBwdIdeal.nD Cert.SpatialBwdIdeal.τ).loc Cert.SpatialBwdIdeal.main_arg2)
      ∧ m' ((c.tc : Thread Cert.SpatialRefIdeal.nD Cert.SpatialRefIdeal.τ).loc Cert.SpatialRefIdeal.main_arg3) = m ((c.tc : Thread Cert.SpatialBwdIdeal.nD Cert.SpatialBwdIdeal.τ).loc Cert.SpatialBwdIdeal.main_arg3)
      ∧ m' ((c.tc : Thread Cert.SpatialRefIdeal.nD Cert.SpatialRefIdeal.τ).loc Cert.SpatialRefIdeal.main_arg4) = m ((c.tc : Thread Cert.SpatialBwdIdeal.nD Cert.SpatialBwdIdeal.τ).loc Cert.SpatialBwdIdeal.main_arg4)) →
    ∃ (v0 : (c : Dev Cert.SpatialBwdIdeal.nD) → Buf (Elt Ideal) ((c.tc : Thread Cert.SpatialBwdIdeal.nD Cert.SpatialBwdIdeal.τ).loc Cert.SpatialBwdIdeal.main_v1_0)) (v1 : (c : Dev Cert.SpatialBwdIdeal.nD) → Buf (Elt Ideal) ((c.tc : Thread Cert.SpatialBwdIdeal.nD Cert.SpatialBwdIdeal.τ).loc Cert.SpatialBwdIdeal.main_v1_1)) (v2 : (c : Dev Cert.SpatialBwdIdeal.nD) → Buf (Elt Ideal) ((c.tc : Thread Cert.SpatialBwdIdeal.nD Cert.SpatialBwdIdeal.τ).loc Cert.SpatialBwdIdeal.main_v1_2)) (v3 : (c : Dev Cert.SpatialBwdIdeal.nD) → Buf (Elt Ideal) ((c.tc : Thread Cert.SpatialBwdIdeal.nD Cert.SpatialBwdIdeal.τ).loc Cert.SpatialBwdIdeal.main_v1_3)),
      θ_run (Cert.SpatialBwdIdeal.defs (F := Ideal)) (onTc (τ := Cert.SpatialBwdIdeal.τ) (Cert.SpatialBwdIdeal.main (F := Ideal))) ⟨m, fun _ => 0, g⟩ (fun r => ∀ c : Dev Cert.SpatialBwdIdeal.nD,
          r.2.mem ((c.tc : Thread Cert.SpatialBwdIdeal.nD Cert.SpatialBwdIdeal.τ).loc Cert.SpatialBwdIdeal.main_v1_0) = v0 c
          ∧ r.2.mem ((c.tc : Thread Cert.SpatialBwdIdeal.nD Cert.SpatialBwdIdeal.τ).loc Cert.SpatialBwdIdeal.main_v1_1) = v1 c
          ∧ r.2.mem ((c.tc : Thread Cert.SpatialBwdIdeal.nD Cert.SpatialBwdIdeal.τ).loc Cert.SpatialBwdIdeal.main_v1_2) = v2 c
          ∧ r.2.mem ((c.tc : Thread Cert.SpatialBwdIdeal.nD Cert.SpatialBwdIdeal.τ).loc Cert.SpatialBwdIdeal.main_v1_3) = v3 c
          ∧ r.2.mem ((c.tc : Thread Cert.SpatialBwdIdeal.nD Cert.SpatialBwdIdeal.τ).loc Cert.SpatialBwdIdeal.main_arg0) = m ((c.tc : Thread Cert.SpatialBwdIdeal.nD Cert.SpatialBwdIdeal.τ).loc Cert.SpatialBwdIdeal.main_arg0)
          ∧ r.2.mem ((c.tc : Thread Cert.SpatialBwdIdeal.nD Cert.SpatialBwdIdeal.τ).loc Cert.SpatialBwdIdeal.main_arg1) = m ((c.tc : Thread Cert.SpatialBwdIdeal.nD Cert.SpatialBwdIdeal.τ).loc Cert.SpatialBwdIdeal.main_arg1)
          ∧ r.2.mem ((c.tc : Thread Cert.SpatialBwdIdeal.nD Cert.SpatialBwdIdeal.τ).loc Cert.SpatialBwdIdeal.main_arg2) = m ((c.tc : Thread Cert.SpatialBwdIdeal.nD Cert.SpatialBwdIdeal.τ).loc Cert.SpatialBwdIdeal.main_arg2)
          ∧ r.2.mem ((c.tc : Thread Cert.SpatialBwdIdeal.nD Cert.SpatialBwdIdeal.τ).loc Cert.SpatialBwdIdeal.main_arg3) = m ((c.tc : Thread Cert.SpatialBwdIdeal.nD Cert.SpatialBwdIdeal.τ).loc Cert.SpatialBwdIdeal.main_arg3)
          ∧ r.2.mem ((c.tc : Thread Cert.SpatialBwdIdeal.nD Cert.SpatialBwdIdeal.τ).loc Cert.SpatialBwdIdeal.main_arg4) = m ((c.tc : Thread Cert.SpatialBwdIdeal.nD Cert.SpatialBwdIdeal.τ).loc Cert.SpatialBwdIdeal.main_arg4))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v16) = v0 c
          ∧ r.2.mem ((c.tc : Thread Cert.SpatialRefIdeal.nD Cert.SpatialRefIdeal.τ).loc Cert.SpatialRefIdeal.main_v28) = v1 c
          ∧ r.2.mem ((c.tc : Thread Cert.SpatialRefIdeal.nD Cert.SpatialRefIdeal.τ).loc Cert.SpatialRefIdeal.main_v27) = v2 c
          ∧ r.2.mem ((c.tc : Thread Cert.SpatialRefIdeal.nD Cert.SpatialRefIdeal.τ).loc Cert.SpatialRefIdeal.main_v29) = v3 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2)
          ∧ r.2.mem ((c.tc : Thread Cert.SpatialRefIdeal.nD Cert.SpatialRefIdeal.τ).loc Cert.SpatialRefIdeal.main_arg3) = m' ((c.tc : Thread Cert.SpatialRefIdeal.nD Cert.SpatialRefIdeal.τ).loc Cert.SpatialRefIdeal.main_arg3)
          ∧ r.2.mem ((c.tc : Thread Cert.SpatialRefIdeal.nD Cert.SpatialRefIdeal.τ).loc Cert.SpatialRefIdeal.main_arg4) = m' ((c.tc : Thread Cert.SpatialRefIdeal.nD Cert.SpatialRefIdeal.τ).loc Cert.SpatialRefIdeal.main_arg4))

def Claim : Prop :=
  ∃ (hInDx : Cert.InDx.Facts) (hInDxIdeal : Cert.InDxIdeal.Facts) (hInDxRefIdeal : Cert.InDxRefIdeal.Facts) (hDownDw : Cert.DownDw.Facts) (hDownDwIdeal : Cert.DownDwIdeal.Facts) (hDownDwRefIdeal : Cert.DownDwRefIdeal.Facts) (hGateDw : Cert.GateDw.Facts) (hGateDwIdeal : Cert.GateDwIdeal.Facts) (hGateDwRefIdeal : Cert.GateDwRefIdeal.Facts) (hDownDx : Cert.DownDx.Facts) (hDownDxIdeal : Cert.DownDxIdeal.Facts) (hDownDxRefIdeal : Cert.DownDxRefIdeal.Facts) (hGateUp : Cert.GateUp.Facts) (hGateUpIdeal : Cert.GateUpIdeal.Facts) (hGateUpRefIdeal : Cert.GateUpRefIdeal.Facts) (hDownFwd : Cert.DownFwd.Facts) (hDownFwdIdeal : Cert.DownFwdIdeal.Facts) (hDownFwdRefIdeal : Cert.DownFwdRefIdeal.Facts) (hHgIn : Cert.HgIn.Facts) (hHgInIdeal : Cert.HgInIdeal.Facts) (hHgInRefIdeal : Cert.HgInRefIdeal.Facts) (hHgInDx : Cert.HgInDx.Facts) (hHgInDxIdeal : Cert.HgInDxIdeal.Facts) (hHgInDxRefIdeal : Cert.HgInDxRefIdeal.Facts) (hHgInDw : Cert.HgInDw.Facts) (hHgInDwIdeal : Cert.HgInDwIdeal.Facts) (hHgInDwRefIdeal : Cert.HgInDwRefIdeal.Facts) (hGmIn : Cert.GmIn.Facts) (hGmInIdeal : Cert.GmInIdeal.Facts) (hGmInRefIdeal : Cert.GmInRefIdeal.Facts) (hGmInDx : Cert.GmInDx.Facts) (hGmInDxIdeal : Cert.GmInDxIdeal.Facts) (hGmInDxRefIdeal : Cert.GmInDxRefIdeal.Facts) (hGmInDw : Cert.GmInDw.Facts) (hGmInDwIdeal : Cert.GmInDwIdeal.Facts) (hGmInDwRefIdeal : Cert.GmInDwRefIdeal.Facts) (hHgOut : Cert.HgOut.Facts) (hHgOutIdeal : Cert.HgOutIdeal.Facts) (hHgOutRefIdeal : Cert.HgOutRefIdeal.Facts) (hHgOutDx : Cert.HgOutDx.Facts) (hHgOutDxIdeal : Cert.HgOutDxIdeal.Facts) (hHgOutDxRefIdeal : Cert.HgOutDxRefIdeal.Facts) (hHgOutDw : Cert.HgOutDw.Facts) (hHgOutDwIdeal : Cert.HgOutDwIdeal.Facts) (hHgOutDwRefIdeal : Cert.HgOutDwRefIdeal.Facts) (hPleGate : Cert.PleGate.Facts) (hPleGateIdeal : Cert.PleGateIdeal.Facts) (hPleGateRefIdeal : Cert.PleGateRefIdeal.Facts) (hPleGateDx : Cert.PleGateDx.Facts) (hPleGateDxIdeal : Cert.PleGateDxIdeal.Facts) (hPleGateDxRefIdeal : Cert.PleGateDxRefIdeal.Facts) (hPleGateDw : Cert.PleGateDw.Facts) (hPleGateDwIdeal : Cert.PleGateDwIdeal.Facts) (hPleGateDwRefIdeal : Cert.PleGateDwRefIdeal.Facts) (hAdamHgIn : Cert.AdamHgIn.Facts) (hAdamHgInIdeal : Cert.AdamHgInIdeal.Facts) (hAdamHgInRefIdeal : Cert.AdamHgInRefIdeal.Facts) (hAdamOut : Cert.AdamOut.Facts) (hAdamOutIdeal : Cert.AdamOutIdeal.Facts) (hAdamOutRefIdeal : Cert.AdamOutRefIdeal.Facts) (hAdamGmIn : Cert.AdamGmIn.Facts) (hAdamGmInIdeal : Cert.AdamGmInIdeal.Facts) (hAdamGmInRefIdeal : Cert.AdamGmInRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamProj : Cert.AdamProj.Facts) (hAdamProjIdeal : Cert.AdamProjIdeal.Facts) (hAdamProjRefIdeal : Cert.AdamProjRefIdeal.Facts) (hAdamPleGate : Cert.AdamPleGate.Facts) (hAdamPleGateIdeal : Cert.AdamPleGateIdeal.Facts) (hAdamPleGateRefIdeal : Cert.AdamPleGateRefIdeal.Facts) (hAdamSmall : Cert.AdamSmall.Facts) (hAdamSmallIdeal : Cert.AdamSmallIdeal.Facts) (hAdamSmallRefIdeal : Cert.AdamSmallRefIdeal.Facts) (hPrenormBwd : Cert.PrenormBwd.Facts) (hPrenormBwdIdeal : Cert.PrenormBwdIdeal.Facts) (hPrenormBwdRefIdeal : Cert.PrenormBwdRefIdeal.Facts) (hFfnPostBwd : Cert.FfnPostBwd.Facts) (hFfnPostBwdIdeal : Cert.FfnPostBwdIdeal.Facts) (hFfnPostBwdRefIdeal : Cert.FfnPostBwdRefIdeal.Facts) (hMixPostBwd : Cert.MixPostBwd.Facts) (hMixPostBwdIdeal : Cert.MixPostBwdIdeal.Facts) (hMixPostBwdRefIdeal : Cert.MixPostBwdRefIdeal.Facts) (hPleLastBwd : Cert.PleLastBwd.Facts) (hPleLastBwdIdeal : Cert.PleLastBwdIdeal.Facts) (hPleLastBwdRefIdeal : Cert.PleLastBwdRefIdeal.Facts) (hSumGm : Cert.SumGm.Facts) (hSumGmIdeal : Cert.SumGmIdeal.Facts) (hSumGmRefIdeal : Cert.SumGmRefIdeal.Facts) (hSumRest : Cert.SumRest.Facts) (hSumRestIdeal : Cert.SumRestIdeal.Facts) (hSumRestRefIdeal : Cert.SumRestRefIdeal.Facts) (hLossHead : Cert.LossHead.Facts) (hLossHeadIdeal : Cert.LossHeadIdeal.Facts) (hLossHeadRefIdeal : Cert.LossHeadRefIdeal.Facts) (hSpatialBwd : Cert.SpatialBwd.Facts) (hSpatialBwdIdeal : Cert.SpatialBwdIdeal.Facts) (hSpatialRefIdeal : Cert.SpatialRefIdeal.Facts),
    quiescent_InDx (hInDx := hInDx)
    ∧ quiescent_InDxIdeal (hInDxIdeal := hInDxIdeal)
    ∧ quiescent_InDxRefIdeal (hInDxRefIdeal := hInDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_HgIn (hHgIn := hHgIn)
    ∧ quiescent_HgInIdeal (hHgInIdeal := hHgInIdeal)
    ∧ quiescent_HgInRefIdeal (hHgInRefIdeal := hHgInRefIdeal)
    ∧ quiescent_HgInDx (hHgInDx := hHgInDx)
    ∧ quiescent_HgInDxIdeal (hHgInDxIdeal := hHgInDxIdeal)
    ∧ quiescent_HgInDxRefIdeal (hHgInDxRefIdeal := hHgInDxRefIdeal)
    ∧ quiescent_HgInDw (hHgInDw := hHgInDw)
    ∧ quiescent_HgInDwIdeal (hHgInDwIdeal := hHgInDwIdeal)
    ∧ quiescent_HgInDwRefIdeal (hHgInDwRefIdeal := hHgInDwRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_GmInDx (hGmInDx := hGmInDx)
    ∧ quiescent_GmInDxIdeal (hGmInDxIdeal := hGmInDxIdeal)
    ∧ quiescent_GmInDxRefIdeal (hGmInDxRefIdeal := hGmInDxRefIdeal)
    ∧ quiescent_GmInDw (hGmInDw := hGmInDw)
    ∧ quiescent_GmInDwIdeal (hGmInDwIdeal := hGmInDwIdeal)
    ∧ quiescent_GmInDwRefIdeal (hGmInDwRefIdeal := hGmInDwRefIdeal)
    ∧ quiescent_HgOut (hHgOut := hHgOut)
    ∧ quiescent_HgOutIdeal (hHgOutIdeal := hHgOutIdeal)
    ∧ quiescent_HgOutRefIdeal (hHgOutRefIdeal := hHgOutRefIdeal)
    ∧ quiescent_HgOutDx (hHgOutDx := hHgOutDx)
    ∧ quiescent_HgOutDxIdeal (hHgOutDxIdeal := hHgOutDxIdeal)
    ∧ quiescent_HgOutDxRefIdeal (hHgOutDxRefIdeal := hHgOutDxRefIdeal)
    ∧ quiescent_HgOutDw (hHgOutDw := hHgOutDw)
    ∧ quiescent_HgOutDwIdeal (hHgOutDwIdeal := hHgOutDwIdeal)
    ∧ quiescent_HgOutDwRefIdeal (hHgOutDwRefIdeal := hHgOutDwRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleGateDx (hPleGateDx := hPleGateDx)
    ∧ quiescent_PleGateDxIdeal (hPleGateDxIdeal := hPleGateDxIdeal)
    ∧ quiescent_PleGateDxRefIdeal (hPleGateDxRefIdeal := hPleGateDxRefIdeal)
    ∧ quiescent_PleGateDw (hPleGateDw := hPleGateDw)
    ∧ quiescent_PleGateDwIdeal (hPleGateDwIdeal := hPleGateDwIdeal)
    ∧ quiescent_PleGateDwRefIdeal (hPleGateDwRefIdeal := hPleGateDwRefIdeal)
    ∧ quiescent_AdamHgIn (hAdamHgIn := hAdamHgIn)
    ∧ quiescent_AdamHgInIdeal (hAdamHgInIdeal := hAdamHgInIdeal)
    ∧ quiescent_AdamHgInRefIdeal (hAdamHgInRefIdeal := hAdamHgInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGmIn (hAdamGmIn := hAdamGmIn)
    ∧ quiescent_AdamGmInIdeal (hAdamGmInIdeal := hAdamGmInIdeal)
    ∧ quiescent_AdamGmInRefIdeal (hAdamGmInRefIdeal := hAdamGmInRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PrenormBwd (hPrenormBwd := hPrenormBwd)
    ∧ quiescent_PrenormBwdIdeal (hPrenormBwdIdeal := hPrenormBwdIdeal)
    ∧ quiescent_PrenormBwdRefIdeal (hPrenormBwdRefIdeal := hPrenormBwdRefIdeal)
    ∧ quiescent_FfnPostBwd (hFfnPostBwd := hFfnPostBwd)
    ∧ quiescent_FfnPostBwdIdeal (hFfnPostBwdIdeal := hFfnPostBwdIdeal)
    ∧ quiescent_FfnPostBwdRefIdeal (hFfnPostBwdRefIdeal := hFfnPostBwdRefIdeal)
    ∧ quiescent_MixPostBwd (hMixPostBwd := hMixPostBwd)
    ∧ quiescent_MixPostBwdIdeal (hMixPostBwdIdeal := hMixPostBwdIdeal)
    ∧ quiescent_MixPostBwdRefIdeal (hMixPostBwdRefIdeal := hMixPostBwdRefIdeal)
    ∧ quiescent_PleLastBwd (hPleLastBwd := hPleLastBwd)
    ∧ quiescent_PleLastBwdIdeal (hPleLastBwdIdeal := hPleLastBwdIdeal)
    ∧ quiescent_PleLastBwdRefIdeal (hPleLastBwdRefIdeal := hPleLastBwdRefIdeal)
    ∧ quiescent_SumGm (hSumGm := hSumGm)
    ∧ quiescent_SumGmIdeal (hSumGmIdeal := hSumGmIdeal)
    ∧ quiescent_SumGmRefIdeal (hSumGmRefIdeal := hSumGmRefIdeal)
    ∧ quiescent_SumRest (hSumRest := hSumRest)
    ∧ quiescent_SumRestIdeal (hSumRestIdeal := hSumRestIdeal)
    ∧ quiescent_SumRestRefIdeal (hSumRestRefIdeal := hSumRestRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SpatialBwd (hSpatialBwd := hSpatialBwd)
    ∧ quiescent_SpatialBwdIdeal (hSpatialBwdIdeal := hSpatialBwdIdeal)
    ∧ quiescent_SpatialRefIdeal (hSpatialRefIdeal := hSpatialRefIdeal)
    ∧ preserves_InDx_InDxIdeal
    ∧ algebraic_InDxIdeal_InDxRefIdeal (hInDxIdeal := hInDxIdeal) (hInDxRefIdeal := hInDxRefIdeal)
    ∧ preserves_DownDw_DownDwIdeal
    ∧ algebraic_DownDwIdeal_DownDwRefIdeal (hDownDwIdeal := hDownDwIdeal) (hDownDwRefIdeal := hDownDwRefIdeal)
    ∧ preserves_GateDw_GateDwIdeal
    ∧ algebraic_GateDwIdeal_GateDwRefIdeal (hGateDwIdeal := hGateDwIdeal) (hGateDwRefIdeal := hGateDwRefIdeal)
    ∧ preserves_DownDx_DownDxIdeal
    ∧ algebraic_DownDxIdeal_DownDxRefIdeal (hDownDxIdeal := hDownDxIdeal) (hDownDxRefIdeal := hDownDxRefIdeal)
    ∧ preserves_GateUp_GateUpIdeal
    ∧ algebraic_GateUpIdeal_GateUpRefIdeal (hGateUpIdeal := hGateUpIdeal) (hGateUpRefIdeal := hGateUpRefIdeal)
    ∧ preserves_DownFwd_DownFwdIdeal
    ∧ algebraic_DownFwdIdeal_DownFwdRefIdeal (hDownFwdIdeal := hDownFwdIdeal) (hDownFwdRefIdeal := hDownFwdRefIdeal)
    ∧ preserves_HgIn_HgInIdeal
    ∧ algebraic_HgInIdeal_HgInRefIdeal (hHgInIdeal := hHgInIdeal) (hHgInRefIdeal := hHgInRefIdeal)
    ∧ preserves_HgInDx_HgInDxIdeal
    ∧ algebraic_HgInDxIdeal_HgInDxRefIdeal (hHgInDxIdeal := hHgInDxIdeal) (hHgInDxRefIdeal := hHgInDxRefIdeal)
    ∧ preserves_HgInDw_HgInDwIdeal
    ∧ algebraic_HgInDwIdeal_HgInDwRefIdeal (hHgInDwIdeal := hHgInDwIdeal) (hHgInDwRefIdeal := hHgInDwRefIdeal)
    ∧ preserves_GmIn_GmInIdeal
    ∧ algebraic_GmInIdeal_GmInRefIdeal (hGmInIdeal := hGmInIdeal) (hGmInRefIdeal := hGmInRefIdeal)
    ∧ preserves_GmInDx_GmInDxIdeal
    ∧ algebraic_GmInDxIdeal_GmInDxRefIdeal (hGmInDxIdeal := hGmInDxIdeal) (hGmInDxRefIdeal := hGmInDxRefIdeal)
    ∧ preserves_GmInDw_GmInDwIdeal
    ∧ algebraic_GmInDwIdeal_GmInDwRefIdeal (hGmInDwIdeal := hGmInDwIdeal) (hGmInDwRefIdeal := hGmInDwRefIdeal)
    ∧ preserves_HgOut_HgOutIdeal
    ∧ algebraic_HgOutIdeal_HgOutRefIdeal (hHgOutIdeal := hHgOutIdeal) (hHgOutRefIdeal := hHgOutRefIdeal)
    ∧ preserves_HgOutDx_HgOutDxIdeal
    ∧ algebraic_HgOutDxIdeal_HgOutDxRefIdeal (hHgOutDxIdeal := hHgOutDxIdeal) (hHgOutDxRefIdeal := hHgOutDxRefIdeal)
    ∧ preserves_HgOutDw_HgOutDwIdeal
    ∧ algebraic_HgOutDwIdeal_HgOutDwRefIdeal (hHgOutDwIdeal := hHgOutDwIdeal) (hHgOutDwRefIdeal := hHgOutDwRefIdeal)
    ∧ preserves_PleGate_PleGateIdeal
    ∧ algebraic_PleGateIdeal_PleGateRefIdeal (hPleGateIdeal := hPleGateIdeal) (hPleGateRefIdeal := hPleGateRefIdeal)
    ∧ preserves_PleGateDx_PleGateDxIdeal
    ∧ algebraic_PleGateDxIdeal_PleGateDxRefIdeal (hPleGateDxIdeal := hPleGateDxIdeal) (hPleGateDxRefIdeal := hPleGateDxRefIdeal)
    ∧ preserves_PleGateDw_PleGateDwIdeal
    ∧ algebraic_PleGateDwIdeal_PleGateDwRefIdeal (hPleGateDwIdeal := hPleGateDwIdeal) (hPleGateDwRefIdeal := hPleGateDwRefIdeal)
    ∧ preserves_AdamHgIn_AdamHgInIdeal
    ∧ algebraic_AdamHgInIdeal_AdamHgInRefIdeal (hAdamHgInIdeal := hAdamHgInIdeal) (hAdamHgInRefIdeal := hAdamHgInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGmIn_AdamGmInIdeal
    ∧ algebraic_AdamGmInIdeal_AdamGmInRefIdeal (hAdamGmInIdeal := hAdamGmInIdeal) (hAdamGmInRefIdeal := hAdamGmInRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PrenormBwd_PrenormBwdIdeal
    ∧ algebraic_PrenormBwdIdeal_PrenormBwdRefIdeal (hPrenormBwdIdeal := hPrenormBwdIdeal) (hPrenormBwdRefIdeal := hPrenormBwdRefIdeal)
    ∧ preserves_FfnPostBwd_FfnPostBwdIdeal
    ∧ algebraic_FfnPostBwdIdeal_FfnPostBwdRefIdeal (hFfnPostBwdIdeal := hFfnPostBwdIdeal) (hFfnPostBwdRefIdeal := hFfnPostBwdRefIdeal)
    ∧ preserves_MixPostBwd_MixPostBwdIdeal
    ∧ algebraic_MixPostBwdIdeal_MixPostBwdRefIdeal (hMixPostBwdIdeal := hMixPostBwdIdeal) (hMixPostBwdRefIdeal := hMixPostBwdRefIdeal)
    ∧ preserves_PleLastBwd_PleLastBwdIdeal
    ∧ algebraic_PleLastBwdIdeal_PleLastBwdRefIdeal (hPleLastBwdIdeal := hPleLastBwdIdeal) (hPleLastBwdRefIdeal := hPleLastBwdRefIdeal)
    ∧ preserves_SumGm_SumGmIdeal
    ∧ algebraic_SumGmIdeal_SumGmRefIdeal (hSumGmIdeal := hSumGmIdeal) (hSumGmRefIdeal := hSumGmRefIdeal)
    ∧ preserves_SumRest_SumRestIdeal
    ∧ algebraic_SumRestIdeal_SumRestRefIdeal (hSumRestIdeal := hSumRestIdeal) (hSumRestRefIdeal := hSumRestRefIdeal)
    ∧ preserves_LossHead_LossHeadIdeal
    ∧ algebraic_LossHeadIdeal_LossHeadRefIdeal (hLossHeadIdeal := hLossHeadIdeal) (hLossHeadRefIdeal := hLossHeadRefIdeal)
    ∧ preserves_SpatialBwd_SpatialBwdIdeal
    ∧ algebraic_SpatialBwdIdeal_SpatialRefIdeal (hSpatialBwdIdeal := hSpatialBwdIdeal) (hSpatialRefIdeal := hSpatialRefIdeal)
-- ==== InDx.lean ====
abbrev S4096x5632 : Shape := ⟨2, ![4096, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4096x2048 : Shape := ⟨2, ![4096, 2048]⟩
abbrev S512x1408 : Shape := ⟨2, ![512, 1408]⟩
abbrev S1x1x2048x1408 : Shape := ⟨4, ![1, 1, 2048, 1408]⟩
abbrev S512x2048 : Shape := ⟨2, ![512, 2048]⟩
abbrev S2048x1408 : Shape := ⟨2, ![2048, 1408]⟩

abbrev nBuf : Space → Nat
  | .hbm => 13
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x4x1408, .bf16⟩
  | .hbm, ⟨6, _⟩ => ⟨S4x2048x1408, .bf16⟩
  | .hbm, ⟨7, _⟩ => ⟨S4x1x2048x1408, .bf16⟩
  | .hbm, ⟨8, _⟩ => ⟨S2048x5632, .bf16⟩
  | .hbm, ⟨9, _⟩ => ⟨S2048x4x1408, .bf16⟩
  | .hbm, ⟨10, _⟩ => ⟨S4x2048x1408, .bf16⟩
  | .hbm, ⟨11, _⟩ => ⟨S4x1x2048x1408, .bf16⟩
  | .hbm, ⟨12, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c3_i32_5 : BitVec 32 := 3#32
  let v18 : BitVec 32 := Scalar.minsi arg1 c3_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v17.toNat, c0_i32_12.toNat, c0_i32_13.toNat, v28.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.subi arg1 c4_i32_6
  let c0_i32_7 : BitVec 32 := 0#32
  let v20 : BitVec 32 := Scalar.maxsi v19 c0_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, c0_i32_15.toNat, v30.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InDxRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S4x1x1408x2048 : Shape := ⟨4, ![4, 1, 1408, 2048]⟩
abbrev S1024x1408 : Shape := ⟨2, ![1024, 1408]⟩
abbrev S1024x1024 : Shape := ⟨2, ![1024, 1024]⟩
abbrev S1x1x1408x1024 : Shape := ⟨4, ![1, 1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1x1408x2048, .bf16⟩
  | .hbm, ⟨3, _⟩ => ⟨S4x1x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S4x1x1408x2048 : Shape := ⟨4, ![4, 1, 1408, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1x1408x2048, .bf16⟩
  | .hbm, ⟨3, _⟩ => ⟨S_, .f32⟩
  | .hbm, ⟨4, _⟩ => ⟨S5632x2048, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S4x1x1408x2048, .f32⟩
  | .hbm, ⟨11, _⟩ => ⟨S4x1x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GateDw.lean ====
abbrev S4096x2048 : Shape := ⟨2, ![4096, 2048]⟩
abbrev S4096x5632 : Shape := ⟨2, ![4096, 5632]⟩
abbrev S4x1x2048x1408 : Shape := ⟨4, ![4, 1, 2048, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x1x2048x1408, .bf16⟩
  | .hbm, ⟨3, _⟩ => ⟨S4x1x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S4096x2048 : Shape := ⟨2, ![4096, 2048]⟩
abbrev S4096x5632 : Shape := ⟨2, ![4096, 5632]⟩
abbrev S4x1x2048x1408 : Shape := ⟨4, ![4, 1, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x1x2048x1408, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x1x2048x1408, .f32⟩
  | .hbm, ⟨13, _⟩ => ⟨S4x1x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S4x1x1408x2048 : Shape := ⟨4, ![4, 1, 1408, 2048]⟩
abbrev S512x2048 : Shape := ⟨2, ![512, 2048]⟩
abbrev S1x1x1408x2048 : Shape := ⟨4, ![1, 1, 1408, 2048]⟩
abbrev S512x1408 : Shape := ⟨2, ![512, 1408]⟩
abbrev S1408x2048 : Shape := ⟨2, ![1408, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S5632x2048, .bf16⟩
  | .hbm, ⟨5, _⟩ => ⟨S4x1x1408x2048, .bf16⟩
  | .hbm, ⟨6, _⟩ => ⟨S4096x5632, .bf16⟩
  | .hbm, ⟨7, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownDxRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x2048, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | .hbm, ⟨28, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== GateUp.lean ====
abbrev S4096x2048 : Shape := ⟨2, ![4096, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4096x5632 : Shape := ⟨2, ![4096, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 14
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S4x1x2048x1408, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S4x1x2048x1408, .bf16⟩
  | .hbm, ⟨11, _⟩ => ⟨S4096x5632, .f32⟩
  | .hbm, ⟨12, _⟩ => ⟨S4096x5632, .f32⟩
  | .hbm, ⟨13, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== DownFwd.lean ====
abbrev S4096x5632 : Shape := ⟨2, ![4096, 5632]⟩
abbrev S5632x2048 : Shape := ⟨2, ![5632, 2048]⟩
abbrev S4x1x1408x2048 : Shape := ⟨4, ![4, 1, 1408, 2048]⟩
abbrev S4096x2048 : Shape := ⟨2, ![4096, 2048]⟩
abbrev S512x1408 : Shape := ⟨2, ![512, 1408]⟩
abbrev S1x1x1408x2048 : Shape := ⟨4, ![1, 1, 1408, 2048]⟩
abbrev S512x2048 : Shape := ⟨2, ![512, 2048]⟩
abbrev S1408x2048 : Shape := ⟨2, ![1408, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S5632x2048, .bf16⟩
  | .hbm, ⟨3, _⟩ => ⟨S4x1x1408x2048, .bf16⟩
  | .hbm, ⟨4, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x5632, .f32⟩
  | .hbm, ⟨3, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HgIn.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S4x4096x2048 : Shape := ⟨3, ![4, 4096, 2048]⟩
abbrev S512x2048 : Shape := ⟨2, ![512, 2048]⟩
abbrev S1x1x2048x1024 : Shape := ⟨4, ![1, 1, 2048, 1024]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S4x4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x512x1024, .f32⟩
  | .local _ .vmem, ⟨5, _⟩ => ⟨S1x512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInRefIdeal.lean ====
abbrev S4096x2048 : Shape := ⟨2, ![4096, 2048]⟩
abbrev S2048x8192 : Shape := ⟨2, ![2048, 8192]⟩
abbrev S4096x8192 : Shape := ⟨2, ![4096, 8192]⟩
abbrev S1x4096x2048 : Shape := ⟨3, ![1, 4096, 2048]⟩
abbrev S4x4096x2048 : Shape := ⟨3, ![4, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S4x4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== HgInDx.lean ====
abbrev S4x4096x2048 : Shape := ⟨3, ![4, 4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S4096x2048 : Shape := ⟨2, ![4096, 2048]⟩
abbrev S1x512x1024 : Shape := ⟨3, ![1, 512, 1024]⟩
abbrev S1x1x2048x1024 : Shape := ⟨4, ![1, 1, 2048, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S4096x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32_9 : BitVec 32 := 7#32
  let v13 : BitVec 1 := Scalar.cmpi .eq arg2 c7_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInDxRefIdeal.lean ====
abbrev S4x4096x2048 : Shape := ⟨3, ![4, 4096, 2048]⟩
abbrev S2048x8192 : Shape := ⟨2, ![2048, 8192]⟩
abbrev S_ : Shape := ⟨0, ![]⟩
abbrev S4096x2048 : Shape := ⟨2, ![4096, 2048]⟩
abbrev S4096x8192 : Shape := ⟨2, ![4096, 8192]⟩
abbrev S1x4096x2048 : Shape := ⟨3, ![1, 4096, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S4x4096x2048, .f32⟩
  | .hbm, ⟨14, _⟩ => ⟨S4x4096x2048, .f32⟩
  | .hbm, ⟨15, _⟩ => ⟨S1x4096x2048, .f32⟩
  | .hbm, ⟨16, _⟩ => ⟨S4096x2048, .f32⟩
  | .hbm, ⟨17, _⟩ => ⟨S1x4096x2048, .f32⟩
  | .hbm, ⟨18, _⟩ => ⟨S4096x2048, .f32⟩
  | .hbm, ⟨19, _⟩ => ⟨S1x4096x2048, .f32⟩
  | .hbm, ⟨20, _⟩ => ⟨S4096x2048, .f32⟩
  | .hbm, ⟨21, _⟩ => ⟨S1x4096x2048, .f32⟩
  | .hbm, ⟨22, _⟩ => ⟨S4096x2048, .f32⟩
  | .hbm, ⟨23, _⟩ => ⟨S4096x8192, .f32⟩
  | .hbm, ⟨24, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== HgInDw.lean ====
abbrev S4096x2048 : Shape := ⟨2, ![4096, 2048]⟩
abbrev S4x4096x2048 : Shape := ⟨3, ![4, 4096, 2048]⟩
abbrev S4x1x2048x2048 : Shape := ⟨4, ![4, 1, 2048, 2048]⟩
abbrev S1024x1024 : Shape := ⟨2, ![1024, 1024]⟩
abbrev S1x1024x1024 : Shape := ⟨3, ![1, 1024, 1024]⟩
abbrev S1x1x1024x1024 : Shape := ⟨4, ![1, 1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S4x1x2048x2048, .bf16⟩
  | .hbm, ⟨3, _⟩ => ⟨S4x1x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInDwRefIdeal.lean ====
abbrev S4096x2048 : Shape := ⟨2, ![4096, 2048]⟩
abbrev S4x4096x2048 : Shape := ⟨3, ![4, 4096, 2048]⟩
abbrev S4x1x2048x2048 : Shape := ⟨4, ![4, 1, 2048, 2048]⟩
abbrev S_ : Shape := ⟨0, ![]⟩
abbrev S2048x8192 : Shape := ⟨2, ![2048, 8192]⟩
abbrev S4096x8192 : Shape := ⟨2, ![4096, 8192]⟩
abbrev S1x4096x2048 : Shape := ⟨3, ![1, 4096, 2048]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S4x1x2048x2048, .bf16⟩
  | .hbm, ⟨3, _⟩ => ⟨S_, .f32⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S4x4096x2048, .f32⟩
  | .hbm, ⟨16, _⟩ => ⟨S4x4096x2048, .f32⟩
  | .hbm, ⟨17, _⟩ => ⟨S1x4096x2048, .f32⟩
  | .hbm, ⟨18, _⟩ => ⟨S4096x2048, .f32⟩
  | .hbm, ⟨19, _⟩ => ⟨S1x4096x2048, .f32⟩
  | .hbm, ⟨20, _⟩ => ⟨S4096x2048, .f32⟩
  | .hbm, ⟨21, _⟩ => ⟨S1x4096x2048, .f32⟩
  | .hbm, ⟨22, _⟩ => ⟨S4096x2048, .f32⟩
  | .hbm, ⟨23, _⟩ => ⟨S1x4096x2048, .f32⟩
  | .hbm, ⟨24, _⟩ => ⟨S4096x2048, .f32⟩
  | .hbm, ⟨25, _⟩ => ⟨S4096x8192, .f32⟩
  | .hbm, ⟨26, _⟩ => ⟨S8192x2048, .f32⟩
  | .hbm, ⟨27, _⟩ => ⟨S2048x8192, .f32⟩
  | .hbm, ⟨28, _⟩ => ⟨S2048x4x2048, .f32⟩
  | .hbm, ⟨29, _⟩ => ⟨S4x2048x2048, .f32⟩
  | .hbm, ⟨30, _⟩ => ⟨S4x1x2048x2048, .f32⟩
  | .hbm, ⟨31, _⟩ => ⟨S4x1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== GmIn.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S4096x4096 : Shape := ⟨2, ![4096, 4096]⟩
abbrev S512x2048 : Shape := ⟨2, ![512, 2048]⟩
abbrev S1x1x2048x1024 : Shape := ⟨4, ![1, 1, 2048, 1024]⟩
abbrev S512x1024 : Shape := ⟨2, ![512, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S4096x2048, .f32⟩
  | .hbm, ⟨3, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GmInDx.lean ====
abbrev S4096x4096 : Shape := ⟨2, ![4096, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S4096x2048 : Shape := ⟨2, ![4096, 2048]⟩
abbrev S512x1024 : Shape := ⟨2, ![512, 1024]⟩
abbrev S1x1x2048x1024 : Shape := ⟨4, ![1, 1, 2048, 1024]⟩
abbrev S512x2048 : Shape := ⟨2, ![512, 2048]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDxRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GmInDw.lean ====
abbrev S4096x2048 : Shape := ⟨2, ![4096, 2048]⟩
abbrev S4096x4096 : Shape := ⟨2, ![4096, 4096]⟩
abbrev S4x1x2048x1024 : Shape := ⟨4, ![4, 1, 2048, 1024]⟩
abbrev S1024x1024 : Shape := ⟨2, ![1024, 1024]⟩
abbrev S1x1x1024x1024 : Shape := ⟨4, ![1, 1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x1x2048x1024, .bf16⟩
  | .hbm, ⟨3, _⟩ => ⟨S4x1x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDwRefIdeal.lean ====
abbrev S4096x2048 : Shape := ⟨2, ![4096, 2048]⟩
abbrev S4096x4096 : Shape := ⟨2, ![4096, 4096]⟩
abbrev S4x1x2048x1024 : Shape := ⟨4, ![4, 1, 2048, 1024]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x1x2048x1024, .bf16⟩
  | .hbm, ⟨3, _⟩ => ⟨S_, .f32⟩
  | .hbm, ⟨4, _⟩ => ⟨S2048x4096, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4x1024, .f32⟩
  | .hbm, ⟨11, _⟩ => ⟨S4x2048x1024, .f32⟩
  | .hbm, ⟨12, _⟩ => ⟨S4x1x2048x1024, .f32⟩
  | .hbm, ⟨13, _⟩ => ⟨S4x1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== HgOut.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S4x1x512x1024 : Shape := ⟨4, ![4, 1, 512, 1024]⟩
abbrev S512x1024 : Shape := ⟨2, ![512, 1024]⟩
abbrev S4x512x1024 : Shape := ⟨3, ![4, 512, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x1x512x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x1x512x1024, .bf16⟩
  | .local _ .vmem, ⟨3, _⟩ => ⟨S4x1x512x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgOutRefIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HgOutDx.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S4x512x2048 : Shape := ⟨3, ![4, 512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x1x512x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x1x512x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== HgOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HgOutDw.lean ====
abbrev S4096x2048 : Shape := ⟨2, ![4096, 2048]⟩
abbrev S4x1x512x2048 : Shape := ⟨4, ![4, 1, 512, 2048]⟩
abbrev S1024x2048 : Shape := ⟨2, ![1024, 2048]⟩
abbrev S1024x1024 : Shape := ⟨2, ![1024, 1024]⟩
abbrev S4x1x512x1024 : Shape := ⟨4, ![4, 1, 512, 1024]⟩
abbrev S2048x1024 : Shape := ⟨2, ![2048, 1024]⟩
abbrev S4x512x1024 : Shape := ⟨3, ![4, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x1x512x2048, .bf16⟩
  | .hbm, ⟨3, _⟩ => ⟨S4x1x512x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x1x512x1024, .bf16⟩
  | .local _ .vmem, ⟨5, _⟩ => ⟨S4x1x512x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== HgOutDwRefIdeal.lean ====
abbrev S4096x2048 : Shape := ⟨2, ![4096, 2048]⟩
abbrev S4x1x512x2048 : Shape := ⟨4, ![4, 1, 512, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x1x512x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x1x512x2048, .f32⟩
  | .hbm, ⟨11, _⟩ => ⟨S4x1x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PleGate.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S4x1x512x1024 : Shape := ⟨4, ![4, 1, 512, 1024]⟩
abbrev S512x1024 : Shape := ⟨2, ![512, 1024]⟩
abbrev S4x512x1024 : Shape := ⟨3, ![4, 512, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4x1x512x2048, .bf16⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S4x1x512x1024, .bf16⟩
  | .local _ .vmem, ⟨3, _⟩ => ⟨S4x1x512x1024, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleGateDx.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S4x512x2048 : Shape := ⟨3, ![4, 512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4x1x512x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x1x512x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== PleGateDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PleGateDw.lean ====
abbrev S4096x2048 : Shape := ⟨2, ![4096, 2048]⟩
abbrev S4x1x512x2048 : Shape := ⟨4, ![4, 1, 512, 2048]⟩
abbrev S1024x2048 : Shape := ⟨2, ![1024, 2048]⟩
abbrev S1024x1024 : Shape := ⟨2, ![1024, 1024]⟩
abbrev S4x1x512x1024 : Shape := ⟨4, ![4, 1, 512, 1024]⟩
abbrev S2048x1024 : Shape := ⟨2, ![2048, 1024]⟩
abbrev S4x512x1024 : Shape := ⟨3, ![4, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x1x512x2048, .bf16⟩
  | .hbm, ⟨3, _⟩ => ⟨S4x1x512x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S4x1x512x1024, .bf16⟩
  | .local _ .vmem, ⟨5, _⟩ => ⟨S4x1x512x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== PleGateDwRefIdeal.lean ====
abbrev S4096x2048 : Shape := ⟨2, ![4096, 2048]⟩
abbrev S4x1x512x2048 : Shape := ⟨4, ![4, 1, 512, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x1x512x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4x1x512x2048, .f32⟩
  | .hbm, ⟨10, _⟩ => ⟨S4x1x512x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamHgIn.lean ====
abbrev S2x2048x2048 : Shape := ⟨3, ![2, 2048, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamHgInRefIdeal.lean ====
abbrev S2x2048x2048 : Shape := ⟨3, ![2, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x512x2048 : Shape := ⟨3, ![2, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGmIn.lean ====
abbrev S2x2048x1024 : Shape := ⟨3, ![2, 2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGmInRefIdeal.lean ====
abbrev S2x2048x1024 : Shape := ⟨3, ![2, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGateRefIdeal.lean ====
abbrev S4x2048x1408 : Shape := ⟨3, ![4, 2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S_, .f32⟩
  | .hbm, ⟨5, _⟩ => ⟨S4x2048x1408, .f32⟩
  | .hbm, ⟨6, _⟩ => ⟨S4x2048x1408, .f32⟩
  | .hbm, ⟨7, _⟩ => ⟨S_, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S_, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S_, .f32⟩
  | .hbm, ⟨20, _⟩ => ⟨S4x2048x1408, .f32⟩
  | .hbm, ⟨21, _⟩ => ⟨S4x2048x1408, .f32⟩
  | .hbm, ⟨22, _⟩ => ⟨S_, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S4x1408x2048 : Shape := ⟨3, ![4, 1408, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S4x1408x2048 : Shape := ⟨3, ![4, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjRefIdeal.lean ====
abbrev S4x256x512 : Shape := ⟨3, ![4, 256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleGate.lean ====
abbrev S4x512x2048 : Shape := ⟨3, ![4, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPleGateRefIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S4608x128 : Shape := ⟨2, ![4608, 128]⟩
abbrev S1536x128 : Shape := ⟨2, ![1536, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PrenormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PrenormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnPostBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnPostBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MixPostBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixPostBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .bf16⟩
  | .hbm, ⟨100, _⟩ => ⟨S1x2048, .f32⟩
  | .hbm, ⟨101, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== PleLastBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PleLastBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S4096x2048, .bf16⟩
  | .hbm, ⟨70, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== SumGm.lean ====
abbrev S8x4608x128 : Shape := ⟨3, ![8, 4608, 128]⟩
abbrev S4608x128 : Shape := ⟨2, ![4608, 128]⟩
abbrev S1x512x128 : Shape := ⟨3, ![1, 512, 128]⟩
abbrev S512x128 : Shape := ⟨2, ![512, 128]⟩

abbrev nBuf : Space → Nat
  | .hbm => 2
  | .vmem => 18
  | .smem => 0
  | _ => 0

abbrev bufTy : (tb : Table) → Fin (tcTables nBuf tb) → BufTy
  | .hbm, ⟨0, _⟩ => ⟨S8x4608x128, .f32⟩
  | .hbm, ⟨1, _⟩ => ⟨S4608x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S512x128, .f32⟩
  | .local _ .vmem, ⟨17, _⟩ => ⟨S512x128, .f32⟩
  | _, _ => ⟨S8x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumGmRefIdeal.lean ====
abbrev S8x4608x128 : Shape := ⟨3, ![8, 4608, 128]⟩
abbrev S_ : Shape := ⟨0, ![]⟩
abbrev S4608x128 : Shape := ⟨2, ![4608, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4608x128, .f32⟩
  | .hbm, ⟨1, _⟩ => ⟨S_, .f32⟩
  | .hbm, ⟨2, _⟩ => ⟨S4608x128, .f32⟩
  | _, _ => ⟨S8x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumRest.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 9
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumRestRefIdeal.lean ====
abbrev S8x512x128 : Shape := ⟨3, ![8, 512, 128]⟩
abbrev S_ : Shape := ⟨0, ![]⟩
abbrev S512x128 : Shape := ⟨2, ![512, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S_, .f32⟩
  | .hbm, ⟨2, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LossHead.lean ====
abbrev S4096x2048 : Shape := ⟨2, ![4096, 2048]⟩
abbrev S1x1 : Shape := ⟨2, ![1, 1]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x1, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SpatialBwd.lean ====
abbrev S4096x2048 : Shape := ⟨2, ![4096, 2048]⟩
abbrev S16x128x128 : Shape := ⟨3, ![16, 128, 128]⟩
abbrev S16x128 : Shape := ⟨2, ![16, 128]⟩
abbrev S16x128x1 : Shape := ⟨3, ![16, 128, 1]⟩
abbrev S512x128 : Shape := ⟨2, ![512, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S384x128 : Shape := ⟨2, ![384, 128]⟩
abbrev S128 : Shape := ⟨1, ![128]⟩
abbrev S256x128 : Shape := ⟨2, ![256, 128]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S4096x2048, .f32⟩
  | .hbm, ⟨5, _⟩ => ⟨S16x128x1, .f32⟩
  | .hbm, ⟨6, _⟩ => ⟨S4096x2048, .f32⟩
  | .hbm, ⟨7, _⟩ => ⟨S4096x2048, .f32⟩
  | .hbm, ⟨8, _⟩ => ⟨S16x128x128, .f32⟩
  | .hbm, ⟨9, _⟩ => ⟨S16x128x1, .f32⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128x128, .f32⟩
  | .local _ .vmem, ⟨15, _⟩ => ⟨S1x128x128, .f32⟩
  | .local _ .vmem, ⟨16, _⟩ => ⟨S1x128x1, .f32⟩
  | .local _ .vmem, ⟨17, _⟩ => ⟨S1x128x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SpatialRefIdeal.lean ====
abbrev S4096x2048 : Shape := ⟨2, ![4096, 2048]⟩
abbrev S16x128x128 : Shape := ⟨3, ![16, 128, 128]⟩
abbrev S16x128 : Shape := ⟨2, ![16, 128]⟩
abbrev S2x16x128x16x128 : Shape := ⟨5, ![2, 16, 128, 16, 128]⟩
abbrev S_ : Shape := ⟨0, ![]⟩
abbrev S128x128 : Shape := ⟨2, ![128, 128]⟩
abbrev S1x128x128 : Shape := ⟨3, ![1, 128, 128]⟩
abbrev S16x2x16x128x128 : Shape := ⟨5, ![16, 2, 16, 128, 128]⟩
abbrev S128x16 : Shape := ⟨2, ![128, 16]⟩
abbrev S1x1x128x16x1 : Shape := ⟨5, ![1, 1, 128, 16, 1]⟩
abbrev S16x128x1 : Shape := ⟨3, ![16, 128, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S4096x2048, .f32⟩
  | .hbm, ⟨5, _⟩ => ⟨S4096x2048, .f32⟩
  | .hbm, ⟨6, _⟩ => ⟨S2x16x128x16x128, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S16x128x128, .f32⟩
  | .hbm, ⟨20, _⟩ => ⟨S16x128x128, .f32⟩
  | .hbm, ⟨21, _⟩ => ⟨S16x2x16x128x128, .f32⟩
  | .hbm, ⟨22, _⟩ => ⟨S2x16x128x16x128, .f32⟩
  | .hbm, ⟨23, _⟩ => ⟨S128x16, .f32⟩
  | .hbm, ⟨24, _⟩ => ⟨S1x1x128x16x1, .f32⟩
  | .hbm, ⟨25, _⟩ => ⟨S2x16x128x16x128, .f32⟩
  | .hbm, ⟨26, _⟩ => ⟨S2x16x128x16x128, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2x16x128x16x128, .f32⟩
  | .hbm, ⟨32, _⟩ => ⟨S_, .f32⟩
  | .hbm, ⟨33, _⟩ => ⟨S128x16, .f32⟩
  | .hbm, ⟨34, _⟩ => ⟨S1x1x128x16x1, .f32⟩
  | .hbm, ⟨35, _⟩ => ⟨S_, .f32⟩
  | .hbm, ⟨36, _⟩ => ⟨S128x16, .f32⟩
  | .hbm, ⟨37, _⟩ => ⟨S16x128, .f32⟩
  | .hbm, ⟨38, _⟩ => ⟨S16x2x16x128x128, .f32⟩
  | .hbm, ⟨39, _⟩ => ⟨S16x128x128, .f32⟩
  | .hbm, ⟨40, _⟩ => ⟨S16x2x16x128x128, .f32⟩
  | .hbm, ⟨41, _⟩ => ⟨S2x16x128x16x128, .f32⟩
  | .hbm, ⟨42, _⟩ => ⟨S16x128x128, .f32⟩
  | .hbm, ⟨43, _⟩ => ⟨S16x128x128, .f32⟩
  | .hbm, ⟨44, _⟩ => ⟨S4096x2048, .f32⟩
  | .hbm, ⟨45, _⟩ => ⟨S16x128x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.Pipeline.Value
public import Idealize.ShloMosaic.Lib.Quiescent

@[expose] public section

/-! What every call's proof takes: the library, and that a block starts at zero on every axis. -/

namespace Cert

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert

end
-- ==== Proof.InDxValue.lean ====
module

public import proofs.«01_k».proof.Proof.Gen.InDxIdeal.Value
public import proofs.«01_k».proof.Proof.Common

@[expose] public section

set_option maxRecDepth 16384
set_option maxHeartbeats 1000000

noncomputable section

/-! A block of rows accumulates over the four blocks of the gate's channels and then the four of the up projection's. -/

namespace Cert.InDxIdeal.Meaning

open InDxIdeal InDxIdeal.Gen Idealize.ShloMosaic TcCoe Idealize.SL.Sem

section Body

variable {F : FTy → Type} [FloatOps F]

section Points

variable (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1x2048x1408 .bf16) (harg4 : arg4.IsWhole) (arg5 : Memref sig .tc .vmem S1x1x2048x1408 .bf16) (harg5 : arg5.IsWhole) (arg6 : Memref sig .tc .vmem S512x2048 .f32) (harg6 : arg6.IsWhole) (arg7 : Memref sig .tc .vmem S512x2048 .f32) (harg7 : arg7.IsWhole)

theorem first_point (hc0 : cond0_0 i) (hc1 : cond0_1 i) (hc2 : ¬cond0_2 i) (hc3 : ¬cond0_3 i)
    (x0 x1 : Vec F S512x1408 .bf16) (x2 x3 : Vec F S1x1x2048x1408 .bf16) : sout0_A_0 c i arg2 harg2 arg3 harg3 arg4 harg4 arg5 harg5 arg6 harg6 arg7 harg7 hc0 hc1 hc2 hc3 x0 x1 x2 x3 = k0_pay2 k0_pay1 x0 x2 := by
  unfold sout0_A_0
  rw [View.read_writes_eq_canon _ _ _ (scover0_A_0 _ _ _ _ _ _ _ _ _ _ _ _ _ _ _ _ _ _ _ _ _ _)]
  unfold kernelRun0_A
  dsimp only
  sl_unfold_words
  try rw [View.canon_cons_unit_zero (S := S512x2048) hz2]
  try rw [View.canon_unit_zero (S := S512x2048) hz2]
  simp only [View.readCov_unit_zero (S := S1x1x2048x1408) _ hz4, View.readCov_unit_zero (S := S512x1408) _ hz2, View.readCov_unit_zero (S := S512x2048) _ hz2, View.readAt_eq_ld, harg2.read_unread, harg3.read_unread, harg4.read_unread, harg5.read_unread, harg6.read_unread, harg7.read_unread, View.ld_unit_zero (S := S1x1x2048x1408) hz4, View.ld_unit_zero (S := S512x1408) hz2, View.ld_unit_zero (S := S512x2048) hz2]
  try rfl

theorem gate_point (hc0 : ¬cond0_0 i) (hc1 : cond0_1 i) (hc2 : ¬cond0_2 i) (hc3 : ¬cond0_3 i)
    (x0 x1 : Vec F S512x1408 .bf16) (x2 x3 : Vec F S1x1x2048x1408 .bf16) (xs0 : Vec F S512x2048 .f32) : sout0_B_0 c i arg2 harg2 arg3 harg3 arg4 harg4 arg5 harg5 arg6 harg6 arg7 harg7 hc0 hc1 hc2 hc3 x0 x1 x2 x3 xs0 = k0_pay2 xs0 x0 x2 := by
  unfold sout0_B_0
  rw [View.read_writes_eq_canon _ _ _ (scover0_B_0 _ _ _ _ _ _ _ _ _ _ _ _ _ _ _ _ _ _ _ _ _ _ _)]
  unfold kernelRun0_B
  dsimp only
  sl_unfold_words
  try rw [View.canon_cons_unit_zero (S := S512x2048) hz2]
  try rw [View.canon_unit_zero (S := S512x2048) hz2]
  simp only [View.readCov_unit_zero (S := S1x1x2048x1408) _ hz4, View.readCov_unit_zero (S := S512x1408) _ hz2, View.readCov_unit_zero (S := S512x2048) _ hz2, View.readAt_eq_ld, harg2.read_unread, harg3.read_unread, harg4.read_unread, harg5.read_unread, harg6.read_unread, harg7.read_unread, View.ld_unit_zero (S := S1x1x2048x1408) hz4, View.ld_unit_zero (S := S512x1408) hz2, View.ld_unit_zero (S := S512x2048) hz2]
  try rfl

theorem up_point (hc0 : ¬cond0_0 i) (hc1 : ¬cond0_1 i) (hc2 : cond0_2 i) (hc3 : ¬cond0_3 i)
    (x0 x1 : Vec F S512x1408 .bf16) (x2 x3 : Vec F S1x1x2048x1408 .bf16) (xs0 : Vec F S512x2048 .f32) : sout0_C_0 c i arg2 harg2 arg3 harg3 arg4 harg4 arg5 harg5 arg6 harg6 arg7 harg7 hc0 hc1 hc2 hc3 x0 x1 x2 x3 xs0 = k0_pay3 xs0 x1 x3 := by
  unfold sout0_C_0
  rw [View.read_writes_eq_canon _ _ _ (scover0_C_0 _ _ _ _ _ _ _ _ _ _ _ _ _ _ _ _ _ _ _ _ _ _ _)]
  unfold kernelRun0_C
  dsimp only
  sl_unfold_words
  try rw [View.canon_cons_unit_zero (S := S512x2048) hz2]
  try rw [View.canon_unit_zero (S := S512x2048) hz2]
  simp only [View.readCov_unit_zero (S := S1x1x2048x1408) _ hz4, View.readCov_unit_zero (S := S512x1408) _ hz2, View.readCov_unit_zero (S := S512x2048) _ hz2, View.readAt_eq_ld, harg2.read_unread, harg3.read_unread, harg4.read_unread, harg5.read_unread, harg6.read_unread, harg7.read_unread, View.ld_unit_zero (S := S1x1x2048x1408) hz4, View.ld_unit_zero (S := S512x1408) hz2, View.ld_unit_zero (S := S512x2048) hz2]
  try rfl

theorem last_point (hc0 : ¬cond0_0 i) (hc1 : ¬cond0_1 i) (hc2 : cond0_2 i) (hc3 : cond0_3 i)
    (x0 x1 : Vec F S512x1408 .bf16) (x2 x3 : Vec F S1x1x2048x1408 .bf16) (xs0 : Vec F S512x2048 .f32) : out0_D_4 c i arg2 harg2 arg3 harg3 arg4 harg4 arg5 harg5 arg6 harg6 arg7 harg7 hc0 hc1 hc2 hc3 x0 x1 x2 x3 xs0 = k0_pay3 xs0 x1 x3 := by
  unfold out0_D_4
  rw [View.read_writes_eq_canon _ _ _ (cover0_D_4 _ _ _ _ _ _ _ _ _ _ _ _ _ _ _ _ _ _ _ _ _ _ _)]
  unfold kernelRun0_D
  dsimp only
  sl_unfold_words
  try rw [View.canon_cons_unit_zero (S := S512x2048) hz2]
  try rw [View.canon_unit_zero (S := S512x2048) hz2]
  simp only [View.readCov_unit_zero (S := S1x1x2048x1408) _ hz4, View.readCov_unit_zero (S := S512x1408) _ hz2, View.readCov_unit_zero (S := S512x2048) _ hz2, View.readAt_eq_ld, harg2.read_unread, harg3.read_unread, harg4.read_unread, harg5.read_unread, harg6.read_unread, harg7.read_unread, View.ld_unit_zero (S := S1x1x2048x1408) hz4, View.ld_unit_zero (S := S512x1408) hz2, View.ld_unit_zero (S := S512x2048) hz2]
  try rfl

end Points

end Body

theorem first_value (x : Vec Ideal S512x1408 .bf16) (w : Vec Ideal S1x1x2048x1408 .bf16) (a : Fin 512) (b : Fin 2048) :
    k0_pay2 (F := Ideal) (k0_pay1 (F := Ideal)) x w (ix2 a b) = ∑ k : Fin 1408, x (ix2 a k) * w (ix4 0 0 b k) := by
  unfold_payloads
  pointwise
  try simp only [zero_add]

theorem gate_value (x : Vec Ideal S512x1408 .bf16) (w : Vec Ideal S1x1x2048x1408 .bf16) (s : FVec Ideal S512x2048 .f32) (a : Fin 512) (b : Fin 2048) :
    k0_pay2 (F := Ideal) s x w (ix2 a b) = s (ix2 a b) + ∑ k : Fin 1408, x (ix2 a k) * w (ix4 0 0 b k) := by
  unfold_payloads
  pointwise
  try simp only [zero_add]

theorem up_value (x : Vec Ideal S512x1408 .bf16) (w : Vec Ideal S1x1x2048x1408 .bf16) (s : FVec Ideal S512x2048 .f32) (a : Fin 512) (b : Fin 2048) :
    k0_pay3 (F := Ideal) s x w (ix2 a b) = s (ix2 a b) + ∑ k : Fin 1408, x (ix2 a k) * w (ix4 0 0 b k) := by
  unfold_payloads
  pointwise
  try simp only [zero_add]

variable (m : (ℓ : Loc nD τ sig) → Buf (Elt Ideal) ℓ) (c : Dev nD) (t : Fin cfg0.N)

theorem lt_N (t : Fin cfg0.N) : t.val < 64 := lt_of_lt_of_eq t.isLt (show cfg0.N = 64 from N_0)

abbrev Dg (c : Dev nD) : S4096x5632.Idx → EReal := m ((c : Thread nD τ).loc main_arg0)
abbrev X0 : FVec Ideal S512x1408 .bf16 := iblk m c 0 t
abbrev Du (c : Dev nD) : S4096x5632.Idx → EReal := m ((c : Thread nD τ).loc main_arg1)
abbrev X1 : FVec Ideal S512x1408 .bf16 := iblk m c 1 t
abbrev Wg (c : Dev nD) : S4x1x2048x1408.Idx → EReal := V m c main_v3
abbrev X2 : FVec Ideal S1x1x2048x1408 .bf16 := iblk m c 2 t
abbrev Wu (c : Dev nD) : S4x1x2048x1408.Idx → EReal := V m c main_v7
abbrev X3 : FVec Ideal S1x1x2048x1408 .bf16 := iblk m c 3 t

theorem at0 : ∀ t : Fin grid0.N, win0_0.index t 0 = t.val / 8 ∧ win0_0.index t 1 = min (t.val % 8) 3 := by decide +kernel

theorem at1 : ∀ t : Fin grid0.N, win0_1.index t 0 = t.val / 8 ∧ win0_1.index t 1 = t.val % 8 - 4 := by decide +kernel

theorem at2 : ∀ t : Fin grid0.N, win0_2.index t 0 = min (t.val % 8) 3 ∧ win0_2.index t 1 = 0 ∧ win0_2.index t 2 = 0 ∧ win0_2.index t 3 = 0 := by decide +kernel

theorem at3 : ∀ t : Fin grid0.N, win0_3.index t 0 = t.val % 8 - 4 ∧ win0_3.index t 1 = 0 ∧ win0_3.index t 2 = 0 ∧ win0_3.index t 3 = 0 := by decide +kernel

theorem at4 : ∀ t : Fin grid0.N, win0_4.index t 0 = t.val / 8 ∧ win0_4.index t 1 = 0 := by decide +kernel

theorem read0 (a : Fin 512) (b : Fin 2048) (k : Fin 1408) :
    X0 m c t (ix2 a k) = Dg m c (ix2 (⟨t.val / 8 % 8 * 512 + a.val, by omega⟩) (⟨min (t.val % 8) 3 * 1408 + k.val, by omega⟩)) := by
  have hi := at0 t
  have hN := lt_N t
  unfold X0 iblk
  rw [View.read_apply]
  show V m c main_arg0 _ = _
  rw [V_main_arg0]
  unfold Dg
  have e : ((cfg0.win 0).blk t).view.emb (ix2 a k : S512x1408.Idx) = (ix2 (⟨t.val / 8 % 8 * 512 + a.val, by omega⟩) (⟨min (t.val % 8) 3 * 1408 + k.val, by omega⟩) : S4096x5632.Idx) := by
    funext d
    apply Fin.ext
    match d with
    | ⟨0, _⟩ => show win0_0.index t 0 * 512 + 1 * a.val = t.val / 8 % 8 * 512 + a.val; rw [hi.1] <;> omega
    | ⟨1, _⟩ => show win0_0.index t 1 * 1408 + 1 * k.val = min (t.val % 8) 3 * 1408 + k.val; rw [hi.2] <;> omega
  exact congrArg _ e

theorem read1 (a : Fin 512) (b : Fin 2048) (k : Fin 1408) :
    X1 m c t (ix2 a k) = Du m c (ix2 (⟨t.val / 8 % 8 * 512 + a.val, by omega⟩) (⟨(t.val % 8 - 4) * 1408 + k.val, by omega⟩)) := by
  have hi := at1 t
  have hN := lt_N t
  unfold X1 iblk
  rw [View.read_apply]
  show V m c main_arg1 _ = _
  rw [V_main_arg1]
  unfold Du
  have e : ((cfg0.win 1).blk t).view.emb (ix2 a k : S512x1408.Idx) = (ix2 (⟨t.val / 8 % 8 * 512 + a.val, by omega⟩) (⟨(t.val % 8 - 4) * 1408 + k.val, by omega⟩) : S4096x5632.Idx) := by
    funext d
    apply Fin.ext
    match d with
    | ⟨0, _⟩ => show win0_1.index t 0 * 512 + 1 * a.val = t.val / 8 % 8 * 512 + a.val; rw [hi.1] <;> omega
    | ⟨1, _⟩ => show win0_1.index t 1 * 1408 + 1 * k.val = (t.val % 8 - 4) * 1408 + k.val; rw [hi.2] <;> omega
  exact congrArg _ e

theorem read2 (a : Fin 512) (b : Fin 2048) (k : Fin 1408) :
    X2 m c t (ix4 0 0 b k) = Wg m c (ix4 (⟨min (t.val % 8) 3, by omega⟩) (⟨0, by omega⟩) (⟨b.val, by omega⟩) (⟨k.val, by omega⟩)) := by
  have hi := at2 t
  have hN := lt_N t
  unfold X2 iblk
  rw [View.read_apply]
  show V m c main_v3 _ = _
  show V m c main_v3 _ = V m c main_v3 _
  have e : ((cfg0.win 2).blk t).view.emb (ix4 0 0 b k : S1x1x2048x1408.Idx) = (ix4 (⟨min (t.val % 8) 3, by omega⟩) (⟨0, by omega⟩) (⟨b.val, by omega⟩) (⟨k.val, by omega⟩) : S4x1x2048x1408.Idx) := by
    funext d
    apply Fin.ext
    match d with
    | ⟨0, _⟩ => show win0_2.index t 0 * 1 + 1 * 0 = min (t.val % 8) 3; rw [hi.1] <;> omega
    | ⟨1, _⟩ => show win0_2.index t 1 * 1 + 1 * 0 = 0; rw [hi.2.1] <;> omega
    | ⟨2, _⟩ => show win0_2.index t 2 * 2048 + 1 * b.val = b.val; rw [hi.2.2.1] <;> omega
    | ⟨3, _⟩ => show win0_2.index t 3 * 1408 + 1 * k.val = k.val; rw [hi.2.2.2] <;> omega
  exact congrArg _ e

theorem read3 (a : Fin 512) (b : Fin 2048) (k : Fin 1408) :
    X3 m c t (ix4 0 0 b k) = Wu m c (ix4 (⟨t.val % 8 - 4, by omega⟩) (⟨0, by omega⟩) (⟨b.val, by omega⟩) (⟨k.val, by omega⟩)) := by
  have hi := at3 t
  have hN := lt_N t
  unfold X3 iblk
  rw [View.read_apply]
  show V m c main_v7 _ = _
  show V m c main_v7 _ = V m c main_v7 _
  have e : ((cfg0.win 3).blk t).view.emb (ix4 0 0 b k : S1x1x2048x1408.Idx) = (ix4 (⟨t.val % 8 - 4, by omega⟩) (⟨0, by omega⟩) (⟨b.val, by omega⟩) (⟨k.val, by omega⟩) : S4x1x2048x1408.Idx) := by
    funext d
    apply Fin.ext
    match d with
    | ⟨0, _⟩ => show win0_3.index t 0 * 1 + 1 * 0 = t.val % 8 - 4; rw [hi.1] <;> omega
    | ⟨1, _⟩ => show win0_3.index t 1 * 1 + 1 * 0 = 0; rw [hi.2.1] <;> omega
    | ⟨2, _⟩ => show win0_3.index t 2 * 2048 + 1 * b.val = b.val; rw [hi.2.2.1] <;> omega
    | ⟨3, _⟩ => show win0_3.index t 3 * 1408 + 1 * k.val = k.val; rw [hi.2.2.2] <;> omega
  exact congrArg _ e

/-- Block `i` of the gate's channels in the product of the `q`-th block of rows. -/
def gatePiece (c : Dev nD) (q i : Nat) (a : Fin 512) (b : Fin 2048) : EReal :=
  ∑ k : Fin 1408, Dg m c (ix2 ⟨q % 8 * 512 + a.val, by omega⟩ ⟨i % 4 * 1408 + k.val, by omega⟩) * Wg m c (ix4 ⟨i % 4, by omega⟩ 0 b k)

/-- Block `i` of the up projection's channels in the product of the `q`-th block of rows. -/
def upPiece (c : Dev nD) (q i : Nat) (a : Fin 512) (b : Fin 2048) : EReal :=
  ∑ k : Fin 1408, Du m c (ix2 ⟨q % 8 * 512 + a.val, by omega⟩ ⟨i % 4 * 1408 + k.val, by omega⟩) * Wu m c (ix4 ⟨i % 4, by omega⟩ 0 b k)

def piece (c : Dev nD) (q i : Nat) (a : Fin 512) (b : Fin 2048) : EReal :=
  if i ≤ 3 then gatePiece m c q i a b else upPiece m c q (i - 4) a b

theorem gate_at (h : t.val % 8 ≤ 3) (a : Fin 512) (b : Fin 2048) :
    (∑ k : Fin 1408, X0 m c t (ix2 a k) * X2 m c t (ix4 0 0 b k)) = piece m c (t.val / 8) (t.val % 8) a b := by
  have hN := lt_N t
  unfold piece gatePiece
  rw [if_pos h]
  refine Finset.sum_congr rfl fun k _ => ?_
  have h0 := read0 m c t a b k
  have h1 := read2 m c t a b k
  rw [h0, h1]
  refine congrArg₂ (· * ·) (congrArg _ ?_) (congrArg _ ?_)
  · funext d
    apply Fin.ext
    match d with
    | ⟨0, _⟩ => rfl
    | ⟨1, _⟩ => show min (t.val % 8) 3 * 1408 + k.val = t.val % 8 % 4 * 1408 + k.val; omega
  · funext d
    apply Fin.ext
    match d with
    | ⟨0, _⟩ => show min (t.val % 8) 3 = t.val % 8 % 4; omega
    | ⟨1, _⟩ => rfl
    | ⟨2, _⟩ => rfl
    | ⟨3, _⟩ => rfl

theorem up_at (h : 4 ≤ t.val % 8) (a : Fin 512) (b : Fin 2048) :
    (∑ k : Fin 1408, X1 m c t (ix2 a k) * X3 m c t (ix4 0 0 b k)) = piece m c (t.val / 8) (t.val % 8) a b := by
  have hN := lt_N t
  unfold piece upPiece
  rw [if_neg (by omega)]
  refine Finset.sum_congr rfl fun k _ => ?_
  have h0 := read1 m c t a b k
  have h1 := read3 m c t a b k
  rw [h0, h1]
  refine congrArg₂ (· * ·) (congrArg _ ?_) (congrArg _ ?_)
  · funext d
    apply Fin.ext
    match d with
    | ⟨0, _⟩ => rfl
    | ⟨1, _⟩ => show (t.val % 8 - 4) * 1408 + k.val = (t.val % 8 - 4) % 4 * 1408 + k.val; omega
  · funext d
    apply Fin.ext
    match d with
    | ⟨0, _⟩ => show t.val % 8 - 4 = (t.val % 8 - 4) % 4; omega
    | ⟨1, _⟩ => rfl
    | ⟨2, _⟩ => rfl
    | ⟨3, _⟩ => rfl

theorem acc_first (h : t.val % 8 = 0) (a : Fin 512) (b : Fin 2048) :
    (outsAt0 m c t.val t.isLt).2 (ix2 a b) = piece m c (t.val / 8) (t.val % 8) a b := by
  rw [outsAt0_A m c t h (by omega) (by omega) (by omega)]
  dsimp only
  refine (congrFun (first_point (F := Ideal) _ _ _ _ _ _ _ _ _ _ _ _ _ _ _ _ _ _ _ _ _ _) (ix2 a b)).trans ?_
  exact (first_value _ _ a b).trans (gate_at m c t (by omega) a b)

theorem acc_gate (h : t.val % 8 ≠ 0) (h' : t.val % 8 ≤ 3) (a : Fin 512) (b : Fin 2048) :
    (outsAt0 m c t.val t.isLt).2 (ix2 a b) = (outsAt0 m c (t.val - 1) (Nat.lt_of_le_of_lt (Nat.sub_le _ _) t.isLt)).2 (ix2 a b) + piece m c (t.val / 8) (t.val % 8) a b := by
  rw [outsAt0_B m c t h h' (by omega) (by omega)]
  dsimp only
  refine (congrFun (gate_point (F := Ideal) _ _ _ _ _ _ _ _ _ _ _ _ _ _ _ _ _ _ _ _ _ _ _) (ix2 a b)).trans ?_
  exact (gate_value _ _ _ a b).trans (congrArg (_ + ·) (gate_at m c t h' a b))

theorem acc_up (h : 4 ≤ t.val % 8) (h' : t.val % 8 ≠ 7) (a : Fin 512) (b : Fin 2048) :
    (outsAt0 m c t.val t.isLt).2 (ix2 a b) = (outsAt0 m c (t.val - 1) (Nat.lt_of_le_of_lt (Nat.sub_le _ _) t.isLt)).2 (ix2 a b) + piece m c (t.val / 8) (t.val % 8) a b := by
  rw [outsAt0_C m c t (by omega) (by omega) h h']
  dsimp only
  refine (congrFun (up_point (F := Ideal) _ _ _ _ _ _ _ _ _ _ _ _ _ _ _ _ _ _ _ _ _ _ _) (ix2 a b)).trans ?_
  exact (up_value _ _ _ a b).trans (congrArg (_ + ·) (up_at m c t h a b))

theorem out_last (h : t.val % 8 = 7) (a : Fin 512) (b : Fin 2048) :
    (outsAt0 m c t.val t.isLt).1 (ix2 a b) = (outsAt0 m c (t.val - 1) (Nat.lt_of_le_of_lt (Nat.sub_le _ _) t.isLt)).2 (ix2 a b) + piece m c (t.val / 8) (t.val % 8) a b := by
  rw [outsAt0_D m c t (by omega) (by omega) (by omega) h]
  dsimp only
  refine (congrFun (last_point (F := Ideal) _ _ _ _ _ _ _ _ _ _ _ _ _ _ _ _ _ _ _ _ _ _ _) (ix2 a b)).trans ?_
  exact (up_value _ _ _ a b).trans (congrArg (_ + ·) (up_at m c t (by omega) a b))

theorem acc_apply (c : Dev nD) (a : Fin 512) (b : Fin 2048) : ∀ (n : Nat) (h : n < cfg0.N), n % 8 ≠ 7 →
    (outsAt0 m c n h).2 (ix2 a b) = ∑ i ∈ Finset.range (n % 8 + 1), piece m c (n / 8) i a b := by
  intro n
  induction n with
  | zero => intro h _; exact (acc_first m c ⟨0, h⟩ rfl a b).trans (by simp)
  | succ n ih =>
    intro h hk
    by_cases h0 : (n + 1) % 8 = 0
    · refine (acc_first m c ⟨n + 1, h⟩ h0 a b).trans ?_
      show piece m c ((n + 1) / 8) ((n + 1) % 8) a b = _
      rw [h0]; simp
    · have step : (outsAt0 m c (n + 1) h).2 (ix2 a b) = (outsAt0 m c n (Nat.lt_of_succ_lt h)).2 (ix2 a b) + piece m c ((n + 1) / 8) ((n + 1) % 8) a b := by
        by_cases h1 : (n + 1) % 8 ≤ 3
        · exact acc_gate m c ⟨n + 1, h⟩ h0 h1 a b
        · exact acc_up m c ⟨n + 1, h⟩ (by show 4 ≤ (n + 1) % 8; omega) hk a b
      have e1 : (n + 1) % 8 = n % 8 + 1 := by omega
      have e2 : (n + 1) / 8 = n / 8 := by omega
      rw [step, ih _ (by omega), e1, e2, Finset.sum_range_succ _ (n % 8 + 1)]

theorem out_apply (h : t.val % 8 = 7) (a : Fin 512) (b : Fin 2048) :
    (outsAt0 m c t.val t.isLt).1 (ix2 a b) =
      (∑ i : Fin 4, gatePiece m c (t.val / 8) i.val a b) + ∑ i : Fin 4, upPiece m c (t.val / 8) i.val a b := by
  refine (out_last m c t h a b).trans ?_
  rw [acc_apply m c a b (t.val - 1) _ (by omega), show (t.val - 1) % 8 + 1 = 7 by omega, show (t.val - 1) / 8 = t.val / 8 by omega, h,
    ← Finset.sum_range_succ, Finset.sum_range_add (fun i => piece m c (t.val / 8) i a b) 4 4, Finset.sum_range, Finset.sum_range]
  refine congrArg₂ (· + ·) (Finset.sum_congr rfl fun i _ => ?_) (Finset.sum_congr rfl fun i _ => ?_)
  · exact if_pos (by omega)
  · refine (if_neg (by omega)).trans ?_
    rw [show 4 + i.val - 4 = i.val by omega]

/-- The whole product. -/
def half (x : S4096x5632.Idx → EReal) (y : S4x1x2048x1408.Idx → EReal) (p : Fin 4096) (q : Fin 2048) : EReal :=
  ∑ k : Fin 5632, x (ix2 p k) * y (ix4 ⟨k.val / 1408, by omega⟩ 0 q ⟨k.val % 1408, by omega⟩)

/-- The gradient of the input: the sum of the two products. -/
def res (x x' : S4096x5632.Idx → EReal) (y y' : S4x1x2048x1408.Idx → EReal) : S4096x2048.Idx → EReal :=
  fun i => half x y (i 0) (i 1) + half x' y' (i 0) (i 1)

theorem out_res (h : t.val % 8 = 7) (a : Fin 512) (b : Fin 2048) :
    (outsAt0 m c t.val t.isLt).1 (ix2 a b) = res (Dg m c) (Du m c) (Wg m c) (Wu m c) (((cfg0.win 4).blk t).view.emb (ix2 a b : S512x2048.Idx)) := by
  have hi := at4 t
  have hN := lt_N t
  have e : ((cfg0.win 4).blk t).view.emb (ix2 a b : S512x2048.Idx) = (ix2 ⟨t.val / 8 % 8 * 512 + a.val, by omega⟩ b : S4096x2048.Idx) := by
    funext d
    apply Fin.ext
    match d with
    | ⟨0, _⟩ => show win0_4.index t 0 * 512 + 1 * a.val = t.val / 8 % 8 * 512 + a.val; rw [hi.1]; omega
    | ⟨1, _⟩ => show win0_4.index t 1 * 2048 + 1 * b.val = b.val; rw [hi.2]; omega
  rw [out_apply m c t h a b]
  refine Eq.trans ?_ (congrArg (res (Dg m c) (Du m c) (Wg m c) (Wu m c)) e).symm
  unfold res half
  rw [Fin.sum_univ_tiles 4 1408 rfl, Fin.sum_univ_tiles 4 1408 rfl]
  unfold gatePiece upPiece
  refine congrArg₂ (· + ·) (Finset.sum_congr rfl fun i _ => Finset.sum_congr rfl fun k _ => ?_) (Finset.sum_congr rfl fun i _ => Finset.sum_congr rfl fun k _ => ?_)
  all_goals
    refine congrArg₂ (· * ·) (congrArg _ ?_) (congrArg _ ?_)
    · funext d
      apply Fin.ext
      match d with
      | ⟨0, _⟩ => rfl
      | ⟨1, _⟩ => show i.val % 4 * 1408 + k.val = i.val * 1408 + k.val; omega
    · funext d
      apply Fin.ext
      match d with
      | ⟨0, _⟩ => show i.val % 4 = (i.val * 1408 + k.val) / 1408; omega
      | ⟨1, _⟩ => rfl
      | ⟨2, _⟩ => rfl
      | ⟨3, _⟩ => show k.val = (i.val * 1408 + k.val) % 1408; omega

theorem flushed_eq (c : Dev nD) : ∀ t : Fin cfg0.N, (cfg0.win 4).flush t = true →
    (dats m 0 c).flushed 4 t = ((cfg0.win 4).blk t).view.read (Elt Ideal) (res (Dg m c) (Du m c) (Wg m c) (Wu m c)) := by
  intro t hf
  have ht := (flush0_4 t).mp hf
  show (cfg0.win 4).cut (grid0.coords t) ((dats m 0 c).after 4 t) = _
  rw [after0_4]
  funext i
  rw [View.read_apply]
  obtain ⟨a, b, rfl⟩ : ∃ (a : Fin 512) (b : Fin 2048), i = ix2 a b := ⟨i 0, i 1, by funext x; fin_cases x <;> rfl⟩
  show (outsAt0 m c t.val t.isLt).1 (ix2 a b) = _
  exact out_res m c t (by omega) a b

theorem final (c : Dev nD) : (dats m 0 c).arrAt 4 cfg0.N = res (Dg m c) (Du m c) (Wg m c) (Wu m c) :=
  (dats m 0 c).arrAt_eq_of_cover 4 _ (flushed_eq m c) fun i => by
    have h0 : (i 0 : Nat) < 4096 := (i 0).isLt
    have h1 : (i 1 : Nat) < 2048 := (i 1).isLt
    let t : Fin cfg0.N := ⟨(i 0 : Nat) / 512 * 8 + 7, by show _ < grid0.N; rw [Gen.N_0]; omega⟩
    have hi := at4 t
    have ht : t.val = (i 0 : Nat) / 512 * 8 + 7 := rfl
    refine ⟨t, (flush0_4 t).mpr (by omega), ?_⟩
    show i ∈ ((View.whole main_v8).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 2048 ≤ (i 1 : Nat) ∧ (i 1 : Nat) < win0_4.index t 1 * 2048 + 2048
      rw [hi.2]; omega

end Cert.InDxIdeal.Meaning

end
-- ==== Proof.InDxClaims.lean ====
module

public import proofs.«01_k».proof.Defs
public import proofs.«01_k».proof.Proof.Gen.InDx.Frame
public import proofs.«01_k».proof.Proof.Gen.InDxRefIdeal.Run
public import proofs.«01_k».proof.Proof.Gen.InDxRefIdeal.Read
public import proofs.«01_k».proof.Proof.InDxValue

@[expose] public section

set_option maxRecDepth 16384

noncomputable section

/-! The claims of `ffn_in_dx`: the frames of the programs, and that both end with the same product. -/

namespace Cert.InDxIdeal.Meaning

open InDxIdeal InDxIdeal.Gen Idealize.ShloMosaic TcCoe Idealize.SL.Sem

theorem frame_ref : quiescent_InDxRefIdeal (hInDxRefIdeal := InDxRefIdeal.Gen.facts) :=
  fun m ρ _ => (θ_run InDxRefIdeal.defs _ _).mono
    (fun r h => ⟨fun c => (h c).2, sem_eq_zero_of_no_sems (by decide) r.2⟩) (InDxRefIdeal.Value.run m ρ)

/-- The gathered weight: column `k` of block `b` is column `1408 b + k` of the weight. -/
def gath (w : S2048x5632.Idx → EReal) : S4x1x2048x1408.Idx → EReal := fun i =>
  w (ix2 (i 2) ⟨(i 0 : Nat) * 1408 + (i 3 : Nat), by have h0 : (i 0 : Nat) < 4 := (i 0).isLt; have h2 : (i 3 : Nat) < 1408 := (i 3).isLt; omega⟩)

theorem Wg_eq (m : (ℓ : Loc nD τ sig) → Buf (Elt Ideal) ℓ) (c : Dev nD) : Wg m c = gath (m ((c : Thread nD τ).loc main_arg2)) := by
  unfold Wg V hostOps0
  after_results
  funext i
  obtain ⟨p, q, r, s, rfl⟩ : ∃ (p : Fin 4) (q : Fin 1) (r : Fin 2048) (s : Fin 1408), i = ix4 p q r s := ⟨i 0, i 1, i 2, i 3, by funext x; fin_cases x <;> rfl⟩
  unfold gath
  pointwise

theorem Wu_eq (m : (ℓ : Loc nD τ sig) → Buf (Elt Ideal) ℓ) (c : Dev nD) : Wu m c = gath (m ((c : Thread nD τ).loc main_arg3)) := by
  unfold Wu V hostOps0
  after_results
  funext i
  obtain ⟨p, q, r, s, rfl⟩ : ∃ (p : Fin 4) (q : Fin 1) (r : Fin 2048) (s : Fin 1408), i = ix4 p q r s := ⟨i 0, i 1, i 2, i 3, by funext x; fin_cases x <;> rfl⟩
  unfold gath
  pointwise

theorem half_gath (x : S4096x5632.Idx → EReal) (w : S2048x5632.Idx → EReal) (p : Fin 4096) (q : Fin 2048) :
    half x (gath w) p q = ∑ k : Fin 5632, x (ix2 p k) * w (ix2 q k) := by
  unfold half gath
  refine Finset.sum_congr rfl fun k _ => congrArg₂ (· * ·) rfl (congrArg w ?_)
  funext d
  apply Fin.ext
  match d with
  | ⟨0, _⟩ => rfl
  | ⟨1, _⟩ => show k.val / 1408 * 1408 + k.val % 1408 = k.val; omega

theorem ref_0 (x x' : FVec Ideal S4096x5632 .bf16) (w w' : FVec Ideal S2048x5632 .f32) : InDxRefIdeal.Read.val_main_v7 (F := Ideal) x x' w w' = res x x' (gath w) (gath w') := by
  funext i
  obtain ⟨p, q, rfl⟩ : ∃ (p : Fin 4096) (q : Fin 2048), i = ix2 p q := ⟨i 0, i 1, by funext x; fin_cases x <;> rfl⟩
  unfold res
  open InDxRefIdeal.Read in
  pointwise [val_main_v3, val_main_v4, val_main_v5, val_main_v6, val_main_v7]
  have e1 := half_gath x w p q
  have e2 := half_gath x' w' p q
  exact (add_comm (G := EReal) _ _).trans (congrArg₂ (· + ·) e1.symm e2.symm)

theorem algebraic : algebraic_InDxIdeal_InDxRefIdeal (hInDxIdeal := InDxIdeal.Gen.facts) (hInDxRefIdeal := InDxRefIdeal.Gen.facts) := by
  intro m g m' g' _ hargs
  refine ⟨fun c => res (Dg m c) (Du m c) (gath (m ((c : Thread nD τ).loc main_arg2))) (gath (m ((c : Thread nD τ).loc main_arg3))), ?_, ?_⟩
  · exact (θ_run InDxIdeal.defs _ _).mono (fun r h c => ⟨(h c).1.trans ((final m c).trans (congrArg₂ (res (Dg m c) (Du m c)) (Wg_eq m c) (Wu_eq m c))), (h c).2⟩) (InDxIdeal.Value.run_blocks m g)
  · refine (θ_run InDxRefIdeal.defs _ _).mono (fun r h c => ?_) (InDxRefIdeal.Value.run m' g')
    obtain ⟨a0, a1, a2, a3⟩ := hargs c
    obtain ⟨e0, k⟩ := h c
    refine ⟨e0.trans ?_, k⟩
    · refine (InDxRefIdeal.Read.val_main_v7_eq _ _ _ _).trans ?_
      rw [a0, a1, a2, a3]
      exact ref_0 _ _ _ _

end Cert.InDxIdeal.Meaning

end
-- ==== Proof.DownDwValue.lean ====
module

public import proofs.«01_k».proof.Proof.Gen.DownDwIdeal.Value
public import proofs.«01_k».proof.Proof.Common

@[expose] public section

set_option maxRecDepth 16384
set_option maxHeartbeats 1000000

noncomputable section

/-! The blocks of the product accumulate over the 4 blocks of the summed axis; the last one is written out. -/

namespace Cert.DownDwIdeal.Meaning

open DownDwIdeal DownDwIdeal.Gen Idealize.ShloMosaic TcCoe Idealize.SL.Sem

section Body

variable {F : FTy → Type} [FloatOps F]

section Points

variable (c : Dev nD) (i : grid0.Coords) (arg3 : Memref sig .tc .vmem S1024x1408 .bf16) (harg3 : arg3.IsWhole) (arg4 : Memref sig .tc .vmem S1024x1024 .bf16) (harg4 : arg4.IsWhole) (arg6 : Memref sig .tc .vmem S1x1x1408x1024 .bf16) (harg6 : arg6.IsWhole) (arg7 : Memref sig .tc .vmem S1408x1024 .f32) (harg7 : arg7.IsWhole)

theorem first_point (hc0 : cond0_0 i) (hc1 : ¬cond0_1 i) (hc2 : ¬cond0_2 i)
    (x0 : Vec F S1024x1408 .bf16) (x1 : Vec F S1024x1024 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S1408x1024) hz2]
  try rw [View.canon_unit_zero (S := S1408x1024) hz2]
  simp only [View.readCov_unit_zero (S := S1024x1024) _ hz2, View.readCov_unit_zero (S := S1024x1408) _ hz2, View.readCov_unit_zero (S := S1408x1024) _ hz2, View.readCov_unit_zero (S := S1x1x1408x1024) _ hz4, View.readAt_eq_ld, harg3.read_unread, harg4.read_unread, harg6.read_unread, harg7.read_unread, View.ld_unit_zero (S := S1024x1024) hz2, View.ld_unit_zero (S := S1024x1408) hz2, View.ld_unit_zero (S := S1408x1024) hz2, View.ld_unit_zero (S := S1x1x1408x1024) hz4]
  try rfl

theorem middle_point (hc0 : ¬cond0_0 i) (hc1 : cond0_1 i) (hc2 : ¬cond0_2 i)
    (x0 : Vec F S1024x1408 .bf16) (x1 : Vec F S1024x1024 .bf16) (xs0 : Vec F S1408x1024 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S1408x1024) hz2]
  try rw [View.canon_unit_zero (S := S1408x1024) hz2]
  simp only [View.readCov_unit_zero (S := S1024x1024) _ hz2, View.readCov_unit_zero (S := S1024x1408) _ hz2, View.readCov_unit_zero (S := S1408x1024) _ hz2, View.readCov_unit_zero (S := S1x1x1408x1024) _ hz4, View.readAt_eq_ld, harg3.read_unread, harg4.read_unread, harg6.read_unread, harg7.read_unread, View.ld_unit_zero (S := S1024x1024) hz2, View.ld_unit_zero (S := S1024x1408) hz2, View.ld_unit_zero (S := S1408x1024) hz2, View.ld_unit_zero (S := S1x1x1408x1024) hz4]
  try rfl

theorem last_point (hc0 : ¬cond0_0 i) (hc1 : ¬cond0_1 i) (hc2 : cond0_2 i)
    (x0 : Vec F S1024x1408 .bf16) (x1 : Vec F S1024x1024 .bf16) (xs0 : Vec F S1408x1024 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S1x1x1408x1024) hz4]
  try rw [View.canon_unit_zero (S := S1x1x1408x1024) hz4]
  simp only [View.readCov_unit_zero (S := S1024x1024) _ hz2, View.readCov_unit_zero (S := S1024x1408) _ hz2, View.readCov_unit_zero (S := S1408x1024) _ hz2, View.readCov_unit_zero (S := S1x1x1408x1024) _ hz4, View.readAt_eq_ld, harg3.read_unread, harg4.read_unread, harg6.read_unread, harg7.read_unread, View.ld_unit_zero (S := S1024x1024) hz2, View.ld_unit_zero (S := S1024x1408) hz2, View.ld_unit_zero (S := S1408x1024) hz2, View.ld_unit_zero (S := S1x1x1408x1024) hz4]
  try rfl

end Points

end Body

theorem first_value (x0 : Vec Ideal S1024x1408 .bf16) (x1 : Vec Ideal S1024x1024 .bf16) (a : Fin 1408) (b : Fin 1024) :
    k0_pay2 (F := Ideal) x1 x0 (ix2 a b) = ∑ k : Fin 1024, x0 (ix2 k a) * x1 (ix2 k b) := by
  unfold_payloads
  pointwise
  try simp only [zero_add]

theorem middle_value (x0 : Vec Ideal S1024x1408 .bf16) (x1 : Vec Ideal S1024x1024 .bf16) (s : FVec Ideal S1408x1024 .f32) (a : Fin 1408) (b : Fin 1024) :
    k0_pay3 (F := Ideal) x1 x0 s (ix2 a b) = s (ix2 a b) + ∑ k : Fin 1024, x0 (ix2 k a) * x1 (ix2 k b) := by
  unfold_payloads
  pointwise
  try simp only [zero_add]

theorem last_value (x0 : Vec Ideal S1024x1408 .bf16) (x1 : Vec Ideal S1024x1024 .bf16) (s : FVec Ideal S1408x1024 .f32) (a : Fin 1408) (b : Fin 1024) :
    k0_pay4 (F := Ideal) x1 x0 s (ix4 0 0 a b) = s (ix2 a b) + ∑ k : Fin 1024, x0 (ix2 k a) * x1 (ix2 k b) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Act (c : Dev nD) : S4096x5632.Idx → EReal := m ((c : Thread nD τ).loc main_arg0)
abbrev Df (c : Dev nD) : S4096x2048.Idx → EReal := m ((c : Thread nD τ).loc main_arg1)

abbrev X0 : FVec Ideal S1024x1408 .bf16 := iblk m c 0 t
abbrev X1 : FVec Ideal S1024x1024 .bf16 := iblk m c 1 t

theorem at0 : ∀ t : Fin grid0.N, win0_0.index t 0 = t.val % 4 ∧ win0_0.index t 1 = t.val / 8 := by decide +kernel

theorem at1 : ∀ t : Fin grid0.N, win0_1.index t 0 = t.val % 4 ∧ win0_1.index t 1 = t.val / 4 % 2 := by decide +kernel

theorem at2 : ∀ t : Fin grid0.N, win0_2.index t 0 = t.val / 8 ∧ win0_2.index t 1 = 0 ∧ win0_2.index t 2 = 0 ∧ win0_2.index t 3 = t.val / 4 % 2 := by decide +kernel

theorem read0 (a : Fin 1408) (b k : Fin 1024) :
    X0 m c t (ix2 k a) = Act m c (ix2 (⟨t.val % 4 * 1024 + k.val, by omega⟩) (⟨t.val / 8 % 4 * 1408 + a.val, by omega⟩)) := by
  have hi := at0 t
  have hN := lt_N t
  unfold X0 iblk
  rw [View.read_apply]
  show V m c main_arg0 _ = _
  rw [V_main_arg0]
  unfold Act
  have e : ((cfg0.win 0).blk t).view.emb (ix2 k a : S1024x1408.Idx) = (ix2 (⟨t.val % 4 * 1024 + k.val, by omega⟩) (⟨t.val / 8 % 4 * 1408 + a.val, by omega⟩) : S4096x5632.Idx) := by
    funext d
    apply Fin.ext
    match d with
    | ⟨0, _⟩ => show win0_0.index t 0 * 1024 + 1 * k.val = t.val % 4 * 1024 + k.val; rw [hi.1]; omega
    | ⟨1, _⟩ => show win0_0.index t 1 * 1408 + 1 * a.val = t.val / 8 % 4 * 1408 + a.val; rw [hi.2]; omega
  exact congrArg _ e

theorem read1 (a : Fin 1408) (b k : Fin 1024) :
    X1 m c t (ix2 k b) = Df m c (ix2 (⟨t.val % 4 * 1024 + k.val, by omega⟩) (⟨t.val / 4 % 2 * 1024 + b.val, by omega⟩)) := by
  have hi := at1 t
  have hN := lt_N t
  unfold X1 iblk
  rw [View.read_apply]
  show V m c main_arg1 _ = _
  rw [V_main_arg1]
  unfold Df
  have e : ((cfg0.win 1).blk t).view.emb (ix2 k b : S1024x1024.Idx) = (ix2 (⟨t.val % 4 * 1024 + k.val, by omega⟩) (⟨t.val / 4 % 2 * 1024 + b.val, by omega⟩) : S4096x2048.Idx) := by
    funext d
    apply Fin.ext
    match d with
    | ⟨0, _⟩ => show win0_1.index t 0 * 1024 + 1 * k.val = t.val % 4 * 1024 + k.val; rw [hi.1]; omega
    | ⟨1, _⟩ => show win0_1.index t 1 * 1024 + 1 * b.val = t.val / 4 % 2 * 1024 + b.val; rw [hi.2]; omega
  exact congrArg _ e

/-- The `i`-th block of the summed axis in the product of the output's `q`-th block. -/
def piece (c : Dev nD) (q i : Nat) (a : Fin 1408) (b : Fin 1024) : EReal :=
  ∑ k : Fin 1024, Act m c (ix2 (⟨i % 4 * 1024 + k.val, by omega⟩) (⟨q / 2 % 4 * 1408 + a.val, by omega⟩)) * Df m c (ix2 (⟨i % 4 * 1024 + k.val, by omega⟩) (⟨q % 2 * 1024 + b.val, by omega⟩))

theorem piece_at (a : Fin 1408) (b : Fin 1024) :
    (∑ k : Fin 1024, X0 m c t (ix2 k a) * X1 m c t (ix2 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show t.val / 8 % 4 * 1408 + a.val = (t.val / 4) / 2 % 4 * 1408 + a.val; omega
  · funext d
    apply Fin.ext
    match d with
    | ⟨0, _⟩ => show t.val % 4 * 1024 + k.val = (t.val % 4) % 4 * 1024 + k.val; omega
    | ⟨1, _⟩ => show t.val / 4 % 2 * 1024 + b.val = (t.val / 4) % 2 * 1024 + b.val; omega

theorem acc_first (h : t.val % 4 = 0) (a : Fin 1408) (b : Fin 1024) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 1408) (b : Fin 1024) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 1408) (b : Fin 1024) :
    (outsAt0 m c t.val t.isLt).1 (ix4 0 0 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 0 0 a b)).trans ?_
  exact (last_value _ _ _ a b).trans (congrArg (_ + ·) (piece_at m c t a b))

theorem acc_apply (c : Dev nD) (a : Fin 1408) (b : Fin 1024) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 1408) (b : Fin 1024) :
    (outsAt0 m c t.val t.isLt).1 (ix4 0 0 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x5632.Idx → EReal) (y : S4096x2048.Idx → EReal) : S4x1x1408x2048.Idx → EReal :=
  fun i => ∑ k : Fin 4096, x (ix2 k (⟨(i 0 : Nat) * 1408 + (i 2 : Nat), by have h0 : (i 0 : Nat) < 4 := (i 0).isLt; have h2 : (i 2 : Nat) < 1408 := (i 2).isLt; omega⟩)) * y (ix2 k (i 3))

theorem out_res (h : t.val % 4 = 3) (a : Fin 1408) (b : Fin 1024) :
    (outsAt0 m c t.val t.isLt).1 (ix4 0 0 a b) = res (Act m c) (Df m c) (((cfg0.win 2).blk t).view.emb (ix4 0 0 a b : S1x1x1408x1024.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show (t.val / 4) / 2 % 4 * 1408 + a.val = (win0_2.index t 0 * 1 + 1 * 0) * 1408 + (win0_2.index t 2 * 1408 + 1 * a.val); rw [hi.1, hi.2.2.1]; omega
  · funext d
    apply Fin.ext
    match d with
    | ⟨0, _⟩ => show i.val % 4 * 1024 + k.val = i.val * 1024 + k.val; omega
    | ⟨1, _⟩ => show (t.val / 4) % 2 * 1024 + b.val = win0_2.index t 3 * 1024 + 1 * b.val; rw [hi.2.2.2]; omega

theorem flushed_eq (c : Dev nD) : ∀ t : Fin cfg0.N, (cfg0.win 2).flush t = true →
    (dats m 0 c).flushed 2 t = ((cfg0.win 2).blk t).view.read (Elt Ideal) (res (Act m c) (Df m c)) := by
  intro t hf
  have ht := (flush0_2 t).mp hf
  show (cfg0.win 2).cut (grid0.coords t) ((dats m 0 c).after 2 t) = _
  rw [after0_2]
  funext i
  rw [View.read_apply]
  obtain ⟨u, v, a, b, rfl⟩ : ∃ (u v : Fin 1) (a : Fin 1408) (b : Fin 1024), i = ix4 u v a b := ⟨i 0, i 1, i 2, i 3, by funext x; fin_cases x <;> first | rfl | exact Subsingleton.elim _ _⟩
  obtain rfl : u = 0 := Subsingleton.elim _ _; obtain rfl : v = 0 := Subsingleton.elim _ _
  show (outsAt0 m c t.val t.isLt).1 (ix4 0 0 a b) = _
  exact out_res m c t (by omega) a b

theorem final (c : Dev nD) : (dats m 0 c).arrAt 2 cfg0.N = res (Act m c) (Df m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 1408 := (i 2).isLt
    have h3 : (i 3 : Nat) < 2048 := (i 3).isLt
    let t : Fin cfg0.N := ⟨(i 0 : Nat) * 8 + (i 3 : Nat) / 1024 * 4 + 3, by show _ < grid0.N; rw [Gen.N_0]; omega⟩
    have hi := at2 t
    have ht : t.val = (i 0 : Nat) * 8 + (i 3 : Nat) / 1024 * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 1408 ≤ (i 2 : Nat) ∧ (i 2 : Nat) < win0_2.index t 2 * 1408 + 1408
      rw [hi.2.2.1]; omega
    | ⟨3, _⟩ =>
      show win0_2.index t 3 * 1024 ≤ (i 3 : Nat) ∧ (i 3 : Nat) < win0_2.index t 3 * 1024 + 1024
      rw [hi.2.2.2]; omega

end Cert.DownDwIdeal.Meaning

end
-- ==== Proof.DownDwClaims.lean ====
module

public import proofs.«01_k».proof.Defs
public import proofs.«01_k».proof.Proof.Gen.DownDw.Frame
public import proofs.«01_k».proof.Proof.Gen.DownDwRefIdeal.Run
public import proofs.«01_k».proof.Proof.Gen.DownDwRefIdeal.Read
public import proofs.«01_k».proof.Proof.DownDwValue

@[expose] public section

set_option maxRecDepth 16384

noncomputable section

/-! The claims of `ffn_down_dw`: the frames of the programs, and that both end with the same product. -/

namespace Cert.DownDwIdeal.Meaning

open DownDwIdeal DownDwIdeal.Gen Idealize.ShloMosaic TcCoe Idealize.SL.Sem

theorem frame_ref : quiescent_DownDwRefIdeal (hDownDwRefIdeal := DownDwRefIdeal.Gen.facts) :=
  fun m ρ _ => (θ_run DownDwRefIdeal.defs _ _).mono
    (fun r h => ⟨fun c => (h c).2, sem_eq_zero_of_no_sems (by decide) r.2⟩) (DownDwRefIdeal.Value.run m ρ)

theorem ref_0 (x : FVec Ideal S4096x5632 .bf16) (y : FVec Ideal S4096x2048 .bf16) : DownDwRefIdeal.Read.val_main_v7 (F := Ideal) x y = res x y := by
  funext i
  obtain ⟨p, q, r, s, rfl⟩ : ∃ (p : Fin 4) (q : Fin 1) (r : Fin 1408) (s : Fin 2048), i = ix4 p q r s := ⟨i 0, i 1, i 2, i 3, by funext x; fin_cases x <;> rfl⟩
  unfold res
  open DownDwRefIdeal.Read in
  pointwise [val_main_v7, val_main_v6, val_main_v5, val_main_v4, val_main_v3, val_main_v1]
  exact Finset.sum_congr rfl fun k _ => mul_comm (G := EReal) _ _

theorem algebraic : algebraic_DownDwIdeal_DownDwRefIdeal (hDownDwIdeal := DownDwIdeal.Gen.facts) (hDownDwRefIdeal := DownDwRefIdeal.Gen.facts) := by
  intro m g m' g' _ hargs
  refine ⟨fun c => res (Act m c) (Df m c), ?_, ?_⟩
  · exact (θ_run DownDwIdeal.defs _ _).mono (fun r h c => ⟨(h c).1.trans (final m c), (h c).2⟩) (DownDwIdeal.Value.run_blocks m g)
  · refine (θ_run DownDwRefIdeal.defs _ _).mono (fun r h c => ?_) (DownDwRefIdeal.Value.run m' g')
    obtain ⟨a0, a1, a2⟩ := hargs c
    obtain ⟨e0, k⟩ := h c
    refine ⟨e0.trans ?_, k⟩
    · refine (DownDwRefIdeal.Read.val_main_v7_eq _ _).trans ?_
      rw [a0, a1]
      exact ref_0 _ _

end Cert.DownDwIdeal.Meaning

end
-- ==== Proof.GateDwValue.lean ====
module

public import proofs.«01_k».proof.Proof.Gen.GateDwIdeal.Value
public import proofs.«01_k».proof.Proof.Common

@[expose] public section

set_option maxRecDepth 16384
set_option maxHeartbeats 1000000

noncomputable section

/-! The blocks of the product accumulate over the 4 blocks of the summed axis; the last one is written out. -/

namespace Cert.GateDwIdeal.Meaning

open GateDwIdeal GateDwIdeal.Gen Idealize.ShloMosaic TcCoe Idealize.SL.Sem

section Body

variable {F : FTy → Type} [FloatOps F]

section Points

variable (c : Dev nD) (i : grid0.Coords) (arg3 : Memref sig .tc .vmem S1024x1024 .bf16) (harg3 : arg3.IsWhole) (arg4 : Memref sig .tc .vmem S1024x1408 .bf16) (harg4 : arg4.IsWhole) (arg6 : Memref sig .tc .vmem S1x1x1024x1408 .bf16) (harg6 : arg6.IsWhole) (arg7 : Memref sig .tc .vmem S1024x1408 .f32) (harg7 : arg7.IsWhole)

theorem first_point (hc0 : cond0_0 i) (hc1 : ¬cond0_1 i) (hc2 : ¬cond0_2 i)
    (x0 : Vec F S1024x1024 .bf16) (x1 : Vec F S1024x1408 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S1024x1408) hz2]
  try rw [View.canon_unit_zero (S := S1024x1408) hz2]
  simp only [View.readCov_unit_zero (S := S1024x1024) _ hz2, View.readCov_unit_zero (S := S1024x1408) _ hz2, View.readCov_unit_zero (S := S1x1x1024x1408) _ hz4, View.readAt_eq_ld, harg3.read_unread, harg4.read_unread, harg6.read_unread, harg7.read_unread, View.ld_unit_zero (S := S1024x1024) hz2, View.ld_unit_zero (S := S1024x1408) hz2, View.ld_unit_zero (S := S1x1x1024x1408) hz4]
  try rfl

theorem middle_point (hc0 : ¬cond0_0 i) (hc1 : cond0_1 i) (hc2 : ¬cond0_2 i)
    (x0 : Vec F S1024x1024 .bf16) (x1 : Vec F S1024x1408 .bf16) (xs0 : Vec F S1024x1408 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S1024x1408) hz2]
  try rw [View.canon_unit_zero (S := S1024x1408) hz2]
  simp only [View.readCov_unit_zero (S := S1024x1024) _ hz2, View.readCov_unit_zero (S := S1024x1408) _ hz2, View.readCov_unit_zero (S := S1x1x1024x1408) _ hz4, View.readAt_eq_ld, harg3.read_unread, harg4.read_unread, harg6.read_unread, harg7.read_unread, View.ld_unit_zero (S := S1024x1024) hz2, View.ld_unit_zero (S := S1024x1408) hz2, View.ld_unit_zero (S := S1x1x1024x1408) hz4]
  try rfl

theorem last_point (hc0 : ¬cond0_0 i) (hc1 : ¬cond0_1 i) (hc2 : cond0_2 i)
    (x0 : Vec F S1024x1024 .bf16) (x1 : Vec F S1024x1408 .bf16) (xs0 : Vec F S1024x1408 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S1x1x1024x1408) hz4]
  try rw [View.canon_unit_zero (S := S1x1x1024x1408) hz4]
  simp only [View.readCov_unit_zero (S := S1024x1024) _ hz2, View.readCov_unit_zero (S := S1024x1408) _ hz2, View.readCov_unit_zero (S := S1x1x1024x1408) _ hz4, View.readAt_eq_ld, harg3.read_unread, harg4.read_unread, harg6.read_unread, harg7.read_unread, View.ld_unit_zero (S := S1024x1024) hz2, View.ld_unit_zero (S := S1024x1408) hz2, View.ld_unit_zero (S := S1x1x1024x1408) hz4]
  try rfl

end Points

end Body

theorem first_value (x0 : Vec Ideal S1024x1024 .bf16) (x1 : Vec Ideal S1024x1408 .bf16) (a : Fin 1024) (b : Fin 1408) :
    k0_pay2 (F := Ideal) x1 x0 (ix2 a b) = ∑ k : Fin 1024, x0 (ix2 k a) * x1 (ix2 k b) := by
  unfold_payloads
  pointwise
  try simp only [zero_add]

theorem middle_value (x0 : Vec Ideal S1024x1024 .bf16) (x1 : Vec Ideal S1024x1408 .bf16) (s : FVec Ideal S1024x1408 .f32) (a : Fin 1024) (b : Fin 1408) :
    k0_pay3 (F := Ideal) x1 x0 s (ix2 a b) = s (ix2 a b) + ∑ k : Fin 1024, x0 (ix2 k a) * x1 (ix2 k b) := by
  unfold_payloads
  pointwise
  try simp only [zero_add]

theorem last_value (x0 : Vec Ideal S1024x1024 .bf16) (x1 : Vec Ideal S1024x1408 .bf16) (s : FVec Ideal S1024x1408 .f32) (a : Fin 1024) (b : Fin 1408) :
    k0_pay4 (F := Ideal) x1 x0 s (ix4 0 0 a b) = s (ix2 a b) + ∑ k : Fin 1024, x0 (ix2 k a) * x1 (ix2 k b) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Fin_ (c : Dev nD) : S4096x2048.Idx → EReal := m ((c : Thread nD τ).loc main_arg0)
abbrev Dgate (c : Dev nD) : S4096x5632.Idx → EReal := m ((c : Thread nD τ).loc main_arg1)

abbrev X0 : FVec Ideal S1024x1024 .bf16 := iblk m c 0 t
abbrev X1 : FVec Ideal S1024x1408 .bf16 := iblk m c 1 t

theorem at0 : ∀ t : Fin grid0.N, win0_0.index t 0 = t.val % 4 ∧ win0_0.index t 1 = t.val / 16 := by decide +kernel

theorem at1 : ∀ t : Fin grid0.N, win0_1.index t 0 = t.val % 4 ∧ win0_1.index t 1 = t.val / 4 % 4 := by decide +kernel

theorem at2 : ∀ t : Fin grid0.N, win0_2.index t 0 = t.val / 4 % 4 ∧ win0_2.index t 1 = 0 ∧ win0_2.index t 2 = t.val / 16 ∧ win0_2.index t 3 = 0 := by decide +kernel

theorem read0 (a : Fin 1024) (b : Fin 1408) (k : Fin 1024) :
    X0 m c t (ix2 k a) = Fin_ m c (ix2 (⟨t.val % 4 * 1024 + k.val, by omega⟩) (⟨t.val / 16 % 2 * 1024 + a.val, by omega⟩)) := by
  have hi := at0 t
  have hN := lt_N t
  unfold X0 iblk
  rw [View.read_apply]
  show V m c main_arg0 _ = _
  rw [V_main_arg0]
  unfold Fin_
  have e : ((cfg0.win 0).blk t).view.emb (ix2 k a : S1024x1024.Idx) = (ix2 (⟨t.val % 4 * 1024 + k.val, by omega⟩) (⟨t.val / 16 % 2 * 1024 + a.val, by omega⟩) : S4096x2048.Idx) := by
    funext d
    apply Fin.ext
    match d with
    | ⟨0, _⟩ => show win0_0.index t 0 * 1024 + 1 * k.val = t.val % 4 * 1024 + k.val; rw [hi.1]; omega
    | ⟨1, _⟩ => show win0_0.index t 1 * 1024 + 1 * a.val = t.val / 16 % 2 * 1024 + a.val; rw [hi.2]; omega
  exact congrArg _ e

theorem read1 (a : Fin 1024) (b : Fin 1408) (k : Fin 1024) :
    X1 m c t (ix2 k b) = Dgate m c (ix2 (⟨t.val % 4 * 1024 + k.val, by omega⟩) (⟨t.val / 4 % 4 * 1408 + b.val, by omega⟩)) := by
  have hi := at1 t
  have hN := lt_N t
  unfold X1 iblk
  rw [View.read_apply]
  show V m c main_arg1 _ = _
  rw [V_main_arg1]
  unfold Dgate
  have e : ((cfg0.win 1).blk t).view.emb (ix2 k b : S1024x1408.Idx) = (ix2 (⟨t.val % 4 * 1024 + k.val, by omega⟩) (⟨t.val / 4 % 4 * 1408 + b.val, by omega⟩) : S4096x5632.Idx) := by
    funext d
    apply Fin.ext
    match d with
    | ⟨0, _⟩ => show win0_1.index t 0 * 1024 + 1 * k.val = t.val % 4 * 1024 + k.val; rw [hi.1]; omega
    | ⟨1, _⟩ => show win0_1.index t 1 * 1408 + 1 * b.val = t.val / 4 % 4 * 1408 + b.val; rw [hi.2]; omega
  exact congrArg _ e

/-- The `i`-th block of the summed axis in the product of the output's `q`-th block. -/
def piece (c : Dev nD) (q i : Nat) (a : Fin 1024) (b : Fin 1408) : EReal :=
  ∑ k : Fin 1024, Fin_ m c (ix2 (⟨i % 4 * 1024 + k.val, by omega⟩) (⟨q / 4 % 2 * 1024 + a.val, by omega⟩)) * Dgate m c (ix2 (⟨i % 4 * 1024 + k.val, by omega⟩) (⟨q % 4 * 1408 + b.val, by omega⟩))

theorem piece_at (a : Fin 1024) (b : Fin 1408) :
    (∑ k : Fin 1024, X0 m c t (ix2 k a) * X1 m c t (ix2 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show t.val / 16 % 2 * 1024 + a.val = (t.val / 4) / 4 % 2 * 1024 + a.val; omega
  · funext d
    apply Fin.ext
    match d with
    | ⟨0, _⟩ => show t.val % 4 * 1024 + k.val = (t.val % 4) % 4 * 1024 + k.val; omega
    | ⟨1, _⟩ => show t.val / 4 % 4 * 1408 + b.val = (t.val / 4) % 4 * 1408 + b.val; omega

theorem acc_first (h : t.val % 4 = 0) (a : Fin 1024) (b : Fin 1408) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 1024) (b : Fin 1408) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 1024) (b : Fin 1408) :
    (outsAt0 m c t.val t.isLt).1 (ix4 0 0 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 0 0 a b)).trans ?_
  exact (last_value _ _ _ a b).trans (congrArg (_ + ·) (piece_at m c t a b))

theorem acc_apply (c : Dev nD) (a : Fin 1024) (b : Fin 1408) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 1024) (b : Fin 1408) :
    (outsAt0 m c t.val t.isLt).1 (ix4 0 0 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x2048.Idx → EReal) (y : S4096x5632.Idx → EReal) : S4x1x2048x1408.Idx → EReal :=
  fun i => ∑ k : Fin 4096, x (ix2 k (i 2)) * y (ix2 k (⟨(i 0 : Nat) * 1408 + (i 3 : Nat), by have h0 : (i 0 : Nat) < 4 := (i 0).isLt; have h2 : (i 3 : Nat) < 1408 := (i 3).isLt; omega⟩))

theorem out_res (h : t.val % 4 = 3) (a : Fin 1024) (b : Fin 1408) :
    (outsAt0 m c t.val t.isLt).1 (ix4 0 0 a b) = res (Fin_ m c) (Dgate m c) (((cfg0.win 2).blk t).view.emb (ix4 0 0 a b : S1x1x1024x1408.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show (t.val / 4) / 4 % 2 * 1024 + a.val = win0_2.index t 2 * 1024 + 1 * a.val; rw [hi.2.2.1]; omega
  · funext d
    apply Fin.ext
    match d with
    | ⟨0, _⟩ => show i.val % 4 * 1024 + k.val = i.val * 1024 + k.val; omega
    | ⟨1, _⟩ => show (t.val / 4) % 4 * 1408 + b.val = (win0_2.index t 0 * 1 + 1 * 0) * 1408 + (win0_2.index t 3 * 1408 + 1 * b.val); rw [hi.1, hi.2.2.2]; omega

theorem flushed_eq (c : Dev nD) : ∀ t : Fin cfg0.N, (cfg0.win 2).flush t = true →
    (dats m 0 c).flushed 2 t = ((cfg0.win 2).blk t).view.read (Elt Ideal) (res (Fin_ m c) (Dgate m c)) := by
  intro t hf
  have ht := (flush0_2 t).mp hf
  show (cfg0.win 2).cut (grid0.coords t) ((dats m 0 c).after 2 t) = _
  rw [after0_2]
  funext i
  rw [View.read_apply]
  obtain ⟨u, v, a, b, rfl⟩ : ∃ (u v : Fin 1) (a : Fin 1024) (b : Fin 1408), i = ix4 u v a b := ⟨i 0, i 1, i 2, i 3, by funext x; fin_cases x <;> first | rfl | exact Subsingleton.elim _ _⟩
  obtain rfl : u = 0 := Subsingleton.elim _ _; obtain rfl : v = 0 := Subsingleton.elim _ _
  show (outsAt0 m c t.val t.isLt).1 (ix4 0 0 a b) = _
  exact out_res m c t (by omega) a b

theorem final (c : Dev nD) : (dats m 0 c).arrAt 2 cfg0.N = res (Fin_ m c) (Dgate m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 2048 := (i 2).isLt
    have h3 : (i 3 : Nat) < 1408 := (i 3).isLt
    let t : Fin cfg0.N := ⟨(i 2 : Nat) / 1024 * 16 + (i 0 : Nat) * 4 + 3, by show _ < grid0.N; rw [Gen.N_0]; omega⟩
    have hi := at2 t
    have ht : t.val = (i 2 : Nat) / 1024 * 16 + (i 0 : Nat) * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 1024 ≤ (i 2 : Nat) ∧ (i 2 : Nat) < win0_2.index t 2 * 1024 + 1024
      rw [hi.2.2.1]; omega
    | ⟨3, _⟩ =>
      show win0_2.index t 3 * 1408 ≤ (i 3 : Nat) ∧ (i 3 : Nat) < win0_2.index t 3 * 1408 + 1408
      rw [hi.2.2.2]; omega

end Cert.GateDwIdeal.Meaning

end
-- ==== Proof.GateDwClaims.lean ====
module

public import proofs.«01_k».proof.Defs
public import proofs.«01_k».proof.Proof.Gen.GateDw.Frame
public import proofs.«01_k».proof.Proof.Gen.GateDwRefIdeal.Run
public import proofs.«01_k».proof.Proof.Gen.GateDwRefIdeal.Read
public import proofs.«01_k».proof.Proof.GateDwValue

@[expose] public section

set_option maxRecDepth 16384

noncomputable section

/-! The claims of `ffn_gate_dw`: the frames of the programs, and that both end with the same product. -/

namespace Cert.GateDwIdeal.Meaning

open GateDwIdeal GateDwIdeal.Gen Idealize.ShloMosaic TcCoe Idealize.SL.Sem

theorem frame_ref : quiescent_GateDwRefIdeal (hGateDwRefIdeal := GateDwRefIdeal.Gen.facts) :=
  fun m ρ _ => (θ_run GateDwRefIdeal.defs _ _).mono
    (fun r h => ⟨fun c => (h c).2, sem_eq_zero_of_no_sems (by decide) r.2⟩) (GateDwRefIdeal.Value.run m ρ)

theorem ref_0 (x : FVec Ideal S4096x2048 .bf16) (y : FVec Ideal S4096x5632 .bf16) : GateDwRefIdeal.Read.val_main_v9 (F := Ideal) x y = res x y := by
  funext i
  obtain ⟨p, q, r, s, rfl⟩ : ∃ (p : Fin 4) (q : Fin 1) (r : Fin 2048) (s : Fin 1408), i = ix4 p q r s := ⟨i 0, i 1, i 2, i 3, by funext x; fin_cases x <;> rfl⟩
  unfold res
  open GateDwRefIdeal.Read in
  pointwise [val_main_v9, val_main_v8, val_main_v7, val_main_v6, val_main_v5, val_main_v4, val_main_v3, val_main_v1]
  exact Finset.sum_congr rfl fun k _ => mul_comm (G := EReal) _ _

theorem algebraic : algebraic_GateDwIdeal_GateDwRefIdeal (hGateDwIdeal := GateDwIdeal.Gen.facts) (hGateDwRefIdeal := GateDwRefIdeal.Gen.facts) := by
  intro m g m' g' _ hargs
  refine ⟨fun c => res (Fin_ m c) (Dgate m c), ?_, ?_⟩
  · exact (θ_run GateDwIdeal.defs _ _).mono (fun r h c => ⟨(h c).1.trans (final m c), (h c).2⟩) (GateDwIdeal.Value.run_blocks m g)
  · refine (θ_run GateDwRefIdeal.defs _ _).mono (fun r h c => ?_) (GateDwRefIdeal.Value.run m' g')
    obtain ⟨a0, a1, a2⟩ := hargs c
    obtain ⟨e0, k⟩ := h c
    refine ⟨e0.trans ?_, k⟩
    · refine (GateDwRefIdeal.Read.val_main_v9_eq _ _).trans ?_
      rw [a0, a1]
      exact ref_0 _ _

end Cert.GateDwIdeal.Meaning

end
-- ==== Proof.Logistic.lean ====
module

public import Idealize.ShloMosaic.Lib.Pointwise

@[expose] public section

set_option maxRecDepth 16384

noncomputable section

/-! The logistic function and its derivative by the hyperbolic tangent. -/

namespace Cert.Logistic

open Idealize.ShloMosaic

/-- The literal one half. -/
theorem half_lit : Ideal.ofBits .f32 0x3F000000#32 = ((1 / 2 : ℝ) : EReal) := by
  simp [Ideal.ofBits, Ideal.ieee, -EReal.coe_mul]
  norm_num

/-- The literal one. -/
theorem one_lit : Ideal.ofBits .f32 0x3F800000#32 = 1 := by
  rw [← EReal.coe_one]
  simp [Ideal.ofBits, Ideal.ieee, -EReal.coe_mul, -EReal.coe_one]
  norm_num

/-- The logistic function by the hyperbolic tangent, at the infinities too. -/
theorem half_tanh (x : EReal) : Ideal.logistic x = ((1 / 2 : ℝ) : EReal) * Ideal.tanh (((1 / 2 : ℝ) : EReal) * x) + ((1 / 2 : ℝ) : EReal) := by
  induction x with
  | bot =>
    rw [EReal.coe_mul_bot_of_pos (by norm_num), Ideal.tanh_bot, Ideal.logistic_bot, ← EReal.coe_one, ← EReal.coe_neg, ← EReal.coe_mul, ← EReal.coe_add, ← EReal.coe_zero]
    exact congrArg _ (by norm_num)
  | top =>
    rw [EReal.coe_mul_top_of_pos (by norm_num), Ideal.tanh_top, Ideal.logistic_top, ← EReal.coe_one, ← EReal.coe_mul, ← EReal.coe_add]
    exact congrArg _ (by norm_num)
  | coe r =>
    rw [← EReal.coe_mul, Ideal.tanh_coe, Ideal.logistic_coe, ← EReal.coe_mul, ← EReal.coe_add]
    refine congrArg _ ?_
    have h1 : Real.exp (-r) = Real.exp (-(1 / 2 * r)) * Real.exp (-(1 / 2 * r)) := by rw [← Real.exp_add]; congr 1; ring
    have h2 : Real.exp (1 / 2 * r) = (Real.exp (-(1 / 2 * r)))⁻¹ := by rw [Real.exp_neg, inv_inv]
    have h3 := Real.exp_pos (-(1 / 2 * r))
    rw [Real.tanh_eq_sinh_div_cosh, Real.sinh_eq, Real.cosh_eq, h1, h2]
    field_simp
    ring

/-- The hyperbolic tangent is a real number everywhere. -/
theorem tanh_real (x : EReal) : ∃ r : ℝ, Ideal.tanh x = (r : EReal) := by
  induction x with
  | bot => exact ⟨-1, by rw [Ideal.tanh_bot, ← EReal.coe_one, ← EReal.coe_neg]⟩
  | top => exact ⟨1, by rw [Ideal.tanh_top]; norm_cast⟩
  | coe r => exact ⟨_, Ideal.tanh_coe r⟩

/-- The derivative of the logistic function by the hyperbolic tangent. -/
theorem slope (x : EReal) : Ideal.logistic x * (1 - Ideal.logistic x) =
    ((1 / 2 : ℝ) : EReal) * ((1 / 2 : ℝ) : EReal) * ((1 + Ideal.tanh (((1 / 2 : ℝ) : EReal) * x)) * (1 - Ideal.tanh (((1 / 2 : ℝ) : EReal) * x))) := by
  rw [half_tanh]
  obtain ⟨r, e⟩ := tanh_real (((1 / 2 : ℝ) : EReal) * x)
  rw [e, ← EReal.coe_one, ← EReal.coe_mul, ← EReal.coe_mul, ← EReal.coe_add, ← EReal.coe_sub, ← EReal.coe_add, ← EReal.coe_sub,
    ← EReal.coe_mul, ← EReal.coe_mul, ← EReal.coe_mul]
  refine congrArg _ ?_
  ring

end Cert.Logistic

end
-- ==== Proof.DownDxValue.lean ====
module

public import proofs.«01_k».proof.Proof.Gen.DownDxIdeal.Value
public import proofs.«01_k».proof.Proof.Logistic
public import proofs.«01_k».proof.Proof.Common

@[expose] public section

set_option maxRecDepth 16384

noncomputable section

/-! The gradients of gate and up, block by block. -/

namespace Cert.DownDxIdeal.Meaning

open DownDxIdeal DownDxIdeal.Gen Idealize.ShloMosaic TcCoe Idealize.SL.Sem

section Body

variable {F : FTy → Type} [FloatOps F]

theorem body4 (x0 : Vec F S512x2048 .bf16) (x1 : Vec F S1x1x1408x2048 .bf16) (x2 x3 : Vec F S512x1408 .f32) : out0_4 x0 x1 x2 x3 = k0_pay4 x0 x1 x2 x3 := by
  unfold out0_4
  rw [View.canon_unit_zero (S := S512x1408) hz2]
  simp only [View.ld_unit_zero (S := S1x1x1408x2048) hz4, View.ld_unit_zero (S := S512x1408) hz2, View.ld_unit_zero (S := S512x2048) hz2]

theorem body5 (x0 : Vec F S512x2048 .bf16) (x1 : Vec F S1x1x1408x2048 .bf16) (x2 x3 : Vec F S512x1408 .f32) : out0_5 x0 x1 x2 x3 = k0_pay5 x0 x1 x2 := by
  unfold out0_5
  rw [View.canon_unit_zero (S := S512x1408) hz2]
  simp only [View.ld_unit_zero (S := S1x1x1408x2048) hz4, View.ld_unit_zero (S := S512x1408) hz2, View.ld_unit_zero (S := S512x2048) hz2]

end Body

open Logistic

/-- The gradient of the gate: the product rule for the gate and its logistic function. -/
def gradGate (d g u : EReal) : EReal := d * u * Ideal.logistic g + g * (d * u) * (Ideal.logistic g * (1 - Ideal.logistic g))

/-- The gradient of the up projection. -/
def gradUp (d g : EReal) : EReal := g * Ideal.logistic g * d

theorem value4 (x0 : Vec Ideal S512x2048 .bf16) (x1 : Vec Ideal S1x1x1408x2048 .bf16) (x2 x3 : Vec Ideal S512x1408 .f32) (a : Fin 512) (b : Fin 1408) : (k0_pay4 x0 x1 x2 x3 : FVec Ideal S512x1408 .bf16) (ix2 a b) = gradGate (∑ k : Fin 2048, x0 (ix2 a k) * x1 (ix4 0 0 b k)) (x2 (ix2 a b)) (x3 (ix2 a b)) := by
  unfold gradGate
  rw [slope, half_tanh]
  unfold_payloads
  pointwise [half_lit]
  try simp only [zero_add]
  refine congrArg₂ (· + ·) rfl ?_
  ac_rfl

theorem value5 (x0 : Vec Ideal S512x2048 .bf16) (x1 : Vec Ideal S1x1x1408x2048 .bf16) (x2 x3 : Vec Ideal S512x1408 .f32) (a : Fin 512) (b : Fin 1408) : (k0_pay5 x0 x1 x2 : FVec Ideal S512x1408 .bf16) (ix2 a b) = gradUp (∑ k : Fin 2048, x0 (ix2 a k) * x1 (ix4 0 0 b k)) (x2 (ix2 a b)) := by
  unfold gradUp
  rw [half_tanh]
  unfold_payloads
  pointwise [half_lit]
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Df (c : Dev nD) : S4096x2048.Idx → EReal := m ((c : Thread nD τ).loc main_arg0)
abbrev X0 : FVec Ideal S512x2048 .bf16 := iblk m c 0 t
abbrev Wd (c : Dev nD) : S4x1x1408x2048.Idx → EReal := V m c main_v1
abbrev X1 : FVec Ideal S1x1x1408x2048 .bf16 := iblk m c 1 t
abbrev Ga (c : Dev nD) : S4096x5632.Idx → EReal := m ((c : Thread nD τ).loc main_arg2)
abbrev X2 : FVec Ideal S512x1408 .f32 := iblk m c 2 t
abbrev Up (c : Dev nD) : S4096x5632.Idx → EReal := m ((c : Thread nD τ).loc main_arg3)
abbrev X3 : FVec Ideal S512x1408 .f32 := iblk m c 3 t

theorem at0 : ∀ t : Fin grid0.N, win0_0.index t 0 = t.val / 4 ∧ win0_0.index t 1 = 0 := by decide +kernel

theorem at1 : ∀ t : Fin grid0.N, win0_1.index t 0 = t.val % 4 ∧ win0_1.index t 1 = 0 ∧ win0_1.index t 2 = 0 ∧ win0_1.index t 3 = 0 := by decide +kernel

theorem at2 : ∀ t : Fin grid0.N, win0_2.index t 0 = t.val / 4 ∧ win0_2.index t 1 = t.val % 4 := by decide +kernel

theorem at3 : ∀ t : Fin grid0.N, win0_3.index t 0 = t.val / 4 ∧ win0_3.index t 1 = t.val % 4 := by decide +kernel

theorem at4 : ∀ t : Fin grid0.N, win0_4.index t 0 = t.val / 4 ∧ win0_4.index t 1 = t.val % 4 := by decide +kernel

theorem at5 : ∀ t : Fin grid0.N, win0_5.index t 0 = t.val / 4 ∧ win0_5.index t 1 = t.val % 4 := by decide +kernel

theorem read0 (a : Fin 512) (b : Fin 1408) (k : Fin 2048) :
    X0 m c t (ix2 a k) = Df m c (ix2 (⟨t.val / 4 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Df
  have e : ((cfg0.win 0).blk t).view.emb (ix2 a k : S512x2048.Idx) = (ix2 (⟨t.val / 4 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 4 * 512 + a.val; rw [hi.1] <;> omega
    | ⟨1, _⟩ => show win0_0.index t 1 * 2048 + 1 * k.val = k.val; rw [hi.2] <;> omega
  exact congrArg _ e

theorem read1 (a : Fin 512) (b : Fin 1408) (k : Fin 2048) :
    X1 m c t (ix4 0 0 b k) = Wd m c (ix4 (⟨t.val % 4, by have := lt_N t; omega⟩) (⟨0, by have := lt_N t; omega⟩) (⟨b.val, by have := lt_N t; omega⟩) (⟨k.val, by have := lt_N t; omega⟩)) := by
  have hi := at1 t
  have hN := lt_N t
  unfold X1 iblk
  rw [View.read_apply]
  show V m c main_v1 _ = _
  show V m c main_v1 _ = V m c main_v1 _
  have e : ((cfg0.win 1).blk t).view.emb (ix4 0 0 b k : S1x1x1408x2048.Idx) = (ix4 (⟨t.val % 4, by have := lt_N t; omega⟩) (⟨0, by have := lt_N t; omega⟩) (⟨b.val, by have := lt_N t; omega⟩) (⟨k.val, by have := lt_N t; omega⟩) : S4x1x1408x2048.Idx) := by
    funext d
    apply Fin.ext
    match d with
    | ⟨0, _⟩ => show win0_1.index t 0 * 1 + 1 * 0 = t.val % 4; rw [hi.1] <;> omega
    | ⟨1, _⟩ => show win0_1.index t 1 * 1 + 1 * 0 = 0; rw [hi.2.1] <;> omega
    | ⟨2, _⟩ => show win0_1.index t 2 * 1408 + 1 * b.val = b.val; rw [hi.2.2.1] <;> omega
    | ⟨3, _⟩ => show win0_1.index t 3 * 2048 + 1 * k.val = k.val; rw [hi.2.2.2] <;> omega
  exact congrArg _ e

theorem read2 (a : Fin 512) (b : Fin 1408) :
    X2 m c t (ix2 a b) = Ga m c (ix2 (⟨t.val / 4 * 512 + a.val, by have := lt_N t; omega⟩) (⟨t.val % 4 * 1408 + b.val, by have := lt_N t; omega⟩)) := by
  have hi := at2 t
  have hN := lt_N t
  unfold X2 iblk
  rw [View.read_apply]
  show V m c main_arg2 _ = _
  rw [V_main_arg2]
  unfold Ga
  have e : ((cfg0.win 2).blk t).view.emb (ix2 a b : S512x1408.Idx) = (ix2 (⟨t.val / 4 * 512 + a.val, by have := lt_N t; omega⟩) (⟨t.val % 4 * 1408 + b.val, by have := lt_N t; omega⟩) : S4096x5632.Idx) := by
    funext d
    apply Fin.ext
    match d with
    | ⟨0, _⟩ => show win0_2.index t 0 * 512 + 1 * a.val = t.val / 4 * 512 + a.val; rw [hi.1] <;> omega
    | ⟨1, _⟩ => show win0_2.index t 1 * 1408 + 1 * b.val = t.val % 4 * 1408 + b.val; rw [hi.2] <;> omega
  exact congrArg _ e

theorem read3 (a : Fin 512) (b : Fin 1408) :
    X3 m c t (ix2 a b) = Up m c (ix2 (⟨t.val / 4 * 512 + a.val, by have := lt_N t; omega⟩) (⟨t.val % 4 * 1408 + b.val, by have := lt_N t; omega⟩)) := by
  have hi := at3 t
  have hN := lt_N t
  unfold X3 iblk
  rw [View.read_apply]
  show V m c main_arg3 _ = _
  rw [V_main_arg3]
  unfold Up
  have e : ((cfg0.win 3).blk t).view.emb (ix2 a b : S512x1408.Idx) = (ix2 (⟨t.val / 4 * 512 + a.val, by have := lt_N t; omega⟩) (⟨t.val % 4 * 1408 + b.val, by have := lt_N t; omega⟩) : S4096x5632.Idx) := by
    funext d
    apply Fin.ext
    match d with
    | ⟨0, _⟩ => show win0_3.index t 0 * 512 + 1 * a.val = t.val / 4 * 512 + a.val; rw [hi.1] <;> omega
    | ⟨1, _⟩ => show win0_3.index t 1 * 1408 + 1 * b.val = t.val % 4 * 1408 + b.val; rw [hi.2] <;> omega
  exact congrArg _ e

/-- The gradient of the activation. -/
def dact (x : S4096x2048.Idx → EReal) (y : S4x1x1408x2048.Idx → EReal) (p : Fin 4096) (q : Fin 5632) : EReal :=
  ∑ k : Fin 2048, x (ix2 p k) * y (ix4 ⟨q.val / 1408, by omega⟩ 0 ⟨q.val % 1408, by omega⟩ k)

def resGate (x : S4096x2048.Idx → EReal) (y : S4x1x1408x2048.Idx → EReal) (g u : S4096x5632.Idx → EReal) : S4096x5632.Idx → EReal :=
  fun i => gradGate (dact x y (i 0) (i 1)) (g i) (u i)

def resUp (x : S4096x2048.Idx → EReal) (y : S4x1x1408x2048.Idx → EReal) (g : S4096x5632.Idx → EReal) : S4096x5632.Idx → EReal :=
  fun i => gradUp (dact x y (i 0) (i 1)) (g i)

theorem dact_at (a : Fin 512) (b : Fin 1408) :
    (∑ k : Fin 2048, X0 m c t (ix2 a k) * X1 m c t (ix4 0 0 b k)) =
      dact (Df m c) (Wd m c) ⟨t.val / 4 * 512 + a.val, by have := lt_N t; omega⟩ ⟨t.val % 4 * 1408 + b.val, by have := lt_N t; omega⟩ := by
  unfold dact
  refine Finset.sum_congr rfl fun k _ => ?_
  have e0 := read0 m c t a b k
  have e1 := read1 m c t a b k
  rw [e0, e1]
  refine congrArg₂ (· * ·) rfl (congrArg _ ?_)
  funext d
  apply Fin.ext
  match d with
  | ⟨0, _⟩ => show t.val % 4 = (t.val % 4 * 1408 + b.val) / 1408; omega
  | ⟨1, _⟩ => rfl
  | ⟨2, _⟩ => show b.val = (t.val % 4 * 1408 + b.val) % 1408; omega
  | ⟨3, _⟩ => rfl

theorem emb4 (t : Fin cfg0.N) (a : Fin 512) (b : Fin 1408) :
    ((cfg0.win 4).blk t).view.emb (ix2 a b : S512x1408.Idx) = (ix2 (⟨t.val / 4 * 512 + a.val, by have := lt_N t; omega⟩) (⟨t.val % 4 * 1408 + b.val, by have := lt_N t; omega⟩) : S4096x5632.Idx) := by
  have hi := at4 t
  have hN := lt_N t
  funext d
  apply Fin.ext
  match d with
  | ⟨0, _⟩ => show win0_4.index t 0 * 512 + 1 * a.val = t.val / 4 * 512 + a.val; rw [hi.1] <;> omega
  | ⟨1, _⟩ => show win0_4.index t 1 * 1408 + 1 * b.val = t.val % 4 * 1408 + b.val; rw [hi.2] <;> omega

theorem flushed4_eq (hf : (cfg0.win 4).flush t = true) :
    (dats m 0 c).flushed 4 t = ((cfg0.win 4).blk t).view.read (Elt Ideal) (resGate (Df m c) (Wd m c) (Ga m c) (Up m c)) := by
  show (cfg0.win 4).cut (grid0.coords t) ((dats m 0 c).after 4 t) = _
  rw [after0_4, body4]
  funext i
  rw [View.read_apply]
  obtain ⟨a, b, rfl⟩ : ∃ (a : Fin 512) (b : Fin 1408), i = ix2 a b := ⟨i 0, i 1, by funext x; fin_cases x <;> rfl⟩
  refine (value4 (X0 m c t) (X1 m c t) (X2 m c t) (X3 m c t) a  b).trans ?_
  refine Eq.trans ?_ (congrArg (resGate (Df m c) (Wd m c) (Ga m c) (Up m c)) (emb4 t a  b)).symm
  have hN := lt_N t
  rw [dact_at m c t a b, read2 m c t a b, read3 m c t a b]
  rfl

theorem final4 (c : Dev nD) : (dats m 0 c).arrAt 4 cfg0.N = resGate (Df m c) (Wd m c) (Ga m c) (Up m c) :=
  (dats m 0 c).arrAt_eq_of_cover 4 _ (flushed4_eq m c) fun i => by
    have h0 : (i 0 : Nat) < 4096 := (i 0).isLt
    have h1 : (i 1 : Nat) < 5632 := (i 1).isLt
    let t : Fin cfg0.N := ⟨(i 0 : Nat) / 512 * 4 + (i 1 : Nat) / 1408, by show _ < grid0.N; rw [Gen.N_0]; omega⟩
    have hi := at4 t
    have ht : t.val = (i 0 : Nat) / 512 * 4 + (i 1 : Nat) / 1408 := rfl
    refine ⟨t, flush0_4 t, ?_⟩
    show i ∈ ((View.whole main_v2_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 1408 ≤ (i 1 : Nat) ∧ (i 1 : Nat) < win0_4.index t 1 * 1408 + 1408
      rw [hi.2]; omega

theorem emb5 (t : Fin cfg0.N) (a : Fin 512) (b : Fin 1408) :
    ((cfg0.win 5).blk t).view.emb (ix2 a b : S512x1408.Idx) = (ix2 (⟨t.val / 4 * 512 + a.val, by have := lt_N t; omega⟩) (⟨t.val % 4 * 1408 + b.val, by have := lt_N t; omega⟩) : S4096x5632.Idx) := by
  have hi := at5 t
  have hN := lt_N t
  funext d
  apply Fin.ext
  match d with
  | ⟨0, _⟩ => show win0_5.index t 0 * 512 + 1 * a.val = t.val / 4 * 512 + a.val; rw [hi.1] <;> omega
  | ⟨1, _⟩ => show win0_5.index t 1 * 1408 + 1 * b.val = t.val % 4 * 1408 + b.val; rw [hi.2] <;> omega

theorem flushed5_eq (hf : (cfg0.win 5).flush t = true) :
    (dats m 0 c).flushed 5 t = ((cfg0.win 5).blk t).view.read (Elt Ideal) (resUp (Df m c) (Wd m c) (Ga m c)) := by
  show (cfg0.win 5).cut (grid0.coords t) ((dats m 0 c).after 5 t) = _
  rw [after0_5, body5]
  funext i
  rw [View.read_apply]
  obtain ⟨a, b, rfl⟩ : ∃ (a : Fin 512) (b : Fin 1408), i = ix2 a b := ⟨i 0, i 1, by funext x; fin_cases x <;> rfl⟩
  refine (value5 (X0 m c t) (X1 m c t) (X2 m c t) (X3 m c t) a  b).trans ?_
  refine Eq.trans ?_ (congrArg (resUp (Df m c) (Wd m c) (Ga m c)) (emb5 t a  b)).symm
  have hN := lt_N t
  rw [dact_at m c t a b, read2 m c t a b]
  rfl

theorem final5 (c : Dev nD) : (dats m 0 c).arrAt 5 cfg0.N = resUp (Df m c) (Wd m c) (Ga m c) :=
  (dats m 0 c).arrAt_eq_of_cover 5 _ (flushed5_eq m c) fun i => by
    have h0 : (i 0 : Nat) < 4096 := (i 0).isLt
    have h1 : (i 1 : Nat) < 5632 := (i 1).isLt
    let t : Fin cfg0.N := ⟨(i 0 : Nat) / 512 * 4 + (i 1 : Nat) / 1408, by show _ < grid0.N; rw [Gen.N_0]; omega⟩
    have hi := at5 t
    have ht : t.val = (i 0 : Nat) / 512 * 4 + (i 1 : Nat) / 1408 := rfl
    refine ⟨t, flush0_5 t, ?_⟩
    show i ∈ ((View.whole main_v2_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 1408 ≤ (i 1 : Nat) ∧ (i 1 : Nat) < win0_5.index t 1 * 1408 + 1408
      rw [hi.2]; omega

end Cert.DownDxIdeal.Meaning

end
-- ==== Proof.DownDxClaims.lean ====
module

public import proofs.«01_k».proof.Defs
public import proofs.«01_k».proof.Proof.Gen.DownDx.Frame
public import proofs.«01_k».proof.Proof.Gen.DownDxRefIdeal.Run
public import proofs.«01_k».proof.Proof.Gen.DownDxRefIdeal.Read
public import proofs.«01_k».proof.Proof.DownDxValue

@[expose] public section

set_option maxRecDepth 16384

noncomputable section

/-! The claims of `ffn_down_dx`: the frames of the programs, and that both end with the same product. -/

namespace Cert.DownDxIdeal.Meaning

open DownDxIdeal DownDxIdeal.Gen Idealize.ShloMosaic TcCoe Idealize.SL.Sem

theorem frame_ref : quiescent_DownDxRefIdeal (hDownDxRefIdeal := DownDxRefIdeal.Gen.facts) :=
  fun m ρ _ => (θ_run DownDxRefIdeal.defs _ _).mono
    (fun r h => ⟨fun c => (h c).2.2, sem_eq_zero_of_no_sems (by decide) r.2⟩) (DownDxRefIdeal.Value.run m ρ)

/-- The gathered weight: row `r` of block `b` is row `1408 b + r` of the weight. -/
def gath (w : S5632x2048.Idx → EReal) : S4x1x1408x2048.Idx → EReal := fun i =>
  w (ix2 ⟨(i 0 : Nat) * 1408 + (i 2 : Nat), by have h0 : (i 0 : Nat) < 4 := (i 0).isLt; have h2 : (i 2 : Nat) < 1408 := (i 2).isLt; omega⟩ (i 3))

theorem Wd_eq (m : (ℓ : Loc nD τ sig) → Buf (Elt Ideal) ℓ) (c : Dev nD) : Wd m c = gath (m ((c : Thread nD τ).loc main_arg1)) := by
  unfold Wd V hostOps0
  after_results
  funext i
  obtain ⟨p, q, r, s, rfl⟩ : ∃ (p : Fin 4) (q : Fin 1) (r : Fin 1408) (s : Fin 2048), i = ix4 p q r s := ⟨i 0, i 1, i 2, i 3, by funext x; fin_cases x <;> rfl⟩
  unfold gath
  pointwise

theorem dact_gath (x : S4096x2048.Idx → EReal) (w : S5632x2048.Idx → EReal) (p : Fin 4096) (q : Fin 5632) :
    dact x (gath w) p q = ∑ k : Fin 2048, x (ix2 p k) * w (ix2 q k) := by
  unfold dact gath
  refine Finset.sum_congr rfl fun k _ => congrArg₂ (· * ·) rfl (congrArg w ?_)
  funext d
  apply Fin.ext
  match d with
  | ⟨0, _⟩ => show q.val / 1408 * 1408 + q.val % 1408 = q.val; omega
  | ⟨1, _⟩ => rfl

theorem ref_0 (x : FVec Ideal S4096x2048 .bf16) (w : FVec Ideal S5632x2048 .f32) (g u : FVec Ideal S4096x5632 .f32) : DownDxRefIdeal.Read.val_main_v8 (F := Ideal) x w g u = resGate x (gath w) g u := by
  funext i
  obtain ⟨p, q, rfl⟩ : ∃ (p : Fin 4096) (q : Fin 5632), i = ix2 p q := ⟨i 0, i 1, by funext x; fin_cases x <;> rfl⟩
  unfold resGate gradGate Ideal.logistic
  open DownDxRefIdeal.Read in
  pointwise [val_main_v8, val_main_v7, val_main_call1_v2, val_main_call1_v1, val_main_call1_v0, val_main_v6, val_main_v5, val_main_v4, val_main_v3, val_main_v2, val_main_v1, val_main_v0_0, val_main_v0_1, val_main_call0_v7, val_main_call0_v6, val_main_call0_cst_1, val_main_v0_2, val_main_call0_v4, val_main_call0_cst_0, val_main_call0_v3, val_main_call0_v2, val_main_call0_cst, val_main_call0_v1, val_main_call0_v0, Logistic.one_lit]
  rw [dact_gath x w p q]

theorem ref_1 (x : FVec Ideal S4096x2048 .bf16) (w : FVec Ideal S5632x2048 .f32) (g : FVec Ideal S4096x5632 .f32) : DownDxRefIdeal.Read.val_main_v9 (F := Ideal) x w g = resUp x (gath w) g := by
  funext i
  obtain ⟨p, q, rfl⟩ : ∃ (p : Fin 4096) (q : Fin 5632), i = ix2 p q := ⟨i 0, i 1, by funext x; fin_cases x <;> rfl⟩
  unfold resUp gradUp Ideal.logistic
  open DownDxRefIdeal.Read in
  pointwise [val_main_v9, val_main_v8, val_main_v7, val_main_call1_v2, val_main_call1_v1, val_main_call1_v0, val_main_v6, val_main_v5, val_main_v4, val_main_v3, val_main_v2, val_main_v1, val_main_v0_0, val_main_v0_1, val_main_call0_v7, val_main_call0_v6, val_main_call0_cst_1, val_main_v0_2, val_main_call0_v4, val_main_call0_cst_0, val_main_call0_v3, val_main_call0_v2, val_main_call0_cst, val_main_call0_v1, val_main_call0_v0, Logistic.one_lit]
  rw [dact_gath x w p q]

theorem algebraic : algebraic_DownDxIdeal_DownDxRefIdeal (hDownDxIdeal := DownDxIdeal.Gen.facts) (hDownDxRefIdeal := DownDxRefIdeal.Gen.facts) := by
  intro m g m' g' _ hargs
  refine ⟨fun c => resGate (Df m c) (gath (m ((c : Thread nD τ).loc main_arg1))) (Ga m c) (Up m c), fun c => resUp (Df m c) (gath (m ((c : Thread nD τ).loc main_arg1))) (Ga m c), ?_, ?_⟩
  · exact (θ_run DownDxIdeal.defs _ _).mono (fun r h c => ⟨(h c).1.trans ((final4 m c).trans (congrArg (fun y => resGate (Df m c) y (Ga m c) (Up m c)) (Wd_eq m c))), (h c).2.1.trans ((final5 m c).trans (congrArg (fun y => resUp (Df m c) y (Ga m c)) (Wd_eq m c))), (h c).2.2⟩) (DownDxIdeal.Value.run_blocks m g)
  · refine (θ_run DownDxRefIdeal.defs _ _).mono (fun r h c => ?_) (DownDxRefIdeal.Value.run m' g')
    obtain ⟨a0, a1, a2, a3⟩ := hargs c
    obtain ⟨e0, e1, k⟩ := h c
    refine ⟨e0.trans ?_, e1.trans ?_, k⟩
    · refine (DownDxRefIdeal.Read.val_main_v8_eq _ _ _ _).trans ?_
      rw [a0, a1, a2, a3]
      exact ref_0 _ _ _ _
    · refine (DownDxRefIdeal.Read.val_main_v9_eq _ _ _).trans ?_
      rw [a0, a1, a2]
      exact ref_1 _ _ _

end Cert.DownDxIdeal.Meaning

end
-- ==== Proof.GateUpValue.lean ====
module

public import proofs.«01_k».proof.Proof.Gen.GateUpIdeal.Value
public import proofs.«01_k».proof.Proof.Logistic
public import proofs.«01_k».proof.Proof.Common

@[expose] public section

set_option maxRecDepth 16384

noncomputable section

/-! The gate, the up projection and their activation, block by block. -/

namespace Cert.GateUpIdeal.Meaning

open GateUpIdeal GateUpIdeal.Gen Idealize.ShloMosaic TcCoe Idealize.SL.Sem

section Body

variable {F : FTy → Type} [FloatOps F]

theorem body3 (x0 : Vec F S512x2048 .bf16) (x1 x2 : Vec F S1x1x2048x1408 .bf16) : out0_3 x0 x1 x2 = k0_pay1 x0 x1 := by
  unfold out0_3
  rw [View.canon_unit_zero (S := S512x1408) hz2]
  simp only [View.ld_unit_zero (S := S1x1x2048x1408) hz4, View.ld_unit_zero (S := S512x2048) hz2]

theorem body4 (x0 : Vec F S512x2048 .bf16) (x1 x2 : Vec F S1x1x2048x1408 .bf16) : out0_4 x0 x1 x2 = k0_pay2 x0 x2 := by
  unfold out0_4
  rw [View.canon_unit_zero (S := S512x1408) hz2]
  simp only [View.ld_unit_zero (S := S1x1x2048x1408) hz4, View.ld_unit_zero (S := S512x2048) hz2]

theorem body5 (x0 : Vec F S512x2048 .bf16) (x1 x2 : Vec F S1x1x2048x1408 .bf16) : out0_5 x0 x1 x2 = k0_pay3 x0 x1 x2 := by
  unfold out0_5
  rw [View.canon_unit_zero (S := S512x1408) hz2]
  simp only [View.ld_unit_zero (S := S1x1x2048x1408) hz4, View.ld_unit_zero (S := S512x2048) hz2]

end Body

open Logistic

theorem value3 (x0 : Vec Ideal S512x2048 .bf16) (x1 x2 : Vec Ideal S1x1x2048x1408 .bf16) (a : Fin 512) (b : Fin 1408) : (k0_pay1 x0 x1 : FVec Ideal S512x1408 .f32) (ix2 a b) = (∑ k : Fin 2048, x0 (ix2 a k) * x1 (ix4 0 0 k b)) := by
  unfold_payloads
  pointwise
  try simp only [zero_add]

theorem value4 (x0 : Vec Ideal S512x2048 .bf16) (x1 x2 : Vec Ideal S1x1x2048x1408 .bf16) (a : Fin 512) (b : Fin 1408) : (k0_pay2 x0 x2 : FVec Ideal S512x1408 .f32) (ix2 a b) = (∑ k : Fin 2048, x0 (ix2 a k) * x2 (ix4 0 0 k b)) := by
  unfold_payloads
  pointwise
  try simp only [zero_add]

theorem value5 (x0 : Vec Ideal S512x2048 .bf16) (x1 x2 : Vec Ideal S1x1x2048x1408 .bf16) (a : Fin 512) (b : Fin 1408) : (k0_pay3 x0 x1 x2 : FVec Ideal S512x1408 .bf16) (ix2 a b) = (∑ k : Fin 2048, x0 (ix2 a k) * x1 (ix4 0 0 k b)) * Ideal.logistic (∑ k : Fin 2048, x0 (ix2 a k) * x1 (ix4 0 0 k b)) * (∑ k : Fin 2048, x0 (ix2 a k) * x2 (ix4 0 0 k b)) := by
  rw [half_tanh]
  unfold_payloads
  pointwise [half_lit]
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Xa (c : Dev nD) : S4096x2048.Idx → EReal := m ((c : Thread nD τ).loc main_arg0)
abbrev X0 : FVec Ideal S512x2048 .bf16 := iblk m c 0 t
abbrev Wg (c : Dev nD) : S4x1x2048x1408.Idx → EReal := V m c main_v3
abbrev X1 : FVec Ideal S1x1x2048x1408 .bf16 := iblk m c 1 t
abbrev Wu (c : Dev nD) : S4x1x2048x1408.Idx → EReal := V m c main_v7
abbrev X2 : FVec Ideal S1x1x2048x1408 .bf16 := iblk m c 2 t

theorem at0 : ∀ t : Fin grid0.N, win0_0.index t 0 = t.val / 4 ∧ win0_0.index t 1 = 0 := by decide +kernel

theorem at1 : ∀ t : Fin grid0.N, win0_1.index t 0 = t.val % 4 ∧ win0_1.index t 1 = 0 ∧ win0_1.index t 2 = 0 ∧ win0_1.index t 3 = 0 := by decide +kernel

theorem at2 : ∀ t : Fin grid0.N, win0_2.index t 0 = t.val % 4 ∧ win0_2.index t 1 = 0 ∧ win0_2.index t 2 = 0 ∧ win0_2.index t 3 = 0 := by decide +kernel

theorem at3 : ∀ t : Fin grid0.N, win0_3.index t 0 = t.val / 4 ∧ win0_3.index t 1 = t.val % 4 := by decide +kernel

theorem at4 : ∀ t : Fin grid0.N, win0_4.index t 0 = t.val / 4 ∧ win0_4.index t 1 = t.val % 4 := by decide +kernel

theorem at5 : ∀ t : Fin grid0.N, win0_5.index t 0 = t.val / 4 ∧ win0_5.index t 1 = t.val % 4 := by decide +kernel

theorem read0 (a : Fin 512) (b : Fin 1408) (k : Fin 2048) :
    X0 m c t (ix2 a k) = Xa m c (ix2 (⟨t.val / 4 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val / 4 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 4 * 512 + a.val; rw [hi.1] <;> omega
    | ⟨1, _⟩ => show win0_0.index t 1 * 2048 + 1 * k.val = k.val; rw [hi.2] <;> omega
  exact congrArg _ e

theorem read1 (a : Fin 512) (b : Fin 1408) (k : Fin 2048) :
    X1 m c t (ix4 0 0 k b) = Wg m c (ix4 (⟨t.val % 4, by have := lt_N t; omega⟩) (⟨0, by have := lt_N t; omega⟩) (⟨k.val, by have := lt_N t; omega⟩) (⟨b.val, by have := lt_N t; omega⟩)) := by
  have hi := at1 t
  have hN := lt_N t
  unfold X1 iblk
  rw [View.read_apply]
  show V m c main_v3 _ = _
  show V m c main_v3 _ = V m c main_v3 _
  have e : ((cfg0.win 1).blk t).view.emb (ix4 0 0 k b : S1x1x2048x1408.Idx) = (ix4 (⟨t.val % 4, by have := lt_N t; omega⟩) (⟨0, by have := lt_N t; omega⟩) (⟨k.val, by have := lt_N t; omega⟩) (⟨b.val, by have := lt_N t; omega⟩) : S4x1x2048x1408.Idx) := by
    funext d
    apply Fin.ext
    match d with
    | ⟨0, _⟩ => show win0_1.index t 0 * 1 + 1 * 0 = t.val % 4; rw [hi.1] <;> omega
    | ⟨1, _⟩ => show win0_1.index t 1 * 1 + 1 * 0 = 0; rw [hi.2.1] <;> omega
    | ⟨2, _⟩ => show win0_1.index t 2 * 2048 + 1 * k.val = k.val; rw [hi.2.2.1] <;> omega
    | ⟨3, _⟩ => show win0_1.index t 3 * 1408 + 1 * b.val = b.val; rw [hi.2.2.2] <;> omega
  exact congrArg _ e

theorem read2 (a : Fin 512) (b : Fin 1408) (k : Fin 2048) :
    X2 m c t (ix4 0 0 k b) = Wu m c (ix4 (⟨t.val % 4, by have := lt_N t; omega⟩) (⟨0, by have := lt_N t; omega⟩) (⟨k.val, by have := lt_N t; omega⟩) (⟨b.val, by have := lt_N t; omega⟩)) := by
  have hi := at2 t
  have hN := lt_N t
  unfold X2 iblk
  rw [View.read_apply]
  show V m c main_v7 _ = _
  show V m c main_v7 _ = V m c main_v7 _
  have e : ((cfg0.win 2).blk t).view.emb (ix4 0 0 k b : S1x1x2048x1408.Idx) = (ix4 (⟨t.val % 4, by have := lt_N t; omega⟩) (⟨0, by have := lt_N t; omega⟩) (⟨k.val, by have := lt_N t; omega⟩) (⟨b.val, by have := lt_N t; omega⟩) : S4x1x2048x1408.Idx) := by
    funext d
    apply Fin.ext
    match d with
    | ⟨0, _⟩ => show win0_2.index t 0 * 1 + 1 * 0 = t.val % 4; rw [hi.1] <;> omega
    | ⟨1, _⟩ => show win0_2.index t 1 * 1 + 1 * 0 = 0; rw [hi.2.1] <;> omega
    | ⟨2, _⟩ => show win0_2.index t 2 * 2048 + 1 * k.val = k.val; rw [hi.2.2.1] <;> omega
    | ⟨3, _⟩ => show win0_2.index t 3 * 1408 + 1 * b.val = b.val; rw [hi.2.2.2] <;> omega
  exact congrArg _ e

/-- The product of the rows with the gathered weight. -/
def proj (x : S4096x2048.Idx → EReal) (y : S4x1x2048x1408.Idx → EReal) (p : Fin 4096) (q : Fin 5632) : EReal :=
  ∑ k : Fin 2048, x (ix2 p k) * y (ix4 ⟨q.val / 1408, by omega⟩ 0 k ⟨q.val % 1408, by omega⟩)

def resGate (x : S4096x2048.Idx → EReal) (y : S4x1x2048x1408.Idx → EReal) : S4096x5632.Idx → EReal :=
  fun i => proj x y (i 0) (i 1)

def resUp (x : S4096x2048.Idx → EReal) (z : S4x1x2048x1408.Idx → EReal) : S4096x5632.Idx → EReal :=
  fun i => proj x z (i 0) (i 1)

/-- The activation: the gate times its logistic function times the up projection. -/
def resAct (x : S4096x2048.Idx → EReal) (y z : S4x1x2048x1408.Idx → EReal) : S4096x5632.Idx → EReal :=
  fun i => proj x y (i 0) (i 1) * Ideal.logistic (proj x y (i 0) (i 1)) * proj x z (i 0) (i 1)

theorem gate_at (a : Fin 512) (b : Fin 1408) :
    (∑ k : Fin 2048, X0 m c t (ix2 a k) * X1 m c t (ix4 0 0 k b)) =
      proj (Xa m c) (Wg m c) ⟨t.val / 4 * 512 + a.val, by have := lt_N t; omega⟩ ⟨t.val % 4 * 1408 + b.val, by have := lt_N t; omega⟩ := by
  unfold proj
  refine Finset.sum_congr rfl fun k _ => ?_
  have e0 := read0 m c t a b k
  have e1 := read1 m c t a b k
  rw [e0, e1]
  refine congrArg₂ (· * ·) rfl (congrArg _ ?_)
  funext d
  apply Fin.ext
  match d with
  | ⟨0, _⟩ => show t.val % 4 = (t.val % 4 * 1408 + b.val) / 1408; omega
  | ⟨1, _⟩ => rfl
  | ⟨2, _⟩ => rfl
  | ⟨3, _⟩ => show b.val = (t.val % 4 * 1408 + b.val) % 1408; omega

theorem up_at (a : Fin 512) (b : Fin 1408) :
    (∑ k : Fin 2048, X0 m c t (ix2 a k) * X2 m c t (ix4 0 0 k b)) =
      proj (Xa m c) (Wu m c) ⟨t.val / 4 * 512 + a.val, by have := lt_N t; omega⟩ ⟨t.val % 4 * 1408 + b.val, by have := lt_N t; omega⟩ := by
  unfold proj
  refine Finset.sum_congr rfl fun k _ => ?_
  have e0 := read0 m c t a b k
  have e1 := read2 m c t a b k
  rw [e0, e1]
  refine congrArg₂ (· * ·) rfl (congrArg _ ?_)
  funext d
  apply Fin.ext
  match d with
  | ⟨0, _⟩ => show t.val % 4 = (t.val % 4 * 1408 + b.val) / 1408; omega
  | ⟨1, _⟩ => rfl
  | ⟨2, _⟩ => rfl
  | ⟨3, _⟩ => show b.val = (t.val % 4 * 1408 + b.val) % 1408; omega

theorem emb3 (t : Fin cfg0.N) (a : Fin 512) (b : Fin 1408) :
    ((cfg0.win 3).blk t).view.emb (ix2 a b : S512x1408.Idx) = (ix2 (⟨t.val / 4 * 512 + a.val, by have := lt_N t; omega⟩) (⟨t.val % 4 * 1408 + b.val, by have := lt_N t; omega⟩) : S4096x5632.Idx) := by
  have hi := at3 t
  have hN := lt_N t
  funext d
  apply Fin.ext
  match d with
  | ⟨0, _⟩ => show win0_3.index t 0 * 512 + 1 * a.val = t.val / 4 * 512 + a.val; rw [hi.1] <;> omega
  | ⟨1, _⟩ => show win0_3.index t 1 * 1408 + 1 * b.val = t.val % 4 * 1408 + b.val; rw [hi.2] <;> omega

theorem flushed3_eq (hf : (cfg0.win 3).flush t = true) :
    (dats m 0 c).flushed 3 t = ((cfg0.win 3).blk t).view.read (Elt Ideal) (resGate (Xa m c) (Wg m c)) := by
  show (cfg0.win 3).cut (grid0.coords t) ((dats m 0 c).after 3 t) = _
  rw [after0_3, body3]
  funext i
  rw [View.read_apply]
  obtain ⟨a, b, rfl⟩ : ∃ (a : Fin 512) (b : Fin 1408), i = ix2 a b := ⟨i 0, i 1, by funext x; fin_cases x <;> rfl⟩
  refine (value3 (X0 m c t) (X1 m c t) (X2 m c t) a  b).trans ?_
  refine Eq.trans ?_ (congrArg (resGate (Xa m c) (Wg m c)) (emb3 t a  b)).symm
  have hN := lt_N t
  exact gate_at m c t a b

theorem final3 (c : Dev nD) : (dats m 0 c).arrAt 3 cfg0.N = resGate (Xa m c) (Wg m c) :=
  (dats m 0 c).arrAt_eq_of_cover 3 _ (flushed3_eq m c) fun i => by
    have h0 : (i 0 : Nat) < 4096 := (i 0).isLt
    have h1 : (i 1 : Nat) < 5632 := (i 1).isLt
    let t : Fin cfg0.N := ⟨(i 0 : Nat) / 512 * 4 + (i 1 : Nat) / 1408, by show _ < grid0.N; rw [Gen.N_0]; omega⟩
    have hi := at3 t
    have ht : t.val = (i 0 : Nat) / 512 * 4 + (i 1 : Nat) / 1408 := rfl
    refine ⟨t, flush0_3 t, ?_⟩
    show i ∈ ((View.whole main_v8_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1]; omega
    | ⟨1, _⟩ =>
      show win0_3.index t 1 * 1408 ≤ (i 1 : Nat) ∧ (i 1 : Nat) < win0_3.index t 1 * 1408 + 1408
      rw [hi.2]; omega

theorem emb4 (t : Fin cfg0.N) (a : Fin 512) (b : Fin 1408) :
    ((cfg0.win 4).blk t).view.emb (ix2 a b : S512x1408.Idx) = (ix2 (⟨t.val / 4 * 512 + a.val, by have := lt_N t; omega⟩) (⟨t.val % 4 * 1408 + b.val, by have := lt_N t; omega⟩) : S4096x5632.Idx) := by
  have hi := at4 t
  have hN := lt_N t
  funext d
  apply Fin.ext
  match d with
  | ⟨0, _⟩ => show win0_4.index t 0 * 512 + 1 * a.val = t.val / 4 * 512 + a.val; rw [hi.1] <;> omega
  | ⟨1, _⟩ => show win0_4.index t 1 * 1408 + 1 * b.val = t.val % 4 * 1408 + b.val; rw [hi.2] <;> omega

theorem flushed4_eq (hf : (cfg0.win 4).flush t = true) :
    (dats m 0 c).flushed 4 t = ((cfg0.win 4).blk t).view.read (Elt Ideal) (resUp (Xa m c) (Wu m c)) := by
  show (cfg0.win 4).cut (grid0.coords t) ((dats m 0 c).after 4 t) = _
  rw [after0_4, body4]
  funext i
  rw [View.read_apply]
  obtain ⟨a, b, rfl⟩ : ∃ (a : Fin 512) (b : Fin 1408), i = ix2 a b := ⟨i 0, i 1, by funext x; fin_cases x <;> rfl⟩
  refine (value4 (X0 m c t) (X1 m c t) (X2 m c t) a  b).trans ?_
  refine Eq.trans ?_ (congrArg (resUp (Xa m c) (Wu m c)) (emb4 t a  b)).symm
  have hN := lt_N t
  exact up_at m c t a b

theorem final4 (c : Dev nD) : (dats m 0 c).arrAt 4 cfg0.N = resUp (Xa m c) (Wu m c) :=
  (dats m 0 c).arrAt_eq_of_cover 4 _ (flushed4_eq m c) fun i => by
    have h0 : (i 0 : Nat) < 4096 := (i 0).isLt
    have h1 : (i 1 : Nat) < 5632 := (i 1).isLt
    let t : Fin cfg0.N := ⟨(i 0 : Nat) / 512 * 4 + (i 1 : Nat) / 1408, by show _ < grid0.N; rw [Gen.N_0]; omega⟩
    have hi := at4 t
    have ht : t.val = (i 0 : Nat) / 512 * 4 + (i 1 : Nat) / 1408 := rfl
    refine ⟨t, flush0_4 t, ?_⟩
    show i ∈ ((View.whole main_v8_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 1408 ≤ (i 1 : Nat) ∧ (i 1 : Nat) < win0_4.index t 1 * 1408 + 1408
      rw [hi.2]; omega

theorem emb5 (t : Fin cfg0.N) (a : Fin 512) (b : Fin 1408) :
    ((cfg0.win 5).blk t).view.emb (ix2 a b : S512x1408.Idx) = (ix2 (⟨t.val / 4 * 512 + a.val, by have := lt_N t; omega⟩) (⟨t.val % 4 * 1408 + b.val, by have := lt_N t; omega⟩) : S4096x5632.Idx) := by
  have hi := at5 t
  have hN := lt_N t
  funext d
  apply Fin.ext
  match d with
  | ⟨0, _⟩ => show win0_5.index t 0 * 512 + 1 * a.val = t.val / 4 * 512 + a.val; rw [hi.1] <;> omega
  | ⟨1, _⟩ => show win0_5.index t 1 * 1408 + 1 * b.val = t.val % 4 * 1408 + b.val; rw [hi.2] <;> omega

theorem flushed5_eq (hf : (cfg0.win 5).flush t = true) :
    (dats m 0 c).flushed 5 t = ((cfg0.win 5).blk t).view.read (Elt Ideal) (resAct (Xa m c) (Wg m c) (Wu m c)) := by
  show (cfg0.win 5).cut (grid0.coords t) ((dats m 0 c).after 5 t) = _
  rw [after0_5, body5]
  funext i
  rw [View.read_apply]
  obtain ⟨a, b, rfl⟩ : ∃ (a : Fin 512) (b : Fin 1408), i = ix2 a b := ⟨i 0, i 1, by funext x; fin_cases x <;> rfl⟩
  refine (value5 (X0 m c t) (X1 m c t) (X2 m c t) a  b).trans ?_
  refine Eq.trans ?_ (congrArg (resAct (Xa m c) (Wg m c) (Wu m c)) (emb5 t a  b)).symm
  have hN := lt_N t
  rw [gate_at m c t a b, up_at m c t a b]
  rfl

theorem final5 (c : Dev nD) : (dats m 0 c).arrAt 5 cfg0.N = resAct (Xa m c) (Wg m c) (Wu m c) :=
  (dats m 0 c).arrAt_eq_of_cover 5 _ (flushed5_eq m c) fun i => by
    have h0 : (i 0 : Nat) < 4096 := (i 0).isLt
    have h1 : (i 1 : Nat) < 5632 := (i 1).isLt
    let t : Fin cfg0.N := ⟨(i 0 : Nat) / 512 * 4 + (i 1 : Nat) / 1408, by show _ < grid0.N; rw [Gen.N_0]; omega⟩
    have hi := at5 t
    have ht : t.val = (i 0 : Nat) / 512 * 4 + (i 1 : Nat) / 1408 := rfl
    refine ⟨t, flush0_5 t, ?_⟩
    show i ∈ ((View.whole main_v8_2).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 1408 ≤ (i 1 : Nat) ∧ (i 1 : Nat) < win0_5.index t 1 * 1408 + 1408
      rw [hi.2]; omega

end Cert.GateUpIdeal.Meaning

end
-- ==== Proof.GateUpClaims.lean ====
module

public import proofs.«01_k».proof.Defs
public import proofs.«01_k».proof.Proof.Gen.GateUp.Frame
public import proofs.«01_k».proof.Proof.Gen.GateUpRefIdeal.Run
public import proofs.«01_k».proof.Proof.Gen.GateUpRefIdeal.Read
public import proofs.«01_k».proof.Proof.GateUpValue

@[expose] public section

set_option maxRecDepth 16384

noncomputable section

/-! The claims of `ffn_gate_up`: the frames of the programs, and that both end with the same product. -/

namespace Cert.GateUpIdeal.Meaning

open GateUpIdeal GateUpIdeal.Gen Idealize.ShloMosaic TcCoe Idealize.SL.Sem

theorem frame_ref : quiescent_GateUpRefIdeal (hGateUpRefIdeal := GateUpRefIdeal.Gen.facts) :=
  fun m ρ _ => (θ_run GateUpRefIdeal.defs _ _).mono
    (fun r h => ⟨fun c => (h c).2.2.2, sem_eq_zero_of_no_sems (by decide) r.2⟩) (GateUpRefIdeal.Value.run m ρ)

/-- The gathered weight: column `k` of block `b` is column `1408 b + k` of the weight. -/
def gath (w : S2048x5632.Idx → EReal) : S4x1x2048x1408.Idx → EReal := fun i =>
  w (ix2 (i 2) ⟨(i 0 : Nat) * 1408 + (i 3 : Nat), by have h0 : (i 0 : Nat) < 4 := (i 0).isLt; have h2 : (i 3 : Nat) < 1408 := (i 3).isLt; omega⟩)

theorem Wg_eq (m : (ℓ : Loc nD τ sig) → Buf (Elt Ideal) ℓ) (c : Dev nD) : Wg m c = gath (m ((c : Thread nD τ).loc main_arg1)) := by
  unfold Wg V hostOps0
  after_results
  funext i
  obtain ⟨p, q, r, s, rfl⟩ : ∃ (p : Fin 4) (q : Fin 1) (r : Fin 2048) (s : Fin 1408), i = ix4 p q r s := ⟨i 0, i 1, i 2, i 3, by funext x; fin_cases x <;> rfl⟩
  unfold gath
  pointwise

theorem Wu_eq (m : (ℓ : Loc nD τ sig) → Buf (Elt Ideal) ℓ) (c : Dev nD) : Wu m c = gath (m ((c : Thread nD τ).loc main_arg2)) := by
  unfold Wu V hostOps0
  after_results
  funext i
  obtain ⟨p, q, r, s, rfl⟩ : ∃ (p : Fin 4) (q : Fin 1) (r : Fin 2048) (s : Fin 1408), i = ix4 p q r s := ⟨i 0, i 1, i 2, i 3, by funext x; fin_cases x <;> rfl⟩
  unfold gath
  pointwise

theorem proj_gath (x : S4096x2048.Idx → EReal) (w : S2048x5632.Idx → EReal) (p : Fin 4096) (q : Fin 5632) :
    proj x (gath w) p q = ∑ k : Fin 2048, x (ix2 p k) * w (ix2 k q) := by
  unfold proj gath
  refine Finset.sum_congr rfl fun k _ => congrArg₂ (· * ·) rfl (congrArg w ?_)
  funext d
  apply Fin.ext
  match d with
  | ⟨0, _⟩ => rfl
  | ⟨1, _⟩ => show q.val / 1408 * 1408 + q.val % 1408 = q.val; omega

theorem ref_0 (x : FVec Ideal S4096x2048 .bf16) (w : FVec Ideal S2048x5632 .f32) : GateUpRefIdeal.Read.val_main_v1 (F := Ideal) x w = resGate x (gath w) := by
  funext i
  obtain ⟨p, q, rfl⟩ : ∃ (p : Fin 4096) (q : Fin 5632), i = ix2 p q := ⟨i 0, i 1, by funext x; fin_cases x <;> rfl⟩
  unfold resGate
  open GateUpRefIdeal.Read in
  pointwise [val_main_v1, val_main_v0]
  exact (proj_gath x w p q).symm

theorem ref_1 (x : FVec Ideal S4096x2048 .bf16) (w : FVec Ideal S2048x5632 .f32) : GateUpRefIdeal.Read.val_main_v2 (F := Ideal) x w = resUp x (gath w) := by
  funext i
  obtain ⟨p, q, rfl⟩ : ∃ (p : Fin 4096) (q : Fin 5632), i = ix2 p q := ⟨i 0, i 1, by funext x; fin_cases x <;> rfl⟩
  unfold resUp
  open GateUpRefIdeal.Read in
  pointwise [val_main_v2, val_main_v0]
  exact (proj_gath x w p q).symm

theorem ref_2 (x : FVec Ideal S4096x2048 .bf16) (w w' : FVec Ideal S2048x5632 .f32) : GateUpRefIdeal.Read.val_main_v5 (F := Ideal) x w w' = resAct x (gath w) (gath w') := by
  funext i
  obtain ⟨p, q, rfl⟩ : ∃ (p : Fin 4096) (q : Fin 5632), i = ix2 p q := ⟨i 0, i 1, by funext x; fin_cases x <;> rfl⟩
  unfold resAct Ideal.logistic
  open GateUpRefIdeal.Read in
  pointwise [val_main_v5, val_main_v4, val_main_v3, val_main_call0_v5, val_main_call0_v4, val_main_call0_cst_0, val_main_call0_v3, val_main_call0_v2, val_main_call0_cst, val_main_call0_v1, val_main_call0_v0, val_main_v2, val_main_v1, val_main_v0, Logistic.one_lit]
  rw [proj_gath x w p q, proj_gath x w' p q]

theorem algebraic : algebraic_GateUpIdeal_GateUpRefIdeal (hGateUpIdeal := GateUpIdeal.Gen.facts) (hGateUpRefIdeal := GateUpRefIdeal.Gen.facts) := by
  intro m g m' g' _ hargs
  refine ⟨fun c => resGate (Xa m c) (gath (m ((c : Thread nD τ).loc main_arg1))), fun c => resUp (Xa m c) (gath (m ((c : Thread nD τ).loc main_arg2))), fun c => resAct (Xa m c) (gath (m ((c : Thread nD τ).loc main_arg1))) (gath (m ((c : Thread nD τ).loc main_arg2))), ?_, ?_⟩
  · exact (θ_run GateUpIdeal.defs _ _).mono (fun r h c => ⟨(h c).1.trans ((final3 m c).trans (congrArg (resGate (Xa m c)) (Wg_eq m c))), (h c).2.1.trans ((final4 m c).trans (congrArg (resUp (Xa m c)) (Wu_eq m c))), (h c).2.2.1.trans ((final5 m c).trans (congrArg₂ (resAct (Xa m c)) (Wg_eq m c) (Wu_eq m c))), (h c).2.2.2⟩) (GateUpIdeal.Value.run_blocks m g)
  · refine (θ_run GateUpRefIdeal.defs _ _).mono (fun r h c => ?_) (GateUpRefIdeal.Value.run m' g')
    obtain ⟨a0, a1, a2⟩ := hargs c
    obtain ⟨e0, e1, e2, k⟩ := h c
    refine ⟨e0.trans ?_, e1.trans ?_, e2.trans ?_, k⟩
    · refine (GateUpRefIdeal.Read.val_main_v1_eq _ _).trans ?_
      rw [a0, a1]
      exact ref_0 _ _
    · refine (GateUpRefIdeal.Read.val_main_v2_eq _ _).trans ?_
      rw [a0, a2]
      exact ref_1 _ _
    · refine (GateUpRefIdeal.Read.val_main_v5_eq _ _ _).trans ?_
      rw [a0, a1, a2]
      exact ref_2 _ _ _

end Cert.GateUpIdeal.Meaning

end
-- ==== Proof.DownFwdValue.lean ====
module

public import proofs.«01_k».proof.Proof.Gen.DownFwdIdeal.Value
public import proofs.«01_k».proof.Proof.Common

@[expose] public section

set_option maxRecDepth 16384
set_option maxHeartbeats 1000000

noncomputable section

/-! The blocks of the product accumulate over the 4 blocks of the summed axis; the last one is written out. -/

namespace Cert.DownFwdIdeal.Meaning

open DownFwdIdeal DownFwdIdeal.Gen Idealize.ShloMosaic TcCoe Idealize.SL.Sem

section Body

variable {F : FTy → Type} [FloatOps F]

section Points

variable (c : Dev nD) (i : grid0.Coords) (arg3 : Memref sig .tc .vmem S512x1408 .bf16) (harg3 : arg3.IsWhole) (arg4 : Memref sig .tc .vmem S1x1x1408x2048 .bf16) (harg4 : arg4.IsWhole) (arg5 : Memref sig .tc .vmem S512x2048 .f32) (harg5 : arg5.IsWhole) (arg6 : Memref sig .tc .vmem S512x2048 .f32) (harg6 : arg6.IsWhole)

theorem first_point (hc0 : cond0_0 i) (hc1 : ¬cond0_1 i) (hc2 : ¬cond0_2 i)
    (x0 : Vec F S512x1408 .bf16) (x1 : Vec F S1x1x1408x2048 .bf16) : sout0_A_0 c i arg3 harg3 arg4 harg4 arg5 harg5 arg6 harg6 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S512x2048) hz2]
  try rw [View.canon_unit_zero (S := S512x2048) hz2]
  simp only [View.readCov_unit_zero (S := S1x1x1408x2048) _ hz4, View.readCov_unit_zero (S := S512x1408) _ hz2, View.readCov_unit_zero (S := S512x2048) _ hz2, View.readAt_eq_ld, harg3.read_unread, harg4.read_unread, harg5.read_unread, harg6.read_unread, View.ld_unit_zero (S := S1x1x1408x2048) hz4, View.ld_unit_zero (S := S512x1408) hz2, View.ld_unit_zero (S := S512x2048) hz2]
  try rfl

theorem middle_point (hc0 : ¬cond0_0 i) (hc1 : cond0_1 i) (hc2 : ¬cond0_2 i)
    (x0 : Vec F S512x1408 .bf16) (x1 : Vec F S1x1x1408x2048 .bf16) (xs0 : Vec F S512x2048 .f32) : sout0_B_0 c i arg3 harg3 arg4 harg4 arg5 harg5 arg6 harg6 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S512x2048) hz2]
  try rw [View.canon_unit_zero (S := S512x2048) hz2]
  simp only [View.readCov_unit_zero (S := S1x1x1408x2048) _ hz4, View.readCov_unit_zero (S := S512x1408) _ hz2, View.readCov_unit_zero (S := S512x2048) _ hz2, View.readAt_eq_ld, harg3.read_unread, harg4.read_unread, harg5.read_unread, harg6.read_unread, View.ld_unit_zero (S := S1x1x1408x2048) hz4, View.ld_unit_zero (S := S512x1408) hz2, View.ld_unit_zero (S := S512x2048) hz2]
  try rfl

theorem last_point (hc0 : ¬cond0_0 i) (hc1 : ¬cond0_1 i) (hc2 : cond0_2 i)
    (x0 : Vec F S512x1408 .bf16) (x1 : Vec F S1x1x1408x2048 .bf16) (xs0 : Vec F S512x2048 .f32) : out0_C_2 c i arg3 harg3 arg4 harg4 arg5 harg5 arg6 harg6 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S512x2048) hz2]
  try rw [View.canon_unit_zero (S := S512x2048) hz2]
  simp only [View.readCov_unit_zero (S := S1x1x1408x2048) _ hz4, View.readCov_unit_zero (S := S512x1408) _ hz2, View.readCov_unit_zero (S := S512x2048) _ hz2, View.readAt_eq_ld, harg3.read_unread, harg4.read_unread, harg5.read_unread, harg6.read_unread, View.ld_unit_zero (S := S1x1x1408x2048) hz4, View.ld_unit_zero (S := S512x1408) hz2, View.ld_unit_zero (S := S512x2048) hz2]
  try rfl

end Points

end Body

theorem first_value (x0 : Vec Ideal S512x1408 .bf16) (x1 : Vec Ideal S1x1x1408x2048 .bf16) (a : Fin 512) (b : Fin 2048) :
    k0_pay2 (F := Ideal) x1 x0 (ix2 a b) = ∑ k : Fin 1408, x0 (ix2 a k) * x1 (ix4 0 0 k b) := by
  unfold_payloads
  pointwise
  try simp only [zero_add]

theorem middle_value (x0 : Vec Ideal S512x1408 .bf16) (x1 : Vec Ideal S1x1x1408x2048 .bf16) (s : FVec Ideal S512x2048 .f32) (a : Fin 512) (b : Fin 2048) :
    k0_pay3 (F := Ideal) x1 x0 s (ix2 a b) = s (ix2 a b) + ∑ k : Fin 1408, x0 (ix2 a k) * x1 (ix4 0 0 k b) := by
  unfold_payloads
  pointwise
  try simp only [zero_add]

theorem last_value (x0 : Vec Ideal S512x1408 .bf16) (x1 : Vec Ideal S1x1x1408x2048 .bf16) (s : FVec Ideal S512x2048 .f32) (a : Fin 512) (b : Fin 2048) :
    k0_pay4 (F := Ideal) x1 x0 s (ix2 a b) = s (ix2 a b) + ∑ k : Fin 1408, x0 (ix2 a k) * x1 (ix4 0 0 k b) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Act (c : Dev nD) : S4096x5632.Idx → EReal := m ((c : Thread nD τ).loc main_arg0)
abbrev Wd (c : Dev nD) : S4x1x1408x2048.Idx → EReal := V m c main_v1

abbrev X0 : FVec Ideal S512x1408 .bf16 := iblk m c 0 t
abbrev X1 : FVec Ideal S1x1x1408x2048 .bf16 := iblk m c 1 t

theorem at0 : ∀ t : Fin grid0.N, win0_0.index t 0 = t.val / 4 ∧ win0_0.index t 1 = t.val % 4 := by decide +kernel

theorem at1 : ∀ t : Fin grid0.N, win0_1.index t 0 = t.val % 4 ∧ win0_1.index t 1 = 0 ∧ win0_1.index t 2 = 0 ∧ win0_1.index t 3 = 0 := by decide +kernel

theorem at2 : ∀ t : Fin grid0.N, win0_2.index t 0 = t.val / 4 ∧ win0_2.index t 1 = 0 := by decide +kernel

theorem read0 (a : Fin 512) (b : Fin 2048) (k : Fin 1408) :
    X0 m c t (ix2 a k) = Act m c (ix2 (⟨t.val / 4 % 8 * 512 + a.val, by omega⟩) (⟨t.val % 4 * 1408 + k.val, by omega⟩)) := by
  have hi := at0 t
  have hN := lt_N t
  unfold X0 iblk
  rw [View.read_apply]
  show V m c main_arg0 _ = _
  rw [V_main_arg0]
  unfold Act
  have e : ((cfg0.win 0).blk t).view.emb (ix2 a k : S512x1408.Idx) = (ix2 (⟨t.val / 4 % 8 * 512 + a.val, by omega⟩) (⟨t.val % 4 * 1408 + k.val, by omega⟩) : S4096x5632.Idx) := by
    funext d
    apply Fin.ext
    match d with
    | ⟨0, _⟩ => show win0_0.index t 0 * 512 + 1 * a.val = t.val / 4 % 8 * 512 + a.val; rw [hi.1] <;> omega
    | ⟨1, _⟩ => show win0_0.index t 1 * 1408 + 1 * k.val = t.val % 4 * 1408 + k.val; rw [hi.2] <;> omega
  exact congrArg _ e

theorem read1 (a : Fin 512) (b : Fin 2048) (k : Fin 1408) :
    X1 m c t (ix4 0 0 k b) = Wd m c (ix4 (⟨t.val % 4, by omega⟩) (⟨0, by omega⟩) (⟨k.val, by omega⟩) (⟨b.val, by omega⟩)) := by
  have hi := at1 t
  have hN := lt_N t
  unfold X1 iblk
  rw [View.read_apply]
  show V m c main_v1 _ = _
  show V m c main_v1 _ = V m c main_v1 _
  have e : ((cfg0.win 1).blk t).view.emb (ix4 0 0 k b : S1x1x1408x2048.Idx) = (ix4 (⟨t.val % 4, by omega⟩) (⟨0, by omega⟩) (⟨k.val, by omega⟩) (⟨b.val, by omega⟩) : S4x1x1408x2048.Idx) := by
    funext d
    apply Fin.ext
    match d with
    | ⟨0, _⟩ => show win0_1.index t 0 * 1 + 1 * 0 = t.val % 4; rw [hi.1] <;> omega
    | ⟨1, _⟩ => show win0_1.index t 1 * 1 + 1 * 0 = 0; rw [hi.2.1] <;> omega
    | ⟨2, _⟩ => show win0_1.index t 2 * 1408 + 1 * k.val = k.val; rw [hi.2.2.1] <;> omega
    | ⟨3, _⟩ => show win0_1.index t 3 * 2048 + 1 * b.val = b.val; rw [hi.2.2.2] <;> omega
  exact congrArg _ e

/-- The `i`-th block of the summed axis in the product of the output's `q`-th block. -/
def piece (c : Dev nD) (q i : Nat) (a : Fin 512) (b : Fin 2048) : EReal :=
  ∑ k : Fin 1408, Act m c (ix2 (⟨q % 8 * 512 + a.val, by omega⟩) (⟨i % 4 * 1408 + k.val, by omega⟩)) * Wd m c (ix4 (⟨i % 4, by omega⟩) (⟨0, by omega⟩) (⟨k.val, by omega⟩) (⟨b.val, by omega⟩))

theorem piece_at (a : Fin 512) (b : Fin 2048) :
    (∑ k : Fin 1408, X0 m c t (ix2 a k) * X1 m c t (ix4 0 0 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val / 4 % 8 * 512 + a.val = (t.val / 4) % 8 * 512 + a.val; omega
    | ⟨1, _⟩ => show t.val % 4 * 1408 + k.val = (t.val % 4) % 4 * 1408 + k.val; omega
  · funext d
    apply Fin.ext
    match d with
    | ⟨0, _⟩ => show t.val % 4 = (t.val % 4) % 4; omega
    | ⟨1, _⟩ => show 0 = 0; omega
    | ⟨2, _⟩ => show k.val = k.val; omega
    | ⟨3, _⟩ => show b.val = b.val; omega

theorem acc_first (h : t.val % 4 = 0) (a : Fin 512) (b : Fin 2048) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 512) (b : Fin 2048) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 512) (b : Fin 2048) :
    (outsAt0 m c t.val t.isLt).1 (ix2 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix2 a b)).trans ?_
  exact (last_value _ _ _ a b).trans (congrArg (_ + ·) (piece_at m c t a b))

theorem acc_apply (c : Dev nD) (a : Fin 512) (b : Fin 2048) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 512) (b : Fin 2048) :
    (outsAt0 m c t.val t.isLt).1 (ix2 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x5632.Idx → EReal) (y : S4x1x1408x2048.Idx → EReal) : S4096x2048.Idx → EReal :=
  fun i => ∑ k : Fin 5632, x (ix2 (i 0) k) * y (ix4 (⟨k.val / 1408, by omega⟩) (0) (⟨k.val % 1408, by omega⟩) (i 1))

theorem out_res (h : t.val % 4 = 3) (a : Fin 512) (b : Fin 2048) :
    (outsAt0 m c t.val t.isLt).1 (ix2 a b) = res (Act m c) (Wd m c) (((cfg0.win 2).blk t).view.emb (ix2 a b : S512x2048.Idx)) := by
  have hi := at2 t
  have hN := lt_N t
  rw [out_apply m c t h a b]
  unfold res
  rw [Fin.sum_univ_tiles 4 1408 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show (t.val / 4) % 8 * 512 + a.val = win0_2.index t 0 * 512 + 1 * a.val; rw [hi.1] <;> omega
    | ⟨1, _⟩ => show i.val % 4 * 1408 + k.val = i.val * 1408 + k.val; omega
  · funext d
    apply Fin.ext
    match d with
    | ⟨0, _⟩ => show i.val % 4 = (i.val * 1408 + k.val) / 1408; omega
    | ⟨1, _⟩ => show 0 = 0; omega
    | ⟨2, _⟩ => show k.val = (i.val * 1408 + k.val) % 1408; omega
    | ⟨3, _⟩ => show b.val = win0_2.index t 1 * 2048 + 1 * b.val; rw [hi.2] <;> omega

theorem flushed_eq (c : Dev nD) : ∀ t : Fin cfg0.N, (cfg0.win 2).flush t = true →
    (dats m 0 c).flushed 2 t = ((cfg0.win 2).blk t).view.read (Elt Ideal) (res (Act m c) (Wd m c)) := by
  intro t hf
  have ht := (flush0_2 t).mp hf
  show (cfg0.win 2).cut (grid0.coords t) ((dats m 0 c).after 2 t) = _
  rw [after0_2]
  funext i
  rw [View.read_apply]
  obtain ⟨a, b, rfl⟩ : ∃ (a : Fin 512) (b : Fin 2048), i = ix2 a b := ⟨i 0, i 1, by funext x; fin_cases x <;> first | rfl | exact Subsingleton.elim _ _⟩
  skip
  show (outsAt0 m c t.val t.isLt).1 (ix2 a b) = _
  exact out_res m c t (by omega) a b

theorem final (c : Dev nD) : (dats m 0 c).arrAt 2 cfg0.N = res (Act m c) (Wd m c) :=
  (dats m 0 c).arrAt_eq_of_cover 2 _ (flushed_eq m c) fun i => by
    have h0 : (i 0 : Nat) < 4096 := (i 0).isLt
    have h1 : (i 1 : Nat) < 2048 := (i 1).isLt
    let t : Fin cfg0.N := ⟨(i 0 : Nat) / 512 * 4 + 3, by show _ < grid0.N; rw [Gen.N_0]; omega⟩
    have hi := at2 t
    have ht : t.val = (i 0 : Nat) / 512 * 4 + 3 := rfl
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.DownFwdIdeal.Meaning

end
-- ==== Proof.DownFwdClaims.lean ====
module

public import proofs.«01_k».proof.Defs
public import proofs.«01_k».proof.Proof.Gen.DownFwd.Frame
public import proofs.«01_k».proof.Proof.Gen.DownFwdRefIdeal.Run
public import proofs.«01_k».proof.Proof.Gen.DownFwdRefIdeal.Read
public import proofs.«01_k».proof.Proof.DownFwdValue

@[expose] public section

set_option maxRecDepth 16384

noncomputable section

/-! The claims of `ffn_down`: the frames of the programs, and that both end with the same product. -/

namespace Cert.DownFwdIdeal.Meaning

open DownFwdIdeal DownFwdIdeal.Gen Idealize.ShloMosaic TcCoe Idealize.SL.Sem

theorem frame_ref : quiescent_DownFwdRefIdeal (hDownFwdRefIdeal := DownFwdRefIdeal.Gen.facts) :=
  fun m ρ _ => (θ_run DownFwdRefIdeal.defs _ _).mono
    (fun r h => ⟨fun c => (h c).2, sem_eq_zero_of_no_sems (by decide) r.2⟩) (DownFwdRefIdeal.Value.run m ρ)

/-- The gathered weight: row `r` of block `b` is row `1408 b + r` of the weight. -/
def gath (w : S5632x2048.Idx → EReal) : S4x1x1408x2048.Idx → EReal := fun i =>
  w (ix2 ⟨(i 0 : Nat) * 1408 + (i 2 : Nat), by have h0 : (i 0 : Nat) < 4 := (i 0).isLt; have h2 : (i 2 : Nat) < 1408 := (i 2).isLt; omega⟩ (i 3))

theorem Wd_eq (m : (ℓ : Loc nD τ sig) → Buf (Elt Ideal) ℓ) (c : Dev nD) : Wd m c = gath (m ((c : Thread nD τ).loc main_arg1)) := by
  unfold Wd V hostOps0
  after_results
  funext i
  obtain ⟨p, q, r, s, rfl⟩ : ∃ (p : Fin 4) (q : Fin 1) (r : Fin 1408) (s : Fin 2048), i = ix4 p q r s := ⟨i 0, i 1, i 2, i 3, by funext x; fin_cases x <;> rfl⟩
  unfold gath
  pointwise

theorem ref_0 (x : FVec Ideal S4096x5632 .bf16) (w : FVec Ideal S5632x2048 .f32) : DownFwdRefIdeal.Read.val_main_v1 (F := Ideal) x w = res x (gath w) := by
  funext i
  obtain ⟨p, q, rfl⟩ : ∃ (p : Fin 4096) (q : Fin 2048), i = ix2 p q := ⟨i 0, i 1, by funext x; fin_cases x <;> rfl⟩
  unfold res gath
  open DownFwdRefIdeal.Read in
  pointwise [val_main_v1, val_main_v0]
  refine Finset.sum_congr rfl fun k _ => congrArg₂ (· * ·) rfl (congrArg w ?_)
  funext d
  apply Fin.ext
  match d with
  | ⟨0, _⟩ => show k.val = k.val / 1408 * 1408 + k.val % 1408; omega
  | ⟨1, _⟩ => rfl

theorem algebraic : algebraic_DownFwdIdeal_DownFwdRefIdeal (hDownFwdIdeal := DownFwdIdeal.Gen.facts) (hDownFwdRefIdeal := DownFwdRefIdeal.Gen.facts) := by
  intro m g m' g' _ hargs
  refine ⟨fun c => res (Act m c) (gath (m ((c : Thread nD τ).loc main_arg1))), ?_, ?_⟩
  · exact (θ_run DownFwdIdeal.defs _ _).mono (fun r h c => ⟨(h c).1.trans ((final m c).trans (congrArg _ (Wd_eq m c))), (h c).2⟩) (DownFwdIdeal.Value.run_blocks m g)
  · refine (θ_run DownFwdRefIdeal.defs _ _).mono (fun r h c => ?_) (DownFwdRefIdeal.Value.run m' g')
    obtain ⟨a0, a1⟩ := hargs c
    obtain ⟨e0, k⟩ := h c
    refine ⟨e0.trans ?_, k⟩
    · refine (DownFwdRefIdeal.Read.val_main_v1_eq _ _).trans ?_
      rw [a0, a1]
      exact ref_0 _ _

end Cert.DownFwdIdeal.Meaning

end
-- ==== Proof.HgInValue.lean ====
module

public import proofs.«01_k».proof.Proof.Gen.HgInIdeal.Value
public import proofs.«01_k».proof.Proof.Common

@[expose] public section

set_option maxRecDepth 16384

noncomputable section

/-! Each block of a projection is the product of a block of rows with a block of columns of the weight. -/

namespace Cert.HgInIdeal.Meaning

open HgInIdeal HgInIdeal.Gen Idealize.ShloMosaic TcCoe Idealize.SL.Sem

section Body

variable {F : FTy → Type} [FloatOps F]

theorem body2 (x0 : Vec F S512x2048 .bf16) (x1 : Vec F S1x1x2048x1024 .bf16) : out0_2 x0 x1 = k0_pay1 x1 x0 := by
  unfold out0_2
  rw [View.canon_unit_zero (S := S1x512x1024) hz3]
  simp only [View.ld_unit_zero (S := S1x1x2048x1024) hz4, View.ld_unit_zero (S := S512x2048) hz2]

end Body

theorem value2 (x0 : Vec Ideal S512x2048 .bf16) (x1 : Vec Ideal S1x1x2048x1024 .bf16) (a : Fin 512) (b : Fin 1024) : (k0_pay1 x1 x0 : FVec Ideal S1x512x1024 .f32) (ix3 0 a b) = ∑ k : Fin 2048, x0 (ix2 a k) * x1 (ix4 0 0 k b) := by
  unfold_payloads
  pointwise
  try simp only [zero_add]

variable (m : (ℓ : Loc nD τ sig) → Buf (Elt Ideal) ℓ) (c : Dev nD) (t : Fin cfg0.N)

theorem lt_N (t : Fin cfg0.N) : t.val < 64 := lt_of_lt_of_eq t.isLt (show cfg0.N = 64 from N_0)

abbrev Xa (c : Dev nD) : S4096x2048.Idx → EReal := m ((c : Thread nD τ).loc main_arg0)
abbrev X0 : FVec Ideal S512x2048 .bf16 := iblk m c 0 t
abbrev Wi (c : Dev nD) : S4x1x2048x2048.Idx → EReal := V m c main_v3
abbrev X1 : FVec Ideal S1x1x2048x1024 .bf16 := iblk m c 1 t

theorem at0 : ∀ t : Fin grid0.N, win0_0.index t 0 = t.val / 8 ∧ win0_0.index t 1 = 0 := by decide +kernel

theorem at1 : ∀ t : Fin grid0.N, win0_1.index t 0 = t.val % 8 / 2 ∧ win0_1.index t 1 = 0 ∧ win0_1.index t 2 = 0 ∧ win0_1.index t 3 = t.val % 2 := by decide +kernel

theorem at2 : ∀ t : Fin grid0.N, win0_2.index t 0 = t.val % 8 / 2 ∧ win0_2.index t 1 = t.val / 8 ∧ win0_2.index t 2 = t.val % 2 := by decide +kernel

theorem read0 (a : Fin 512) (b : Fin 1024) (k : Fin 2048) :
    X0 m c t (ix2 a k) = Xa m c (ix2 (⟨t.val / 8 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val / 8 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 8 * 512 + a.val; rw [hi.1] <;> omega
    | ⟨1, _⟩ => show win0_0.index t 1 * 2048 + 1 * k.val = k.val; rw [hi.2] <;> omega
  exact congrArg _ e

theorem read1 (a : Fin 512) (b : Fin 1024) (k : Fin 2048) :
    X1 m c t (ix4 0 0 k b) = Wi m c (ix4 (⟨t.val % 8 / 2, by have := lt_N t; omega⟩) (⟨0, by have := lt_N t; omega⟩) (⟨k.val, by have := lt_N t; omega⟩) (⟨t.val % 2 * 1024 + b.val, by have := lt_N t; omega⟩)) := by
  have hi := at1 t
  have hN := lt_N t
  unfold X1 iblk
  rw [View.read_apply]
  show V m c main_v3 _ = _
  show V m c main_v3 _ = V m c main_v3 _
  have e : ((cfg0.win 1).blk t).view.emb (ix4 0 0 k b : S1x1x2048x1024.Idx) = (ix4 (⟨t.val % 8 / 2, by have := lt_N t; omega⟩) (⟨0, by have := lt_N t; omega⟩) (⟨k.val, by have := lt_N t; omega⟩) (⟨t.val % 2 * 1024 + b.val, by have := lt_N t; omega⟩) : S4x1x2048x2048.Idx) := by
    funext d
    apply Fin.ext
    match d with
    | ⟨0, _⟩ => show win0_1.index t 0 * 1 + 1 * 0 = t.val % 8 / 2; rw [hi.1] <;> omega
    | ⟨1, _⟩ => show win0_1.index t 1 * 1 + 1 * 0 = 0; rw [hi.2.1] <;> omega
    | ⟨2, _⟩ => show win0_1.index t 2 * 2048 + 1 * k.val = k.val; rw [hi.2.2.1] <;> omega
    | ⟨3, _⟩ => show win0_1.index t 3 * 1024 + 1 * b.val = t.val % 2 * 1024 + b.val; rw [hi.2.2.2] <;> omega
  exact congrArg _ e

/-- Part `p` of the projection: the product with the `p`-th block of columns. -/
def res (x : S4096x2048.Idx → EReal) (y : S4x1x2048x2048.Idx → EReal) : S4x4096x2048.Idx → EReal :=
  fun i => ∑ k : Fin 2048, x (ix2 (i 1) k) * y (ix4 (i 0) 0 k (i 2))

theorem emb2 (t : Fin cfg0.N) (a : Fin 512) (b : Fin 1024) :
    ((cfg0.win 2).blk t).view.emb (ix3 0 a b : S1x512x1024.Idx) = (ix3 (⟨t.val % 8 / 2, by have := lt_N t; omega⟩) (⟨t.val / 8 * 512 + a.val, by have := lt_N t; omega⟩) (⟨t.val % 2 * 1024 + b.val, by have := lt_N t; omega⟩) : S4x4096x2048.Idx) := by
  have hi := at2 t
  have hN := lt_N t
  funext d
  apply Fin.ext
  match d with
  | ⟨0, _⟩ => show win0_2.index t 0 * 1 + 1 * 0 = t.val % 8 / 2; rw [hi.1] <;> omega
  | ⟨1, _⟩ => show win0_2.index t 1 * 512 + 1 * a.val = t.val / 8 * 512 + a.val; rw [hi.2.1] <;> omega
  | ⟨2, _⟩ => show win0_2.index t 2 * 1024 + 1 * b.val = t.val % 2 * 1024 + b.val; rw [hi.2.2] <;> omega

theorem flushed2_eq (hf : (cfg0.win 2).flush t = true) :
    (dats m 0 c).flushed 2 t = ((cfg0.win 2).blk t).view.read (Elt Ideal) (res (Xa m c) (Wi m c)) := by
  show (cfg0.win 2).cut (grid0.coords t) ((dats m 0 c).after 2 t) = _
  rw [after0_2, body2]
  funext i
  rw [View.read_apply]
  obtain ⟨a, b, rfl⟩ : ∃ (a : Fin 512) (b : Fin 1024), i = ix3 0 a b := ⟨i 1, i 2, by funext x; fin_cases x <;> first | rfl | exact Subsingleton.elim (α := Fin 1) _ _⟩
  refine (value2 (X0 m c t) (X1 m c t) a  b).trans ?_
  refine Eq.trans ?_ (congrArg (res (Xa m c) (Wi m c)) (emb2 t a  b)).symm
  have hN := lt_N t
  refine Finset.sum_congr rfl fun k _ => ?_
  have e0 := read0 m c t a b k
  have e1 := read1 m c t a b k
  rw [e0, e1]
  rfl

theorem final2 (c : Dev nD) : (dats m 0 c).arrAt 2 cfg0.N = res (Xa m c) (Wi m c) :=
  (dats m 0 c).arrAt_eq_of_cover 2 _ (flushed2_eq m c) fun i => by
    have h0 : (i 0 : Nat) < 4 := (i 0).isLt
    have h1 : (i 1 : Nat) < 4096 := (i 1).isLt
    have h2 : (i 2 : Nat) < 2048 := (i 2).isLt
    let t : Fin cfg0.N := ⟨(i 1 : Nat) / 512 * 8 + (i 0 : Nat) * 2 + (i 2 : Nat) / 1024, by show _ < grid0.N; rw [Gen.N_0]; omega⟩
    have hi := at2 t
    have ht : t.val = (i 1 : Nat) / 512 * 8 + (i 0 : Nat) * 2 + (i 2 : Nat) / 1024 := rfl
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 512 ≤ (i 1 : Nat) ∧ (i 1 : Nat) < win0_2.index t 1 * 512 + 512
      rw [hi.2.1]; omega
    | ⟨2, _⟩ =>
      show win0_2.index t 2 * 1024 ≤ (i 2 : Nat) ∧ (i 2 : Nat) < win0_2.index t 2 * 1024 + 1024
      rw [hi.2.2]; omega

end Cert.HgInIdeal.Meaning

end
-- ==== Proof.HgInClaims.lean ====
module

public import proofs.«01_k».proof.Defs
public import proofs.«01_k».proof.Proof.Gen.HgIn.Frame
public import proofs.«01_k».proof.Proof.Gen.HgInRefIdeal.Run
public import proofs.«01_k».proof.Proof.Gen.HgInRefIdeal.Read
public import proofs.«01_k».proof.Proof.HgInValue

@[expose] public section

set_option maxRecDepth 16384

noncomputable section

/-! The claims of `hg_in`: the frames of the programs, and that both end with the same product. -/

namespace Cert.HgInIdeal.Meaning

open HgInIdeal HgInIdeal.Gen Idealize.ShloMosaic TcCoe Idealize.SL.Sem

theorem frame_ref : quiescent_HgInRefIdeal (hHgInRefIdeal := HgInRefIdeal.Gen.facts) :=
  fun m ρ _ => (θ_run HgInRefIdeal.defs _ _).mono
    (fun r h => ⟨fun c => (h c).2, sem_eq_zero_of_no_sems (by decide) r.2⟩) (HgInRefIdeal.Value.run m ρ)

/-- The gathered weight: column `k` of block `b` is column `2048 b + k` of the weight. -/
def gath (w : S2048x8192.Idx → EReal) : S4x1x2048x2048.Idx → EReal := fun i =>
  w (ix2 (i 2) ⟨(i 0 : Nat) * 2048 + (i 3 : Nat), by have h0 : (i 0 : Nat) < 4 := (i 0).isLt; have h2 : (i 3 : Nat) < 2048 := (i 3).isLt; omega⟩)

theorem Wi_eq (m : (ℓ : Loc nD τ sig) → Buf (Elt Ideal) ℓ) (c : Dev nD) : Wi m c = gath (m ((c : Thread nD τ).loc main_arg1)) := by
  unfold Wi V hostOps0
  after_results
  funext i
  obtain ⟨p, q, r, s, rfl⟩ : ∃ (p : Fin 4) (q : Fin 1) (r s : Fin 2048), i = ix4 p q r s := ⟨i 0, i 1, i 2, i 3, by funext x; fin_cases x <;> rfl⟩
  unfold gath
  pointwise

open HgInRefIdeal.Read in
theorem parted (x : FVec Ideal S4096x2048 .bf16) (w : FVec Ideal S2048x8192 .f32) (p : Fin 4) (q : Fin 4096) (r : Fin 2048) :
    val_main_v10 (F := Ideal) x w (ix3 p q r) = ∑ k : Fin 2048, x (ix2 q k) * w (ix2 k ⟨p.val * 2048 + r.val, by omega⟩) := by
  fin_cases p <;> pointwise [val_main_v10, val_main_v9, val_main_v8, val_main_v7, val_main_v6, val_main_v5, val_main_v4, val_main_v3, val_main_v2, val_main_v1, val_main_v0] <;>
    refine Finset.sum_congr rfl fun k _ => congrArg₂ (· * ·) rfl (congrArg (fun z => w (ix2 k z)) (Fin.ext ?_))

theorem ref_0 (x : FVec Ideal S4096x2048 .bf16) (w : FVec Ideal S2048x8192 .f32) : HgInRefIdeal.Read.val_main_v10 (F := Ideal) x w = res x (gath w) := by
  funext i
  obtain ⟨p, q, r, rfl⟩ : ∃ (p : Fin 4) (q : Fin 4096) (r : Fin 2048), i = ix3 p q r := ⟨i 0, i 1, i 2, by funext x; fin_cases x <;> rfl⟩
  exact parted x w p q r

theorem algebraic : algebraic_HgInIdeal_HgInRefIdeal (hHgInIdeal := HgInIdeal.Gen.facts) (hHgInRefIdeal := HgInRefIdeal.Gen.facts) := by
  intro m g m' g' _ hargs
  refine ⟨fun c => res (Xa m c) (gath (m ((c : Thread nD τ).loc main_arg1))), ?_, ?_⟩
  · exact (θ_run HgInIdeal.defs _ _).mono (fun r h c => ⟨(h c).1.trans ((final2 m c).trans (congrArg _ (Wi_eq m c))), (h c).2⟩) (HgInIdeal.Value.run_blocks m g)
  · refine (θ_run HgInRefIdeal.defs _ _).mono (fun r h c => ?_) (HgInRefIdeal.Value.run m' g')
    obtain ⟨a0, a1⟩ := hargs c
    obtain ⟨e0, k⟩ := h c
    refine ⟨e0.trans ?_, k⟩
    · refine (HgInRefIdeal.Read.val_main_v10_eq _ _).trans ?_
      rw [a0, a1]
      exact ref_0 _ _

end Cert.HgInIdeal.Meaning

end
-- ==== Proof.HgInDxValue.lean ====
module

public import proofs.«01_k».proof.Proof.Gen.HgInDxIdeal.Value
public import proofs.«01_k».proof.Proof.Common

@[expose] public section

set_option maxRecDepth 16384
set_option maxHeartbeats 1000000

noncomputable section

/-! The blocks of the product accumulate over the 8 blocks of the summed axis; the last one is written out. -/

namespace Cert.HgInDxIdeal.Meaning

open HgInDxIdeal HgInDxIdeal.Gen Idealize.ShloMosaic TcCoe Idealize.SL.Sem

section Body

variable {F : FTy → Type} [FloatOps F]

section Points

variable (c : Dev nD) (i : grid0.Coords) (arg3 : Memref sig .tc .vmem S1x512x1024 .bf16) (harg3 : arg3.IsWhole) (arg4 : Memref sig .tc .vmem S1x1x2048x1024 .bf16) (harg4 : arg4.IsWhole) (arg5 : Memref sig .tc .vmem S512x2048 .f32) (harg5 : arg5.IsWhole) (arg6 : Memref sig .tc .vmem S512x2048 .f32) (harg6 : arg6.IsWhole)

theorem first_point (hc0 : cond0_0 i) (hc1 : ¬cond0_1 i) (hc2 : ¬cond0_2 i)
    (x0 : Vec F S1x512x1024 .bf16) (x1 : Vec F S1x1x2048x1024 .bf16) : sout0_A_0 c i arg3 harg3 arg4 harg4 arg5 harg5 arg6 harg6 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S1x512x1024) _ hz3, View.readCov_unit_zero (S := S512x2048) _ hz2, View.readAt_eq_ld, harg3.read_unread, harg4.read_unread, harg5.read_unread, harg6.read_unread, View.ld_unit_zero (S := S1x1x2048x1024) hz4, View.ld_unit_zero (S := S1x512x1024) hz3, View.ld_unit_zero (S := S512x2048) hz2]
  try rfl

theorem middle_point (hc0 : ¬cond0_0 i) (hc1 : cond0_1 i) (hc2 : ¬cond0_2 i)
    (x0 : Vec F S1x512x1024 .bf16) (x1 : Vec F S1x1x2048x1024 .bf16) (xs0 : Vec F S512x2048 .f32) : sout0_B_0 c i arg3 harg3 arg4 harg4 arg5 harg5 arg6 harg6 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S1x512x1024) _ hz3, View.readCov_unit_zero (S := S512x2048) _ hz2, View.readAt_eq_ld, harg3.read_unread, harg4.read_unread, harg5.read_unread, harg6.read_unread, View.ld_unit_zero (S := S1x1x2048x1024) hz4, View.ld_unit_zero (S := S1x512x1024) hz3, View.ld_unit_zero (S := S512x2048) hz2]
  try rfl

theorem last_point (hc0 : ¬cond0_0 i) (hc1 : ¬cond0_1 i) (hc2 : cond0_2 i)
    (x0 : Vec F S1x512x1024 .bf16) (x1 : Vec F S1x1x2048x1024 .bf16) (xs0 : Vec F S512x2048 .f32) : out0_C_2 c i arg3 harg3 arg4 harg4 arg5 harg5 arg6 harg6 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S1x512x1024) _ hz3, View.readCov_unit_zero (S := S512x2048) _ hz2, View.readAt_eq_ld, harg3.read_unread, harg4.read_unread, harg5.read_unread, harg6.read_unread, View.ld_unit_zero (S := S1x1x2048x1024) hz4, View.ld_unit_zero (S := S1x512x1024) hz3, View.ld_unit_zero (S := S512x2048) hz2]
  try rfl

end Points

end Body

theorem first_value (x0 : Vec Ideal S1x512x1024 .bf16) (x1 : Vec Ideal S1x1x2048x1024 .bf16) (a : Fin 512) (b : Fin 2048) :
    k0_pay2 (F := Ideal) x1 x0 (ix2 a b) = ∑ k : Fin 1024, x0 (ix3 0 a k) * x1 (ix4 0 0 b k) := by
  unfold_payloads
  pointwise
  try simp only [zero_add]

theorem middle_value (x0 : Vec Ideal S1x512x1024 .bf16) (x1 : Vec Ideal S1x1x2048x1024 .bf16) (s : FVec Ideal S512x2048 .f32) (a : Fin 512) (b : Fin 2048) :
    k0_pay3 (F := Ideal) x1 x0 s (ix2 a b) = s (ix2 a b) + ∑ k : Fin 1024, x0 (ix3 0 a k) * x1 (ix4 0 0 b k) := by
  unfold_payloads
  pointwise
  try simp only [zero_add]

theorem last_value (x0 : Vec Ideal S1x512x1024 .bf16) (x1 : Vec Ideal S1x1x2048x1024 .bf16) (s : FVec Ideal S512x2048 .f32) (a : Fin 512) (b : Fin 2048) :
    k0_pay4 (F := Ideal) x1 x0 s (ix2 a b) = s (ix2 a b) + ∑ k : Fin 1024, x0 (ix3 0 a k) * x1 (ix4 0 0 b k) := by
  unfold_payloads
  pointwise
  try simp only [zero_add]

variable (m : (ℓ : Loc nD τ sig) → Buf (Elt Ideal) ℓ) (c : Dev nD) (t : Fin cfg0.N)

theorem lt_N (t : Fin cfg0.N) : t.val < 64 := lt_of_lt_of_eq t.isLt (show cfg0.N = 64 from N_0)

abbrev Dproj (c : Dev nD) : S4x4096x2048.Idx → EReal := m ((c : Thread nD τ).loc main_arg0)
abbrev Wi (c : Dev nD) : S4x1x2048x2048.Idx → EReal := V m c main_v3

abbrev X0 : FVec Ideal S1x512x1024 .bf16 := iblk m c 0 t
abbrev X1 : FVec Ideal S1x1x2048x1024 .bf16 := iblk m c 1 t

theorem at0 : ∀ t : Fin grid0.N, win0_0.index t 0 = t.val % 8 / 2 ∧ win0_0.index t 1 = t.val / 8 ∧ win0_0.index t 2 = t.val % 2 := by decide +kernel

theorem at1 : ∀ t : Fin grid0.N, win0_1.index t 0 = t.val % 8 / 2 ∧ win0_1.index t 1 = 0 ∧ win0_1.index t 2 = 0 ∧ win0_1.index t 3 = t.val % 2 := by decide +kernel

theorem at2 : ∀ t : Fin grid0.N, win0_2.index t 0 = t.val / 8 ∧ win0_2.index t 1 = 0 := by decide +kernel

theorem read0 (a : Fin 512) (b : Fin 2048) (k : Fin 1024) :
    X0 m c t (ix3 0 a k) = Dproj m c (ix3 (⟨t.val % 8 / 2, by omega⟩) (⟨t.val / 8 % 8 * 512 + a.val, by omega⟩) (⟨t.val % 8 % 2 * 1024 + k.val, by omega⟩)) := by
  have hi := at0 t
  have hN := lt_N t
  unfold X0 iblk
  rw [View.read_apply]
  show V m c main_arg0 _ = _
  rw [V_main_arg0]
  unfold Dproj
  have e : ((cfg0.win 0).blk t).view.emb (ix3 0 a k : S1x512x1024.Idx) = (ix3 (⟨t.val % 8 / 2, by omega⟩) (⟨t.val / 8 % 8 * 512 + a.val, by omega⟩) (⟨t.val % 8 % 2 * 1024 + k.val, by omega⟩) : S4x4096x2048.Idx) := by
    funext d
    apply Fin.ext
    match d with
    | ⟨0, _⟩ => show win0_0.index t 0 * 1 + 1 * 0 = t.val % 8 / 2; rw [hi.1] <;> omega
    | ⟨1, _⟩ => show win0_0.index t 1 * 512 + 1 * a.val = t.val / 8 % 8 * 512 + a.val; rw [hi.2.1] <;> omega
    | ⟨2, _⟩ => show win0_0.index t 2 * 1024 + 1 * k.val = t.val % 8 % 2 * 1024 + k.val; rw [hi.2.2] <;> omega
  exact congrArg _ e

theorem read1 (a : Fin 512) (b : Fin 2048) (k : Fin 1024) :
    X1 m c t (ix4 0 0 b k) = Wi m c (ix4 (⟨t.val % 8 / 2, by omega⟩) (⟨0, by omega⟩) (⟨b.val, by omega⟩) (⟨t.val % 8 % 2 * 1024 + k.val, by omega⟩)) := by
  have hi := at1 t
  have hN := lt_N t
  unfold X1 iblk
  rw [View.read_apply]
  show V m c main_v3 _ = _
  show V m c main_v3 _ = V m c main_v3 _
  have e : ((cfg0.win 1).blk t).view.emb (ix4 0 0 b k : S1x1x2048x1024.Idx) = (ix4 (⟨t.val % 8 / 2, by omega⟩) (⟨0, by omega⟩) (⟨b.val, by omega⟩) (⟨t.val % 8 % 2 * 1024 + k.val, by omega⟩) : S4x1x2048x2048.Idx) := by
    funext d
    apply Fin.ext
    match d with
    | ⟨0, _⟩ => show win0_1.index t 0 * 1 + 1 * 0 = t.val % 8 / 2; rw [hi.1] <;> omega
    | ⟨1, _⟩ => show win0_1.index t 1 * 1 + 1 * 0 = 0; rw [hi.2.1] <;> omega
    | ⟨2, _⟩ => show win0_1.index t 2 * 2048 + 1 * b.val = b.val; rw [hi.2.2.1] <;> omega
    | ⟨3, _⟩ => show win0_1.index t 3 * 1024 + 1 * k.val = t.val % 8 % 2 * 1024 + k.val; rw [hi.2.2.2] <;> omega
  exact congrArg _ e

/-- The `i`-th block of the summed axis in the product of the output's `q`-th block. -/
def piece (c : Dev nD) (q i : Nat) (a : Fin 512) (b : Fin 2048) : EReal :=
  ∑ k : Fin 1024, Dproj m c (ix3 (⟨i % 8 / 2, by omega⟩) (⟨q % 8 * 512 + a.val, by omega⟩) (⟨i % 8 % 2 * 1024 + k.val, by omega⟩)) * Wi m c (ix4 (⟨i % 8 / 2, by omega⟩) (⟨0, by omega⟩) (⟨b.val, by omega⟩) (⟨i % 8 % 2 * 1024 + k.val, by omega⟩))

theorem piece_at (a : Fin 512) (b : Fin 2048) :
    (∑ k : Fin 1024, X0 m c t (ix3 0 a k) * X1 m c t (ix4 0 0 b k)) = piece m c (t.val / 8) (t.val % 8) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 8 / 2 = (t.val % 8) % 8 / 2; omega
    | ⟨1, _⟩ => show t.val / 8 % 8 * 512 + a.val = (t.val / 8) % 8 * 512 + a.val; omega
    | ⟨2, _⟩ => show t.val % 8 % 2 * 1024 + k.val = (t.val % 8) % 8 % 2 * 1024 + k.val; omega
  · funext d
    apply Fin.ext
    match d with
    | ⟨0, _⟩ => show t.val % 8 / 2 = (t.val % 8) % 8 / 2; omega
    | ⟨1, _⟩ => show 0 = 0; omega
    | ⟨2, _⟩ => show b.val = b.val; omega
    | ⟨3, _⟩ => show t.val % 8 % 2 * 1024 + k.val = (t.val % 8) % 8 % 2 * 1024 + k.val; omega

theorem acc_first (h : t.val % 8 = 0) (a : Fin 512) (b : Fin 2048) :
    (outsAt0 m c t.val t.isLt).2 (ix2 a b) = piece m c (t.val / 8) (t.val % 8) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 8 ≠ 0) (h' : t.val % 8 ≠ 7) (a : Fin 512) (b : Fin 2048) :
    (outsAt0 m c t.val t.isLt).2 (ix2 a b) = (outsAt0 m c (t.val - 1) (Nat.lt_of_le_of_lt (Nat.sub_le _ _) t.isLt)).2 (ix2 a b) + piece m c (t.val / 8) (t.val % 8) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 8 = 7) (a : Fin 512) (b : Fin 2048) :
    (outsAt0 m c t.val t.isLt).1 (ix2 a b) = (outsAt0 m c (t.val - 1) (Nat.lt_of_le_of_lt (Nat.sub_le _ _) t.isLt)).2 (ix2 a b) + piece m c (t.val / 8) (t.val % 8) a b := by
  rw [outsAt0_C m c t (by omega) (by omega) h]
  dsimp only
  refine (congrFun (last_point (F := Ideal) _ _ _ _ _ _ _ _ _ _ _ _ _ _ _ _) (ix2 a b)).trans ?_
  exact (last_value _ _ _ a b).trans (congrArg (_ + ·) (piece_at m c t a b))

theorem acc_apply (c : Dev nD) (a : Fin 512) (b : Fin 2048) : ∀ (n : Nat) (h : n < cfg0.N), n % 8 ≠ 7 →
    (outsAt0 m c n h).2 (ix2 a b) = ∑ i ∈ Finset.range (n % 8 + 1), piece m c (n / 8) i a b := by
  intro n
  induction n with
  | zero => intro h _; exact (acc_first m c ⟨0, h⟩ rfl a b).trans (by simp)
  | succ n ih =>
    intro h hk
    by_cases h0 : (n + 1) % 8 = 0
    · refine (acc_first m c ⟨n + 1, h⟩ h0 a b).trans ?_
      show piece m c ((n + 1) / 8) ((n + 1) % 8) a b = _
      rw [h0]; simp
    · refine (acc_next m c ⟨n + 1, h⟩ h0 hk a b).trans ?_
      have e1 : (n + 1) % 8 = n % 8 + 1 := by omega
      have e2 : (n + 1) / 8 = n / 8 := by omega
      show (outsAt0 m c n _).2 (ix2 a b) + piece m c ((n + 1) / 8) ((n + 1) % 8) a b = _
      rw [ih _ (by omega), e1, e2, Finset.sum_range_succ _ (n % 8 + 1)]

/-- What the last point of a run writes: all 8 blocks. -/
theorem out_apply (h : t.val % 8 = 7) (a : Fin 512) (b : Fin 2048) :
    (outsAt0 m c t.val t.isLt).1 (ix2 a b) = ∑ i : Fin 8, piece m c (t.val / 8) i.val a b := by
  refine (out_last m c t h a b).trans ?_
  rw [acc_apply m c a b (t.val - 1) _ (by omega), show (t.val - 1) % 8 + 1 = 7 by omega, show (t.val - 1) / 8 = t.val / 8 by omega, h,
    ← Finset.sum_range_succ, Finset.sum_range]

/-- The whole product. -/
def res (x : S4x4096x2048.Idx → EReal) (y : S4x1x2048x2048.Idx → EReal) : S4096x2048.Idx → EReal :=
  fun i => ∑ k : Fin 8192, x (ix3 (⟨k.val / 2048, by omega⟩) (i 0) (⟨k.val % 2048, by omega⟩)) * y (ix4 (⟨k.val / 2048, by omega⟩) (0) (i 1) (⟨k.val % 2048, by omega⟩))

theorem out_res (h : t.val % 8 = 7) (a : Fin 512) (b : Fin 2048) :
    (outsAt0 m c t.val t.isLt).1 (ix2 a b) = res (Dproj m c) (Wi m c) (((cfg0.win 2).blk t).view.emb (ix2 a b : S512x2048.Idx)) := by
  have hi := at2 t
  have hN := lt_N t
  rw [out_apply m c t h a b]
  unfold res
  rw [Fin.sum_univ_tiles 8 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 8 / 2 = (i.val * 1024 + k.val) / 2048; omega
    | ⟨1, _⟩ => show (t.val / 8) % 8 * 512 + a.val = win0_2.index t 0 * 512 + 1 * a.val; rw [hi.1] <;> omega
    | ⟨2, _⟩ => show i.val % 8 % 2 * 1024 + k.val = (i.val * 1024 + k.val) % 2048; omega
  · funext d
    apply Fin.ext
    match d with
    | ⟨0, _⟩ => show i.val % 8 / 2 = (i.val * 1024 + k.val) / 2048; omega
    | ⟨1, _⟩ => show 0 = 0; omega
    | ⟨2, _⟩ => show b.val = win0_2.index t 1 * 2048 + 1 * b.val; rw [hi.2] <;> omega
    | ⟨3, _⟩ => show i.val % 8 % 2 * 1024 + k.val = (i.val * 1024 + k.val) % 2048; omega

theorem flushed_eq (c : Dev nD) : ∀ t : Fin cfg0.N, (cfg0.win 2).flush t = true →
    (dats m 0 c).flushed 2 t = ((cfg0.win 2).blk t).view.read (Elt Ideal) (res (Dproj m c) (Wi m c)) := by
  intro t hf
  have ht := (flush0_2 t).mp hf
  show (cfg0.win 2).cut (grid0.coords t) ((dats m 0 c).after 2 t) = _
  rw [after0_2]
  funext i
  rw [View.read_apply]
  obtain ⟨a, b, rfl⟩ : ∃ (a : Fin 512) (b : Fin 2048), i = ix2 a b := ⟨i 0, i 1, by funext x; fin_cases x <;> first | rfl | exact Subsingleton.elim _ _⟩
  skip
  show (outsAt0 m c t.val t.isLt).1 (ix2 a b) = _
  exact out_res m c t (by omega) a b

theorem final (c : Dev nD) : (dats m 0 c).arrAt 2 cfg0.N = res (Dproj m c) (Wi m c) :=
  (dats m 0 c).arrAt_eq_of_cover 2 _ (flushed_eq m c) fun i => by
    have h0 : (i 0 : Nat) < 4096 := (i 0).isLt
    have h1 : (i 1 : Nat) < 2048 := (i 1).isLt
    let t : Fin cfg0.N := ⟨(i 0 : Nat) / 512 * 8 + 7, by show _ < grid0.N; rw [Gen.N_0]; omega⟩
    have hi := at2 t
    have ht : t.val = (i 0 : Nat) / 512 * 8 + 7 := rfl
    refine ⟨t, (flush0_2 t).mpr (by omega), ?_⟩
    show i ∈ ((View.whole main_v4).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.HgInDxIdeal.Meaning

end
-- ==== Proof.HgInDxClaims.lean ====
module

public import proofs.«01_k».proof.Defs
public import proofs.«01_k».proof.Proof.Gen.HgInDx.Frame
public import proofs.«01_k».proof.Proof.Gen.HgInDxRefIdeal.Run
public import proofs.«01_k».proof.Proof.Gen.HgInDxRefIdeal.Read
public import proofs.«01_k».proof.Proof.HgInDxValue

@[expose] public section

set_option maxRecDepth 16384

noncomputable section

/-! The claims of `hg_in_dx`: the frames of the programs, and that both end with the same product. -/

namespace Cert.HgInDxIdeal.Meaning

open HgInDxIdeal HgInDxIdeal.Gen Idealize.ShloMosaic TcCoe Idealize.SL.Sem

theorem frame_ref : quiescent_HgInDxRefIdeal (hHgInDxRefIdeal := HgInDxRefIdeal.Gen.facts) :=
  fun m ρ _ => (θ_run HgInDxRefIdeal.defs _ _).mono
    (fun r h => ⟨fun c => (h c).2, sem_eq_zero_of_no_sems (by decide) r.2⟩) (HgInDxRefIdeal.Value.run m ρ)

/-- The gathered weight: column `k` of block `b` is column `2048 b + k` of the weight. -/
def gath (w : S2048x8192.Idx → EReal) : S4x1x2048x2048.Idx → EReal := fun i =>
  w (ix2 (i 2) ⟨(i 0 : Nat) * 2048 + (i 3 : Nat), by have h0 : (i 0 : Nat) < 4 := (i 0).isLt; have h2 : (i 3 : Nat) < 2048 := (i 3).isLt; omega⟩)

theorem Wi_eq (m : (ℓ : Loc nD τ sig) → Buf (Elt Ideal) ℓ) (c : Dev nD) : Wi m c = gath (m ((c : Thread nD τ).loc main_arg1)) := by
  unfold Wi V hostOps0
  after_results
  funext i
  obtain ⟨p, q, r, s, rfl⟩ : ∃ (p : Fin 4) (q : Fin 1) (r s : Fin 2048), i = ix4 p q r s := ⟨i 0, i 1, i 2, i 3, by funext x; fin_cases x <;> rfl⟩
  unfold gath
  pointwise

open HgInDxRefIdeal.Read in
theorem joined (y : FVec Ideal S4x4096x2048 .bf16) (k : Fin 4096) (p : Fin 4) (j : Fin 2048) :
    val_main_v20 (F := Ideal) y (ix2 k ⟨p.val * 2048 + j.val, by omega⟩) = y (ix3 p k j) := by
  fin_cases p
  · pointwise [val_main_v20, val_main_v19, val_main_v18, val_main_v17, val_main_v16, val_main_v15, val_main_v14, val_main_v13, val_main_v12, val_main_v11]
  · pointwise [val_main_v20, val_main_v19, val_main_v18, val_main_v17, val_main_v16, val_main_v15, val_main_v14, val_main_v13, val_main_v12, val_main_v11]
  · pointwise [val_main_v20, val_main_v19, val_main_v18, val_main_v17, val_main_v16, val_main_v15, val_main_v14, val_main_v13, val_main_v12, val_main_v11]
    rw [dif_neg (by omega), dif_neg (by omega), dif_pos (by omega)]
    exact congrArg (fun z => y (ix3 2 k z)) (Fin.ext (by show 4096 + j.val - 2048 - 2048 = j.val; omega))
  · pointwise [val_main_v20, val_main_v19, val_main_v18, val_main_v17, val_main_v16, val_main_v15, val_main_v14, val_main_v13, val_main_v12, val_main_v11]
    rw [dif_neg (by omega), dif_neg (by omega), dif_neg (by omega)]
    exact congrArg (fun z => y (ix3 3 k z)) (Fin.ext (by show 6144 + j.val - 2048 - 2048 - 2048 = j.val; omega))

theorem ref_0 (x : FVec Ideal S4x4096x2048 .bf16) (w : FVec Ideal S2048x8192 .f32) : HgInDxRefIdeal.Read.val_main_v21 (F := Ideal) x w = res x (gath w) := by
  funext i
  obtain ⟨p, q, rfl⟩ : ∃ (p : Fin 4096) (q : Fin 2048), i = ix2 p q := ⟨i 0, i 1, by funext x; fin_cases x <;> rfl⟩
  unfold res gath
  open HgInDxRefIdeal.Read in
  pointwise [val_main_v21]
  refine Finset.sum_congr rfl fun k _ => ?_
  have e : k = ⟨(⟨k.val / 2048, by omega⟩ : Fin 4).val * 2048 + (⟨k.val % 2048, by omega⟩ : Fin 2048).val, by show k.val / 2048 * 2048 + k.val % 2048 < 8192; omega⟩ := Fin.ext (by show k.val = k.val / 2048 * 2048 + k.val % 2048; omega)
  refine congrArg₂ (· * ·) ?_ (congrArg w ?_)
  · exact (congrArg (fun z => HgInDxRefIdeal.Read.val_main_v20 (F := Ideal) x (ix2 p z)) e).trans (joined x p _ _)
  · exact congrArg (ix2 q) e

theorem algebraic : algebraic_HgInDxIdeal_HgInDxRefIdeal (hHgInDxIdeal := HgInDxIdeal.Gen.facts) (hHgInDxRefIdeal := HgInDxRefIdeal.Gen.facts) := by
  intro m g m' g' _ hargs
  refine ⟨fun c => res (Dproj m c) (gath (m ((c : Thread nD τ).loc main_arg1))), ?_, ?_⟩
  · exact (θ_run HgInDxIdeal.defs _ _).mono (fun r h c => ⟨(h c).1.trans ((final m c).trans (congrArg _ (Wi_eq m c))), (h c).2⟩) (HgInDxIdeal.Value.run_blocks m g)
  · refine (θ_run HgInDxRefIdeal.defs _ _).mono (fun r h c => ?_) (HgInDxRefIdeal.Value.run m' g')
    obtain ⟨a0, a1⟩ := hargs c
    obtain ⟨e0, k⟩ := h c
    refine ⟨e0.trans ?_, k⟩
    · refine (HgInDxRefIdeal.Read.val_main_v21_eq _ _).trans ?_
      rw [a0, a1]
      exact ref_0 _ _

end Cert.HgInDxIdeal.Meaning

end
-- ==== Proof.HgInDwValue.lean ====
module

public import proofs.«01_k».proof.Proof.Gen.HgInDwIdeal.Value
public import proofs.«01_k».proof.Proof.Common

@[expose] public section

set_option maxRecDepth 16384
set_option maxHeartbeats 1000000

noncomputable section

/-! The blocks of the product accumulate over the 4 blocks of the summed axis; the last one is written out. -/

namespace Cert.HgInDwIdeal.Meaning

open HgInDwIdeal HgInDwIdeal.Gen Idealize.ShloMosaic TcCoe Idealize.SL.Sem

section Body

variable {F : FTy → Type} [FloatOps F]

section Points

variable (c : Dev nD) (i : grid0.Coords) (arg3 : Memref sig .tc .vmem S1024x1024 .bf16) (harg3 : arg3.IsWhole) (arg4 : Memref sig .tc .vmem S1x1024x1024 .bf16) (harg4 : arg4.IsWhole) (arg6 : Memref sig .tc .vmem S1x1x1024x1024 .bf16) (harg6 : arg6.IsWhole) (arg7 : Memref sig .tc .vmem S1024x1024 .f32) (harg7 : arg7.IsWhole)

theorem first_point (hc0 : cond0_0 i) (hc1 : ¬cond0_1 i) (hc2 : ¬cond0_2 i)
    (x0 : Vec F S1024x1024 .bf16) (x1 : Vec F S1x1024x1024 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S1024x1024) hz2]
  try rw [View.canon_unit_zero (S := S1024x1024) hz2]
  simp only [View.readCov_unit_zero (S := S1024x1024) _ hz2, View.readCov_unit_zero (S := S1x1024x1024) _ hz3, View.readCov_unit_zero (S := S1x1x1024x1024) _ hz4, View.readAt_eq_ld, harg3.read_unread, harg4.read_unread, harg6.read_unread, harg7.read_unread, View.ld_unit_zero (S := S1024x1024) hz2, View.ld_unit_zero (S := S1x1024x1024) hz3, View.ld_unit_zero (S := S1x1x1024x1024) hz4]
  try rfl

theorem middle_point (hc0 : ¬cond0_0 i) (hc1 : cond0_1 i) (hc2 : ¬cond0_2 i)
    (x0 : Vec F S1024x1024 .bf16) (x1 : Vec F S1x1024x1024 .bf16) (xs0 : Vec F S1024x1024 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S1024x1024) hz2]
  try rw [View.canon_unit_zero (S := S1024x1024) hz2]
  simp only [View.readCov_unit_zero (S := S1024x1024) _ hz2, View.readCov_unit_zero (S := S1x1024x1024) _ hz3, View.readCov_unit_zero (S := S1x1x1024x1024) _ hz4, View.readAt_eq_ld, harg3.read_unread, harg4.read_unread, harg6.read_unread, harg7.read_unread, View.ld_unit_zero (S := S1024x1024) hz2, View.ld_unit_zero (S := S1x1024x1024) hz3, View.ld_unit_zero (S := S1x1x1024x1024) hz4]
  try rfl

theorem last_point (hc0 : ¬cond0_0 i) (hc1 : ¬cond0_1 i) (hc2 : cond0_2 i)
    (x0 : Vec F S1024x1024 .bf16) (x1 : Vec F S1x1024x1024 .bf16) (xs0 : Vec F S1024x1024 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S1x1x1024x1024) hz4]
  try rw [View.canon_unit_zero (S := S1x1x1024x1024) hz4]
  simp only [View.readCov_unit_zero (S := S1024x1024) _ hz2, View.readCov_unit_zero (S := S1x1024x1024) _ hz3, View.readCov_unit_zero (S := S1x1x1024x1024) _ hz4, View.readAt_eq_ld, harg3.read_unread, harg4.read_unread, harg6.read_unread, harg7.read_unread, View.ld_unit_zero (S := S1024x1024) hz2, View.ld_unit_zero (S := S1x1024x1024) hz3, View.ld_unit_zero (S := S1x1x1024x1024) hz4]
  try rfl

end Points

end Body

theorem first_value (x0 : Vec Ideal S1024x1024 .bf16) (x1 : Vec Ideal S1x1024x1024 .bf16) (a b : Fin 1024) :
    k0_pay2 (F := Ideal) x1 x0 (ix2 a b) = ∑ k : Fin 1024, x0 (ix2 k a) * x1 (ix3 0 k b) := by
  unfold_payloads
  pointwise
  try simp only [zero_add]

theorem middle_value (x0 : Vec Ideal S1024x1024 .bf16) (x1 : Vec Ideal S1x1024x1024 .bf16) (s : FVec Ideal S1024x1024 .f32) (a b : Fin 1024) :
    k0_pay3 (F := Ideal) x1 x0 s (ix2 a b) = s (ix2 a b) + ∑ k : Fin 1024, x0 (ix2 k a) * x1 (ix3 0 k b) := by
  unfold_payloads
  pointwise
  try simp only [zero_add]

theorem last_value (x0 : Vec Ideal S1024x1024 .bf16) (x1 : Vec Ideal S1x1024x1024 .bf16) (s : FVec Ideal S1024x1024 .f32) (a b : Fin 1024) :
    k0_pay4 (F := Ideal) x1 x0 s (ix4 0 0 a b) = s (ix2 a b) + ∑ k : Fin 1024, x0 (ix2 k a) * x1 (ix3 0 k b) := by
  unfold_payloads
  pointwise
  try simp only [zero_add]

variable (m : (ℓ : Loc nD τ sig) → Buf (Elt Ideal) ℓ) (c : Dev nD) (t : Fin cfg0.N)

theorem lt_N (t : Fin cfg0.N) : t.val < 64 := lt_of_lt_of_eq t.isLt (show cfg0.N = 64 from N_0)

abbrev Act (c : Dev nD) : S4096x2048.Idx → EReal := m ((c : Thread nD τ).loc main_arg0)
abbrev Dproj (c : Dev nD) : S4x4096x2048.Idx → EReal := m ((c : Thread nD τ).loc main_arg1)

abbrev X0 : FVec Ideal S1024x1024 .bf16 := iblk m c 0 t
abbrev X1 : FVec Ideal S1x1024x1024 .bf16 := iblk m c 1 t

theorem at0 : ∀ t : Fin grid0.N, win0_0.index t 0 = t.val % 4 ∧ win0_0.index t 1 = t.val / 32 := by decide +kernel

theorem at1 : ∀ t : Fin grid0.N, win0_1.index t 0 = t.val / 8 % 4 ∧ win0_1.index t 1 = t.val % 4 ∧ win0_1.index t 2 = t.val / 4 % 2 := by decide +kernel

theorem at2 : ∀ t : Fin grid0.N, win0_2.index t 0 = t.val / 8 % 4 ∧ win0_2.index t 1 = 0 ∧ win0_2.index t 2 = t.val / 32 ∧ win0_2.index t 3 = t.val / 4 % 2 := by decide +kernel

theorem read0 (a b k : Fin 1024) :
    X0 m c t (ix2 k a) = Act m c (ix2 (⟨t.val % 4 * 1024 + k.val, by omega⟩) (⟨t.val / 32 % 2 * 1024 + a.val, by omega⟩)) := by
  have hi := at0 t
  have hN := lt_N t
  unfold X0 iblk
  rw [View.read_apply]
  show V m c main_arg0 _ = _
  rw [V_main_arg0]
  unfold Act
  have e : ((cfg0.win 0).blk t).view.emb (ix2 k a : S1024x1024.Idx) = (ix2 (⟨t.val % 4 * 1024 + k.val, by omega⟩) (⟨t.val / 32 % 2 * 1024 + a.val, by omega⟩) : S4096x2048.Idx) := by
    funext d
    apply Fin.ext
    match d with
    | ⟨0, _⟩ => show win0_0.index t 0 * 1024 + 1 * k.val = t.val % 4 * 1024 + k.val; rw [hi.1]; omega
    | ⟨1, _⟩ => show win0_0.index t 1 * 1024 + 1 * a.val = t.val / 32 % 2 * 1024 + a.val; rw [hi.2]; omega
  exact congrArg _ e

theorem read1 (a b k : Fin 1024) :
    X1 m c t (ix3 0 k b) = Dproj m c (ix3 (⟨t.val / 8 % 4, by omega⟩) (⟨t.val % 4 * 1024 + k.val, by omega⟩) (⟨t.val / 4 % 2 * 1024 + b.val, by omega⟩)) := by
  have hi := at1 t
  have hN := lt_N t
  unfold X1 iblk
  rw [View.read_apply]
  show V m c main_arg1 _ = _
  rw [V_main_arg1]
  unfold Dproj
  have e : ((cfg0.win 1).blk t).view.emb (ix3 0 k b : S1x1024x1024.Idx) = (ix3 (⟨t.val / 8 % 4, by omega⟩) (⟨t.val % 4 * 1024 + k.val, by omega⟩) (⟨t.val / 4 % 2 * 1024 + b.val, by omega⟩) : S4x4096x2048.Idx) := by
    funext d
    apply Fin.ext
    match d with
    | ⟨0, _⟩ => show win0_1.index t 0 * 1 + 1 * 0 = t.val / 8 % 4; rw [hi.1]; omega
    | ⟨1, _⟩ => show win0_1.index t 1 * 1024 + 1 * k.val = t.val % 4 * 1024 + k.val; rw [hi.2.1]; omega
    | ⟨2, _⟩ => show win0_1.index t 2 * 1024 + 1 * b.val = t.val / 4 % 2 * 1024 + b.val; rw [hi.2.2]; omega
  exact congrArg _ e

/-- The `i`-th block of the summed axis in the product of the output's `q`-th block. -/
def piece (c : Dev nD) (q i : Nat) (a b : Fin 1024) : EReal :=
  ∑ k : Fin 1024, Act m c (ix2 (⟨i % 4 * 1024 + k.val, by omega⟩) (⟨q / 8 % 2 * 1024 + a.val, by omega⟩)) * Dproj m c (ix3 (⟨q / 2 % 4, by omega⟩) (⟨i % 4 * 1024 + k.val, by omega⟩) (⟨q % 2 * 1024 + b.val, by omega⟩))

theorem piece_at (a b : Fin 1024) :
    (∑ k : Fin 1024, X0 m c t (ix2 k a) * X1 m c t (ix3 0 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show t.val / 32 % 2 * 1024 + a.val = (t.val / 4) / 8 % 2 * 1024 + a.val; omega
  · funext d
    apply Fin.ext
    match d with
    | ⟨0, _⟩ => show t.val / 8 % 4 = (t.val / 4) / 2 % 4; omega
    | ⟨1, _⟩ => show t.val % 4 * 1024 + k.val = (t.val % 4) % 4 * 1024 + k.val; omega
    | ⟨2, _⟩ => show t.val / 4 % 2 * 1024 + b.val = (t.val / 4) % 2 * 1024 + b.val; omega

theorem acc_first (h : t.val % 4 = 0) (a b : Fin 1024) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a b : Fin 1024) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a b : Fin 1024) :
    (outsAt0 m c t.val t.isLt).1 (ix4 0 0 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 0 0 a b)).trans ?_
  exact (last_value _ _ _ a b).trans (congrArg (_ + ·) (piece_at m c t a b))

theorem acc_apply (c : Dev nD) (a b : Fin 1024) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a b : Fin 1024) :
    (outsAt0 m c t.val t.isLt).1 (ix4 0 0 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x2048.Idx → EReal) (y : S4x4096x2048.Idx → EReal) : S4x1x2048x2048.Idx → EReal :=
  fun i => ∑ k : Fin 4096, x (ix2 k (i 2)) * y (ix3 (i 0) k (i 3))

theorem out_res (h : t.val % 4 = 3) (a b : Fin 1024) :
    (outsAt0 m c t.val t.isLt).1 (ix4 0 0 a b) = res (Act m c) (Dproj m c) (((cfg0.win 2).blk t).view.emb (ix4 0 0 a b : S1x1x1024x1024.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show (t.val / 4) / 8 % 2 * 1024 + a.val = win0_2.index t 2 * 1024 + 1 * a.val; rw [hi.2.2.1]; omega
  · funext d
    apply Fin.ext
    match d with
    | ⟨0, _⟩ => show (t.val / 4) / 2 % 4 = win0_2.index t 0 * 1 + 1 * 0; rw [hi.1]; omega
    | ⟨1, _⟩ => show i.val % 4 * 1024 + k.val = i.val * 1024 + k.val; omega
    | ⟨2, _⟩ => show (t.val / 4) % 2 * 1024 + b.val = win0_2.index t 3 * 1024 + 1 * b.val; rw [hi.2.2.2]; omega

theorem flushed_eq (c : Dev nD) : ∀ t : Fin cfg0.N, (cfg0.win 2).flush t = true →
    (dats m 0 c).flushed 2 t = ((cfg0.win 2).blk t).view.read (Elt Ideal) (res (Act m c) (Dproj m c)) := by
  intro t hf
  have ht := (flush0_2 t).mp hf
  show (cfg0.win 2).cut (grid0.coords t) ((dats m 0 c).after 2 t) = _
  rw [after0_2]
  funext i
  rw [View.read_apply]
  obtain ⟨u, v, a, b, rfl⟩ : ∃ (u v : Fin 1) (a b : Fin 1024), i = ix4 u v a b := ⟨i 0, i 1, i 2, i 3, by funext x; fin_cases x <;> first | rfl | exact Subsingleton.elim _ _⟩
  obtain rfl : u = 0 := Subsingleton.elim _ _; obtain rfl : v = 0 := Subsingleton.elim _ _
  show (outsAt0 m c t.val t.isLt).1 (ix4 0 0 a b) = _
  exact out_res m c t (by omega) a b

theorem final (c : Dev nD) : (dats m 0 c).arrAt 2 cfg0.N = res (Act m c) (Dproj m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 2048 := (i 2).isLt
    have h3 : (i 3 : Nat) < 2048 := (i 3).isLt
    let t : Fin cfg0.N := ⟨(i 2 : Nat) / 1024 * 32 + (i 0 : Nat) * 8 + (i 3 : Nat) / 1024 * 4 + 3, by show _ < grid0.N; rw [Gen.N_0]; omega⟩
    have hi := at2 t
    have ht : t.val = (i 2 : Nat) / 1024 * 32 + (i 0 : Nat) * 8 + (i 3 : Nat) / 1024 * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 1024 ≤ (i 2 : Nat) ∧ (i 2 : Nat) < win0_2.index t 2 * 1024 + 1024
      rw [hi.2.2.1]; omega
    | ⟨3, _⟩ =>
      show win0_2.index t 3 * 1024 ≤ (i 3 : Nat) ∧ (i 3 : Nat) < win0_2.index t 3 * 1024 + 1024
      rw [hi.2.2.2]; omega

end Cert.HgInDwIdeal.Meaning

end
-- ==== Proof.HgInDwClaims.lean ====
module

public import proofs.«01_k».proof.Defs
public import proofs.«01_k».proof.Proof.Gen.HgInDw.Frame
public import proofs.«01_k».proof.Proof.Gen.HgInDwRefIdeal.Run
public import proofs.«01_k».proof.Proof.Gen.HgInDwRefIdeal.Read
public import proofs.«01_k».proof.Proof.HgInDwValue

@[expose] public section

set_option maxRecDepth 16384

noncomputable section

/-! The claims of `hg_in_dw`: the frames of the programs, and that both end with the same product. -/

namespace Cert.HgInDwIdeal.Meaning

open HgInDwIdeal HgInDwIdeal.Gen Idealize.ShloMosaic TcCoe Idealize.SL.Sem

theorem frame_ref : quiescent_HgInDwRefIdeal (hHgInDwRefIdeal := HgInDwRefIdeal.Gen.facts) :=
  fun m ρ _ => (θ_run HgInDwRefIdeal.defs _ _).mono
    (fun r h => ⟨fun c => (h c).2, sem_eq_zero_of_no_sems (by decide) r.2⟩) (HgInDwRefIdeal.Value.run m ρ)

open HgInDwRefIdeal.Read in
theorem joined (y : FVec Ideal S4x4096x2048 .bf16) (k : Fin 4096) (p : Fin 4) (j : Fin 2048) :
    val_main_v21 (F := Ideal) y (ix2 k ⟨p.val * 2048 + j.val, by omega⟩) = y (ix3 p k j) := by
  fin_cases p
  · pointwise [val_main_v21, val_main_v20, val_main_v19, val_main_v18, val_main_v17, val_main_v16, val_main_v15, val_main_v14, val_main_v13, val_main_v12]
  · pointwise [val_main_v21, val_main_v20, val_main_v19, val_main_v18, val_main_v17, val_main_v16, val_main_v15, val_main_v14, val_main_v13, val_main_v12]
  · pointwise [val_main_v21, val_main_v20, val_main_v19, val_main_v18, val_main_v17, val_main_v16, val_main_v15, val_main_v14, val_main_v13, val_main_v12]
    rw [dif_neg (by omega), dif_neg (by omega), dif_pos (by omega)]
    exact congrArg (fun z => y (ix3 2 k z)) (Fin.ext (by show 4096 + j.val - 2048 - 2048 = j.val; omega))
  · pointwise [val_main_v21, val_main_v20, val_main_v19, val_main_v18, val_main_v17, val_main_v16, val_main_v15, val_main_v14, val_main_v13, val_main_v12]
    rw [dif_neg (by omega), dif_neg (by omega), dif_neg (by omega)]
    exact congrArg (fun z => y (ix3 3 k z)) (Fin.ext (by show 6144 + j.val - 2048 - 2048 - 2048 = j.val; omega))

theorem ref_0 (x : FVec Ideal S4096x2048 .bf16) (y : FVec Ideal S4x4096x2048 .bf16) : HgInDwRefIdeal.Read.val_main_v27 (F := Ideal) x y = res x y := by
  funext i
  obtain ⟨p, q, r, s, rfl⟩ : ∃ (p : Fin 4) (q : Fin 1) (r s : Fin 2048), i = ix4 p q r s := ⟨i 0, i 1, i 2, i 3, by funext x; fin_cases x <;> rfl⟩
  unfold res
  open HgInDwRefIdeal.Read in
  pointwise [val_main_v27, val_main_v26, val_main_v25, val_main_v24, val_main_v23, val_main_v22, val_main_v1]
  refine Finset.sum_congr rfl fun k _ => ?_
  rw [joined]
  exact mul_comm (G := EReal) _ _

theorem algebraic : algebraic_HgInDwIdeal_HgInDwRefIdeal (hHgInDwIdeal := HgInDwIdeal.Gen.facts) (hHgInDwRefIdeal := HgInDwRefIdeal.Gen.facts) := by
  intro m g m' g' _ hargs
  refine ⟨fun c => res (Act m c) (Dproj m c), ?_, ?_⟩
  · exact (θ_run HgInDwIdeal.defs _ _).mono (fun r h c => ⟨(h c).1.trans (final m c), (h c).2⟩) (HgInDwIdeal.Value.run_blocks m g)
  · refine (θ_run HgInDwRefIdeal.defs _ _).mono (fun r h c => ?_) (HgInDwRefIdeal.Value.run m' g')
    obtain ⟨a0, a1, a2⟩ := hargs c
    obtain ⟨e0, k⟩ := h c
    refine ⟨e0.trans ?_, k⟩
    · refine (HgInDwRefIdeal.Read.val_main_v27_eq _ _).trans ?_
      rw [a0, a1]
      exact ref_0 _ _

end Cert.HgInDwIdeal.Meaning

end
-- ==== Proof.GmInValue.lean ====
module

public import proofs.«01_k».proof.Proof.Gen.GmInIdeal.Value
public import proofs.«01_k».proof.Proof.Common

@[expose] public section

set_option maxRecDepth 16384

noncomputable section

/-! Each block of the projection is the product of a block of rows with a block of columns of the weight. -/

namespace Cert.GmInIdeal.Meaning

open GmInIdeal GmInIdeal.Gen Idealize.ShloMosaic TcCoe Idealize.SL.Sem

section Body

variable {F : FTy → Type} [FloatOps F]

theorem body2 (x0 : Vec F S512x2048 .bf16) (x1 : Vec F S1x1x2048x1024 .bf16) : out0_2 x0 x1 = k0_pay1 x1 x0 := by
  unfold out0_2
  rw [View.canon_unit_zero (S := S512x1024) hz2]
  simp only [View.ld_unit_zero (S := S1x1x2048x1024) hz4, View.ld_unit_zero (S := S512x2048) hz2]

end Body

theorem value2 (x0 : Vec Ideal S512x2048 .bf16) (x1 : Vec Ideal S1x1x2048x1024 .bf16) (a : Fin 512) (b : Fin 1024) : (k0_pay1 x1 x0 : FVec Ideal S512x1024 .f32) (ix2 a b) = ∑ k : Fin 2048, x0 (ix2 a k) * x1 (ix4 0 0 k b) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Xa (c : Dev nD) : S4096x2048.Idx → EReal := m ((c : Thread nD τ).loc main_arg0)
abbrev X0 : FVec Ideal S512x2048 .bf16 := iblk m c 0 t
abbrev Wt (c : Dev nD) : S4x1x2048x1024.Idx → EReal := V m c main_v3
abbrev X1 : FVec Ideal S1x1x2048x1024 .bf16 := iblk m c 1 t

theorem at0 : ∀ t : Fin grid0.N, win0_0.index t 0 = t.val / 4 ∧ win0_0.index t 1 = 0 := by decide +kernel

theorem at1 : ∀ t : Fin grid0.N, win0_1.index t 0 = t.val % 4 ∧ win0_1.index t 1 = 0 ∧ win0_1.index t 2 = 0 ∧ win0_1.index t 3 = 0 := by decide +kernel

theorem at2 : ∀ t : Fin grid0.N, win0_2.index t 0 = t.val / 4 ∧ win0_2.index t 1 = t.val % 4 := by decide +kernel

theorem read0 (a : Fin 512) (b : Fin 1024) (k : Fin 2048) :
    X0 m c t (ix2 a k) = Xa m c (ix2 (⟨t.val / 4 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val / 4 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 4 * 512 + a.val; rw [hi.1] <;> omega
    | ⟨1, _⟩ => show win0_0.index t 1 * 2048 + 1 * k.val = k.val; rw [hi.2] <;> omega
  exact congrArg _ e

theorem read1 (a : Fin 512) (b : Fin 1024) (k : Fin 2048) :
    X1 m c t (ix4 0 0 k b) = Wt m c (ix4 (⟨t.val % 4, by have := lt_N t; omega⟩) (⟨0, by have := lt_N t; omega⟩) (⟨k.val, by have := lt_N t; omega⟩) (⟨b.val, by have := lt_N t; omega⟩)) := by
  have hi := at1 t
  have hN := lt_N t
  unfold X1 iblk
  rw [View.read_apply]
  show V m c main_v3 _ = _
  show V m c main_v3 _ = V m c main_v3 _
  have e : ((cfg0.win 1).blk t).view.emb (ix4 0 0 k b : S1x1x2048x1024.Idx) = (ix4 (⟨t.val % 4, by have := lt_N t; omega⟩) (⟨0, by have := lt_N t; omega⟩) (⟨k.val, by have := lt_N t; omega⟩) (⟨b.val, by have := lt_N t; omega⟩) : S4x1x2048x1024.Idx) := by
    funext d
    apply Fin.ext
    match d with
    | ⟨0, _⟩ => show win0_1.index t 0 * 1 + 1 * 0 = t.val % 4; rw [hi.1] <;> omega
    | ⟨1, _⟩ => show win0_1.index t 1 * 1 + 1 * 0 = 0; rw [hi.2.1] <;> omega
    | ⟨2, _⟩ => show win0_1.index t 2 * 2048 + 1 * k.val = k.val; rw [hi.2.2.1] <;> omega
    | ⟨3, _⟩ => show win0_1.index t 3 * 1024 + 1 * b.val = b.val; rw [hi.2.2.2] <;> omega
  exact congrArg _ e

/-- The product with the weight, whose columns lie in four blocks. -/
def res (x : S4096x2048.Idx → EReal) (y : S4x1x2048x1024.Idx → EReal) : S4096x4096.Idx → EReal :=
  fun i => ∑ k : Fin 2048, x (ix2 (i 0) k) * y (ix4 ⟨(i 1 : Nat) / 1024, by have h : (i 1 : Nat) < 4096 := (i 1).isLt; omega⟩ 0 k ⟨(i 1 : Nat) % 1024, by omega⟩)

theorem emb2 (t : Fin cfg0.N) (a : Fin 512) (b : Fin 1024) :
    ((cfg0.win 2).blk t).view.emb (ix2 a b : S512x1024.Idx) = (ix2 (⟨t.val / 4 * 512 + a.val, by have := lt_N t; omega⟩) (⟨t.val % 4 * 1024 + b.val, by have := lt_N t; omega⟩) : S4096x4096.Idx) := by
  have hi := at2 t
  have hN := lt_N t
  funext d
  apply Fin.ext
  match d with
  | ⟨0, _⟩ => show win0_2.index t 0 * 512 + 1 * a.val = t.val / 4 * 512 + a.val; rw [hi.1] <;> omega
  | ⟨1, _⟩ => show win0_2.index t 1 * 1024 + 1 * b.val = t.val % 4 * 1024 + b.val; rw [hi.2] <;> omega

theorem flushed2_eq (hf : (cfg0.win 2).flush t = true) :
    (dats m 0 c).flushed 2 t = ((cfg0.win 2).blk t).view.read (Elt Ideal) (res (Xa m c) (Wt m c)) := by
  show (cfg0.win 2).cut (grid0.coords t) ((dats m 0 c).after 2 t) = _
  rw [after0_2, body2]
  funext i
  rw [View.read_apply]
  obtain ⟨a, b, rfl⟩ : ∃ (a : Fin 512) (b : Fin 1024), i = ix2 a b := ⟨i 0, i 1, by funext x; fin_cases x <;> rfl⟩
  refine (value2 (X0 m c t) (X1 m c t) a  b).trans ?_
  refine Eq.trans ?_ (congrArg (res (Xa m c) (Wt m c)) (emb2 t a  b)).symm
  have hN := lt_N t
  refine Finset.sum_congr rfl fun k _ => ?_
  have e0 := read0 m c t a b k
  have e1 := read1 m c t a b k
  rw [e0, e1]
  refine congrArg₂ (· * ·) rfl (congrArg _ ?_)
  funext d
  apply Fin.ext
  match d with
  | ⟨0, _⟩ => show t.val % 4 = (t.val % 4 * 1024 + b.val) / 1024; omega
  | ⟨1, _⟩ => rfl
  | ⟨2, _⟩ => rfl
  | ⟨3, _⟩ => show b.val = (t.val % 4 * 1024 + b.val) % 1024; omega

theorem final2 (c : Dev nD) : (dats m 0 c).arrAt 2 cfg0.N = res (Xa m c) (Wt m c) :=
  (dats m 0 c).arrAt_eq_of_cover 2 _ (flushed2_eq m c) fun i => by
    have h0 : (i 0 : Nat) < 4096 := (i 0).isLt
    have h1 : (i 1 : Nat) < 4096 := (i 1).isLt
    let t : Fin cfg0.N := ⟨(i 0 : Nat) / 512 * 4 + (i 1 : Nat) / 1024, by show _ < grid0.N; rw [Gen.N_0]; omega⟩
    have hi := at2 t
    have ht : t.val = (i 0 : Nat) / 512 * 4 + (i 1 : Nat) / 1024 := rfl
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 1024 ≤ (i 1 : Nat) ∧ (i 1 : Nat) < win0_2.index t 1 * 1024 + 1024
      rw [hi.2]; omega

end Cert.GmInIdeal.Meaning

end
-- ==== Proof.GmInClaims.lean ====
module

public import proofs.«01_k».proof.Defs
public import proofs.«01_k».proof.Proof.Gen.GmIn.Frame
public import proofs.«01_k».proof.Proof.Gen.GmInRefIdeal.Run
public import proofs.«01_k».proof.Proof.Gen.GmInRefIdeal.Read
public import proofs.«01_k».proof.Proof.GmInValue

@[expose] public section

set_option maxRecDepth 16384

noncomputable section

/-! The claims of `gm_in`: the frames of the programs, and that both end with the same product. -/

namespace Cert.GmInIdeal.Meaning

open GmInIdeal GmInIdeal.Gen Idealize.ShloMosaic TcCoe Idealize.SL.Sem

theorem frame_ref : quiescent_GmInRefIdeal (hGmInRefIdeal := GmInRefIdeal.Gen.facts) :=
  fun m ρ _ => (θ_run GmInRefIdeal.defs _ _).mono
    (fun r h => ⟨fun c => (h c).2, sem_eq_zero_of_no_sems (by decide) r.2⟩) (GmInRefIdeal.Value.run m ρ)

/-- The gathered weight: column `k` of block `b` is column `1024 b + k` of the weight. -/
def gath (w : S2048x4096.Idx → EReal) : S4x1x2048x1024.Idx → EReal := fun i =>
  w (ix2 (i 2) ⟨(i 0 : Nat) * 1024 + (i 3 : Nat), by have h0 : (i 0 : Nat) < 4 := (i 0).isLt; have h2 : (i 3 : Nat) < 1024 := (i 3).isLt; omega⟩)

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 2048) (s : Fin 1024), i = ix4 p q r s := ⟨i 0, i 1, i 2, i 3, by funext x; fin_cases x <;> rfl⟩
  unfold gath
  pointwise

theorem ref_0 (x : FVec Ideal S4096x2048 .bf16) (w : FVec Ideal S2048x4096 .f32) : GmInRefIdeal.Read.val_main_v1 (F := Ideal) x w = res x (gath w) := by
  funext i
  obtain ⟨p, q, rfl⟩ : ∃ (p q : Fin 4096), i = ix2 p q := ⟨i 0, i 1, by funext x; fin_cases x <;> rfl⟩
  unfold res gath
  open GmInRefIdeal.Read in
  pointwise [val_main_v1, val_main_v0]
  refine Finset.sum_congr rfl fun k _ => congrArg₂ (· * ·) rfl (congrArg w ?_)
  funext d
  apply Fin.ext
  match d with
  | ⟨0, _⟩ => rfl
  | ⟨1, _⟩ => show q.val = q.val / 1024 * 1024 + q.val % 1024; omega

theorem algebraic : algebraic_GmInIdeal_GmInRefIdeal (hGmInIdeal := GmInIdeal.Gen.facts) (hGmInRefIdeal := GmInRefIdeal.Gen.facts) := by
  intro m g m' g' _ hargs
  refine ⟨fun c => res (Xa m c) (gath (m ((c : Thread nD τ).loc main_arg1))), ?_, ?_⟩
  · exact (θ_run GmInIdeal.defs _ _).mono (fun r h c => ⟨(h c).1.trans ((final2 m c).trans (congrArg _ (Wt_eq m c))), (h c).2⟩) (GmInIdeal.Value.run_blocks m g)
  · refine (θ_run GmInRefIdeal.defs _ _).mono (fun r h c => ?_) (GmInRefIdeal.Value.run m' g')
    obtain ⟨a0, a1⟩ := hargs c
    obtain ⟨e0, k⟩ := h c
    refine ⟨e0.trans ?_, k⟩
    · refine (GmInRefIdeal.Read.val_main_v1_eq _ _).trans ?_
      rw [a0, a1]
      exact ref_0 _ _

end Cert.GmInIdeal.Meaning

end
-- ==== Proof.GmInDxValue.lean ====
module

public import proofs.«01_k».proof.Proof.Gen.GmInDxIdeal.Value
public import proofs.«01_k».proof.Proof.Common

@[expose] public section

set_option maxRecDepth 16384
set_option maxHeartbeats 1000000

noncomputable section

/-! The blocks of the product accumulate over the 4 blocks of the summed axis; the last one is written out. -/

namespace Cert.GmInDxIdeal.Meaning

open GmInDxIdeal GmInDxIdeal.Gen Idealize.ShloMosaic TcCoe Idealize.SL.Sem

section Body

variable {F : FTy → Type} [FloatOps F]

section Points

variable (c : Dev nD) (i : grid0.Coords) (arg3 : Memref sig .tc .vmem S512x1024 .bf16) (harg3 : arg3.IsWhole) (arg4 : Memref sig .tc .vmem S1x1x2048x1024 .bf16) (harg4 : arg4.IsWhole) (arg5 : Memref sig .tc .vmem S512x2048 .f32) (harg5 : arg5.IsWhole) (arg6 : Memref sig .tc .vmem S512x2048 .f32) (harg6 : arg6.IsWhole)

theorem first_point (hc0 : cond0_0 i) (hc1 : ¬cond0_1 i) (hc2 : ¬cond0_2 i)
    (x0 : Vec F S512x1024 .bf16) (x1 : Vec F S1x1x2048x1024 .bf16) : sout0_A_0 c i arg3 harg3 arg4 harg4 arg5 harg5 arg6 harg6 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S512x1024) _ hz2, View.readCov_unit_zero (S := S512x2048) _ hz2, View.readAt_eq_ld, harg3.read_unread, harg4.read_unread, harg5.read_unread, harg6.read_unread, View.ld_unit_zero (S := S1x1x2048x1024) hz4, View.ld_unit_zero (S := S512x1024) hz2, View.ld_unit_zero (S := S512x2048) hz2]
  try rfl

theorem middle_point (hc0 : ¬cond0_0 i) (hc1 : cond0_1 i) (hc2 : ¬cond0_2 i)
    (x0 : Vec F S512x1024 .bf16) (x1 : Vec F S1x1x2048x1024 .bf16) (xs0 : Vec F S512x2048 .f32) : sout0_B_0 c i arg3 harg3 arg4 harg4 arg5 harg5 arg6 harg6 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S512x1024) _ hz2, View.readCov_unit_zero (S := S512x2048) _ hz2, View.readAt_eq_ld, harg3.read_unread, harg4.read_unread, harg5.read_unread, harg6.read_unread, View.ld_unit_zero (S := S1x1x2048x1024) hz4, View.ld_unit_zero (S := S512x1024) hz2, View.ld_unit_zero (S := S512x2048) hz2]
  try rfl

theorem last_point (hc0 : ¬cond0_0 i) (hc1 : ¬cond0_1 i) (hc2 : cond0_2 i)
    (x0 : Vec F S512x1024 .bf16) (x1 : Vec F S1x1x2048x1024 .bf16) (xs0 : Vec F S512x2048 .f32) : out0_C_2 c i arg3 harg3 arg4 harg4 arg5 harg5 arg6 harg6 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S512x2048) hz2]
  try rw [View.canon_unit_zero (S := S512x2048) hz2]
  simp only [View.readCov_unit_zero (S := S1x1x2048x1024) _ hz4, View.readCov_unit_zero (S := S512x1024) _ hz2, View.readCov_unit_zero (S := S512x2048) _ hz2, View.readAt_eq_ld, harg3.read_unread, harg4.read_unread, harg5.read_unread, harg6.read_unread, View.ld_unit_zero (S := S1x1x2048x1024) hz4, View.ld_unit_zero (S := S512x1024) hz2, View.ld_unit_zero (S := S512x2048) hz2]
  try rfl

end Points

end Body

theorem first_value (x0 : Vec Ideal S512x1024 .bf16) (x1 : Vec Ideal S1x1x2048x1024 .bf16) (a : Fin 512) (b : Fin 2048) :
    k0_pay2 (F := Ideal) x1 x0 (ix2 a b) = ∑ k : Fin 1024, x0 (ix2 a k) * x1 (ix4 0 0 b k) := by
  unfold_payloads
  pointwise
  try simp only [zero_add]

theorem middle_value (x0 : Vec Ideal S512x1024 .bf16) (x1 : Vec Ideal S1x1x2048x1024 .bf16) (s : FVec Ideal S512x2048 .f32) (a : Fin 512) (b : Fin 2048) :
    k0_pay3 (F := Ideal) x1 x0 s (ix2 a b) = s (ix2 a b) + ∑ k : Fin 1024, x0 (ix2 a k) * x1 (ix4 0 0 b k) := by
  unfold_payloads
  pointwise
  try simp only [zero_add]

theorem last_value (x0 : Vec Ideal S512x1024 .bf16) (x1 : Vec Ideal S1x1x2048x1024 .bf16) (s : FVec Ideal S512x2048 .f32) (a : Fin 512) (b : Fin 2048) :
    k0_pay4 (F := Ideal) x1 x0 s (ix2 a b) = s (ix2 a b) + ∑ k : Fin 1024, x0 (ix2 a k) * x1 (ix4 0 0 b k) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Dz (c : Dev nD) : S4096x4096.Idx → EReal := m ((c : Thread nD τ).loc main_arg0)
abbrev Wt (c : Dev nD) : S4x1x2048x1024.Idx → EReal := V m c main_v3

abbrev X0 : FVec Ideal S512x1024 .bf16 := iblk m c 0 t
abbrev X1 : FVec Ideal S1x1x2048x1024 .bf16 := iblk m c 1 t

theorem at0 : ∀ t : Fin grid0.N, win0_0.index t 0 = t.val / 4 ∧ win0_0.index t 1 = t.val % 4 := by decide +kernel

theorem at1 : ∀ t : Fin grid0.N, win0_1.index t 0 = t.val % 4 ∧ win0_1.index t 1 = 0 ∧ win0_1.index t 2 = 0 ∧ win0_1.index t 3 = 0 := by decide +kernel

theorem at2 : ∀ t : Fin grid0.N, win0_2.index t 0 = t.val / 4 ∧ win0_2.index t 1 = 0 := by decide +kernel

theorem read0 (a : Fin 512) (b : Fin 2048) (k : Fin 1024) :
    X0 m c t (ix2 a k) = Dz m c (ix2 (⟨t.val / 4 % 8 * 512 + a.val, by omega⟩) (⟨t.val % 4 * 1024 + k.val, by omega⟩)) := by
  have hi := at0 t
  have hN := lt_N t
  unfold X0 iblk
  rw [View.read_apply]
  show V m c main_arg0 _ = _
  rw [V_main_arg0]
  unfold Dz
  have e : ((cfg0.win 0).blk t).view.emb (ix2 a k : S512x1024.Idx) = (ix2 (⟨t.val / 4 % 8 * 512 + a.val, by omega⟩) (⟨t.val % 4 * 1024 + k.val, by omega⟩) : S4096x4096.Idx) := by
    funext d
    apply Fin.ext
    match d with
    | ⟨0, _⟩ => show win0_0.index t 0 * 512 + 1 * a.val = t.val / 4 % 8 * 512 + a.val; rw [hi.1] <;> omega
    | ⟨1, _⟩ => show win0_0.index t 1 * 1024 + 1 * k.val = t.val % 4 * 1024 + k.val; rw [hi.2] <;> omega
  exact congrArg _ e

theorem read1 (a : Fin 512) (b : Fin 2048) (k : Fin 1024) :
    X1 m c t (ix4 0 0 b k) = Wt m c (ix4 (⟨t.val % 4, by omega⟩) (⟨0, by omega⟩) (⟨b.val, by omega⟩) (⟨k.val, by omega⟩)) := by
  have hi := at1 t
  have hN := lt_N t
  unfold X1 iblk
  rw [View.read_apply]
  show V m c main_v3 _ = _
  show V m c main_v3 _ = V m c main_v3 _
  have e : ((cfg0.win 1).blk t).view.emb (ix4 0 0 b k : S1x1x2048x1024.Idx) = (ix4 (⟨t.val % 4, by omega⟩) (⟨0, by omega⟩) (⟨b.val, by omega⟩) (⟨k.val, by omega⟩) : S4x1x2048x1024.Idx) := by
    funext d
    apply Fin.ext
    match d with
    | ⟨0, _⟩ => show win0_1.index t 0 * 1 + 1 * 0 = t.val % 4; rw [hi.1] <;> omega
    | ⟨1, _⟩ => show win0_1.index t 1 * 1 + 1 * 0 = 0; rw [hi.2.1] <;> omega
    | ⟨2, _⟩ => show win0_1.index t 2 * 2048 + 1 * b.val = b.val; rw [hi.2.2.1] <;> omega
    | ⟨3, _⟩ => show win0_1.index t 3 * 1024 + 1 * k.val = k.val; rw [hi.2.2.2] <;> omega
  exact congrArg _ e

/-- The `i`-th block of the summed axis in the product of the output's `q`-th block. -/
def piece (c : Dev nD) (q i : Nat) (a : Fin 512) (b : Fin 2048) : EReal :=
  ∑ k : Fin 1024, Dz m c (ix2 (⟨q % 8 * 512 + a.val, by omega⟩) (⟨i % 4 * 1024 + k.val, by omega⟩)) * Wt m c (ix4 (⟨i % 4, by omega⟩) (⟨0, by omega⟩) (⟨b.val, by omega⟩) (⟨k.val, by omega⟩))

theorem piece_at (a : Fin 512) (b : Fin 2048) :
    (∑ k : Fin 1024, X0 m c t (ix2 a k) * X1 m c t (ix4 0 0 b k)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val / 4 % 8 * 512 + a.val = (t.val / 4) % 8 * 512 + a.val; omega
    | ⟨1, _⟩ => show t.val % 4 * 1024 + k.val = (t.val % 4) % 4 * 1024 + k.val; omega
  · funext d
    apply Fin.ext
    match d with
    | ⟨0, _⟩ => show t.val % 4 = (t.val % 4) % 4; omega
    | ⟨1, _⟩ => show 0 = 0; omega
    | ⟨2, _⟩ => show b.val = b.val; omega
    | ⟨3, _⟩ => show k.val = k.val; omega

theorem acc_first (h : t.val % 4 = 0) (a : Fin 512) (b : Fin 2048) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 512) (b : Fin 2048) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 512) (b : Fin 2048) :
    (outsAt0 m c t.val t.isLt).1 (ix2 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix2 a b)).trans ?_
  exact (last_value _ _ _ a b).trans (congrArg (_ + ·) (piece_at m c t a b))

theorem acc_apply (c : Dev nD) (a : Fin 512) (b : Fin 2048) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 512) (b : Fin 2048) :
    (outsAt0 m c t.val t.isLt).1 (ix2 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x4096.Idx → EReal) (y : S4x1x2048x1024.Idx → EReal) : S4096x2048.Idx → EReal :=
  fun i => ∑ k : Fin 4096, x (ix2 (i 0) k) * y (ix4 (⟨k.val / 1024, by omega⟩) (0) (i 1) (⟨k.val % 1024, by omega⟩))

theorem out_res (h : t.val % 4 = 3) (a : Fin 512) (b : Fin 2048) :
    (outsAt0 m c t.val t.isLt).1 (ix2 a b) = res (Dz m c) (Wt m c) (((cfg0.win 2).blk t).view.emb (ix2 a b : S512x2048.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show (t.val / 4) % 8 * 512 + a.val = win0_2.index t 0 * 512 + 1 * a.val; rw [hi.1] <;> omega
    | ⟨1, _⟩ => show i.val % 4 * 1024 + k.val = i.val * 1024 + k.val; omega
  · funext d
    apply Fin.ext
    match d with
    | ⟨0, _⟩ => show i.val % 4 = (i.val * 1024 + k.val) / 1024; omega
    | ⟨1, _⟩ => show 0 = 0; omega
    | ⟨2, _⟩ => show b.val = win0_2.index t 1 * 2048 + 1 * b.val; rw [hi.2] <;> omega
    | ⟨3, _⟩ => show k.val = (i.val * 1024 + k.val) % 1024; omega

theorem flushed_eq (c : Dev nD) : ∀ t : Fin cfg0.N, (cfg0.win 2).flush t = true →
    (dats m 0 c).flushed 2 t = ((cfg0.win 2).blk t).view.read (Elt Ideal) (res (Dz m c) (Wt m c)) := by
  intro t hf
  have ht := (flush0_2 t).mp hf
  show (cfg0.win 2).cut (grid0.coords t) ((dats m 0 c).after 2 t) = _
  rw [after0_2]
  funext i
  rw [View.read_apply]
  obtain ⟨a, b, rfl⟩ : ∃ (a : Fin 512) (b : Fin 2048), i = ix2 a b := ⟨i 0, i 1, by funext x; fin_cases x <;> first | rfl | exact Subsingleton.elim _ _⟩
  skip
  show (outsAt0 m c t.val t.isLt).1 (ix2 a b) = _
  exact out_res m c t (by omega) a b

theorem final (c : Dev nD) : (dats m 0 c).arrAt 2 cfg0.N = res (Dz m c) (Wt m c) :=
  (dats m 0 c).arrAt_eq_of_cover 2 _ (flushed_eq m c) fun i => by
    have h0 : (i 0 : Nat) < 4096 := (i 0).isLt
    have h1 : (i 1 : Nat) < 2048 := (i 1).isLt
    let t : Fin cfg0.N := ⟨(i 0 : Nat) / 512 * 4 + 3, by show _ < grid0.N; rw [Gen.N_0]; omega⟩
    have hi := at2 t
    have ht : t.val = (i 0 : Nat) / 512 * 4 + 3 := rfl
    refine ⟨t, (flush0_2 t).mpr (by omega), ?_⟩
    show i ∈ ((View.whole main_v4).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.GmInDxIdeal.Meaning

end
-- ==== Proof.GmInDxClaims.lean ====
module

public import proofs.«01_k».proof.Defs
public import proofs.«01_k».proof.Proof.Gen.GmInDx.Frame
public import proofs.«01_k».proof.Proof.Gen.GmInDxRefIdeal.Run
public import proofs.«01_k».proof.Proof.Gen.GmInDxRefIdeal.Read
public import proofs.«01_k».proof.Proof.GmInDxValue

@[expose] public section

set_option maxRecDepth 16384

noncomputable section

/-! The claims of `gm_in_dx`: the frames of the programs, and that both end with the same product. -/

namespace Cert.GmInDxIdeal.Meaning

open GmInDxIdeal GmInDxIdeal.Gen Idealize.ShloMosaic TcCoe Idealize.SL.Sem

theorem frame_ref : quiescent_GmInDxRefIdeal (hGmInDxRefIdeal := GmInDxRefIdeal.Gen.facts) :=
  fun m ρ _ => (θ_run GmInDxRefIdeal.defs _ _).mono
    (fun r h => ⟨fun c => (h c).2, sem_eq_zero_of_no_sems (by decide) r.2⟩) (GmInDxRefIdeal.Value.run m ρ)

/-- The gathered weight: column `k` of block `b` is column `1024 b + k` of the weight. -/
def gath (w : S2048x4096.Idx → EReal) : S4x1x2048x1024.Idx → EReal := fun i =>
  w (ix2 (i 2) ⟨(i 0 : Nat) * 1024 + (i 3 : Nat), by have h0 : (i 0 : Nat) < 4 := (i 0).isLt; have h2 : (i 3 : Nat) < 1024 := (i 3).isLt; omega⟩)

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 2048) (s : Fin 1024), i = ix4 p q r s := ⟨i 0, i 1, i 2, i 3, by funext x; fin_cases x <;> rfl⟩
  unfold gath
  pointwise

theorem ref_0 (x : FVec Ideal S4096x4096 .bf16) (w : FVec Ideal S2048x4096 .f32) : GmInDxRefIdeal.Read.val_main_v3 (F := Ideal) x w = res x (gath w) := by
  funext i
  obtain ⟨p, q, rfl⟩ : ∃ (p : Fin 4096) (q : Fin 2048), i = ix2 p q := ⟨i 0, i 1, by funext x; fin_cases x <;> rfl⟩
  unfold res gath
  open GmInDxRefIdeal.Read in
  pointwise [val_main_v3, val_main_v2]
  refine Finset.sum_congr rfl fun k _ => congrArg₂ (· * ·) rfl (congrArg w ?_)
  funext d
  apply Fin.ext
  match d with
  | ⟨0, _⟩ => rfl
  | ⟨1, _⟩ => show k.val = k.val / 1024 * 1024 + k.val % 1024; omega

theorem algebraic : algebraic_GmInDxIdeal_GmInDxRefIdeal (hGmInDxIdeal := GmInDxIdeal.Gen.facts) (hGmInDxRefIdeal := GmInDxRefIdeal.Gen.facts) := by
  intro m g m' g' _ hargs
  refine ⟨fun c => res (Dz m c) (gath (m ((c : Thread nD τ).loc main_arg1))), ?_, ?_⟩
  · exact (θ_run GmInDxIdeal.defs _ _).mono (fun r h c => ⟨(h c).1.trans ((final m c).trans (congrArg _ (Wt_eq m c))), (h c).2⟩) (GmInDxIdeal.Value.run_blocks m g)
  · refine (θ_run GmInDxRefIdeal.defs _ _).mono (fun r h c => ?_) (GmInDxRefIdeal.Value.run m' g')
    obtain ⟨a0, a1⟩ := hargs c
    obtain ⟨e0, k⟩ := h c
    refine ⟨e0.trans ?_, k⟩
    · refine (GmInDxRefIdeal.Read.val_main_v3_eq _ _).trans ?_
      rw [a0, a1]
      exact ref_0 _ _

end Cert.GmInDxIdeal.Meaning

end
-- ==== Proof.GmInDwValue.lean ====
module

public import proofs.«01_k».proof.Proof.Gen.GmInDwIdeal.Value
public import proofs.«01_k».proof.Proof.Common

@[expose] public section

set_option maxRecDepth 16384
set_option maxHeartbeats 1000000

noncomputable section

/-! The blocks of the product accumulate over the 4 blocks of the summed axis; the last one is written out. -/

namespace Cert.GmInDwIdeal.Meaning

open GmInDwIdeal GmInDwIdeal.Gen Idealize.ShloMosaic TcCoe Idealize.SL.Sem

section Body

variable {F : FTy → Type} [FloatOps F]

section Points

variable (c : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1x1024x1024 .bf16) (harg6 : arg6.IsWhole) (arg7 : Memref sig .tc .vmem S1024x1024 .f32) (harg7 : arg7.IsWhole)

theorem first_point (hc0 : cond0_0 i) (hc1 : ¬cond0_1 i) (hc2 : ¬cond0_2 i)
    (x0 x1 : Vec F S1024x1024 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S1024x1024) hz2]
  try rw [View.canon_unit_zero (S := S1024x1024) hz2]
  simp only [View.readCov_unit_zero (S := S1024x1024) _ hz2, View.readCov_unit_zero (S := S1x1x1024x1024) _ hz4, View.readAt_eq_ld, harg3.read_unread, harg4.read_unread, harg6.read_unread, harg7.read_unread, View.ld_unit_zero (S := S1024x1024) hz2, View.ld_unit_zero (S := S1x1x1024x1024) hz4]
  try rfl

theorem middle_point (hc0 : ¬cond0_0 i) (hc1 : cond0_1 i) (hc2 : ¬cond0_2 i)
    (x0 x1 : Vec F S1024x1024 .bf16) (xs0 : Vec F S1024x1024 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S1024x1024) hz2]
  try rw [View.canon_unit_zero (S := S1024x1024) hz2]
  simp only [View.readCov_unit_zero (S := S1024x1024) _ hz2, View.readCov_unit_zero (S := S1x1x1024x1024) _ hz4, View.readAt_eq_ld, harg3.read_unread, harg4.read_unread, harg6.read_unread, harg7.read_unread, View.ld_unit_zero (S := S1024x1024) hz2, View.ld_unit_zero (S := S1x1x1024x1024) hz4]
  try rfl

theorem last_point (hc0 : ¬cond0_0 i) (hc1 : ¬cond0_1 i) (hc2 : cond0_2 i)
    (x0 x1 : Vec F S1024x1024 .bf16) (xs0 : Vec F S1024x1024 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S1x1x1024x1024) hz4]
  try rw [View.canon_unit_zero (S := S1x1x1024x1024) hz4]
  simp only [View.readCov_unit_zero (S := S1024x1024) _ hz2, View.readCov_unit_zero (S := S1x1x1024x1024) _ hz4, View.readAt_eq_ld, harg3.read_unread, harg4.read_unread, harg6.read_unread, harg7.read_unread, View.ld_unit_zero (S := S1024x1024) hz2, View.ld_unit_zero (S := S1x1x1024x1024) hz4]
  try rfl

end Points

end Body

theorem first_value (x0 x1 : Vec Ideal S1024x1024 .bf16) (a b : Fin 1024) :
    k0_pay2 (F := Ideal) x1 x0 (ix2 a b) = ∑ k : Fin 1024, x0 (ix2 k a) * x1 (ix2 k b) := by
  unfold_payloads
  pointwise
  try simp only [zero_add]

theorem middle_value (x0 x1 : Vec Ideal S1024x1024 .bf16) (s : FVec Ideal S1024x1024 .f32) (a b : Fin 1024) :
    k0_pay3 (F := Ideal) x1 x0 s (ix2 a b) = s (ix2 a b) + ∑ k : Fin 1024, x0 (ix2 k a) * x1 (ix2 k b) := by
  unfold_payloads
  pointwise
  try simp only [zero_add]

theorem last_value (x0 x1 : Vec Ideal S1024x1024 .bf16) (s : FVec Ideal S1024x1024 .f32) (a b : Fin 1024) :
    k0_pay4 (F := Ideal) x1 x0 s (ix4 0 0 a b) = s (ix2 a b) + ∑ k : Fin 1024, x0 (ix2 k a) * x1 (ix2 k b) := by
  unfold_payloads
  pointwise
  try simp only [zero_add]

variable (m : (ℓ : Loc nD τ sig) → Buf (Elt Ideal) ℓ) (c : Dev nD) (t : Fin cfg0.N)

theorem lt_N (t : Fin cfg0.N) : t.val < 32 := lt_of_lt_of_eq t.isLt (show cfg0.N = 32 from N_0)

abbrev Act (c : Dev nD) : S4096x2048.Idx → EReal := m ((c : Thread nD τ).loc main_arg0)
abbrev Dz (c : Dev nD) : S4096x4096.Idx → EReal := m ((c : Thread nD τ).loc main_arg1)

abbrev X0 : FVec Ideal S1024x1024 .bf16 := iblk m c 0 t
abbrev X1 : FVec Ideal S1024x1024 .bf16 := iblk m c 1 t

theorem at0 : ∀ t : Fin grid0.N, win0_0.index t 0 = t.val % 4 ∧ win0_0.index t 1 = t.val / 16 := by decide +kernel

theorem at1 : ∀ t : Fin grid0.N, win0_1.index t 0 = t.val % 4 ∧ win0_1.index t 1 = t.val / 4 % 4 := by decide +kernel

theorem at2 : ∀ t : Fin grid0.N, win0_2.index t 0 = t.val / 4 % 4 ∧ win0_2.index t 1 = 0 ∧ win0_2.index t 2 = t.val / 16 ∧ win0_2.index t 3 = 0 := by decide +kernel

theorem read0 (a b k : Fin 1024) :
    X0 m c t (ix2 k a) = Act m c (ix2 (⟨t.val % 4 * 1024 + k.val, by omega⟩) (⟨t.val / 16 % 2 * 1024 + a.val, by omega⟩)) := by
  have hi := at0 t
  have hN := lt_N t
  unfold X0 iblk
  rw [View.read_apply]
  show V m c main_arg0 _ = _
  rw [V_main_arg0]
  unfold Act
  have e : ((cfg0.win 0).blk t).view.emb (ix2 k a : S1024x1024.Idx) = (ix2 (⟨t.val % 4 * 1024 + k.val, by omega⟩) (⟨t.val / 16 % 2 * 1024 + a.val, by omega⟩) : S4096x2048.Idx) := by
    funext d
    apply Fin.ext
    match d with
    | ⟨0, _⟩ => show win0_0.index t 0 * 1024 + 1 * k.val = t.val % 4 * 1024 + k.val; rw [hi.1] <;> omega
    | ⟨1, _⟩ => show win0_0.index t 1 * 1024 + 1 * a.val = t.val / 16 % 2 * 1024 + a.val; rw [hi.2] <;> omega
  exact congrArg _ e

theorem read1 (a b k : Fin 1024) :
    X1 m c t (ix2 k b) = Dz m c (ix2 (⟨t.val % 4 * 1024 + k.val, by omega⟩) (⟨t.val / 4 % 4 * 1024 + b.val, by omega⟩)) := by
  have hi := at1 t
  have hN := lt_N t
  unfold X1 iblk
  rw [View.read_apply]
  show V m c main_arg1 _ = _
  rw [V_main_arg1]
  unfold Dz
  have e : ((cfg0.win 1).blk t).view.emb (ix2 k b : S1024x1024.Idx) = (ix2 (⟨t.val % 4 * 1024 + k.val, by omega⟩) (⟨t.val / 4 % 4 * 1024 + b.val, by omega⟩) : S4096x4096.Idx) := by
    funext d
    apply Fin.ext
    match d with
    | ⟨0, _⟩ => show win0_1.index t 0 * 1024 + 1 * k.val = t.val % 4 * 1024 + k.val; rw [hi.1] <;> omega
    | ⟨1, _⟩ => show win0_1.index t 1 * 1024 + 1 * b.val = t.val / 4 % 4 * 1024 + b.val; rw [hi.2] <;> omega
  exact congrArg _ e

/-- The `i`-th block of the summed axis in the product of the output's `q`-th block. -/
def piece (c : Dev nD) (q i : Nat) (a b : Fin 1024) : EReal :=
  ∑ k : Fin 1024, Act m c (ix2 (⟨i % 4 * 1024 + k.val, by omega⟩) (⟨q / 4 % 2 * 1024 + a.val, by omega⟩)) * Dz m c (ix2 (⟨i % 4 * 1024 + k.val, by omega⟩) (⟨q % 4 * 1024 + b.val, by omega⟩))

theorem piece_at (a b : Fin 1024) :
    (∑ k : Fin 1024, X0 m c t (ix2 k a) * X1 m c t (ix2 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show t.val / 16 % 2 * 1024 + a.val = (t.val / 4) / 4 % 2 * 1024 + a.val; omega
  · funext d
    apply Fin.ext
    match d with
    | ⟨0, _⟩ => show t.val % 4 * 1024 + k.val = (t.val % 4) % 4 * 1024 + k.val; omega
    | ⟨1, _⟩ => show t.val / 4 % 4 * 1024 + b.val = (t.val / 4) % 4 * 1024 + b.val; omega

theorem acc_first (h : t.val % 4 = 0) (a b : Fin 1024) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a b : Fin 1024) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a b : Fin 1024) :
    (outsAt0 m c t.val t.isLt).1 (ix4 0 0 a b) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 0 0 a b)).trans ?_
  exact (last_value _ _ _ a b).trans (congrArg (_ + ·) (piece_at m c t a b))

theorem acc_apply (c : Dev nD) (a b : Fin 1024) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a b : Fin 1024) :
    (outsAt0 m c t.val t.isLt).1 (ix4 0 0 a b) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x : S4096x2048.Idx → EReal) (y : S4096x4096.Idx → EReal) : S4x1x2048x1024.Idx → EReal :=
  fun i => ∑ k : Fin 4096, x (ix2 k (i 2)) * y (ix2 k (⟨(i 0 : Nat) * 1024 + (i 3 : Nat), by have h0 : (i 0 : Nat) < 4 := (i 0).isLt; have h2 : (i 3 : Nat) < 1024 := (i 3).isLt; omega⟩))

theorem out_res (h : t.val % 4 = 3) (a b : Fin 1024) :
    (outsAt0 m c t.val t.isLt).1 (ix4 0 0 a b) = res (Act m c) (Dz m c) (((cfg0.win 2).blk t).view.emb (ix4 0 0 a b : S1x1x1024x1024.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show (t.val / 4) / 4 % 2 * 1024 + a.val = win0_2.index t 2 * 1024 + 1 * a.val; rw [hi.2.2.1] <;> omega
  · funext d
    apply Fin.ext
    match d with
    | ⟨0, _⟩ => show i.val % 4 * 1024 + k.val = i.val * 1024 + k.val; omega
    | ⟨1, _⟩ => show (t.val / 4) % 4 * 1024 + b.val = (win0_2.index t 0 * 1 + 1 * 0) * 1024 + (win0_2.index t 3 * 1024 + 1 * b.val); rw [hi.1, hi.2.2.2] <;> omega

theorem flushed_eq (c : Dev nD) : ∀ t : Fin cfg0.N, (cfg0.win 2).flush t = true →
    (dats m 0 c).flushed 2 t = ((cfg0.win 2).blk t).view.read (Elt Ideal) (res (Act m c) (Dz m c)) := by
  intro t hf
  have ht := (flush0_2 t).mp hf
  show (cfg0.win 2).cut (grid0.coords t) ((dats m 0 c).after 2 t) = _
  rw [after0_2]
  funext i
  rw [View.read_apply]
  obtain ⟨u, v, a, b, rfl⟩ : ∃ (u v : Fin 1) (a b : Fin 1024), i = ix4 u v a b := ⟨i 0, i 1, i 2, i 3, by funext x; fin_cases x <;> first | rfl | exact Subsingleton.elim _ _⟩
  obtain rfl : u = 0 := Subsingleton.elim _ _; obtain rfl : v = 0 := Subsingleton.elim _ _
  show (outsAt0 m c t.val t.isLt).1 (ix4 0 0 a b) = _
  exact out_res m c t (by omega) a b

theorem final (c : Dev nD) : (dats m 0 c).arrAt 2 cfg0.N = res (Act m c) (Dz m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 2048 := (i 2).isLt
    have h3 : (i 3 : Nat) < 1024 := (i 3).isLt
    let t : Fin cfg0.N := ⟨(i 2 : Nat) / 1024 * 16 + (i 0 : Nat) * 4 + 3, by show _ < grid0.N; rw [Gen.N_0]; omega⟩
    have hi := at2 t
    have ht : t.val = (i 2 : Nat) / 1024 * 16 + (i 0 : Nat) * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 1024 ≤ (i 2 : Nat) ∧ (i 2 : Nat) < win0_2.index t 2 * 1024 + 1024
      rw [hi.2.2.1]; omega
    | ⟨3, _⟩ =>
      show win0_2.index t 3 * 1024 ≤ (i 3 : Nat) ∧ (i 3 : Nat) < win0_2.index t 3 * 1024 + 1024
      rw [hi.2.2.2]; omega

end Cert.GmInDwIdeal.Meaning

end
-- ==== Proof.GmInDwClaims.lean ====
module

public import proofs.«01_k».proof.Defs
public import proofs.«01_k».proof.Proof.Gen.GmInDw.Frame
public import proofs.«01_k».proof.Proof.Gen.GmInDwRefIdeal.Run
public import proofs.«01_k».proof.Proof.Gen.GmInDwRefIdeal.Read
public import proofs.«01_k».proof.Proof.GmInDwValue

@[expose] public section

set_option maxRecDepth 16384

noncomputable section

/-! The claims of `gm_in_dw`: the frames of the programs, and that both end with the same product. -/

namespace Cert.GmInDwIdeal.Meaning

open GmInDwIdeal GmInDwIdeal.Gen Idealize.ShloMosaic TcCoe Idealize.SL.Sem

theorem frame_ref : quiescent_GmInDwRefIdeal (hGmInDwRefIdeal := GmInDwRefIdeal.Gen.facts) :=
  fun m ρ _ => (θ_run GmInDwRefIdeal.defs _ _).mono
    (fun r h => ⟨fun c => (h c).2, sem_eq_zero_of_no_sems (by decide) r.2⟩) (GmInDwRefIdeal.Value.run m ρ)

theorem ref_0 (x : FVec Ideal S4096x2048 .bf16) (y : FVec Ideal S4096x4096 .bf16) : GmInDwRefIdeal.Read.val_main_v9 (F := Ideal) x y = res x y := by
  funext i
  obtain ⟨p, q, r, s, rfl⟩ : ∃ (p : Fin 4) (q : Fin 1) (r : Fin 2048) (s : Fin 1024), i = ix4 p q r s := ⟨i 0, i 1, i 2, i 3, by funext x; fin_cases x <;> rfl⟩
  unfold res
  open GmInDwRefIdeal.Read in
  pointwise [val_main_v9, val_main_v8, val_main_v7, val_main_v6, val_main_v5, val_main_v4, val_main_v3, val_main_v1]
  exact Finset.sum_congr rfl fun k _ => mul_comm (G := EReal) _ _

theorem algebraic : algebraic_GmInDwIdeal_GmInDwRefIdeal (hGmInDwIdeal := GmInDwIdeal.Gen.facts) (hGmInDwRefIdeal := GmInDwRefIdeal.Gen.facts) := by
  intro m g m' g' _ hargs
  refine ⟨fun c => res (Act m c) (Dz m c), ?_, ?_⟩
  · exact (θ_run GmInDwIdeal.defs _ _).mono (fun r h c => ⟨(h c).1.trans (final m c), (h c).2⟩) (GmInDwIdeal.Value.run_blocks m g)
  · refine (θ_run GmInDwRefIdeal.defs _ _).mono (fun r h c => ?_) (GmInDwRefIdeal.Value.run m' g')
    obtain ⟨a0, a1, a2⟩ := hargs c
    obtain ⟨e0, k⟩ := h c
    refine ⟨e0.trans ?_, k⟩
    · refine (GmInDwRefIdeal.Read.val_main_v9_eq _ _).trans ?_
      rw [a0, a1]
      exact ref_0 _ _

end Cert.GmInDwIdeal.Meaning

end
-- ==== Proof.HgOutValue.lean ====
module

public import proofs.«01_k».proof.Proof.Gen.HgOutIdeal.Value
public import proofs.«01_k».proof.Proof.Common

@[expose] public section

set_option maxRecDepth 16384

noncomputable section

/-! Each block of the product is a block of rows times a block of columns of the weight, whose rows lie in four blocks. -/

namespace Cert.HgOutIdeal.Meaning

open HgOutIdeal HgOutIdeal.Gen Idealize.ShloMosaic TcCoe Idealize.SL.Sem

section Body

variable {F : FTy → Type} [FloatOps F]

theorem body2 (x0 : Vec F S512x2048 .bf16) (x1 : Vec F S4x1x512x1024 .bf16) : out0_2 x0 x1 = k0_pay1 x1 x0 := by
  unfold out0_2
  rw [View.canon_unit_zero (S := S512x1024) hz2]
  simp only [View.ld_unit_zero (S := S4x1x512x1024) hz4, View.ld_unit_zero (S := S512x2048) hz2]

end Body

theorem value2 (x0 : Vec Ideal S512x2048 .bf16) (x1 : Vec Ideal S4x1x512x1024 .bf16) (a : Fin 512) (b : Fin 1024) : (k0_pay1 x1 x0 : FVec Ideal S512x1024 .f32) (ix2 a b) = ∑ k : Fin 2048, x0 (ix2 a k) * x1 (ix4 ⟨k.val / 512, by omega⟩ 0 ⟨k.val % 512, by omega⟩ b) := by
  unfold_payloads
  pointwise
  try simp only [zero_add]

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

abbrev Xa (c : Dev nD) : S4096x2048.Idx → EReal := m ((c : Thread nD τ).loc main_arg0)
abbrev X0 : FVec Ideal S512x2048 .bf16 := iblk m c 0 t
abbrev Wt (c : Dev nD) : S4x1x512x2048.Idx → EReal := V m c main_v1
abbrev X1 : FVec Ideal S4x1x512x1024 .bf16 := iblk m c 1 t

theorem at0 : ∀ t : Fin grid0.N, win0_0.index t 0 = t.val / 2 ∧ win0_0.index t 1 = 0 := by decide +kernel

theorem at1 : ∀ t : Fin grid0.N, win0_1.index t 0 = 0 ∧ win0_1.index t 1 = 0 ∧ win0_1.index t 2 = 0 ∧ win0_1.index t 3 = t.val % 2 := by decide +kernel

theorem at2 : ∀ t : Fin grid0.N, win0_2.index t 0 = t.val / 2 ∧ win0_2.index t 1 = t.val % 2 := by decide +kernel

theorem read0 (a : Fin 512) (k : Fin 2048) :
    X0 m c t (ix2 a k) = Xa m c (ix2 (⟨t.val / 2 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val / 2 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 2 * 512 + a.val; rw [hi.1] <;> omega
    | ⟨1, _⟩ => show win0_0.index t 1 * 2048 + 1 * k.val = k.val; rw [hi.2] <;> omega
  exact congrArg _ e

theorem read1 (b : Fin 1024) (p : Fin 4) (r : Fin 512) :
    X1 m c t (ix4 p 0 r b) = Wt m c (ix4 (⟨p.val, by have := lt_N t; omega⟩) (⟨0, by have := lt_N t; omega⟩) (⟨r.val, by have := lt_N t; omega⟩) (⟨t.val % 2 * 1024 + b.val, by have := lt_N t; omega⟩)) := by
  have hi := at1 t
  have hN := lt_N t
  unfold X1 iblk
  rw [View.read_apply]
  show V m c main_v1 _ = _
  show V m c main_v1 _ = V m c main_v1 _
  have e : ((cfg0.win 1).blk t).view.emb (ix4 p 0 r b : S4x1x512x1024.Idx) = (ix4 (⟨p.val, by have := lt_N t; omega⟩) (⟨0, by have := lt_N t; omega⟩) (⟨r.val, by have := lt_N t; omega⟩) (⟨t.val % 2 * 1024 + b.val, by have := lt_N t; omega⟩) : S4x1x512x2048.Idx) := by
    funext d
    apply Fin.ext
    match d with
    | ⟨0, _⟩ => show win0_1.index t 0 * 4 + 1 * p.val = p.val; rw [hi.1] <;> omega
    | ⟨1, _⟩ => show win0_1.index t 1 * 1 + 1 * 0 = 0; rw [hi.2.1] <;> omega
    | ⟨2, _⟩ => show win0_1.index t 2 * 512 + 1 * r.val = r.val; rw [hi.2.2.1] <;> omega
    | ⟨3, _⟩ => show win0_1.index t 3 * 1024 + 1 * b.val = t.val % 2 * 1024 + b.val; rw [hi.2.2.2] <;> omega
  exact congrArg _ e

/-- The product with the weight, whose rows lie in four blocks. -/
def res (x : S4096x2048.Idx → EReal) (y : S4x1x512x2048.Idx → EReal) : S4096x2048.Idx → EReal :=
  fun i => ∑ k : Fin 2048, x (ix2 (i 0) k) * y (ix4 ⟨k.val / 512, by omega⟩ 0 ⟨k.val % 512, by omega⟩ (i 1))

theorem emb2 (t : Fin cfg0.N) (a : Fin 512) (b : Fin 1024) :
    ((cfg0.win 2).blk t).view.emb (ix2 a b : S512x1024.Idx) = (ix2 (⟨t.val / 2 * 512 + a.val, by have := lt_N t; omega⟩) (⟨t.val % 2 * 1024 + b.val, by have := lt_N t; omega⟩) : S4096x2048.Idx) := by
  have hi := at2 t
  have hN := lt_N t
  funext d
  apply Fin.ext
  match d with
  | ⟨0, _⟩ => show win0_2.index t 0 * 512 + 1 * a.val = t.val / 2 * 512 + a.val; rw [hi.1] <;> omega
  | ⟨1, _⟩ => show win0_2.index t 1 * 1024 + 1 * b.val = t.val % 2 * 1024 + b.val; rw [hi.2] <;> omega

theorem flushed2_eq (hf : (cfg0.win 2).flush t = true) :
    (dats m 0 c).flushed 2 t = ((cfg0.win 2).blk t).view.read (Elt Ideal) (res (Xa m c) (Wt m c)) := by
  show (cfg0.win 2).cut (grid0.coords t) ((dats m 0 c).after 2 t) = _
  rw [after0_2, body2]
  funext i
  rw [View.read_apply]
  obtain ⟨a, b, rfl⟩ : ∃ (a : Fin 512) (b : Fin 1024), i = ix2 a b := ⟨i 0, i 1, by funext x; fin_cases x <;> rfl⟩
  refine (value2 (X0 m c t) (X1 m c t) a  b).trans ?_
  refine Eq.trans ?_ (congrArg (res (Xa m c) (Wt m c)) (emb2 t a  b)).symm
  have hN := lt_N t
  refine Finset.sum_congr rfl fun k _ => ?_
  have e0 := read0 m c t a k
  have e1 := read1 m c t b ⟨k.val / 512, by omega⟩ ⟨k.val % 512, by omega⟩
  rw [e0, e1]
  rfl

theorem final2 (c : Dev nD) : (dats m 0 c).arrAt 2 cfg0.N = res (Xa m c) (Wt m c) :=
  (dats m 0 c).arrAt_eq_of_cover 2 _ (flushed2_eq m c) fun i => by
    have h0 : (i 0 : Nat) < 4096 := (i 0).isLt
    have h1 : (i 1 : Nat) < 2048 := (i 1).isLt
    let t : Fin cfg0.N := ⟨(i 0 : Nat) / 512 * 2 + (i 1 : Nat) / 1024, by show _ < grid0.N; rw [Gen.N_0]; omega⟩
    have hi := at2 t
    have ht : t.val = (i 0 : Nat) / 512 * 2 + (i 1 : Nat) / 1024 := rfl
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 1024 ≤ (i 1 : Nat) ∧ (i 1 : Nat) < win0_2.index t 1 * 1024 + 1024
      rw [hi.2]; omega

end Cert.HgOutIdeal.Meaning

end
-- ==== Proof.HgOutClaims.lean ====
module

public import proofs.«01_k».proof.Defs
public import proofs.«01_k».proof.Proof.Gen.HgOut.Frame
public import proofs.«01_k».proof.Proof.Gen.HgOutRefIdeal.Run
public import proofs.«01_k».proof.Proof.Gen.HgOutRefIdeal.Read
public import proofs.«01_k».proof.Proof.HgOutValue

@[expose] public section

set_option maxRecDepth 16384

noncomputable section

/-! The claims of `hg_out`: the frames of the programs, and that both end with the same product. -/

namespace Cert.HgOutIdeal.Meaning

open HgOutIdeal HgOutIdeal.Gen Idealize.ShloMosaic TcCoe Idealize.SL.Sem

theorem frame_ref : quiescent_HgOutRefIdeal (hHgOutRefIdeal := HgOutRefIdeal.Gen.facts) :=
  fun m ρ _ => (θ_run HgOutRefIdeal.defs _ _).mono
    (fun r h => ⟨fun c => (h c).2, sem_eq_zero_of_no_sems (by decide) r.2⟩) (HgOutRefIdeal.Value.run m ρ)

/-- The gathered weight: row `r` of block `b` is row `512 b + r` of the weight. -/
def gath (w : S2048x2048.Idx → EReal) : S4x1x512x2048.Idx → EReal := fun i =>
  w (ix2 ⟨(i 0 : Nat) * 512 + (i 2 : Nat), by have h0 : (i 0 : Nat) < 4 := (i 0).isLt; have h2 : (i 2 : Nat) < 512 := (i 2).isLt; omega⟩ (i 3))

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold gath
  pointwise

theorem ref_0 (x : FVec Ideal S4096x2048 .bf16) (w : FVec Ideal S2048x2048 .f32) : HgOutRefIdeal.Read.val_main_v1 (F := Ideal) x w = res x (gath w) := by
  funext i
  obtain ⟨p, q, rfl⟩ : ∃ (p : Fin 4096) (q : Fin 2048), i = ix2 p q := ⟨i 0, i 1, by funext x; fin_cases x <;> rfl⟩
  unfold res gath
  open HgOutRefIdeal.Read in
  pointwise [val_main_v1, val_main_v0]
  refine Finset.sum_congr rfl fun k _ => congrArg₂ (· * ·) rfl (congrArg w ?_)
  funext d
  apply Fin.ext
  match d with
  | ⟨0, _⟩ => show k.val = k.val / 512 * 512 + k.val % 512; omega
  | ⟨1, _⟩ => rfl

theorem algebraic : algebraic_HgOutIdeal_HgOutRefIdeal (hHgOutIdeal := HgOutIdeal.Gen.facts) (hHgOutRefIdeal := HgOutRefIdeal.Gen.facts) := by
  intro m g m' g' _ hargs
  refine ⟨fun c => res (Xa m c) (gath (m ((c : Thread nD τ).loc main_arg1))), ?_, ?_⟩
  · exact (θ_run HgOutIdeal.defs _ _).mono (fun r h c => ⟨(h c).1.trans ((final2 m c).trans (congrArg _ (Wt_eq m c))), (h c).2⟩) (HgOutIdeal.Value.run_blocks m g)
  · refine (θ_run HgOutRefIdeal.defs _ _).mono (fun r h c => ?_) (HgOutRefIdeal.Value.run m' g')
    obtain ⟨a0, a1⟩ := hargs c
    obtain ⟨e0, k⟩ := h c
    refine ⟨e0.trans ?_, k⟩
    · refine (HgOutRefIdeal.Read.val_main_v1_eq _ _).trans ?_
      rw [a0, a1]
      exact ref_0 _ _

end Cert.HgOutIdeal.Meaning

end
-- ==== Proof.HgOutDxValue.lean ====
module

public import proofs.«01_k».proof.Proof.Gen.HgOutDxIdeal.Value
public import proofs.«01_k».proof.Proof.Common

@[expose] public section

set_option maxRecDepth 16384

noncomputable section

/-! Each block of rows of the gradient is a block of rows of the incoming gradient times the transposed weight. -/

namespace Cert.HgOutDxIdeal.Meaning

open HgOutDxIdeal HgOutDxIdeal.Gen Idealize.ShloMosaic TcCoe Idealize.SL.Sem

section Body

variable {F : FTy → Type} [FloatOps F]

theorem body2 (x0 : Vec F S512x2048 .bf16) (x1 : Vec F S4x1x512x2048 .bf16) : out0_2 x0 x1 = k0_pay1 x1 x0 := by
  unfold out0_2
  rw [View.canon_unit_zero (S := S512x2048) hz2]
  simp only [View.ld_unit_zero (S := S4x1x512x2048) hz4, View.ld_unit_zero (S := S512x2048) hz2]

end Body

theorem value2 (x0 : Vec Ideal S512x2048 .bf16) (x1 : Vec Ideal S4x1x512x2048 .bf16) (a : Fin 512) (b : Fin 2048) : (k0_pay1 x1 x0 : FVec Ideal S512x2048 .f32) (ix2 a b) = (∑ k : Fin 2048, x0 (ix2 a k) * x1 (ix4 ⟨b.val / 512, by omega⟩ 0 ⟨b.val % 512, by omega⟩ k)) := by
  unfold_payloads
  pointwise
  try simp only [zero_add]

variable (m : (ℓ : Loc nD τ sig) → Buf (Elt Ideal) ℓ) (c : Dev nD) (t : Fin cfg0.N)

theorem lt_N (t : Fin cfg0.N) : t.val < 8 := lt_of_lt_of_eq t.isLt (show cfg0.N = 8 from N_0)

abbrev Xa (c : Dev nD) : S4096x2048.Idx → EReal := m ((c : Thread nD τ).loc main_arg0)
abbrev X0 : FVec Ideal S512x2048 .bf16 := iblk m c 0 t
abbrev Wt (c : Dev nD) : S4x1x512x2048.Idx → EReal := V m c main_v1
abbrev X1 : FVec Ideal S4x1x512x2048 .bf16 := iblk m c 1 t

theorem at0 : ∀ t : Fin grid0.N, win0_0.index t 0 = t.val ∧ win0_0.index t 1 = 0 := by decide +kernel

theorem at1 : ∀ t : Fin grid0.N, win0_1.index t 0 = 0 ∧ win0_1.index t 1 = 0 ∧ win0_1.index t 2 = 0 ∧ win0_1.index t 3 = 0 := by decide +kernel

theorem at2 : ∀ t : Fin grid0.N, win0_2.index t 0 = t.val ∧ win0_2.index t 1 = 0 := by decide +kernel

theorem read0 (a : Fin 512) (k : Fin 2048) :
    X0 m c t (ix2 a k) = Xa m c (ix2 (⟨t.val * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val * 512 + a.val, by have := lt_N t; omega⟩) (⟨k.val, by have := lt_N t; omega⟩) : S4096x2048.Idx) := by
    funext d
    apply Fin.ext
    match d with
    | ⟨0, _⟩ => show win0_0.index t 0 * 512 + 1 * a.val = t.val * 512 + a.val; rw [hi.1] <;> omega
    | ⟨1, _⟩ => show win0_0.index t 1 * 2048 + 1 * k.val = k.val; rw [hi.2] <;> omega
  exact congrArg _ e

theorem read1 (p : Fin 4) (r : Fin 512) (k : Fin 2048) :
    X1 m c t (ix4 p 0 r k) = Wt m c (ix4 (⟨p.val, by have := lt_N t; omega⟩) (⟨0, by have := lt_N t; omega⟩) (⟨r.val, by have := lt_N t; omega⟩) (⟨k.val, by have := lt_N t; omega⟩)) := by
  have hi := at1 t
  have hN := lt_N t
  unfold X1 iblk
  rw [View.read_apply]
  show V m c main_v1 _ = _
  show V m c main_v1 _ = V m c main_v1 _
  have e : ((cfg0.win 1).blk t).view.emb (ix4 p 0 r k : S4x1x512x2048.Idx) = (ix4 (⟨p.val, by have := lt_N t; omega⟩) (⟨0, by have := lt_N t; omega⟩) (⟨r.val, by have := lt_N t; omega⟩) (⟨k.val, by have := lt_N t; omega⟩) : S4x1x512x2048.Idx) := by
    funext d
    apply Fin.ext
    match d with
    | ⟨0, _⟩ => show win0_1.index t 0 * 4 + 1 * p.val = p.val; rw [hi.1] <;> omega
    | ⟨1, _⟩ => show win0_1.index t 1 * 1 + 1 * 0 = 0; rw [hi.2.1] <;> omega
    | ⟨2, _⟩ => show win0_1.index t 2 * 512 + 1 * r.val = r.val; rw [hi.2.2.1] <;> omega
    | ⟨3, _⟩ => show win0_1.index t 3 * 2048 + 1 * k.val = k.val; rw [hi.2.2.2] <;> omega
  exact congrArg _ e

/-- The product with the transposed weight, whose rows lie in four blocks. -/
def res (x : S4096x2048.Idx → EReal) (y : S4x1x512x2048.Idx → EReal) : S4096x2048.Idx → EReal :=
  fun i => (∑ k : Fin 2048, x (ix2 (i 0) k) * y (ix4 ⟨(i 1 : Nat) / 512, by have h : (i 1 : Nat) < 2048 := (i 1).isLt; omega⟩ 0 ⟨(i 1 : Nat) % 512, by omega⟩ k))

theorem emb2 (t : Fin cfg0.N) (a : Fin 512) (b : Fin 2048) :
    ((cfg0.win 2).blk t).view.emb (ix2 a b : S512x2048.Idx) = (ix2 (⟨t.val * 512 + a.val, by have := lt_N t; omega⟩) (⟨b.val, by have := lt_N t; omega⟩) : S4096x2048.Idx) := by
  have hi := at2 t
  have hN := lt_N t
  funext d
  apply Fin.ext
  match d with
  | ⟨0, _⟩ => show win0_2.index t 0 * 512 + 1 * a.val = t.val * 512 + a.val; rw [hi.1] <;> omega
  | ⟨1, _⟩ => show win0_2.index t 1 * 2048 + 1 * b.val = b.val; rw [hi.2] <;> omega

theorem flushed2_eq (hf : (cfg0.win 2).flush t = true) :
    (dats m 0 c).flushed 2 t = ((cfg0.win 2).blk t).view.read (Elt Ideal) (res (Xa m c) (Wt m c)) := by
  show (cfg0.win 2).cut (grid0.coords t) ((dats m 0 c).after 2 t) = _
  rw [after0_2, body2]
  funext i
  rw [View.read_apply]
  obtain ⟨a, b, rfl⟩ : ∃ (a : Fin 512) (b : Fin 2048), i = ix2 a b := ⟨i 0, i 1, by funext x; fin_cases x <;> rfl⟩
  refine (value2 (X0 m c t) (X1 m c t) a  b).trans ?_
  refine Eq.trans ?_ (congrArg (res (Xa m c) (Wt m c)) (emb2 t a  b)).symm
  have hN := lt_N t
  refine Finset.sum_congr rfl fun k _ => ?_
  have e0 := read0 m c t a k
  have e1 := read1 m c t ⟨b.val / 512, by omega⟩ ⟨b.val % 512, by omega⟩ k
  rw [e0, e1]
  rfl

theorem final2 (c : Dev nD) : (dats m 0 c).arrAt 2 cfg0.N = res (Xa m c) (Wt m c) :=
  (dats m 0 c).arrAt_eq_of_cover 2 _ (flushed2_eq m c) fun i => by
    have h0 : (i 0 : Nat) < 4096 := (i 0).isLt
    have h1 : (i 1 : Nat) < 2048 := (i 1).isLt
    let t : Fin cfg0.N := ⟨(i 0 : Nat) / 512, by show _ < grid0.N; rw [Gen.N_0]; omega⟩
    have hi := at2 t
    have ht : t.val = (i 0 : Nat) / 512 := rfl
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.HgOutDxIdeal.Meaning

end
-- ==== Proof.HgOutDxClaims.lean ====
module

public import proofs.«01_k».proof.Defs
public import proofs.«01_k».proof.Proof.Gen.HgOutDx.Frame
public import proofs.«01_k».proof.Proof.Gen.HgOutDxRefIdeal.Run
public import proofs.«01_k».proof.Proof.Gen.HgOutDxRefIdeal.Read
public import proofs.«01_k».proof.Proof.HgOutDxValue

@[expose] public section

set_option maxRecDepth 16384

noncomputable section

/-! The claims of `hg_out_dx`: the frames of the programs, and that both end with the same product. -/

namespace Cert.HgOutDxIdeal.Meaning

open HgOutDxIdeal HgOutDxIdeal.Gen Idealize.ShloMosaic TcCoe Idealize.SL.Sem

theorem frame_ref : quiescent_HgOutDxRefIdeal (hHgOutDxRefIdeal := HgOutDxRefIdeal.Gen.facts) :=
  fun m ρ _ => (θ_run HgOutDxRefIdeal.defs _ _).mono
    (fun r h => ⟨fun c => (h c).2, sem_eq_zero_of_no_sems (by decide) r.2⟩) (HgOutDxRefIdeal.Value.run m ρ)

/-- The gathered weight: row `r` of block `b` is row `512 b + r` of the weight. -/
def gath (w : S2048x2048.Idx → EReal) : S4x1x512x2048.Idx → EReal := fun i =>
  w (ix2 ⟨(i 0 : Nat) * 512 + (i 2 : Nat), by have h0 : (i 0 : Nat) < 4 := (i 0).isLt; have h2 : (i 2 : Nat) < 512 := (i 2).isLt; omega⟩ (i 3))

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold gath
  pointwise

theorem ref_0 (x : FVec Ideal S4096x2048 .bf16) (w : FVec Ideal S2048x2048 .f32) : HgOutDxRefIdeal.Read.val_main_v3 (F := Ideal) x w = res x (gath w) := by
  funext i
  obtain ⟨p, q, rfl⟩ : ∃ (p : Fin 4096) (q : Fin 2048), i = ix2 p q := ⟨i 0, i 1, by funext x; fin_cases x <;> rfl⟩
  unfold res gath
  open HgOutDxRefIdeal.Read in
  pointwise [val_main_v3, val_main_v2]
  refine Finset.sum_congr rfl fun k _ => congrArg₂ (· * ·) rfl (congrArg w ?_)
  funext d
  apply Fin.ext
  match d with
  | ⟨0, _⟩ => show q.val = q.val / 512 * 512 + q.val % 512; omega
  | ⟨1, _⟩ => rfl

theorem algebraic : algebraic_HgOutDxIdeal_HgOutDxRefIdeal (hHgOutDxIdeal := HgOutDxIdeal.Gen.facts) (hHgOutDxRefIdeal := HgOutDxRefIdeal.Gen.facts) := by
  intro m g m' g' _ hargs
  refine ⟨fun c => res (Xa m c) (gath (m ((c : Thread nD τ).loc main_arg1))), ?_, ?_⟩
  · exact (θ_run HgOutDxIdeal.defs _ _).mono (fun r h c => ⟨(h c).1.trans ((final2 m c).trans (congrArg _ (Wt_eq m c))), (h c).2⟩) (HgOutDxIdeal.Value.run_blocks m g)
  · refine (θ_run HgOutDxRefIdeal.defs _ _).mono (fun r h c => ?_) (HgOutDxRefIdeal.Value.run m' g')
    obtain ⟨a0, a1⟩ := hargs c
    obtain ⟨e0, k⟩ := h c
    refine ⟨e0.trans ?_, k⟩
    · refine (HgOutDxRefIdeal.Read.val_main_v3_eq _ _).trans ?_
      rw [a0, a1]
      exact ref_0 _ _

end Cert.HgOutDxIdeal.Meaning

end
-- ==== Proof.HgOutDwValue.lean ====
module

public import proofs.«01_k».proof.Proof.Gen.HgOutDwIdeal.Value
public import proofs.«01_k».proof.Proof.Common

@[expose] public section

set_option maxRecDepth 16384
set_option maxHeartbeats 1000000

noncomputable section

/-! The blocks of the product accumulate over the 4 blocks of the summed axis; the last one is written out. -/

namespace Cert.HgOutDwIdeal.Meaning

open HgOutDwIdeal HgOutDwIdeal.Gen Idealize.ShloMosaic TcCoe Idealize.SL.Sem

section Body

variable {F : FTy → Type} [FloatOps F]

section Points

variable (c : Dev nD) (i : grid0.Coords) (arg3 : Memref sig .tc .vmem S1024x2048 .bf16) (harg3 : arg3.IsWhole) (arg4 : Memref sig .tc .vmem S1024x1024 .bf16) (harg4 : arg4.IsWhole) (arg6 : Memref sig .tc .vmem S4x1x512x1024 .bf16) (harg6 : arg6.IsWhole) (arg7 : Memref sig .tc .vmem S2048x1024 .f32) (harg7 : arg7.IsWhole)

theorem first_point (hc0 : cond0_0 i) (hc1 : ¬cond0_1 i) (hc2 : ¬cond0_2 i)
    (x0 : Vec F S1024x2048 .bf16) (x1 : Vec F S1024x1024 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S2048x1024) hz2]
  try rw [View.canon_unit_zero (S := S2048x1024) hz2]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

theorem middle_point (hc0 : ¬cond0_0 i) (hc1 : cond0_1 i) (hc2 : ¬cond0_2 i)
    (x0 : Vec F S1024x2048 .bf16) (x1 : Vec F S1024x1024 .bf16) (xs0 : Vec F S2048x1024 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S2048x1024) hz2]
  try rw [View.canon_unit_zero (S := S2048x1024) hz2]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

theorem last_point (hc0 : ¬cond0_0 i) (hc1 : ¬cond0_1 i) (hc2 : cond0_2 i)
    (x0 : Vec F S1024x2048 .bf16) (x1 : Vec F S1024x1024 .bf16) (xs0 : Vec F S2048x1024 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S4x1x512x1024) hz4]
  try rw [View.canon_unit_zero (S := S4x1x512x1024) hz4]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

end Points

end Body

theorem first_value (x0 : Vec Ideal S1024x2048 .bf16) (x1 : Vec Ideal S1024x1024 .bf16) (a : Fin 2048) (b : Fin 1024) :
    k0_pay2 (F := Ideal) x1 x0 (ix2 a b) = ∑ k : Fin 1024, x0 (ix2 k a) * x1 (ix2 k b) := by
  unfold_payloads
  pointwise
  try simp only [zero_add]

theorem middle_value (x0 : Vec Ideal S1024x2048 .bf16) (x1 : Vec Ideal S1024x1024 .bf16) (s : FVec Ideal S2048x1024 .f32) (a : Fin 2048) (b : Fin 1024) :
    k0_pay3 (F := Ideal) x1 x0 s (ix2 a b) = s (ix2 a b) + ∑ k : Fin 1024, x0 (ix2 k a) * x1 (ix2 k b) := by
  unfold_payloads
  pointwise
  try simp only [zero_add]

theorem last_value (x0 : Vec Ideal S1024x2048 .bf16) (x1 : Vec Ideal S1024x1024 .bf16) (s : FVec Ideal S2048x1024 .f32) (a : Fin 2048) (b : Fin 1024) :
    k0_pay4 (F := Ideal) x1 x0 s (ix4 (⟨a.val / 512, by omega⟩) (0) (⟨a.val % 512, by omega⟩) (b)) = s (ix2 a b) + ∑ k : Fin 1024, x0 (ix2 k a) * x1 (ix2 k b) := by
  unfold_payloads
  pointwise
  try simp only [zero_add]

variable (m : (ℓ : Loc nD τ sig) → Buf (Elt Ideal) ℓ) (c : Dev nD) (t : Fin cfg0.N)

theorem lt_N (t : Fin cfg0.N) : t.val < 8 := lt_of_lt_of_eq t.isLt (show cfg0.N = 8 from N_0)

abbrev Act (c : Dev nD) : S4096x2048.Idx → EReal := m ((c : Thread nD τ).loc main_arg0)
abbrev Dm (c : Dev nD) : S4096x2048.Idx → EReal := m ((c : Thread nD τ).loc main_arg1)

abbrev X0 : FVec Ideal S1024x2048 .bf16 := iblk m c 0 t
abbrev X1 : FVec Ideal S1024x1024 .bf16 := iblk m c 1 t

theorem at0 : ∀ t : Fin grid0.N, win0_0.index t 0 = t.val % 4 ∧ win0_0.index t 1 = 0 := by decide +kernel

theorem at1 : ∀ t : Fin grid0.N, win0_1.index t 0 = t.val % 4 ∧ win0_1.index t 1 = t.val / 4 := by decide +kernel

theorem at2 : ∀ t : Fin grid0.N, win0_2.index t 0 = 0 ∧ win0_2.index t 1 = 0 ∧ win0_2.index t 2 = 0 ∧ win0_2.index t 3 = t.val / 4 := by decide +kernel

theorem read0 (a : Fin 2048) (b k : Fin 1024) :
    X0 m c t (ix2 k a) = Act m c (ix2 (⟨t.val % 4 * 1024 + k.val, by omega⟩) (⟨a.val, by omega⟩)) := by
  have hi := at0 t
  have hN := lt_N t
  unfold X0 iblk
  rw [View.read_apply]
  show V m c main_arg0 _ = _
  rw [V_main_arg0]
  unfold Act
  have e : ((cfg0.win 0).blk t).view.emb (ix2 k a : S1024x2048.Idx) = (ix2 (⟨t.val % 4 * 1024 + k.val, by omega⟩) (⟨a.val, by omega⟩) : S4096x2048.Idx) := by
    funext d
    apply Fin.ext
    match d with
    | ⟨0, _⟩ => show win0_0.index t 0 * 1024 + 1 * k.val = t.val % 4 * 1024 + k.val; rw [hi.1] <;> omega
    | ⟨1, _⟩ => show win0_0.index t 1 * 2048 + 1 * a.val = a.val; rw [hi.2] <;> omega
  exact congrArg _ e

theorem read1 (a : Fin 2048) (b k : Fin 1024) :
    X1 m c t (ix2 k b) = Dm m c (ix2 (⟨t.val % 4 * 1024 + k.val, by omega⟩) (⟨t.val / 4 % 2 * 1024 + b.val, by omega⟩)) := by
  have hi := at1 t
  have hN := lt_N t
  unfold X1 iblk
  rw [View.read_apply]
  show V m c main_arg1 _ = _
  rw [V_main_arg1]
  unfold Dm
  have e : ((cfg0.win 1).blk t).view.emb (ix2 k b : S1024x1024.Idx) = (ix2 (⟨t.val % 4 * 1024 + k.val, by omega⟩) (⟨t.val / 4 % 2 * 1024 + b.val, by omega⟩) : S4096x2048.Idx) := by
    funext d
    apply Fin.ext
    match d with
    | ⟨0, _⟩ => show win0_1.index t 0 * 1024 + 1 * k.val = t.val % 4 * 1024 + k.val; rw [hi.1] <;> omega
    | ⟨1, _⟩ => show win0_1.index t 1 * 1024 + 1 * b.val = t.val / 4 % 2 * 1024 + b.val; rw [hi.2] <;> omega
  exact congrArg _ e

/-- The `i`-th block of the summed axis in the product of the output's `q`-th block. -/
def piece (c : Dev nD) (q i : Nat) (a : Fin 2048) (b : Fin 1024) : EReal :=
  ∑ k : Fin 1024, Act m c (ix2 (⟨i % 4 * 1024 + k.val, by omega⟩) (⟨a.val, by omega⟩)) * Dm m c (ix2 (⟨i % 4 * 1024 + k.val, by omega⟩) (⟨q % 2 * 1024 + b.val, by omega⟩))

theorem piece_at (a : Fin 2048) (b : Fin 1024) :
    (∑ k : Fin 1024, X0 m c t (ix2 k a) * X1 m c t (ix2 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show a.val = a.val; omega
  · funext d
    apply Fin.ext
    match d with
    | ⟨0, _⟩ => show t.val % 4 * 1024 + k.val = (t.val % 4) % 4 * 1024 + k.val; omega
    | ⟨1, _⟩ => show t.val / 4 % 2 * 1024 + b.val = (t.val / 4) % 2 * 1024 + b.val; omega

theorem acc_first (h : t.val % 4 = 0) (a : Fin 2048) (b : Fin 1024) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 2048) (b : Fin 1024) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 2048) (b : Fin 1024) :
    (outsAt0 m c t.val t.isLt).1 (ix4 (⟨a.val / 512, by omega⟩) (0) (⟨a.val % 512, by omega⟩) (b)) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 (⟨a.val / 512, by omega⟩) (0) (⟨a.val % 512, by omega⟩) (b))).trans ?_
  exact (last_value _ _ _ a b).trans (congrArg (_ + ·) (piece_at m c t a b))

theorem acc_apply (c : Dev nD) (a : Fin 2048) (b : Fin 1024) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 2048) (b : Fin 1024) :
    (outsAt0 m c t.val t.isLt).1 (ix4 (⟨a.val / 512, by omega⟩) (0) (⟨a.val % 512, by omega⟩) (b)) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x y : S4096x2048.Idx → EReal) : S4x1x512x2048.Idx → EReal :=
  fun i => ∑ k : Fin 4096, x (ix2 k (⟨(i 0 : Nat) * 512 + (i 2 : Nat), by have h0 : (i 0 : Nat) < 4 := (i 0).isLt; have h2 : (i 2 : Nat) < 512 := (i 2).isLt; omega⟩)) * y (ix2 k (i 3))

theorem out_res (h : t.val % 4 = 3) (a : Fin 2048) (b : Fin 1024) :
    (outsAt0 m c t.val t.isLt).1 (ix4 (⟨a.val / 512, by omega⟩) (0) (⟨a.val % 512, by omega⟩) (b)) = res (Act m c) (Dm m c) (((cfg0.win 2).blk t).view.emb (ix4 (⟨a.val / 512, by omega⟩) (0) (⟨a.val % 512, by omega⟩) (b) : S4x1x512x1024.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show a.val = (win0_2.index t 0 * 4 + 1 * (a.val / 512)) * 512 + (win0_2.index t 2 * 512 + 1 * (a.val % 512)); rw [hi.1, hi.2.2.1] <;> omega
  · funext d
    apply Fin.ext
    match d with
    | ⟨0, _⟩ => show i.val % 4 * 1024 + k.val = i.val * 1024 + k.val; omega
    | ⟨1, _⟩ => show (t.val / 4) % 2 * 1024 + b.val = win0_2.index t 3 * 1024 + 1 * b.val; rw [hi.2.2.2] <;> omega

theorem flushed_eq (c : Dev nD) : ∀ t : Fin cfg0.N, (cfg0.win 2).flush t = true →
    (dats m 0 c).flushed 2 t = ((cfg0.win 2).blk t).view.read (Elt Ideal) (res (Act m c) (Dm m c)) := by
  intro t hf
  have ht := (flush0_2 t).mp hf
  show (cfg0.win 2).cut (grid0.coords t) ((dats m 0 c).after 2 t) = _
  rw [after0_2]
  funext i
  rw [View.read_apply]
  obtain ⟨u, v, s, b, rfl⟩ : ∃ (u : Fin 4) (v : Fin 1) (s : Fin 512) (b : Fin 1024), i = ix4 u v s b := ⟨i 0, i 1, i 2, i 3, by funext x; fin_cases x <;> first | rfl | exact Subsingleton.elim _ _⟩
  obtain rfl : v = 0 := Subsingleton.elim _ _
  have e : (ix4 u 0 s b : S4x1x512x1024.Idx) = ix4 ⟨(u.val * 512 + s.val) / 512, by omega⟩ 0 ⟨(u.val * 512 + s.val) % 512, by omega⟩ b := by
    refine congrArg₂ (fun (x : Fin 4) (y : Fin 512) => (ix4 x 0 y b : S4x1x512x1024.Idx)) (Fin.ext ?_) (Fin.ext ?_)
    · show u.val = (u.val * 512 + s.val) / 512; omega
    · show s.val = (u.val * 512 + s.val) % 512; omega
  show (outsAt0 m c t.val t.isLt).1 (ix4 u 0 s b) = _
  rw [e]
  exact out_res m c t (by omega) ⟨u.val * 512 + s.val, by omega⟩ b

theorem final (c : Dev nD) : (dats m 0 c).arrAt 2 cfg0.N = res (Act m c) (Dm m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 512 := (i 2).isLt
    have h3 : (i 3 : Nat) < 2048 := (i 3).isLt
    let t : Fin cfg0.N := ⟨(i 3 : Nat) / 1024 * 4 + 3, by show _ < grid0.N; rw [Gen.N_0]; omega⟩
    have hi := at2 t
    have ht : t.val = (i 3 : Nat) / 1024 * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 4 ≤ (i 0 : Nat) ∧ (i 0 : Nat) < win0_2.index t 0 * 4 + 4
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 512 ≤ (i 2 : Nat) ∧ (i 2 : Nat) < win0_2.index t 2 * 512 + 512
      rw [hi.2.2.1]; omega
    | ⟨3, _⟩ =>
      show win0_2.index t 3 * 1024 ≤ (i 3 : Nat) ∧ (i 3 : Nat) < win0_2.index t 3 * 1024 + 1024
      rw [hi.2.2.2]; omega

end Cert.HgOutDwIdeal.Meaning

end
-- ==== Proof.HgOutDwClaims.lean ====
module

public import proofs.«01_k».proof.Defs
public import proofs.«01_k».proof.Proof.Gen.HgOutDw.Frame
public import proofs.«01_k».proof.Proof.Gen.HgOutDwRefIdeal.Run
public import proofs.«01_k».proof.Proof.Gen.HgOutDwRefIdeal.Read
public import proofs.«01_k».proof.Proof.HgOutDwValue

@[expose] public section

set_option maxRecDepth 16384

noncomputable section

/-! The claims of `hg_out_dw`: the frames of the programs, and that both end with the same product. -/

namespace Cert.HgOutDwIdeal.Meaning

open HgOutDwIdeal HgOutDwIdeal.Gen Idealize.ShloMosaic TcCoe Idealize.SL.Sem

theorem frame_ref : quiescent_HgOutDwRefIdeal (hHgOutDwRefIdeal := HgOutDwRefIdeal.Gen.facts) :=
  fun m ρ _ => (θ_run HgOutDwRefIdeal.defs _ _).mono
    (fun r h => ⟨fun c => (h c).2, sem_eq_zero_of_no_sems (by decide) r.2⟩) (HgOutDwRefIdeal.Value.run m ρ)

theorem ref_0 (x y : FVec Ideal S4096x2048 .bf16) : HgOutDwRefIdeal.Read.val_main_v7 (F := Ideal) x y = res x y := by
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold res
  open HgOutDwRefIdeal.Read in
  pointwise [val_main_v7, val_main_v6, val_main_v5, val_main_v4, val_main_v3, val_main_v1]
  exact Finset.sum_congr rfl fun k _ => mul_comm (G := EReal) _ _

theorem algebraic : algebraic_HgOutDwIdeal_HgOutDwRefIdeal (hHgOutDwIdeal := HgOutDwIdeal.Gen.facts) (hHgOutDwRefIdeal := HgOutDwRefIdeal.Gen.facts) := by
  intro m g m' g' _ hargs
  refine ⟨fun c => res (Act m c) (Dm m c), ?_, ?_⟩
  · exact (θ_run HgOutDwIdeal.defs _ _).mono (fun r h c => ⟨(h c).1.trans (final m c), (h c).2⟩) (HgOutDwIdeal.Value.run_blocks m g)
  · refine (θ_run HgOutDwRefIdeal.defs _ _).mono (fun r h c => ?_) (HgOutDwRefIdeal.Value.run m' g')
    obtain ⟨a0, a1, a2⟩ := hargs c
    obtain ⟨e0, k⟩ := h c
    refine ⟨e0.trans ?_, k⟩
    · refine (HgOutDwRefIdeal.Read.val_main_v7_eq _ _).trans ?_
      rw [a0, a1]
      exact ref_0 _ _

end Cert.HgOutDwIdeal.Meaning

end
-- ==== Proof.PleGateValue.lean ====
module

public import proofs.«01_k».proof.Proof.Gen.PleGateIdeal.Value
public import proofs.«01_k».proof.Proof.Common

@[expose] public section

set_option maxRecDepth 16384

noncomputable section

/-! Each block of the product is a block of rows times a block of columns of the weight, whose rows lie in four blocks. -/

namespace Cert.PleGateIdeal.Meaning

open PleGateIdeal PleGateIdeal.Gen Idealize.ShloMosaic TcCoe Idealize.SL.Sem

section Body

variable {F : FTy → Type} [FloatOps F]

theorem body2 (x0 : Vec F S512x2048 .f32) (x1 : Vec F S4x1x512x1024 .bf16) : out0_2 x0 x1 = k0_pay1 x1 x0 := by
  unfold out0_2
  rw [View.canon_unit_zero (S := S512x1024) hz2]
  simp only [View.ld_unit_zero (S := S4x1x512x1024) hz4, View.ld_unit_zero (S := S512x2048) hz2]

end Body

theorem value2 (x0 : Vec Ideal S512x2048 .f32) (x1 : Vec Ideal S4x1x512x1024 .bf16) (a : Fin 512) (b : Fin 1024) : (k0_pay1 x1 x0 : FVec Ideal S512x1024 .f32) (ix2 a b) = ∑ k : Fin 2048, x0 (ix2 a k) * x1 (ix4 ⟨k.val / 512, by omega⟩ 0 ⟨k.val % 512, by omega⟩ b) := by
  unfold_payloads
  pointwise
  try simp only [zero_add]

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

abbrev Xa (c : Dev nD) : S4096x2048.Idx → EReal := m ((c : Thread nD τ).loc main_arg0)
abbrev X0 : FVec Ideal S512x2048 .f32 := iblk m c 0 t
abbrev Wt (c : Dev nD) : S4x1x512x2048.Idx → EReal := V m c main_v1
abbrev X1 : FVec Ideal S4x1x512x1024 .bf16 := iblk m c 1 t

theorem at0 : ∀ t : Fin grid0.N, win0_0.index t 0 = t.val / 2 ∧ win0_0.index t 1 = 0 := by decide +kernel

theorem at1 : ∀ t : Fin grid0.N, win0_1.index t 0 = 0 ∧ win0_1.index t 1 = 0 ∧ win0_1.index t 2 = 0 ∧ win0_1.index t 3 = t.val % 2 := by decide +kernel

theorem at2 : ∀ t : Fin grid0.N, win0_2.index t 0 = t.val / 2 ∧ win0_2.index t 1 = t.val % 2 := by decide +kernel

theorem read0 (a : Fin 512) (k : Fin 2048) :
    X0 m c t (ix2 a k) = Xa m c (ix2 (⟨t.val / 2 * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val / 2 * 512 + a.val, by have := lt_N t; omega⟩) (⟨k.val, by have := lt_N t; omega⟩) : S4096x2048.Idx) := by
    funext d
    apply Fin.ext
    match d with
    | ⟨0, _⟩ => show win0_0.index t 0 * 512 + 1 * a.val = t.val / 2 * 512 + a.val; rw [hi.1] <;> omega
    | ⟨1, _⟩ => show win0_0.index t 1 * 2048 + 1 * k.val = k.val; rw [hi.2] <;> omega
  exact congrArg _ e

theorem read1 (b : Fin 1024) (p : Fin 4) (r : Fin 512) :
    X1 m c t (ix4 p 0 r b) = Wt m c (ix4 (⟨p.val, by have := lt_N t; omega⟩) (⟨0, by have := lt_N t; omega⟩) (⟨r.val, by have := lt_N t; omega⟩) (⟨t.val % 2 * 1024 + b.val, by have := lt_N t; omega⟩)) := by
  have hi := at1 t
  have hN := lt_N t
  unfold X1 iblk
  rw [View.read_apply]
  show V m c main_v1 _ = _
  show V m c main_v1 _ = V m c main_v1 _
  have e : ((cfg0.win 1).blk t).view.emb (ix4 p 0 r b : S4x1x512x1024.Idx) = (ix4 (⟨p.val, by have := lt_N t; omega⟩) (⟨0, by have := lt_N t; omega⟩) (⟨r.val, by have := lt_N t; omega⟩) (⟨t.val % 2 * 1024 + b.val, by have := lt_N t; omega⟩) : S4x1x512x2048.Idx) := by
    funext d
    apply Fin.ext
    match d with
    | ⟨0, _⟩ => show win0_1.index t 0 * 4 + 1 * p.val = p.val; rw [hi.1] <;> omega
    | ⟨1, _⟩ => show win0_1.index t 1 * 1 + 1 * 0 = 0; rw [hi.2.1] <;> omega
    | ⟨2, _⟩ => show win0_1.index t 2 * 512 + 1 * r.val = r.val; rw [hi.2.2.1] <;> omega
    | ⟨3, _⟩ => show win0_1.index t 3 * 1024 + 1 * b.val = t.val % 2 * 1024 + b.val; rw [hi.2.2.2] <;> omega
  exact congrArg _ e

/-- The product with the weight, whose rows lie in four blocks. -/
def res (x : S4096x2048.Idx → EReal) (y : S4x1x512x2048.Idx → EReal) : S4096x2048.Idx → EReal :=
  fun i => ∑ k : Fin 2048, x (ix2 (i 0) k) * y (ix4 ⟨k.val / 512, by omega⟩ 0 ⟨k.val % 512, by omega⟩ (i 1))

theorem emb2 (t : Fin cfg0.N) (a : Fin 512) (b : Fin 1024) :
    ((cfg0.win 2).blk t).view.emb (ix2 a b : S512x1024.Idx) = (ix2 (⟨t.val / 2 * 512 + a.val, by have := lt_N t; omega⟩) (⟨t.val % 2 * 1024 + b.val, by have := lt_N t; omega⟩) : S4096x2048.Idx) := by
  have hi := at2 t
  have hN := lt_N t
  funext d
  apply Fin.ext
  match d with
  | ⟨0, _⟩ => show win0_2.index t 0 * 512 + 1 * a.val = t.val / 2 * 512 + a.val; rw [hi.1] <;> omega
  | ⟨1, _⟩ => show win0_2.index t 1 * 1024 + 1 * b.val = t.val % 2 * 1024 + b.val; rw [hi.2] <;> omega

theorem flushed2_eq (hf : (cfg0.win 2).flush t = true) :
    (dats m 0 c).flushed 2 t = ((cfg0.win 2).blk t).view.read (Elt Ideal) (res (Xa m c) (Wt m c)) := by
  show (cfg0.win 2).cut (grid0.coords t) ((dats m 0 c).after 2 t) = _
  rw [after0_2, body2]
  funext i
  rw [View.read_apply]
  obtain ⟨a, b, rfl⟩ : ∃ (a : Fin 512) (b : Fin 1024), i = ix2 a b := ⟨i 0, i 1, by funext x; fin_cases x <;> rfl⟩
  refine (value2 (X0 m c t) (X1 m c t) a  b).trans ?_
  refine Eq.trans ?_ (congrArg (res (Xa m c) (Wt m c)) (emb2 t a  b)).symm
  have hN := lt_N t
  refine Finset.sum_congr rfl fun k _ => ?_
  have e0 := read0 m c t a k
  have e1 := read1 m c t b ⟨k.val / 512, by omega⟩ ⟨k.val % 512, by omega⟩
  rw [e0, e1]
  rfl

theorem final2 (c : Dev nD) : (dats m 0 c).arrAt 2 cfg0.N = res (Xa m c) (Wt m c) :=
  (dats m 0 c).arrAt_eq_of_cover 2 _ (flushed2_eq m c) fun i => by
    have h0 : (i 0 : Nat) < 4096 := (i 0).isLt
    have h1 : (i 1 : Nat) < 2048 := (i 1).isLt
    let t : Fin cfg0.N := ⟨(i 0 : Nat) / 512 * 2 + (i 1 : Nat) / 1024, by show _ < grid0.N; rw [Gen.N_0]; omega⟩
    have hi := at2 t
    have ht : t.val = (i 0 : Nat) / 512 * 2 + (i 1 : Nat) / 1024 := rfl
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 1024 ≤ (i 1 : Nat) ∧ (i 1 : Nat) < win0_2.index t 1 * 1024 + 1024
      rw [hi.2]; omega

end Cert.PleGateIdeal.Meaning

end
-- ==== Proof.PleGateClaims.lean ====
module

public import proofs.«01_k».proof.Defs
public import proofs.«01_k».proof.Proof.Gen.PleGate.Frame
public import proofs.«01_k».proof.Proof.Gen.PleGateRefIdeal.Run
public import proofs.«01_k».proof.Proof.Gen.PleGateRefIdeal.Read
public import proofs.«01_k».proof.Proof.PleGateValue

@[expose] public section

set_option maxRecDepth 16384

noncomputable section

/-! The claims of `ple_gate`: the frames of the programs, and that both end with the same product. -/

namespace Cert.PleGateIdeal.Meaning

open PleGateIdeal PleGateIdeal.Gen Idealize.ShloMosaic TcCoe Idealize.SL.Sem

theorem frame_ref : quiescent_PleGateRefIdeal (hPleGateRefIdeal := PleGateRefIdeal.Gen.facts) :=
  fun m ρ _ => (θ_run PleGateRefIdeal.defs _ _).mono
    (fun r h => ⟨fun c => (h c).2, sem_eq_zero_of_no_sems (by decide) r.2⟩) (PleGateRefIdeal.Value.run m ρ)

/-- The gathered weight: row `r` of block `b` is row `512 b + r` of the weight. -/
def gath (w : S2048x2048.Idx → EReal) : S4x1x512x2048.Idx → EReal := fun i =>
  w (ix2 ⟨(i 0 : Nat) * 512 + (i 2 : Nat), by have h0 : (i 0 : Nat) < 4 := (i 0).isLt; have h2 : (i 2 : Nat) < 512 := (i 2).isLt; omega⟩ (i 3))

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold gath
  pointwise

theorem ref_0 (x : FVec Ideal S4096x2048 .f32) (w : FVec Ideal S2048x2048 .f32) : PleGateRefIdeal.Read.val_main_v0 (F := Ideal) x w = res x (gath w) := by
  funext i
  obtain ⟨p, q, rfl⟩ : ∃ (p : Fin 4096) (q : Fin 2048), i = ix2 p q := ⟨i 0, i 1, by funext x; fin_cases x <;> rfl⟩
  unfold res gath
  open PleGateRefIdeal.Read in
  pointwise [val_main_v0]
  refine Finset.sum_congr rfl fun k _ => congrArg₂ (· * ·) rfl (congrArg w ?_)
  funext d
  apply Fin.ext
  match d with
  | ⟨0, _⟩ => show k.val = k.val / 512 * 512 + k.val % 512; omega
  | ⟨1, _⟩ => rfl

theorem algebraic : algebraic_PleGateIdeal_PleGateRefIdeal (hPleGateIdeal := PleGateIdeal.Gen.facts) (hPleGateRefIdeal := PleGateRefIdeal.Gen.facts) := by
  intro m g m' g' _ hargs
  refine ⟨fun c => res (Xa m c) (gath (m ((c : Thread nD τ).loc main_arg1))), ?_, ?_⟩
  · exact (θ_run PleGateIdeal.defs _ _).mono (fun r h c => ⟨(h c).1.trans ((final2 m c).trans (congrArg _ (Wt_eq m c))), (h c).2⟩) (PleGateIdeal.Value.run_blocks m g)
  · refine (θ_run PleGateRefIdeal.defs _ _).mono (fun r h c => ?_) (PleGateRefIdeal.Value.run m' g')
    obtain ⟨a0, a1⟩ := hargs c
    obtain ⟨e0, k⟩ := h c
    refine ⟨e0.trans ?_, k⟩
    · refine (PleGateRefIdeal.Read.val_main_v0_eq _ _).trans ?_
      rw [a0, a1]
      exact ref_0 _ _

end Cert.PleGateIdeal.Meaning

end
-- ==== Proof.PleGateDxValue.lean ====
module

public import proofs.«01_k».proof.Proof.Gen.PleGateDxIdeal.Value
public import proofs.«01_k».proof.Proof.Common

@[expose] public section

set_option maxRecDepth 16384

noncomputable section

/-! Each block of rows of the gradient is a block of rows of the incoming gradient times the transposed weight. -/

namespace Cert.PleGateDxIdeal.Meaning

open PleGateDxIdeal PleGateDxIdeal.Gen Idealize.ShloMosaic TcCoe Idealize.SL.Sem

section Body

variable {F : FTy → Type} [FloatOps F]

theorem body3 (x0 : Vec F S512x2048 .bf16) (x1 : Vec F S4x1x512x2048 .bf16) (x2 : Vec F S512x2048 .f32) : out0_3 x0 x1 x2 = k0_pay1 x1 x0 x2 := by
  unfold out0_3
  rw [View.canon_unit_zero (S := S512x2048) hz2]
  simp only [View.ld_unit_zero (S := S4x1x512x2048) hz4, View.ld_unit_zero (S := S512x2048) hz2]

end Body

theorem value3 (x0 : Vec Ideal S512x2048 .bf16) (x1 : Vec Ideal S4x1x512x2048 .bf16) (x2 : Vec Ideal S512x2048 .f32) (a : Fin 512) (b : Fin 2048) : (k0_pay1 x1 x0 x2 : FVec Ideal S512x2048 .f32) (ix2 a b) = (∑ k : Fin 2048, x0 (ix2 a k) * x1 (ix4 ⟨b.val / 512, by omega⟩ 0 ⟨b.val % 512, by omega⟩ k)) + x2 (ix2 a b) := by
  unfold_payloads
  pointwise
  try simp only [zero_add]

variable (m : (ℓ : Loc nD τ sig) → Buf (Elt Ideal) ℓ) (c : Dev nD) (t : Fin cfg0.N)

theorem lt_N (t : Fin cfg0.N) : t.val < 8 := lt_of_lt_of_eq t.isLt (show cfg0.N = 8 from N_0)

abbrev Xa (c : Dev nD) : S4096x2048.Idx → EReal := m ((c : Thread nD τ).loc main_arg0)
abbrev X0 : FVec Ideal S512x2048 .bf16 := iblk m c 0 t
abbrev Wt (c : Dev nD) : S4x1x512x2048.Idx → EReal := V m c main_v1
abbrev X1 : FVec Ideal S4x1x512x2048 .bf16 := iblk m c 1 t
abbrev Dh (c : Dev nD) : S4096x2048.Idx → EReal := m ((c : Thread nD τ).loc main_arg2)
abbrev X2 : FVec Ideal S512x2048 .f32 := iblk m c 2 t

theorem at0 : ∀ t : Fin grid0.N, win0_0.index t 0 = t.val ∧ win0_0.index t 1 = 0 := by decide +kernel

theorem at1 : ∀ t : Fin grid0.N, win0_1.index t 0 = 0 ∧ win0_1.index t 1 = 0 ∧ win0_1.index t 2 = 0 ∧ win0_1.index t 3 = 0 := by decide +kernel

theorem at2 : ∀ t : Fin grid0.N, win0_2.index t 0 = t.val ∧ win0_2.index t 1 = 0 := by decide +kernel

theorem at3 : ∀ t : Fin grid0.N, win0_3.index t 0 = t.val ∧ win0_3.index t 1 = 0 := by decide +kernel

theorem read0 (a : Fin 512) (k : Fin 2048) :
    X0 m c t (ix2 a k) = Xa m c (ix2 (⟨t.val * 512 + a.val, by have := lt_N t; omega⟩) (⟨k.val, by have := lt_N t; omega⟩)) := by
  have hi := at0 t
  have hN := lt_N t
  unfold X0 iblk
  rw [View.read_apply]
  show V m c main_arg0 _ = _
  rw [V_main_arg0]
  unfold Xa
  have e : ((cfg0.win 0).blk t).view.emb (ix2 a k : S512x2048.Idx) = (ix2 (⟨t.val * 512 + a.val, by have := lt_N t; omega⟩) (⟨k.val, by have := lt_N t; omega⟩) : S4096x2048.Idx) := by
    funext d
    apply Fin.ext
    match d with
    | ⟨0, _⟩ => show win0_0.index t 0 * 512 + 1 * a.val = t.val * 512 + a.val; rw [hi.1] <;> omega
    | ⟨1, _⟩ => show win0_0.index t 1 * 2048 + 1 * k.val = k.val; rw [hi.2] <;> omega
  exact congrArg _ e

theorem read1 (p : Fin 4) (r : Fin 512) (k : Fin 2048) :
    X1 m c t (ix4 p 0 r k) = Wt m c (ix4 (⟨p.val, by have := lt_N t; omega⟩) (⟨0, by have := lt_N t; omega⟩) (⟨r.val, by have := lt_N t; omega⟩) (⟨k.val, by have := lt_N t; omega⟩)) := by
  have hi := at1 t
  have hN := lt_N t
  unfold X1 iblk
  rw [View.read_apply]
  show V m c main_v1 _ = _
  show V m c main_v1 _ = V m c main_v1 _
  have e : ((cfg0.win 1).blk t).view.emb (ix4 p 0 r k : S4x1x512x2048.Idx) = (ix4 (⟨p.val, by have := lt_N t; omega⟩) (⟨0, by have := lt_N t; omega⟩) (⟨r.val, by have := lt_N t; omega⟩) (⟨k.val, by have := lt_N t; omega⟩) : S4x1x512x2048.Idx) := by
    funext d
    apply Fin.ext
    match d with
    | ⟨0, _⟩ => show win0_1.index t 0 * 4 + 1 * p.val = p.val; rw [hi.1] <;> omega
    | ⟨1, _⟩ => show win0_1.index t 1 * 1 + 1 * 0 = 0; rw [hi.2.1] <;> omega
    | ⟨2, _⟩ => show win0_1.index t 2 * 512 + 1 * r.val = r.val; rw [hi.2.2.1] <;> omega
    | ⟨3, _⟩ => show win0_1.index t 3 * 2048 + 1 * k.val = k.val; rw [hi.2.2.2] <;> omega
  exact congrArg _ e

theorem read2 (a : Fin 512) (b : Fin 2048) :
    X2 m c t (ix2 a b) = Dh m c (ix2 (⟨t.val * 512 + a.val, by have := lt_N t; omega⟩) (⟨b.val, by have := lt_N t; omega⟩)) := by
  have hi := at2 t
  have hN := lt_N t
  unfold X2 iblk
  rw [View.read_apply]
  show V m c main_arg2 _ = _
  rw [V_main_arg2]
  unfold Dh
  have e : ((cfg0.win 2).blk t).view.emb (ix2 a b : S512x2048.Idx) = (ix2 (⟨t.val * 512 + a.val, by have := lt_N t; omega⟩) (⟨b.val, by have := lt_N t; omega⟩) : S4096x2048.Idx) := by
    funext d
    apply Fin.ext
    match d with
    | ⟨0, _⟩ => show win0_2.index t 0 * 512 + 1 * a.val = t.val * 512 + a.val; rw [hi.1] <;> omega
    | ⟨1, _⟩ => show win0_2.index t 1 * 2048 + 1 * b.val = b.val; rw [hi.2] <;> omega
  exact congrArg _ e

/-- The product with the transposed weight, whose rows lie in four blocks. -/
def res (x : S4096x2048.Idx → EReal) (y : S4x1x512x2048.Idx → EReal) (z : S4096x2048.Idx → EReal) : S4096x2048.Idx → EReal :=
  fun i => (∑ k : Fin 2048, x (ix2 (i 0) k) * y (ix4 ⟨(i 1 : Nat) / 512, by have h : (i 1 : Nat) < 2048 := (i 1).isLt; omega⟩ 0 ⟨(i 1 : Nat) % 512, by omega⟩ k)) + z i

theorem emb3 (t : Fin cfg0.N) (a : Fin 512) (b : Fin 2048) :
    ((cfg0.win 3).blk t).view.emb (ix2 a b : S512x2048.Idx) = (ix2 (⟨t.val * 512 + a.val, by have := lt_N t; omega⟩) (⟨b.val, by have := lt_N t; omega⟩) : S4096x2048.Idx) := by
  have hi := at3 t
  have hN := lt_N t
  funext d
  apply Fin.ext
  match d with
  | ⟨0, _⟩ => show win0_3.index t 0 * 512 + 1 * a.val = t.val * 512 + a.val; rw [hi.1] <;> omega
  | ⟨1, _⟩ => show win0_3.index t 1 * 2048 + 1 * b.val = b.val; rw [hi.2] <;> omega

theorem flushed3_eq (hf : (cfg0.win 3).flush t = true) :
    (dats m 0 c).flushed 3 t = ((cfg0.win 3).blk t).view.read (Elt Ideal) (res (Xa m c) (Wt m c) (Dh m c)) := by
  show (cfg0.win 3).cut (grid0.coords t) ((dats m 0 c).after 3 t) = _
  rw [after0_3, body3]
  funext i
  rw [View.read_apply]
  obtain ⟨a, b, rfl⟩ : ∃ (a : Fin 512) (b : Fin 2048), i = ix2 a b := ⟨i 0, i 1, by funext x; fin_cases x <;> rfl⟩
  refine (value3 (X0 m c t) (X1 m c t) (X2 m c t) a  b).trans ?_
  refine Eq.trans ?_ (congrArg (res (Xa m c) (Wt m c) (Dh m c)) (emb3 t a  b)).symm
  have hN := lt_N t
  refine congrArg₂ (· + ·) ?_ (read2 m c t a b)
  refine Finset.sum_congr rfl fun k _ => ?_
  have e0 := read0 m c t a k
  have e1 := read1 m c t ⟨b.val / 512, by omega⟩ ⟨b.val % 512, by omega⟩ k
  rw [e0, e1]
  rfl

theorem final3 (c : Dev nD) : (dats m 0 c).arrAt 3 cfg0.N = res (Xa m c) (Wt m c) (Dh m c) :=
  (dats m 0 c).arrAt_eq_of_cover 3 _ (flushed3_eq m c) fun i => by
    have h0 : (i 0 : Nat) < 4096 := (i 0).isLt
    have h1 : (i 1 : Nat) < 2048 := (i 1).isLt
    let t : Fin cfg0.N := ⟨(i 0 : Nat) / 512, by show _ < grid0.N; rw [Gen.N_0]; omega⟩
    have hi := at3 t
    have ht : t.val = (i 0 : Nat) / 512 := rfl
    refine ⟨t, flush0_3 t, ?_⟩
    show i ∈ ((View.whole main_v2).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1]; omega
    | ⟨1, _⟩ =>
      show win0_3.index t 1 * 2048 ≤ (i 1 : Nat) ∧ (i 1 : Nat) < win0_3.index t 1 * 2048 + 2048
      rw [hi.2]; omega

end Cert.PleGateDxIdeal.Meaning

end
-- ==== Proof.PleGateDxClaims.lean ====
module

public import proofs.«01_k».proof.Defs
public import proofs.«01_k».proof.Proof.Gen.PleGateDx.Frame
public import proofs.«01_k».proof.Proof.Gen.PleGateDxRefIdeal.Run
public import proofs.«01_k».proof.Proof.Gen.PleGateDxRefIdeal.Read
public import proofs.«01_k».proof.Proof.PleGateDxValue

@[expose] public section

set_option maxRecDepth 16384

noncomputable section

/-! The claims of `ple_gate_dx`: the frames of the programs, and that both end with the same product. -/

namespace Cert.PleGateDxIdeal.Meaning

open PleGateDxIdeal PleGateDxIdeal.Gen Idealize.ShloMosaic TcCoe Idealize.SL.Sem

theorem frame_ref : quiescent_PleGateDxRefIdeal (hPleGateDxRefIdeal := PleGateDxRefIdeal.Gen.facts) :=
  fun m ρ _ => (θ_run PleGateDxRefIdeal.defs _ _).mono
    (fun r h => ⟨fun c => (h c).2, sem_eq_zero_of_no_sems (by decide) r.2⟩) (PleGateDxRefIdeal.Value.run m ρ)

/-- The gathered weight: row `r` of block `b` is row `512 b + r` of the weight. -/
def gath (w : S2048x2048.Idx → EReal) : S4x1x512x2048.Idx → EReal := fun i =>
  w (ix2 ⟨(i 0 : Nat) * 512 + (i 2 : Nat), by have h0 : (i 0 : Nat) < 4 := (i 0).isLt; have h2 : (i 2 : Nat) < 512 := (i 2).isLt; omega⟩ (i 3))

theorem Wt_eq (m : (ℓ : Loc nD τ sig) → Buf (Elt Ideal) ℓ) (c : Dev nD) : Wt m c = gath (m ((c : Thread nD τ).loc main_arg1)) := by
  unfold Wt V hostOps0
  after_results
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold gath
  pointwise

theorem ref_0 (x : FVec Ideal S4096x2048 .bf16) (w : FVec Ideal S2048x2048 .f32) (z : FVec Ideal S4096x2048 .f32) : PleGateDxRefIdeal.Read.val_main_v4 (F := Ideal) x w z = res x (gath w) z := by
  funext i
  obtain ⟨p, q, rfl⟩ : ∃ (p : Fin 4096) (q : Fin 2048), i = ix2 p q := ⟨i 0, i 1, by funext x; fin_cases x <;> rfl⟩
  unfold res gath
  open PleGateDxRefIdeal.Read in
  pointwise [val_main_v4, val_main_v3, val_main_v2]
  refine (add_comm (G := EReal) _ _).trans (congrArg₂ (· + ·) ?_ rfl)
  refine Finset.sum_congr rfl fun k _ => congrArg₂ (· * ·) rfl (congrArg w ?_)
  funext d
  apply Fin.ext
  match d with
  | ⟨0, _⟩ => show q.val = q.val / 512 * 512 + q.val % 512; omega
  | ⟨1, _⟩ => rfl

theorem algebraic : algebraic_PleGateDxIdeal_PleGateDxRefIdeal (hPleGateDxIdeal := PleGateDxIdeal.Gen.facts) (hPleGateDxRefIdeal := PleGateDxRefIdeal.Gen.facts) := by
  intro m g m' g' _ hargs
  refine ⟨fun c => res (Xa m c) (gath (m ((c : Thread nD τ).loc main_arg1))) (Dh m c), ?_, ?_⟩
  · exact (θ_run PleGateDxIdeal.defs _ _).mono (fun r h c => ⟨(h c).1.trans ((final3 m c).trans (congrArg (fun y => res (Xa m c) y (Dh m c)) (Wt_eq m c))), (h c).2⟩) (PleGateDxIdeal.Value.run_blocks m g)
  · refine (θ_run PleGateDxRefIdeal.defs _ _).mono (fun r h c => ?_) (PleGateDxRefIdeal.Value.run m' g')
    obtain ⟨a0, a1, a2⟩ := hargs c
    obtain ⟨e0, k⟩ := h c
    refine ⟨e0.trans ?_, k⟩
    · refine (PleGateDxRefIdeal.Read.val_main_v4_eq _ _ _).trans ?_
      rw [a0, a1, a2]
      exact ref_0 _ _ _

end Cert.PleGateDxIdeal.Meaning

end
-- ==== Proof.PleGateDwValue.lean ====
module

public import proofs.«01_k».proof.Proof.Gen.PleGateDwIdeal.Value
public import proofs.«01_k».proof.Proof.Common

@[expose] public section

set_option maxRecDepth 16384
set_option maxHeartbeats 1000000

noncomputable section

/-! The blocks of the product accumulate over the 4 blocks of the summed axis; the last one is written out. -/

namespace Cert.PleGateDwIdeal.Meaning

open PleGateDwIdeal PleGateDwIdeal.Gen Idealize.ShloMosaic TcCoe Idealize.SL.Sem

section Body

variable {F : FTy → Type} [FloatOps F]

section Points

variable (c : Dev nD) (i : grid0.Coords) (arg3 : Memref sig .tc .vmem S1024x2048 .f32) (harg3 : arg3.IsWhole) (arg4 : Memref sig .tc .vmem S1024x1024 .bf16) (harg4 : arg4.IsWhole) (arg6 : Memref sig .tc .vmem S4x1x512x1024 .bf16) (harg6 : arg6.IsWhole) (arg7 : Memref sig .tc .vmem S2048x1024 .f32) (harg7 : arg7.IsWhole)

theorem first_point (hc0 : cond0_0 i) (hc1 : ¬cond0_1 i) (hc2 : ¬cond0_2 i)
    (x0 : Vec F S1024x2048 .f32) (x1 : Vec F S1024x1024 .bf16) : sout0_A_0 c i arg3 harg3 arg4 harg4 arg6 harg6 arg7 harg7 hc0 hc1 hc2 x0 x1 = k0_pay2 x1 x0 := by
  unfold sout0_A_0
  rw [View.read_writes_eq_canon _ _ _ (scover0_A_0 _ _ _ _ _ _ _ _ _ _ _ _ _ _ _)]
  unfold kernelRun0_A
  dsimp only
  sl_unfold_words
  try rw [View.canon_cons_unit_zero (S := S2048x1024) hz2]
  try rw [View.canon_unit_zero (S := S2048x1024) hz2]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

theorem middle_point (hc0 : ¬cond0_0 i) (hc1 : cond0_1 i) (hc2 : ¬cond0_2 i)
    (x0 : Vec F S1024x2048 .f32) (x1 : Vec F S1024x1024 .bf16) (xs0 : Vec F S2048x1024 .f32) : sout0_B_0 c i arg3 harg3 arg4 harg4 arg6 harg6 arg7 harg7 hc0 hc1 hc2 x0 x1 xs0 = k0_pay3 x1 x0 xs0 := by
  unfold sout0_B_0
  rw [View.read_writes_eq_canon _ _ _ (scover0_B_0 _ _ _ _ _ _ _ _ _ _ _ _ _ _ _ _)]
  unfold kernelRun0_B
  dsimp only
  sl_unfold_words
  try rw [View.canon_cons_unit_zero (S := S2048x1024) hz2]
  try rw [View.canon_unit_zero (S := S2048x1024) hz2]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

theorem last_point (hc0 : ¬cond0_0 i) (hc1 : ¬cond0_1 i) (hc2 : cond0_2 i)
    (x0 : Vec F S1024x2048 .f32) (x1 : Vec F S1024x1024 .bf16) (xs0 : Vec F S2048x1024 .f32) : out0_C_2 c i arg3 harg3 arg4 harg4 arg6 harg6 arg7 harg7 hc0 hc1 hc2 x0 x1 xs0 = k0_pay4 x1 x0 xs0 := by
  unfold out0_C_2
  rw [View.read_writes_eq_canon _ _ _ (cover0_C_2 _ _ _ _ _ _ _ _ _ _ _ _ _ _ _ _)]
  unfold kernelRun0_C
  dsimp only
  sl_unfold_words
  try rw [View.canon_cons_unit_zero (S := S4x1x512x1024) hz4]
  try rw [View.canon_unit_zero (S := S4x1x512x1024) hz4]
  simp only [View.readCov_unit_zero (S := S1024x1024) _ hz2, View.readCov_unit_zero (S := S1024x2048) _ hz2, View.readCov_unit_zero (S := S2048x1024) _ hz2, View.readCov_unit_zero (S := S4x1x512x1024) _ hz4, View.readAt_eq_ld, harg3.read_unread, harg4.read_unread, harg6.read_unread, harg7.read_unread, View.ld_unit_zero (S := S1024x1024) hz2, View.ld_unit_zero (S := S1024x2048) hz2, View.ld_unit_zero (S := S2048x1024) hz2, View.ld_unit_zero (S := S4x1x512x1024) hz4]
  try rfl

end Points

end Body

theorem first_value (x0 : Vec Ideal S1024x2048 .f32) (x1 : Vec Ideal S1024x1024 .bf16) (a : Fin 2048) (b : Fin 1024) :
    k0_pay2 (F := Ideal) x1 x0 (ix2 a b) = ∑ k : Fin 1024, x0 (ix2 k a) * x1 (ix2 k b) := by
  unfold_payloads
  pointwise
  try simp only [zero_add]

theorem middle_value (x0 : Vec Ideal S1024x2048 .f32) (x1 : Vec Ideal S1024x1024 .bf16) (s : FVec Ideal S2048x1024 .f32) (a : Fin 2048) (b : Fin 1024) :
    k0_pay3 (F := Ideal) x1 x0 s (ix2 a b) = s (ix2 a b) + ∑ k : Fin 1024, x0 (ix2 k a) * x1 (ix2 k b) := by
  unfold_payloads
  pointwise
  try simp only [zero_add]

theorem last_value (x0 : Vec Ideal S1024x2048 .f32) (x1 : Vec Ideal S1024x1024 .bf16) (s : FVec Ideal S2048x1024 .f32) (a : Fin 2048) (b : Fin 1024) :
    k0_pay4 (F := Ideal) x1 x0 s (ix4 (⟨a.val / 512, by omega⟩) (0) (⟨a.val % 512, by omega⟩) (b)) = s (ix2 a b) + ∑ k : Fin 1024, x0 (ix2 k a) * x1 (ix2 k b) := by
  unfold_payloads
  pointwise
  try simp only [zero_add]

variable (m : (ℓ : Loc nD τ sig) → Buf (Elt Ideal) ℓ) (c : Dev nD) (t : Fin cfg0.N)

theorem lt_N (t : Fin cfg0.N) : t.val < 8 := lt_of_lt_of_eq t.isLt (show cfg0.N = 8 from N_0)

abbrev Act (c : Dev nD) : S4096x2048.Idx → EReal := m ((c : Thread nD τ).loc main_arg0)
abbrev Dm (c : Dev nD) : S4096x2048.Idx → EReal := m ((c : Thread nD τ).loc main_arg1)

abbrev X0 : FVec Ideal S1024x2048 .f32 := iblk m c 0 t
abbrev X1 : FVec Ideal S1024x1024 .bf16 := iblk m c 1 t

theorem at0 : ∀ t : Fin grid0.N, win0_0.index t 0 = t.val % 4 ∧ win0_0.index t 1 = 0 := by decide +kernel

theorem at1 : ∀ t : Fin grid0.N, win0_1.index t 0 = t.val % 4 ∧ win0_1.index t 1 = t.val / 4 := by decide +kernel

theorem at2 : ∀ t : Fin grid0.N, win0_2.index t 0 = 0 ∧ win0_2.index t 1 = 0 ∧ win0_2.index t 2 = 0 ∧ win0_2.index t 3 = t.val / 4 := by decide +kernel

theorem read0 (a : Fin 2048) (b k : Fin 1024) :
    X0 m c t (ix2 k a) = Act m c (ix2 (⟨t.val % 4 * 1024 + k.val, by omega⟩) (⟨a.val, by omega⟩)) := by
  have hi := at0 t
  have hN := lt_N t
  unfold X0 iblk
  rw [View.read_apply]
  show V m c main_arg0 _ = _
  rw [V_main_arg0]
  unfold Act
  have e : ((cfg0.win 0).blk t).view.emb (ix2 k a : S1024x2048.Idx) = (ix2 (⟨t.val % 4 * 1024 + k.val, by omega⟩) (⟨a.val, by omega⟩) : S4096x2048.Idx) := by
    funext d
    apply Fin.ext
    match d with
    | ⟨0, _⟩ => show win0_0.index t 0 * 1024 + 1 * k.val = t.val % 4 * 1024 + k.val; rw [hi.1] <;> omega
    | ⟨1, _⟩ => show win0_0.index t 1 * 2048 + 1 * a.val = a.val; rw [hi.2] <;> omega
  exact congrArg _ e

theorem read1 (a : Fin 2048) (b k : Fin 1024) :
    X1 m c t (ix2 k b) = Dm m c (ix2 (⟨t.val % 4 * 1024 + k.val, by omega⟩) (⟨t.val / 4 % 2 * 1024 + b.val, by omega⟩)) := by
  have hi := at1 t
  have hN := lt_N t
  unfold X1 iblk
  rw [View.read_apply]
  show V m c main_arg1 _ = _
  rw [V_main_arg1]
  unfold Dm
  have e : ((cfg0.win 1).blk t).view.emb (ix2 k b : S1024x1024.Idx) = (ix2 (⟨t.val % 4 * 1024 + k.val, by omega⟩) (⟨t.val / 4 % 2 * 1024 + b.val, by omega⟩) : S4096x2048.Idx) := by
    funext d
    apply Fin.ext
    match d with
    | ⟨0, _⟩ => show win0_1.index t 0 * 1024 + 1 * k.val = t.val % 4 * 1024 + k.val; rw [hi.1] <;> omega
    | ⟨1, _⟩ => show win0_1.index t 1 * 1024 + 1 * b.val = t.val / 4 % 2 * 1024 + b.val; rw [hi.2] <;> omega
  exact congrArg _ e

/-- The `i`-th block of the summed axis in the product of the output's `q`-th block. -/
def piece (c : Dev nD) (q i : Nat) (a : Fin 2048) (b : Fin 1024) : EReal :=
  ∑ k : Fin 1024, Act m c (ix2 (⟨i % 4 * 1024 + k.val, by omega⟩) (⟨a.val, by omega⟩)) * Dm m c (ix2 (⟨i % 4 * 1024 + k.val, by omega⟩) (⟨q % 2 * 1024 + b.val, by omega⟩))

theorem piece_at (a : Fin 2048) (b : Fin 1024) :
    (∑ k : Fin 1024, X0 m c t (ix2 k a) * X1 m c t (ix2 k b)) = piece m c (t.val / 4) (t.val % 4) a b := by
  have hN := lt_N t
  unfold piece
  refine Finset.sum_congr rfl fun k _ => ?_
  have h0 := read0 m c t a b k
  have h1 := read1 m c t a b k
  rw [h0, h1]
  refine congrArg₂ (· * ·) (congrArg _ ?_) (congrArg _ ?_)
  · funext d
    apply Fin.ext
    match d with
    | ⟨0, _⟩ => show t.val % 4 * 1024 + k.val = (t.val % 4) % 4 * 1024 + k.val; omega
    | ⟨1, _⟩ => show a.val = a.val; omega
  · funext d
    apply Fin.ext
    match d with
    | ⟨0, _⟩ => show t.val % 4 * 1024 + k.val = (t.val % 4) % 4 * 1024 + k.val; omega
    | ⟨1, _⟩ => show t.val / 4 % 2 * 1024 + b.val = (t.val / 4) % 2 * 1024 + b.val; omega

theorem acc_first (h : t.val % 4 = 0) (a : Fin 2048) (b : Fin 1024) :
    (outsAt0 m c t.val t.isLt).2 (ix2 a b) = piece m c (t.val / 4) (t.val % 4) a b := by
  rw [outsAt0_A m c t h (by omega) (by omega)]
  dsimp only
  refine (congrFun (first_point (F := Ideal) _ _ _ _ _ _ _ _ _ _ _ _ _ _ _) (ix2 a b)).trans ?_
  exact (first_value _ _ a b).trans (piece_at m c t a b)

theorem acc_next (h : t.val % 4 ≠ 0) (h' : t.val % 4 ≠ 3) (a : Fin 2048) (b : Fin 1024) :
    (outsAt0 m c t.val t.isLt).2 (ix2 a b) = (outsAt0 m c (t.val - 1) (Nat.lt_of_le_of_lt (Nat.sub_le _ _) t.isLt)).2 (ix2 a b) + piece m c (t.val / 4) (t.val % 4) a b := by
  rw [outsAt0_B m c t h (by omega) h']
  dsimp only
  refine (congrFun (middle_point (F := Ideal) _ _ _ _ _ _ _ _ _ _ _ _ _ _ _ _) (ix2 a b)).trans ?_
  exact (middle_value _ _ _ a b).trans (congrArg (_ + ·) (piece_at m c t a b))

theorem out_last (h : t.val % 4 = 3) (a : Fin 2048) (b : Fin 1024) :
    (outsAt0 m c t.val t.isLt).1 (ix4 (⟨a.val / 512, by omega⟩) (0) (⟨a.val % 512, by omega⟩) (b)) = (outsAt0 m c (t.val - 1) (Nat.lt_of_le_of_lt (Nat.sub_le _ _) t.isLt)).2 (ix2 a b) + piece m c (t.val / 4) (t.val % 4) a b := by
  rw [outsAt0_C m c t (by omega) (by omega) h]
  dsimp only
  refine (congrFun (last_point (F := Ideal) _ _ _ _ _ _ _ _ _ _ _ _ _ _ _ _) (ix4 (⟨a.val / 512, by omega⟩) (0) (⟨a.val % 512, by omega⟩) (b))).trans ?_
  exact (last_value _ _ _ a b).trans (congrArg (_ + ·) (piece_at m c t a b))

theorem acc_apply (c : Dev nD) (a : Fin 2048) (b : Fin 1024) : ∀ (n : Nat) (h : n < cfg0.N), n % 4 ≠ 3 →
    (outsAt0 m c n h).2 (ix2 a b) = ∑ i ∈ Finset.range (n % 4 + 1), piece m c (n / 4) i a b := by
  intro n
  induction n with
  | zero => intro h _; exact (acc_first m c ⟨0, h⟩ rfl a b).trans (by simp)
  | succ n ih =>
    intro h hk
    by_cases h0 : (n + 1) % 4 = 0
    · refine (acc_first m c ⟨n + 1, h⟩ h0 a b).trans ?_
      show piece m c ((n + 1) / 4) ((n + 1) % 4) a b = _
      rw [h0]; simp
    · refine (acc_next m c ⟨n + 1, h⟩ h0 hk a b).trans ?_
      have e1 : (n + 1) % 4 = n % 4 + 1 := by omega
      have e2 : (n + 1) / 4 = n / 4 := by omega
      show (outsAt0 m c n _).2 (ix2 a b) + piece m c ((n + 1) / 4) ((n + 1) % 4) a b = _
      rw [ih _ (by omega), e1, e2, Finset.sum_range_succ _ (n % 4 + 1)]

/-- What the last point of a run writes: all 4 blocks. -/
theorem out_apply (h : t.val % 4 = 3) (a : Fin 2048) (b : Fin 1024) :
    (outsAt0 m c t.val t.isLt).1 (ix4 (⟨a.val / 512, by omega⟩) (0) (⟨a.val % 512, by omega⟩) (b)) = ∑ i : Fin 4, piece m c (t.val / 4) i.val a b := by
  refine (out_last m c t h a b).trans ?_
  rw [acc_apply m c a b (t.val - 1) _ (by omega), show (t.val - 1) % 4 + 1 = 3 by omega, show (t.val - 1) / 4 = t.val / 4 by omega, h,
    ← Finset.sum_range_succ, Finset.sum_range]

/-- The whole product. -/
def res (x y : S4096x2048.Idx → EReal) : S4x1x512x2048.Idx → EReal :=
  fun i => ∑ k : Fin 4096, x (ix2 k (⟨(i 0 : Nat) * 512 + (i 2 : Nat), by have h0 : (i 0 : Nat) < 4 := (i 0).isLt; have h2 : (i 2 : Nat) < 512 := (i 2).isLt; omega⟩)) * y (ix2 k (i 3))

theorem out_res (h : t.val % 4 = 3) (a : Fin 2048) (b : Fin 1024) :
    (outsAt0 m c t.val t.isLt).1 (ix4 (⟨a.val / 512, by omega⟩) (0) (⟨a.val % 512, by omega⟩) (b)) = res (Act m c) (Dm m c) (((cfg0.win 2).blk t).view.emb (ix4 (⟨a.val / 512, by omega⟩) (0) (⟨a.val % 512, by omega⟩) (b) : S4x1x512x1024.Idx)) := by
  have hi := at2 t
  have hN := lt_N t
  rw [out_apply m c t h a b]
  unfold res
  rw [Fin.sum_univ_tiles 4 1024 rfl]
  refine Finset.sum_congr rfl fun i _ => ?_
  unfold piece
  refine Finset.sum_congr rfl fun k _ => ?_
  refine congrArg₂ (· * ·) (congrArg _ ?_) (congrArg _ ?_)
  · funext d
    apply Fin.ext
    match d with
    | ⟨0, _⟩ => show i.val % 4 * 1024 + k.val = i.val * 1024 + k.val; omega
    | ⟨1, _⟩ => show a.val = (win0_2.index t 0 * 4 + 1 * (a.val / 512)) * 512 + (win0_2.index t 2 * 512 + 1 * (a.val % 512)); rw [hi.1, hi.2.2.1] <;> omega
  · funext d
    apply Fin.ext
    match d with
    | ⟨0, _⟩ => show i.val % 4 * 1024 + k.val = i.val * 1024 + k.val; omega
    | ⟨1, _⟩ => show (t.val / 4) % 2 * 1024 + b.val = win0_2.index t 3 * 1024 + 1 * b.val; rw [hi.2.2.2] <;> omega

theorem flushed_eq (c : Dev nD) : ∀ t : Fin cfg0.N, (cfg0.win 2).flush t = true →
    (dats m 0 c).flushed 2 t = ((cfg0.win 2).blk t).view.read (Elt Ideal) (res (Act m c) (Dm m c)) := by
  intro t hf
  have ht := (flush0_2 t).mp hf
  show (cfg0.win 2).cut (grid0.coords t) ((dats m 0 c).after 2 t) = _
  rw [after0_2]
  funext i
  rw [View.read_apply]
  obtain ⟨u, v, s, b, rfl⟩ : ∃ (u : Fin 4) (v : Fin 1) (s : Fin 512) (b : Fin 1024), i = ix4 u v s b := ⟨i 0, i 1, i 2, i 3, by funext x; fin_cases x <;> first | rfl | exact Subsingleton.elim _ _⟩
  obtain rfl : v = 0 := Subsingleton.elim _ _
  have e : (ix4 u 0 s b : S4x1x512x1024.Idx) = ix4 ⟨(u.val * 512 + s.val) / 512, by omega⟩ 0 ⟨(u.val * 512 + s.val) % 512, by omega⟩ b := by
    refine congrArg₂ (fun (x : Fin 4) (y : Fin 512) => (ix4 x 0 y b : S4x1x512x1024.Idx)) (Fin.ext ?_) (Fin.ext ?_)
    · show u.val = (u.val * 512 + s.val) / 512; omega
    · show s.val = (u.val * 512 + s.val) % 512; omega
  show (outsAt0 m c t.val t.isLt).1 (ix4 u 0 s b) = _
  rw [e]
  exact out_res m c t (by omega) ⟨u.val * 512 + s.val, by omega⟩ b

theorem final (c : Dev nD) : (dats m 0 c).arrAt 2 cfg0.N = res (Act m c) (Dm m c) :=
  (dats m 0 c).arrAt_eq_of_cover 2 _ (flushed_eq m c) fun i => by
    have h0 : (i 0 : Nat) < 4 := (i 0).isLt
    have h1 : (i 1 : Nat) < 1 := (i 1).isLt
    have h2 : (i 2 : Nat) < 512 := (i 2).isLt
    have h3 : (i 3 : Nat) < 2048 := (i 3).isLt
    let t : Fin cfg0.N := ⟨(i 3 : Nat) / 1024 * 4 + 3, by show _ < grid0.N; rw [Gen.N_0]; omega⟩
    have hi := at2 t
    have ht : t.val = (i 3 : Nat) / 1024 * 4 + 3 := rfl
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 4 ≤ (i 0 : Nat) ∧ (i 0 : Nat) < win0_2.index t 0 * 4 + 4
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 512 ≤ (i 2 : Nat) ∧ (i 2 : Nat) < win0_2.index t 2 * 512 + 512
      rw [hi.2.2.1]; omega
    | ⟨3, _⟩ =>
      show win0_2.index t 3 * 1024 ≤ (i 3 : Nat) ∧ (i 3 : Nat) < win0_2.index t 3 * 1024 + 1024
      rw [hi.2.2.2]; omega

end Cert.PleGateDwIdeal.Meaning

end
-- ==== Proof.PleGateDwClaims.lean ====
module

public import proofs.«01_k».proof.Defs
public import proofs.«01_k».proof.Proof.Gen.PleGateDw.Frame
public import proofs.«01_k».proof.Proof.Gen.PleGateDwRefIdeal.Run
public import proofs.«01_k».proof.Proof.Gen.PleGateDwRefIdeal.Read
public import proofs.«01_k».proof.Proof.PleGateDwValue

@[expose] public section

set_option maxRecDepth 16384

noncomputable section

/-! The claims of `ple_gate_dw`: the frames of the programs, and that both end with the same product. -/

namespace Cert.PleGateDwIdeal.Meaning

open PleGateDwIdeal PleGateDwIdeal.Gen Idealize.ShloMosaic TcCoe Idealize.SL.Sem

theorem frame_ref : quiescent_PleGateDwRefIdeal (hPleGateDwRefIdeal := PleGateDwRefIdeal.Gen.facts) :=
  fun m ρ _ => (θ_run PleGateDwRefIdeal.defs _ _).mono
    (fun r h => ⟨fun c => (h c).2, sem_eq_zero_of_no_sems (by decide) r.2⟩) (PleGateDwRefIdeal.Value.run m ρ)

theorem ref_0 (x : FVec Ideal S4096x2048 .f32) (y : FVec Ideal S4096x2048 .bf16) : PleGateDwRefIdeal.Read.val_main_v6 (F := Ideal) x y = res x y := by
  funext i
  obtain ⟨p, q, r, s, rfl⟩ : ∃ (p : Fin 4) (q : Fin 1) (r : Fin 512) (s : Fin 2048), i = ix4 p q r s := ⟨i 0, i 1, i 2, i 3, by funext x; fin_cases x <;> rfl⟩
  unfold res
  open PleGateDwRefIdeal.Read in
  pointwise [val_main_v6, val_main_v5, val_main_v4, val_main_v3, val_main_v2]
  exact Finset.sum_congr rfl fun k _ => mul_comm (G := EReal) _ _

theorem algebraic : algebraic_PleGateDwIdeal_PleGateDwRefIdeal (hPleGateDwIdeal := PleGateDwIdeal.Gen.facts) (hPleGateDwRefIdeal := PleGateDwRefIdeal.Gen.facts) := by
  intro m g m' g' _ hargs
  refine ⟨fun c => res (Act m c) (Dm m c), ?_, ?_⟩
  · exact (θ_run PleGateDwIdeal.defs _ _).mono (fun r h c => ⟨(h c).1.trans (final m c), (h c).2⟩) (PleGateDwIdeal.Value.run_blocks m g)
  · refine (θ_run PleGateDwRefIdeal.defs _ _).mono (fun r h c => ?_) (PleGateDwRefIdeal.Value.run m' g')
    obtain ⟨a0, a1, a2⟩ := hargs c
    obtain ⟨e0, k⟩ := h c
    refine ⟨e0.trans ?_, k⟩
    · refine (PleGateDwRefIdeal.Read.val_main_v6_eq _ _).trans ?_
      rw [a0, a1]
      exact ref_0 _ _

end Cert.PleGateDwIdeal.Meaning

end
-- ==== Proof.Adam.lean ====
module

public import Idealize.ShloMosaic.Lib.Pointwise

@[expose] public section

set_option maxRecDepth 16384

noncomputable section

/-! One step of AdamW on one entry of a weight: the two moments, with their fixed decays, and the change of the weight. -/

namespace Cert.Adam

open Idealize.ShloMosaic

/-- The new first moment of a gradient `g` and the old moment `m`. -/
def moment (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- The change of the weight `w`: the corrected moments' quotient and the decay of the weight, times minus the rate. -/
def change (w g m v : EReal) : EReal :=
  Ideal.ofBits .f32 0xBA83126F#32 * (Ideal.div (Ideal.div (moment g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

end Cert.Adam

end
-- ==== Proof.AdamHgInValue.lean ====
module

public import proofs.«01_k».proof.Proof.Gen.AdamHgInIdeal.Value
public import proofs.«01_k».proof.Proof.Adam
public import proofs.«01_k».proof.Proof.Common

@[expose] public section

set_option maxRecDepth 16384

noncomputable section

/-! The step's update of a weight held as 2 planes of 2048 by 2048, 128 rows of a plane at a time. -/

namespace Cert.AdamHgInIdeal.Meaning

open AdamHgInIdeal AdamHgInIdeal.Gen Idealize.ShloMosaic TcCoe Idealize.SL.Sem

theorem entry (i : S1x128x2048.Idx) : ∃ (a : Fin 128) (b : Fin 2048), i = ix3 0 a b := by
  refine ⟨i 1, i 2, ?_⟩
  funext x
  fin_cases x
  · exact Subsingleton.elim (α := Fin 1) _ _
  · rfl
  · rfl

variable (x0 x1 x2 x3 : Vec Ideal S1x128x2048 .f32)

theorem value4 (i : S1x128x2048.Idx) : out0_4 x0 x1 x2 x3 i = Adam.change (x0 i) (x1 i) (x2 i) (x3 i) := by
  unfold out0_4
  rw [View.canon_unit_zero (S := S1x128x2048) hz3]
  simp only [View.ld_unit_zero (S := S1x128x2048) hz3]
  obtain ⟨a, b, rfl⟩ := entry i
  unfold_payloads
  pointwise
  try rfl

theorem value5 (i : S1x128x2048.Idx) : out0_5 x0 x1 x2 x3 i = Adam.moment (x1 i) (x2 i) := by
  unfold out0_5
  rw [View.canon_unit_zero (S := S1x128x2048) hz3]
  simp only [View.ld_unit_zero (S := S1x128x2048) hz3]
  obtain ⟨a, b, rfl⟩ := entry i
  unfold_payloads
  pointwise
  try rfl

theorem value6 (i : S1x128x2048.Idx) : out0_6 x0 x1 x2 x3 i = Adam.square (x1 i) (x3 i) := by
  unfold out0_6
  rw [View.canon_unit_zero (S := S1x128x2048) hz3]
  simp only [View.ld_unit_zero (S := S1x128x2048) hz3]
  obtain ⟨a, b, rfl⟩ := entry i
  unfold_payloads
  pointwise
  try rfl

theorem value7 (i : S1x128x2048.Idx) : out0_7 x0 x1 x2 x3 i = x1 i := by
  unfold out0_7
  rw [View.canon_unit_zero (S := S1x128x2048) hz3]
  simp only [View.ld_unit_zero (S := S1x128x2048) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 16 ∧ win0_4.index t 1 = t.val % 16 ∧ win0_4.index t 2 = 0 := by decide +kernel

/-- Where a block's entry lies in the whole. -/
def spot (t : Fin cfg0.N) (i : S1x128x2048.Idx) : S2x2048x2048.Idx := ((cfg0.win 4).blk t).view.emb i

/-- Every entry lies in a block. -/
theorem everywhere (i : S2x2048x2048.Idx) : ∃ t : Fin cfg0.N, ∀ d, win0_4.index t d * S1x128x2048.size d ≤ (i d : Nat) ∧ (i d : Nat) < win0_4.index t d * S1x128x2048.size d + S1x128x2048.size d := by
  have h0 : (i 0 : Nat) < 2 := (i 0).isLt
  have h1 : (i 1 : Nat) < 2048 := (i 1).isLt
  have h2 : (i 2 : Nat) < 2048 := (i 2).isLt
  let t : Fin cfg0.N := ⟨(i 0 : Nat) * 16 + (i 1 : Nat) / 128, by show _ < grid0.N; rw [Gen.N_0]; omega⟩
  have hi := at4 t
  have ht : t.val = (i 0 : Nat) * 16 + (i 1 : Nat) / 128 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 128 ≤ (i 1 : Nat) ∧ (i 1 : Nat) < win0_4.index t 1 * 128 + 128; rw [hi.2.1]; omega
  | ⟨2, _⟩ => show win0_4.index t 2 * 2048 ≤ (i 2 : Nat) ∧ (i 2 : Nat) < win0_4.index t 2 * 2048 + 2048; rw [hi.2.2]; omega

theorem read0 (i : S1x128x2048.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x128x2048.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x128x2048.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x128x2048.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S2x2048x2048.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S2x2048x2048.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S2x2048x2048.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S2x2048x2048.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamHgInIdeal.Meaning

end
-- ==== Proof.AdamHgInClaims.lean ====
module

public import proofs.«01_k».proof.Defs
public import proofs.«01_k».proof.Proof.Gen.AdamHgIn.Frame
public import proofs.«01_k».proof.Proof.Gen.AdamHgInRefIdeal.Run
public import proofs.«01_k».proof.Proof.Gen.AdamHgInRefIdeal.Read
public import proofs.«01_k».proof.Proof.AdamHgInValue

@[expose] public section

set_option maxRecDepth 16384

noncomputable section

/-! The claims of the update: the frames of the programs, and that both end with the same step of AdamW. -/

namespace Cert.AdamHgInIdeal.Meaning

open AdamHgInIdeal AdamHgInIdeal.Gen Idealize.ShloMosaic TcCoe Idealize.SL.Sem

theorem frame_ref : quiescent_AdamHgInRefIdeal (hAdamHgInRefIdeal := AdamHgInRefIdeal.Gen.facts) :=
  fun m ρ _ => (θ_run AdamHgInRefIdeal.defs _ _).mono
    (fun r h => ⟨fun c => (h c).2.2.2.2, sem_eq_zero_of_no_sems (by decide) r.2⟩) (AdamHgInRefIdeal.Value.run m ρ)

variable (x0 x1 x2 x3 : FVec Ideal S2x2048x2048 .f32)

theorem ref_0 : AdamHgInRefIdeal.Read.val_main_v23 (F := Ideal) x0 x1 x2 x3 = fun j => Adam.change (x0 j) (x1 j) (x2 j) (x3 j) := by
  funext i
  obtain ⟨p, q, r, rfl⟩ : ∃ (p : Fin 2) (q r : Fin 2048), i = ix3 p q r := ⟨i 0, i 1, i 2, by funext x; fin_cases x <;> rfl⟩
  open AdamHgInRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamHgInRefIdeal.Read.val_main_v4 (F := Ideal) x1 x2 = fun j => Adam.moment (x1 j) (x2 j) := by
  funext i
  obtain ⟨p, q, r, rfl⟩ : ∃ (p : Fin 2) (q r : Fin 2048), i = ix3 p q r := ⟨i 0, i 1, i 2, by funext x; fin_cases x <;> rfl⟩
  open AdamHgInRefIdeal.Read in
  pointwise [val_main_v4, val_main_v3, val_main_v2, val_main_cst_0, val_main_v1, val_main_v0, val_main_cst]
  try rfl

theorem ref_2 : AdamHgInRefIdeal.Read.val_main_v10 (F := Ideal) x1 x3 = fun j => Adam.square (x1 j) (x3 j) := by
  funext i
  obtain ⟨p, q, r, rfl⟩ : ∃ (p : Fin 2) (q r : Fin 2048), i = ix3 p q r := ⟨i 0, i 1, i 2, by funext x; fin_cases x <;> rfl⟩
  open AdamHgInRefIdeal.Read in
  pointwise [val_main_v10, val_main_v9, val_main_v8, val_main_cst_2, val_main_v7, val_main_v6, val_main_v5, val_main_cst_1]
  try rfl

theorem algebraic : algebraic_AdamHgInIdeal_AdamHgInRefIdeal (hAdamHgInIdeal := AdamHgInIdeal.Gen.facts) (hAdamHgInRefIdeal := AdamHgInRefIdeal.Gen.facts) := by
  intro m g m' g' _ hargs
  refine ⟨new4 m, new5 m, new6 m, new7 m, ?_, ?_⟩
  · exact (θ_run AdamHgInIdeal.defs _ _).mono (fun r h c => ⟨(h c).1.trans (final4 m c), (h c).2.1.trans (final5 m c), (h c).2.2.1.trans (final6 m c), (h c).2.2.2.1.trans (final7 m c), (h c).2.2.2.2⟩) (AdamHgInIdeal.Value.run_blocks m g)
  · refine (θ_run AdamHgInRefIdeal.defs _ _).mono (fun r h c => ?_) (AdamHgInRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamHgInRefIdeal.Read.val_main_v23_eq _ _ _ _).trans ?_
      rw [a0, a1, a2, a3]
      exact ref_0 _ _ _ _
    · refine (AdamHgInRefIdeal.Read.val_main_v4_eq _ _).trans ?_
      rw [a1, a2]
      exact ref_1 _ _
    · refine (AdamHgInRefIdeal.Read.val_main_v10_eq _ _).trans ?_
      rw [a1, a3]
      exact ref_2 _ _

end Cert.AdamHgInIdeal.Meaning

end
-- ==== Proof.AdamOutValue.lean ====
module

public import proofs.«01_k».proof.Proof.Gen.AdamOutIdeal.Value
public import proofs.«01_k».proof.Proof.Adam
public import proofs.«01_k».proof.Proof.Common

@[expose] public section

set_option maxRecDepth 16384

noncomputable section

/-! The step's update of a weight held as 2 planes of 512 by 2048, 128 rows of a plane at a time. -/

namespace Cert.AdamOutIdeal.Meaning

open AdamOutIdeal AdamOutIdeal.Gen Idealize.ShloMosaic TcCoe Idealize.SL.Sem

theorem entry (i : S1x128x2048.Idx) : ∃ (a : Fin 128) (b : Fin 2048), i = ix3 0 a b := by
  refine ⟨i 1, i 2, ?_⟩
  funext x
  fin_cases x
  · exact Subsingleton.elim (α := Fin 1) _ _
  · rfl
  · rfl

variable (x0 x1 x2 x3 : Vec Ideal S1x128x2048 .f32)

theorem value4 (i : S1x128x2048.Idx) : out0_4 x0 x1 x2 x3 i = Adam.change (x0 i) (x1 i) (x2 i) (x3 i) := by
  unfold out0_4
  rw [View.canon_unit_zero (S := S1x128x2048) hz3]
  simp only [View.ld_unit_zero (S := S1x128x2048) hz3]
  obtain ⟨a, b, rfl⟩ := entry i
  unfold_payloads
  pointwise
  try rfl

theorem value5 (i : S1x128x2048.Idx) : out0_5 x0 x1 x2 x3 i = Adam.moment (x1 i) (x2 i) := by
  unfold out0_5
  rw [View.canon_unit_zero (S := S1x128x2048) hz3]
  simp only [View.ld_unit_zero (S := S1x128x2048) hz3]
  obtain ⟨a, b, rfl⟩ := entry i
  unfold_payloads
  pointwise
  try rfl

theorem value6 (i : S1x128x2048.Idx) : out0_6 x0 x1 x2 x3 i = Adam.square (x1 i) (x3 i) := by
  unfold out0_6
  rw [View.canon_unit_zero (S := S1x128x2048) hz3]
  simp only [View.ld_unit_zero (S := S1x128x2048) hz3]
  obtain ⟨a, b, rfl⟩ := entry i
  unfold_payloads
  pointwise
  try rfl

theorem value7 (i : S1x128x2048.Idx) : out0_7 x0 x1 x2 x3 i = x1 i := by
  unfold out0_7
  rw [View.canon_unit_zero (S := S1x128x2048) hz3]
  simp only [View.ld_unit_zero (S := S1x128x2048) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 4 ∧ win0_4.index t 1 = t.val % 4 ∧ win0_4.index t 2 = 0 := by decide +kernel

/-- Where a block's entry lies in the whole. -/
def spot (t : Fin cfg0.N) (i : S1x128x2048.Idx) : S2x512x2048.Idx := ((cfg0.win 4).blk t).view.emb i

/-- Every entry lies in a block. -/
theorem everywhere (i : S2x512x2048.Idx) : ∃ t : Fin cfg0.N, ∀ d, win0_4.index t d * S1x128x2048.size d ≤ (i d : Nat) ∧ (i d : Nat) < win0_4.index t d * S1x128x2048.size d + S1x128x2048.size d := by
  have h0 : (i 0 : Nat) < 2 := (i 0).isLt
  have h1 : (i 1 : Nat) < 512 := (i 1).isLt
  have h2 : (i 2 : Nat) < 2048 := (i 2).isLt
  let t : Fin cfg0.N := ⟨(i 0 : Nat) * 4 + (i 1 : Nat) / 128, by show _ < grid0.N; rw [Gen.N_0]; omega⟩
  have hi := at4 t
  have ht : t.val = (i 0 : Nat) * 4 + (i 1 : Nat) / 128 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 128 ≤ (i 1 : Nat) ∧ (i 1 : Nat) < win0_4.index t 1 * 128 + 128; rw [hi.2.1]; omega
  | ⟨2, _⟩ => show win0_4.index t 2 * 2048 ≤ (i 2 : Nat) ∧ (i 2 : Nat) < win0_4.index t 2 * 2048 + 2048; rw [hi.2.2]; omega

theorem read0 (i : S1x128x2048.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x128x2048.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x128x2048.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x128x2048.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S2x512x2048.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S2x512x2048.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S2x512x2048.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S2x512x2048.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamOutIdeal.Meaning

end
-- ==== Proof.AdamOutClaims.lean ====
module

public import proofs.«01_k».proof.Defs
public import proofs.«01_k».proof.Proof.Gen.AdamOut.Frame
public import proofs.«01_k».proof.Proof.Gen.AdamOutRefIdeal.Run
public import proofs.«01_k».proof.Proof.Gen.AdamOutRefIdeal.Read
public import proofs.«01_k».proof.Proof.AdamOutValue

@[expose] public section

set_option maxRecDepth 16384

noncomputable section

/-! The claims of the update: the frames of the programs, and that both end with the same step of AdamW. -/

namespace Cert.AdamOutIdeal.Meaning

open AdamOutIdeal AdamOutIdeal.Gen Idealize.ShloMosaic TcCoe Idealize.SL.Sem

theorem frame_ref : quiescent_AdamOutRefIdeal (hAdamOutRefIdeal := AdamOutRefIdeal.Gen.facts) :=
  fun m ρ _ => (θ_run AdamOutRefIdeal.defs _ _).mono
    (fun r h => ⟨fun c => (h c).2.2.2.2, sem_eq_zero_of_no_sems (by decide) r.2⟩) (AdamOutRefIdeal.Value.run m ρ)

variable (x0 x1 x2 x3 : FVec Ideal S2x512x2048 .f32)

theorem ref_0 : AdamOutRefIdeal.Read.val_main_v23 (F := Ideal) x0 x1 x2 x3 = fun j => Adam.change (x0 j) (x1 j) (x2 j) (x3 j) := by
  funext i
  obtain ⟨p, q, r, rfl⟩ : ∃ (p : Fin 2) (q : Fin 512) (r : Fin 2048), i = ix3 p q r := ⟨i 0, i 1, i 2, by funext x; fin_cases x <;> rfl⟩
  open AdamOutRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamOutRefIdeal.Read.val_main_v4 (F := Ideal) x1 x2 = fun j => Adam.moment (x1 j) (x2 j) := by
  funext i
  obtain ⟨p, q, r, rfl⟩ : ∃ (p : Fin 2) (q : Fin 512) (r : Fin 2048), i = ix3 p q r := ⟨i 0, i 1, i 2, by funext x; fin_cases x <;> rfl⟩
  open AdamOutRefIdeal.Read in
  pointwise [val_main_v4, val_main_v3, val_main_v2, val_main_cst_0, val_main_v1, val_main_v0, val_main_cst]
  try rfl

theorem ref_2 : AdamOutRefIdeal.Read.val_main_v10 (F := Ideal) x1 x3 = fun j => Adam.square (x1 j) (x3 j) := by
  funext i
  obtain ⟨p, q, r, rfl⟩ : ∃ (p : Fin 2) (q : Fin 512) (r : Fin 2048), i = ix3 p q r := ⟨i 0, i 1, i 2, by funext x; fin_cases x <;> rfl⟩
  open AdamOutRefIdeal.Read in
  pointwise [val_main_v10, val_main_v9, val_main_v8, val_main_cst_2, val_main_v7, val_main_v6, val_main_v5, val_main_cst_1]
  try rfl

theorem algebraic : algebraic_AdamOutIdeal_AdamOutRefIdeal (hAdamOutIdeal := AdamOutIdeal.Gen.facts) (hAdamOutRefIdeal := AdamOutRefIdeal.Gen.facts) := by
  intro m g m' g' _ hargs
  refine ⟨new4 m, new5 m, new6 m, new7 m, ?_, ?_⟩
  · exact (θ_run AdamOutIdeal.defs _ _).mono (fun r h c => ⟨(h c).1.trans (final4 m c), (h c).2.1.trans (final5 m c), (h c).2.2.1.trans (final6 m c), (h c).2.2.2.1.trans (final7 m c), (h c).2.2.2.2⟩) (AdamOutIdeal.Value.run_blocks m g)
  · refine (θ_run AdamOutRefIdeal.defs _ _).mono (fun r h c => ?_) (AdamOutRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamOutRefIdeal.Read.val_main_v23_eq _ _ _ _).trans ?_
      rw [a0, a1, a2, a3]
      exact ref_0 _ _ _ _
    · refine (AdamOutRefIdeal.Read.val_main_v4_eq _ _).trans ?_
      rw [a1, a2]
      exact ref_1 _ _
    · refine (AdamOutRefIdeal.Read.val_main_v10_eq _ _).trans ?_
      rw [a1, a3]
      exact ref_2 _ _

end Cert.AdamOutIdeal.Meaning

end
-- ==== Proof.AdamGmInValue.lean ====
module

public import proofs.«01_k».proof.Proof.Gen.AdamGmInIdeal.Value
public import proofs.«01_k».proof.Proof.Adam
public import proofs.«01_k».proof.Proof.Common

@[expose] public section

set_option maxRecDepth 16384

noncomputable section

/-! The step's update of a weight held as 2 planes of 2048 by 1024, 256 rows of a plane at a time. -/

namespace Cert.AdamGmInIdeal.Meaning

open AdamGmInIdeal AdamGmInIdeal.Gen Idealize.ShloMosaic TcCoe Idealize.SL.Sem

theorem entry (i : S1x256x1024.Idx) : ∃ (a : Fin 256) (b : Fin 1024), i = ix3 0 a b := by
  refine ⟨i 1, i 2, ?_⟩
  funext x
  fin_cases x
  · exact Subsingleton.elim (α := Fin 1) _ _
  · rfl
  · rfl

variable (x0 x1 x2 x3 : Vec Ideal S1x256x1024 .f32)

theorem value4 (i : S1x256x1024.Idx) : out0_4 x0 x1 x2 x3 i = Adam.change (x0 i) (x1 i) (x2 i) (x3 i) := by
  unfold out0_4
  rw [View.canon_unit_zero (S := S1x256x1024) hz3]
  simp only [View.ld_unit_zero (S := S1x256x1024) hz3]
  obtain ⟨a, b, rfl⟩ := entry i
  unfold_payloads
  pointwise
  try rfl

theorem value5 (i : S1x256x1024.Idx) : out0_5 x0 x1 x2 x3 i = Adam.moment (x1 i) (x2 i) := by
  unfold out0_5
  rw [View.canon_unit_zero (S := S1x256x1024) hz3]
  simp only [View.ld_unit_zero (S := S1x256x1024) hz3]
  obtain ⟨a, b, rfl⟩ := entry i
  unfold_payloads
  pointwise
  try rfl

theorem value6 (i : S1x256x1024.Idx) : out0_6 x0 x1 x2 x3 i = Adam.square (x1 i) (x3 i) := by
  unfold out0_6
  rw [View.canon_unit_zero (S := S1x256x1024) hz3]
  simp only [View.ld_unit_zero (S := S1x256x1024) hz3]
  obtain ⟨a, b, rfl⟩ := entry i
  unfold_payloads
  pointwise
  try rfl

theorem value7 (i : S1x256x1024.Idx) : out0_7 x0 x1 x2 x3 i = x1 i := by
  unfold out0_7
  rw [View.canon_unit_zero (S := S1x256x1024) hz3]
  simp only [View.ld_unit_zero (S := S1x256x1024) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 8 ∧ win0_4.index t 1 = t.val % 8 ∧ win0_4.index t 2 = 0 := by decide +kernel

/-- Where a block's entry lies in the whole. -/
def spot (t : Fin cfg0.N) (i : S1x256x1024.Idx) : S2x2048x1024.Idx := ((cfg0.win 4).blk t).view.emb i

/-- Every entry lies in a block. -/
theorem everywhere (i : S2x2048x1024.Idx) : ∃ t : Fin cfg0.N, ∀ d, win0_4.index t d * S1x256x1024.size d ≤ (i d : Nat) ∧ (i d : Nat) < win0_4.index t d * S1x256x1024.size d + S1x256x1024.size d := by
  have h0 : (i 0 : Nat) < 2 := (i 0).isLt
  have h1 : (i 1 : Nat) < 2048 := (i 1).isLt
  have h2 : (i 2 : Nat) < 1024 := (i 2).isLt
  let t : Fin cfg0.N := ⟨(i 0 : Nat) * 8 + (i 1 : Nat) / 256, by show _ < grid0.N; rw [Gen.N_0]; omega⟩
  have hi := at4 t
  have ht : t.val = (i 0 : Nat) * 8 + (i 1 : Nat) / 256 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 256 ≤ (i 1 : Nat) ∧ (i 1 : Nat) < win0_4.index t 1 * 256 + 256; rw [hi.2.1]; omega
  | ⟨2, _⟩ => show win0_4.index t 2 * 1024 ≤ (i 2 : Nat) ∧ (i 2 : Nat) < win0_4.index t 2 * 1024 + 1024; rw [hi.2.2]; omega

theorem read0 (i : S1x256x1024.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x256x1024.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x256x1024.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x256x1024.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S2x2048x1024.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S2x2048x1024.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S2x2048x1024.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S2x2048x1024.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamGmInIdeal.Meaning

end
-- ==== Proof.AdamGmInClaims.lean ====
module

public import proofs.«01_k».proof.Defs
public import proofs.«01_k».proof.Proof.Gen.AdamGmIn.Frame
public import proofs.«01_k».proof.Proof.Gen.AdamGmInRefIdeal.Run
public import proofs.«01_k».proof.Proof.Gen.AdamGmInRefIdeal.Read
public import proofs.«01_k».proof.Proof.AdamGmInValue

@[expose] public section

set_option maxRecDepth 16384

noncomputable section

/-! The claims of the update: the frames of the programs, and that both end with the same step of AdamW. -/

namespace Cert.AdamGmInIdeal.Meaning

open AdamGmInIdeal AdamGmInIdeal.Gen Idealize.ShloMosaic TcCoe Idealize.SL.Sem

theorem frame_ref : quiescent_AdamGmInRefIdeal (hAdamGmInRefIdeal := AdamGmInRefIdeal.Gen.facts) :=
  fun m ρ _ => (θ_run AdamGmInRefIdeal.defs _ _).mono
    (fun r h => ⟨fun c => (h c).2.2.2.2, sem_eq_zero_of_no_sems (by decide) r.2⟩) (AdamGmInRefIdeal.Value.run m ρ)

variable (x0 x1 x2 x3 : FVec Ideal S2x2048x1024 .f32)

theorem ref_0 : AdamGmInRefIdeal.Read.val_main_v23 (F := Ideal) x0 x1 x2 x3 = fun j => Adam.change (x0 j) (x1 j) (x2 j) (x3 j) := by
  funext i
  obtain ⟨p, q, r, rfl⟩ : ∃ (p : Fin 2) (q : Fin 2048) (r : Fin 1024), i = ix3 p q r := ⟨i 0, i 1, i 2, by funext x; fin_cases x <;> rfl⟩
  open AdamGmInRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamGmInRefIdeal.Read.val_main_v4 (F := Ideal) x1 x2 = fun j => Adam.moment (x1 j) (x2 j) := by
  funext i
  obtain ⟨p, q, r, rfl⟩ : ∃ (p : Fin 2) (q : Fin 2048) (r : Fin 1024), i = ix3 p q r := ⟨i 0, i 1, i 2, by funext x; fin_cases x <;> rfl⟩
  open AdamGmInRefIdeal.Read in
  pointwise [val_main_v4, val_main_v3, val_main_v2, val_main_cst_0, val_main_v1, val_main_v0, val_main_cst]
  try rfl

theorem ref_2 : AdamGmInRefIdeal.Read.val_main_v10 (F := Ideal) x1 x3 = fun j => Adam.square (x1 j) (x3 j) := by
  funext i
  obtain ⟨p, q, r, rfl⟩ : ∃ (p : Fin 2) (q : Fin 2048) (r : Fin 1024), i = ix3 p q r := ⟨i 0, i 1, i 2, by funext x; fin_cases x <;> rfl⟩
  open AdamGmInRefIdeal.Read in
  pointwise [val_main_v10, val_main_v9, val_main_v8, val_main_cst_2, val_main_v7, val_main_v6, val_main_v5, val_main_cst_1]
  try rfl

theorem algebraic : algebraic_AdamGmInIdeal_AdamGmInRefIdeal (hAdamGmInIdeal := AdamGmInIdeal.Gen.facts) (hAdamGmInRefIdeal := AdamGmInRefIdeal.Gen.facts) := by
  intro m g m' g' _ hargs
  refine ⟨new4 m, new5 m, new6 m, new7 m, ?_, ?_⟩
  · exact (θ_run AdamGmInIdeal.defs _ _).mono (fun r h c => ⟨(h c).1.trans (final4 m c), (h c).2.1.trans (final5 m c), (h c).2.2.1.trans (final6 m c), (h c).2.2.2.1.trans (final7 m c), (h c).2.2.2.2⟩) (AdamGmInIdeal.Value.run_blocks m g)
  · refine (θ_run AdamGmInRefIdeal.defs _ _).mono (fun r h c => ?_) (AdamGmInRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamGmInRefIdeal.Read.val_main_v23_eq _ _ _ _).trans ?_
      rw [a0, a1, a2, a3]
      exact ref_0 _ _ _ _
    · refine (AdamGmInRefIdeal.Read.val_main_v4_eq _ _).trans ?_
      rw [a1, a2]
      exact ref_1 _ _
    · refine (AdamGmInRefIdeal.Read.val_main_v10_eq _ _).trans ?_
      rw [a1, a3]
      exact ref_2 _ _

end Cert.AdamGmInIdeal.Meaning

end
-- ==== Proof.AdamGateValue.lean ====
module

public import proofs.«01_k».proof.Proof.Gen.AdamGateIdeal.Value
public import proofs.«01_k».proof.Proof.Adam
public import proofs.«01_k».proof.Proof.Common

@[expose] public section

set_option maxRecDepth 16384

noncomputable section

/-! The step's update of a weight held as 4 planes of 2048 by 1408, 128 rows of a plane at a time. -/

namespace Cert.AdamGateIdeal.Meaning

open AdamGateIdeal AdamGateIdeal.Gen Idealize.ShloMosaic TcCoe Idealize.SL.Sem

theorem entry (i : S1x128x1408.Idx) : ∃ (a : Fin 128) (b : Fin 1408), i = ix3 0 a b := by
  refine ⟨i 1, i 2, ?_⟩
  funext x
  fin_cases x
  · exact Subsingleton.elim (α := Fin 1) _ _
  · rfl
  · rfl

variable (x0 x1 x2 x3 : Vec Ideal S1x128x1408 .f32)

theorem value4 (i : S1x128x1408.Idx) : out0_4 x0 x1 x2 x3 i = Adam.change (x0 i) (x1 i) (x2 i) (x3 i) := by
  unfold out0_4
  rw [View.canon_unit_zero (S := S1x128x1408) hz3]
  simp only [View.ld_unit_zero (S := S1x128x1408) hz3]
  obtain ⟨a, b, rfl⟩ := entry i
  unfold_payloads
  pointwise
  try rfl

theorem value5 (i : S1x128x1408.Idx) : out0_5 x0 x1 x2 x3 i = Adam.moment (x1 i) (x2 i) := by
  unfold out0_5
  rw [View.canon_unit_zero (S := S1x128x1408) hz3]
  simp only [View.ld_unit_zero (S := S1x128x1408) hz3]
  obtain ⟨a, b, rfl⟩ := entry i
  unfold_payloads
  pointwise
  try rfl

theorem value6 (i : S1x128x1408.Idx) : out0_6 x0 x1 x2 x3 i = Adam.square (x1 i) (x3 i) := by
  unfold out0_6
  rw [View.canon_unit_zero (S := S1x128x1408) hz3]
  simp only [View.ld_unit_zero (S := S1x128x1408) hz3]
  obtain ⟨a, b, rfl⟩ := entry i
  unfold_payloads
  pointwise
  try rfl

theorem value7 (i : S1x128x1408.Idx) : out0_7 x0 x1 x2 x3 i = x1 i := by
  unfold out0_7
  rw [View.canon_unit_zero (S := S1x128x1408) hz3]
  simp only [View.ld_unit_zero (S := S1x128x1408) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 16 ∧ win0_4.index t 1 = t.val % 16 ∧ win0_4.index t 2 = 0 := by decide +kernel

/-- Where a block's entry lies in the whole. -/
def spot (t : Fin cfg0.N) (i : S1x128x1408.Idx) : S4x2048x1408.Idx := ((cfg0.win 4).blk t).view.emb i

/-- Every entry lies in a block. -/
theorem everywhere (i : S4x2048x1408.Idx) : ∃ t : Fin cfg0.N, ∀ d, win0_4.index t d * S1x128x1408.size d ≤ (i d : Nat) ∧ (i d : Nat) < win0_4.index t d * S1x128x1408.size d + S1x128x1408.size d := by
  have h0 : (i 0 : Nat) < 4 := (i 0).isLt
  have h1 : (i 1 : Nat) < 2048 := (i 1).isLt
  have h2 : (i 2 : Nat) < 1408 := (i 2).isLt
  let t : Fin cfg0.N := ⟨(i 0 : Nat) * 16 + (i 1 : Nat) / 128, by show _ < grid0.N; rw [Gen.N_0]; omega⟩
  have hi := at4 t
  have ht : t.val = (i 0 : Nat) * 16 + (i 1 : Nat) / 128 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 128 ≤ (i 1 : Nat) ∧ (i 1 : Nat) < win0_4.index t 1 * 128 + 128; rw [hi.2.1]; omega
  | ⟨2, _⟩ => show win0_4.index t 2 * 1408 ≤ (i 2 : Nat) ∧ (i 2 : Nat) < win0_4.index t 2 * 1408 + 1408; rw [hi.2.2]; omega

theorem read0 (i : S1x128x1408.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x128x1408.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x128x1408.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x128x1408.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S4x2048x1408.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S4x2048x1408.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S4x2048x1408.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S4x2048x1408.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamGateIdeal.Meaning

end
-- ==== Proof.AdamGateClaims.lean ====
module

public import proofs.«01_k».proof.Defs
public import proofs.«01_k».proof.Proof.Gen.AdamGate.Frame
public import proofs.«01_k».proof.Proof.Gen.AdamGateRefIdeal.Run
public import proofs.«01_k».proof.Proof.Gen.AdamGateRefIdeal.Read
public import proofs.«01_k».proof.Proof.AdamGateValue

@[expose] public section

set_option maxRecDepth 16384

noncomputable section

/-! The claims of the update: the frames of the programs, and that both end with the same step of AdamW. -/

namespace Cert.AdamGateIdeal.Meaning

open AdamGateIdeal AdamGateIdeal.Gen Idealize.ShloMosaic TcCoe Idealize.SL.Sem

theorem frame_ref : quiescent_AdamGateRefIdeal (hAdamGateRefIdeal := AdamGateRefIdeal.Gen.facts) :=
  fun m ρ _ => (θ_run AdamGateRefIdeal.defs _ _).mono
    (fun r h => ⟨fun c => (h c).2.2.2.2, sem_eq_zero_of_no_sems (by decide) r.2⟩) (AdamGateRefIdeal.Value.run m ρ)

variable (x0 x1 x2 x3 : FVec Ideal S4x2048x1408 .f32)

theorem ref_0 : AdamGateRefIdeal.Read.val_main_v23 (F := Ideal) x0 x1 x2 x3 = fun j => Adam.change (x0 j) (x1 j) (x2 j) (x3 j) := by
  funext i
  obtain ⟨p, q, r, rfl⟩ : ∃ (p : Fin 4) (q : Fin 2048) (r : Fin 1408), i = ix3 p q r := ⟨i 0, i 1, i 2, by funext x; fin_cases x <;> rfl⟩
  open AdamGateRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamGateRefIdeal.Read.val_main_v4 (F := Ideal) x1 x2 = fun j => Adam.moment (x1 j) (x2 j) := by
  funext i
  obtain ⟨p, q, r, rfl⟩ : ∃ (p : Fin 4) (q : Fin 2048) (r : Fin 1408), i = ix3 p q r := ⟨i 0, i 1, i 2, by funext x; fin_cases x <;> rfl⟩
  open AdamGateRefIdeal.Read in
  pointwise [val_main_v4, val_main_v3, val_main_v2, val_main_cst_0, val_main_v1, val_main_v0, val_main_cst]
  try rfl

theorem ref_2 : AdamGateRefIdeal.Read.val_main_v10 (F := Ideal) x1 x3 = fun j => Adam.square (x1 j) (x3 j) := by
  funext i
  obtain ⟨p, q, r, rfl⟩ : ∃ (p : Fin 4) (q : Fin 2048) (r : Fin 1408), i = ix3 p q r := ⟨i 0, i 1, i 2, by funext x; fin_cases x <;> rfl⟩
  open AdamGateRefIdeal.Read in
  pointwise [val_main_v10, val_main_v9, val_main_v8, val_main_cst_2, val_main_v7, val_main_v6, val_main_v5, val_main_cst_1]
  try rfl

theorem algebraic : algebraic_AdamGateIdeal_AdamGateRefIdeal (hAdamGateIdeal := AdamGateIdeal.Gen.facts) (hAdamGateRefIdeal := AdamGateRefIdeal.Gen.facts) := by
  intro m g m' g' _ hargs
  refine ⟨new4 m, new5 m, new6 m, new7 m, ?_, ?_⟩
  · exact (θ_run AdamGateIdeal.defs _ _).mono (fun r h c => ⟨(h c).1.trans (final4 m c), (h c).2.1.trans (final5 m c), (h c).2.2.1.trans (final6 m c), (h c).2.2.2.1.trans (final7 m c), (h c).2.2.2.2⟩) (AdamGateIdeal.Value.run_blocks m g)
  · refine (θ_run AdamGateRefIdeal.defs _ _).mono (fun r h c => ?_) (AdamGateRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamGateRefIdeal.Read.val_main_v23_eq _ _ _ _).trans ?_
      rw [a0, a1, a2, a3]
      exact ref_0 _ _ _ _
    · refine (AdamGateRefIdeal.Read.val_main_v4_eq _ _).trans ?_
      rw [a1, a2]
      exact ref_1 _ _
    · refine (AdamGateRefIdeal.Read.val_main_v10_eq _ _).trans ?_
      rw [a1, a3]
      exact ref_2 _ _

end Cert.AdamGateIdeal.Meaning

end
-- ==== Proof.AdamDownValue.lean ====
module

public import proofs.«01_k».proof.Proof.Gen.AdamDownIdeal.Value
public import proofs.«01_k».proof.Proof.Adam
public import proofs.«01_k».proof.Proof.Common

@[expose] public section

set_option maxRecDepth 16384

noncomputable section

/-! The step's update of a weight held as 4 planes of 1408 by 2048, 128 rows of a plane at a time. -/

namespace Cert.AdamDownIdeal.Meaning

open AdamDownIdeal AdamDownIdeal.Gen Idealize.ShloMosaic TcCoe Idealize.SL.Sem

theorem entry (i : S1x128x2048.Idx) : ∃ (a : Fin 128) (b : Fin 2048), i = ix3 0 a b := by
  refine ⟨i 1, i 2, ?_⟩
  funext x
  fin_cases x
  · exact Subsingleton.elim (α := Fin 1) _ _
  · rfl
  · rfl

variable (x0 x1 x2 x3 : Vec Ideal S1x128x2048 .f32)

theorem value4 (i : S1x128x2048.Idx) : out0_4 x0 x1 x2 x3 i = Adam.change (x0 i) (x1 i) (x2 i) (x3 i) := by
  unfold out0_4
  rw [View.canon_unit_zero (S := S1x128x2048) hz3]
  simp only [View.ld_unit_zero (S := S1x128x2048) hz3]
  obtain ⟨a, b, rfl⟩ := entry i
  unfold_payloads
  pointwise
  try rfl

theorem value5 (i : S1x128x2048.Idx) : out0_5 x0 x1 x2 x3 i = Adam.moment (x1 i) (x2 i) := by
  unfold out0_5
  rw [View.canon_unit_zero (S := S1x128x2048) hz3]
  simp only [View.ld_unit_zero (S := S1x128x2048) hz3]
  obtain ⟨a, b, rfl⟩ := entry i
  unfold_payloads
  pointwise
  try rfl

theorem value6 (i : S1x128x2048.Idx) : out0_6 x0 x1 x2 x3 i = Adam.square (x1 i) (x3 i) := by
  unfold out0_6
  rw [View.canon_unit_zero (S := S1x128x2048) hz3]
  simp only [View.ld_unit_zero (S := S1x128x2048) hz3]
  obtain ⟨a, b, rfl⟩ := entry i
  unfold_payloads
  pointwise
  try rfl

theorem value7 (i : S1x128x2048.Idx) : out0_7 x0 x1 x2 x3 i = x1 i := by
  unfold out0_7
  rw [View.canon_unit_zero (S := S1x128x2048) hz3]
  simp only [View.ld_unit_zero (S := S1x128x2048) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 11 ∧ win0_4.index t 1 = t.val % 11 ∧ win0_4.index t 2 = 0 := by decide +kernel

/-- Where a block's entry lies in the whole. -/
def spot (t : Fin cfg0.N) (i : S1x128x2048.Idx) : S4x1408x2048.Idx := ((cfg0.win 4).blk t).view.emb i

/-- Every entry lies in a block. -/
theorem everywhere (i : S4x1408x2048.Idx) : ∃ t : Fin cfg0.N, ∀ d, win0_4.index t d * S1x128x2048.size d ≤ (i d : Nat) ∧ (i d : Nat) < win0_4.index t d * S1x128x2048.size d + S1x128x2048.size d := by
  have h0 : (i 0 : Nat) < 4 := (i 0).isLt
  have h1 : (i 1 : Nat) < 1408 := (i 1).isLt
  have h2 : (i 2 : Nat) < 2048 := (i 2).isLt
  let t : Fin cfg0.N := ⟨(i 0 : Nat) * 11 + (i 1 : Nat) / 128, by show _ < grid0.N; rw [Gen.N_0]; omega⟩
  have hi := at4 t
  have ht : t.val = (i 0 : Nat) * 11 + (i 1 : Nat) / 128 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 128 ≤ (i 1 : Nat) ∧ (i 1 : Nat) < win0_4.index t 1 * 128 + 128; rw [hi.2.1]; omega
  | ⟨2, _⟩ => show win0_4.index t 2 * 2048 ≤ (i 2 : Nat) ∧ (i 2 : Nat) < win0_4.index t 2 * 2048 + 2048; rw [hi.2.2]; omega

theorem read0 (i : S1x128x2048.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x128x2048.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x128x2048.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x128x2048.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S4x1408x2048.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S4x1408x2048.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S4x1408x2048.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S4x1408x2048.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamDownIdeal.Meaning

end
-- ==== Proof.AdamDownClaims.lean ====
module

public import proofs.«01_k».proof.Defs
public import proofs.«01_k».proof.Proof.Gen.AdamDown.Frame
public import proofs.«01_k».proof.Proof.Gen.AdamDownRefIdeal.Run
public import proofs.«01_k».proof.Proof.Gen.AdamDownRefIdeal.Read
public import proofs.«01_k».proof.Proof.AdamDownValue

@[expose] public section

set_option maxRecDepth 16384

noncomputable section

/-! The claims of the update: the frames of the programs, and that both end with the same step of AdamW. -/

namespace Cert.AdamDownIdeal.Meaning

open AdamDownIdeal AdamDownIdeal.Gen Idealize.ShloMosaic TcCoe Idealize.SL.Sem

theorem frame_ref : quiescent_AdamDownRefIdeal (hAdamDownRefIdeal := AdamDownRefIdeal.Gen.facts) :=
  fun m ρ _ => (θ_run AdamDownRefIdeal.defs _ _).mono
    (fun r h => ⟨fun c => (h c).2.2.2.2, sem_eq_zero_of_no_sems (by decide) r.2⟩) (AdamDownRefIdeal.Value.run m ρ)

variable (x0 x1 x2 x3 : FVec Ideal S4x1408x2048 .f32)

theorem ref_0 : AdamDownRefIdeal.Read.val_main_v23 (F := Ideal) x0 x1 x2 x3 = fun j => Adam.change (x0 j) (x1 j) (x2 j) (x3 j) := by
  funext i
  obtain ⟨p, q, r, rfl⟩ : ∃ (p : Fin 4) (q : Fin 1408) (r : Fin 2048), i = ix3 p q r := ⟨i 0, i 1, i 2, by funext x; fin_cases x <;> rfl⟩
  open AdamDownRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamDownRefIdeal.Read.val_main_v4 (F := Ideal) x1 x2 = fun j => Adam.moment (x1 j) (x2 j) := by
  funext i
  obtain ⟨p, q, r, rfl⟩ : ∃ (p : Fin 4) (q : Fin 1408) (r : Fin 2048), i = ix3 p q r := ⟨i 0, i 1, i 2, by funext x; fin_cases x <;> rfl⟩
  open AdamDownRefIdeal.Read in
  pointwise [val_main_v4, val_main_v3, val_main_v2, val_main_cst_0, val_main_v1, val_main_v0, val_main_cst]
  try rfl

theorem ref_2 : AdamDownRefIdeal.Read.val_main_v10 (F := Ideal) x1 x3 = fun j => Adam.square (x1 j) (x3 j) := by
  funext i
  obtain ⟨p, q, r, rfl⟩ : ∃ (p : Fin 4) (q : Fin 1408) (r : Fin 2048), i = ix3 p q r := ⟨i 0, i 1, i 2, by funext x; fin_cases x <;> rfl⟩
  open AdamDownRefIdeal.Read in
  pointwise [val_main_v10, val_main_v9, val_main_v8, val_main_cst_2, val_main_v7, val_main_v6, val_main_v5, val_main_cst_1]
  try rfl

theorem algebraic : algebraic_AdamDownIdeal_AdamDownRefIdeal (hAdamDownIdeal := AdamDownIdeal.Gen.facts) (hAdamDownRefIdeal := AdamDownRefIdeal.Gen.facts) := by
  intro m g m' g' _ hargs
  refine ⟨new4 m, new5 m, new6 m, new7 m, ?_, ?_⟩
  · exact (θ_run AdamDownIdeal.defs _ _).mono (fun r h c => ⟨(h c).1.trans (final4 m c), (h c).2.1.trans (final5 m c), (h c).2.2.1.trans (final6 m c), (h c).2.2.2.1.trans (final7 m c), (h c).2.2.2.2⟩) (AdamDownIdeal.Value.run_blocks m g)
  · refine (θ_run AdamDownRefIdeal.defs _ _).mono (fun r h c => ?_) (AdamDownRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamDownRefIdeal.Read.val_main_v23_eq _ _ _ _).trans ?_
      rw [a0, a1, a2, a3]
      exact ref_0 _ _ _ _
    · refine (AdamDownRefIdeal.Read.val_main_v4_eq _ _).trans ?_
      rw [a1, a2]
      exact ref_1 _ _
    · refine (AdamDownRefIdeal.Read.val_main_v10_eq _ _).trans ?_
      rw [a1, a3]
      exact ref_2 _ _

end Cert.AdamDownIdeal.Meaning

end
-- ==== Proof.AdamProjValue.lean ====
module

public import proofs.«01_k».proof.Proof.Gen.AdamProjIdeal.Value
public import proofs.«01_k».proof.Proof.Adam
public import proofs.«01_k».proof.Proof.Common

@[expose] public section

set_option maxRecDepth 16384

noncomputable section

/-! The step's update of a weight held as 4 planes of 256 by 512, 256 rows of a plane at a time. -/

namespace Cert.AdamProjIdeal.Meaning

open AdamProjIdeal AdamProjIdeal.Gen Idealize.ShloMosaic TcCoe Idealize.SL.Sem

theorem entry (i : S1x256x512.Idx) : ∃ (a : Fin 256) (b : Fin 512), i = ix3 0 a b := by
  refine ⟨i 1, i 2, ?_⟩
  funext x
  fin_cases x
  · exact Subsingleton.elim (α := Fin 1) _ _
  · rfl
  · rfl

variable (x0 x1 x2 x3 : Vec Ideal S1x256x512 .f32)

theorem value4 (i : S1x256x512.Idx) : out0_4 x0 x1 x2 x3 i = Adam.change (x0 i) (x1 i) (x2 i) (x3 i) := by
  unfold out0_4
  rw [View.canon_unit_zero (S := S1x256x512) hz3]
  simp only [View.ld_unit_zero (S := S1x256x512) hz3]
  obtain ⟨a, b, rfl⟩ := entry i
  unfold_payloads
  pointwise
  try rfl

theorem value5 (i : S1x256x512.Idx) : out0_5 x0 x1 x2 x3 i = Adam.moment (x1 i) (x2 i) := by
  unfold out0_5
  rw [View.canon_unit_zero (S := S1x256x512) hz3]
  simp only [View.ld_unit_zero (S := S1x256x512) hz3]
  obtain ⟨a, b, rfl⟩ := entry i
  unfold_payloads
  pointwise
  try rfl

theorem value6 (i : S1x256x512.Idx) : out0_6 x0 x1 x2 x3 i = Adam.square (x1 i) (x3 i) := by
  unfold out0_6
  rw [View.canon_unit_zero (S := S1x256x512) hz3]
  simp only [View.ld_unit_zero (S := S1x256x512) hz3]
  obtain ⟨a, b, rfl⟩ := entry i
  unfold_payloads
  pointwise
  try rfl

theorem value7 (i : S1x256x512.Idx) : out0_7 x0 x1 x2 x3 i = x1 i := by
  unfold out0_7
  rw [View.canon_unit_zero (S := S1x256x512) hz3]
  simp only [View.ld_unit_zero (S := S1x256x512) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 1 ∧ win0_4.index t 1 = t.val % 1 ∧ win0_4.index t 2 = 0 := by decide +kernel

/-- Where a block's entry lies in the whole. -/
def spot (t : Fin cfg0.N) (i : S1x256x512.Idx) : S4x256x512.Idx := ((cfg0.win 4).blk t).view.emb i

/-- Every entry lies in a block. -/
theorem everywhere (i : S4x256x512.Idx) : ∃ t : Fin cfg0.N, ∀ d, win0_4.index t d * S1x256x512.size d ≤ (i d : Nat) ∧ (i d : Nat) < win0_4.index t d * S1x256x512.size d + S1x256x512.size d := by
  have h0 : (i 0 : Nat) < 4 := (i 0).isLt
  have h1 : (i 1 : Nat) < 256 := (i 1).isLt
  have h2 : (i 2 : Nat) < 512 := (i 2).isLt
  let t : Fin cfg0.N := ⟨(i 0 : Nat) * 1 + (i 1 : Nat) / 256, by show _ < grid0.N; rw [Gen.N_0]; omega⟩
  have hi := at4 t
  have ht : t.val = (i 0 : Nat) * 1 + (i 1 : Nat) / 256 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 256 ≤ (i 1 : Nat) ∧ (i 1 : Nat) < win0_4.index t 1 * 256 + 256; rw [hi.2.1]; omega
  | ⟨2, _⟩ => show win0_4.index t 2 * 512 ≤ (i 2 : Nat) ∧ (i 2 : Nat) < win0_4.index t 2 * 512 + 512; rw [hi.2.2]; omega

theorem read0 (i : S1x256x512.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x256x512.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x256x512.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x256x512.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S4x256x512.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S4x256x512.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S4x256x512.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S4x256x512.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamProjIdeal.Meaning

end
-- ==== Proof.AdamProjClaims.lean ====
module

public import proofs.«01_k».proof.Defs
public import proofs.«01_k».proof.Proof.Gen.AdamProj.Frame
public import proofs.«01_k».proof.Proof.Gen.AdamProjRefIdeal.Run
public import proofs.«01_k».proof.Proof.Gen.AdamProjRefIdeal.Read
public import proofs.«01_k».proof.Proof.AdamProjValue

@[expose] public section

set_option maxRecDepth 16384

noncomputable section

/-! The claims of the update: the frames of the programs, and that both end with the same step of AdamW. -/

namespace Cert.AdamProjIdeal.Meaning

open AdamProjIdeal AdamProjIdeal.Gen Idealize.ShloMosaic TcCoe Idealize.SL.Sem

theorem frame_ref : quiescent_AdamProjRefIdeal (hAdamProjRefIdeal := AdamProjRefIdeal.Gen.facts) :=
  fun m ρ _ => (θ_run AdamProjRefIdeal.defs _ _).mono
    (fun r h => ⟨fun c => (h c).2.2.2.2, sem_eq_zero_of_no_sems (by decide) r.2⟩) (AdamProjRefIdeal.Value.run m ρ)

variable (x0 x1 x2 x3 : FVec Ideal S4x256x512 .f32)

theorem ref_0 : AdamProjRefIdeal.Read.val_main_v23 (F := Ideal) x0 x1 x2 x3 = fun j => Adam.change (x0 j) (x1 j) (x2 j) (x3 j) := by
  funext i
  obtain ⟨p, q, r, rfl⟩ : ∃ (p : Fin 4) (q : Fin 256) (r : Fin 512), i = ix3 p q r := ⟨i 0, i 1, i 2, by funext x; fin_cases x <;> rfl⟩
  open AdamProjRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamProjRefIdeal.Read.val_main_v4 (F := Ideal) x1 x2 = fun j => Adam.moment (x1 j) (x2 j) := by
  funext i
  obtain ⟨p, q, r, rfl⟩ : ∃ (p : Fin 4) (q : Fin 256) (r : Fin 512), i = ix3 p q r := ⟨i 0, i 1, i 2, by funext x; fin_cases x <;> rfl⟩
  open AdamProjRefIdeal.Read in
  pointwise [val_main_v4, val_main_v3, val_main_v2, val_main_cst_0, val_main_v1, val_main_v0, val_main_cst]
  try rfl

theorem ref_2 : AdamProjRefIdeal.Read.val_main_v10 (F := Ideal) x1 x3 = fun j => Adam.square (x1 j) (x3 j) := by
  funext i
  obtain ⟨p, q, r, rfl⟩ : ∃ (p : Fin 4) (q : Fin 256) (r : Fin 512), i = ix3 p q r := ⟨i 0, i 1, i 2, by funext x; fin_cases x <;> rfl⟩
  open AdamProjRefIdeal.Read in
  pointwise [val_main_v10, val_main_v9, val_main_v8, val_main_cst_2, val_main_v7, val_main_v6, val_main_v5, val_main_cst_1]
  try rfl

theorem algebraic : algebraic_AdamProjIdeal_AdamProjRefIdeal (hAdamProjIdeal := AdamProjIdeal.Gen.facts) (hAdamProjRefIdeal := AdamProjRefIdeal.Gen.facts) := by
  intro m g m' g' _ hargs
  refine ⟨new4 m, new5 m, new6 m, new7 m, ?_, ?_⟩
  · exact (θ_run AdamProjIdeal.defs _ _).mono (fun r h c => ⟨(h c).1.trans (final4 m c), (h c).2.1.trans (final5 m c), (h c).2.2.1.trans (final6 m c), (h c).2.2.2.1.trans (final7 m c), (h c).2.2.2.2⟩) (AdamProjIdeal.Value.run_blocks m g)
  · refine (θ_run AdamProjRefIdeal.defs _ _).mono (fun r h c => ?_) (AdamProjRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamProjRefIdeal.Read.val_main_v23_eq _ _ _ _).trans ?_
      rw [a0, a1, a2, a3]
      exact ref_0 _ _ _ _
    · refine (AdamProjRefIdeal.Read.val_main_v4_eq _ _).trans ?_
      rw [a1, a2]
      exact ref_1 _ _
    · refine (AdamProjRefIdeal.Read.val_main_v10_eq _ _).trans ?_
      rw [a1, a3]
      exact ref_2 _ _

end Cert.AdamProjIdeal.Meaning

end
-- ==== Proof.AdamPleGateValue.lean ====
module

public import proofs.«01_k».proof.Proof.Gen.AdamPleGateIdeal.Value
public import proofs.«01_k».proof.Proof.Adam
public import proofs.«01_k».proof.Proof.Common

@[expose] public section

set_option maxRecDepth 16384

noncomputable section

/-! The step's update of a weight held as 4 planes of 512 by 2048, 128 rows of a plane at a time. -/

namespace Cert.AdamPleGateIdeal.Meaning

open AdamPleGateIdeal AdamPleGateIdeal.Gen Idealize.ShloMosaic TcCoe Idealize.SL.Sem

theorem entry (i : S1x128x2048.Idx) : ∃ (a : Fin 128) (b : Fin 2048), i = ix3 0 a b := by
  refine ⟨i 1, i 2, ?_⟩
  funext x
  fin_cases x
  · exact Subsingleton.elim (α := Fin 1) _ _
  · rfl
  · rfl

variable (x0 x1 x2 x3 : Vec Ideal S1x128x2048 .f32)

theorem value4 (i : S1x128x2048.Idx) : out0_4 x0 x1 x2 x3 i = Adam.change (x0 i) (x1 i) (x2 i) (x3 i) := by
  unfold out0_4
  rw [View.canon_unit_zero (S := S1x128x2048) hz3]
  simp only [View.ld_unit_zero (S := S1x128x2048) hz3]
  obtain ⟨a, b, rfl⟩ := entry i
  unfold_payloads
  pointwise
  try rfl

theorem value5 (i : S1x128x2048.Idx) : out0_5 x0 x1 x2 x3 i = Adam.moment (x1 i) (x2 i) := by
  unfold out0_5
  rw [View.canon_unit_zero (S := S1x128x2048) hz3]
  simp only [View.ld_unit_zero (S := S1x128x2048) hz3]
  obtain ⟨a, b, rfl⟩ := entry i
  unfold_payloads
  pointwise
  try rfl

theorem value6 (i : S1x128x2048.Idx) : out0_6 x0 x1 x2 x3 i = Adam.square (x1 i) (x3 i) := by
  unfold out0_6
  rw [View.canon_unit_zero (S := S1x128x2048) hz3]
  simp only [View.ld_unit_zero (S := S1x128x2048) hz3]
  obtain ⟨a, b, rfl⟩ := entry i
  unfold_payloads
  pointwise
  try rfl

theorem value7 (i : S1x128x2048.Idx) : out0_7 x0 x1 x2 x3 i = x1 i := by
  unfold out0_7
  rw [View.canon_unit_zero (S := S1x128x2048) hz3]
  simp only [View.ld_unit_zero (S := S1x128x2048) hz3]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t ∧ win0_7.index t = win0_4.index t := by decide +kernel

theorem at4 : ∀ t : Fin grid0.N, win0_4.index t 0 = t.val / 4 ∧ win0_4.index t 1 = t.val % 4 ∧ win0_4.index t 2 = 0 := by decide +kernel

/-- Where a block's entry lies in the whole. -/
def spot (t : Fin cfg0.N) (i : S1x128x2048.Idx) : S4x512x2048.Idx := ((cfg0.win 4).blk t).view.emb i

/-- Every entry lies in a block. -/
theorem everywhere (i : S4x512x2048.Idx) : ∃ t : Fin cfg0.N, ∀ d, win0_4.index t d * S1x128x2048.size d ≤ (i d : Nat) ∧ (i d : Nat) < win0_4.index t d * S1x128x2048.size d + S1x128x2048.size d := by
  have h0 : (i 0 : Nat) < 4 := (i 0).isLt
  have h1 : (i 1 : Nat) < 512 := (i 1).isLt
  have h2 : (i 2 : Nat) < 2048 := (i 2).isLt
  let t : Fin cfg0.N := ⟨(i 0 : Nat) * 4 + (i 1 : Nat) / 128, by show _ < grid0.N; rw [Gen.N_0]; omega⟩
  have hi := at4 t
  have ht : t.val = (i 0 : Nat) * 4 + (i 1 : Nat) / 128 := rfl
  refine ⟨t, fun d => ?_⟩
  match d with
  | ⟨0, _⟩ => show win0_4.index t 0 * 1 ≤ (i 0 : Nat) ∧ (i 0 : Nat) < win0_4.index t 0 * 1 + 1; rw [hi.1]; omega
  | ⟨1, _⟩ => show win0_4.index t 1 * 128 ≤ (i 1 : Nat) ∧ (i 1 : Nat) < win0_4.index t 1 * 128 + 128; rw [hi.2.1]; omega
  | ⟨2, _⟩ => show win0_4.index t 2 * 2048 ≤ (i 2 : Nat) ∧ (i 2 : Nat) < win0_4.index t 2 * 2048 + 2048; rw [hi.2.2]; omega

theorem read0 (i : S1x128x2048.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1x128x2048.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1x128x2048.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1x128x2048.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S4x512x2048.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S4x512x2048.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S4x512x2048.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2.1]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2.1] at h
    exact h

/-- The gradient, handed on. -/
def new7 (c : Dev nD) : S4x512x2048.Idx → EReal := fun j => m ((c : Thread nD τ).loc main_arg1) j

theorem final7 (c : Dev nD) : (dats m 0 c).arrAt 7 cfg0.N = new7 m c := by
  refine (dats m 0 c).arrAt_eq_of_cover 7 _ (fun t hf => ?_) fun i => ?_
  · show (cfg0.win 7).cut (grid0.coords t) ((dats m 0 c).after 7 t) = _
    rw [after0_7]
    funext i
    rw [View.read_apply]
    have e : ((cfg0.win 7).blk t).view.emb i = spot t i := by
      refine funext fun d => Fin.ext ?_
      show win0_7.index t d * _ + 1 * (i d : Nat) = win0_4.index t d * _ + 1 * (i d : Nat)
      rw [(same t).2.2.2.2.2.2]
    rw [e]
    refine (value7 (iblk m c 0 t) (iblk m c 1 t) (iblk m c 2 t) (iblk m c 3 t) i).trans ?_
    rw [read1 m c t i]
    rfl
  · obtain ⟨t, h⟩ := everywhere i
    refine ⟨t, flush0_7 t, ?_⟩
    show i ∈ ((View.whole main_v0_3).slice (win0_7.rect t)).set
    rw [View.set_slice_whole, Rect.mem_set_unit]
    intro d
    have h := h d
    rw [← (same t).2.2.2.2.2.2] at h
    exact h

end Cert.AdamPleGateIdeal.Meaning

end
-- ==== Proof.AdamPleGateClaims.lean ====
module

public import proofs.«01_k».proof.Defs
public import proofs.«01_k».proof.Proof.Gen.AdamPleGate.Frame
public import proofs.«01_k».proof.Proof.Gen.AdamPleGateRefIdeal.Run
public import proofs.«01_k».proof.Proof.Gen.AdamPleGateRefIdeal.Read
public import proofs.«01_k».proof.Proof.AdamPleGateValue

@[expose] public section

set_option maxRecDepth 16384

noncomputable section

/-! The claims of the update: the frames of the programs, and that both end with the same step of AdamW. -/

namespace Cert.AdamPleGateIdeal.Meaning

open AdamPleGateIdeal AdamPleGateIdeal.Gen Idealize.ShloMosaic TcCoe Idealize.SL.Sem

theorem frame_ref : quiescent_AdamPleGateRefIdeal (hAdamPleGateRefIdeal := AdamPleGateRefIdeal.Gen.facts) :=
  fun m ρ _ => (θ_run AdamPleGateRefIdeal.defs _ _).mono
    (fun r h => ⟨fun c => (h c).2.2.2.2, sem_eq_zero_of_no_sems (by decide) r.2⟩) (AdamPleGateRefIdeal.Value.run m ρ)

variable (x0 x1 x2 x3 : FVec Ideal S4x512x2048 .f32)

theorem ref_0 : AdamPleGateRefIdeal.Read.val_main_v23 (F := Ideal) x0 x1 x2 x3 = fun j => Adam.change (x0 j) (x1 j) (x2 j) (x3 j) := by
  funext i
  obtain ⟨p, q, r, rfl⟩ : ∃ (p : Fin 4) (q : Fin 512) (r : Fin 2048), i = ix3 p q r := ⟨i 0, i 1, i 2, by funext x; fin_cases x <;> rfl⟩
  open AdamPleGateRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamPleGateRefIdeal.Read.val_main_v4 (F := Ideal) x1 x2 = fun j => Adam.moment (x1 j) (x2 j) := by
  funext i
  obtain ⟨p, q, r, rfl⟩ : ∃ (p : Fin 4) (q : Fin 512) (r : Fin 2048), i = ix3 p q r := ⟨i 0, i 1, i 2, by funext x; fin_cases x <;> rfl⟩
  open AdamPleGateRefIdeal.Read in
  pointwise [val_main_v4, val_main_v3, val_main_v2, val_main_cst_0, val_main_v1, val_main_v0, val_main_cst]
  try rfl

theorem ref_2 : AdamPleGateRefIdeal.Read.val_main_v10 (F := Ideal) x1 x3 = fun j => Adam.square (x1 j) (x3 j) := by
  funext i
  obtain ⟨p, q, r, rfl⟩ : ∃ (p : Fin 4) (q : Fin 512) (r : Fin 2048), i = ix3 p q r := ⟨i 0, i 1, i 2, by funext x; fin_cases x <;> rfl⟩
  open AdamPleGateRefIdeal.Read in
  pointwise [val_main_v10, val_main_v9, val_main_v8, val_main_cst_2, val_main_v7, val_main_v6, val_main_v5, val_main_cst_1]
  try rfl

theorem algebraic : algebraic_AdamPleGateIdeal_AdamPleGateRefIdeal (hAdamPleGateIdeal := AdamPleGateIdeal.Gen.facts) (hAdamPleGateRefIdeal := AdamPleGateRefIdeal.Gen.facts) := by
  intro m g m' g' _ hargs
  refine ⟨new4 m, new5 m, new6 m, new7 m, ?_, ?_⟩
  · exact (θ_run AdamPleGateIdeal.defs _ _).mono (fun r h c => ⟨(h c).1.trans (final4 m c), (h c).2.1.trans (final5 m c), (h c).2.2.1.trans (final6 m c), (h c).2.2.2.1.trans (final7 m c), (h c).2.2.2.2⟩) (AdamPleGateIdeal.Value.run_blocks m g)
  · refine (θ_run AdamPleGateRefIdeal.defs _ _).mono (fun r h c => ?_) (AdamPleGateRefIdeal.Value.run m' g')
    obtain ⟨a0, a1, a2, a3⟩ := hargs c
    obtain ⟨e0, e1, e2, e3, k⟩ := h c
    refine ⟨e0.trans ?_, e1.trans ?_, e2.trans ?_, e3.trans a1, k⟩
    · refine (AdamPleGateRefIdeal.Read.val_main_v23_eq _ _ _ _).trans ?_
      rw [a0, a1, a2, a3]
      exact ref_0 _ _ _ _
    · refine (AdamPleGateRefIdeal.Read.val_main_v4_eq _ _).trans ?_
      rw [a1, a2]
      exact ref_1 _ _
    · refine (AdamPleGateRefIdeal.Read.val_main_v10_eq _ _).trans ?_
      rw [a1, a3]
      exact ref_2 _ _

end Cert.AdamPleGateIdeal.Meaning

end
-- ==== Proof.AdamSmallValue.lean ====
module

public import proofs.«01_k».proof.Proof.Gen.AdamSmallIdeal.Value
public import proofs.«01_k».proof.Proof.Adam
public import proofs.«01_k».proof.Proof.Common

@[expose] public section

set_option maxRecDepth 16384

noncomputable section

/-! The step's update of the packed small weights, 4608 rows of 128, 1536 rows at a time. -/

namespace Cert.AdamSmallIdeal.Meaning

open AdamSmallIdeal AdamSmallIdeal.Gen Idealize.ShloMosaic TcCoe Idealize.SL.Sem

theorem entry (i : S1536x128.Idx) : ∃ (a : Fin 1536) (b : Fin 128), i = ix2 a b := ⟨i 0, i 1, by funext x; fin_cases x <;> rfl⟩

variable (x0 x1 x2 x3 : Vec Ideal S1536x128 .f32)

theorem value4 (i : S1536x128.Idx) : out0_4 x0 x1 x2 x3 i = Adam.change (x0 i) (x1 i) (x2 i) (x3 i) := by
  unfold out0_4
  rw [View.canon_unit_zero (S := S1536x128) hz2]
  simp only [View.ld_unit_zero (S := S1536x128) hz2]
  obtain ⟨a, b, rfl⟩ := entry i
  unfold_payloads
  pointwise
  try rfl

theorem value5 (i : S1536x128.Idx) : out0_5 x0 x1 x2 x3 i = Adam.moment (x1 i) (x2 i) := by
  unfold out0_5
  rw [View.canon_unit_zero (S := S1536x128) hz2]
  simp only [View.ld_unit_zero (S := S1536x128) hz2]
  obtain ⟨a, b, rfl⟩ := entry i
  unfold_payloads
  pointwise
  try rfl

theorem value6 (i : S1536x128.Idx) : out0_6 x0 x1 x2 x3 i = Adam.square (x1 i) (x3 i) := by
  unfold out0_6
  rw [View.canon_unit_zero (S := S1536x128) hz2]
  simp only [View.ld_unit_zero (S := S1536x128) hz2]
  obtain ⟨a, b, rfl⟩ := entry i
  unfold_payloads
  pointwise
  try rfl

variable (m : (ℓ : Loc nD τ sig) → Buf (Elt Ideal) ℓ) (c : Dev nD) (t : Fin cfg0.N)

/-- All windows walk together. -/
theorem same : ∀ t : Fin grid0.N, win0_0.index t = win0_4.index t ∧ win0_1.index t = win0_4.index t ∧ win0_2.index t = win0_4.index t ∧ win0_3.index t = win0_4.index t ∧ win0_5.index t = win0_4.index t ∧ win0_6.index t = win0_4.index t := by decide +kernel

theorem at4 : ∀ t : Fin grid0.N, win0_4.index t 0 = t.val ∧ win0_4.index t 1 = 0 := by decide +kernel

/-- Where a block's entry lies in the whole. -/
def spot (t : Fin cfg0.N) (i : S1536x128.Idx) : S4608x128.Idx := ((cfg0.win 4).blk t).view.emb i

/-- Every entry lies in a block. -/
theorem everywhere (i : S4608x128.Idx) : ∃ t : Fin cfg0.N, ∀ d, win0_4.index t d * S1536x128.size d ≤ (i d : Nat) ∧ (i d : Nat) < win0_4.index t d * S1536x128.size d + S1536x128.size d := by
  have h0 : (i 0 : Nat) < 4608 := (i 0).isLt
  have h1 : (i 1 : Nat) < 128 := (i 1).isLt
  let t : Fin cfg0.N := ⟨(i 0 : Nat) / 1536, by show _ < grid0.N; rw [Gen.N_0]; omega⟩
  have hi := at4 t
  have ht : t.val = (i 0 : Nat) / 1536 := rfl
  refine ⟨t, fun d => ?_⟩
  match d with
  | ⟨0, _⟩ => show win0_4.index t 0 * 1536 ≤ (i 0 : Nat) ∧ (i 0 : Nat) < win0_4.index t 0 * 1536 + 1536; rw [hi.1]; omega
  | ⟨1, _⟩ => show win0_4.index t 1 * 128 ≤ (i 1 : Nat) ∧ (i 1 : Nat) < win0_4.index t 1 * 128 + 128; rw [hi.2]; omega

theorem read0 (i : S1536x128.Idx) : iblk m c 0 t i = m ((c : Thread nD τ).loc main_arg0) (spot t i) := by
  unfold iblk
  rw [View.read_apply]
  show V m c main_arg0 _ = _
  rw [V_main_arg0]
  refine congrArg (m ((c : Thread nD τ).loc main_arg0)) (funext fun d => Fin.ext ?_)
  show win0_0.index t d * _ + 1 * (i d : Nat) = win0_4.index t d * _ + 1 * (i d : Nat)
  rw [(same t).1]

theorem read1 (i : S1536x128.Idx) : iblk m c 1 t i = m ((c : Thread nD τ).loc main_arg1) (spot t i) := by
  unfold iblk
  rw [View.read_apply]
  show V m c main_arg1 _ = _
  rw [V_main_arg1]
  refine congrArg (m ((c : Thread nD τ).loc main_arg1)) (funext fun d => Fin.ext ?_)
  show win0_1.index t d * _ + 1 * (i d : Nat) = win0_4.index t d * _ + 1 * (i d : Nat)
  rw [(same t).2.1]

theorem read2 (i : S1536x128.Idx) : iblk m c 2 t i = m ((c : Thread nD τ).loc main_arg2) (spot t i) := by
  unfold iblk
  rw [View.read_apply]
  show V m c main_arg2 _ = _
  rw [V_main_arg2]
  refine congrArg (m ((c : Thread nD τ).loc main_arg2)) (funext fun d => Fin.ext ?_)
  show win0_2.index t d * _ + 1 * (i d : Nat) = win0_4.index t d * _ + 1 * (i d : Nat)
  rw [(same t).2.2.1]

theorem read3 (i : S1536x128.Idx) : iblk m c 3 t i = m ((c : Thread nD τ).loc main_arg3) (spot t i) := by
  unfold iblk
  rw [View.read_apply]
  show V m c main_arg3 _ = _
  rw [V_main_arg3]
  refine congrArg (m ((c : Thread nD τ).loc main_arg3)) (funext fun d => Fin.ext ?_)
  show win0_3.index t d * _ + 1 * (i d : Nat) = win0_4.index t d * _ + 1 * (i d : Nat)
  rw [(same t).2.2.2.1]

/-- The change of the weight. -/
def new4 (c : Dev nD) : S4608x128.Idx → EReal := fun j => Adam.change (m ((c : Thread nD τ).loc main_arg0) j) (m ((c : Thread nD τ).loc main_arg1) j) (m ((c : Thread nD τ).loc main_arg2) j) (m ((c : Thread nD τ).loc main_arg3) j)

theorem final4 (c : Dev nD) : (dats m 0 c).arrAt 4 cfg0.N = new4 m c := by
  refine (dats m 0 c).arrAt_eq_of_cover 4 _ (fun t hf => ?_) fun i => ?_
  · show (cfg0.win 4).cut (grid0.coords t) ((dats m 0 c).after 4 t) = _
    rw [after0_4]
    funext i
    rw [View.read_apply]
    show _ = new4 m c (spot t i)
    refine (value4 (iblk m c 0 t) (iblk m c 1 t) (iblk m c 2 t) (iblk m c 3 t) i).trans ?_
    rw [read0 m c t i, read1 m c t i, read2 m c t i, read3 m c t i]
    rfl
  · obtain ⟨t, h⟩ := everywhere i
    refine ⟨t, flush0_4 t, ?_⟩
    show i ∈ ((View.whole main_v0_0).slice (win0_4.rect t)).set
    rw [View.set_slice_whole, Rect.mem_set_unit]
    intro d
    have h := h d
    exact h

/-- The new first moment. -/
def new5 (c : Dev nD) : S4608x128.Idx → EReal := fun j => Adam.moment (m ((c : Thread nD τ).loc main_arg1) j) (m ((c : Thread nD τ).loc main_arg2) j)

theorem final5 (c : Dev nD) : (dats m 0 c).arrAt 5 cfg0.N = new5 m c := by
  refine (dats m 0 c).arrAt_eq_of_cover 5 _ (fun t hf => ?_) fun i => ?_
  · show (cfg0.win 5).cut (grid0.coords t) ((dats m 0 c).after 5 t) = _
    rw [after0_5]
    funext i
    rw [View.read_apply]
    have e : ((cfg0.win 5).blk t).view.emb i = spot t i := by
      refine funext fun d => Fin.ext ?_
      show win0_5.index t d * _ + 1 * (i d : Nat) = win0_4.index t d * _ + 1 * (i d : Nat)
      rw [(same t).2.2.2.2.1]
    rw [e]
    refine (value5 (iblk m c 0 t) (iblk m c 1 t) (iblk m c 2 t) (iblk m c 3 t) i).trans ?_
    rw [read1 m c t i, read2 m c t i]
    rfl
  · obtain ⟨t, h⟩ := everywhere i
    refine ⟨t, flush0_5 t, ?_⟩
    show i ∈ ((View.whole main_v0_1).slice (win0_5.rect t)).set
    rw [View.set_slice_whole, Rect.mem_set_unit]
    intro d
    have h := h d
    rw [← (same t).2.2.2.2.1] at h
    exact h

/-- The new second moment. -/
def new6 (c : Dev nD) : S4608x128.Idx → EReal := fun j => Adam.square (m ((c : Thread nD τ).loc main_arg1) j) (m ((c : Thread nD τ).loc main_arg3) j)

theorem final6 (c : Dev nD) : (dats m 0 c).arrAt 6 cfg0.N = new6 m c := by
  refine (dats m 0 c).arrAt_eq_of_cover 6 _ (fun t hf => ?_) fun i => ?_
  · show (cfg0.win 6).cut (grid0.coords t) ((dats m 0 c).after 6 t) = _
    rw [after0_6]
    funext i
    rw [View.read_apply]
    have e : ((cfg0.win 6).blk t).view.emb i = spot t i := by
      refine funext fun d => Fin.ext ?_
      show win0_6.index t d * _ + 1 * (i d : Nat) = win0_4.index t d * _ + 1 * (i d : Nat)
      rw [(same t).2.2.2.2.2]
    rw [e]
    refine (value6 (iblk m c 0 t) (iblk m c 1 t) (iblk m c 2 t) (iblk m c 3 t) i).trans ?_
    rw [read1 m c t i, read3 m c t i]
    rfl
  · obtain ⟨t, h⟩ := everywhere i
    refine ⟨t, flush0_6 t, ?_⟩
    show i ∈ ((View.whole main_v0_2).slice (win0_6.rect t)).set
    rw [View.set_slice_whole, Rect.mem_set_unit]
    intro d
    have h := h d
    rw [← (same t).2.2.2.2.2] at h
    exact h

end Cert.AdamSmallIdeal.Meaning

end
-- ==== Proof.AdamSmallClaims.lean ====
module

public import proofs.«01_k».proof.Defs
public import proofs.«01_k».proof.Proof.Gen.AdamSmall.Frame
public import proofs.«01_k».proof.Proof.Gen.AdamSmallRefIdeal.Run
public import proofs.«01_k».proof.Proof.Gen.AdamSmallRefIdeal.Read
public import proofs.«01_k».proof.Proof.AdamSmallValue

@[expose] public section

set_option maxRecDepth 16384

noncomputable section

/-! The claims of the update: the frames of the programs, and that both end with the same step of AdamW. -/

namespace Cert.AdamSmallIdeal.Meaning

open AdamSmallIdeal AdamSmallIdeal.Gen Idealize.ShloMosaic TcCoe Idealize.SL.Sem

theorem frame_ref : quiescent_AdamSmallRefIdeal (hAdamSmallRefIdeal := AdamSmallRefIdeal.Gen.facts) :=
  fun m ρ _ => (θ_run AdamSmallRefIdeal.defs _ _).mono
    (fun r h => ⟨fun c => (h c).2.2.2, sem_eq_zero_of_no_sems (by decide) r.2⟩) (AdamSmallRefIdeal.Value.run m ρ)

variable (x0 x1 x2 x3 : FVec Ideal S4608x128 .f32)

theorem ref_0 : AdamSmallRefIdeal.Read.val_main_v23 (F := Ideal) x0 x1 x2 x3 = fun j => Adam.change (x0 j) (x1 j) (x2 j) (x3 j) := by
  funext i
  obtain ⟨p, q, rfl⟩ : ∃ (p : Fin 4608) (q : Fin 128), i = ix2 p q := ⟨i 0, i 1, by funext x; fin_cases x <;> rfl⟩
  open AdamSmallRefIdeal.Read in
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  try rfl

theorem ref_1 : AdamSmallRefIdeal.Read.val_main_v4 (F := Ideal) x1 x2 = fun j => Adam.moment (x1 j) (x2 j) := by
  funext i
  obtain ⟨p, q, rfl⟩ : ∃ (p : Fin 4608) (q : Fin 128), i = ix2 p q := ⟨i 0, i 1, by funext x; fin_cases x <;> rfl⟩
  open AdamSmallRefIdeal.Read in
  pointwise [val_main_v4, val_main_v3, val_main_v2, val_main_cst_0, val_main_v1, val_main_v0, val_main_cst]
  try rfl

theorem ref_2 : AdamSmallRefIdeal.Read.val_main_v10 (F := Ideal) x1 x3 = fun j => Adam.square (x1 j) (x3 j) := by
  funext i
  obtain ⟨p, q, rfl⟩ : ∃ (p : Fin 4608) (q : Fin 128), i = ix2 p q := ⟨i 0, i 1, by funext x; fin_cases x <;> rfl⟩
  open AdamSmallRefIdeal.Read in
  pointwise [val_main_v10, val_main_v9, val_main_v8, val_main_cst_2, val_main_v7, val_main_v6, val_main_v5, val_main_cst_1]
  try rfl

theorem algebraic : algebraic_AdamSmallIdeal_AdamSmallRefIdeal (hAdamSmallIdeal := AdamSmallIdeal.Gen.facts) (hAdamSmallRefIdeal := AdamSmallRefIdeal.Gen.facts) := by
  intro m g m' g' _ hargs
  refine ⟨new4 m, new5 m, new6 m, ?_, ?_⟩
  · exact (θ_run AdamSmallIdeal.defs _ _).mono (fun r h c => ⟨(h c).1.trans (final4 m c), (h c).2.1.trans (final5 m c), (h c).2.2.1.trans (final6 m c), (h c).2.2.2⟩) (AdamSmallIdeal.Value.run_blocks m g)
  · refine (θ_run AdamSmallRefIdeal.defs _ _).mono (fun r h c => ?_) (AdamSmallRefIdeal.Value.run m' g')
    obtain ⟨a0, a1, a2, a3⟩ := hargs c
    obtain ⟨e0, e1, e2, k⟩ := h c
    refine ⟨e0.trans ?_, e1.trans ?_, e2.trans ?_, k⟩
    · refine (AdamSmallRefIdeal.Read.val_main_v23_eq _ _ _ _).trans ?_
      rw [a0, a1, a2, a3]
      exact ref_0 _ _ _ _
    · refine (AdamSmallRefIdeal.Read.val_main_v4_eq _ _).trans ?_
      rw [a1, a2]
      exact ref_1 _ _
    · refine (AdamSmallRefIdeal.Read.val_main_v10_eq _ _).trans ?_
      rw [a1, a3]
      exact ref_2 _ _

end Cert.AdamSmallIdeal.Meaning

end
-- ==== Proof.RowNorm.lean ====
module

public import Idealize.ShloMosaic.Lib.Pointwise

@[expose] public section

set_option maxRecDepth 16384

noncomputable section

/-! The gradient of a row divided by the root of its mean square, with a gain on each entry. The functions take a row
    and give a row. -/

namespace Cert.RowNorm

open Idealize.ShloMosaic

/-- The mean square of a row of 2048 entries, and the small constant. -/
def mean (x : Fin 2048 → EReal) : EReal :=
  Ideal.div (∑ k, x k * x k) (Ideal.ofBits .f32 0x45000000#32) + Ideal.ofBits .f32 0x358637BD#32

/-- One over the root of it. -/
def inv (x : Fin 2048 → EReal) : EReal := Ideal.rsqrt (mean x)

/-- The normed row, with its gain. -/
def normed (x g : Fin 2048 → EReal) (j : Fin 2048) : EReal := x j * inv x * g j

/-- What the gradient `w` before the gain brings to the mean square, per entry of the row. -/
def pull (x w : Fin 2048 → EReal) : EReal :=
  Ideal.div ((∑ k, x k * w k) * (Ideal.ofBits .f32 0xBF000000#32 * Ideal.div (inv x) (mean x))) (Ideal.ofBits .f32 0x45000000#32)

/-- The gradient at the row, of the gradient `d` at the normed row. -/
def back (x g d : Fin 2048 → EReal) (j : Fin 2048) : EReal :=
  d j * g j * inv x + (x j * pull x (fun k => d k * g k) + pull x (fun k => d k * g k) * x j)

/-- A row's part of the gradient at the gain. -/
def gain (x d : Fin 2048 → EReal) (j : Fin 2048) : EReal := x j * inv x * d j

end Cert.RowNorm

end
-- ==== Proof.PrenormBwdValue.lean ====
module

public import proofs.«01_k».proof.Proof.Gen.PrenormBwdIdeal.Value
public import proofs.«01_k».proof.Proof.RowNorm
public import proofs.«01_k».proof.Proof.Common

@[expose] public section

set_option maxRecDepth 16384
set_option maxHeartbeats 1000000

noncomputable section

/-! Backward of the norm before a layer: rows in blocks of 256, the gradient at the gain kept over the blocks. -/

namespace Cert.PrenormBwdIdeal.Meaning

open PrenormBwdIdeal PrenormBwdIdeal.Gen Idealize.ShloMosaic TcCoe Idealize.SL.Sem

/-- The one block of a sum over a single block. -/
theorem sum_one (f : Fin 1 → EReal) : ∑ i, f i = f 0 := Fin.sum_univ_one f

section Points

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole)

theorem value_A_4 (hc0 : cond0_0 i)
    (x0 : Vec Ideal S256x2048 .f32) (x1 : Vec Ideal S1x2048 .f32) (x2 x3 : Vec Ideal S256x2048 .f32) (a : Fin 256) (b : Fin 2048) : out0_A_4 (F := Ideal) c i arg1 harg1 arg2 harg2 arg3 harg3 arg4 harg4 arg5 harg5 arg6 harg6 hc0 x0 x1 x2 x3 (ix2 a b) = (fun j => RowNorm.back (fun k => x0 (ix2 a k)) (fun k => x1 (ix2 0 k)) (fun k => x2 (ix2 a k)) j + (fun k => x3 (ix2 a k)) j) b := by
  unfold out0_A_4
  rw [View.read_writes_eq_canon _ _ _ (cover0_A_4 _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, View.ld_unit_zero (S := S1x2048) hz2, View.ld_unit_zero (S := S256x2048) hz2]
  unfold_payloads
  pointwise
  simp only [sum_one, zero_add, RowNorm.back, RowNorm.pull, RowNorm.inv, RowNorm.mean]
  ac_rfl

theorem value_B_4 (hc0 : ¬cond0_0 i)
    (x0 : Vec Ideal S256x2048 .f32) (x1 : Vec Ideal S1x2048 .f32) (x2 x3 : Vec Ideal S256x2048 .f32) (xo5 : Vec Ideal S1x2048 .f32) (a : Fin 256) (b : Fin 2048) : out0_B_4 (F := Ideal) c i arg1 harg1 arg2 harg2 arg3 harg3 arg4 harg4 arg5 harg5 arg6 harg6 hc0 x0 x1 x2 x3 xo5 (ix2 a b) = (fun j => RowNorm.back (fun k => x0 (ix2 a k)) (fun k => x1 (ix2 0 k)) (fun k => x2 (ix2 a k)) j + (fun k => x3 (ix2 a k)) j) b := by
  unfold out0_B_4
  rw [View.read_writes_eq_canon _ _ _ (cover0_B_4 _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, View.ld_unit_zero (S := S1x2048) hz2, View.ld_unit_zero (S := S256x2048) hz2]
  unfold_payloads
  pointwise
  simp only [sum_one, zero_add, RowNorm.back, RowNorm.pull, RowNorm.inv, RowNorm.mean]
  ac_rfl

theorem value_A_5 (hc0 : cond0_0 i)
    (x0 : Vec Ideal S256x2048 .f32) (x1 : Vec Ideal S1x2048 .f32) (x2 x3 : Vec Ideal S256x2048 .f32) (b : Fin 2048) : out0_A_5 (F := Ideal) c i arg1 harg1 arg2 harg2 arg3 harg3 arg4 harg4 arg5 harg5 arg6 harg6 hc0 x0 x1 x2 x3 (ix2 0 b) = ∑ a : Fin 256, RowNorm.gain (fun k => x0 (ix2 a k)) (fun k => x2 (ix2 a k)) b := by
  unfold out0_A_5
  rw [View.read_writes_eq_canon _ _ _ (cover0_A_5 _ _ _ _ _ _ _ _ _ _ _ _ _ _ _ _ _ _ _)]
  unfold kernelRun0_A
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, View.ld_unit_zero (S := S1x2048) hz2, View.ld_unit_zero (S := S256x2048) hz2]
  unfold_payloads
  pointwise
  try simp only [sum_one, zero_add]
  try rfl

theorem value_B_5 (hc0 : ¬cond0_0 i)
    (x0 : Vec Ideal S256x2048 .f32) (x1 : Vec Ideal S1x2048 .f32) (x2 x3 : Vec Ideal S256x2048 .f32) (xo5 : Vec Ideal S1x2048 .f32) (b : Fin 2048) : out0_B_5 (F := Ideal) c i arg1 harg1 arg2 harg2 arg3 harg3 arg4 harg4 arg5 harg5 arg6 harg6 hc0 x0 x1 x2 x3 xo5 (ix2 0 b) = xo5 (ix2 0 b) + ∑ a : Fin 256, RowNorm.gain (fun k => x0 (ix2 a k)) (fun k => x2 (ix2 a k)) b := by
  unfold out0_B_5
  rw [View.read_writes_eq_canon _ _ _ (cover0_B_5 _ _ _ _ _ _ _ _ _ _ _ _ _ _ _ _ _ _ _ _)]
  unfold kernelRun0_B
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, View.ld_unit_zero (S := S1x2048) hz2, View.ld_unit_zero (S := S256x2048) hz2]
  unfold_payloads
  pointwise
  try simp only [sum_one, zero_add]
  try rfl

end Points

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

/-- Row `a` of block `t`. -/
def row (t : Fin cfg0.N) (a : Fin 256) : Fin 4096 := ⟨t.val * 256 + a.val, by have := lt_N t; omega⟩

abbrev A0 (c : Dev nD) (p : Fin 4096) : Fin 2048 → EReal := fun k => m ((c : Thread nD τ).loc main_arg0) (ix2 p k)
abbrev A1 (c : Dev nD) : Fin 2048 → EReal := fun k => m ((c : Thread nD τ).loc main_arg1) (ix1 k)
abbrev A2 (c : Dev nD) (p : Fin 4096) : Fin 2048 → EReal := fun k => m ((c : Thread nD τ).loc main_arg2) (ix2 p k)
abbrev A3 (c : Dev nD) (p : Fin 4096) : Fin 2048 → EReal := fun k => m ((c : Thread nD τ).loc main_arg3) (ix2 p k)

theorem index : ∀ t : Fin grid0.N, (win0_0.index t 0 = t.val ∧ win0_0.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_1.index t 0 = 0 ∧ win0_1.index t 1 = 0) ∧ (win0_5.index t 0 = 0 ∧ win0_5.index t 1 = 0) := by decide +kernel

theorem read0 (a : Fin 256) : (fun k : Fin 2048 => iblk m c 0 t (ix2 a k)) = A0 m c (row t a) := by
  funext k
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 256 + 1 * a.val = t.val * 256 + a.val; rw [(index t).1.1]; omega
  | ⟨1, _⟩ => show win0_0.index t 1 * 2048 + 1 * k.val = k.val; rw [(index t).1.2]; omega

theorem read1 : (fun k : Fin 2048 => iblk m c 1 t (ix2 0 k)) = A1 m c := by
  funext k
  unfold iblk
  rw [View.read_apply]
  have e : ((cfg0.win 1).blk t).view.emb (ix2 0 k : S1x2048.Idx) = (ix2 0 k : S1x2048.Idx) := by
    refine funext fun d => Fin.ext ?_
    match d with
    | ⟨0, _⟩ => show win0_1.index t 0 * 1 + 1 * 0 = 0; rw [(index t).2.2.2.2.1.1]
    | ⟨1, _⟩ => show win0_1.index t 1 * 2048 + 1 * k.val = k.val; rw [(index t).2.2.2.2.1.2]; omega
  show V m c main_v0 _ = _
  refine (congrArg _ e).trans ?_
  unfold V hostOps0
  after_results
  pointwise

theorem read2 (a : Fin 256) : (fun k : Fin 2048 => iblk m c 2 t (ix2 a k)) = A2 m c (row t a) := by
  funext k
  unfold iblk
  rw [View.read_apply]
  show V m c main_arg2 _ = _
  rw [V_main_arg2]
  refine congrArg (m ((c : Thread nD τ).loc main_arg2)) (funext fun d => Fin.ext ?_)
  match d with
  | ⟨0, _⟩ => show win0_2.index t 0 * 256 + 1 * a.val = t.val * 256 + a.val; rw [(index t).2.1.1]; omega
  | ⟨1, _⟩ => show win0_2.index t 1 * 2048 + 1 * k.val = k.val; rw [(index t).2.1.2]; omega

theorem read3 (a : Fin 256) : (fun k : Fin 2048 => iblk m c 3 t (ix2 a k)) = A3 m c (row t a) := by
  funext k
  unfold iblk
  rw [View.read_apply]
  show V m c main_arg3 _ = _
  rw [V_main_arg3]
  refine congrArg (m ((c : Thread nD τ).loc main_arg3)) (funext fun d => Fin.ext ?_)
  match d with
  | ⟨0, _⟩ => show win0_3.index t 0 * 256 + 1 * a.val = t.val * 256 + a.val; rw [(index t).2.2.1.1]; omega
  | ⟨1, _⟩ => show win0_3.index t 1 * 2048 + 1 * k.val = k.val; rw [(index t).2.2.1.2]; omega

/-- The gradient at the rows. -/
def res4 (c : Dev nD) : S4096x2048.Idx → EReal := fun i => (fun p => (fun j => RowNorm.back (A0 m c p) (A1 m c) (A2 m c p) j + (A3 m c p) j)) (i 0) (i 1)

theorem tile4 (a : Fin 256) (b : Fin 2048) :
    (outsAt0 m c t.val t.isLt).1 (ix2 a b) = res4 m c (ix2 (row t a) b) := by
  by_cases h : t.val % 16 = 0
  · rw [outsAt0_A m c t h]
    dsimp only
    refine (value_A_4 _ _ _ _ _ _ _ _ _ _ _ _ _ _ _ _ _ _ _ a b).trans ?_
    rw [read0 m c t a, read1 m c t, read2 m c t a, read3 m c t a]
    rfl
  · rw [outsAt0_B m c t h]
    dsimp only
    refine (value_B_4 _ _ _ _ _ _ _ _ _ _ _ _ _ _ _ _ _ _ _ _ a b).trans ?_
    rw [read0 m c t a, read1 m c t, read2 m c t a, read3 m c t a]
    rfl

theorem final4 (c : Dev nD) : (dats m 0 c).arrAt 4 cfg0.N = res4 m c := by
  refine (dats m 0 c).arrAt_eq_of_cover 4 _ (fun t _ => ?_) fun i => ?_
  · show (cfg0.win 4).cut (grid0.coords t) ((dats m 0 c).after 4 t) = _
    rw [after0_4]
    funext i
    rw [View.read_apply]
    obtain ⟨a, b, rfl⟩ : ∃ (a : Fin 256) (b : Fin 2048), i = ix2 a b := ⟨i 0, i 1, by funext x; fin_cases x <;> rfl⟩
    refine (tile4 m c t a b).trans (congrArg (res4 m c) (funext fun d => Fin.ext ?_))
    match d with
    | ⟨0, _⟩ => show t.val * 256 + a.val = win0_4.index t 0 * 256 + 1 * a.val; rw [(index t).2.2.2.1.1]; omega
    | ⟨1, _⟩ => show b.val = win0_4.index t 1 * 2048 + 1 * b.val; rw [(index t).2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_4 t, ?_⟩
    show i ∈ ((View.whole main_v1_0).slice (win0_4.rect t)).set
    rw [View.set_slice_whole, Rect.mem_set_unit]
    intro d
    match d with
    | ⟨0, _⟩ => show win0_4.index t 0 * 256 ≤ (i 0 : Nat) ∧ (i 0 : Nat) < win0_4.index t 0 * 256 + 256; rw [(index t).2.2.2.1.1]; omega
    | ⟨1, _⟩ => show win0_4.index t 1 * 2048 ≤ (i 1 : Nat) ∧ (i 1 : Nat) < win0_4.index t 1 * 2048 + 2048; rw [(index t).2.2.2.1.2]; omega

/-- The gradient at the gain. -/
def res5 (c : Dev nD) : S1x2048.Idx → EReal := fun i => ∑ p : Fin 4096, RowNorm.gain (A0 m c p) (A2 m c p) (i 1)

/-- The part of the rows of block `n`. -/
def part5 (c : Dev nD) (b : Fin 2048) (n : Nat) : EReal := ∑ a : Fin 256, (fun p => RowNorm.gain (A0 m c p) (A2 m c p) b) ⟨(n * 256 + a.val) % 4096, Nat.mod_lt _ (by norm_num)⟩

theorem part5_at (b : Fin 2048) : (∑ a : Fin 256, (fun p => RowNorm.gain (A0 m c p) (A2 m c p) b) (row t a)) = part5 m c b t.val := by
  have hN := lt_N t
  unfold part5 row
  refine Finset.sum_congr rfl fun a _ => ?_
  rw [show (⟨(t.val * 256 + a.val) % 4096, Nat.mod_lt _ (by norm_num)⟩ : Fin 4096) = ⟨t.val * 256 + a.val, by omega⟩ from Fin.ext (Nat.mod_eq_of_lt (by omega))]

theorem acc5 (c : Dev nD) (b : Fin 2048) : ∀ (n : Nat) (h : n < cfg0.N), (outsAt0 m c n h).2 (ix2 0 b) = ∑ i ∈ Finset.range (n + 1), part5 m c b i := by
  intro n
  induction n with
  | zero =>
    intro h
    refine (congrFun (congrArg (fun x => x.2) (outsAt0_A m c ⟨0, h⟩ rfl)) (ix2 0 b)).trans ?_
    dsimp only
    refine (value_A_5 _ _ _ _ _ _ _ _ _ _ _ _ _ _ _ _ _ _ _ b).trans ?_
    refine (Finset.sum_congr rfl fun a _ => ?_).trans ((part5_at m c ⟨0, h⟩ b).trans (by simp))
    have t : Fin cfg0.N := ⟨0, h⟩
    rw [read0 m c ⟨0, h⟩ a, read2 m c ⟨0, h⟩ a]
  | succ n ih =>
    intro h
    have hn : n + 1 < 16 := lt_N ⟨n + 1, h⟩
    have hb : ¬ (n + 1) % 16 = 0 := by omega
    refine (congrFun (congrArg (fun x => x.2) (outsAt0_B m c ⟨n + 1, h⟩ hb)) (ix2 0 b)).trans ?_
    dsimp only
    refine (value_B_5 _ _ _ _ _ _ _ _ _ _ _ _ _ _ _ _ _ _ _ _ b).trans ?_
    rw [Finset.sum_range_succ]
    refine congrArg₂ (· + ·) (ih _) ?_
    refine (Finset.sum_congr rfl fun a _ => ?_).trans (part5_at m c ⟨n + 1, h⟩ b)
    rw [read0 m c ⟨n + 1, h⟩ a, read2 m c ⟨n + 1, h⟩ a]

theorem final5 (c : Dev nD) : (dats m 0 c).arrAt 5 cfg0.N = res5 m c := by
  refine (dats m 0 c).arrAt_eq_of_cover 5 _ (fun t hf => ?_) fun i => ?_
  · have hN := lt_N t
    have ht := (flush0_5 t).mp hf
    show (cfg0.win 5).cut (grid0.coords t) ((dats m 0 c).after 5 t) = _
    rw [after0_5]
    funext i
    rw [View.read_apply]
    obtain ⟨a, b, rfl⟩ : ∃ (a : Fin 1) (b : Fin 2048), i = ix2 a b := ⟨i 0, i 1, by funext x; fin_cases x <;> rfl⟩
    obtain rfl : a = 0 := Subsingleton.elim _ _
    have e : ((cfg0.win 5).blk t).view.emb (ix2 0 b : S1x2048.Idx) = (ix2 0 b : S1x2048.Idx) := by
      refine funext fun d => Fin.ext ?_
      match d with
      | ⟨0, _⟩ => show win0_5.index t 0 * 1 + 1 * 0 = 0; rw [(index t).2.2.2.2.2.1]
      | ⟨1, _⟩ => show win0_5.index t 1 * 2048 + 1 * b.val = b.val; rw [(index t).2.2.2.2.2.2]; omega
    refine (acc5 m c b t.val t.isLt).trans (Eq.trans ?_ (congrArg (res5 m c) e).symm)
    rw [show t.val + 1 = 16 by omega, Finset.sum_range]
    show _ = ∑ p : Fin 4096, _
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
    rfl
  · have h0 : (i 0 : Nat) < 1 := (i 0).isLt
    have h1 : (i 1 : Nat) < 2048 := (i 1).isLt
    let t : Fin cfg0.N := ⟨15, by show _ < grid0.N; rw [Gen.N_0]; omega⟩
    have ht : t.val = 15 := rfl
    refine ⟨t, (flush0_5 t).mpr (by omega), ?_⟩
    show i ∈ ((View.whole main_v1_1).slice (win0_5.rect t)).set
    rw [View.set_slice_whole, Rect.mem_set_unit]
    intro d
    match d with
    | ⟨0, _⟩ => show win0_5.index t 0 * 1 ≤ (i 0 : Nat) ∧ (i 0 : Nat) < win0_5.index t 0 * 1 + 1; rw [(index t).2.2.2.2.2.1]; omega
    | ⟨1, _⟩ => show win0_5.index t 1 * 2048 ≤ (i 1 : Nat) ∧ (i 1 : Nat) < win0_5.index t 1 * 2048 + 2048; rw [(index t).2.2.2.2.2.2]; omega

end Cert.PrenormBwdIdeal.Meaning

end
-- ==== Proof.PrenormBwdClaims.lean ====
module

public import proofs.«01_k».proof.Defs
public import proofs.«01_k».proof.Proof.Gen.PrenormBwd.Frame
public import proofs.«01_k».proof.Proof.Gen.PrenormBwdRefIdeal.Run
public import proofs.«01_k».proof.Proof.Gen.PrenormBwdRefIdeal.Read
public import proofs.«01_k».proof.Proof.PrenormBwdValue

@[expose] public section

set_option maxRecDepth 16384

noncomputable section

/-! The claims of the call: the frames of the programs, and that the kernel and the reference end with the same gradients. -/

namespace Cert.PrenormBwdIdeal.Meaning

open PrenormBwdIdeal PrenormBwdIdeal.Gen Idealize.ShloMosaic TcCoe Idealize.SL.Sem

theorem frame_ref : quiescent_PrenormBwdRefIdeal (hPrenormBwdRefIdeal := PrenormBwdRefIdeal.Gen.facts) :=
  fun m ρ _ => (θ_run PrenormBwdRefIdeal.defs _ _).mono
    (fun r h => ⟨fun c => (h c).2.2, sem_eq_zero_of_no_sems (by decide) r.2⟩) (PrenormBwdRefIdeal.Value.run m ρ)

open PrenormBwdRefIdeal.Read in
theorem ref4 (x0 : FVec Ideal S4096x2048 .f32) (x1 : FVec Ideal PrenormBwdRefIdeal.S2048 .f32) (x2 x3 : FVec Ideal S4096x2048 .f32) (p : Fin 4096) (q : Fin 2048) :
    val_main_v36 (F := Ideal) x0 x1 x2 x3 (ix2 p q) = (fun j => RowNorm.back (fun k => x0 (ix2 p k)) (fun k => x1 (ix1 k)) (fun k => x2 (ix2 p k)) j + (fun k => x3 (ix2 p k)) j) q := by
  pointwise [val_main_v36, val_main_v35, val_main_v34, val_main_v33, val_main_v32, val_main_v31, val_main_cst_7, val_main_v30, val_main_v29, val_main_cst_6, val_main_v28, val_main_v27, val_main_v26, val_main_v25, val_main_v24, val_main_v23, val_main_cst_5, val_main_v22, val_main_v20, val_main_v19, val_main_v13, val_main_v10, val_main_v9, val_main_cst_2, val_main_v8, val_main_v7, val_main_v6, val_main_v5, val_main_cst_1, val_main_v4, val_main_v3, val_main_cst_0, val_main_v2, val_main_v1, val_main_cst, val_main_v0]
  simp only [sum_one, zero_add, RowNorm.back, RowNorm.pull, RowNorm.inv, RowNorm.mean]
  ac_rfl

open PrenormBwdRefIdeal.Read in
theorem ref5 (x0 x2 : FVec Ideal S4096x2048 .f32) (q : Fin 2048) :
    val_main_v37 (F := Ideal) x0 x2 (ix2 0 q) = ∑ p : Fin 4096, RowNorm.gain (fun k => x0 (ix2 p k)) (fun k => x2 (ix2 p k)) q := by
  pointwise [val_main_v37, val_main_v21, val_main_cst_4, val_main_v18, val_main_v17, val_main_cst_3, val_main_v16, val_main_v12, val_main_v11, val_main_v7, val_main_v6, val_main_v5, val_main_cst_1, val_main_v4, val_main_v3, val_main_cst_0, val_main_v2, val_main_v1, val_main_cst, val_main_v0]
  try simp only [sum_one, zero_add]
  try rfl

theorem algebraic : algebraic_PrenormBwdIdeal_PrenormBwdRefIdeal (hPrenormBwdIdeal := PrenormBwdIdeal.Gen.facts) (hPrenormBwdRefIdeal := PrenormBwdRefIdeal.Gen.facts) := by
  intro m g m' g' _ hargs
  refine ⟨res4 m, res5 m, ?_, ?_⟩
  · exact (θ_run PrenormBwdIdeal.defs _ _).mono (fun r h c => ⟨(h c).1.trans (final4 m c), (h c).2.1.trans (final5 m c), (h c).2.2⟩) (PrenormBwdIdeal.Value.run_blocks m g)
  · refine (θ_run PrenormBwdRefIdeal.defs _ _).mono (fun r h c => ?_) (PrenormBwdRefIdeal.Value.run m' g')
    obtain ⟨a0, a1, a2, a3⟩ := hargs c
    obtain ⟨e0, e1, k⟩ := h c
    refine ⟨e0.trans ?_, e1.trans ?_, k⟩
    · refine (PrenormBwdRefIdeal.Read.val_main_v36_eq _ _ _ _).trans ?_
      rw [a0, a1, a2, a3]
      funext i
      obtain ⟨p, q, rfl⟩ : ∃ (p : Fin 4096) (q : Fin 2048), i = ix2 p q := ⟨i 0, i 1, by funext x; fin_cases x <;> rfl⟩
      exact ref4 _ _ _ _ p q
    · refine (PrenormBwdRefIdeal.Read.val_main_v37_eq _ _).trans ?_
      rw [a0, a2]
      funext i
      obtain ⟨p, q, rfl⟩ : ∃ (p : Fin 1) (q : Fin 2048), i = ix2 p q := ⟨i 0, i 1, by funext x; fin_cases x <;> rfl⟩
      obtain rfl : p = 0 := Subsingleton.elim _ _
      exact ref5 _ _ q

end Cert.PrenormBwdIdeal.Meaning

end
-- ==== Proof.FfnPostBwdValue.lean ====
module

public import proofs.«01_k».proof.Proof.Gen.FfnPostBwdIdeal.Value
public import proofs.«01_k».proof.Proof.RowNorm
public import proofs.«01_k».proof.Proof.Common

@[expose] public section

set_option maxRecDepth 16384
set_option maxHeartbeats 1000000

noncomputable section

/-! Backward of the norm after the feed-forward part, whose result is added to the stream. -/

namespace Cert.FfnPostBwdIdeal.Meaning

open FfnPostBwdIdeal FfnPostBwdIdeal.Gen Idealize.ShloMosaic TcCoe Idealize.SL.Sem

/-- The one block of a sum over a single block. -/
theorem sum_one (f : Fin 1 → EReal) : ∑ i, f i = f 0 := Fin.sum_univ_one f

section Points

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)

theorem value_A_4 (hc0 : cond0_0 i)
    (x0 x1 : Vec Ideal S256x2048 .f32) (x2 : Vec Ideal S1x2048 .f32) (x3 : Vec Ideal S256x2048 .f32) (a : Fin 256) (b : Fin 2048) : out0_A_4 (F := Ideal) c i arg1 harg1 arg2 harg2 arg3 harg3 arg4 harg4 arg5 harg5 arg6 harg6 arg7 harg7 hc0 x0 x1 x2 x3 (ix2 a b) = (fun j => (fun k => x3 (ix2 a k)) j) b := by
  unfold out0_A_4
  rw [View.read_writes_eq_canon _ _ _ (cover0_A_4 _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  try simp only [sum_one, zero_add]
  try rfl

theorem value_B_4 (hc0 : ¬cond0_0 i)
    (x0 x1 : Vec Ideal S256x2048 .f32) (x2 : Vec Ideal S1x2048 .f32) (x3 : Vec Ideal S256x2048 .f32) (xo6 : Vec Ideal S1x2048 .f32) (a : Fin 256) (b : Fin 2048) : out0_B_4 (F := Ideal) c i arg1 harg1 arg2 harg2 arg3 harg3 arg4 harg4 arg5 harg5 arg6 harg6 arg7 harg7 hc0 x0 x1 x2 x3 xo6 (ix2 a b) = (fun j => (fun k => x3 (ix2 a k)) j) b := by
  unfold out0_B_4
  rw [View.read_writes_eq_canon _ _ _ (cover0_B_4 _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  try simp only [sum_one, zero_add]
  try rfl

theorem value_A_5 (hc0 : cond0_0 i)
    (x0 x1 : Vec Ideal S256x2048 .f32) (x2 : Vec Ideal S1x2048 .f32) (x3 : Vec Ideal S256x2048 .f32) (a : Fin 256) (b : Fin 2048) : out0_A_5 (F := Ideal) c i arg1 harg1 arg2 harg2 arg3 harg3 arg4 harg4 arg5 harg5 arg6 harg6 arg7 harg7 hc0 x0 x1 x2 x3 (ix2 a b) = RowNorm.back (fun k => x1 (ix2 a k)) (fun k => x2 (ix2 0 k)) (fun k => x3 (ix2 a k)) b := by
  unfold out0_A_5
  rw [View.read_writes_eq_canon _ _ _ (cover0_A_5 _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  simp only [sum_one, zero_add, RowNorm.back, RowNorm.pull, RowNorm.inv, RowNorm.mean]
  ac_rfl

theorem value_B_5 (hc0 : ¬cond0_0 i)
    (x0 x1 : Vec Ideal S256x2048 .f32) (x2 : Vec Ideal S1x2048 .f32) (x3 : Vec Ideal S256x2048 .f32) (xo6 : Vec Ideal S1x2048 .f32) (a : Fin 256) (b : Fin 2048) : out0_B_5 (F := Ideal) c i arg1 harg1 arg2 harg2 arg3 harg3 arg4 harg4 arg5 harg5 arg6 harg6 arg7 harg7 hc0 x0 x1 x2 x3 xo6 (ix2 a b) = RowNorm.back (fun k => x1 (ix2 a k)) (fun k => x2 (ix2 0 k)) (fun k => x3 (ix2 a k)) b := by
  unfold out0_B_5
  rw [View.read_writes_eq_canon _ _ _ (cover0_B_5 _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  simp only [sum_one, zero_add, RowNorm.back, RowNorm.pull, RowNorm.inv, RowNorm.mean]
  ac_rfl

theorem value_A_6 (hc0 : cond0_0 i)
    (x0 x1 : Vec Ideal S256x2048 .f32) (x2 : Vec Ideal S1x2048 .f32) (x3 : Vec Ideal S256x2048 .f32) (b : Fin 2048) : out0_A_6 (F := Ideal) c i arg1 harg1 arg2 harg2 arg3 harg3 arg4 harg4 arg5 harg5 arg6 harg6 arg7 harg7 hc0 x0 x1 x2 x3 (ix2 0 b) = ∑ a : Fin 256, RowNorm.gain (fun k => x1 (ix2 a k)) (fun k => x3 (ix2 a k)) b := by
  unfold out0_A_6
  rw [View.read_writes_eq_canon _ _ _ (cover0_A_6 _ _ _ _ _ _ _ _ _ _ _ _ _ _ _ _ _ _ _ _ _)]
  unfold kernelRun0_A
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  try simp only [sum_one, zero_add]
  try rfl

theorem value_B_6 (hc0 : ¬cond0_0 i)
    (x0 x1 : Vec Ideal S256x2048 .f32) (x2 : Vec Ideal S1x2048 .f32) (x3 : Vec Ideal S256x2048 .f32) (xo6 : Vec Ideal S1x2048 .f32) (b : Fin 2048) : out0_B_6 (F := Ideal) c i arg1 harg1 arg2 harg2 arg3 harg3 arg4 harg4 arg5 harg5 arg6 harg6 arg7 harg7 hc0 x0 x1 x2 x3 xo6 (ix2 0 b) = xo6 (ix2 0 b) + ∑ a : Fin 256, RowNorm.gain (fun k => x1 (ix2 a k)) (fun k => x3 (ix2 a k)) b := by
  unfold out0_B_6
  rw [View.read_writes_eq_canon _ _ _ (cover0_B_6 _ _ _ _ _ _ _ _ _ _ _ _ _ _ _ _ _ _ _ _ _ _)]
  unfold kernelRun0_B
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, View.ld_unit_zero (S := S1x2048) hz2, View.ld_unit_zero (S := S256x2048) hz2]
  unfold_payloads
  pointwise
  try simp only [sum_one, zero_add]
  try rfl

end Points

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

/-- Row `a` of block `t`. -/
def row (t : Fin cfg0.N) (a : Fin 256) : Fin 4096 := ⟨t.val * 256 + a.val, by have := lt_N t; omega⟩

abbrev A0 (c : Dev nD) (p : Fin 4096) : Fin 2048 → EReal := fun k => m ((c : Thread nD τ).loc main_arg0) (ix2 p k)
abbrev A1 (c : Dev nD) (p : Fin 4096) : Fin 2048 → EReal := fun k => m ((c : Thread nD τ).loc main_arg1) (ix2 p k)
abbrev A2 (c : Dev nD) : Fin 2048 → EReal := fun k => m ((c : Thread nD τ).loc main_arg2) (ix1 k)
abbrev A3 (c : Dev nD) (p : Fin 4096) : Fin 2048 → EReal := fun k => m ((c : Thread nD τ).loc main_arg3) (ix2 p k)

theorem index : ∀ t : Fin grid0.N, (win0_0.index t 0 = t.val ∧ win0_0.index t 1 = 0) ∧ (win0_1.index t 0 = t.val ∧ win0_1.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_2.index t 0 = 0 ∧ win0_2.index t 1 = 0) ∧ (win0_6.index t 0 = 0 ∧ win0_6.index t 1 = 0) := by decide +kernel

theorem read0 (a : Fin 256) : (fun k : Fin 2048 => iblk m c 0 t (ix2 a k)) = A0 m c (row t a) := by
  funext k
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 256 + 1 * a.val = t.val * 256 + a.val; rw [(index t).1.1]; omega
  | ⟨1, _⟩ => show win0_0.index t 1 * 2048 + 1 * k.val = k.val; rw [(index t).1.2]; omega

theorem read1 (a : Fin 256) : (fun k : Fin 2048 => iblk m c 1 t (ix2 a k)) = A1 m c (row t a) := by
  funext k
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t 0 * 256 + 1 * a.val = t.val * 256 + a.val; rw [(index t).2.1.1]; omega
  | ⟨1, _⟩ => show win0_1.index t 1 * 2048 + 1 * k.val = k.val; rw [(index t).2.1.2]; omega

theorem read2 : (fun k : Fin 2048 => iblk m c 2 t (ix2 0 k)) = A2 m c := by
  funext k
  unfold iblk
  rw [View.read_apply]
  have e : ((cfg0.win 2).blk t).view.emb (ix2 0 k : S1x2048.Idx) = (ix2 0 k : S1x2048.Idx) := by
    refine funext fun d => Fin.ext ?_
    match d with
    | ⟨0, _⟩ => show win0_2.index t 0 * 1 + 1 * 0 = 0; rw [(index t).2.2.2.2.2.1.1]
    | ⟨1, _⟩ => show win0_2.index t 1 * 2048 + 1 * k.val = k.val; rw [(index t).2.2.2.2.2.1.2]; omega
  show V m c main_v0 _ = _
  refine (congrArg _ e).trans ?_
  unfold V hostOps0
  after_results
  pointwise

theorem read3 (a : Fin 256) : (fun k : Fin 2048 => iblk m c 3 t (ix2 a k)) = A3 m c (row t a) := by
  funext k
  unfold iblk
  rw [View.read_apply]
  show V m c main_arg3 _ = _
  rw [V_main_arg3]
  refine congrArg (m ((c : Thread nD τ).loc main_arg3)) (funext fun d => Fin.ext ?_)
  match d with
  | ⟨0, _⟩ => show win0_3.index t 0 * 256 + 1 * a.val = t.val * 256 + a.val; rw [(index t).2.2.1.1]; omega
  | ⟨1, _⟩ => show win0_3.index t 1 * 2048 + 1 * k.val = k.val; rw [(index t).2.2.1.2]; omega

/-- The gradient passes to the stream unchanged. -/
def res4 (c : Dev nD) : S4096x2048.Idx → EReal := fun i => (fun p => (fun j => (A3 m c p) j)) (i 0) (i 1)

theorem tile4 (a : Fin 256) (b : Fin 2048) :
    (outsAt0 m c t.val t.isLt).1 (ix2 a b) = res4 m c (ix2 (row t a) b) := by
  by_cases h : t.val % 16 = 0
  · rw [outsAt0_A m c t h]
    dsimp only
    refine (value_A_4 _ _ _ _ _ _ _ _ _ _ _ _ _ _ _ _ _ _ _ _ _ a b).trans ?_
    rw [read3 m c t a]
    rfl
  · rw [outsAt0_B m c t h]
    dsimp only
    refine (value_B_4 _ _ _ _ _ _ _ _ _ _ _ _ _ _ _ _ _ _ _ _ _ _ a b).trans ?_
    rw [read3 m c t a]
    rfl

theorem final4 (c : Dev nD) : (dats m 0 c).arrAt 4 cfg0.N = res4 m c := by
  refine (dats m 0 c).arrAt_eq_of_cover 4 _ (fun t _ => ?_) fun i => ?_
  · show (cfg0.win 4).cut (grid0.coords t) ((dats m 0 c).after 4 t) = _
    rw [after0_4]
    funext i
    rw [View.read_apply]
    obtain ⟨a, b, rfl⟩ : ∃ (a : Fin 256) (b : Fin 2048), i = ix2 a b := ⟨i 0, i 1, by funext x; fin_cases x <;> rfl⟩
    refine (tile4 m c t a b).trans (congrArg (res4 m c) (funext fun d => Fin.ext ?_))
    match d with
    | ⟨0, _⟩ => show t.val * 256 + a.val = win0_4.index t 0 * 256 + 1 * a.val; rw [(index t).2.2.2.1.1]; omega
    | ⟨1, _⟩ => show b.val = win0_4.index t 1 * 2048 + 1 * b.val; rw [(index t).2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_4 t, ?_⟩
    show i ∈ ((View.whole main_v1_0).slice (win0_4.rect t)).set
    rw [View.set_slice_whole, Rect.mem_set_unit]
    intro d
    match d with
    | ⟨0, _⟩ => show win0_4.index t 0 * 256 ≤ (i 0 : Nat) ∧ (i 0 : Nat) < win0_4.index t 0 * 256 + 256; rw [(index t).2.2.2.1.1]; omega
    | ⟨1, _⟩ => show win0_4.index t 1 * 2048 ≤ (i 1 : Nat) ∧ (i 1 : Nat) < win0_4.index t 1 * 2048 + 2048; rw [(index t).2.2.2.1.2]; omega

/-- The gradient at the rows of the feed-forward part. -/
def res5 (c : Dev nD) : S4096x2048.Idx → EReal := fun i => (fun p => RowNorm.back (A1 m c p) (A2 m c) (A3 m c p)) (i 0) (i 1)

theorem tile5 (a : Fin 256) (b : Fin 2048) :
    (outsAt0 m c t.val t.isLt).2.1 (ix2 a b) = res5 m c (ix2 (row t a) b) := by
  by_cases h : t.val % 16 = 0
  · rw [outsAt0_A m c t h]
    dsimp only
    refine (value_A_5 _ _ _ _ _ _ _ _ _ _ _ _ _ _ _ _ _ _ _ _ _ a b).trans ?_
    rw [read1 m c t a, read2 m c t, read3 m c t a]
    rfl
  · rw [outsAt0_B m c t h]
    dsimp only
    refine (value_B_5 _ _ _ _ _ _ _ _ _ _ _ _ _ _ _ _ _ _ _ _ _ _ a b).trans ?_
    rw [read1 m c t a, read2 m c t, read3 m c t a]
    rfl

theorem final5 (c : Dev nD) : (dats m 0 c).arrAt 5 cfg0.N = res5 m c := by
  refine (dats m 0 c).arrAt_eq_of_cover 5 _ (fun t _ => ?_) fun i => ?_
  · show (cfg0.win 5).cut (grid0.coords t) ((dats m 0 c).after 5 t) = _
    rw [after0_5]
    funext i
    rw [View.read_apply]
    obtain ⟨a, b, rfl⟩ : ∃ (a : Fin 256) (b : Fin 2048), i = ix2 a b := ⟨i 0, i 1, by funext x; fin_cases x <;> rfl⟩
    refine (tile5 m c t a b).trans (congrArg (res5 m c) (funext fun d => Fin.ext ?_))
    match d with
    | ⟨0, _⟩ => show t.val * 256 + a.val = win0_5.index t 0 * 256 + 1 * a.val; rw [(index t).2.2.2.2.1.1]; omega
    | ⟨1, _⟩ => show b.val = win0_5.index t 1 * 2048 + 1 * b.val; rw [(index t).2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_5 t, ?_⟩
    show i ∈ ((View.whole main_v1_1).slice (win0_5.rect t)).set
    rw [View.set_slice_whole, Rect.mem_set_unit]
    intro d
    match d with
    | ⟨0, _⟩ => show win0_5.index t 0 * 256 ≤ (i 0 : Nat) ∧ (i 0 : Nat) < win0_5.index t 0 * 256 + 256; rw [(index t).2.2.2.2.1.1]; omega
    | ⟨1, _⟩ => show win0_5.index t 1 * 2048 ≤ (i 1 : Nat) ∧ (i 1 : Nat) < win0_5.index t 1 * 2048 + 2048; rw [(index t).2.2.2.2.1.2]; omega

/-- The gradient at the gain. -/
def res6 (c : Dev nD) : S1x2048.Idx → EReal := fun i => ∑ p : Fin 4096, RowNorm.gain (A1 m c p) (A3 m c p) (i 1)

/-- The part of the rows of block `n`. -/
def part6 (c : Dev nD) (b : Fin 2048) (n : Nat) : EReal := ∑ a : Fin 256, (fun p => RowNorm.gain (A1 m c p) (A3 m c p) b) ⟨(n * 256 + a.val) % 4096, Nat.mod_lt _ (by norm_num)⟩

theorem part6_at (b : Fin 2048) : (∑ a : Fin 256, (fun p => RowNorm.gain (A1 m c p) (A3 m c p) b) (row t a)) = part6 m c b t.val := by
  have hN := lt_N t
  unfold part6 row
  refine Finset.sum_congr rfl fun a _ => ?_
  rw [show (⟨(t.val * 256 + a.val) % 4096, Nat.mod_lt _ (by norm_num)⟩ : Fin 4096) = ⟨t.val * 256 + a.val, by omega⟩ from Fin.ext (Nat.mod_eq_of_lt (by omega))]

theorem acc6 (c : Dev nD) (b : Fin 2048) : ∀ (n : Nat) (h : n < cfg0.N), (outsAt0 m c n h).2.2 (ix2 0 b) = ∑ i ∈ Finset.range (n + 1), part6 m c b i := by
  intro n
  induction n with
  | zero =>
    intro h
    refine (congrFun (congrArg (fun x => x.2.2) (outsAt0_A m c ⟨0, h⟩ rfl)) (ix2 0 b)).trans ?_
    dsimp only
    refine (value_A_6 _ _ _ _ _ _ _ _ _ _ _ _ _ _ _ _ _ _ _ _ _ b).trans ?_
    refine (Finset.sum_congr rfl fun a _ => ?_).trans ((part6_at m c ⟨0, h⟩ b).trans (by simp))
    have t : Fin cfg0.N := ⟨0, h⟩
    rw [read1 m c ⟨0, h⟩ a, read3 m c ⟨0, h⟩ a]
  | succ n ih =>
    intro h
    have hn : n + 1 < 16 := lt_N ⟨n + 1, h⟩
    have hb : ¬ (n + 1) % 16 = 0 := by omega
    refine (congrFun (congrArg (fun x => x.2.2) (outsAt0_B m c ⟨n + 1, h⟩ hb)) (ix2 0 b)).trans ?_
    dsimp only
    refine (value_B_6 _ _ _ _ _ _ _ _ _ _ _ _ _ _ _ _ _ _ _ _ _ _ b).trans ?_
    rw [Finset.sum_range_succ]
    refine congrArg₂ (· + ·) (ih _) ?_
    refine (Finset.sum_congr rfl fun a _ => ?_).trans (part6_at m c ⟨n + 1, h⟩ b)
    rw [read1 m c ⟨n + 1, h⟩ a, read3 m c ⟨n + 1, h⟩ a]

theorem final6 (c : Dev nD) : (dats m 0 c).arrAt 6 cfg0.N = res6 m c := by
  refine (dats m 0 c).arrAt_eq_of_cover 6 _ (fun t hf => ?_) fun i => ?_
  · have hN := lt_N t
    have ht := (flush0_6 t).mp hf
    show (cfg0.win 6).cut (grid0.coords t) ((dats m 0 c).after 6 t) = _
    rw [after0_6]
    funext i
    rw [View.read_apply]
    obtain ⟨a, b, rfl⟩ : ∃ (a : Fin 1) (b : Fin 2048), i = ix2 a b := ⟨i 0, i 1, by funext x; fin_cases x <;> rfl⟩
    obtain rfl : a = 0 := Subsingleton.elim _ _
    have e : ((cfg0.win 6).blk t).view.emb (ix2 0 b : S1x2048.Idx) = (ix2 0 b : S1x2048.Idx) := by
      refine funext fun d => Fin.ext ?_
      match d with
      | ⟨0, _⟩ => show win0_6.index t 0 * 1 + 1 * 0 = 0; rw [(index t).2.2.2.2.2.2.1]
      | ⟨1, _⟩ => show win0_6.index t 1 * 2048 + 1 * b.val = b.val; rw [(index t).2.2.2.2.2.2.2]; omega
    refine (acc6 m c b t.val t.isLt).trans (Eq.trans ?_ (congrArg (res6 m c) e).symm)
    rw [show t.val + 1 = 16 by omega, Finset.sum_range]
    show _ = ∑ p : Fin 4096, _
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
    rfl
  · have h0 : (i 0 : Nat) < 1 := (i 0).isLt
    have h1 : (i 1 : Nat) < 2048 := (i 1).isLt
    let t : Fin cfg0.N := ⟨15, by show _ < grid0.N; rw [Gen.N_0]; omega⟩
    have ht : t.val = 15 := rfl
    refine ⟨t, (flush0_6 t).mpr (by omega), ?_⟩
    show i ∈ ((View.whole main_v1_2).slice (win0_6.rect t)).set
    rw [View.set_slice_whole, Rect.mem_set_unit]
    intro d
    match d with
    | ⟨0, _⟩ => show win0_6.index t 0 * 1 ≤ (i 0 : Nat) ∧ (i 0 : Nat) < win0_6.index t 0 * 1 + 1; rw [(index t).2.2.2.2.2.2.1]; omega
    | ⟨1, _⟩ => show win0_6.index t 1 * 2048 ≤ (i 1 : Nat) ∧ (i 1 : Nat) < win0_6.index t 1 * 2048 + 2048; rw [(index t).2.2.2.2.2.2.2]; omega

end Cert.FfnPostBwdIdeal.Meaning

end
-- ==== Proof.FfnPostBwdClaims.lean ====
module

public import proofs.«01_k».proof.Defs
public import proofs.«01_k».proof.Proof.Gen.FfnPostBwd.Frame
public import proofs.«01_k».proof.Proof.Gen.FfnPostBwdRefIdeal.Run
public import proofs.«01_k».proof.Proof.Gen.FfnPostBwdRefIdeal.Read
public import proofs.«01_k».proof.Proof.FfnPostBwdValue

@[expose] public section

set_option maxRecDepth 16384

noncomputable section

/-! The claims of the call: the frames of the programs, and that the kernel and the reference end with the same gradients. -/

namespace Cert.FfnPostBwdIdeal.Meaning

open FfnPostBwdIdeal FfnPostBwdIdeal.Gen Idealize.ShloMosaic TcCoe Idealize.SL.Sem

theorem frame_ref : quiescent_FfnPostBwdRefIdeal (hFfnPostBwdRefIdeal := FfnPostBwdRefIdeal.Gen.facts) :=
  fun m ρ _ => (θ_run FfnPostBwdRefIdeal.defs _ _).mono
    (fun r h => ⟨fun c => (h c).2.2.2, sem_eq_zero_of_no_sems (by decide) r.2⟩) (FfnPostBwdRefIdeal.Value.run m ρ)

open FfnPostBwdRefIdeal.Read in
theorem ref5 (x1 : FVec Ideal S4096x2048 .f32) (x2 : FVec Ideal FfnPostBwdRefIdeal.S2048 .f32) (x3 : FVec Ideal S4096x2048 .f32) (p : Fin 4096) (q : Fin 2048) :
    val_main_v38 (F := Ideal) x1 x2 x3 (ix2 p q) = RowNorm.back (fun k => x1 (ix2 p k)) (fun k => x2 (ix1 k)) (fun k => x3 (ix2 p k)) q := by
  pointwise [val_main_v38, val_main_v37, val_main_v36, val_main_v35, val_main_v34, val_main_v33, val_main_v32, val_main_cst_7, val_main_v31, val_main_v30, val_main_cst_6, val_main_v29, val_main_v28, val_main_v27, val_main_v26, val_main_v25, val_main_cst_5, val_main_v24, val_main_v22, val_main_v21, val_main_v17, val_main_v13, val_main_v10, val_main_v9, val_main_cst_2, val_main_v8, val_main_v7, val_main_v6, val_main_v5, val_main_cst_1, val_main_v4, val_main_v3, val_main_cst_0, val_main_v2, val_main_v1, val_main_cst, val_main_v0]
  simp only [sum_one, zero_add, RowNorm.back, RowNorm.pull, RowNorm.inv, RowNorm.mean]
  ac_rfl

open FfnPostBwdRefIdeal.Read in
theorem ref6 (x1 x3 : FVec Ideal S4096x2048 .f32) (q : Fin 2048) :
    val_main_v39 (F := Ideal) x1 x3 (ix2 0 q) = ∑ p : Fin 4096, RowNorm.gain (fun k => x1 (ix2 p k)) (fun k => x3 (ix2 p k)) q := by
  pointwise [val_main_v39, val_main_v23, val_main_cst_4, val_main_v20, val_main_v19, val_main_cst_3, val_main_v18, val_main_v17, val_main_v12, val_main_v11, val_main_v7, val_main_v6, val_main_v5, val_main_cst_1, val_main_v4, val_main_v3, val_main_cst_0, val_main_v2, val_main_v1, val_main_cst, val_main_v0]
  try simp only [sum_one, zero_add]
  try rfl

theorem algebraic : algebraic_FfnPostBwdIdeal_FfnPostBwdRefIdeal (hFfnPostBwdIdeal := FfnPostBwdIdeal.Gen.facts) (hFfnPostBwdRefIdeal := FfnPostBwdRefIdeal.Gen.facts) := by
  intro m g m' g' _ hargs
  refine ⟨res4 m, res5 m, res6 m, ?_, ?_⟩
  · exact (θ_run FfnPostBwdIdeal.defs _ _).mono (fun r h c => ⟨(h c).1.trans (final4 m c), (h c).2.1.trans (final5 m c), (h c).2.2.1.trans (final6 m c), (h c).2.2.2⟩) (FfnPostBwdIdeal.Value.run_blocks m g)
  · refine (θ_run FfnPostBwdRefIdeal.defs _ _).mono (fun r h c => ?_) (FfnPostBwdRefIdeal.Value.run m' g')
    obtain ⟨a0, a1, a2, a3⟩ := hargs c
    obtain ⟨e0, e1, e2, k⟩ := h c
    refine ⟨e0.trans ?_, e1.trans ?_, e2.trans ?_, k⟩
    · rw [a3]
      funext i
      exact congrArg (m ((c : Thread nD τ).loc main_arg3)) (by funext x; fin_cases x <;> rfl)
    · refine (FfnPostBwdRefIdeal.Read.val_main_v38_eq m' c).trans ?_
      rw [a1, a2, a3]
      funext i
      obtain ⟨p, q, rfl⟩ : ∃ (p : Fin 4096) (q : Fin 2048), i = ix2 p q := ⟨i 0, i 1, by funext x; fin_cases x <;> rfl⟩
      exact ref5 _ _ _ p q
    · refine (FfnPostBwdRefIdeal.Read.val_main_v39_eq _ _).trans ?_
      rw [a1, a3]
      funext i
      obtain ⟨p, q, rfl⟩ : ∃ (p : Fin 1) (q : Fin 2048), i = ix2 p q := ⟨i 0, i 1, by funext x; fin_cases x <;> rfl⟩
      obtain rfl : p = 0 := Subsingleton.elim _ _
      exact ref6 _ _ q

end Cert.FfnPostBwdIdeal.Meaning

end
-- ==== Proof.MixPostBwdValue.lean ====
module

public import proofs.«01_k».proof.Proof.Gen.MixPostBwdIdeal.Value
public import proofs.«01_k».proof.Proof.RowNorm
public import proofs.«01_k».proof.Proof.Common

@[expose] public section

set_option maxRecDepth 16384
set_option maxHeartbeats 1000000

noncomputable section

/-! Backward of the norm after the mixer, whose result is added to the stream, and of the norm before the feed-forward part. -/

namespace Cert.MixPostBwdIdeal.Meaning

open MixPostBwdIdeal MixPostBwdIdeal.Gen Idealize.ShloMosaic TcCoe Idealize.SL.Sem

/-- The one block of a sum over a single block. -/
theorem sum_one (f : Fin 1 → EReal) : ∑ i, f i = f 0 := Fin.sum_univ_one f

section Points

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1x2048 .f32) (harg9 : arg9.IsWhole) (arg10 : Memref sig .tc .vmem S1x2048 .f32) (harg10 : arg10.IsWhole)

theorem value_A_6 (hc0 : cond0_0 i) (hc1 : cond0_1 i)
    (x0 x1 : Vec Ideal S256x2048 .f32) (x2 x3 : Vec Ideal S1x2048 .f32) (x4 x5 : Vec Ideal S256x2048 .f32) (a : Fin 256) (b : Fin 2048) : out0_A_6 (F := Ideal) c i arg1 harg1 arg2 harg2 arg3 harg3 arg4 harg4 arg5 harg5 arg6 harg6 arg7 harg7 arg8 harg8 arg9 harg9 arg10 harg10 hc0 hc1 x0 x1 x2 x3 x4 x5 (ix2 a b) = (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_A_6
  rw [View.read_writes_eq_canon _ _ _ (cover0_A_6 _ _ _ _ _ _ _ _ _ _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_B_6 (hc0 : ¬cond0_0 i) (hc1 : ¬cond0_1 i)
    (x0 x1 : Vec Ideal S256x2048 .f32) (x2 x3 : Vec Ideal S1x2048 .f32) (x4 x5 : Vec Ideal S256x2048 .f32) (xo8 xo9 : Vec Ideal S1x2048 .f32) (a : Fin 256) (b : Fin 2048) : out0_B_6 (F := Ideal) c i arg1 harg1 arg2 harg2 arg3 harg3 arg4 harg4 arg5 harg5 arg6 harg6 arg7 harg7 arg8 harg8 arg9 harg9 arg10 harg10 hc0 hc1 x0 x1 x2 x3 x4 x5 xo8 xo9 (ix2 a b) = (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_B_6
  rw [View.read_writes_eq_canon _ _ _ (cover0_B_6 _ _ _ _ _ _ _ _ _ _ _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_A_7 (hc0 : cond0_0 i) (hc1 : cond0_1 i)
    (x0 x1 : Vec Ideal S256x2048 .f32) (x2 x3 : Vec Ideal S1x2048 .f32) (x4 x5 : Vec Ideal S256x2048 .f32) (a : Fin 256) (b : Fin 2048) : out0_A_7 (F := Ideal) c i arg1 harg1 arg2 harg2 arg3 harg3 arg4 harg4 arg5 harg5 arg6 harg6 arg7 harg7 arg8 harg8 arg9 harg9 arg10 harg10 hc0 hc1 x0 x1 x2 x3 x4 x5 (ix2 a b) = RowNorm.back (fun k => x1 (ix2 a k)) (fun k => x2 (ix2 0 k)) (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_A_7
  rw [View.read_writes_eq_canon _ _ _ (cover0_A_7 _ _ _ _ _ _ _ _ _ _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_B_7 (hc0 : ¬cond0_0 i) (hc1 : ¬cond0_1 i)
    (x0 x1 : Vec Ideal S256x2048 .f32) (x2 x3 : Vec Ideal S1x2048 .f32) (x4 x5 : Vec Ideal S256x2048 .f32) (xo8 xo9 : Vec Ideal S1x2048 .f32) (a : Fin 256) (b : Fin 2048) : out0_B_7 (F := Ideal) c i arg1 harg1 arg2 harg2 arg3 harg3 arg4 harg4 arg5 harg5 arg6 harg6 arg7 harg7 arg8 harg8 arg9 harg9 arg10 harg10 hc0 hc1 x0 x1 x2 x3 x4 x5 xo8 xo9 (ix2 a b) = RowNorm.back (fun k => x1 (ix2 a k)) (fun k => x2 (ix2 0 k)) (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_B_7
  rw [View.read_writes_eq_canon _ _ _ (cover0_B_7 _ _ _ _ _ _ _ _ _ _ _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_A_8 (hc0 : cond0_0 i) (hc1 : cond0_1 i)
    (x0 x1 : Vec Ideal S256x2048 .f32) (x2 x3 : Vec Ideal S1x2048 .f32) (x4 x5 : Vec Ideal S256x2048 .f32) (b : Fin 2048) : out0_A_8 (F := Ideal) c i arg1 harg1 arg2 harg2 arg3 harg3 arg4 harg4 arg5 harg5 arg6 harg6 arg7 harg7 arg8 harg8 arg9 harg9 arg10 harg10 hc0 hc1 x0 x1 x2 x3 x4 x5 (ix2 0 b) = ∑ a : Fin 256, RowNorm.gain (fun k => x1 (ix2 a k)) (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_A_8
  rw [View.read_writes_eq_canon _ _ _ (cover0_A_8 _ _ _ _ _ _ _ _ _ _ _ _ _ _ _ _ _ _ _ _ _ _ _ _ _ _ _ _ _ _)]
  unfold kernelRun0_A
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_B_8 (hc0 : ¬cond0_0 i) (hc1 : ¬cond0_1 i)
    (x0 x1 : Vec Ideal S256x2048 .f32) (x2 x3 : Vec Ideal S1x2048 .f32) (x4 x5 : Vec Ideal S256x2048 .f32) (xo8 xo9 : Vec Ideal S1x2048 .f32) (b : Fin 2048) : out0_B_8 (F := Ideal) c i arg1 harg1 arg2 harg2 arg3 harg3 arg4 harg4 arg5 harg5 arg6 harg6 arg7 harg7 arg8 harg8 arg9 harg9 arg10 harg10 hc0 hc1 x0 x1 x2 x3 x4 x5 xo8 xo9 (ix2 0 b) = xo8 (ix2 0 b) + ∑ a : Fin 256, RowNorm.gain (fun k => x1 (ix2 a k)) (fun j => RowNorm.back (fun j => (fun k => x0 (ix2 a k)) j + RowNorm.normed (fun k => x1 (ix2 a k)) (fun k => x2 (ix2 0 k)) j) (fun k => x3 (ix2 0 k)) (fun k => x5 (ix2 a k)) j + (fun k => x4 (ix2 a k)) j) b := by
  unfold out0_B_8
  rw [View.read_writes_eq_canon _ _ _ (cover0_B_8 _ _ _ _ _ _ _ _ _ _ _ _ _ _ _ _ _ _ _ _ _ _ _ _ _ _ _ _ _ _ _ _)]
  unfold kernelRun0_B
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_A_9 (hc0 : cond0_0 i) (hc1 : cond0_1 i)
    (x0 x1 : Vec Ideal S256x2048 .f32) (x2 x3 : Vec Ideal S1x2048 .f32) (x4 x5 : Vec Ideal S256x2048 .f32) (b : Fin 2048) : out0_A_9 (F := Ideal) c i arg1 harg1 arg2 harg2 arg3 harg3 arg4 harg4 arg5 harg5 arg6 harg6 arg7 harg7 arg8 harg8 arg9 harg9 arg10 harg10 hc0 hc1 x0 x1 x2 x3 x4 x5 (ix2 0 b) = ∑ a : Fin 256, RowNorm.gain (fun j => (fun k => x0 (ix2 a k)) j + RowNorm.normed (fun k => x1 (ix2 a k)) (fun k => x2 (ix2 0 k)) j) (fun k => x5 (ix2 a k)) b := by
  unfold out0_A_9
  rw [View.read_writes_eq_canon _ _ _ (cover0_A_9 _ _ _ _ _ _ _ _ _ _ _ _ _ _ _ _ _ _ _ _ _ _ _ _ _ _ _ _ _ _)]
  unfold kernelRun0_A
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

theorem value_B_9 (hc0 : ¬cond0_0 i) (hc1 : ¬cond0_1 i)
    (x0 x1 : Vec Ideal S256x2048 .f32) (x2 x3 : Vec Ideal S1x2048 .f32) (x4 x5 : Vec Ideal S256x2048 .f32) (xo8 xo9 : Vec Ideal S1x2048 .f32) (b : Fin 2048) : out0_B_9 (F := Ideal) c i arg1 harg1 arg2 harg2 arg3 harg3 arg4 harg4 arg5 harg5 arg6 harg6 arg7 harg7 arg8 harg8 arg9 harg9 arg10 harg10 hc0 hc1 x0 x1 x2 x3 x4 x5 xo8 xo9 (ix2 0 b) = xo9 (ix2 0 b) + ∑ a : Fin 256, RowNorm.gain (fun j => (fun k => x0 (ix2 a k)) j + RowNorm.normed (fun k => x1 (ix2 a k)) (fun k => x2 (ix2 0 k)) j) (fun k => x5 (ix2 a k)) b := by
  unfold out0_B_9
  rw [View.read_writes_eq_canon _ _ _ (cover0_B_9 _ _ _ _ _ _ _ _ _ _ _ _ _ _ _ _ _ _ _ _ _ _ _ _ _ _ _ _ _ _ _ _)]
  unfold kernelRun0_B
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, harg10.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean]
  all_goals ac_rfl

end Points

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

/-- Row `a` of block `t`. -/
def row (t : Fin cfg0.N) (a : Fin 256) : Fin 4096 := ⟨t.val * 256 + a.val, by have := lt_N t; omega⟩

abbrev A0 (c : Dev nD) (p : Fin 4096) : Fin 2048 → EReal := fun k => m ((c : Thread nD τ).loc main_arg0) (ix2 p k)
abbrev A1 (c : Dev nD) (p : Fin 4096) : Fin 2048 → EReal := fun k => m ((c : Thread nD τ).loc main_arg1) (ix2 p k)
abbrev A2 (c : Dev nD) : Fin 2048 → EReal := fun k => m ((c : Thread nD τ).loc main_arg2) (ix1 k)
abbrev A3 (c : Dev nD) : Fin 2048 → EReal := fun k => m ((c : Thread nD τ).loc main_arg3) (ix1 k)
abbrev A4 (c : Dev nD) (p : Fin 4096) : Fin 2048 → EReal := fun k => m ((c : Thread nD τ).loc main_arg4) (ix2 p k)
abbrev A5 (c : Dev nD) (p : Fin 4096) : Fin 2048 → EReal := fun k => m ((c : Thread nD τ).loc main_arg5) (ix2 p k)

theorem index : ∀ t : Fin grid0.N, (win0_0.index t 0 = t.val ∧ win0_0.index t 1 = 0) ∧ (win0_1.index t 0 = t.val ∧ win0_1.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_2.index t 0 = 0 ∧ win0_2.index t 1 = 0) ∧ (win0_3.index t 0 = 0 ∧ win0_3.index t 1 = 0) ∧ (win0_8.index t 0 = 0 ∧ win0_8.index t 1 = 0) ∧ (win0_9.index t 0 = 0 ∧ win0_9.index t 1 = 0) := by decide +kernel

theorem read0 (a : Fin 256) : (fun k : Fin 2048 => iblk m c 0 t (ix2 a k)) = A0 m c (row t a) := by
  funext k
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 256 + 1 * a.val = t.val * 256 + a.val; rw [(index t).1.1]; omega
  | ⟨1, _⟩ => show win0_0.index t 1 * 2048 + 1 * k.val = k.val; rw [(index t).1.2]; omega

theorem read1 (a : Fin 256) : (fun k : Fin 2048 => iblk m c 1 t (ix2 a k)) = A1 m c (row t a) := by
  funext k
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t 0 * 256 + 1 * a.val = t.val * 256 + a.val; rw [(index t).2.1.1]; omega
  | ⟨1, _⟩ => show win0_1.index t 1 * 2048 + 1 * k.val = k.val; rw [(index t).2.1.2]; omega

theorem read2 : (fun k : Fin 2048 => iblk m c 2 t (ix2 0 k)) = A2 m c := by
  funext k
  unfold iblk
  rw [View.read_apply]
  have e : ((cfg0.win 2).blk t).view.emb (ix2 0 k : S1x2048.Idx) = (ix2 0 k : S1x2048.Idx) := by
    refine funext fun d => Fin.ext ?_
    match d with
    | ⟨0, _⟩ => show win0_2.index t 0 * 1 + 1 * 0 = 0; rw [(index t).2.2.2.2.2.2.1.1]
    | ⟨1, _⟩ => show win0_2.index t 1 * 2048 + 1 * k.val = k.val; rw [(index t).2.2.2.2.2.2.1.2]; omega
  show V m c main_v0 _ = _
  refine (congrArg _ e).trans ?_
  unfold V hostOps0
  after_results
  pointwise

theorem read3 : (fun k : Fin 2048 => iblk m c 3 t (ix2 0 k)) = A3 m c := by
  funext k
  unfold iblk
  rw [View.read_apply]
  have e : ((cfg0.win 3).blk t).view.emb (ix2 0 k : S1x2048.Idx) = (ix2 0 k : S1x2048.Idx) := by
    refine funext fun d => Fin.ext ?_
    match d with
    | ⟨0, _⟩ => show win0_3.index t 0 * 1 + 1 * 0 = 0; rw [(index t).2.2.2.2.2.2.2.1.1]
    | ⟨1, _⟩ => show win0_3.index t 1 * 2048 + 1 * k.val = k.val; rw [(index t).2.2.2.2.2.2.2.1.2]; omega
  show V m c main_v1 _ = _
  refine (congrArg _ e).trans ?_
  unfold V hostOps0
  after_results
  pointwise

theorem read4 (a : Fin 256) : (fun k : Fin 2048 => iblk m c 4 t (ix2 a k)) = A4 m c (row t a) := by
  funext k
  unfold iblk
  rw [View.read_apply]
  show V m c main_arg4 _ = _
  rw [V_main_arg4]
  refine congrArg (m ((c : Thread nD τ).loc main_arg4)) (funext fun d => Fin.ext ?_)
  match d with
  | ⟨0, _⟩ => show win0_4.index t 0 * 256 + 1 * a.val = t.val * 256 + a.val; rw [(index t).2.2.1.1]; omega
  | ⟨1, _⟩ => show win0_4.index t 1 * 2048 + 1 * k.val = k.val; rw [(index t).2.2.1.2]; omega

theorem read5 (a : Fin 256) : (fun k : Fin 2048 => iblk m c 5 t (ix2 a k)) = A5 m c (row t a) := by
  funext k
  unfold iblk
  rw [View.read_apply]
  show V m c main_arg5 _ = _
  rw [V_main_arg5]
  refine congrArg (m ((c : Thread nD τ).loc main_arg5)) (funext fun d => Fin.ext ?_)
  match d with
  | ⟨0, _⟩ => show win0_5.index t 0 * 256 + 1 * a.val = t.val * 256 + a.val; rw [(index t).2.2.2.1.1]; omega
  | ⟨1, _⟩ => show win0_5.index t 1 * 2048 + 1 * k.val = k.val; rw [(index t).2.2.2.1.2]; omega

/-- The gradient at the stream. -/
def res6 (c : Dev nD) : S4096x2048.Idx → EReal := fun i => (fun p => (fun j => RowNorm.back (fun j => (A0 m c p) j + RowNorm.normed (A1 m c p) (A2 m c) j) (A3 m c) (A5 m c p) j + (A4 m c p) j)) (i 0) (i 1)

theorem tile6 (a : Fin 256) (b : Fin 2048) :
    (outsAt0 m c t.val t.isLt).1 (ix2 a b) = res6 m c (ix2 (row t a) b) := by
  by_cases h : t.val % 16 = 0
  · rw [outsAt0_A m c t h h]
    dsimp only
    refine (value_A_6 _ _ _ _ _ _ _ _ _ _ _ _ _ _ _ _ _ _ _ _ _ _ _ _ _ _ _ _ _ _ a b).trans ?_
    rw [read0 m c t a, read1 m c t a, read2 m c t, read3 m c t, read4 m c t a, read5 m c t a]
    rfl
  · rw [outsAt0_B m c t h h]
    dsimp only
    refine (value_B_6 _ _ _ _ _ _ _ _ _ _ _ _ _ _ _ _ _ _ _ _ _ _ _ _ _ _ _ _ _ _ _ _ a b).trans ?_
    rw [read0 m c t a, read1 m c t a, read2 m c t, read3 m c t, read4 m c t a, read5 m c t a]
    rfl

theorem final6 (c : Dev nD) : (dats m 0 c).arrAt 6 cfg0.N = res6 m c := by
  refine (dats m 0 c).arrAt_eq_of_cover 6 _ (fun t _ => ?_) fun i => ?_
  · show (cfg0.win 6).cut (grid0.coords t) ((dats m 0 c).after 6 t) = _
    rw [after0_6]
    funext i
    rw [View.read_apply]
    obtain ⟨a, b, rfl⟩ : ∃ (a : Fin 256) (b : Fin 2048), i = ix2 a b := ⟨i 0, i 1, by funext x; fin_cases x <;> rfl⟩
    refine (tile6 m c t a b).trans (congrArg (res6 m c) (funext fun d => Fin.ext ?_))
    match d with
    | ⟨0, _⟩ => show t.val * 256 + a.val = win0_6.index t 0 * 256 + 1 * a.val; rw [(index t).2.2.2.2.1.1]; omega
    | ⟨1, _⟩ => show b.val = win0_6.index t 1 * 2048 + 1 * b.val; rw [(index t).2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_6 t, ?_⟩
    show i ∈ ((View.whole main_v2_0).slice (win0_6.rect t)).set
    rw [View.set_slice_whole, Rect.mem_set_unit]
    intro d
    match d with
    | ⟨0, _⟩ => show win0_6.index t 0 * 256 ≤ (i 0 : Nat) ∧ (i 0 : Nat) < win0_6.index t 0 * 256 + 256; rw [(index t).2.2.2.2.1.1]; omega
    | ⟨1, _⟩ => show win0_6.index t 1 * 2048 ≤ (i 1 : Nat) ∧ (i 1 : Nat) < win0_6.index t 1 * 2048 + 2048; rw [(index t).2.2.2.2.1.2]; omega

/-- The gradient at the rows of the mixer. -/
def res7 (c : Dev nD) : S4096x2048.Idx → EReal := fun i => (fun p => RowNorm.back (A1 m c p) (A2 m c) (fun j => RowNorm.back (fun j => (A0 m c p) j + RowNorm.normed (A1 m c p) (A2 m c) j) (A3 m c) (A5 m c p) j + (A4 m c p) j)) (i 0) (i 1)

theorem tile7 (a : Fin 256) (b : Fin 2048) :
    (outsAt0 m c t.val t.isLt).2.1 (ix2 a b) = res7 m c (ix2 (row t a) b) := by
  by_cases h : t.val % 16 = 0
  · rw [outsAt0_A m c t h h]
    dsimp only
    refine (value_A_7 _ _ _ _ _ _ _ _ _ _ _ _ _ _ _ _ _ _ _ _ _ _ _ _ _ _ _ _ _ _ a b).trans ?_
    rw [read0 m c t a, read1 m c t a, read2 m c t, read3 m c t, read4 m c t a, read5 m c t a]
    rfl
  · rw [outsAt0_B m c t h h]
    dsimp only
    refine (value_B_7 _ _ _ _ _ _ _ _ _ _ _ _ _ _ _ _ _ _ _ _ _ _ _ _ _ _ _ _ _ _ _ _ a b).trans ?_
    rw [read0 m c t a, read1 m c t a, read2 m c t, read3 m c t, read4 m c t a, read5 m c t a]
    rfl

theorem final7 (c : Dev nD) : (dats m 0 c).arrAt 7 cfg0.N = res7 m c := by
  refine (dats m 0 c).arrAt_eq_of_cover 7 _ (fun t _ => ?_) fun i => ?_
  · show (cfg0.win 7).cut (grid0.coords t) ((dats m 0 c).after 7 t) = _
    rw [after0_7]
    funext i
    rw [View.read_apply]
    obtain ⟨a, b, rfl⟩ : ∃ (a : Fin 256) (b : Fin 2048), i = ix2 a b := ⟨i 0, i 1, by funext x; fin_cases x <;> rfl⟩
    refine (tile7 m c t a b).trans (congrArg (res7 m c) (funext fun d => Fin.ext ?_))
    match d with
    | ⟨0, _⟩ => show t.val * 256 + a.val = win0_7.index t 0 * 256 + 1 * a.val; rw [(index t).2.2.2.2.2.1.1]; omega
    | ⟨1, _⟩ => show b.val = win0_7.index t 1 * 2048 + 1 * b.val; rw [(index t).2.2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_7 t, ?_⟩
    show i ∈ ((View.whole main_v2_1).slice (win0_7.rect t)).set
    rw [View.set_slice_whole, Rect.mem_set_unit]
    intro d
    match d with
    | ⟨0, _⟩ => show win0_7.index t 0 * 256 ≤ (i 0 : Nat) ∧ (i 0 : Nat) < win0_7.index t 0 * 256 + 256; rw [(index t).2.2.2.2.2.1.1]; omega
    | ⟨1, _⟩ => show win0_7.index t 1 * 2048 ≤ (i 1 : Nat) ∧ (i 1 : Nat) < win0_7.index t 1 * 2048 + 2048; rw [(index t).2.2.2.2.2.1.2]; omega

/-- The gradient at the gain of the norm after the mixer. -/
def res8 (c : Dev nD) : S1x2048.Idx → EReal := fun i => ∑ p : Fin 4096, RowNorm.gain (A1 m c p) (fun j => RowNorm.back (fun j => (A0 m c p) j + RowNorm.normed (A1 m c p) (A2 m c) j) (A3 m c) (A5 m c p) j + (A4 m c p) j) (i 1)

/-- The part of the rows of block `n`. -/
def part8 (c : Dev nD) (b : Fin 2048) (n : Nat) : EReal := ∑ a : Fin 256, (fun p => RowNorm.gain (A1 m c p) (fun j => RowNorm.back (fun j => (A0 m c p) j + RowNorm.normed (A1 m c p) (A2 m c) j) (A3 m c) (A5 m c p) j + (A4 m c p) j) b) ⟨(n * 256 + a.val) % 4096, Nat.mod_lt _ (by norm_num)⟩

theorem part8_at (b : Fin 2048) : (∑ a : Fin 256, (fun p => RowNorm.gain (A1 m c p) (fun j => RowNorm.back (fun j => (A0 m c p) j + RowNorm.normed (A1 m c p) (A2 m c) j) (A3 m c) (A5 m c p) j + (A4 m c p) j) b) (row t a)) = part8 m c b t.val := by
  have hN := lt_N t
  unfold part8 row
  refine Finset.sum_congr rfl fun a _ => ?_
  rw [show (⟨(t.val * 256 + a.val) % 4096, Nat.mod_lt _ (by norm_num)⟩ : Fin 4096) = ⟨t.val * 256 + a.val, by omega⟩ from Fin.ext (Nat.mod_eq_of_lt (by omega))]

theorem acc8 (c : Dev nD) (b : Fin 2048) : ∀ (n : Nat) (h : n < cfg0.N), (outsAt0 m c n h).2.2.1 (ix2 0 b) = ∑ i ∈ Finset.range (n + 1), part8 m c b i := by
  intro n
  induction n with
  | zero =>
    intro h
    refine (congrFun (congrArg (fun x => x.2.2.1) (outsAt0_A m c ⟨0, h⟩ rfl rfl)) (ix2 0 b)).trans ?_
    dsimp only
    refine (value_A_8 _ _ _ _ _ _ _ _ _ _ _ _ _ _ _ _ _ _ _ _ _ _ _ _ _ _ _ _ _ _ b).trans ?_
    refine (Finset.sum_congr rfl fun a _ => ?_).trans ((part8_at m c ⟨0, h⟩ b).trans (by simp))
    have t : Fin cfg0.N := ⟨0, h⟩
    rw [read0 m c ⟨0, h⟩ a, read1 m c ⟨0, h⟩ a, read2 m c ⟨0, h⟩, read3 m c ⟨0, h⟩, read4 m c ⟨0, h⟩ a, read5 m c ⟨0, h⟩ a]
  | succ n ih =>
    intro h
    have hn : n + 1 < 16 := lt_N ⟨n + 1, h⟩
    have hb : ¬ (n + 1) % 16 = 0 := by omega
    refine (congrFun (congrArg (fun x => x.2.2.1) (outsAt0_B m c ⟨n + 1, h⟩ hb hb)) (ix2 0 b)).trans ?_
    dsimp only
    refine (value_B_8 _ _ _ _ _ _ _ _ _ _ _ _ _ _ _ _ _ _ _ _ _ _ _ _ _ _ _ _ _ _ _ _ b).trans ?_
    rw [Finset.sum_range_succ]
    refine congrArg₂ (· + ·) (ih _) ?_
    refine (Finset.sum_congr rfl fun a _ => ?_).trans (part8_at m c ⟨n + 1, h⟩ b)
    rw [read0 m c ⟨n + 1, h⟩ a, read1 m c ⟨n + 1, h⟩ a, read2 m c ⟨n + 1, h⟩, read3 m c ⟨n + 1, h⟩, read4 m c ⟨n + 1, h⟩ a, read5 m c ⟨n + 1, h⟩ a]

theorem final8 (c : Dev nD) : (dats m 0 c).arrAt 8 cfg0.N = res8 m c := by
  refine (dats m 0 c).arrAt_eq_of_cover 8 _ (fun t hf => ?_) fun i => ?_
  · have hN := lt_N t
    have ht := (flush0_8 t).mp hf
    show (cfg0.win 8).cut (grid0.coords t) ((dats m 0 c).after 8 t) = _
    rw [after0_8]
    funext i
    rw [View.read_apply]
    obtain ⟨a, b, rfl⟩ : ∃ (a : Fin 1) (b : Fin 2048), i = ix2 a b := ⟨i 0, i 1, by funext x; fin_cases x <;> rfl⟩
    obtain rfl : a = 0 := Subsingleton.elim _ _
    have e : ((cfg0.win 8).blk t).view.emb (ix2 0 b : S1x2048.Idx) = (ix2 0 b : S1x2048.Idx) := by
      refine funext fun d => Fin.ext ?_
      match d with
      | ⟨0, _⟩ => show win0_8.index t 0 * 1 + 1 * 0 = 0; rw [(index t).2.2.2.2.2.2.2.2.1.1]
      | ⟨1, _⟩ => show win0_8.index t 1 * 2048 + 1 * b.val = b.val; rw [(index t).2.2.2.2.2.2.2.2.1.2]; omega
    refine (acc8 m c b t.val t.isLt).trans (Eq.trans ?_ (congrArg (res8 m c) e).symm)
    rw [show t.val + 1 = 16 by omega, Finset.sum_range]
    show _ = ∑ p : Fin 4096, _
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
    rfl
  · have h0 : (i 0 : Nat) < 1 := (i 0).isLt
    have h1 : (i 1 : Nat) < 2048 := (i 1).isLt
    let t : Fin cfg0.N := ⟨15, by show _ < grid0.N; rw [Gen.N_0]; omega⟩
    have ht : t.val = 15 := rfl
    refine ⟨t, (flush0_8 t).mpr (by omega), ?_⟩
    show i ∈ ((View.whole main_v2_2).slice (win0_8.rect t)).set
    rw [View.set_slice_whole, Rect.mem_set_unit]
    intro d
    match d with
    | ⟨0, _⟩ => show win0_8.index t 0 * 1 ≤ (i 0 : Nat) ∧ (i 0 : Nat) < win0_8.index t 0 * 1 + 1; rw [(index t).2.2.2.2.2.2.2.2.1.1]; omega
    | ⟨1, _⟩ => show win0_8.index t 1 * 2048 ≤ (i 1 : Nat) ∧ (i 1 : Nat) < win0_8.index t 1 * 2048 + 2048; rw [(index t).2.2.2.2.2.2.2.2.1.2]; omega

/-- The gradient at the gain of the next norm. -/
def res9 (c : Dev nD) : S1x2048.Idx → EReal := fun i => ∑ p : Fin 4096, RowNorm.gain (fun j => (A0 m c p) j + RowNorm.normed (A1 m c p) (A2 m c) j) (A5 m c p) (i 1)

/-- The part of the rows of block `n`. -/
def part9 (c : Dev nD) (b : Fin 2048) (n : Nat) : EReal := ∑ a : Fin 256, (fun p => RowNorm.gain (fun j => (A0 m c p) j + RowNorm.normed (A1 m c p) (A2 m c) j) (A5 m c p) b) ⟨(n * 256 + a.val) % 4096, Nat.mod_lt _ (by norm_num)⟩

theorem part9_at (b : Fin 2048) : (∑ a : Fin 256, (fun p => RowNorm.gain (fun j => (A0 m c p) j + RowNorm.normed (A1 m c p) (A2 m c) j) (A5 m c p) b) (row t a)) = part9 m c b t.val := by
  have hN := lt_N t
  unfold part9 row
  refine Finset.sum_congr rfl fun a _ => ?_
  rw [show (⟨(t.val * 256 + a.val) % 4096, Nat.mod_lt _ (by norm_num)⟩ : Fin 4096) = ⟨t.val * 256 + a.val, by omega⟩ from Fin.ext (Nat.mod_eq_of_lt (by omega))]

theorem acc9 (c : Dev nD) (b : Fin 2048) : ∀ (n : Nat) (h : n < cfg0.N), (outsAt0 m c n h).2.2.2 (ix2 0 b) = ∑ i ∈ Finset.range (n + 1), part9 m c b i := by
  intro n
  induction n with
  | zero =>
    intro h
    refine (congrFun (congrArg (fun x => x.2.2.2) (outsAt0_A m c ⟨0, h⟩ rfl rfl)) (ix2 0 b)).trans ?_
    dsimp only
    refine (value_A_9 _ _ _ _ _ _ _ _ _ _ _ _ _ _ _ _ _ _ _ _ _ _ _ _ _ _ _ _ _ _ b).trans ?_
    refine (Finset.sum_congr rfl fun a _ => ?_).trans ((part9_at m c ⟨0, h⟩ b).trans (by simp))
    have t : Fin cfg0.N := ⟨0, h⟩
    rw [read0 m c ⟨0, h⟩ a, read1 m c ⟨0, h⟩ a, read2 m c ⟨0, h⟩, read5 m c ⟨0, h⟩ a]
  | succ n ih =>
    intro h
    have hn : n + 1 < 16 := lt_N ⟨n + 1, h⟩
    have hb : ¬ (n + 1) % 16 = 0 := by omega
    refine (congrFun (congrArg (fun x => x.2.2.2) (outsAt0_B m c ⟨n + 1, h⟩ hb hb)) (ix2 0 b)).trans ?_
    dsimp only
    refine (value_B_9 _ _ _ _ _ _ _ _ _ _ _ _ _ _ _ _ _ _ _ _ _ _ _ _ _ _ _ _ _ _ _ _ b).trans ?_
    rw [Finset.sum_range_succ]
    refine congrArg₂ (· + ·) (ih _) ?_
    refine (Finset.sum_congr rfl fun a _ => ?_).trans (part9_at m c ⟨n + 1, h⟩ b)
    rw [read0 m c ⟨n + 1, h⟩ a, read1 m c ⟨n + 1, h⟩ a, read2 m c ⟨n + 1, h⟩, read5 m c ⟨n + 1, h⟩ a]

theorem final9 (c : Dev nD) : (dats m 0 c).arrAt 9 cfg0.N = res9 m c := by
  refine (dats m 0 c).arrAt_eq_of_cover 9 _ (fun t hf => ?_) fun i => ?_
  · have hN := lt_N t
    have ht := (flush0_9 t).mp hf
    show (cfg0.win 9).cut (grid0.coords t) ((dats m 0 c).after 9 t) = _
    rw [after0_9]
    funext i
    rw [View.read_apply]
    obtain ⟨a, b, rfl⟩ : ∃ (a : Fin 1) (b : Fin 2048), i = ix2 a b := ⟨i 0, i 1, by funext x; fin_cases x <;> rfl⟩
    obtain rfl : a = 0 := Subsingleton.elim _ _
    have e : ((cfg0.win 9).blk t).view.emb (ix2 0 b : S1x2048.Idx) = (ix2 0 b : S1x2048.Idx) := by
      refine funext fun d => Fin.ext ?_
      match d with
      | ⟨0, _⟩ => show win0_9.index t 0 * 1 + 1 * 0 = 0; rw [(index t).2.2.2.2.2.2.2.2.2.1]
      | ⟨1, _⟩ => show win0_9.index t 1 * 2048 + 1 * b.val = b.val; rw [(index t).2.2.2.2.2.2.2.2.2.2]; omega
    refine (acc9 m c b t.val t.isLt).trans (Eq.trans ?_ (congrArg (res9 m c) e).symm)
    rw [show t.val + 1 = 16 by omega, Finset.sum_range]
    show _ = ∑ p : Fin 4096, _
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
    rfl
  · have h0 : (i 0 : Nat) < 1 := (i 0).isLt
    have h1 : (i 1 : Nat) < 2048 := (i 1).isLt
    let t : Fin cfg0.N := ⟨15, by show _ < grid0.N; rw [Gen.N_0]; omega⟩
    have ht : t.val = 15 := rfl
    refine ⟨t, (flush0_9 t).mpr (by omega), ?_⟩
    show i ∈ ((View.whole main_v2_3).slice (win0_9.rect t)).set
    rw [View.set_slice_whole, Rect.mem_set_unit]
    intro d
    match d with
    | ⟨0, _⟩ => show win0_9.index t 0 * 1 ≤ (i 0 : Nat) ∧ (i 0 : Nat) < win0_9.index t 0 * 1 + 1; rw [(index t).2.2.2.2.2.2.2.2.2.1]; omega
    | ⟨1, _⟩ => show win0_9.index t 1 * 2048 ≤ (i 1 : Nat) ∧ (i 1 : Nat) < win0_9.index t 1 * 2048 + 2048; rw [(index t).2.2.2.2.2.2.2.2.2.2]; omega

end Cert.MixPostBwdIdeal.Meaning

end
-- ==== Proof.MixPostBwdClaims.lean ====
module

public import proofs.«01_k».proof.Defs
public import proofs.«01_k».proof.Proof.Gen.MixPostBwd.Frame
public import proofs.«01_k».proof.Proof.Gen.MixPostBwdRefIdeal.Run
public import proofs.«01_k».proof.Proof.Gen.MixPostBwdRefIdeal.Read
public import proofs.«01_k».proof.Proof.MixPostBwdValue

@[expose] public section

set_option maxRecDepth 16384

noncomputable section

/-! The claims of the call: the frames of the programs, and that the kernel and the reference end with the same gradients. -/

namespace Cert.MixPostBwdIdeal.Meaning

open MixPostBwdIdeal MixPostBwdIdeal.Gen Idealize.ShloMosaic TcCoe Idealize.SL.Sem

theorem frame_ref : quiescent_MixPostBwdRefIdeal (hMixPostBwdRefIdeal := MixPostBwdRefIdeal.Gen.facts) :=
  fun m ρ _ => (θ_run MixPostBwdRefIdeal.defs _ _).mono
    (fun r h => ⟨fun c => (h c).2.2.2.2, sem_eq_zero_of_no_sems (by decide) r.2⟩) (MixPostBwdRefIdeal.Value.run m ρ)

open MixPostBwdRefIdeal.Read in
theorem ref6 (x0 x1 : FVec Ideal S4096x2048 .f32) (x2 x3 : FVec Ideal MixPostBwdRefIdeal.S2048 .f32) (x4 x5 : FVec Ideal S4096x2048 .f32) (p : Fin 4096) (q : Fin 2048) :
    val_main_v53 (F := Ideal) x0 x1 x2 x3 x4 x5 (ix2 p q) = (fun j => RowNorm.back (fun j => (fun k => x0 (ix2 p k)) j + RowNorm.normed (fun k => x1 (ix2 p k)) (fun k => x2 (ix1 k)) j) (fun k => x3 (ix1 k)) (fun k => x5 (ix2 p k)) j + (fun k => x4 (ix2 p k)) j) q := by
  pointwise [val_main_v53, val_main_v52, val_main_v51, val_main_v50, val_main_v49, val_main_v48, val_main_cst_11, val_main_v47, val_main_v46, val_main_cst_10, val_main_v45, val_main_v44, val_main_v43, val_main_v42, val_main_v41, val_main_v40, val_main_cst_9, val_main_v39, val_main_v37, val_main_v36, val_main_v30, val_main_v27, val_main_v26, val_main_cst_6, val_main_v25, val_main_v24, val_main_v23, val_main_v22, val_main_cst_5, val_main_v21, val_main_v20, val_main_cst_4, val_main_v19, val_main_v18, val_main_cst_3, val_main_v17, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  simp only [sum_one, zero_add, RowNorm.gain, RowNorm.normed, RowNorm.back, RowNorm.pull, RowNorm.inv, RowNorm.mean]
  all_goals ac_rfl

open MixPostBwdRefIdeal.Read in
theorem ref7 (x0 x1 : FVec Ideal S4096x2048 .f32) (x2 x3 : FVec Ideal MixPostBwdRefIdeal.S2048 .f32) (x4 x5 : FVec Ideal S4096x2048 .f32) (p : Fin 4096) (q : Fin 2048) :
    val_main_v75 (F := Ideal) x0 x1 x2 x3 x4 x5 (ix2 p q) = RowNorm.back (fun k => x1 (ix2 p k)) (fun k => x2 (ix1 k)) (fun j => RowNorm.back (fun j => (fun k => x0 (ix2 p k)) j + RowNorm.normed (fun k => x1 (ix2 p k)) (fun k => x2 (ix1 k)) j) (fun k => x3 (ix1 k)) (fun k => x5 (ix2 p k)) j + (fun k => x4 (ix2 p k)) j) q := by
  pointwise [val_main_v75, val_main_v74, val_main_v73, val_main_v72, val_main_v71, val_main_v70, val_main_v69, val_main_cst_16, val_main_v68, val_main_v67, val_main_cst_15, val_main_v66, val_main_v65, val_main_v64, val_main_v63, val_main_v62, val_main_cst_14, val_main_v61, val_main_v59, val_main_v58, val_main_v54, val_main_v53, val_main_v52, val_main_v51, val_main_v50, val_main_v49, val_main_v48, val_main_cst_11, val_main_v47, val_main_v46, val_main_cst_10, val_main_v45, val_main_v44, val_main_v43, val_main_v42, val_main_v41, val_main_v40, val_main_cst_9, val_main_v39, val_main_v37, val_main_v36, val_main_v30, val_main_v27, val_main_v26, val_main_cst_6, val_main_v25, val_main_v24, val_main_v23, val_main_v22, val_main_cst_5, val_main_v21, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [sum_one, zero_add, RowNorm.gain, RowNorm.normed, RowNorm.back, RowNorm.pull, RowNorm.inv, RowNorm.mean]
  all_goals ac_rfl

open MixPostBwdRefIdeal.Read in
theorem ref8 (x0 x1 : FVec Ideal S4096x2048 .f32) (x2 x3 : FVec Ideal MixPostBwdRefIdeal.S2048 .f32) (x4 x5 : FVec Ideal S4096x2048 .f32) (q : Fin 2048) :
    val_main_v76 (F := Ideal) x0 x1 x2 x3 x4 x5 (ix2 0 q) = ∑ p : Fin 4096, RowNorm.gain (fun k => x1 (ix2 p k)) (fun j => RowNorm.back (fun j => (fun k => x0 (ix2 p k)) j + RowNorm.normed (fun k => x1 (ix2 p k)) (fun k => x2 (ix1 k)) j) (fun k => x3 (ix1 k)) (fun k => x5 (ix2 p k)) j + (fun k => x4 (ix2 p k)) j) q := by
  pointwise [val_main_v76, val_main_v60, val_main_cst_13, val_main_v57, val_main_v56, val_main_cst_12, val_main_v55, val_main_v54, val_main_v53, val_main_v52, val_main_v51, val_main_v50, val_main_v49, val_main_v48, val_main_cst_11, val_main_v47, val_main_v46, val_main_cst_10, val_main_v45, val_main_v44, val_main_v43, val_main_v42, val_main_v41, val_main_v40, val_main_cst_9, val_main_v39, val_main_v37, val_main_v36, val_main_v30, val_main_v27, val_main_v26, val_main_cst_6, val_main_v25, val_main_v24, val_main_v23, val_main_v22, val_main_cst_5, val_main_v21, val_main_v20, val_main_cst_4, val_main_v19, val_main_v18, val_main_cst_3, val_main_v17, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  simp only [sum_one, zero_add, RowNorm.gain, RowNorm.normed, RowNorm.back, RowNorm.pull, RowNorm.inv, RowNorm.mean]
  all_goals ac_rfl

open MixPostBwdRefIdeal.Read in
theorem ref9 (x0 x1 : FVec Ideal S4096x2048 .f32) (x2 : FVec Ideal MixPostBwdRefIdeal.S2048 .f32) (x5 : FVec Ideal S4096x2048 .f32) (q : Fin 2048) :
    val_main_v77 (F := Ideal) x0 x1 x2 x5 (ix2 0 q) = ∑ p : Fin 4096, RowNorm.gain (fun j => (fun k => x0 (ix2 p k)) j + RowNorm.normed (fun k => x1 (ix2 p k)) (fun k => x2 (ix1 k)) j) (fun k => x5 (ix2 p k)) q := by
  pointwise [val_main_v77, val_main_v38, val_main_cst_8, val_main_v35, val_main_v34, val_main_cst_7, val_main_v33, val_main_v29, val_main_v28, val_main_v24, val_main_v23, val_main_v22, val_main_cst_5, val_main_v21, val_main_v20, val_main_cst_4, val_main_v19, val_main_v18, val_main_cst_3, val_main_v17, val_main_v16, val_main_v15, val_main_v14, val_main_v13, val_main_v12, val_main_v11, val_main_v7, val_main_v6, val_main_v5, val_main_cst_1, val_main_v4, val_main_v3, val_main_cst_0, val_main_v2, val_main_v1, val_main_cst, val_main_v0]
  simp only [sum_one, zero_add, RowNorm.gain, RowNorm.normed, RowNorm.back, RowNorm.pull, RowNorm.inv, RowNorm.mean]
  all_goals ac_rfl

theorem algebraic : algebraic_MixPostBwdIdeal_MixPostBwdRefIdeal (hMixPostBwdIdeal := MixPostBwdIdeal.Gen.facts) (hMixPostBwdRefIdeal := MixPostBwdRefIdeal.Gen.facts) := by
  intro m g m' g' _ hargs
  refine ⟨res6 m, res7 m, res8 m, res9 m, ?_, ?_⟩
  · exact (θ_run MixPostBwdIdeal.defs _ _).mono (fun r h c => ⟨(h c).1.trans (final6 m c), (h c).2.1.trans (final7 m c), (h c).2.2.1.trans (final8 m c), (h c).2.2.2.1.trans (final9 m c), (h c).2.2.2.2⟩) (MixPostBwdIdeal.Value.run_blocks m g)
  · refine (θ_run MixPostBwdRefIdeal.defs _ _).mono (fun r h c => ?_) (MixPostBwdRefIdeal.Value.run m' g')
    obtain ⟨a0, a1, a2, a3, a4, a5⟩ := hargs c
    obtain ⟨e0, e1, e2, e3, k⟩ := h c
    refine ⟨e0.trans ?_, e1.trans ?_, e2.trans ?_, e3.trans ?_, k⟩
    · refine (MixPostBwdRefIdeal.Read.val_main_v53_eq m' c).trans ?_
      rw [a0, a1, a2, a3, a4, a5]
      funext i
      obtain ⟨p, q, rfl⟩ : ∃ (p : Fin 4096) (q : Fin 2048), i = ix2 p q := ⟨i 0, i 1, by funext x; fin_cases x <;> rfl⟩
      exact ref6 _ _ _ _ _ _ p q
    · refine (MixPostBwdRefIdeal.Read.val_main_v75_eq m' c).trans ?_
      rw [a0, a1, a2, a3, a4, a5]
      funext i
      obtain ⟨p, q, rfl⟩ : ∃ (p : Fin 4096) (q : Fin 2048), i = ix2 p q := ⟨i 0, i 1, by funext x; fin_cases x <;> rfl⟩
      exact ref7 _ _ _ _ _ _ p q
    · refine (MixPostBwdRefIdeal.Read.val_main_v76_eq m' c).trans ?_
      rw [a0, a1, a2, a3, a4, a5]
      funext i
      obtain ⟨p, q, rfl⟩ : ∃ (p : Fin 1) (q : Fin 2048), i = ix2 p q := ⟨i 0, i 1, by funext x; fin_cases x <;> rfl⟩
      obtain rfl : p = 0 := Subsingleton.elim _ _
      exact ref8 _ _ _ _ _ _ q
    · refine (MixPostBwdRefIdeal.Read.val_main_v77_eq _ _ _ _).trans ?_
      rw [a0, a1, a2, a5]
      funext i
      obtain ⟨p, q, rfl⟩ : ∃ (p : Fin 1) (q : Fin 2048), i = ix2 p q := ⟨i 0, i 1, by funext x; fin_cases x <;> rfl⟩
      obtain rfl : p = 0 := Subsingleton.elim _ _
      exact ref9 _ _ _ _ q

end Cert.MixPostBwdIdeal.Meaning

end
-- ==== Proof.PleLastBwdValue.lean ====
module

public import proofs.«01_k».proof.Proof.Gen.PleLastBwdIdeal.Value
public import proofs.«01_k».proof.Proof.RowNorm
public import proofs.«01_k».proof.Proof.Logistic
public import proofs.«01_k».proof.Proof.Common

@[expose] public section

set_option maxRecDepth 16384
set_option maxHeartbeats 1000000

noncomputable section

/-! Backward of the gated embedding of the last layer and its norm. -/

namespace Cert.PleLastBwdIdeal.Meaning

open PleLastBwdIdeal PleLastBwdIdeal.Gen Idealize.ShloMosaic TcCoe Idealize.SL.Sem

/-- The one block of a sum over a single block. -/
theorem sum_one (f : Fin 1 → EReal) : ∑ i, f i = f 0 := Fin.sum_univ_one f

section Points

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S1x2048 .f32) (harg9 : arg9.IsWhole)

theorem value_A_5 (hc0 : cond0_0 i)
    (x0 x1 x2 : Vec Ideal S256x2048 .f32) (x3 : Vec Ideal S1x2048 .f32) (x4 : Vec Ideal S256x2048 .f32) (a : Fin 256) (b : Fin 2048) : out0_A_5 (F := Ideal) c i arg1 harg1 arg2 harg2 arg3 harg3 arg4 harg4 arg5 harg5 arg6 harg6 arg7 harg7 arg8 harg8 arg9 harg9 hc0 x0 x1 x2 x3 x4 (ix2 a b) = (fun j => (fun k => x4 (ix2 a k)) j) b := by
  unfold out0_A_5
  rw [View.read_writes_eq_canon _ _ _ (cover0_A_5 _ _ _ _ _ _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise

theorem value_B_5 (hc0 : ¬cond0_0 i)
    (x0 x1 x2 : Vec Ideal S256x2048 .f32) (x3 : Vec Ideal S1x2048 .f32) (x4 : Vec Ideal S256x2048 .f32) (xo8 : Vec Ideal S1x2048 .f32) (a : Fin 256) (b : Fin 2048) : out0_B_5 (F := Ideal) c i arg1 harg1 arg2 harg2 arg3 harg3 arg4 harg4 arg5 harg5 arg6 harg6 arg7 harg7 arg8 harg8 arg9 harg9 hc0 x0 x1 x2 x3 x4 xo8 (ix2 a b) = (fun j => (fun k => x4 (ix2 a k)) j) b := by
  unfold out0_B_5
  rw [View.read_writes_eq_canon _ _ _ (cover0_B_5 _ _ _ _ _ _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise

theorem value_A_6 (hc0 : cond0_0 i)
    (x0 x1 x2 : Vec Ideal S256x2048 .f32) (x3 : Vec Ideal S1x2048 .f32) (x4 : Vec Ideal S256x2048 .f32) (a : Fin 256) (b : Fin 2048) : out0_A_6 (F := Ideal) c i arg1 harg1 arg2 harg2 arg3 harg3 arg4 harg4 arg5 harg5 arg6 harg6 arg7 harg7 arg8 harg8 arg9 harg9 hc0 x0 x1 x2 x3 x4 (ix2 a b) = (fun j => RowNorm.back (fun j => (fun k => x1 (ix2 a k)) j * Ideal.logistic ((fun k => x2 (ix2 a k)) j)) (fun k => x3 (ix2 0 k)) (fun k => x4 (ix2 a k)) j * Ideal.logistic ((fun k => x2 (ix2 a k)) j)) b := by
  unfold out0_A_6
  rw [View.read_writes_eq_canon _ _ _ (cover0_A_6 _ _ _ _ _ _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

theorem value_B_6 (hc0 : ¬cond0_0 i)
    (x0 x1 x2 : Vec Ideal S256x2048 .f32) (x3 : Vec Ideal S1x2048 .f32) (x4 : Vec Ideal S256x2048 .f32) (xo8 : Vec Ideal S1x2048 .f32) (a : Fin 256) (b : Fin 2048) : out0_B_6 (F := Ideal) c i arg1 harg1 arg2 harg2 arg3 harg3 arg4 harg4 arg5 harg5 arg6 harg6 arg7 harg7 arg8 harg8 arg9 harg9 hc0 x0 x1 x2 x3 x4 xo8 (ix2 a b) = (fun j => RowNorm.back (fun j => (fun k => x1 (ix2 a k)) j * Ideal.logistic ((fun k => x2 (ix2 a k)) j)) (fun k => x3 (ix2 0 k)) (fun k => x4 (ix2 a k)) j * Ideal.logistic ((fun k => x2 (ix2 a k)) j)) b := by
  unfold out0_B_6
  rw [View.read_writes_eq_canon _ _ _ (cover0_B_6 _ _ _ _ _ _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

theorem value_A_7 (hc0 : cond0_0 i)
    (x0 x1 x2 : Vec Ideal S256x2048 .f32) (x3 : Vec Ideal S1x2048 .f32) (x4 : Vec Ideal S256x2048 .f32) (a : Fin 256) (b : Fin 2048) : out0_A_7 (F := Ideal) c i arg1 harg1 arg2 harg2 arg3 harg3 arg4 harg4 arg5 harg5 arg6 harg6 arg7 harg7 arg8 harg8 arg9 harg9 hc0 x0 x1 x2 x3 x4 (ix2 a b) = (fun j => (fun k => x1 (ix2 a k)) j * (RowNorm.back (fun j => (fun k => x1 (ix2 a k)) j * Ideal.logistic ((fun k => x2 (ix2 a k)) j)) (fun k => x3 (ix2 0 k)) (fun k => x4 (ix2 a k)) j) * (Ideal.logistic ((fun k => x2 (ix2 a k)) j) * (1 - Ideal.logistic ((fun k => x2 (ix2 a k)) j)))) b := by
  unfold out0_A_7
  rw [View.read_writes_eq_canon _ _ _ (cover0_A_7 _ _ _ _ _ _ _ _ _ _ _ _ _ _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

theorem value_B_7 (hc0 : ¬cond0_0 i)
    (x0 x1 x2 : Vec Ideal S256x2048 .f32) (x3 : Vec Ideal S1x2048 .f32) (x4 : Vec Ideal S256x2048 .f32) (xo8 : Vec Ideal S1x2048 .f32) (a : Fin 256) (b : Fin 2048) : out0_B_7 (F := Ideal) c i arg1 harg1 arg2 harg2 arg3 harg3 arg4 harg4 arg5 harg5 arg6 harg6 arg7 harg7 arg8 harg8 arg9 harg9 hc0 x0 x1 x2 x3 x4 xo8 (ix2 a b) = (fun j => (fun k => x1 (ix2 a k)) j * (RowNorm.back (fun j => (fun k => x1 (ix2 a k)) j * Ideal.logistic ((fun k => x2 (ix2 a k)) j)) (fun k => x3 (ix2 0 k)) (fun k => x4 (ix2 a k)) j) * (Ideal.logistic ((fun k => x2 (ix2 a k)) j) * (1 - Ideal.logistic ((fun k => x2 (ix2 a k)) j)))) b := by
  unfold out0_B_7
  rw [View.read_writes_eq_canon _ _ _ (cover0_B_7 _ _ _ _ _ _ _ _ _ _ _ _ _ _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

theorem value_A_8 (hc0 : cond0_0 i)
    (x0 x1 x2 : Vec Ideal S256x2048 .f32) (x3 : Vec Ideal S1x2048 .f32) (x4 : Vec Ideal S256x2048 .f32) (b : Fin 2048) : out0_A_8 (F := Ideal) c i arg1 harg1 arg2 harg2 arg3 harg3 arg4 harg4 arg5 harg5 arg6 harg6 arg7 harg7 arg8 harg8 arg9 harg9 hc0 x0 x1 x2 x3 x4 (ix2 0 b) = ∑ a : Fin 256, RowNorm.gain (fun j => (fun k => x1 (ix2 a k)) j * Ideal.logistic ((fun k => x2 (ix2 a k)) j)) (fun k => x4 (ix2 a k)) b := by
  unfold out0_A_8
  rw [View.read_writes_eq_canon _ _ _ (cover0_A_8 _ _ _ _ _ _ _ _ _ _ _ _ _ _ _ _ _ _ _ _ _ _ _ _ _ _)]
  unfold kernelRun0_A
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

theorem value_B_8 (hc0 : ¬cond0_0 i)
    (x0 x1 x2 : Vec Ideal S256x2048 .f32) (x3 : Vec Ideal S1x2048 .f32) (x4 : Vec Ideal S256x2048 .f32) (xo8 : Vec Ideal S1x2048 .f32) (b : Fin 2048) : out0_B_8 (F := Ideal) c i arg1 harg1 arg2 harg2 arg3 harg3 arg4 harg4 arg5 harg5 arg6 harg6 arg7 harg7 arg8 harg8 arg9 harg9 hc0 x0 x1 x2 x3 x4 xo8 (ix2 0 b) = xo8 (ix2 0 b) + ∑ a : Fin 256, RowNorm.gain (fun j => (fun k => x1 (ix2 a k)) j * Ideal.logistic ((fun k => x2 (ix2 a k)) j)) (fun k => x4 (ix2 a k)) b := by
  unfold out0_B_8
  rw [View.read_writes_eq_canon _ _ _ (cover0_B_8 _ _ _ _ _ _ _ _ _ _ _ _ _ _ _ _ _ _ _ _ _ _ _ _ _ _ _)]
  unfold kernelRun0_B
  dsimp only
  sl_unfold_words
  try rw [View.canon_cons_unit_zero (S := S1x2048) hz2]
  try rw [View.canon_unit_zero (S := S1x2048) hz2]
  simp only [View.readCov_unit_zero (S := S1x2048) _ hz2, View.readCov_unit_zero (S := S256x2048) _ hz2, View.readAt_eq_ld, harg1.read_unread, harg2.read_unread, harg3.read_unread, harg4.read_unread, harg5.read_unread, harg6.read_unread, harg7.read_unread, harg8.read_unread, harg9.read_unread, View.ld_unit_zero (S := S1x2048) hz2, View.ld_unit_zero (S := S256x2048) hz2]
  unfold_payloads
  pointwise
  simp only [sum_one, zero_add, RowNorm.gain, RowNorm.normed, RowNorm.back, RowNorm.pull, RowNorm.inv, RowNorm.mean, Logistic.slope]
  simp only [Logistic.half_tanh, Logistic.half_lit]
  all_goals ac_rfl

end Points

variable (m : (ℓ : Loc nD τ sig) → Buf (Elt Ideal) ℓ) (c : Dev nD) (t : Fin cfg0.N)

theorem lt_N (t : Fin cfg0.N) : t.val < 16 := lt_of_lt_of_eq t.isLt (show cfg0.N = 16 from N_0)

/-- Row `a` of block `t`. -/
def row (t : Fin cfg0.N) (a : Fin 256) : Fin 4096 := ⟨t.val * 256 + a.val, by have := lt_N t; omega⟩

abbrev A0 (c : Dev nD) (p : Fin 4096) : Fin 2048 → EReal := fun k => m ((c : Thread nD τ).loc main_arg0) (ix2 p k)
abbrev A1 (c : Dev nD) (p : Fin 4096) : Fin 2048 → EReal := fun k => m ((c : Thread nD τ).loc main_arg1) (ix2 p k)
abbrev A2 (c : Dev nD) (p : Fin 4096) : Fin 2048 → EReal := fun k => m ((c : Thread nD τ).loc main_arg2) (ix2 p k)
abbrev A3 (c : Dev nD) : Fin 2048 → EReal := fun k => m ((c : Thread nD τ).loc main_arg3) (ix1 k)
abbrev A4 (c : Dev nD) (p : Fin 4096) : Fin 2048 → EReal := fun k => m ((c : Thread nD τ).loc main_arg4) (ix2 p k)

theorem index : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_3.index t 0 = 0 ∧ win0_3.index t 1 = 0) ∧ (win0_8.index t 0 = 0 ∧ win0_8.index t 1 = 0) := by decide +kernel

theorem read0 (a : Fin 256) : (fun k : Fin 2048 => iblk m c 0 t (ix2 a k)) = A0 m c (row t a) := by
  funext k
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 256 + 1 * a.val = t.val * 256 + a.val; rw [(index t).1.1]; omega
  | ⟨1, _⟩ => show win0_0.index t 1 * 2048 + 1 * k.val = k.val; rw [(index t).1.2]; omega

theorem read1 (a : Fin 256) : (fun k : Fin 2048 => iblk m c 1 t (ix2 a k)) = A1 m c (row t a) := by
  funext k
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t 0 * 256 + 1 * a.val = t.val * 256 + a.val; rw [(index t).2.1.1]; omega
  | ⟨1, _⟩ => show win0_1.index t 1 * 2048 + 1 * k.val = k.val; rw [(index t).2.1.2]; omega

theorem read2 (a : Fin 256) : (fun k : Fin 2048 => iblk m c 2 t (ix2 a k)) = A2 m c (row t a) := by
  funext k
  unfold iblk
  rw [View.read_apply]
  show V m c main_arg2 _ = _
  rw [V_main_arg2]
  refine congrArg (m ((c : Thread nD τ).loc main_arg2)) (funext fun d => Fin.ext ?_)
  match d with
  | ⟨0, _⟩ => show win0_2.index t 0 * 256 + 1 * a.val = t.val * 256 + a.val; rw [(index t).2.2.1.1]; omega
  | ⟨1, _⟩ => show win0_2.index t 1 * 2048 + 1 * k.val = k.val; rw [(index t).2.2.1.2]; omega

theorem read3 : (fun k : Fin 2048 => iblk m c 3 t (ix2 0 k)) = A3 m c := by
  funext k
  unfold iblk
  rw [View.read_apply]
  have e : ((cfg0.win 3).blk t).view.emb (ix2 0 k : S1x2048.Idx) = (ix2 0 k : S1x2048.Idx) := by
    refine funext fun d => Fin.ext ?_
    match d with
    | ⟨0, _⟩ => show win0_3.index t 0 * 1 + 1 * 0 = 0; rw [(index t).2.2.2.2.2.2.2.1.1]
    | ⟨1, _⟩ => show win0_3.index t 1 * 2048 + 1 * k.val = k.val; rw [(index t).2.2.2.2.2.2.2.1.2]; omega
  show V m c main_v0 _ = _
  refine (congrArg _ e).trans ?_
  unfold V hostOps0
  after_results
  pointwise

theorem read4 (a : Fin 256) : (fun k : Fin 2048 => iblk m c 4 t (ix2 a k)) = A4 m c (row t a) := by
  funext k
  unfold iblk
  rw [View.read_apply]
  show V m c main_arg4 _ = _
  rw [V_main_arg4]
  refine congrArg (m ((c : Thread nD τ).loc main_arg4)) (funext fun d => Fin.ext ?_)
  match d with
  | ⟨0, _⟩ => show win0_4.index t 0 * 256 + 1 * a.val = t.val * 256 + a.val; rw [(index t).2.2.2.1.1]; omega
  | ⟨1, _⟩ => show win0_4.index t 1 * 2048 + 1 * k.val = k.val; rw [(index t).2.2.2.1.2]; omega

/-- The gradient passes to the stream unchanged. -/
def res5 (c : Dev nD) : S4096x2048.Idx → EReal := fun i => (fun p => (fun j => (A4 m c p) j)) (i 0) (i 1)

theorem tile5 (a : Fin 256) (b : Fin 2048) :
    (outsAt0 m c t.val t.isLt).1 (ix2 a b) = res5 m c (ix2 (row t a) b) := by
  by_cases h : t.val % 16 = 0
  · rw [outsAt0_A m c t h]
    dsimp only
    refine (value_A_5 _ _ _ _ _ _ _ _ _ _ _ _ _ _ _ _ _ _ _ _ _ _ _ _ _ _ a b).trans ?_
    rw [read4 m c t a]
    rfl
  · rw [outsAt0_B m c t h]
    dsimp only
    refine (value_B_5 _ _ _ _ _ _ _ _ _ _ _ _ _ _ _ _ _ _ _ _ _ _ _ _ _ _ _ a b).trans ?_
    rw [read4 m c t a]
    rfl

theorem final5 (c : Dev nD) : (dats m 0 c).arrAt 5 cfg0.N = res5 m c := by
  refine (dats m 0 c).arrAt_eq_of_cover 5 _ (fun t _ => ?_) fun i => ?_
  · show (cfg0.win 5).cut (grid0.coords t) ((dats m 0 c).after 5 t) = _
    rw [after0_5]
    funext i
    rw [View.read_apply]
    obtain ⟨a, b, rfl⟩ : ∃ (a : Fin 256) (b : Fin 2048), i = ix2 a b := ⟨i 0, i 1, by funext x; fin_cases x <;> rfl⟩
    refine (tile5 m c t a b).trans (congrArg (res5 m c) (funext fun d => Fin.ext ?_))
    match d with
    | ⟨0, _⟩ => show t.val * 256 + a.val = win0_5.index t 0 * 256 + 1 * a.val; rw [(index t).2.2.2.2.1.1]; omega
    | ⟨1, _⟩ => show b.val = win0_5.index t 1 * 2048 + 1 * b.val; rw [(index t).2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_5 t, ?_⟩
    show i ∈ ((View.whole main_v1_0).slice (win0_5.rect t)).set
    rw [View.set_slice_whole, Rect.mem_set_unit]
    intro d
    match d with
    | ⟨0, _⟩ => show win0_5.index t 0 * 256 ≤ (i 0 : Nat) ∧ (i 0 : Nat) < win0_5.index t 0 * 256 + 256; rw [(index t).2.2.2.2.1.1]; omega
    | ⟨1, _⟩ => show win0_5.index t 1 * 2048 ≤ (i 1 : Nat) ∧ (i 1 : Nat) < win0_5.index t 1 * 2048 + 2048; rw [(index t).2.2.2.2.1.2]; omega

/-- The gradient at the embedding. -/
def res6 (c : Dev nD) : S4096x2048.Idx → EReal := fun i => (fun p => (fun j => RowNorm.back (fun j => (A1 m c p) j * Ideal.logistic ((A2 m c p) j)) (A3 m c) (A4 m c p) j * Ideal.logistic ((A2 m c p) j))) (i 0) (i 1)

theorem tile6 (a : Fin 256) (b : Fin 2048) :
    (outsAt0 m c t.val t.isLt).2.1 (ix2 a b) = res6 m c (ix2 (row t a) b) := by
  by_cases h : t.val % 16 = 0
  · rw [outsAt0_A m c t h]
    dsimp only
    refine (value_A_6 _ _ _ _ _ _ _ _ _ _ _ _ _ _ _ _ _ _ _ _ _ _ _ _ _ _ a b).trans ?_
    rw [read1 m c t a, read2 m c t a, read3 m c t, read4 m c t a]
    rfl
  · rw [outsAt0_B m c t h]
    dsimp only
    refine (value_B_6 _ _ _ _ _ _ _ _ _ _ _ _ _ _ _ _ _ _ _ _ _ _ _ _ _ _ _ a b).trans ?_
    rw [read1 m c t a, read2 m c t a, read3 m c t, read4 m c t a]
    rfl

theorem final6 (c : Dev nD) : (dats m 0 c).arrAt 6 cfg0.N = res6 m c := by
  refine (dats m 0 c).arrAt_eq_of_cover 6 _ (fun t _ => ?_) fun i => ?_
  · show (cfg0.win 6).cut (grid0.coords t) ((dats m 0 c).after 6 t) = _
    rw [after0_6]
    funext i
    rw [View.read_apply]
    obtain ⟨a, b, rfl⟩ : ∃ (a : Fin 256) (b : Fin 2048), i = ix2 a b := ⟨i 0, i 1, by funext x; fin_cases x <;> rfl⟩
    refine (tile6 m c t a b).trans (congrArg (res6 m c) (funext fun d => Fin.ext ?_))
    match d with
    | ⟨0, _⟩ => show t.val * 256 + a.val = win0_6.index t 0 * 256 + 1 * a.val; rw [(index t).2.2.2.2.2.1.1]; omega
    | ⟨1, _⟩ => show b.val = win0_6.index t 1 * 2048 + 1 * b.val; rw [(index t).2.2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_6 t, ?_⟩
    show i ∈ ((View.whole main_v1_1).slice (win0_6.rect t)).set
    rw [View.set_slice_whole, Rect.mem_set_unit]
    intro d
    match d with
    | ⟨0, _⟩ => show win0_6.index t 0 * 256 ≤ (i 0 : Nat) ∧ (i 0 : Nat) < win0_6.index t 0 * 256 + 256; rw [(index t).2.2.2.2.2.1.1]; omega
    | ⟨1, _⟩ => show win0_6.index t 1 * 2048 ≤ (i 1 : Nat) ∧ (i 1 : Nat) < win0_6.index t 1 * 2048 + 2048; rw [(index t).2.2.2.2.2.1.2]; omega

/-- The gradient at the gate. -/
def res7 (c : Dev nD) : S4096x2048.Idx → EReal := fun i => (fun p => (fun j => (A1 m c p) j * (RowNorm.back (fun j => (A1 m c p) j * Ideal.logistic ((A2 m c p) j)) (A3 m c) (A4 m c p) j) * (Ideal.logistic ((A2 m c p) j) * (1 - Ideal.logistic ((A2 m c p) j))))) (i 0) (i 1)

theorem tile7 (a : Fin 256) (b : Fin 2048) :
    (outsAt0 m c t.val t.isLt).2.2.1 (ix2 a b) = res7 m c (ix2 (row t a) b) := by
  by_cases h : t.val % 16 = 0
  · rw [outsAt0_A m c t h]
    dsimp only
    refine (value_A_7 _ _ _ _ _ _ _ _ _ _ _ _ _ _ _ _ _ _ _ _ _ _ _ _ _ _ a b).trans ?_
    rw [read1 m c t a, read2 m c t a, read3 m c t, read4 m c t a]
    rfl
  · rw [outsAt0_B m c t h]
    dsimp only
    refine (value_B_7 _ _ _ _ _ _ _ _ _ _ _ _ _ _ _ _ _ _ _ _ _ _ _ _ _ _ _ a b).trans ?_
    rw [read1 m c t a, read2 m c t a, read3 m c t, read4 m c t a]
    rfl

theorem final7 (c : Dev nD) : (dats m 0 c).arrAt 7 cfg0.N = res7 m c := by
  refine (dats m 0 c).arrAt_eq_of_cover 7 _ (fun t _ => ?_) fun i => ?_
  · show (cfg0.win 7).cut (grid0.coords t) ((dats m 0 c).after 7 t) = _
    rw [after0_7]
    funext i
    rw [View.read_apply]
    obtain ⟨a, b, rfl⟩ : ∃ (a : Fin 256) (b : Fin 2048), i = ix2 a b := ⟨i 0, i 1, by funext x; fin_cases x <;> rfl⟩
    refine (tile7 m c t a b).trans (congrArg (res7 m c) (funext fun d => Fin.ext ?_))
    match d with
    | ⟨0, _⟩ => show t.val * 256 + a.val = win0_7.index t 0 * 256 + 1 * a.val; rw [(index t).2.2.2.2.2.2.1.1]; omega
    | ⟨1, _⟩ => show b.val = win0_7.index t 1 * 2048 + 1 * b.val; rw [(index t).2.2.2.2.2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_7 t, ?_⟩
    show i ∈ ((View.whole main_v1_2).slice (win0_7.rect t)).set
    rw [View.set_slice_whole, Rect.mem_set_unit]
    intro d
    match d with
    | ⟨0, _⟩ => show win0_7.index t 0 * 256 ≤ (i 0 : Nat) ∧ (i 0 : Nat) < win0_7.index t 0 * 256 + 256; rw [(index t).2.2.2.2.2.2.1.1]; omega
    | ⟨1, _⟩ => show win0_7.index t 1 * 2048 ≤ (i 1 : Nat) ∧ (i 1 : Nat) < win0_7.index t 1 * 2048 + 2048; rw [(index t).2.2.2.2.2.2.1.2]; omega

/-- The gradient at the gain. -/
def res8 (c : Dev nD) : S1x2048.Idx → EReal := fun i => ∑ p : Fin 4096, RowNorm.gain (fun j => (A1 m c p) j * Ideal.logistic ((A2 m c p) j)) (A4 m c p) (i 1)

/-- The part of the rows of block `n`. -/
def part8 (c : Dev nD) (b : Fin 2048) (n : Nat) : EReal := ∑ a : Fin 256, (fun p => RowNorm.gain (fun j => (A1 m c p) j * Ideal.logistic ((A2 m c p) j)) (A4 m c p) b) ⟨(n * 256 + a.val) % 4096, Nat.mod_lt _ (by norm_num)⟩

theorem part8_at (b : Fin 2048) : (∑ a : Fin 256, (fun p => RowNorm.gain (fun j => (A1 m c p) j * Ideal.logistic ((A2 m c p) j)) (A4 m c p) b) (row t a)) = part8 m c b t.val := by
  have hN := lt_N t
  unfold part8 row
  refine Finset.sum_congr rfl fun a _ => ?_
  rw [show (⟨(t.val * 256 + a.val) % 4096, Nat.mod_lt _ (by norm_num)⟩ : Fin 4096) = ⟨t.val * 256 + a.val, by omega⟩ from Fin.ext (Nat.mod_eq_of_lt (by omega))]

theorem acc8 (c : Dev nD) (b : Fin 2048) : ∀ (n : Nat) (h : n < cfg0.N), (outsAt0 m c n h).2.2.2 (ix2 0 b) = ∑ i ∈ Finset.range (n + 1), part8 m c b i := by
  intro n
  induction n with
  | zero =>
    intro h
    refine (congrFun (congrArg (fun x => x.2.2.2) (outsAt0_A m c ⟨0, h⟩ rfl)) (ix2 0 b)).trans ?_
    dsimp only
    refine (value_A_8 _ _ _ _ _ _ _ _ _ _ _ _ _ _ _ _ _ _ _ _ _ _ _ _ _ _ b).trans ?_
    refine (Finset.sum_congr rfl fun a _ => ?_).trans ((part8_at m c ⟨0, h⟩ b).trans (by simp))
    have t : Fin cfg0.N := ⟨0, h⟩
    rw [read1 m c ⟨0, h⟩ a, read2 m c ⟨0, h⟩ a, read4 m c ⟨0, h⟩ a]
  | succ n ih =>
    intro h
    have hn : n + 1 < 16 := lt_N ⟨n + 1, h⟩
    have hb : ¬ (n + 1) % 16 = 0 := by omega
    refine (congrFun (congrArg (fun x => x.2.2.2) (outsAt0_B m c ⟨n + 1, h⟩ hb)) (ix2 0 b)).trans ?_
    dsimp only
    refine (value_B_8 _ _ _ _ _ _ _ _ _ _ _ _ _ _ _ _ _ _ _ _ _ _ _ _ _ _ _ b).trans ?_
    rw [Finset.sum_range_succ]
    refine congrArg₂ (· + ·) (ih _) ?_
    refine (Finset.sum_congr rfl fun a _ => ?_).trans (part8_at m c ⟨n + 1, h⟩ b)
    rw [read1 m c ⟨n + 1, h⟩ a, read2 m c ⟨n + 1, h⟩ a, read4 m c ⟨n + 1, h⟩ a]

theorem final8 (c : Dev nD) : (dats m 0 c).arrAt 8 cfg0.N = res8 m c := by
  refine (dats m 0 c).arrAt_eq_of_cover 8 _ (fun t hf => ?_) fun i => ?_
  · have hN := lt_N t
    have ht := (flush0_8 t).mp hf
    show (cfg0.win 8).cut (grid0.coords t) ((dats m 0 c).after 8 t) = _
    rw [after0_8]
    funext i
    rw [View.read_apply]
    obtain ⟨a, b, rfl⟩ : ∃ (a : Fin 1) (b : Fin 2048), i = ix2 a b := ⟨i 0, i 1, by funext x; fin_cases x <;> rfl⟩
    obtain rfl : a = 0 := Subsingleton.elim _ _
    have e : ((cfg0.win 8).blk t).view.emb (ix2 0 b : S1x2048.Idx) = (ix2 0 b : S1x2048.Idx) := by
      refine funext fun d => Fin.ext ?_
      match d with
      | ⟨0, _⟩ => show win0_8.index t 0 * 1 + 1 * 0 = 0; rw [(index t).2.2.2.2.2.2.2.2.1]
      | ⟨1, _⟩ => show win0_8.index t 1 * 2048 + 1 * b.val = b.val; rw [(index t).2.2.2.2.2.2.2.2.2]; omega
    refine (acc8 m c b t.val t.isLt).trans (Eq.trans ?_ (congrArg (res8 m c) e).symm)
    rw [show t.val + 1 = 16 by omega, Finset.sum_range]
    show _ = ∑ p : Fin 4096, _
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
    rfl
  · have h0 : (i 0 : Nat) < 1 := (i 0).isLt
    have h1 : (i 1 : Nat) < 2048 := (i 1).isLt
    let t : Fin cfg0.N := ⟨15, by show _ < grid0.N; rw [Gen.N_0]; omega⟩
    have ht : t.val = 15 := rfl
    refine ⟨t, (flush0_8 t).mpr (by omega), ?_⟩
    show i ∈ ((View.whole main_v1_3).slice (win0_8.rect t)).set
    rw [View.set_slice_whole, Rect.mem_set_unit]
    intro d
    match d with
    | ⟨0, _⟩ => show win0_8.index t 0 * 1 ≤ (i 0 : Nat) ∧ (i 0 : Nat) < win0_8.index t 0 * 1 + 1; rw [(index t).2.2.2.2.2.2.2.2.1]; omega
    | ⟨1, _⟩ => show win0_8.index t 1 * 2048 ≤ (i 1 : Nat) ∧ (i 1 : Nat) < win0_8.index t 1 * 2048 + 2048; rw [(index t).2.2.2.2.2.2.2.2.2]; omega

end Cert.PleLastBwdIdeal.Meaning

end
-- ==== Proof.PleLastBwdClaims.lean ====
module

public import proofs.«01_k».proof.Defs
public import proofs.«01_k».proof.Proof.Gen.PleLastBwd.Frame
public import proofs.«01_k».proof.Proof.Gen.PleLastBwdRefIdeal.Run
public import proofs.«01_k».proof.Proof.Gen.PleLastBwdRefIdeal.Read
public import proofs.«01_k».proof.Proof.PleLastBwdValue

@[expose] public section

set_option maxRecDepth 16384

noncomputable section

/-! The claims of the call: the frames of the programs, and that the kernel and the reference end with the same gradients. -/

namespace Cert.PleLastBwdIdeal.Meaning

open PleLastBwdIdeal PleLastBwdIdeal.Gen Idealize.ShloMosaic TcCoe Idealize.SL.Sem

theorem frame_ref : quiescent_PleLastBwdRefIdeal (hPleLastBwdRefIdeal := PleLastBwdRefIdeal.Gen.facts) :=
  fun m ρ _ => (θ_run PleLastBwdRefIdeal.defs _ _).mono
    (fun r h => ⟨fun c => (h c).2.2.2.2, sem_eq_zero_of_no_sems (by decide) r.2⟩) (PleLastBwdRefIdeal.Value.run m ρ)

open PleLastBwdRefIdeal.Read in
theorem ref6 (x1 x2 : FVec Ideal S4096x2048 .f32) (x3 : FVec Ideal PleLastBwdRefIdeal.S2048 .f32) (x4 : FVec Ideal S4096x2048 .f32) (p : Fin 4096) (q : Fin 2048) :
    val_main_v51 (F := Ideal) x1 x2 x3 x4 (ix2 p q) = (fun j => RowNorm.back (fun j => (fun k => x1 (ix2 p k)) j * Ideal.logistic ((fun k => x2 (ix2 p k)) j)) (fun k => x3 (ix1 k)) (fun k => x4 (ix2 p k)) j * Ideal.logistic ((fun k => x2 (ix2 p k)) j)) q := by
  pointwise [val_main_v51, val_main_v49, val_main_v47, val_main_v46, val_main_v45, val_main_v44, val_main_v43, val_main_v42, val_main_cst_10, val_main_v41, val_main_v40, val_main_cst_9, val_main_v39, val_main_v38, val_main_v37, val_main_v36, val_main_v35, val_main_cst_8, val_main_v34, val_main_v32, val_main_v31, val_main_v27, val_main_v23, val_main_v20, val_main_v19, val_main_cst_5, val_main_v18, val_main_v17, val_main_v16, val_main_v15, val_main_cst_4, val_main_v14, val_main_v13, val_main_cst_3, val_main_v12, val_main_v11, val_main_cst_2, val_main_v10, val_main_v9, val_main_v5, val_main_v4, val_main_cst_0, val_main_v3, val_main_v2, val_main_cst, val_main_v1, val_main_v0]
  simp only [sum_one, zero_add, RowNorm.gain, RowNorm.normed, RowNorm.back, RowNorm.pull, RowNorm.inv, RowNorm.mean, Ideal.logistic]
  all_goals ac_rfl

open PleLastBwdRefIdeal.Read in
theorem ref7 (x1 x2 : FVec Ideal S4096x2048 .f32) (x3 : FVec Ideal PleLastBwdRefIdeal.S2048 .f32) (x4 : FVec Ideal S4096x2048 .f32) (p : Fin 4096) (q : Fin 2048) :
    val_main_v52 (F := Ideal) x1 x2 x3 x4 (ix2 p q) = (fun j => (fun k => x1 (ix2 p k)) j * (RowNorm.back (fun j => (fun k => x1 (ix2 p k)) j * Ideal.logistic ((fun k => x2 (ix2 p k)) j)) (fun k => x3 (ix1 k)) (fun k => x4 (ix2 p k)) j) * (Ideal.logistic ((fun k => x2 (ix2 p k)) j) * (1 - Ideal.logistic ((fun k => x2 (ix2 p k)) j)))) q := by
  pointwise [val_main_v52, val_main_v50, val_main_v48, val_main_v47, val_main_v46, val_main_v45, val_main_v44, val_main_v43, val_main_v42, val_main_cst_10, val_main_v41, val_main_v40, val_main_cst_9, val_main_v39, val_main_v38, val_main_v37, val_main_v36, val_main_v35, val_main_cst_8, val_main_v34, val_main_v32, val_main_v31, val_main_v27, val_main_v23, val_main_v20, val_main_v19, val_main_cst_5, val_main_v18, val_main_v17, val_main_v16, val_main_v15, val_main_cst_4, val_main_v14, val_main_v13, val_main_cst_3, val_main_v12, val_main_v11, val_main_cst_2, val_main_v10, val_main_v9, val_main_v8, val_main_v7, val_main_v6, val_main_cst_1, val_main_v5, val_main_v4, val_main_cst_0, val_main_v3, val_main_v2, val_main_cst, val_main_v1, val_main_v0]
  simp only [sum_one, zero_add, RowNorm.gain, RowNorm.normed, RowNorm.back, RowNorm.pull, RowNorm.inv, RowNorm.mean, Ideal.logistic]
  all_goals ac_rfl

open PleLastBwdRefIdeal.Read in
theorem ref8 (x1 x2 x4 : FVec Ideal S4096x2048 .f32) (q : Fin 2048) :
    val_main_v53 (F := Ideal) x1 x2 x4 (ix2 0 q) = ∑ p : Fin 4096, RowNorm.gain (fun j => (fun k => x1 (ix2 p k)) j * Ideal.logistic ((fun k => x2 (ix2 p k)) j)) (fun k => x4 (ix2 p k)) q := by
  pointwise [val_main_v53, val_main_v33, val_main_cst_7, val_main_v30, val_main_v29, val_main_cst_6, val_main_v28, val_main_v27, val_main_v22, val_main_v21, val_main_v17, val_main_v16, val_main_v15, val_main_cst_4, val_main_v14, val_main_v13, val_main_cst_3, val_main_v12, val_main_v11, val_main_cst_2, val_main_v10, val_main_v9, val_main_v5, val_main_v4, val_main_cst_0, val_main_v3, val_main_v2, val_main_cst, val_main_v1, val_main_v0]
  simp only [sum_one, zero_add, RowNorm.gain, RowNorm.normed, RowNorm.back, RowNorm.pull, RowNorm.inv, RowNorm.mean, Ideal.logistic]
  all_goals ac_rfl

theorem algebraic : algebraic_PleLastBwdIdeal_PleLastBwdRefIdeal (hPleLastBwdIdeal := PleLastBwdIdeal.Gen.facts) (hPleLastBwdRefIdeal := PleLastBwdRefIdeal.Gen.facts) := by
  intro m g m' g' _ hargs
  refine ⟨res5 m, res6 m, res7 m, res8 m, ?_, ?_⟩
  · exact (θ_run PleLastBwdIdeal.defs _ _).mono (fun r h c => ⟨(h c).1.trans (final5 m c), (h c).2.1.trans (final6 m c), (h c).2.2.1.trans (final7 m c), (h c).2.2.2.1.trans (final8 m c), (h c).2.2.2.2⟩) (PleLastBwdIdeal.Value.run_blocks m g)
  · refine (θ_run PleLastBwdRefIdeal.defs _ _).mono (fun r h c => ?_) (PleLastBwdRefIdeal.Value.run m' g')
    obtain ⟨a0, a1, a2, a3, a4⟩ := hargs c
    obtain ⟨e0, e1, e2, e3, k⟩ := h c
    refine ⟨e0.trans ?_, e1.trans ?_, e2.trans ?_, e3.trans ?_, k⟩
    · rw [a4]
      funext i
      exact congrArg (m ((c : Thread nD τ).loc main_arg4)) (by funext x; fin_cases x <;> rfl)
    · refine (PleLastBwdRefIdeal.Read.val_main_v51_eq m' c).trans ?_
      rw [a1, a2, a3, a4]
      funext i
      obtain ⟨p, q, rfl⟩ : ∃ (p : Fin 4096) (q : Fin 2048), i = ix2 p q := ⟨i 0, i 1, by funext x; fin_cases x <;> rfl⟩
      exact ref6 _ _ _ _ p q
    · refine (PleLastBwdRefIdeal.Read.val_main_v52_eq m' c).trans ?_
      rw [a1, a2, a3, a4]
      funext i
      obtain ⟨p, q, rfl⟩ : ∃ (p : Fin 4096) (q : Fin 2048), i = ix2 p q := ⟨i 0, i 1, by funext x; fin_cases x <;> rfl⟩
      exact ref7 _ _ _ _ p q
    · refine (PleLastBwdRefIdeal.Read.val_main_v53_eq _ _ _).trans ?_
      rw [a1, a2, a4]
      funext i
      obtain ⟨p, q, rfl⟩ : ∃ (p : Fin 1) (q : Fin 2048), i = ix2 p q := ⟨i 0, i 1, by funext x; fin_cases x <;> rfl⟩
      obtain rfl : p = 0 := Subsingleton.elim _ _
      exact ref8 _ _ _ q

end Cert.PleLastBwdIdeal.Meaning

end
-- ==== Proof.SumGmValue.lean ====
module

public import proofs.«01_k».proof.Proof.Gen.SumGmIdeal.Value
public import proofs.«01_k».proof.Proof.Common

@[expose] public section

set_option maxRecDepth 16384

noncomputable section

/-! The sum over the eight devices of the packed gradients of the spatial gating unit's small weights, 4608 rows of 128, 512 rows at a time. -/

namespace Cert.SumGmIdeal.Meaning

open SumGmIdeal SumGmIdeal.Gen Idealize.ShloMosaic TcCoe Idealize.SL.Sem

/-- One entry of a block of the sum. -/
theorem value (x0 x1 x2 x3 x4 x5 x6 x7 : Vec Ideal S1x512x128 .f32) (a : Fin 512) (b : Fin 128) :
    out0_8 x0 x1 x2 x3 x4 x5 x6 x7 (ix2 a b) = x0 (ix3 0 a b) + x1 (ix3 0 a b) + x2 (ix3 0 a b) + x3 (ix3 0 a b) + x4 (ix3 0 a b) + x5 (ix3 0 a b) + x6 (ix3 0 a b) + x7 (ix3 0 a b) := by
  unfold out0_8
  rw [View.canon_unit_zero (S := S512x128) hz2]
  simp only [View.ld_unit_zero (S := S1x512x128) hz3]
  unfold_payloads
  pointwise

variable (m : (ℓ : Loc nD τ sig) → Buf (Elt Ideal) ℓ)

theorem index : ∀ t : Fin grid0.N, (win0_0.index t 0 = 0 ∧ win0_0.index t 1 = t.val ∧ win0_0.index t 2 = 0) ∧ (win0_1.index t 0 = 1 ∧ win0_1.index t 1 = t.val ∧ win0_1.index t 2 = 0) ∧ (win0_2.index t 0 = 2 ∧ win0_2.index t 1 = t.val ∧ win0_2.index t 2 = 0) ∧ (win0_3.index t 0 = 3 ∧ win0_3.index t 1 = t.val ∧ win0_3.index t 2 = 0) ∧ (win0_4.index t 0 = 4 ∧ win0_4.index t 1 = t.val ∧ win0_4.index t 2 = 0) ∧ (win0_5.index t 0 = 5 ∧ win0_5.index t 1 = t.val ∧ win0_5.index t 2 = 0) ∧ (win0_6.index t 0 = 6 ∧ win0_6.index t 1 = t.val ∧ win0_6.index t 2 = 0) ∧ (win0_7.index t 0 = 7 ∧ win0_7.index t 1 = t.val ∧ win0_7.index t 2 = 0) ∧ (win0_8.index t 0 = t.val ∧ win0_8.index t 1 = 0) := by decide +kernel

/-- Row `a` of block `t`. -/
def row (t : Fin cfg0.N) (a : Fin 512) : Fin 4608 := ⟨t.val * 512 + a.val, by have : t.val < 9 := lt_of_lt_of_eq t.isLt (show cfg0.N = 9 from N_0); omega⟩

/-- Where an entry of device `k`'s block `t` lies. -/
theorem place (t : Fin cfg0.N) (a : Fin 512) (b : Fin 128) (k : Fin 8) (I : Fin 3 → Nat) (h : I 0 = k.val ∧ I 1 = t.val ∧ I 2 = 0) (d : Fin 3) :
    I d * S1x512x128.size d + 1 * ((ix3 0 a b : S1x512x128.Idx) d : Nat) = ((ix3 k (row t a) b : S8x4608x128.Idx) d : Nat) := by
  match d with
  | ⟨0, _⟩ => show I 0 * 1 + 1 * 0 = k.val; rw [h.1]; omega
  | ⟨1, _⟩ => show I 1 * 512 + 1 * a.val = t.val * 512 + a.val; rw [h.2.1]; omega
  | ⟨2, _⟩ => show I 2 * 128 + 1 * b.val = b.val; rw [h.2.2]; omega

/-- What device `k` holds at an entry. -/
abbrev slot (c : Dev nD) (t : Fin cfg0.N) (a : Fin 512) (b : Fin 128) (k : Fin 8) : EReal := m ((c : Thread nD τ).loc main_arg0) (ix3 k (row t a) b)

theorem reads (c : Dev nD) (t : Fin cfg0.N) (a : Fin 512) (b : Fin 128) : iblk m c 0 t (ix3 0 a b) = slot m c t a b 0 ∧ iblk m c 1 t (ix3 0 a b) = slot m c t a b 1 ∧ iblk m c 2 t (ix3 0 a b) = slot m c t a b 2 ∧ iblk m c 3 t (ix3 0 a b) = slot m c t a b 3 ∧ iblk m c 4 t (ix3 0 a b) = slot m c t a b 4 ∧ iblk m c 5 t (ix3 0 a b) = slot m c t a b 5 ∧ iblk m c 6 t (ix3 0 a b) = slot m c t a b 6 ∧ iblk m c 7 t (ix3 0 a b) = slot m c t a b 7 := by
  refine ⟨?_, ?_, ?_, ?_, ?_, ?_, ?_, ?_⟩
  all_goals
    unfold iblk
    rw [View.read_apply]
    show V m c main_arg0 _ = _
    rw [V_main_arg0]
    refine congrArg (m ((c : Thread nD τ).loc main_arg0)) (funext fun d => Fin.ext ?_)
  · exact place t a b 0 (win0_0.index t) (index t).1 d
  · exact place t a b 1 (win0_1.index t) (index t).2.1 d
  · exact place t a b 2 (win0_2.index t) (index t).2.2.1 d
  · exact place t a b 3 (win0_3.index t) (index t).2.2.2.1 d
  · exact place t a b 4 (win0_4.index t) (index t).2.2.2.2.1 d
  · exact place t a b 5 (win0_5.index t) (index t).2.2.2.2.2.1 d
  · exact place t a b 6 (win0_6.index t) (index t).2.2.2.2.2.2.1 d
  · exact place t a b 7 (win0_7.index t) (index t).2.2.2.2.2.2.2.1 d

/-- The sum over the devices. -/
def total (c : Dev nD) : S4608x128.Idx → EReal := fun j => ∑ k : Fin 8, m ((c : Thread nD τ).loc main_arg0) (ix3 k (j 0) (j 1))

theorem final (c : Dev nD) : (dats m 0 c).arrAt 8 cfg0.N = total m c := by
  refine (dats m 0 c).arrAt_eq_of_cover 8 _ (fun t _ => ?_) fun i => ?_
  · show (cfg0.win 8).cut (grid0.coords t) ((dats m 0 c).after 8 t) = _
    rw [after0_8]
    funext i
    rw [View.read_apply]
    obtain ⟨a, b, rfl⟩ : ∃ (a : Fin 512) (b : Fin 128), i = ix2 a b := ⟨i 0, i 1, by funext x; fin_cases x <;> rfl⟩
    have e : ((cfg0.win 8).blk t).view.emb (ix2 a b : S512x128.Idx) = (ix2 (row t a) b : S4608x128.Idx) := by
      refine funext fun d => Fin.ext ?_
      match d with
      | ⟨0, _⟩ => show win0_8.index t 0 * 512 + 1 * a.val = t.val * 512 + a.val; rw [(index t).2.2.2.2.2.2.2.2.1]; omega
      | ⟨1, _⟩ => show win0_8.index t 1 * 128 + 1 * b.val = b.val; rw [(index t).2.2.2.2.2.2.2.2.2]; omega
    refine (value _ _ _ _ _ _ _ _ a b).trans (Eq.trans ?_ (congrArg (total m c) e).symm)
    rw [(reads m c t a b).1, (reads m c t a b).2.1, (reads m c t a b).2.2.1, (reads m c t a b).2.2.2.1, (reads m c t a b).2.2.2.2.1, (reads m c t a b).2.2.2.2.2.1, (reads m c t a b).2.2.2.2.2.2.1, (reads m c t a b).2.2.2.2.2.2.2]
    exact (Fin.sum_univ_eight (slot m c t a b)).symm
  · have h0 : (i 0 : Nat) < 4608 := (i 0).isLt
    have h1 : (i 1 : Nat) < 128 := (i 1).isLt
    let t : Fin cfg0.N := ⟨(i 0 : Nat) / 512, by show _ < grid0.N; rw [Gen.N_0]; omega⟩
    have ht : t.val = (i 0 : Nat) / 512 := rfl
    refine ⟨t, flush0_8 t, ?_⟩
    show i ∈ ((View.whole main_v0).slice (win0_8.rect t)).set
    rw [View.set_slice_whole, Rect.mem_set_unit]
    intro d
    match d with
    | ⟨0, _⟩ => show win0_8.index t 0 * 512 ≤ (i 0 : Nat) ∧ (i 0 : Nat) < win0_8.index t 0 * 512 + 512; rw [(index t).2.2.2.2.2.2.2.2.1]; omega
    | ⟨1, _⟩ => show win0_8.index t 1 * 128 ≤ (i 1 : Nat) ∧ (i 1 : Nat) < win0_8.index t 1 * 128 + 128; rw [(index t).2.2.2.2.2.2.2.2.2]; omega

end Cert.SumGmIdeal.Meaning

end
-- ==== Proof.SumGmClaims.lean ====
module

public import proofs.«01_k».proof.Defs
public import proofs.«01_k».proof.Proof.Gen.SumGm.Frame
public import proofs.«01_k».proof.Proof.Gen.SumGmRefIdeal.Run
public import proofs.«01_k».proof.Proof.Gen.SumGmRefIdeal.Read
public import proofs.«01_k».proof.Proof.SumGmValue

@[expose] public section

set_option maxRecDepth 16384

noncomputable section

/-! The claims of the sum: the frames of the programs, and that both end with the sum over the devices. -/

namespace Cert.SumGmIdeal.Meaning

open SumGmIdeal SumGmIdeal.Gen Idealize.ShloMosaic TcCoe Idealize.SL.Sem

theorem frame_ref : quiescent_SumGmRefIdeal (hSumGmRefIdeal := SumGmRefIdeal.Gen.facts) :=
  fun m ρ _ => (θ_run SumGmRefIdeal.defs _ _).mono
    (fun r h => ⟨fun c => (h c).2, sem_eq_zero_of_no_sems (by decide) r.2⟩) (SumGmRefIdeal.Value.run m ρ)

theorem ref (x : FVec Ideal S8x4608x128 .f32) : SumGmRefIdeal.Read.val_main_v0 (F := Ideal) x = fun j => ∑ k : Fin 8, x (ix3 k (j 0) (j 1)) := by
  funext i
  obtain ⟨p, q, rfl⟩ : ∃ (p : Fin 4608) (q : Fin 128), i = ix2 p q := ⟨i 0, i 1, by funext x; fin_cases x <;> rfl⟩
  open SumGmRefIdeal.Read in
  pointwise [val_main_v0, val_main_cst]
  try simp only [zero_add]
  try rfl

theorem algebraic : algebraic_SumGmIdeal_SumGmRefIdeal (hSumGmIdeal := SumGmIdeal.Gen.facts) (hSumGmRefIdeal := SumGmRefIdeal.Gen.facts) := by
  intro m g m' g' _ hargs
  refine ⟨total m, ?_, ?_⟩
  · exact (θ_run SumGmIdeal.defs _ _).mono (fun r h c => ⟨(h c).1.trans (final m c), (h c).2⟩) (SumGmIdeal.Value.run_blocks m g)
  · refine (θ_run SumGmRefIdeal.defs _ _).mono (fun r h c => ?_) (SumGmRefIdeal.Value.run m' g')
    have a0 := hargs c
    obtain ⟨e0, k⟩ := h c
    refine ⟨e0.trans ?_, k⟩
    refine (SumGmRefIdeal.Read.val_main_v0_eq _).trans ?_
    rw [a0]
    exact ref _

end Cert.SumGmIdeal.Meaning

end
-- ==== Proof.SumRestValue.lean ====
module

public import proofs.«01_k».proof.Proof.Gen.SumRestIdeal.Value
public import proofs.«01_k».proof.Proof.Common

@[expose] public section

set_option maxRecDepth 16384

noncomputable section

/-! The sum over the eight devices of the packed gradients of the other small weights, 512 rows of 128, 512 rows at a time. -/

namespace Cert.SumRestIdeal.Meaning

open SumRestIdeal SumRestIdeal.Gen Idealize.ShloMosaic TcCoe Idealize.SL.Sem

/-- One entry of a block of the sum. -/
theorem value (x0 x1 x2 x3 x4 x5 x6 x7 : Vec Ideal S1x512x128 .f32) (a : Fin 512) (b : Fin 128) :
    out0_8 x0 x1 x2 x3 x4 x5 x6 x7 (ix2 a b) = x0 (ix3 0 a b) + x1 (ix3 0 a b) + x2 (ix3 0 a b) + x3 (ix3 0 a b) + x4 (ix3 0 a b) + x5 (ix3 0 a b) + x6 (ix3 0 a b) + x7 (ix3 0 a b) := by
  unfold out0_8
  rw [View.canon_unit_zero (S := S512x128) hz2]
  simp only [View.ld_unit_zero (S := S1x512x128) hz3]
  unfold_payloads
  pointwise

variable (m : (ℓ : Loc nD τ sig) → Buf (Elt Ideal) ℓ)

theorem index : ∀ t : Fin grid0.N, (win0_0.index t 0 = 0 ∧ win0_0.index t 1 = t.val ∧ win0_0.index t 2 = 0) ∧ (win0_1.index t 0 = 1 ∧ win0_1.index t 1 = t.val ∧ win0_1.index t 2 = 0) ∧ (win0_2.index t 0 = 2 ∧ win0_2.index t 1 = t.val ∧ win0_2.index t 2 = 0) ∧ (win0_3.index t 0 = 3 ∧ win0_3.index t 1 = t.val ∧ win0_3.index t 2 = 0) ∧ (win0_4.index t 0 = 4 ∧ win0_4.index t 1 = t.val ∧ win0_4.index t 2 = 0) ∧ (win0_5.index t 0 = 5 ∧ win0_5.index t 1 = t.val ∧ win0_5.index t 2 = 0) ∧ (win0_6.index t 0 = 6 ∧ win0_6.index t 1 = t.val ∧ win0_6.index t 2 = 0) ∧ (win0_7.index t 0 = 7 ∧ win0_7.index t 1 = t.val ∧ win0_7.index t 2 = 0) ∧ (win0_8.index t 0 = t.val ∧ win0_8.index t 1 = 0) := by decide +kernel

/-- Row `a` of block `t`. -/
def row (t : Fin cfg0.N) (a : Fin 512) : Fin 512 := ⟨t.val * 512 + a.val, by have : t.val < 1 := lt_of_lt_of_eq t.isLt (show cfg0.N = 1 from N_0); omega⟩

/-- Where an entry of device `k`'s block `t` lies. -/
theorem place (t : Fin cfg0.N) (a : Fin 512) (b : Fin 128) (k : Fin 8) (I : Fin 3 → Nat) (h : I 0 = k.val ∧ I 1 = t.val ∧ I 2 = 0) (d : Fin 3) :
    I d * S1x512x128.size d + 1 * ((ix3 0 a b : S1x512x128.Idx) d : Nat) = ((ix3 k (row t a) b : S8x512x128.Idx) d : Nat) := by
  match d with
  | ⟨0, _⟩ => show I 0 * 1 + 1 * 0 = k.val; rw [h.1]; omega
  | ⟨1, _⟩ => show I 1 * 512 + 1 * a.val = t.val * 512 + a.val; rw [h.2.1]; omega
  | ⟨2, _⟩ => show I 2 * 128 + 1 * b.val = b.val; rw [h.2.2]; omega

/-- What device `k` holds at an entry. -/
abbrev slot (c : Dev nD) (t : Fin cfg0.N) (a : Fin 512) (b : Fin 128) (k : Fin 8) : EReal := m ((c : Thread nD τ).loc main_arg0) (ix3 k (row t a) b)

theorem reads (c : Dev nD) (t : Fin cfg0.N) (a : Fin 512) (b : Fin 128) : iblk m c 0 t (ix3 0 a b) = slot m c t a b 0 ∧ iblk m c 1 t (ix3 0 a b) = slot m c t a b 1 ∧ iblk m c 2 t (ix3 0 a b) = slot m c t a b 2 ∧ iblk m c 3 t (ix3 0 a b) = slot m c t a b 3 ∧ iblk m c 4 t (ix3 0 a b) = slot m c t a b 4 ∧ iblk m c 5 t (ix3 0 a b) = slot m c t a b 5 ∧ iblk m c 6 t (ix3 0 a b) = slot m c t a b 6 ∧ iblk m c 7 t (ix3 0 a b) = slot m c t a b 7 := by
  refine ⟨?_, ?_, ?_, ?_, ?_, ?_, ?_, ?_⟩
  all_goals
    unfold iblk
    rw [View.read_apply]
    show V m c main_arg0 _ = _
    rw [V_main_arg0]
    refine congrArg (m ((c : Thread nD τ).loc main_arg0)) (funext fun d => Fin.ext ?_)
  · exact place t a b 0 (win0_0.index t) (index t).1 d
  · exact place t a b 1 (win0_1.index t) (index t).2.1 d
  · exact place t a b 2 (win0_2.index t) (index t).2.2.1 d
  · exact place t a b 3 (win0_3.index t) (index t).2.2.2.1 d
  · exact place t a b 4 (win0_4.index t) (index t).2.2.2.2.1 d
  · exact place t a b 5 (win0_5.index t) (index t).2.2.2.2.2.1 d
  · exact place t a b 6 (win0_6.index t) (index t).2.2.2.2.2.2.1 d
  · exact place t a b 7 (win0_7.index t) (index t).2.2.2.2.2.2.2.1 d

/-- The sum over the devices. -/
def total (c : Dev nD) : S512x128.Idx → EReal := fun j => ∑ k : Fin 8, m ((c : Thread nD τ).loc main_arg0) (ix3 k (j 0) (j 1))

theorem final (c : Dev nD) : (dats m 0 c).arrAt 8 cfg0.N = total m c := by
  refine (dats m 0 c).arrAt_eq_of_cover 8 _ (fun t _ => ?_) fun i => ?_
  · show (cfg0.win 8).cut (grid0.coords t) ((dats m 0 c).after 8 t) = _
    rw [after0_8]
    funext i
    rw [View.read_apply]
    obtain ⟨a, b, rfl⟩ : ∃ (a : Fin 512) (b : Fin 128), i = ix2 a b := ⟨i 0, i 1, by funext x; fin_cases x <;> rfl⟩
    have e : ((cfg0.win 8).blk t).view.emb (ix2 a b : S512x128.Idx) = (ix2 (row t a) b : S512x128.Idx) := by
      refine funext fun d => Fin.ext ?_
      match d with
      | ⟨0, _⟩ => show win0_8.index t 0 * 512 + 1 * a.val = t.val * 512 + a.val; rw [(index t).2.2.2.2.2.2.2.2.1]; omega
      | ⟨1, _⟩ => show win0_8.index t 1 * 128 + 1 * b.val = b.val; rw [(index t).2.2.2.2.2.2.2.2.2]; omega
    refine (value _ _ _ _ _ _ _ _ a b).trans (Eq.trans ?_ (congrArg (total m c) e).symm)
    rw [(reads m c t a b).1, (reads m c t a b).2.1, (reads m c t a b).2.2.1, (reads m c t a b).2.2.2.1, (reads m c t a b).2.2.2.2.1, (reads m c t a b).2.2.2.2.2.1, (reads m c t a b).2.2.2.2.2.2.1, (reads m c t a b).2.2.2.2.2.2.2]
    exact (Fin.sum_univ_eight (slot m c t a b)).symm
  · have h0 : (i 0 : Nat) < 512 := (i 0).isLt
    have h1 : (i 1 : Nat) < 128 := (i 1).isLt
    let t : Fin cfg0.N := ⟨(i 0 : Nat) / 512, by show _ < grid0.N; rw [Gen.N_0]; omega⟩
    have ht : t.val = (i 0 : Nat) / 512 := rfl
    refine ⟨t, flush0_8 t, ?_⟩
    show i ∈ ((View.whole main_v0).slice (win0_8.rect t)).set
    rw [View.set_slice_whole, Rect.mem_set_unit]
    intro d
    match d with
    | ⟨0, _⟩ => show win0_8.index t 0 * 512 ≤ (i 0 : Nat) ∧ (i 0 : Nat) < win0_8.index t 0 * 512 + 512; rw [(index t).2.2.2.2.2.2.2.2.1]; omega
    | ⟨1, _⟩ => show win0_8.index t 1 * 128 ≤ (i 1 : Nat) ∧ (i 1 : Nat) < win0_8.index t 1 * 128 + 128; rw [(index t).2.2.2.2.2.2.2.2.2]; omega

end Cert.SumRestIdeal.Meaning

end
-- ==== Proof.SumRestClaims.lean ====
module

public import proofs.«01_k».proof.Defs
public import proofs.«01_k».proof.Proof.Gen.SumRest.Frame
public import proofs.«01_k».proof.Proof.Gen.SumRestRefIdeal.Run
public import proofs.«01_k».proof.Proof.Gen.SumRestRefIdeal.Read
public import proofs.«01_k».proof.Proof.SumRestValue

@[expose] public section

set_option maxRecDepth 16384

noncomputable section

/-! The claims of the sum: the frames of the programs, and that both end with the sum over the devices. -/

namespace Cert.SumRestIdeal.Meaning

open SumRestIdeal SumRestIdeal.Gen Idealize.ShloMosaic TcCoe Idealize.SL.Sem

theorem frame_ref : quiescent_SumRestRefIdeal (hSumRestRefIdeal := SumRestRefIdeal.Gen.facts) :=
  fun m ρ _ => (θ_run SumRestRefIdeal.defs _ _).mono
    (fun r h => ⟨fun c => (h c).2, sem_eq_zero_of_no_sems (by decide) r.2⟩) (SumRestRefIdeal.Value.run m ρ)

theorem ref (x : FVec Ideal S8x512x128 .f32) : SumRestRefIdeal.Read.val_main_v0 (F := Ideal) x = fun j => ∑ k : Fin 8, x (ix3 k (j 0) (j 1)) := by
  funext i
  obtain ⟨p, q, rfl⟩ : ∃ (p : Fin 512) (q : Fin 128), i = ix2 p q := ⟨i 0, i 1, by funext x; fin_cases x <;> rfl⟩
  open SumRestRefIdeal.Read in
  pointwise [val_main_v0, val_main_cst]
  try simp only [zero_add]
  try rfl

theorem algebraic : algebraic_SumRestIdeal_SumRestRefIdeal (hSumRestIdeal := SumRestIdeal.Gen.facts) (hSumRestRefIdeal := SumRestRefIdeal.Gen.facts) := by
  intro m g m' g' _ hargs
  refine ⟨total m, ?_, ?_⟩
  · exact (θ_run SumRestIdeal.defs _ _).mono (fun r h c => ⟨(h c).1.trans (final m c), (h c).2⟩) (SumRestIdeal.Value.run_blocks m g)
  · refine (θ_run SumRestRefIdeal.defs _ _).mono (fun r h c => ?_) (SumRestRefIdeal.Value.run m' g')
    have a0 := hargs c
    obtain ⟨e0, k⟩ := h c
    refine ⟨e0.trans ?_, k⟩
    refine (SumRestRefIdeal.Read.val_main_v0_eq _).trans ?_
    rw [a0]
    exact ref _

end Cert.SumRestIdeal.Meaning

end
-- ==== Proof.LossHeadValue.lean ====
module

public import proofs.«01_k».proof.Proof.Gen.LossHeadIdeal.Value
public import proofs.«01_k».proof.Proof.Logistic
public import proofs.«01_k».proof.Proof.Common

@[expose] public section

set_option maxRecDepth 16384
set_option maxHeartbeats 1000000

noncomputable section

/-! The loss of one device's tokens and its gradient: rows in blocks of 256, the loss kept over the blocks. -/

namespace Cert.LossHeadIdeal.Meaning

open LossHeadIdeal LossHeadIdeal.Gen Idealize.ShloMosaic TcCoe Idealize.SL.Sem

/-- The literal 1/4096. -/
theorem share_lit : Ideal.ofBits .f32 0x39800000#32 = ((1 / 4096 : ℝ) : EReal) := by
  simp [Ideal.ofBits, Ideal.ieee, -EReal.coe_mul]
  norm_num

/-- The literal 1/2048. -/
theorem entry_lit : Ideal.ofBits .f32 0x3A000000#32 = ((1 / 2048 : ℝ) : EReal) := by
  simp [Ideal.ofBits, Ideal.ieee, -EReal.coe_mul]
  norm_num

/-- The literal 2048. -/
theorem width_lit : Ideal.ofBits .f32 0x45000000#32 = ((2048 : ℝ) : EReal) := by
  simp [Ideal.ofBits, Ideal.ieee, -EReal.coe_mul]
  norm_num

/-- The literal two. -/
theorem two_lit : Ideal.ofBits .f32 0x40000000#32 = ((2 : ℝ) : EReal) := by
  simp [Ideal.ofBits, Ideal.ieee, -EReal.coe_mul]
  norm_num

/-- A real factor that isn't negative goes into a sum. -/
theorem scale_sum {ι : Type} (s : Finset ι) (f : ι → EReal) (c : ℝ) (hc : 0 ≤ c) : (c : EReal) * ∑ i ∈ s, f i = ∑ i ∈ s, (c : EReal) * f i := by
  classical
  induction s using Finset.induction_on with
  | empty => simp
  | insert a s h ih => rw [Finset.sum_insert h, Finset.sum_insert h, EReal.left_distrib_of_nonneg_of_ne_top (by exact_mod_cast hc) (EReal.coe_ne_top c), ih]

/-- The sum of the squared errors of a row. -/
def err (x y : Fin 2048 → EReal) : EReal := ∑ k, (x k - y k) * (x k - y k)

section Points

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x1 .f32) (harg3 : arg3.IsWhole) (arg4 : Memref sig .tc .vmem S256x2048 .f32) (harg4 : arg4.IsWhole)

theorem value_A_2 (hc0 : cond0_0 i) (x0 x1 : Vec Ideal S256x2048 .f32) : out0_A_2 (F := Ideal) c i arg1 harg1 arg2 harg2 arg3 harg3 arg4 harg4 hc0 x0 x1 (ix2 0 0) = (∑ a : Fin 256, err (fun k => x0 (ix2 a k)) (fun k => x1 (ix2 a k))) * Ideal.ofBits .f32 0x39800000#32 := by
  unfold out0_A_2
  rw [View.read_writes_eq_canon _ _ _ (cover0_A_2 _ _ _ _ _ _ _ _ _ _ _ _ _)]
  unfold kernelRun0_A
  dsimp only
  sl_unfold_words
  try rw [View.canon_cons_unit_zero (S := S1x1) hz2]
  try rw [View.canon_unit_zero (S := S1x1) hz2]
  simp only [View.readCov_unit_zero (S := S1x1) _ hz2, View.readAt_eq_ld, harg1.read_unread, harg2.read_unread, harg3.read_unread, View.ld_unit_zero (S := S1x1) hz2, View.ld_unit_zero (S := S256x2048) hz2]
  unfold_payloads
  pointwise
  try simp only [zero_add]
  try rfl

theorem value_B_2 (hc0 : ¬cond0_0 i) (x0 x1 : Vec Ideal S256x2048 .f32) (xo : Vec Ideal S1x1 .f32) : out0_B_2 (F := Ideal) c i arg1 harg1 arg2 harg2 arg3 harg3 arg4 harg4 hc0 x0 x1 xo (ix2 0 0) = xo (ix2 0 0) + (∑ a : Fin 256, err (fun k => x0 (ix2 a k)) (fun k => x1 (ix2 a k))) * Ideal.ofBits .f32 0x39800000#32 := by
  unfold out0_B_2
  rw [View.read_writes_eq_canon _ _ _ (cover0_B_2 _ _ _ _ _ _ _ _ _ _ _ _ _ _)]
  unfold kernelRun0_B
  dsimp only
  sl_unfold_words
  try rw [View.canon_cons_unit_zero (S := S1x1) hz2]
  try rw [View.canon_unit_zero (S := S1x1) hz2]
  simp only [View.readCov_unit_zero (S := S1x1) _ hz2, View.readAt_eq_ld, harg1.read_unread, harg2.read_unread, harg3.read_unread, View.ld_unit_zero (S := S1x1) hz2, View.ld_unit_zero (S := S256x2048) hz2]
  unfold_payloads
  pointwise
  try simp only [zero_add]
  try rfl

theorem value_A_3 (hc0 : cond0_0 i) (x0 x1 : Vec Ideal S256x2048 .f32) (a : Fin 256) (b : Fin 2048) : out0_A_3 (F := Ideal) c i arg1 harg1 arg2 harg2 arg3 harg3 arg4 harg4 hc0 x0 x1 (ix2 a b) = (x0 (ix2 a b) - x1 (ix2 a b)) * Ideal.ofBits .f32 0x3A000000#32 := by
  unfold out0_A_3
  rw [View.read_writes_eq_canon _ _ _ (cover0_A_3 _ _ _ _ _ _ _ _ _ _ _ _ _)]
  unfold kernelRun0_A
  dsimp only
  sl_unfold_words
  try rw [View.canon_cons_unit_zero (S := S256x2048) hz2]
  try rw [View.canon_unit_zero (S := S256x2048) hz2]
  simp only [View.readCov_unit_zero (S := S1x1) _ hz2, View.readAt_eq_ld, harg1.read_unread, harg2.read_unread, harg3.read_unread, View.ld_unit_zero (S := S1x1) hz2, View.ld_unit_zero (S := S256x2048) hz2]
  unfold_payloads
  pointwise

theorem value_B_3 (hc0 : ¬cond0_0 i) (x0 x1 : Vec Ideal S256x2048 .f32) (xo : Vec Ideal S1x1 .f32) (a : Fin 256) (b : Fin 2048) : out0_B_3 (F := Ideal) c i arg1 harg1 arg2 harg2 arg3 harg3 arg4 harg4 hc0 x0 x1 xo (ix2 a b) = (x0 (ix2 a b) - x1 (ix2 a b)) * Ideal.ofBits .f32 0x3A000000#32 := by
  unfold out0_B_3
  rw [View.read_writes_eq_canon _ _ _ (cover0_B_3 _ _ _ _ _ _ _ _ _ _ _ _ _ _)]
  unfold kernelRun0_B
  dsimp only
  sl_unfold_words
  try rw [View.canon_cons_unit_zero (S := S256x2048) hz2]
  try rw [View.canon_unit_zero (S := S256x2048) hz2]
  simp only [View.readCov_unit_zero (S := S1x1) _ hz2, View.readAt_eq_ld, harg1.read_unread, harg2.read_unread, harg3.read_unread, View.ld_unit_zero (S := S1x1) hz2, View.ld_unit_zero (S := S256x2048) hz2]
  unfold_payloads
  pointwise

end Points

variable (m : (ℓ : Loc nD τ sig) → Buf (Elt Ideal) ℓ)

theorem lt_N (t : Fin cfg0.N) : t.val < 16 := lt_of_lt_of_eq t.isLt (show cfg0.N = 16 from N_0)

/-- Row `a` of block `t`. -/
def row (t : Fin cfg0.N) (a : Fin 256) : Fin 4096 := ⟨t.val * 256 + a.val, by have := lt_N t; omega⟩

abbrev A0 (c : Dev nD) (p : Fin 4096) : Fin 2048 → EReal := fun k => m ((c : Thread nD τ).loc main_arg0) (ix2 p k)
abbrev A1 (c : Dev nD) (p : Fin 4096) : Fin 2048 → EReal := fun k => m ((c : Thread nD τ).loc main_arg1) (ix2 p k)

theorem index : ∀ t : Fin grid0.N, (win0_0.index t 0 = t.val ∧ win0_0.index t 1 = 0) ∧ (win0_1.index t 0 = t.val ∧ win0_1.index t 1 = 0) ∧ (win0_3.index t 0 = t.val ∧ win0_3.index t 1 = 0) ∧ (win0_2.index t 0 = 0 ∧ win0_2.index t 1 = 0) := by decide +kernel

theorem read0 (c : Dev nD) (t : Fin cfg0.N) (a : Fin 256) : (fun k : Fin 2048 => iblk m c 0 t (ix2 a k)) = A0 m c (row t a) := by
  funext k
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 256 + 1 * a.val = t.val * 256 + a.val; rw [(index t).1.1]; omega
  | ⟨1, _⟩ => show win0_0.index t 1 * 2048 + 1 * k.val = k.val; rw [(index t).1.2]; omega

theorem read1 (c : Dev nD) (t : Fin cfg0.N) (a : Fin 256) : (fun k : Fin 2048 => iblk m c 1 t (ix2 a k)) = A1 m c (row t a) := by
  funext k
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t 0 * 256 + 1 * a.val = t.val * 256 + a.val; rw [(index t).2.1.1]; omega
  | ⟨1, _⟩ => show win0_1.index t 1 * 2048 + 1 * k.val = k.val; rw [(index t).2.1.2]; omega

/-- The gradient of the loss. -/
def res3 (c : Dev nD) : S4096x2048.Idx → EReal := fun i => (A0 m c (i 0) (i 1) - A1 m c (i 0) (i 1)) * Ideal.ofBits .f32 0x3A000000#32

theorem tile3 (c : Dev nD) (t : Fin cfg0.N) (a : Fin 256) (b : Fin 2048) : (outsAt0 m c t.val t.isLt).2 (ix2 a b) = res3 m c (ix2 (row t a) b) := by
  have r0 := congrFun (read0 m c t a) b
  have r1 := congrFun (read1 m c t a) b
  by_cases h : t.val % 16 = 0
  · rw [outsAt0_A m c t h]
    dsimp only
    refine (value_A_3 _ _ _ _ _ _ _ _ _ _ _ _ _ a b).trans ?_
    rw [r0, r1]
    rfl
  · rw [outsAt0_B m c t h]
    dsimp only
    refine (value_B_3 _ _ _ _ _ _ _ _ _ _ _ _ _ _ a b).trans ?_
    rw [r0, r1]
    rfl

theorem final3 (c : Dev nD) : (dats m 0 c).arrAt 3 cfg0.N = res3 m c := by
  refine (dats m 0 c).arrAt_eq_of_cover 3 _ (fun t _ => ?_) fun i => ?_
  · show (cfg0.win 3).cut (grid0.coords t) ((dats m 0 c).after 3 t) = _
    rw [after0_3]
    funext i
    rw [View.read_apply]
    obtain ⟨a, b, rfl⟩ : ∃ (a : Fin 256) (b : Fin 2048), i = ix2 a b := ⟨i 0, i 1, by funext x; fin_cases x <;> rfl⟩
    refine (tile3 m c t a b).trans (congrArg (res3 m c) (funext fun d => Fin.ext ?_))
    match d with
    | ⟨0, _⟩ => show t.val * 256 + a.val = win0_3.index t 0 * 256 + 1 * a.val; rw [(index t).2.2.1.1]; omega
    | ⟨1, _⟩ => show b.val = win0_3.index t 1 * 2048 + 1 * b.val; rw [(index t).2.2.1.2]; omega
  · have h0 : (i 0 : Nat) < 4096 := (i 0).isLt
    have h1 : (i 1 : Nat) < 2048 := (i 1).isLt
    let t : Fin cfg0.N := ⟨(i 0 : Nat) / 256, by show _ < grid0.N; rw [Gen.N_0]; omega⟩
    have ht : t.val = (i 0 : Nat) / 256 := rfl
    refine ⟨t, flush0_3 t, ?_⟩
    show i ∈ ((View.whole main_v0_1).slice (win0_3.rect t)).set
    rw [View.set_slice_whole, Rect.mem_set_unit]
    intro d
    match d with
    | ⟨0, _⟩ => show win0_3.index t 0 * 256 ≤ (i 0 : Nat) ∧ (i 0 : Nat) < win0_3.index t 0 * 256 + 256; rw [(index t).2.2.1.1]; omega
    | ⟨1, _⟩ => show win0_3.index t 1 * 2048 ≤ (i 1 : Nat) ∧ (i 1 : Nat) < win0_3.index t 1 * 2048 + 2048; rw [(index t).2.2.1.2]; omega

/-- The loss: the rows' squared errors, each over 4096. -/
def loss (c : Dev nD) : EReal := ∑ p : Fin 4096, ((1 / 4096 : ℝ) : EReal) * err (A0 m c p) (A1 m c p)

def res2 (c : Dev nD) : S1x1.Idx → EReal := fun _ => loss m c

/-- The part of block `n`. -/
def part (c : Dev nD) (n : Nat) : EReal := ∑ a : Fin 256, (fun p => ((1 / 4096 : ℝ) : EReal) * err (A0 m c p) (A1 m c p)) ⟨(n * 256 + a.val) % 4096, Nat.mod_lt _ (by norm_num)⟩

theorem part_at (c : Dev nD) (t : Fin cfg0.N) : (∑ a : Fin 256, err (fun k => iblk m c 0 t (ix2 a k)) (fun k => iblk m c 1 t (ix2 a k))) * Ideal.ofBits .f32 0x39800000#32 = part m c t.val := by
  have hN := lt_N t
  rw [share_lit, mul_comm, scale_sum _ _ _ (by norm_num)]
  unfold part
  refine Finset.sum_congr rfl fun a _ => ?_
  rw [read0 m c t a, read1 m c t a, show (⟨(t.val * 256 + a.val) % 4096, Nat.mod_lt _ (by norm_num)⟩ : Fin 4096) = row t a from Fin.ext (Nat.mod_eq_of_lt (by omega))]

theorem acc (c : Dev nD) : ∀ (n : Nat) (h : n < cfg0.N), (outsAt0 m c n h).1 (ix2 0 0) = ∑ i ∈ Finset.range (n + 1), part m c i := by
  intro n
  induction n with
  | zero =>
    intro h
    refine (congrFun (congrArg (fun x => x.1) (outsAt0_A m c ⟨0, h⟩ rfl)) (ix2 0 0)).trans ?_
    dsimp only
    refine (value_A_2 _ _ _ _ _ _ _ _ _ _ _ _ _).trans ?_
    exact (part_at m c ⟨0, h⟩).trans (by simp)
  | succ n ih =>
    intro h
    have hn : n + 1 < 16 := lt_N ⟨n + 1, h⟩
    have hb : ¬ (n + 1) % 16 = 0 := by omega
    refine (congrFun (congrArg (fun x => x.1) (outsAt0_B m c ⟨n + 1, h⟩ hb)) (ix2 0 0)).trans ?_
    dsimp only
    refine (value_B_2 _ _ _ _ _ _ _ _ _ _ _ _ _ _).trans ?_
    rw [Finset.sum_range_succ]
    exact congrArg₂ (· + ·) (ih _) (part_at m c ⟨n + 1, h⟩)

theorem corner (i : S1x1.Idx) : i = ix2 0 0 := funext fun x => by fin_cases x <;> exact Subsingleton.elim (α := Fin 1) _ _

theorem final2 (c : Dev nD) : (dats m 0 c).arrAt 2 cfg0.N = res2 m c := by
  refine (dats m 0 c).arrAt_eq_of_cover 2 _ (fun t hf => ?_) fun i => ?_
  · have hN := lt_N t
    have ht := (flush0_2 t).mp hf
    show (cfg0.win 2).cut (grid0.coords t) ((dats m 0 c).after 2 t) = _
    rw [after0_2]
    funext i
    rw [View.read_apply]
    obtain rfl := corner i
    refine (acc m c t.val t.isLt).trans ?_
    rw [show t.val + 1 = 16 by omega, Finset.sum_range]
    show _ = loss m c
    unfold loss
    rw [Fin.sum_univ_tiles 16 256 rfl]
    refine Finset.sum_congr rfl fun i _ => Finset.sum_congr rfl fun a _ => ?_
    have hi := i.isLt
    rw [show (⟨(i.val * 256 + a.val) % 4096, Nat.mod_lt _ (by norm_num)⟩ : Fin 4096) = ⟨i.val * 256 + a.val, by omega⟩ from Fin.ext (Nat.mod_eq_of_lt (by omega))]
  · have h0 : (i 0 : Nat) < 1 := (i 0).isLt
    have h1 : (i 1 : Nat) < 1 := (i 1).isLt
    let t : Fin cfg0.N := ⟨15, by show _ < grid0.N; rw [Gen.N_0]; omega⟩
    have ht : t.val = 15 := rfl
    refine ⟨t, (flush0_2 t).mpr (by omega), ?_⟩
    show i ∈ ((View.whole main_v0_0).slice (win0_2.rect t)).set
    rw [View.set_slice_whole, Rect.mem_set_unit]
    intro d
    match d with
    | ⟨0, _⟩ => show win0_2.index t 0 * 1 ≤ (i 0 : Nat) ∧ (i 0 : Nat) < win0_2.index t 0 * 1 + 1; rw [(index t).2.2.2.1]; omega
    | ⟨1, _⟩ => show win0_2.index t 1 * 1 ≤ (i 1 : Nat) ∧ (i 1 : Nat) < win0_2.index t 1 * 1 + 1; rw [(index t).2.2.2.2]; omega

end Cert.LossHeadIdeal.Meaning

end
-- ==== Proof.LossHeadClaims.lean ====
module

public import proofs.«01_k».proof.Defs
public import proofs.«01_k».proof.Proof.Gen.LossHead.Frame
public import proofs.«01_k».proof.Proof.Gen.LossHeadRefIdeal.Run
public import proofs.«01_k».proof.Proof.Gen.LossHeadRefIdeal.Read
public import proofs.«01_k».proof.Proof.LossHeadValue

@[expose] public section

set_option maxRecDepth 16384

noncomputable section

/-! The claims of the loss: the frames of the programs, and that both end with the same loss and gradient. -/

namespace Cert.LossHeadIdeal.Meaning

open LossHeadIdeal LossHeadIdeal.Gen Idealize.ShloMosaic TcCoe Idealize.SL.Sem

theorem frame_ref : quiescent_LossHeadRefIdeal (hLossHeadRefIdeal := LossHeadRefIdeal.Gen.facts) :=
  fun m ρ _ => (θ_run LossHeadRefIdeal.defs _ _).mono
    (fun r h => ⟨fun c => (h c).2.2, sem_eq_zero_of_no_sems (by decide) r.2⟩) (LossHeadRefIdeal.Value.run m ρ)

variable (x0 x1 : FVec Ideal S4096x2048 .f32)

open LossHeadRefIdeal.Read in
theorem ref2 : val_main_v9 (F := Ideal) x0 x1 (ix2 0 0) = ∑ p : Fin 4096, ((1 / 4096 : ℝ) : EReal) * err (fun k => x0 (ix2 p k)) (fun k => x1 (ix2 p k)) := by
  pointwise [val_main_v9, val_main_v8, val_main_cst_3, val_main_v7, val_main_cst_2, val_main_v6, val_main_v5, val_main_cst_1, val_main_v4, val_main_cst_0, val_main_v1, val_main_v0]
  simp only [zero_add, Logistic.half_lit, width_lit]
  rw [scale_sum _ _ _ (by norm_num)]
  refine Finset.sum_congr rfl fun p _ => ?_
  rw [Ideal.div_coe (by norm_num), mul_comm (Finset.sum _ _), ← mul_assoc, ← EReal.coe_mul]
  exact congrArg₂ (· * ·) (congrArg _ (by norm_num)) rfl

open LossHeadRefIdeal.Read in
theorem ref3 (p : Fin 4096) (q : Fin 2048) : val_main_v15 (F := Ideal) x0 x1 (ix2 p q) = (x0 (ix2 p q) - x1 (ix2 p q)) * Ideal.ofBits .f32 0x3A000000#32 := by
  pointwise [val_main_v15, val_main_v14, val_main_v13, val_main_v12, val_main_cst_6, val_main_v11, val_main_v10, val_main_cst_5, val_main_cst_4, val_main_v3, val_main_v2, val_main_cst, val_main_v0]
  simp only [Logistic.half_lit, Logistic.one_lit, mul_one, width_lit, two_lit, entry_lit]
  rw [Ideal.div_coe (by norm_num), ← mul_assoc, ← EReal.coe_mul, ← EReal.coe_mul, mul_comm]
  exact congrArg₂ (· * ·) rfl (congrArg _ (by norm_num))

theorem algebraic : algebraic_LossHeadIdeal_LossHeadRefIdeal (hLossHeadIdeal := LossHeadIdeal.Gen.facts) (hLossHeadRefIdeal := LossHeadRefIdeal.Gen.facts) := by
  intro m g m' g' _ hargs
  refine ⟨res2 m, res3 m, ?_, ?_⟩
  · exact (θ_run LossHeadIdeal.defs _ _).mono (fun r h c => ⟨(h c).1.trans (final2 m c), (h c).2.1.trans (final3 m c), (h c).2.2⟩) (LossHeadIdeal.Value.run_blocks m g)
  · refine (θ_run LossHeadRefIdeal.defs _ _).mono (fun r h c => ?_) (LossHeadRefIdeal.Value.run m' g')
    obtain ⟨a0, a1⟩ := hargs c
    obtain ⟨e0, e1, k⟩ := h c
    refine ⟨e0.trans ?_, e1.trans ?_, k⟩
    · refine (LossHeadRefIdeal.Read.val_main_v9_eq _ _).trans ?_
      rw [a0, a1]
      funext i
      obtain rfl := corner i
      exact ref2 _ _
    · refine (LossHeadRefIdeal.Read.val_main_v15_eq _ _).trans ?_
      rw [a0, a1]
      funext i
      obtain ⟨p, q, rfl⟩ : ∃ (p : Fin 4096) (q : Fin 2048), i = ix2 p q := ⟨i 0, i 1, by funext x; fin_cases x <;> rfl⟩
      exact ref3 _ _ p q

end Cert.LossHeadIdeal.Meaning

end
-- ==== Proof.SpatialBody.lean ====
module

public import proofs.«01_k».proof.Proof.Gen.SpatialBwdIdeal.Value

@[expose] public section

set_option maxRecDepth 16384

noncomputable section

namespace Cert.SpatialBwdIdeal.Body

open Cert.SpatialBwdIdeal Cert.SpatialBwdIdeal.Gen Idealize.ShloMosaic TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of the gradient of `u`: the upstream gradient times the mixed values. -/
def DU (x1 : FVec F S512x128 .bf16) (x2 : FVec F S1x128x128 .f32) (x3 : FVec F S1x128x1 .f32) (x4 : FVec F S512x128 .f32) : FVec F S512x128 .f32 :=
  k0_pay32 (k0_pay9 x1 x2 x3) (k0_pay20 x4) (k0_pay29 x4 (k0_pay12 x1 x2 x3) (k0_pay15 x1 x2 x3) (k0_pay18 x1 x2 x3) (k0_pay21 x4) (k0_pay22 x4))

/-- The block of the gradient of the gate's values. -/
def DV (x0 : FVec F S512x128 .f32) (x2 : FVec F S1x128x128 .f32) (x4 : FVec F S512x128 .f32) : FVec F S512x128 .f32 :=
  k0_pay34 (k0_pay7 x2) (k0_pay10 x0) (k0_pay20 x4) (k0_pay27 x4 (k0_pay7 x2) (k0_pay16 x0) (k0_pay19 x0) (k0_pay22 x4)) (k0_pay28 (k0_pay13 x0) (k0_pay21 x4)) (constant S128x128 FTy.f32 0#32)

/-- One block's step of the accumulated gradient of the mixing matrix. -/
def DW (x0 : FVec F S512x128 .f32) (x1 : FVec F S512x128 .bf16) (x4 : FVec F S512x128 .f32) (acc : FVec F S128x128 .f32) : FVec F S1x128x128 .f32 :=
  k0_pay1 (k0_pay35 k0_pay6 (k0_pay8 x1) (k0_pay10 x0) (k0_pay11 x1) (k0_pay20 x4) (k0_pay26 x4 (k0_pay14 x1) (k0_pay16 x0) (k0_pay17 x1) (k0_pay19 x0) (k0_pay22 x4)) (k0_pay28 (k0_pay13 x0) (k0_pay21 x4))) acc

/-- One block's step of the accumulated gradient of the bias. -/
def DB (x0 x4 : FVec F S512x128 .f32) (acc : FVec F S1x128x1 .f32) : FVec F S1x128x1 .f32 :=
  k0_pay3 (k0_pay33 (k0_pay10 x0) (k0_pay20 x4) (k0_pay30 x4 (k0_pay13 x0) (k0_pay16 x0) (k0_pay19 x0) (k0_pay21 x4) (k0_pay22 x4))) acc

section Points

variable (c : Dev nD) (i : grid0.Coords) (arg2 : Memref sig .tc .vmem S512x128 .f32) (harg2 : arg2.IsWhole) (arg3 : Memref sig .tc .vmem S512x128 .bf16) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128x128 .f32) (harg9 : arg9.IsWhole) (arg10 : Memref sig .tc .vmem S1x128x1 .f32) (harg10 : arg10.IsWhole)

theorem out_A_5 (hc0 : cond0_0 i) (hc1 : cond0_1 i)
    (x0 : Vec F S512x128 .f32) (x1 : Vec F S512x128 .bf16) (x2 : Vec F S1x128x128 .f32) (x3 : Vec F S1x128x1 .f32) (x4 : Vec F S512x128 .f32) : out0_A_5 c i arg2 harg2 arg3 harg3 arg4 harg4 arg5 harg5 arg6 harg6 arg7 harg7 arg8 harg8 arg9 harg9 arg10 harg10 hc0 hc1 x0 x1 x2 x3 x4 = DU x1 x2 x3 x4 := by
  unfold out0_A_5
  rw [View.read_writes_eq_canon _ _ _ (cover0_A_5 _ _ _ _ _ _ _ _ _ _ _ _ _ _ _ _ _ _ _ _ _ _ _ _ _ _ _)]
  unfold kernelRun0_A
  dsimp only
  sl_unfold_words
  try rw [View.canon_cons_unit_zero (S := S512x128) hz2]
  try rw [View.canon_unit_zero (S := S512x128) hz2]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_A_6 (hc0 : cond0_0 i) (hc1 : cond0_1 i)
    (x0 : Vec F S512x128 .f32) (x1 : Vec F S512x128 .bf16) (x2 : Vec F S1x128x128 .f32) (x3 : Vec F S1x128x1 .f32) (x4 : Vec F S512x128 .f32) : out0_A_6 c i arg2 harg2 arg3 harg3 arg4 harg4 arg5 harg5 arg6 harg6 arg7 harg7 arg8 harg8 arg9 harg9 arg10 harg10 hc0 hc1 x0 x1 x2 x3 x4 = DV x0 x2 x4 := by
  unfold out0_A_6
  rw [View.read_writes_eq_canon _ _ _ (cover0_A_6 _ _ _ _ _ _ _ _ _ _ _ _ _ _ _ _ _ _ _ _ _ _ _ _ _ _ _)]
  unfold kernelRun0_A
  dsimp only
  sl_unfold_words
  try rw [View.canon_cons_unit_zero (S := S512x128) hz2]
  try rw [View.canon_unit_zero (S := S512x128) hz2]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_A_7 (hc0 : cond0_0 i) (hc1 : cond0_1 i)
    (x0 : Vec F S512x128 .f32) (x1 : Vec F S512x128 .bf16) (x2 : Vec F S1x128x128 .f32) (x3 : Vec F S1x128x1 .f32) (x4 : Vec F S512x128 .f32) : out0_A_7 c i arg2 harg2 arg3 harg3 arg4 harg4 arg5 harg5 arg6 harg6 arg7 harg7 arg8 harg8 arg9 harg9 arg10 harg10 hc0 hc1 x0 x1 x2 x3 x4 = DW x0 x1 x4 (k0_pay37 k0_pay36) := by
  unfold out0_A_7
  rw [View.read_writes_eq_canon _ _ _ (cover0_A_7 _ _ _ _ _ _ _ _ _ _ _ _ _ _ _ _ _ _ _ _ _ _ _ _ _ _ _)]
  unfold kernelRun0_A
  dsimp only
  sl_unfold_words
  try rw [View.canon_cons_unit_zero (S := S1x128x128) hz3]
  try rw [View.canon_unit_zero (S := S1x128x128) hz3]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_A_8 (hc0 : cond0_0 i) (hc1 : cond0_1 i)
    (x0 : Vec F S512x128 .f32) (x1 : Vec F S512x128 .bf16) (x2 : Vec F S1x128x128 .f32) (x3 : Vec F S1x128x1 .f32) (x4 : Vec F S512x128 .f32) : out0_A_8 c i arg2 harg2 arg3 harg3 arg4 harg4 arg5 harg5 arg6 harg6 arg7 harg7 arg8 harg8 arg9 harg9 arg10 harg10 hc0 hc1 x0 x1 x2 x3 x4 = DB x0 x4 k0_pay2 := by
  unfold out0_A_8
  rw [View.read_writes_eq_canon _ _ _ (cover0_A_8 _ _ _ _ _ _ _ _ _ _ _ _ _ _ _ _ _ _ _ _ _ _ _ _ _ _ _)]
  unfold kernelRun0_A
  dsimp only
  sl_unfold_words
  try rw [View.canon_cons_unit_zero (S := S1x128x1) hz3]
  try rw [View.canon_unit_zero (S := S1x128x1) hz3]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_B_5 (hc0 : ¬cond0_0 i) (hc1 : ¬cond0_1 i)
    (x0 : Vec F S512x128 .f32) (x1 : Vec F S512x128 .bf16) (x2 : Vec F S1x128x128 .f32) (x3 : Vec F S1x128x1 .f32) (x4 : Vec F S512x128 .f32) (xo7 : Vec F S1x128x128 .f32) (xo8 : Vec F S1x128x1 .f32) : out0_B_5 c i arg2 harg2 arg3 harg3 arg4 harg4 arg5 harg5 arg6 harg6 arg7 harg7 arg8 harg8 arg9 harg9 arg10 harg10 hc0 hc1 x0 x1 x2 x3 x4 xo7 xo8 = DU x1 x2 x3 x4 := by
  unfold out0_B_5
  rw [View.read_writes_eq_canon _ _ _ (cover0_B_5 _ _ _ _ _ _ _ _ _ _ _ _ _ _ _ _ _ _ _ _ _ _ _ _ _ _ _ _ _)]
  unfold kernelRun0_B
  dsimp only
  sl_unfold_words
  try rw [View.canon_cons_unit_zero (S := S512x128) hz2]
  try rw [View.canon_unit_zero (S := S512x128) hz2]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_B_6 (hc0 : ¬cond0_0 i) (hc1 : ¬cond0_1 i)
    (x0 : Vec F S512x128 .f32) (x1 : Vec F S512x128 .bf16) (x2 : Vec F S1x128x128 .f32) (x3 : Vec F S1x128x1 .f32) (x4 : Vec F S512x128 .f32) (xo7 : Vec F S1x128x128 .f32) (xo8 : Vec F S1x128x1 .f32) : out0_B_6 c i arg2 harg2 arg3 harg3 arg4 harg4 arg5 harg5 arg6 harg6 arg7 harg7 arg8 harg8 arg9 harg9 arg10 harg10 hc0 hc1 x0 x1 x2 x3 x4 xo7 xo8 = DV x0 x2 x4 := by
  unfold out0_B_6
  rw [View.read_writes_eq_canon _ _ _ (cover0_B_6 _ _ _ _ _ _ _ _ _ _ _ _ _ _ _ _ _ _ _ _ _ _ _ _ _ _ _ _ _)]
  unfold kernelRun0_B
  dsimp only
  sl_unfold_words
  try rw [View.canon_cons_unit_zero (S := S512x128) hz2]
  try rw [View.canon_unit_zero (S := S512x128) hz2]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_B_7 (hc0 : ¬cond0_0 i) (hc1 : ¬cond0_1 i)
    (x0 : Vec F S512x128 .f32) (x1 : Vec F S512x128 .bf16) (x2 : Vec F S1x128x128 .f32) (x3 : Vec F S1x128x1 .f32) (x4 : Vec F S512x128 .f32) (xo7 : Vec F S1x128x128 .f32) (xo8 : Vec F S1x128x1 .f32) : out0_B_7 c i arg2 harg2 arg3 harg3 arg4 harg4 arg5 harg5 arg6 harg6 arg7 harg7 arg8 harg8 arg9 harg9 arg10 harg10 hc0 hc1 x0 x1 x2 x3 x4 xo7 xo8 = DW x0 x1 x4 (k0_pay37 xo7) := by
  unfold out0_B_7
  rw [View.read_writes_eq_canon _ _ _ (cover0_B_7 _ _ _ _ _ _ _ _ _ _ _ _ _ _ _ _ _ _ _ _ _ _ _ _ _ _ _ _ _)]
  unfold kernelRun0_B
  dsimp only
  sl_unfold_words
  try rw [View.canon_cons_unit_zero (S := S1x128x128) hz3]
  try rw [View.canon_unit_zero (S := S1x128x128) hz3]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

theorem out_B_8 (hc0 : ¬cond0_0 i) (hc1 : ¬cond0_1 i)
    (x0 : Vec F S512x128 .f32) (x1 : Vec F S512x128 .bf16) (x2 : Vec F S1x128x128 .f32) (x3 : Vec F S1x128x1 .f32) (x4 : Vec F S512x128 .f32) (xo7 : Vec F S1x128x128 .f32) (xo8 : Vec F S1x128x1 .f32) : out0_B_8 c i arg2 harg2 arg3 harg3 arg4 harg4 arg5 harg5 arg6 harg6 arg7 harg7 arg8 harg8 arg9 harg9 arg10 harg10 hc0 hc1 x0 x1 x2 x3 x4 xo7 xo8 = DB x0 x4 xo8 := by
  unfold out0_B_8
  rw [View.read_writes_eq_canon _ _ _ (cover0_B_8 _ _ _ _ _ _ _ _ _ _ _ _ _ _ _ _ _ _ _ _ _ _ _ _ _ _ _ _ _)]
  unfold kernelRun0_B
  dsimp only
  sl_unfold_words
  try rw [View.canon_cons_unit_zero (S := S1x128x1) hz3]
  try rw [View.canon_unit_zero (S := S1x128x1) hz3]
  simp only [View.readCov_unit_zero (S := S1x128x128) _ hz3, View.readCov_unit_zero (S := S1x128x1) _ hz3, View.readAt_eq_ld, harg2.read_unread, harg3.read_unread, harg4.read_unread, harg5.read_unread, harg6.read_unread, harg9.read_unread, harg10.read_unread, View.ld_unit_zero (S := S512x128) hz2, View.ld_unit_zero (S := S1x128x128) hz3, View.ld_unit_zero (S := S1x128x1) hz3]
  rfl

end Points

end Cert.SpatialBwdIdeal.Body

end
-- ==== Proof.SpatialSpec.lean ====
module

public import Idealize.ShloMosaic.Lib.Pointwise
public import Idealize.ShloMosaic.Lib.StableHlo.Predicate

@[expose] public section

set_option maxRecDepth 16384

noncomputable section

/-! What the backward pass of the spatial gating unit computes: the four gradients of `u · (tril(W) v + b)`,
    chunk by chunk of 128 positions and group by group of 128 channels, over the extended reals. -/

namespace Cert.Spatial

open Idealize.ShloMosaic

abbrev Rows : Type := (⟨2, ![4096, 2048]⟩ : Shape).Idx → EReal
abbrev Mats : Type := (⟨3, ![16, 128, 128]⟩ : Shape).Idx → EReal
abbrev Bias : Type := (⟨2, ![16, 128]⟩ : Shape).Idx → EReal

/-- Position `r` of chunk `q`. -/
def row (q : Fin 32) (r : Fin 128) : Fin 4096 := ⟨q.val * 128 + r.val, by omega⟩

/-- Channel `c` of group `g`. -/
def col (g : Fin 16) (c : Fin 128) : Fin 2048 := ⟨g.val * 128 + c.val, by omega⟩

/-- The gradient of `u`: the upstream gradient times the mixed and shifted values. -/
def gradU (v : Rows) (w : Mats) (b : Bias) (dy : Rows) (q : Fin 32) (r : Fin 128) (g : Fin 16) (c : Fin 128) : EReal :=
  dy (ix2 (row q r) (col g c)) *
    ((∑ s : Fin 128, if s.val ≤ r.val then w (ix3 g r s) * v (ix2 (row q s) (col g c)) else 0) + b (ix2 g r))

/-- The gradient of the values: the transposed lower triangle applied to `u · dy`. -/
def gradV (u : Rows) (w : Mats) (dy : Rows) (q : Fin 32) (s : Fin 128) (g : Fin 16) (c : Fin 128) : EReal :=
  ∑ r : Fin 128, if s.val ≤ r.val then u (ix2 (row q r) (col g c)) * dy (ix2 (row q r) (col g c)) * w (ix3 g r s) else 0

/-- Chunk `q`'s part of the gradient of the mixing matrix. -/
def partW (u v dy : Rows) (g : Fin 16) (r s : Fin 128) (q : Fin 32) : EReal :=
  ∑ c : Fin 128, u (ix2 (row q r) (col g c)) * dy (ix2 (row q r) (col g c)) * v (ix2 (row q s) (col g c))

/-- The gradient of the mixing matrix, zero above the diagonal. -/
def gradW (u v dy : Rows) (g : Fin 16) (r s : Fin 128) : EReal :=
  if s.val ≤ r.val then ∑ q : Fin 32, partW u v dy g r s q else 0

/-- Chunk `q`'s part of the gradient of the bias. -/
def partB (u dy : Rows) (g : Fin 16) (r : Fin 128) (q : Fin 32) : EReal :=
  ∑ c : Fin 128, u (ix2 (row q r) (col g c)) * dy (ix2 (row q r) (col g c))

/-- The gradient of the bias. -/
def gradB (u dy : Rows) (g : Fin 16) (r : Fin 128) : EReal := ∑ q : Fin 32, partB u dy g r q

theorem cmp_le (r s : Nat) (hr : r < 128) (hs : s < 128) :
    (IntOp.cmpi CmpIPredicate.sge (BitVec.ofNat 32 r) (BitVec.ofNat 32 s) = 1#1) ↔ s ≤ r := by
  have h1 : (BitVec.ofNat 32 r).toNat = r := by rw [BitVec.toNat_ofNat]; omega
  have h2 : (BitVec.ofNat 32 s).toNat = s := by rw [BitVec.toNat_ofNat]; omega
  rw [StableHlo.Predicate.sge_iff_toNat (by omega) (by omega), h1, h2]

/-- A choice by the comparison of two positions' numbers is the choice by their order. -/
theorem select_le {α : Type} (r s : Fin 128) (a b : α) :
    Scalar.select (IntOp.cmpi CmpIPredicate.sge (BitVec.ofNat 32 r.val) (BitVec.ofNat 32 s.val)) a b = if s.val ≤ r.val then a else b := by
  by_cases h : s.val ≤ r.val
  · rw [(cmp_le _ _ r.isLt s.isLt).mpr h, if_pos h]; rfl
  · rw [ValueIdx.eq_zero_of_ne_one (fun e => h ((cmp_le _ _ r.isLt s.isLt).mp e)), if_neg h]; rfl

theorem select_le_zero {α : Type} (r s : Fin 128) (a b : α) :
    Scalar.select (IntOp.cmpi CmpIPredicate.sge (IntOp.addi (BitVec.ofNat 32 r.val) 0#32) (BitVec.ofNat 32 s.val)) a b = if s.val ≤ r.val then a else b := by
  rw [show IntOp.addi (BitVec.ofNat 32 r.val) 0#32 = BitVec.ofNat 32 r.val from BitVec.add_zero _]
  exact select_le r s a b

/-- The chunks in order are eight blocks of four. -/
theorem sum_blocks (f : Fin 32 → EReal) :
    ∑ q : Fin 32, f q = ∑ n : Fin 8, ∑ k : Fin 4, f ⟨n.val * 4 + k.val, by omega⟩ := Fin.sum_univ_tiles 8 4 rfl f

/-- The chunks in order are two sequences of sixteen. -/
theorem sum_seqs (f : Fin 32 → EReal) :
    ∑ q : Fin 32, f q = ∑ b : Fin 2, ∑ n : Fin 16, f ⟨b.val * 16 + n.val, by omega⟩ := Fin.sum_univ_tiles 2 16 rfl f

end Cert.Spatial

end
-- ==== Proof.SpatialRead.lean ====
module

public import proofs.«01_k».proof.Proof.SpatialBody
public import proofs.«01_k».proof.Proof.SpatialSpec
public import Idealize.ShloMosaic.Lib.Pointwise
public import Idealize.ShloMosaic.Lib.StableHlo.Predicate

@[expose] public section

set_option maxRecDepth 16384

noncomputable section

namespace Cert.SpatialBwdIdeal.Body

open Cert.Spatial Cert.SpatialBwdIdeal Cert.SpatialBwdIdeal.Gen Idealize.ShloMosaic TcCoe Idealize.SL.Sem

/-- Position `r` of the block's chunk `k`. -/
def at4 (k : Fin 4) (r : Fin 128) : Fin 512 := ⟨k.val * 128 + r.val, by omega⟩

theorem DU_apply (x1 : FVec Ideal S512x128 .bf16) (x2 : FVec Ideal S1x128x128 .f32) (x3 : FVec Ideal S1x128x1 .f32) (x4 : FVec Ideal S512x128 .f32)
    (k : Fin 4) (r c : Fin 128) :
    DU x1 x2 x3 x4 (ix2 (at4 k r) c)
      = x4 (ix2 (at4 k r) c) * ((∑ s : Fin 128, if s.val ≤ r.val then x2 (ix3 0 r s) * x1 (ix2 (at4 k s) c) else 0) + x3 (ix3 0 r 0)) := by
  have hr := r.isLt
  unfold DU
  unfold_payloads
  match k with
  | ⟨0, _⟩ =>
    pointwise [at4]
    split_ifs <;> first | omega | skip
    simp only [zero_add, add_zero, select_le, Nat.zero_mul, Nat.one_mul, Nat.reduceMul, Nat.add_sub_cancel_left]
  | ⟨1, _⟩ =>
    pointwise [at4]
    split_ifs <;> first | omega | skip
    simp only [zero_add, add_zero, select_le, Nat.zero_mul, Nat.one_mul, Nat.reduceMul, Nat.add_sub_cancel_left]
  | ⟨2, _⟩ =>
    pointwise [at4]
    split_ifs <;> first | omega | skip
    simp only [zero_add, add_zero, select_le, Nat.zero_mul, Nat.one_mul, Nat.reduceMul, Nat.add_sub_cancel_left]
  | ⟨3, _⟩ =>
    pointwise [at4]
    split_ifs <;> first | omega | skip
    simp only [zero_add, add_zero, select_le, Nat.zero_mul, Nat.one_mul, Nat.reduceMul, Nat.add_sub_cancel_left]

theorem DV_apply (x0 : FVec Ideal S512x128 .f32) (x2 : FVec Ideal S1x128x128 .f32) (x4 : FVec Ideal S512x128 .f32) (k : Fin 4) (s c : Fin 128) :
    DV x0 x2 x4 (ix2 (at4 k s) c)
      = ∑ r : Fin 128, if s.val ≤ r.val then x0 (ix2 (at4 k r) c) * x4 (ix2 (at4 k r) c) * x2 (ix3 0 r s) else 0 := by
  have hs := s.isLt
  unfold DV
  unfold_payloads
  match k with
  | ⟨0, _⟩ =>
    pointwise [at4]
    split_ifs <;> first | omega | skip
    simp only [zero_add, add_zero, select_le, Nat.zero_mul, Nat.one_mul, Nat.reduceMul, Nat.add_sub_cancel_left]
  | ⟨1, _⟩ =>
    pointwise [at4]
    split_ifs <;> first | omega | skip
    simp only [zero_add, add_zero, select_le, Nat.zero_mul, Nat.one_mul, Nat.reduceMul, Nat.add_sub_cancel_left]
  | ⟨2, _⟩ =>
    pointwise [at4]
    split_ifs <;> first | omega | skip
    simp only [zero_add, add_zero, select_le, Nat.zero_mul, Nat.one_mul, Nat.reduceMul, Nat.add_sub_cancel_left]
  | ⟨3, _⟩ =>
    pointwise [at4]
    split_ifs <;> first | omega | skip
    simp only [zero_add, add_zero, select_le, Nat.zero_mul, Nat.one_mul, Nat.reduceMul, Nat.add_sub_cancel_left]

theorem turn (a b c d : EReal) : a + b + c + d = d + c + b + a := by ac_rfl

theorem DW_apply (x0 : FVec Ideal S512x128 .f32) (x1 : FVec Ideal S512x128 .bf16) (x4 : FVec Ideal S512x128 .f32) (acc : FVec Ideal S128x128 .f32) (r s : Fin 128) :
    DW x0 x1 x4 acc (ix3 0 r s)
      = acc (ix2 r s) + if s.val ≤ r.val then ∑ k : Fin 4, ∑ c : Fin 128, x0 (ix2 (at4 k r) c) * x4 (ix2 (at4 k r) c) * x1 (ix2 (at4 k s) c) else 0 := by
  rw [Fin.sum_univ_four]
  unfold DW
  unfold_payloads
  pointwise [at4]
  simp only [zero_add, select_le]
  refine Ideal.add_congr rfl ?_
  by_cases h : s.val ≤ r.val
  · rw [if_pos h, if_pos h]
    exact turn _ _ _ _
  · rw [if_neg h, if_neg h]

theorem DB_apply (x0 x4 : FVec Ideal S512x128 .f32) (acc : FVec Ideal S1x128x1 .f32) (r : Fin 128) :
    DB x0 x4 acc (ix3 0 r 0) = acc (ix3 0 r 0) + ∑ k : Fin 4, ∑ c : Fin 128, x0 (ix2 (at4 k r) c) * x4 (ix2 (at4 k r) c) := by
  rw [Fin.sum_univ_four]
  unfold DB
  unfold_payloads
  pointwise [at4]
  exact Ideal.add_congr rfl (turn _ _ _ _)

theorem zero_apply (r s : Fin 128) : (k0_pay37 (F := Ideal) (k0_pay36 (F := Ideal))) (ix2 r s) = 0 := by
  unfold_payloads
  pointwise

theorem same_apply (x : FVec Ideal S1x128x128 .f32) (r s : Fin 128) : (k0_pay37 (F := Ideal) x) (ix2 r s) = x (ix3 0 r s) := by
  unfold_payloads
  pointwise

theorem zeros_apply (r : Fin 128) : (k0_pay2 (F := Ideal)) (ix3 0 r 0) = 0 := by
  unfold_payloads
  pointwise

end Cert.SpatialBwdIdeal.Body

end
-- ==== Proof.SpatialValue.lean ====
module

public import proofs.«01_k».proof.Proof.SpatialRead
public import proofs.«01_k».proof.Proof.Common

@[expose] public section

set_option maxRecDepth 16384

noncomputable section

namespace Cert.SpatialBwdIdeal.Meaning

open Cert.Spatial Cert.SpatialBwdIdeal Cert.SpatialBwdIdeal.Gen Cert.SpatialBwdIdeal.Body Idealize.ShloMosaic TcCoe Idealize.SL.Sem

variable (m : (ℓ : Loc nD τ sig) → Buf (Elt Ideal) ℓ) (c : Dev nD) (t : Fin cfg0.N)

abbrev U (c : Dev nD) : Rows := m ((c : Thread nD τ).loc main_arg0)
abbrev Vn (c : Dev nD) : Rows := m ((c : Thread nD τ).loc main_arg1)
abbrev Wm (c : Dev nD) : Mats := m ((c : Thread nD τ).loc main_arg2)
abbrev Bm (c : Dev nD) : Bias := m ((c : Thread nD τ).loc main_arg3)
abbrev Dy (c : Dev nD) : Rows := m ((c : Thread nD τ).loc main_arg4)

/-- The chunk which is the `k`-th of point `n`'s block. -/
def chk (n : Nat) (k : Fin 4) : Fin 32 := ⟨n % 8 * 4 + k.val, by omega⟩
/-- The group of channels of point `n`. -/
def grp (n : Nat) : Fin 16 := ⟨n / 8 % 16, by omega⟩

theorem lt_N (t : Fin cfg0.N) : t.val < 128 := lt_of_lt_of_eq t.isLt (show cfg0.N = 128 from N_0)

theorem at0 : ∀ t : Fin grid0.N, win0_0.index t 0 = t.val % 8 ∧ win0_0.index t 1 = t.val / 8 := by decide +kernel
theorem at1 : ∀ t : Fin grid0.N, win0_1.index t 0 = t.val % 8 ∧ win0_1.index t 1 = t.val / 8 := by decide +kernel
theorem at2 : ∀ t : Fin grid0.N, win0_2.index t 0 = t.val / 8 ∧ win0_2.index t 1 = 0 ∧ win0_2.index t 2 = 0 := by decide +kernel
theorem at3 : ∀ t : Fin grid0.N, win0_3.index t 0 = t.val / 8 ∧ win0_3.index t 1 = 0 ∧ win0_3.index t 2 = 0 := by decide +kernel
theorem at_4 : ∀ t : Fin grid0.N, win0_4.index t 0 = t.val % 8 ∧ win0_4.index t 1 = t.val / 8 := by decide +kernel
theorem at5 : ∀ t : Fin grid0.N, win0_5.index t 0 = t.val % 8 ∧ win0_5.index t 1 = t.val / 8 := by decide +kernel
theorem at6 : ∀ t : Fin grid0.N, win0_6.index t 0 = t.val % 8 ∧ win0_6.index t 1 = t.val / 8 := by decide +kernel
theorem at7 : ∀ t : Fin grid0.N, win0_7.index t 0 = t.val / 8 ∧ win0_7.index t 1 = 0 ∧ win0_7.index t 2 = 0 := by decide +kernel
theorem at8 : ∀ t : Fin grid0.N, win0_8.index t 0 = t.val / 8 ∧ win0_8.index t 1 = 0 ∧ win0_8.index t 2 = 0 := by decide +kernel

theorem read0 (k : Fin 4) (r x : Fin 128) :
    (iblk m c 0 t : FVec Ideal S512x128 .f32) (ix2 (at4 k r) x) = U m c (ix2 (row (chk t.val k) r) (col (grp t.val) x)) := by
  have hi := at0 t
  have hN := lt_N t
  unfold iblk
  rw [View.read_apply]
  show V m c main_arg0 _ = _
  rw [V_main_arg0]
  unfold U
  congr 1
  funext a
  apply Fin.ext
  match a with
  | ⟨0, _⟩ => show win0_0.index t 0 * 512 + 1 * (k.val * 128 + r.val) = (t.val % 8 * 4 + k.val) * 128 + r.val; rw [hi.1]; omega
  | ⟨1, _⟩ => show win0_0.index t 1 * 128 + 1 * x.val = t.val / 8 % 16 * 128 + x.val; rw [hi.2]; omega

theorem read1 (k : Fin 4) (r x : Fin 128) :
    (iblk m c 1 t : FVec Ideal S512x128 .bf16) (ix2 (at4 k r) x) = Vn m c (ix2 (row (chk t.val k) r) (col (grp t.val) x)) := by
  have hi := at1 t
  have hN := lt_N t
  unfold iblk
  rw [View.read_apply]
  show V m c main_arg1 _ = _
  rw [V_main_arg1]
  unfold Vn
  congr 1
  funext a
  apply Fin.ext
  match a with
  | ⟨0, _⟩ => show win0_1.index t 0 * 512 + 1 * (k.val * 128 + r.val) = (t.val % 8 * 4 + k.val) * 128 + r.val; rw [hi.1]; omega
  | ⟨1, _⟩ => show win0_1.index t 1 * 128 + 1 * x.val = t.val / 8 % 16 * 128 + x.val; rw [hi.2]; omega

theorem read4 (k : Fin 4) (r x : Fin 128) :
    (iblk m c 4 t : FVec Ideal S512x128 .f32) (ix2 (at4 k r) x) = Dy m c (ix2 (row (chk t.val k) r) (col (grp t.val) x)) := by
  have hi := at_4 t
  have hN := lt_N t
  unfold iblk
  rw [View.read_apply]
  show V m c main_arg4 _ = _
  rw [V_main_arg4]
  unfold Dy
  congr 1
  funext a
  apply Fin.ext
  match a with
  | ⟨0, _⟩ => show win0_4.index t 0 * 512 + 1 * (k.val * 128 + r.val) = (t.val % 8 * 4 + k.val) * 128 + r.val; rw [hi.1]; omega
  | ⟨1, _⟩ => show win0_4.index t 1 * 128 + 1 * x.val = t.val / 8 % 16 * 128 + x.val; rw [hi.2]; omega

theorem read2 (r s : Fin 128) :
    (iblk m c 2 t : FVec Ideal S1x128x128 .f32) (ix3 0 r s) = Wm m c (ix3 (grp t.val) r s) := by
  have hi := at2 t
  have hN := lt_N t
  unfold iblk
  rw [View.read_apply]
  show V m c main_arg2 _ = _
  rw [V_main_arg2]
  unfold Wm
  congr 1
  funext a
  apply Fin.ext
  match a with
  | ⟨0, _⟩ => show win0_2.index t 0 * 1 + 1 * 0 = t.val / 8 % 16; rw [hi.1]; omega
  | ⟨1, _⟩ => show win0_2.index t 1 * 128 + 1 * r.val = r.val; rw [hi.2.1]; omega
  | ⟨2, _⟩ => show win0_2.index t 2 * 128 + 1 * s.val = s.val; rw [hi.2.2]; omega

theorem read3 (r : Fin 128) :
    (iblk m c 3 t : FVec Ideal S1x128x1 .f32) (ix3 0 r 0) = Bm m c (ix2 (grp t.val) r) := by
  have hi := at3 t
  have hN := lt_N t
  unfold iblk
  rw [View.read_apply]
  show V m c main_v0 _ = _
  have e : ((cfg0.win 3).blk t).view.emb (ix3 0 r 0 : S1x128x1.Idx) = (ix3 (grp t.val) r 0 : S16x128x1.Idx) := by
    funext a
    apply Fin.ext
    match a with
    | ⟨0, _⟩ => show win0_3.index t 0 * 1 + 1 * 0 = t.val / 8 % 16; rw [hi.1]; omega
    | ⟨1, _⟩ => show win0_3.index t 1 * 128 + 1 * r.val = r.val; rw [hi.2.1]; omega
    | ⟨2, _⟩ => show win0_3.index t 2 * 1 + 1 * 0 = 0; rw [hi.2.2]
  refine (congrArg (V m c main_v0) e).trans ?_
  unfold V hostOps0
  rw [StableHlo.after_cons, StableHlo.after_nil, StableHlo.unary_result]
  unfold Bm
  show broadcastInDim S16x128x1 ![0, 1] bcast_S16x128_S16x128x1_0_1 (m ((c : Thread nD τ).loc main_arg3)) (ix3 (grp t.val) r 0) = _
  pointwise

theorem split512 (j : S512x128.Idx) : ∃ (k : Fin 4) (r x : Fin 128), j = ix2 (at4 k r) x := by
  have h0 : (j 0).val < 512 := (j 0).isLt
  refine ⟨⟨(j 0).val / 128, by omega⟩, ⟨(j 0).val % 128, by omega⟩, ⟨(j 1).val, (j 1).isLt⟩, ?_⟩
  funext a
  apply Fin.ext
  match a with
  | ⟨0, _⟩ => show (j 0).val = (j 0).val / 128 * 128 + (j 0).val % 128; omega
  | ⟨1, _⟩ => rfl

theorem left5 : (outsAt0 m c t.val t.isLt).1 = DU (F := Ideal) (iblk m c 1 t) (iblk m c 2 t) (iblk m c 3 t) (iblk m c 4 t) := by
  by_cases h : t.val % 8 = 0
  · rw [outsAt0_A m c t h h]; dsimp only; exact out_A_5 (F := Ideal) _ _ _ _ _ _ _ _ _ _ _ _ _ _ _ _ _ _ _ _ _ _ _ _ _ _ _
  · rw [outsAt0_B m c t h h]; dsimp only; exact out_B_5 (F := Ideal) _ _ _ _ _ _ _ _ _ _ _ _ _ _ _ _ _ _ _ _ _ _ _ _ _ _ _ _ _

theorem left6 : (outsAt0 m c t.val t.isLt).2.1 = DV (F := Ideal) (iblk m c 0 t) (iblk m c 2 t) (iblk m c 4 t) := by
  by_cases h : t.val % 8 = 0
  · rw [outsAt0_A m c t h h]; dsimp only; exact out_A_6 (F := Ideal) _ _ _ _ _ _ _ _ _ _ _ _ _ _ _ _ _ _ _ _ _ _ _ _ _ _ _
  · rw [outsAt0_B m c t h h]; dsimp only; exact out_B_6 (F := Ideal) _ _ _ _ _ _ _ _ _ _ _ _ _ _ _ _ _ _ _ _ _ _ _ _ _ _ _ _ _

theorem left5_apply (k : Fin 4) (r x : Fin 128) :
    (outsAt0 m c t.val t.isLt).1 (ix2 (at4 k r) x) = gradU (Vn m c) (Wm m c) (Bm m c) (Dy m c) (chk t.val k) r (grp t.val) x := by
  rw [left5]
  refine (DU_apply _ _ _ _ k r x).trans ?_
  unfold gradU
  simp only [read1, read2, read3, read4]

theorem left6_apply (k : Fin 4) (r x : Fin 128) :
    (outsAt0 m c t.val t.isLt).2.1 (ix2 (at4 k r) x) = gradV (U m c) (Wm m c) (Dy m c) (chk t.val k) r (grp t.val) x := by
  rw [left6]
  refine (DV_apply _ _ _ k r x).trans ?_
  unfold gradV
  simp only [read0, read2, read4]

/-- One block's part of the gradient of the mixing matrix. -/
def stepW (c : Dev nD) (g : Fin 16) (r s : Fin 128) (n : Nat) : EReal := ∑ k : Fin 4, partW (U m c) (Vn m c) (Dy m c) g r s (chk n k)
/-- One block's part of the gradient of the bias. -/
def stepB (c : Dev nD) (g : Fin 16) (r : Fin 128) (n : Nat) : EReal := ∑ k : Fin 4, partB (U m c) (Dy m c) g r (chk n k)

theorem DW_at (acc : FVec Ideal S128x128 .f32) (r s : Fin 128) :
    DW (F := Ideal) (iblk m c 0 t) (iblk m c 1 t) (iblk m c 4 t) acc (ix3 0 r s) = acc (ix2 r s) + if s.val ≤ r.val then stepW m c (grp t.val) r s t.val else 0 := by
  refine (DW_apply _ _ _ acc r s).trans ?_
  unfold stepW partW
  simp only [read0, read1, read4]

theorem DB_at (acc : FVec Ideal S1x128x1 .f32) (r : Fin 128) :
    DB (F := Ideal) (iblk m c 0 t) (iblk m c 4 t) acc (ix3 0 r 0) = acc (ix3 0 r 0) + stepB m c (grp t.val) r t.val := by
  refine (DB_apply _ _ acc r).trans ?_
  unfold stepB partB
  simp only [read0, read4]

theorem chk_mod (n : Nat) (k : Fin 4) : chk (n % 8) k = chk n k := Fin.ext (by show n % 8 % 8 * 4 + k.val = n % 8 * 4 + k.val; omega)

theorem stepW_mod (c : Dev nD) (g : Fin 16) (r s : Fin 128) (n : Nat) : stepW m c g r s n = stepW m c g r s (n % 8) := by
  unfold stepW; simp only [chk_mod]
theorem stepB_mod (c : Dev nD) (g : Fin 16) (r : Fin 128) (n : Nat) : stepB m c g r n = stepB m c g r (n % 8) := by
  unfold stepB; simp only [chk_mod]

theorem grp_pred (n : Nat) (h : ¬n % 8 = 0) : grp (n - 1) = grp n := Fin.ext (by show (n - 1) / 8 % 16 = n / 8 % 16; omega)

theorem left7_A (h : t.val % 8 = 0) :
    (outsAt0 m c t.val t.isLt).2.2.1 = DW (F := Ideal) (iblk m c 0 t) (iblk m c 1 t) (iblk m c 4 t) (k0_pay37 (F := Ideal) (k0_pay36 (F := Ideal))) := by
  rw [outsAt0_A m c t h h]; dsimp only; exact out_A_7 (F := Ideal) _ _ _ _ _ _ _ _ _ _ _ _ _ _ _ _ _ _ _ _ _ _ _ _ _ _ _
theorem left7_B (h : ¬t.val % 8 = 0) :
    (outsAt0 m c t.val t.isLt).2.2.1 = DW (F := Ideal) (iblk m c 0 t) (iblk m c 1 t) (iblk m c 4 t)
      (k0_pay37 (F := Ideal) (outsAt0 m c (t.val - 1) (Nat.lt_of_le_of_lt (Nat.sub_le _ _) t.isLt)).2.2.1) := by
  rw [outsAt0_B m c t h h]; dsimp only; exact out_B_7 (F := Ideal) _ _ _ _ _ _ _ _ _ _ _ _ _ _ _ _ _ _ _ _ _ _ _ _ _ _ _ _ _
theorem left8_A (h : t.val % 8 = 0) :
    (outsAt0 m c t.val t.isLt).2.2.2 = DB (F := Ideal) (iblk m c 0 t) (iblk m c 4 t) (k0_pay2 (F := Ideal)) := by
  rw [outsAt0_A m c t h h]; dsimp only; exact out_A_8 (F := Ideal) _ _ _ _ _ _ _ _ _ _ _ _ _ _ _ _ _ _ _ _ _ _ _ _ _ _ _
theorem left8_B (h : ¬t.val % 8 = 0) :
    (outsAt0 m c t.val t.isLt).2.2.2 = DB (F := Ideal) (iblk m c 0 t) (iblk m c 4 t)
      (outsAt0 m c (t.val - 1) (Nat.lt_of_le_of_lt (Nat.sub_le _ _) t.isLt)).2.2.2 := by
  rw [outsAt0_B m c t h h]; dsimp only; exact out_B_8 (F := Ideal) _ _ _ _ _ _ _ _ _ _ _ _ _ _ _ _ _ _ _ _ _ _ _ _ _ _ _ _ _

/-- What the accumulated gradient of the mixing matrix holds after point `n`: the parts of its group's blocks so far. -/
theorem left7_apply (c : Dev nD) (r s : Fin 128) : ∀ (n : Nat) (h : n < cfg0.N),
    (outsAt0 m c n h).2.2.1 (ix3 0 r s) = if s.val ≤ r.val then ∑ i ∈ Finset.range (n % 8 + 1), stepW m c (grp n) r s i else 0 := by
  intro n
  induction n with
  | zero =>
    intro h
    have e : (outsAt0 m c 0 h).2.2.1 = DW (F := Ideal) (iblk m c 0 ⟨0, h⟩) (iblk m c 1 ⟨0, h⟩) (iblk m c 4 ⟨0, h⟩) (k0_pay37 (F := Ideal) (k0_pay36 (F := Ideal))) :=
      left7_A m c ⟨0, h⟩ rfl
    rw [e]
    refine (DW_at m c ⟨0, h⟩ _ r s).trans ?_
    rw [zero_apply, zero_add, Finset.sum_range_one]
  | succ n ih =>
    intro h
    by_cases h0 : (n + 1) % 8 = 0
    · have e : (outsAt0 m c (n + 1) h).2.2.1 = DW (F := Ideal) (iblk m c 0 ⟨n + 1, h⟩) (iblk m c 1 ⟨n + 1, h⟩) (iblk m c 4 ⟨n + 1, h⟩) (k0_pay37 (F := Ideal) (k0_pay36 (F := Ideal))) :=
        left7_A m c ⟨n + 1, h⟩ h0
      rw [e]
      refine (DW_at m c ⟨n + 1, h⟩ _ r s).trans ?_
      rw [zero_apply, zero_add, h0, Finset.sum_range_one]
      show (if s.val ≤ r.val then stepW m c (grp (n + 1)) r s (n + 1) else 0) = _
      rw [stepW_mod, h0]
    · have e : (outsAt0 m c (n + 1) h).2.2.1 = DW (F := Ideal) (iblk m c 0 ⟨n + 1, h⟩) (iblk m c 1 ⟨n + 1, h⟩) (iblk m c 4 ⟨n + 1, h⟩) (k0_pay37 (F := Ideal) (outsAt0 m c n (Nat.lt_of_succ_lt h)).2.2.1) :=
        left7_B m c ⟨n + 1, h⟩ h0
      rw [e]
      refine (DW_at m c ⟨n + 1, h⟩ _ r s).trans ?_
      rw [same_apply, ih]
      have hg : grp n = grp (n + 1) := grp_pred (n + 1) h0
      have hs : n % 8 + 1 = (n + 1) % 8 := by omega
      show (if s.val ≤ r.val then _ else 0) + (if s.val ≤ r.val then stepW m c (grp (n + 1)) r s (n + 1) else 0) = _
      by_cases hle : s.val ≤ r.val
      · rw [if_pos hle, if_pos hle, if_pos hle, hg, hs, stepW_mod, ← Finset.sum_range_succ]
      · rw [if_neg hle, if_neg hle, if_neg hle, add_zero]

/-- What the accumulated gradient of the bias holds after point `n`. -/
theorem left8_apply (c : Dev nD) (r : Fin 128) : ∀ (n : Nat) (h : n < cfg0.N),
    (outsAt0 m c n h).2.2.2 (ix3 0 r 0) = ∑ i ∈ Finset.range (n % 8 + 1), stepB m c (grp n) r i := by
  intro n
  induction n with
  | zero =>
    intro h
    have e : (outsAt0 m c 0 h).2.2.2 = DB (F := Ideal) (iblk m c 0 ⟨0, h⟩) (iblk m c 4 ⟨0, h⟩) (k0_pay2 (F := Ideal)) :=
      left8_A m c ⟨0, h⟩ rfl
    rw [e]
    refine (DB_at m c ⟨0, h⟩ _ r).trans ?_
    rw [zeros_apply, zero_add, Finset.sum_range_one]
  | succ n ih =>
    intro h
    by_cases h0 : (n + 1) % 8 = 0
    · have e : (outsAt0 m c (n + 1) h).2.2.2 = DB (F := Ideal) (iblk m c 0 ⟨n + 1, h⟩) (iblk m c 4 ⟨n + 1, h⟩) (k0_pay2 (F := Ideal)) :=
        left8_A m c ⟨n + 1, h⟩ h0
      rw [e]
      refine (DB_at m c ⟨n + 1, h⟩ _ r).trans ?_
      rw [zeros_apply, zero_add, h0, Finset.sum_range_one]
      show stepB m c (grp (n + 1)) r (n + 1) = _
      rw [stepB_mod, h0]
    · have e : (outsAt0 m c (n + 1) h).2.2.2 = DB (F := Ideal) (iblk m c 0 ⟨n + 1, h⟩) (iblk m c 4 ⟨n + 1, h⟩) (outsAt0 m c n (Nat.lt_of_succ_lt h)).2.2.2 :=
        left8_B m c ⟨n + 1, h⟩ h0
      rw [e]
      refine (DB_at m c ⟨n + 1, h⟩ _ r).trans ?_
      rw [ih]
      have hg : grp n = grp (n + 1) := grp_pred (n + 1) h0
      have hs : n % 8 + 1 = (n + 1) % 8 := by omega
      show _ + stepB m c (grp (n + 1)) r (n + 1) = _
      rw [hg, hs, stepB_mod, ← Finset.sum_range_succ]

/-! ## The result arrays -/

def resU (v : Rows) (w : Mats) (b : Bias) (dy : Rows) : Rows := fun i =>
  gradU v w b dy ⟨(i 0).val / 128, by have : (i 0).val < 4096 := (i 0).isLt; omega⟩ ⟨(i 0).val % 128, by omega⟩
    ⟨(i 1).val / 128, by have : (i 1).val < 2048 := (i 1).isLt; omega⟩ ⟨(i 1).val % 128, by omega⟩
def resV (u : Rows) (w : Mats) (dy : Rows) : Rows := fun i =>
  gradV u w dy ⟨(i 0).val / 128, by have : (i 0).val < 4096 := (i 0).isLt; omega⟩ ⟨(i 0).val % 128, by omega⟩
    ⟨(i 1).val / 128, by have : (i 1).val < 2048 := (i 1).isLt; omega⟩ ⟨(i 1).val % 128, by omega⟩
def resW (u v dy : Rows) : Mats := fun i => gradW u v dy (i 0) (i 1) (i 2)
def resB (u dy : Rows) : (⟨3, ![16, 128, 1]⟩ : Shape).Idx → EReal := fun i => gradB u dy (i 0) (i 1)

theorem resU_at (v : Rows) (w : Mats) (b : Bias) (dy : Rows) (q : Fin 32) (r : Fin 128) (g : Fin 16) (x : Fin 128) (i : (⟨2, ![4096, 2048]⟩ : Shape).Idx)
    (h0 : (i 0).val = q.val * 128 + r.val) (h1 : (i 1).val = g.val * 128 + x.val) : resU v w b dy i = gradU v w b dy q r g x := by
  unfold resU
  have a : (i 0).val / 128 = q.val := by omega
  have b : (i 0).val % 128 = r.val := by omega
  have c : (i 1).val / 128 = g.val := by omega
  have d : (i 1).val % 128 = x.val := by omega
  simp only [a, b, c, d, Fin.eta]
theorem resV_at (u : Rows) (w : Mats) (dy : Rows) (q : Fin 32) (r : Fin 128) (g : Fin 16) (x : Fin 128) (i : (⟨2, ![4096, 2048]⟩ : Shape).Idx)
    (h0 : (i 0).val = q.val * 128 + r.val) (h1 : (i 1).val = g.val * 128 + x.val) : resV u w dy i = gradV u w dy q r g x := by
  unfold resV
  have a : (i 0).val / 128 = q.val := by omega
  have b : (i 0).val % 128 = r.val := by omega
  have c : (i 1).val / 128 = g.val := by omega
  have d : (i 1).val % 128 = x.val := by omega
  simp only [a, b, c, d, Fin.eta]

/-- Every index of a matrix of rows is a position of a chunk and a channel of a group. -/
theorem split_rows (i : (⟨2, ![4096, 2048]⟩ : Shape).Idx) : ∃ (q : Fin 32) (r : Fin 128) (g : Fin 16) (x : Fin 128), i = ix2 (row q r) (col g x) := by
  have h0 : (i 0).val < 4096 := (i 0).isLt
  have h1 : (i 1).val < 2048 := (i 1).isLt
  refine ⟨⟨(i 0).val / 128, by omega⟩, ⟨(i 0).val % 128, by omega⟩, ⟨(i 1).val / 128, by omega⟩, ⟨(i 1).val % 128, by omega⟩, ?_⟩
  funext a
  apply Fin.ext
  match a with
  | ⟨0, _⟩ => show (i 0).val = (i 0).val / 128 * 128 + (i 0).val % 128; omega
  | ⟨1, _⟩ => show (i 1).val = (i 1).val / 128 * 128 + (i 1).val % 128; omega

theorem flushed5_eq (hf : (cfg0.win 5).flush t = true) :
    (dats m 0 c).flushed 5 t = ((cfg0.win 5).blk t).view.read (Elt Ideal) (resU (Vn m c) (Wm m c) (Bm m c) (Dy m c)) := by
  have hi := at5 t
  have hN := lt_N t
  rw [Value.flushed5]
  funext j
  obtain ⟨k, r, x, rfl⟩ := split512 j
  rw [View.read_apply]
  refine (left5_apply m c t k r x).trans (resU_at _ _ _ _ _ _ _ _ _ ?_ ?_).symm
  · show win0_5.index t 0 * 512 + 1 * (k.val * 128 + r.val) = (t.val % 8 * 4 + k.val) * 128 + r.val; rw [hi.1]; omega
  · show win0_5.index t 1 * 128 + 1 * x.val = t.val / 8 % 16 * 128 + x.val; rw [hi.2]; omega

theorem flushed6_eq (hf : (cfg0.win 6).flush t = true) :
    (dats m 0 c).flushed 6 t = ((cfg0.win 6).blk t).view.read (Elt Ideal) (resV (U m c) (Wm m c) (Dy m c)) := by
  have hi := at6 t
  have hN := lt_N t
  rw [Value.flushed6]
  funext j
  obtain ⟨k, r, x, rfl⟩ := split512 j
  rw [View.read_apply]
  refine (left6_apply m c t k r x).trans (resV_at _ _ _ _ _ _ _ _ ?_ ?_).symm
  · show win0_6.index t 0 * 512 + 1 * (k.val * 128 + r.val) = (t.val % 8 * 4 + k.val) * 128 + r.val; rw [hi.1]; omega
  · show win0_6.index t 1 * 128 + 1 * x.val = t.val / 8 % 16 * 128 + x.val; rw [hi.2]; omega

/-- The eight blocks' parts are the sum over all chunks. -/
theorem eight (f : Fin 32 → EReal) : ∑ i ∈ Finset.range 8, ∑ k : Fin 4, f (chk i k) = ∑ q : Fin 32, f q := by
  rw [sum_blocks, Finset.sum_range]
  refine Finset.sum_congr rfl fun n _ => Finset.sum_congr rfl fun k _ => congrArg f (Fin.ext ?_)
  show n.val % 8 * 4 + k.val = n.val * 4 + k.val
  have := n.isLt; omega

theorem flushed7_eq (hf : (cfg0.win 7).flush t = true) :
    (dats m 0 c).flushed 7 t = ((cfg0.win 7).blk t).view.read (Elt Ideal) (resW (U m c) (Vn m c) (Dy m c)) := by
  have hi := at7 t
  have hN := lt_N t
  have h7 := (flush0_7 t).mp hf
  rw [Value.flushed7]
  funext j
  obtain ⟨r, s, rfl⟩ : ∃ r s : Fin 128, j = (ix3 0 r s : S1x128x128.Idx) := ⟨j 1, j 2, by
    funext a
    match a with
    | ⟨0, _⟩ => exact Subsingleton.elim (α := Fin 1) _ _
    | ⟨1, _⟩ => rfl
    | ⟨2, _⟩ => rfl⟩
  rw [View.read_apply]
  refine (left7_apply m c r s t.val t.isLt).trans ?_
  have e : ((cfg0.win 7).blk t).view.emb (ix3 0 r s : S1x128x128.Idx) = (ix3 (grp t.val) r s : S16x128x128.Idx) := by
    funext a
    apply Fin.ext
    match a with
    | ⟨0, _⟩ => show win0_7.index t 0 * 1 + 1 * 0 = t.val / 8 % 16; rw [hi.1]; omega
    | ⟨1, _⟩ => show win0_7.index t 1 * 128 + 1 * r.val = r.val; rw [hi.2.1]; omega
    | ⟨2, _⟩ => show win0_7.index t 2 * 128 + 1 * s.val = s.val; rw [hi.2.2]; omega
  refine Eq.trans ?_ (congrArg (resW (U m c) (Vn m c) (Dy m c)) e.symm)
  show _ = gradW (U m c) (Vn m c) (Dy m c) (grp t.val) r s
  unfold gradW stepW
  rw [h7, eight]

theorem flushed8_eq (hf : (cfg0.win 8).flush t = true) :
    (dats m 0 c).flushed 8 t = ((cfg0.win 8).blk t).view.read (Elt Ideal) (resB (U m c) (Dy m c)) := by
  have hi := at8 t
  have hN := lt_N t
  have h7 := (flush0_8 t).mp hf
  rw [Value.flushed8]
  funext j
  obtain ⟨r, rfl⟩ : ∃ r : Fin 128, j = (ix3 0 r 0 : S1x128x1.Idx) := ⟨j 1, by
    funext a
    match a with
    | ⟨0, _⟩ => exact Subsingleton.elim (α := Fin 1) _ _
    | ⟨1, _⟩ => rfl
    | ⟨2, _⟩ => exact Subsingleton.elim (α := Fin 1) _ _⟩
  rw [View.read_apply]
  refine (left8_apply m c r t.val t.isLt).trans ?_
  have e : ((cfg0.win 8).blk t).view.emb (ix3 0 r 0 : S1x128x1.Idx) = (ix3 (grp t.val) r 0 : S16x128x1.Idx) := by
    funext a
    apply Fin.ext
    match a with
    | ⟨0, _⟩ => show win0_8.index t 0 * 1 + 1 * 0 = t.val / 8 % 16; rw [hi.1]; omega
    | ⟨1, _⟩ => show win0_8.index t 1 * 128 + 1 * r.val = r.val; rw [hi.2.1]; omega
    | ⟨2, _⟩ => show win0_8.index t 2 * 1 + 1 * 0 = 0; rw [hi.2.2]
  refine Eq.trans ?_ (congrArg (resB (U m c) (Dy m c)) e.symm)
  show _ = gradB (U m c) (Dy m c) (grp t.val) r
  unfold gradB stepB
  rw [h7, eight]

theorem final5 (c : Dev nD) : (dats m 0 c).arrAt 5 cfg0.N = resU (Vn m c) (Wm m c) (Bm m c) (Dy m c) :=
  (dats m 0 c).arrAt_eq_of_cover 5 _ (flushed5_eq m c) fun i => by
    have h0 : (i 0 : Nat) < 4096 := (i 0).isLt
    have h1 : (i 1 : Nat) < 2048 := (i 1).isLt
    let t : Fin cfg0.N := ⟨(i 1 : Nat) / 128 * 8 + (i 0 : Nat) / 512, by show _ < grid0.N; rw [Gen.N_0]; omega⟩
    have hi := at5 t
    have ht : t.val = (i 1 : Nat) / 128 * 8 + (i 0 : Nat) / 512 := rfl
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 128 ≤ (i 1 : Nat) ∧ (i 1 : Nat) < win0_5.index t 1 * 128 + 128
      rw [hi.2]; omega

theorem final6 (c : Dev nD) : (dats m 0 c).arrAt 6 cfg0.N = resV (U m c) (Wm m c) (Dy m c) :=
  (dats m 0 c).arrAt_eq_of_cover 6 _ (flushed6_eq m c) fun i => by
    have h0 : (i 0 : Nat) < 4096 := (i 0).isLt
    have h1 : (i 1 : Nat) < 2048 := (i 1).isLt
    let t : Fin cfg0.N := ⟨(i 1 : Nat) / 128 * 8 + (i 0 : Nat) / 512, by show _ < grid0.N; rw [Gen.N_0]; omega⟩
    have hi := at6 t
    have ht : t.val = (i 1 : Nat) / 128 * 8 + (i 0 : Nat) / 512 := rfl
    refine ⟨t, flush0_6 t, ?_⟩
    show i ∈ ((View.whole main_v1_1).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [hi.1]; omega
    | ⟨1, _⟩ =>
      show win0_6.index t 1 * 128 ≤ (i 1 : Nat) ∧ (i 1 : Nat) < win0_6.index t 1 * 128 + 128
      rw [hi.2]; omega

theorem final7 (c : Dev nD) : (dats m 0 c).arrAt 7 cfg0.N = resW (U m c) (Vn m c) (Dy m c) :=
  (dats m 0 c).arrAt_eq_of_cover 7 _ (flushed7_eq m c) fun i => by
    have h0 : (i 0 : Nat) < 16 := (i 0).isLt
    have h1 : (i 1 : Nat) < 128 := (i 1).isLt
    have h2 : (i 2 : Nat) < 128 := (i 2).isLt
    let t : Fin cfg0.N := ⟨(i 0 : Nat) * 8 + 7, by show _ < grid0.N; rw [Gen.N_0]; omega⟩
    have hi := at7 t
    have ht : t.val = (i 0 : Nat) * 8 + 7 := rfl
    refine ⟨t, (flush0_7 t).mpr (by omega), ?_⟩
    show i ∈ ((View.whole main_v1_2).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [hi.1]; omega
    | ⟨1, _⟩ =>
      show win0_7.index t 1 * 128 ≤ (i 1 : Nat) ∧ (i 1 : Nat) < win0_7.index t 1 * 128 + 128
      rw [hi.2.1]; omega
    | ⟨2, _⟩ =>
      show win0_7.index t 2 * 128 ≤ (i 2 : Nat) ∧ (i 2 : Nat) < win0_7.index t 2 * 128 + 128
      rw [hi.2.2]; omega

theorem final8 (c : Dev nD) : (dats m 0 c).arrAt 8 cfg0.N = resB (U m c) (Dy m c) :=
  (dats m 0 c).arrAt_eq_of_cover 8 _ (flushed8_eq m c) fun i => by
    have h0 : (i 0 : Nat) < 16 := (i 0).isLt
    have h1 : (i 1 : Nat) < 128 := (i 1).isLt
    have h2 : (i 2 : Nat) < 1 := (i 2).isLt
    let t : Fin cfg0.N := ⟨(i 0 : Nat) * 8 + 7, by show _ < grid0.N; rw [Gen.N_0]; omega⟩
    have hi := at8 t
    have ht : t.val = (i 0 : Nat) * 8 + 7 := rfl
    refine ⟨t, (flush0_8 t).mpr (by omega), ?_⟩
    show i ∈ ((View.whole main_v1_3).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 128 ≤ (i 1 : Nat) ∧ (i 1 : Nat) < win0_8.index t 1 * 128 + 128
      rw [hi.2.1]; omega
    | ⟨2, _⟩ =>
      show win0_8.index t 2 * 1 ≤ (i 2 : Nat) ∧ (i 2 : Nat) < win0_8.index t 2 * 1 + 1
      rw [hi.2.2]; omega

end Cert.SpatialBwdIdeal.Meaning

end
-- ==== Proof.SpatialRef.lean ====
module

public import proofs.«01_k».proof.Proof.Gen.SpatialRefIdeal.Read
public import proofs.«01_k».proof.Proof.SpatialSpec
public import Idealize.ShloMosaic.Lib.Pointwise
public import Idealize.ShloMosaic.Lib.StableHlo.Predicate

@[expose] public section

set_option maxRecDepth 16384
set_option maxHeartbeats 1000000

noncomputable section

namespace Cert.SpatialRefIdeal.Meaning

open Cert.Spatial Cert.SpatialRefIdeal Cert.SpatialRefIdeal.Read Idealize.ShloMosaic TcCoe Idealize.SL.Sem

/-- A sum over the array's first, second and last axes, one axis after the other. -/
theorem sum_chunks (h : S2x16x128x16x128.ReducesTo [0, 1, 4] S128x16) (j : S128x16.Idx) (v : S2x16x128x16x128.Idx → EReal) :
    ∑ i ∈ Finset.univ.filter (fun i => h.drop i = j), v i
      = ∑ b : Fin 2, ∑ n : Fin 16, ∑ c : Fin 128, v (ix5 b n (j 0) (j 1) c) := by
  refine (Finset.sum_filter_eq_sum_of_fiber (ι := S2x16x128x16x128.Idx) (fun i => h.drop i = j) (fun k : Fin 2 × Fin 16 × Fin 128 => ix5 k.1 k.2.1 (j 0) (j 1) k.2.2)
    (fun _ _ e => Prod.ext (congrFun e 0) (Prod.ext (congrFun e 1) (congrFun e 4))) (fun i => ?_) v).trans ?_
  · constructor
    · intro e
      refine ⟨(i 0, i 1, i 4), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨k, rfl⟩
      funext b; apply Fin.ext
      match b with
      | ⟨0, _⟩ => rfl
      | ⟨1, _⟩ => rfl
  · simp only [Fintype.sum_prod_type]

/-- The same sum where the summed axes have one element each. -/
theorem sum_units (h : S1x1x128x16x1.ReducesTo [0, 1, 4] S128x16) (j : S128x16.Idx) (v : S1x1x128x16x1.Idx → EReal) :
    ∑ i ∈ Finset.univ.filter (fun i => h.drop i = j), v i = v (ix5 0 0 (j 0) (j 1) 0) := by
  refine (Finset.sum_filter_eq_sum_of_fiber (ι := S1x1x128x16x1.Idx) (fun i => h.drop i = j) (fun k : Fin 1 => ix5 0 0 (j 0) (j 1) k)
    (fun a b e => Subsingleton.elim a b) (fun i => ?_) v).trans ?_
  · constructor
    · intro e
      refine ⟨i 4, ?_⟩
      funext a; apply Fin.ext
      match a with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
      | ⟨3, _⟩ => exact (congrArg Fin.val (congrFun e 1)).symm
      | ⟨4, _⟩ => rfl
    · rintro ⟨k, rfl⟩
      funext b; apply Fin.ext
      match b with
      | ⟨0, _⟩ => rfl
      | ⟨1, _⟩ => rfl
  · exact Fin.sum_univ_one _

/-- The contraction's indices are the triples of coordinates. -/
def tripleEquiv : Fin 2 × Fin 16 × Fin 128 ≃ dot_S16x2x16x128x128_S2x16x128x16x128_S16x128x128_123_014_4_2_0_3.contr.Idx where
  toFun k := fun p => match p with
    | ⟨0, _⟩ => k.1
    | ⟨1, _⟩ => k.2.1
    | ⟨2, _⟩ => k.2.2
  invFun q := (q ⟨0, by decide⟩, q ⟨1, by decide⟩, q ⟨2, by decide⟩)
  left_inv _ := rfl
  right_inv q := by
    funext p
    match p with
    | ⟨0, _⟩ => rfl
    | ⟨1, _⟩ => rfl
    | ⟨2, _⟩ => rfl

theorem dot_chunks (A : FVec Ideal S16x2x16x128x128 .f32) (B : FVec Ideal S2x16x128x16x128 .f32) (g : Fin 16) (r s : Fin 128) :
    Host.dotGeneral dot_S16x2x16x128x128_S2x16x128x16x128_S16x128x128_123_014_4_2_0_3 none A B (ix3 g r s)
      = ∑ b : Fin 2, ∑ n : Fin 16, ∑ c : Fin 128, A (ix5 g b n c r) * B (ix5 b n s g c) := by
  unfold Host.dotGeneral
  rw [Ideal.dotGeneral_apply, ← Fintype.sum_equiv tripleEquiv (fun k => A (ix5 g k.1 k.2.1 k.2.2 r) * B (ix5 k.1 k.2.1 s g k.2.2)) _ (fun k => ?_)]
  · simp only [Fintype.sum_prod_type]
  · congr 2
    · funext a; apply Fin.ext
      match a with
      | ⟨0, _⟩ => rfl
      | ⟨1, _⟩ => rfl
      | ⟨2, _⟩ => rfl
      | ⟨3, _⟩ => rfl
      | ⟨4, _⟩ => rfl
    · funext a; apply Fin.ext
      match a with
      | ⟨0, _⟩ => rfl
      | ⟨1, _⟩ => rfl
      | ⟨2, _⟩ => rfl
      | ⟨3, _⟩ => rfl
      | ⟨4, _⟩ => rfl

theorem chunk_at (q : Fin 32) (r x : Fin 128) :
    (q.val * 128 + r.val) / 2048 * 2048 + q.val % 16 * 128 + x.val = q.val * 128 + x.val := by
  have := q.isLt; have := r.isLt; omega

theorem place_at (q : Nat) (r : Fin 128) : (q * 128 + r.val) % 128 = r.val := by have := r.isLt; omega

theorem group_at (q : Nat) (r : Fin 128) : (q * 128 + r.val) / 128 = q := by have := r.isLt; omega

theorem v16 (x1 : FVec Ideal S4096x2048 .bf16) (x2 : FVec Ideal S16x128x128 .f32) (x3 : FVec Ideal S16x128 .f32) (x4 : FVec Ideal S4096x2048 .f32)
    (q : Fin 32) (r : Fin 128) (g : Fin 16) (c : Fin 128) :
    val_main_v16 (F := Ideal) x1 x2 x3 x4 (ix2 (row q r) (col g c)) = gradU x1 x2 x3 x4 q r g c := by
  unfold gradU row col
  pointwise [val_main_v16, val_main_v13, val_main_v12, val_main_v11, val_main_v10, val_main_v9, val_main_v8, val_main_v7, val_main_v6, val_main_v5, val_main_v4, val_main_v3, val_main_v2, val_main_v1, val_main_v0, val_main_call0_v4, val_main_call0_v5, val_main_call0_v2, val_main_call0_v3, val_main_call0_v0, val_main_call0_v1, val_main_call0_c, val_main_call0_cst, val_main_cst]
  simp only [group_at, chunk_at, place_at, Fin.eta, select_le_zero]
  simp only [mul_comm]

theorem v28 (x0 : FVec Ideal S4096x2048 .f32) (x2 : FVec Ideal S16x128x128 .f32) (x4 : FVec Ideal S4096x2048 .f32)
    (q : Fin 32) (r : Fin 128) (g : Fin 16) (c : Fin 128) :
    val_main_v28 (F := Ideal) x0 x2 x4 (ix2 (row q r) (col g c)) = gradV x0 x2 x4 q r g c := by
  unfold gradV row col
  pointwise [val_main_v28, val_main_v25, val_main_v24, val_main_v22, val_main_v17, val_main_v15, val_main_v6, val_main_v5, val_main_v4, val_main_v3, val_main_v2, val_main_v1, val_main_v0, val_main_call0_v4, val_main_call0_v5, val_main_call0_v2, val_main_call0_v3, val_main_call0_v0, val_main_call0_v1, val_main_call0_c, val_main_call0_cst, val_main_cst]
  simp only [group_at, chunk_at, place_at, Fin.eta, select_le_zero]

theorem v27 (x0 : FVec Ideal S4096x2048 .f32) (x1 : FVec Ideal S4096x2048 .bf16) (x4 : FVec Ideal S4096x2048 .f32) (g : Fin 16) (r s : Fin 128) :
    val_main_v27 (F := Ideal) x0 x1 x4 (ix3 g r s) = gradW x0 x1 x4 g r s := by
  unfold val_main_v27 val_main_v23 gradW
  rw [ValueIdx.mulf_apply, dot_chunks, sum_seqs]
  unfold partW row col
  pointwise [val_main_v26, val_main_v22, val_main_v17, val_main_v15, val_main_v6, val_main_v5, val_main_v4, val_main_v3, val_main_v2, val_main_v1, val_main_v0, val_main_call0_v4, val_main_call0_v5, val_main_call0_v2, val_main_call0_v3, val_main_call0_v0, val_main_call0_v1, val_main_call0_c, val_main_call0_cst, val_main_cst]
  simp only [select_le_zero]
  by_cases h : s.val ≤ r.val
  swap
  · rw [if_neg h, if_neg h]
  rw [if_pos h, if_pos h]
  refine Finset.sum_congr rfl fun b _ => Finset.sum_congr rfl fun n _ => Finset.sum_congr rfl fun c _ => ?_
  have e : ∀ x : Nat, b.val * 2048 + n.val * 128 + x = (b.val * 16 + n.val) * 128 + x := fun x => by omega
  simp only [e]

theorem v29 (x0 x4 : FVec Ideal S4096x2048 .f32) (g : Fin 16) (r : Fin 128) :
    val_main_v29 (F := Ideal) x0 x4 (ix3 g r 0) = gradB x0 x4 g r := by
  unfold gradB
  rw [sum_seqs]
  unfold partB row col
  pointwise [val_main_v29, val_main_v21, val_main_v20, val_main_v19, val_main_v18, val_main_v17, val_main_v15, val_main_cst_0, val_main_cst_1, Ideal.hostReduceAdd]
  simp only [sum_chunks, sum_units]
  refine Finset.sum_congr rfl fun b _ => Finset.sum_congr rfl fun n _ => Finset.sum_congr rfl fun c _ => ?_
  refine Ideal.mul_congr (congrArg x0 ?_) (congrArg x4 ?_) <;>
    (funext a; apply Fin.ext
     match a with
     | ⟨0, _⟩ => show b.val * 2048 + n.val * 128 + r.val = (b.val * 16 + n.val) * 128 + r.val; omega
     | ⟨1, _⟩ => rfl)

end Cert.SpatialRefIdeal.Meaning

end
-- ==== Proof.SpatialClaims.lean ====
module

public import proofs.«01_k».proof.Defs
public import proofs.«01_k».proof.Proof.Gen.SpatialBwd.Frame
public import proofs.«01_k».proof.Proof.Gen.SpatialRefIdeal.Run
public import proofs.«01_k».proof.Proof.SpatialValue
public import proofs.«01_k».proof.Proof.SpatialRef

@[expose] public section

set_option maxRecDepth 16384

noncomputable section

namespace Cert.Spatial

open Idealize.ShloMosaic TcCoe Idealize.SL.Sem
open Cert.SpatialBwdIdeal.Meaning Cert.SpatialRefIdeal.Meaning

/-- The kernel's own text terminates without a fault, keeps its arguments and leaves every counter at zero. -/
theorem frame_ref : Cert.quiescent_SpatialRefIdeal (hSpatialRefIdeal := Cert.SpatialRefIdeal.Gen.facts) :=
  fun m ρ _ => (θ_run Cert.SpatialRefIdeal.defs _ _).mono
    (fun r h => ⟨fun c => (h c).2.2.2.2, sem_eq_zero_of_no_sems (by decide) r.2⟩) (Cert.SpatialRefIdeal.Value.run m ρ)

theorem ref_u (v : Rows) (w : Mats) (b : Bias) (dy : Rows) : Cert.SpatialRefIdeal.Read.val_main_v16 (F := Ideal) v w b dy = resU v w b dy := by
  funext i
  obtain ⟨q, r, g, x, rfl⟩ := split_rows i
  exact (v16 v w b dy q r g x).trans (resU_at _ _ _ _ _ _ _ _ _ rfl rfl).symm

theorem ref_v (u : Rows) (w : Mats) (dy : Rows) : Cert.SpatialRefIdeal.Read.val_main_v28 (F := Ideal) u w dy = resV u w dy := by
  funext i
  obtain ⟨q, r, g, x, rfl⟩ := split_rows i
  exact (v28 u w dy q r g x).trans (resV_at _ _ _ _ _ _ _ _ rfl rfl).symm

theorem ref_w (u v dy : Rows) : Cert.SpatialRefIdeal.Read.val_main_v27 (F := Ideal) u v dy = resW u v dy := by
  funext i
  obtain ⟨g, r, s, rfl⟩ : ∃ (g : Fin 16) (r s : Fin 128), i = ix3 g r s := ⟨i 0, i 1, i 2, by
    funext a
    match a with
    | ⟨0, _⟩ => rfl
    | ⟨1, _⟩ => rfl
    | ⟨2, _⟩ => rfl⟩
  exact v27 u v dy g r s

theorem ref_b (u dy : Rows) : Cert.SpatialRefIdeal.Read.val_main_v29 (F := Ideal) u dy = resB u dy := by
  funext i
  obtain ⟨g, r, rfl⟩ : ∃ (g : Fin 16) (r : Fin 128), i = ix3 g r 0 := ⟨i 0, i 1, by
    funext a
    match a with
    | ⟨0, _⟩ => rfl
    | ⟨1, _⟩ => rfl
    | ⟨2, _⟩ => exact Subsingleton.elim (α := Fin 1) _ _⟩
  exact v29 u dy g r

/-- Both programs end with the four gradients, each a function of the arguments. -/
theorem algebraic : Cert.algebraic_SpatialBwdIdeal_SpatialRefIdeal (hSpatialBwdIdeal := Cert.SpatialBwdIdeal.Gen.facts)
    (hSpatialRefIdeal := Cert.SpatialRefIdeal.Gen.facts) := by
  intro m g m' g' _ hargs
  refine ⟨fun c => resU (Vn m c) (Wm m c) (Bm m c) (Dy m c), fun c => resV (U m c) (Wm m c) (Dy m c),
    fun c => resW (U m c) (Vn m c) (Dy m c), fun c => resB (U m c) (Dy m c), ?_, ?_⟩
  · exact (θ_run Cert.SpatialBwdIdeal.defs _ _).mono (fun r h c => ⟨(h c).1.trans (final5 m c), (h c).2.1.trans (final6 m c),
      (h c).2.2.1.trans (final7 m c), (h c).2.2.2.1.trans (final8 m c), (h c).2.2.2.2⟩) (Cert.SpatialBwdIdeal.Value.run_blocks m g)
  · refine (θ_run Cert.SpatialRefIdeal.defs _ _).mono (fun r h c => ?_) (Cert.SpatialRefIdeal.Value.run m' g')
    obtain ⟨a0, a1, a2, a3, a4⟩ := hargs c
    obtain ⟨e0, e1, e2, e3, k⟩ := h c
    refine ⟨e0.trans ?_, e1.trans ?_, e2.trans ?_, e3.trans ?_, k⟩
    · refine (Cert.SpatialRefIdeal.Read.val_main_v16_eq _ _ _ _).trans ?_
      rw [a1, a2, a3, a4]; exact ref_u _ _ _ _
    · refine (Cert.SpatialRefIdeal.Read.val_main_v28_eq _ _ _).trans ?_
      rw [a0, a2, a4]; exact ref_v _ _ _
    · refine (Cert.SpatialRefIdeal.Read.val_main_v27_eq _ _ _).trans ?_
      rw [a0, a1, a4]; exact ref_w _ _ _
    · refine (Cert.SpatialRefIdeal.Read.val_main_v29_eq _ _).trans ?_
      rw [a0, a4]; exact ref_b _ _

end Cert.Spatial

end
-- ==== Proof.lean ====
module

public import proofs.«01_k».proof.Defs
public import proofs.«01_k».proof.Proof.InDxClaims
public import proofs.«01_k».proof.Proof.DownDwClaims
public import proofs.«01_k».proof.Proof.GateDwClaims
public import proofs.«01_k».proof.Proof.DownDxClaims
public import proofs.«01_k».proof.Proof.GateUpClaims
public import proofs.«01_k».proof.Proof.DownFwdClaims
public import proofs.«01_k».proof.Proof.HgInClaims
public import proofs.«01_k».proof.Proof.HgInDxClaims
public import proofs.«01_k».proof.Proof.HgInDwClaims
public import proofs.«01_k».proof.Proof.GmInClaims
public import proofs.«01_k».proof.Proof.GmInDxClaims
public import proofs.«01_k».proof.Proof.GmInDwClaims
public import proofs.«01_k».proof.Proof.HgOutClaims
public import proofs.«01_k».proof.Proof.HgOutDxClaims
public import proofs.«01_k».proof.Proof.HgOutDwClaims
public import proofs.«01_k».proof.Proof.PleGateClaims
public import proofs.«01_k».proof.Proof.PleGateDxClaims
public import proofs.«01_k».proof.Proof.PleGateDwClaims
public import proofs.«01_k».proof.Proof.AdamHgInClaims
public import proofs.«01_k».proof.Proof.AdamOutClaims
public import proofs.«01_k».proof.Proof.AdamGmInClaims
public import proofs.«01_k».proof.Proof.AdamGateClaims
public import proofs.«01_k».proof.Proof.AdamDownClaims
public import proofs.«01_k».proof.Proof.AdamProjClaims
public import proofs.«01_k».proof.Proof.AdamPleGateClaims
public import proofs.«01_k».proof.Proof.AdamSmallClaims
public import proofs.«01_k».proof.Proof.PrenormBwdClaims
public import proofs.«01_k».proof.Proof.FfnPostBwdClaims
public import proofs.«01_k».proof.Proof.MixPostBwdClaims
public import proofs.«01_k».proof.Proof.PleLastBwdClaims
public import proofs.«01_k».proof.Proof.SumGmClaims
public import proofs.«01_k».proof.Proof.SumRestClaims
public import proofs.«01_k».proof.Proof.LossHeadClaims
public import proofs.«01_k».proof.Proof.SpatialClaims

@[expose] public section

noncomputable section

namespace Cert.Proof

open Idealize.ShloMosaic Idealize.SL.Sem

theorem claim : Cert.Claim :=
  ⟨InDx.Gen.facts, InDxIdeal.Gen.facts, InDxRefIdeal.Gen.facts,
    DownDw.Gen.facts, DownDwIdeal.Gen.facts, DownDwRefIdeal.Gen.facts,
    GateDw.Gen.facts, GateDwIdeal.Gen.facts, GateDwRefIdeal.Gen.facts,
    DownDx.Gen.facts, DownDxIdeal.Gen.facts, DownDxRefIdeal.Gen.facts,
    GateUp.Gen.facts, GateUpIdeal.Gen.facts, GateUpRefIdeal.Gen.facts,
    DownFwd.Gen.facts, DownFwdIdeal.Gen.facts, DownFwdRefIdeal.Gen.facts,
    HgIn.Gen.facts, HgInIdeal.Gen.facts, HgInRefIdeal.Gen.facts,
    HgInDx.Gen.facts, HgInDxIdeal.Gen.facts, HgInDxRefIdeal.Gen.facts,
    HgInDw.Gen.facts, HgInDwIdeal.Gen.facts, HgInDwRefIdeal.Gen.facts,
    GmIn.Gen.facts, GmInIdeal.Gen.facts, GmInRefIdeal.Gen.facts,
    GmInDx.Gen.facts, GmInDxIdeal.Gen.facts, GmInDxRefIdeal.Gen.facts,
    GmInDw.Gen.facts, GmInDwIdeal.Gen.facts, GmInDwRefIdeal.Gen.facts,
    HgOut.Gen.facts, HgOutIdeal.Gen.facts, HgOutRefIdeal.Gen.facts,
    HgOutDx.Gen.facts, HgOutDxIdeal.Gen.facts, HgOutDxRefIdeal.Gen.facts,
    HgOutDw.Gen.facts, HgOutDwIdeal.Gen.facts, HgOutDwRefIdeal.Gen.facts,
    PleGate.Gen.facts, PleGateIdeal.Gen.facts, PleGateRefIdeal.Gen.facts,
    PleGateDx.Gen.facts, PleGateDxIdeal.Gen.facts, PleGateDxRefIdeal.Gen.facts,
    PleGateDw.Gen.facts, PleGateDwIdeal.Gen.facts, PleGateDwRefIdeal.Gen.facts,
    AdamHgIn.Gen.facts, AdamHgInIdeal.Gen.facts, AdamHgInRefIdeal.Gen.facts,
    AdamOut.Gen.facts, AdamOutIdeal.Gen.facts, AdamOutRefIdeal.Gen.facts,
    AdamGmIn.Gen.facts, AdamGmInIdeal.Gen.facts, AdamGmInRefIdeal.Gen.facts,
    AdamGate.Gen.facts, AdamGateIdeal.Gen.facts, AdamGateRefIdeal.Gen.facts,
    AdamDown.Gen.facts, AdamDownIdeal.Gen.facts, AdamDownRefIdeal.Gen.facts,
    AdamProj.Gen.facts, AdamProjIdeal.Gen.facts, AdamProjRefIdeal.Gen.facts,
    AdamPleGate.Gen.facts, AdamPleGateIdeal.Gen.facts, AdamPleGateRefIdeal.Gen.facts,
    AdamSmall.Gen.facts, AdamSmallIdeal.Gen.facts, AdamSmallRefIdeal.Gen.facts,
    PrenormBwd.Gen.facts, PrenormBwdIdeal.Gen.facts, PrenormBwdRefIdeal.Gen.facts,
    FfnPostBwd.Gen.facts, FfnPostBwdIdeal.Gen.facts, FfnPostBwdRefIdeal.Gen.facts,
    MixPostBwd.Gen.facts, MixPostBwdIdeal.Gen.facts, MixPostBwdRefIdeal.Gen.facts,
    PleLastBwd.Gen.facts, PleLastBwdIdeal.Gen.facts, PleLastBwdRefIdeal.Gen.facts,
    SumGm.Gen.facts, SumGmIdeal.Gen.facts, SumGmRefIdeal.Gen.facts,
    SumRest.Gen.facts, SumRestIdeal.Gen.facts, SumRestRefIdeal.Gen.facts,
    LossHead.Gen.facts, LossHeadIdeal.Gen.facts, LossHeadRefIdeal.Gen.facts,
    SpatialBwd.Gen.facts, SpatialBwdIdeal.Gen.facts, SpatialRefIdeal.Gen.facts,
    fun m ρ _ => InDx.Gen.frame m ρ, fun m ρ _ => InDxIdeal.Gen.frame (F := Ideal) m ρ, InDxIdeal.Meaning.frame_ref,
    fun m ρ _ => DownDw.Gen.frame m ρ, fun m ρ _ => DownDwIdeal.Gen.frame (F := Ideal) m ρ, DownDwIdeal.Meaning.frame_ref,
    fun m ρ _ => GateDw.Gen.frame m ρ, fun m ρ _ => GateDwIdeal.Gen.frame (F := Ideal) m ρ, GateDwIdeal.Meaning.frame_ref,
    fun m ρ _ => DownDx.Gen.frame m ρ, fun m ρ _ => DownDxIdeal.Gen.frame (F := Ideal) m ρ, DownDxIdeal.Meaning.frame_ref,
    fun m ρ _ => GateUp.Gen.frame m ρ, fun m ρ _ => GateUpIdeal.Gen.frame (F := Ideal) m ρ, GateUpIdeal.Meaning.frame_ref,
    fun m ρ _ => DownFwd.Gen.frame m ρ, fun m ρ _ => DownFwdIdeal.Gen.frame (F := Ideal) m ρ, DownFwdIdeal.Meaning.frame_ref,
    fun m ρ _ => HgIn.Gen.frame m ρ, fun m ρ _ => HgInIdeal.Gen.frame (F := Ideal) m ρ, HgInIdeal.Meaning.frame_ref,
    fun m ρ _ => HgInDx.Gen.frame m ρ, fun m ρ _ => HgInDxIdeal.Gen.frame (F := Ideal) m ρ, HgInDxIdeal.Meaning.frame_ref,
    fun m ρ _ => HgInDw.Gen.frame m ρ, fun m ρ _ => HgInDwIdeal.Gen.frame (F := Ideal) m ρ, HgInDwIdeal.Meaning.frame_ref,
    fun m ρ _ => GmIn.Gen.frame m ρ, fun m ρ _ => GmInIdeal.Gen.frame (F := Ideal) m ρ, GmInIdeal.Meaning.frame_ref,
    fun m ρ _ => GmInDx.Gen.frame m ρ, fun m ρ _ => GmInDxIdeal.Gen.frame (F := Ideal) m ρ, GmInDxIdeal.Meaning.frame_ref,
    fun m ρ _ => GmInDw.Gen.frame m ρ, fun m ρ _ => GmInDwIdeal.Gen.frame (F := Ideal) m ρ, GmInDwIdeal.Meaning.frame_ref,
    fun m ρ _ => HgOut.Gen.frame m ρ, fun m ρ _ => HgOutIdeal.Gen.frame (F := Ideal) m ρ, HgOutIdeal.Meaning.frame_ref,
    fun m ρ _ => HgOutDx.Gen.frame m ρ, fun m ρ _ => HgOutDxIdeal.Gen.frame (F := Ideal) m ρ, HgOutDxIdeal.Meaning.frame_ref,
    fun m ρ _ => HgOutDw.Gen.frame m ρ, fun m ρ _ => HgOutDwIdeal.Gen.frame (F := Ideal) m ρ, HgOutDwIdeal.Meaning.frame_ref,
    fun m ρ _ => PleGate.Gen.frame m ρ, fun m ρ _ => PleGateIdeal.Gen.frame (F := Ideal) m ρ, PleGateIdeal.Meaning.frame_ref,
    fun m ρ _ => PleGateDx.Gen.frame m ρ, fun m ρ _ => PleGateDxIdeal.Gen.frame (F := Ideal) m ρ, PleGateDxIdeal.Meaning.frame_ref,
    fun m ρ _ => PleGateDw.Gen.frame m ρ, fun m ρ _ => PleGateDwIdeal.Gen.frame (F := Ideal) m ρ, PleGateDwIdeal.Meaning.frame_ref,
    fun m ρ _ => AdamHgIn.Gen.frame m ρ, fun m ρ _ => AdamHgInIdeal.Gen.frame (F := Ideal) m ρ, AdamHgInIdeal.Meaning.frame_ref,
    fun m ρ _ => AdamOut.Gen.frame m ρ, fun m ρ _ => AdamOutIdeal.Gen.frame (F := Ideal) m ρ, AdamOutIdeal.Meaning.frame_ref,
    fun m ρ _ => AdamGmIn.Gen.frame m ρ, fun m ρ _ => AdamGmInIdeal.Gen.frame (F := Ideal) m ρ, AdamGmInIdeal.Meaning.frame_ref,
    fun m ρ _ => AdamGate.Gen.frame m ρ, fun m ρ _ => AdamGateIdeal.Gen.frame (F := Ideal) m ρ, AdamGateIdeal.Meaning.frame_ref,
    fun m ρ _ => AdamDown.Gen.frame m ρ, fun m ρ _ => AdamDownIdeal.Gen.frame (F := Ideal) m ρ, AdamDownIdeal.Meaning.frame_ref,
    fun m ρ _ => AdamProj.Gen.frame m ρ, fun m ρ _ => AdamProjIdeal.Gen.frame (F := Ideal) m ρ, AdamProjIdeal.Meaning.frame_ref,
    fun m ρ _ => AdamPleGate.Gen.frame m ρ, fun m ρ _ => AdamPleGateIdeal.Gen.frame (F := Ideal) m ρ, AdamPleGateIdeal.Meaning.frame_ref,
    fun m ρ _ => AdamSmall.Gen.frame m ρ, fun m ρ _ => AdamSmallIdeal.Gen.frame (F := Ideal) m ρ, AdamSmallIdeal.Meaning.frame_ref,
    fun m ρ _ => PrenormBwd.Gen.frame m ρ, fun m ρ _ => PrenormBwdIdeal.Gen.frame (F := Ideal) m ρ, PrenormBwdIdeal.Meaning.frame_ref,
    fun m ρ _ => FfnPostBwd.Gen.frame m ρ, fun m ρ _ => FfnPostBwdIdeal.Gen.frame (F := Ideal) m ρ, FfnPostBwdIdeal.Meaning.frame_ref,
    fun m ρ _ => MixPostBwd.Gen.frame m ρ, fun m ρ _ => MixPostBwdIdeal.Gen.frame (F := Ideal) m ρ, MixPostBwdIdeal.Meaning.frame_ref,
    fun m ρ _ => PleLastBwd.Gen.frame m ρ, fun m ρ _ => PleLastBwdIdeal.Gen.frame (F := Ideal) m ρ, PleLastBwdIdeal.Meaning.frame_ref,
    fun m ρ _ => SumGm.Gen.frame m ρ, fun m ρ _ => SumGmIdeal.Gen.frame (F := Ideal) m ρ, SumGmIdeal.Meaning.frame_ref,
    fun m ρ _ => SumRest.Gen.frame m ρ, fun m ρ _ => SumRestIdeal.Gen.frame (F := Ideal) m ρ, SumRestIdeal.Meaning.frame_ref,
    fun m ρ _ => LossHead.Gen.frame m ρ, fun m ρ _ => LossHeadIdeal.Gen.frame (F := Ideal) m ρ, LossHeadIdeal.Meaning.frame_ref,
    fun m ρ _ => SpatialBwd.Gen.frame m ρ, fun m ρ _ => SpatialBwdIdeal.Gen.frame (F := Ideal) m ρ, Spatial.frame_ref,
    trivial, InDxIdeal.Meaning.algebraic,
    trivial, DownDwIdeal.Meaning.algebraic,
    trivial, GateDwIdeal.Meaning.algebraic,
    trivial, DownDxIdeal.Meaning.algebraic,
    trivial, GateUpIdeal.Meaning.algebraic,
    trivial, DownFwdIdeal.Meaning.algebraic,
    trivial, HgInIdeal.Meaning.algebraic,
    trivial, HgInDxIdeal.Meaning.algebraic,
    trivial, HgInDwIdeal.Meaning.algebraic,
    trivial, GmInIdeal.Meaning.algebraic,
    trivial, GmInDxIdeal.Meaning.algebraic,
    trivial, GmInDwIdeal.Meaning.algebraic,
    trivial, HgOutIdeal.Meaning.algebraic,
    trivial, HgOutDxIdeal.Meaning.algebraic,
    trivial, HgOutDwIdeal.Meaning.algebraic,
    trivial, PleGateIdeal.Meaning.algebraic,
    trivial, PleGateDxIdeal.Meaning.algebraic,
    trivial, PleGateDwIdeal.Meaning.algebraic,
    trivial, AdamHgInIdeal.Meaning.algebraic,
    trivial, AdamOutIdeal.Meaning.algebraic,
    trivial, AdamGmInIdeal.Meaning.algebraic,
    trivial, AdamGateIdeal.Meaning.algebraic,
    trivial, AdamDownIdeal.Meaning.algebraic,
    trivial, AdamProjIdeal.Meaning.algebraic,
    trivial, AdamPleGateIdeal.Meaning.algebraic,
    trivial, AdamSmallIdeal.Meaning.algebraic,
    trivial, PrenormBwdIdeal.Meaning.algebraic,
    trivial, FfnPostBwdIdeal.Meaning.algebraic,
    trivial, MixPostBwdIdeal.Meaning.algebraic,
    trivial, PleLastBwdIdeal.Meaning.algebraic,
    trivial, SumGmIdeal.Meaning.algebraic,
    trivial, SumRestIdeal.Meaning.algebraic,
    trivial, LossHeadIdeal.Meaning.algebraic,
    trivial, Spatial.algebraic⟩

end Cert.Proof

end
